-- ==== Defs.lean ====
def Pre_Forget (m : (ℓ : Loc Cert.Forget.nD Cert.Forget.τ Cert.Forget.sig) → Buf (Elt Bits) ℓ) : Prop :=
  True

def Pre_ForgetIdeal (m : (ℓ : Loc Cert.ForgetIdeal.nD Cert.ForgetIdeal.τ Cert.ForgetIdeal.sig) → Buf (Elt Ideal) ℓ) : Prop :=
  True

def Pre_ForgetRefIdeal (m : (ℓ : Loc Cert.ForgetRefIdeal.nD Cert.ForgetRefIdeal.τ Cert.ForgetRefIdeal.sig) → Buf (Elt Ideal) ℓ) : Prop :=
  True

def Pre_RmsMem (m : (ℓ : Loc Cert.RmsMem.nD Cert.RmsMem.τ Cert.RmsMem.sig) → Buf (Elt Bits) ℓ) : Prop :=
  True

def Pre_RmsMemIdeal (m : (ℓ : Loc Cert.RmsMemIdeal.nD Cert.RmsMemIdeal.τ Cert.RmsMemIdeal.sig) → Buf (Elt Ideal) ℓ) : Prop :=
  True

def Pre_RmsMemRefIdeal (m : (ℓ : Loc Cert.RmsMemRefIdeal.nD Cert.RmsMemRefIdeal.τ Cert.RmsMemRefIdeal.sig) → Buf (Elt Ideal) ℓ) : Prop :=
  True

def Pre_RmsPre (m : (ℓ : Loc Cert.RmsPre.nD Cert.RmsPre.τ Cert.RmsPre.sig) → Buf (Elt Bits) ℓ) : Prop :=
  True

def Pre_RmsPreIdeal (m : (ℓ : Loc Cert.RmsPreIdeal.nD Cert.RmsPreIdeal.τ Cert.RmsPreIdeal.sig) → Buf (Elt Ideal) ℓ) : Prop :=
  True

def Pre_RmsPreRefIdeal (m : (ℓ : Loc Cert.RmsPreRefIdeal.nD Cert.RmsPreRefIdeal.τ Cert.RmsPreRefIdeal.sig) → Buf (Elt Ideal) ℓ) : Prop :=
  True

def Pre_RmsPair (m : (ℓ : Loc Cert.RmsPair.nD Cert.RmsPair.τ Cert.RmsPair.sig) → Buf (Elt Bits) ℓ) : Prop :=
  True

def Pre_RmsPairIdeal (m : (ℓ : Loc Cert.RmsPairIdeal.nD Cert.RmsPairIdeal.τ Cert.RmsPairIdeal.sig) → Buf (Elt Ideal) ℓ) : Prop :=
  True

def Pre_RmsPairRefIdeal (m : (ℓ : Loc Cert.RmsPairRefIdeal.nD Cert.RmsPairRefIdeal.τ Cert.RmsPairRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluIdeal_finite_up_weight_and_cotangent [hPre_finite_up_weight_and_cotangent : Cert.Pre_finite_up_weight_and_cotangent.Facts] (m : (ℓ : Loc Cert.SwigluIdeal.nD Cert.SwigluIdeal.τ Cert.SwigluIdeal.sig) → Buf (Elt Ideal) ℓ) : Prop :=
  ∀ c : Dev Cert.SwigluIdeal.nD,
    (Cert.Pre_finite_up_weight_and_cotangent.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2))) = (fun _ => 1#1)

def Pre_SwigluRefIdeal (m : (ℓ : Loc Cert.SwigluRefIdeal.nD Cert.SwigluRefIdeal.τ Cert.SwigluRefIdeal.sig) → Buf (Elt Ideal) ℓ) : Prop :=
  True

def Pre_SwigluRefIdeal_finite_up_weight_and_cotangent [hPre_finite_up_weight_and_cotangent : Cert.Pre_finite_up_weight_and_cotangent.Facts] (m : (ℓ : Loc Cert.SwigluRefIdeal.nD Cert.SwigluRefIdeal.τ Cert.SwigluRefIdeal.sig) → Buf (Elt Ideal) ℓ) : Prop :=
  ∀ c : Dev Cert.SwigluRefIdeal.nD,
    (Cert.Pre_finite_up_weight_and_cotangent.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnIdeal_finite_queries_and_keys [hPre_finite_queries_and_keys : Cert.Pre_finite_queries_and_keys.Facts] (m : (ℓ : Loc Cert.MemAttnIdeal.nD Cert.MemAttnIdeal.τ Cert.MemAttnIdeal.sig) → Buf (Elt Ideal) ℓ) : Prop :=
  ∀ c : Dev Cert.MemAttnIdeal.nD,
    (Cert.Pre_finite_queries_and_keys.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2))) = (fun _ => 1#1)

def Pre_MemAttnRefIdeal (m : (ℓ : Loc Cert.MemAttnRefIdeal.nD Cert.MemAttnRefIdeal.τ Cert.MemAttnRefIdeal.sig) → Buf (Elt Ideal) ℓ) : Prop :=
  True

def Pre_MemAttnRefIdeal_finite_queries_and_keys [hPre_finite_queries_and_keys : Cert.Pre_finite_queries_and_keys.Facts] (m : (ℓ : Loc Cert.MemAttnRefIdeal.nD Cert.MemAttnRefIdeal.τ Cert.MemAttnRefIdeal.sig) → Buf (Elt Ideal) ℓ) : Prop :=
  ∀ c : Dev Cert.MemAttnRefIdeal.nD,
    (Cert.Pre_finite_queries_and_keys.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1)) (m ((c.tc : Thread Cert.MemAttnRefIdeal.nD Cert.MemAttnRefIdeal.τ).loc Cert.MemAttnRefIdeal.main_arg2))) = (fun _ => 1#1)

def Pre_Cumsum (m : (ℓ : Loc Cert.Cumsum.nD Cert.Cumsum.τ Cert.Cumsum.sig) → Buf (Elt Bits) ℓ) : Prop :=
  True

def Pre_CumsumIdeal (m : (ℓ : Loc Cert.CumsumIdeal.nD Cert.CumsumIdeal.τ Cert.CumsumIdeal.sig) → Buf (Elt Ideal) ℓ) : Prop :=
  True

def Pre_CumsumRefIdeal (m : (ℓ : Loc Cert.CumsumRefIdeal.nD Cert.CumsumRefIdeal.τ Cert.CumsumRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_queries_keys_values_gates_and_cotangent [hPre_finite_queries_keys_values_gates_and_cotangent : Cert.Pre_finite_queries_keys_values_gates_and_cotangent.Facts] (m : (ℓ : Loc Cert.AttnIdeal.nD Cert.AttnIdeal.τ Cert.AttnIdeal.sig) → Buf (Elt Ideal) ℓ) : Prop :=
  ∀ c : Dev Cert.AttnIdeal.nD,
    (Cert.Pre_finite_queries_keys_values_gates_and_cotangent.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_queries_keys_values_gates_and_cotangent [hPre_finite_queries_keys_values_gates_and_cotangent : Cert.Pre_finite_queries_keys_values_gates_and_cotangent.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_queries_keys_values_gates_and_cotangent.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_RmsMemFwd (m : (ℓ : Loc Cert.RmsMemFwd.nD Cert.RmsMemFwd.τ Cert.RmsMemFwd.sig) → Buf (Elt Bits) ℓ) : Prop :=
  True

def Pre_RmsMemFwdIdeal (m : (ℓ : Loc Cert.RmsMemFwdIdeal.nD Cert.RmsMemFwdIdeal.τ Cert.RmsMemFwdIdeal.sig) → Buf (Elt Ideal) ℓ) : Prop :=
  True

def Pre_RmsMemFwdRefIdeal (m : (ℓ : Loc Cert.RmsMemFwdRefIdeal.nD Cert.RmsMemFwdRefIdeal.τ Cert.RmsMemFwdRefIdeal.sig) → Buf (Elt Ideal) ℓ) : Prop :=
  True

def Pre_RmsPreFwd (m : (ℓ : Loc Cert.RmsPreFwd.nD Cert.RmsPreFwd.τ Cert.RmsPreFwd.sig) → Buf (Elt Bits) ℓ) : Prop :=
  True

def Pre_RmsPreFwdIdeal (m : (ℓ : Loc Cert.RmsPreFwdIdeal.nD Cert.RmsPreFwdIdeal.τ Cert.RmsPreFwdIdeal.sig) → Buf (Elt Ideal) ℓ) : Prop :=
  True

def Pre_RmsPreFwdRefIdeal (m : (ℓ : Loc Cert.RmsPreFwdRefIdeal.nD Cert.RmsPreFwdRefIdeal.τ Cert.RmsPreFwdRefIdeal.sig) → Buf (Elt Ideal) ℓ) : Prop :=
  True

def Pre_ForgetFwd (m : (ℓ : Loc Cert.ForgetFwd.nD Cert.ForgetFwd.τ Cert.ForgetFwd.sig) → Buf (Elt Bits) ℓ) : Prop :=
  True

def Pre_ForgetFwdIdeal (m : (ℓ : Loc Cert.ForgetFwdIdeal.nD Cert.ForgetFwdIdeal.τ Cert.ForgetFwdIdeal.sig) → Buf (Elt Ideal) ℓ) : Prop :=
  True

def Pre_ForgetFwdRefIdeal (m : (ℓ : Loc Cert.ForgetFwdRefIdeal.nD Cert.ForgetFwdRefIdeal.τ Cert.ForgetFwdRefIdeal.sig) → Buf (Elt Ideal) ℓ) : Prop :=
  True

def Pre_CumsumFwd (m : (ℓ : Loc Cert.CumsumFwd.nD Cert.CumsumFwd.τ Cert.CumsumFwd.sig) → Buf (Elt Bits) ℓ) : Prop :=
  True

def Pre_CumsumFwdIdeal (m : (ℓ : Loc Cert.CumsumFwdIdeal.nD Cert.CumsumFwdIdeal.τ Cert.CumsumFwdIdeal.sig) → Buf (Elt Ideal) ℓ) : Prop :=
  True

def Pre_CumsumFwdRefIdeal (m : (ℓ : Loc Cert.CumsumFwdRefIdeal.nD Cert.CumsumFwdRefIdeal.τ Cert.CumsumFwdRefIdeal.sig) → Buf (Elt Ideal) ℓ) : Prop :=
  True

def Pre_MemFwd (m : (ℓ : Loc Cert.MemFwd.nD Cert.MemFwd.τ Cert.MemFwd.sig) → Buf (Elt Bits) ℓ) : Prop :=
  True

def Pre_MemFwdIdeal (m : (ℓ : Loc Cert.MemFwdIdeal.nD Cert.MemFwdIdeal.τ Cert.MemFwdIdeal.sig) → Buf (Elt Ideal) ℓ) : Prop :=
  True

def Pre_MemFwdRefIdeal (m : (ℓ : Loc Cert.MemFwdRefIdeal.nD Cert.MemFwdRefIdeal.τ Cert.MemFwdRefIdeal.sig) → Buf (Elt Ideal) ℓ) : Prop :=
  True

def Pre_SwigluFwd (m : (ℓ : Loc Cert.SwigluFwd.nD Cert.SwigluFwd.τ Cert.SwigluFwd.sig) → Buf (Elt Bits) ℓ) : Prop :=
  True

def Pre_SwigluFwdIdeal (m : (ℓ : Loc Cert.SwigluFwdIdeal.nD Cert.SwigluFwdIdeal.τ Cert.SwigluFwdIdeal.sig) → Buf (Elt Ideal) ℓ) : Prop :=
  True

def Pre_SwigluFwdRefIdeal (m : (ℓ : Loc Cert.SwigluFwdRefIdeal.nD Cert.SwigluFwdRefIdeal.τ Cert.SwigluFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_Pieces (m : (ℓ : Loc Cert.Pieces.nD Cert.Pieces.τ Cert.Pieces.sig) → Buf (Elt Bits) ℓ) : Prop :=
  True

def Pre_PiecesIdeal (m : (ℓ : Loc Cert.PiecesIdeal.nD Cert.PiecesIdeal.τ Cert.PiecesIdeal.sig) → Buf (Elt Ideal) ℓ) : Prop :=
  True

def Pre_PiecesRefIdeal (m : (ℓ : Loc Cert.PiecesRefIdeal.nD Cert.PiecesRefIdeal.τ Cert.PiecesRefIdeal.sig) → Buf (Elt Ideal) ℓ) : Prop :=
  True

def quiescent_Forget [hForget : Cert.Forget.Facts] : Prop :=
  ∀ (m : (ℓ : Loc Cert.Forget.nD Cert.Forget.τ Cert.Forget.sig) → Buf (Elt Bits) ℓ) (g : Dev Cert.Forget.nD → PrngReg), Pre_Forget m →
    θ_run (Cert.Forget.defs (F := Bits)) (onTc (τ := Cert.Forget.τ) (Cert.Forget.main (F := Bits))) ⟨m, fun _ => 0, g⟩ (fun r => (∀ c : Dev Cert.Forget.nD,
      r.2.mem ((c.tc : Thread Cert.Forget.nD Cert.Forget.τ).loc Cert.Forget.main_arg0) = m ((c.tc : Thread Cert.Forget.nD Cert.Forget.τ).loc Cert.Forget.main_arg0)
      ∧ r.2.mem ((c.tc : Thread Cert.Forget.nD Cert.Forget.τ).loc Cert.Forget.main_arg1) = m ((c.tc : Thread Cert.Forget.nD Cert.Forget.τ).loc Cert.Forget.main_arg1)
      ∧ r.2.mem ((c.tc : Thread Cert.Forget.nD Cert.Forget.τ).loc Cert.Forget.main_arg2) = m ((c.tc : Thread Cert.Forget.nD Cert.Forget.τ).loc Cert.Forget.main_arg2))
      ∧ r.2.sem = fun _ => 0)

def quiescent_ForgetIdeal [hForgetIdeal : Cert.ForgetIdeal.Facts] : Prop :=
  ∀ (m : (ℓ : Loc Cert.ForgetIdeal.nD Cert.ForgetIdeal.τ Cert.ForgetIdeal.sig) → Buf (Elt Ideal) ℓ) (g : Dev Cert.ForgetIdeal.nD → PrngReg), Pre_ForgetIdeal m →
    θ_run (Cert.ForgetIdeal.defs (F := Ideal)) (onTc (τ := Cert.ForgetIdeal.τ) (Cert.ForgetIdeal.main (F := Ideal))) ⟨m, fun _ => 0, g⟩ (fun r => (∀ c : Dev Cert.ForgetIdeal.nD,
      r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
      ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
      ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2))
      ∧ r.2.sem = fun _ => 0)

def quiescent_ForgetRefIdeal [hForgetRefIdeal : Cert.ForgetRefIdeal.Facts] : Prop :=
  ∀ (m : (ℓ : Loc Cert.ForgetRefIdeal.nD Cert.ForgetRefIdeal.τ Cert.ForgetRefIdeal.sig) → Buf (Elt Ideal) ℓ) (g : Dev Cert.ForgetRefIdeal.nD → PrngReg), Pre_ForgetRefIdeal m →
    θ_run (Cert.ForgetRefIdeal.defs (F := Ideal)) (onTc (τ := Cert.ForgetRefIdeal.τ) (Cert.ForgetRefIdeal.main (F := Ideal))) ⟨m, fun _ => 0, g⟩ (fun r => (∀ c : Dev Cert.ForgetRefIdeal.nD,
      r.2.mem ((c.tc : Thread Cert.ForgetRefIdeal.nD Cert.ForgetRefIdeal.τ).loc Cert.ForgetRefIdeal.main_arg0) = m ((c.tc : Thread Cert.ForgetRefIdeal.nD Cert.ForgetRefIdeal.τ).loc Cert.ForgetRefIdeal.main_arg0)
      ∧ r.2.mem ((c.tc : Thread Cert.ForgetRefIdeal.nD Cert.ForgetRefIdeal.τ).loc Cert.ForgetRefIdeal.main_arg1) = m ((c.tc : Thread Cert.ForgetRefIdeal.nD Cert.ForgetRefIdeal.τ).loc Cert.ForgetRefIdeal.main_arg1)
      ∧ r.2.mem ((c.tc : Thread Cert.ForgetRefIdeal.nD Cert.ForgetRefIdeal.τ).loc Cert.ForgetRefIdeal.main_arg2) = m ((c.tc : Thread Cert.ForgetRefIdeal.nD Cert.ForgetRefIdeal.τ).loc Cert.ForgetRefIdeal.main_arg2))
      ∧ r.2.sem = fun _ => 0)

def quiescent_RmsMem [hRmsMem : Cert.RmsMem.Facts] : Prop :=
  ∀ (m : (ℓ : Loc Cert.RmsMem.nD Cert.RmsMem.τ Cert.RmsMem.sig) → Buf (Elt Bits) ℓ) (g : Dev Cert.RmsMem.nD → PrngReg), Pre_RmsMem m →
    θ_run (Cert.RmsMem.defs (F := Bits)) (onTc (τ := Cert.RmsMem.τ) (Cert.RmsMem.main (F := Bits))) ⟨m, fun _ => 0, g⟩ (fun r => (∀ c : Dev Cert.RmsMem.nD,
      r.2.mem ((c.tc : Thread Cert.RmsMem.nD Cert.RmsMem.τ).loc Cert.RmsMem.main_arg0) = m ((c.tc : Thread Cert.RmsMem.nD Cert.RmsMem.τ).loc Cert.RmsMem.main_arg0)
      ∧ r.2.mem ((c.tc : Thread Cert.RmsMem.nD Cert.RmsMem.τ).loc Cert.RmsMem.main_arg1) = m ((c.tc : Thread Cert.RmsMem.nD Cert.RmsMem.τ).loc Cert.RmsMem.main_arg1)
      ∧ r.2.mem ((c.tc : Thread Cert.RmsMem.nD Cert.RmsMem.τ).loc Cert.RmsMem.main_arg2) = m ((c.tc : Thread Cert.RmsMem.nD Cert.RmsMem.τ).loc Cert.RmsMem.main_arg2))
      ∧ r.2.sem = fun _ => 0)

def quiescent_RmsMemIdeal [hRmsMemIdeal : Cert.RmsMemIdeal.Facts] : Prop :=
  ∀ (m : (ℓ : Loc Cert.RmsMemIdeal.nD Cert.RmsMemIdeal.τ Cert.RmsMemIdeal.sig) → Buf (Elt Ideal) ℓ) (g : Dev Cert.RmsMemIdeal.nD → PrngReg), Pre_RmsMemIdeal m →
    θ_run (Cert.RmsMemIdeal.defs (F := Ideal)) (onTc (τ := Cert.RmsMemIdeal.τ) (Cert.RmsMemIdeal.main (F := Ideal))) ⟨m, fun _ => 0, g⟩ (fun r => (∀ c : Dev Cert.RmsMemIdeal.nD,
      r.2.mem ((c.tc : Thread Cert.RmsMemIdeal.nD Cert.RmsMemIdeal.τ).loc Cert.RmsMemIdeal.main_arg0) = m ((c.tc : Thread Cert.RmsMemIdeal.nD Cert.RmsMemIdeal.τ).loc Cert.RmsMemIdeal.main_arg0)
      ∧ r.2.mem ((c.tc : Thread Cert.RmsMemIdeal.nD Cert.RmsMemIdeal.τ).loc Cert.RmsMemIdeal.main_arg1) = m ((c.tc : Thread Cert.RmsMemIdeal.nD Cert.RmsMemIdeal.τ).loc Cert.RmsMemIdeal.main_arg1)
      ∧ r.2.mem ((c.tc : Thread Cert.RmsMemIdeal.nD Cert.RmsMemIdeal.τ).loc Cert.RmsMemIdeal.main_arg2) = m ((c.tc : Thread Cert.RmsMemIdeal.nD Cert.RmsMemIdeal.τ).loc Cert.RmsMemIdeal.main_arg2))
      ∧ r.2.sem = fun _ => 0)

def quiescent_RmsMemRefIdeal [hRmsMemRefIdeal : Cert.RmsMemRefIdeal.Facts] : Prop :=
  ∀ (m : (ℓ : Loc Cert.RmsMemRefIdeal.nD Cert.RmsMemRefIdeal.τ Cert.RmsMemRefIdeal.sig) → Buf (Elt Ideal) ℓ) (g : Dev Cert.RmsMemRefIdeal.nD → PrngReg), Pre_RmsMemRefIdeal m →
    θ_run (Cert.RmsMemRefIdeal.defs (F := Ideal)) (onTc (τ := Cert.RmsMemRefIdeal.τ) (Cert.RmsMemRefIdeal.main (F := Ideal))) ⟨m, fun _ => 0, g⟩ (fun r => (∀ c : Dev Cert.RmsMemRefIdeal.nD,
      r.2.mem ((c.tc : Thread Cert.RmsMemRefIdeal.nD Cert.RmsMemRefIdeal.τ).loc Cert.RmsMemRefIdeal.main_arg0) = m ((c.tc : Thread Cert.RmsMemRefIdeal.nD Cert.RmsMemRefIdeal.τ).loc Cert.RmsMemRefIdeal.main_arg0)
      ∧ r.2.mem ((c.tc : Thread Cert.RmsMemRefIdeal.nD Cert.RmsMemRefIdeal.τ).loc Cert.RmsMemRefIdeal.main_arg1) = m ((c.tc : Thread Cert.RmsMemRefIdeal.nD Cert.RmsMemRefIdeal.τ).loc Cert.RmsMemRefIdeal.main_arg1)
      ∧ r.2.mem ((c.tc : Thread Cert.RmsMemRefIdeal.nD Cert.RmsMemRefIdeal.τ).loc Cert.RmsMemRefIdeal.main_arg2) = m ((c.tc : Thread Cert.RmsMemRefIdeal.nD Cert.RmsMemRefIdeal.τ).loc Cert.RmsMemRefIdeal.main_arg2))
      ∧ r.2.sem = fun _ => 0)

def quiescent_RmsPre [hRmsPre : Cert.RmsPre.Facts] : Prop :=
  ∀ (m : (ℓ : Loc Cert.RmsPre.nD Cert.RmsPre.τ Cert.RmsPre.sig) → Buf (Elt Bits) ℓ) (g : Dev Cert.RmsPre.nD → PrngReg), Pre_RmsPre m →
    θ_run (Cert.RmsPre.defs (F := Bits)) (onTc (τ := Cert.RmsPre.τ) (Cert.RmsPre.main (F := Bits))) ⟨m, fun _ => 0, g⟩ (fun r => (∀ c : Dev Cert.RmsPre.nD,
      r.2.mem ((c.tc : Thread Cert.RmsPre.nD Cert.RmsPre.τ).loc Cert.RmsPre.main_arg0) = m ((c.tc : Thread Cert.RmsPre.nD Cert.RmsPre.τ).loc Cert.RmsPre.main_arg0)
      ∧ r.2.mem ((c.tc : Thread Cert.RmsPre.nD Cert.RmsPre.τ).loc Cert.RmsPre.main_arg1) = m ((c.tc : Thread Cert.RmsPre.nD Cert.RmsPre.τ).loc Cert.RmsPre.main_arg1)
      ∧ r.2.mem ((c.tc : Thread Cert.RmsPre.nD Cert.RmsPre.τ).loc Cert.RmsPre.main_arg2) = m ((c.tc : Thread Cert.RmsPre.nD Cert.RmsPre.τ).loc Cert.RmsPre.main_arg2)
      ∧ r.2.mem ((c.tc : Thread Cert.RmsPre.nD Cert.RmsPre.τ).loc Cert.RmsPre.main_arg3) = m ((c.tc : Thread Cert.RmsPre.nD Cert.RmsPre.τ).loc Cert.RmsPre.main_arg3)
      ∧ r.2.mem ((c.tc : Thread Cert.RmsPre.nD Cert.RmsPre.τ).loc Cert.RmsPre.main_arg4) = m ((c.tc : Thread Cert.RmsPre.nD Cert.RmsPre.τ).loc Cert.RmsPre.main_arg4)
      ∧ r.2.mem ((c.tc : Thread Cert.RmsPre.nD Cert.RmsPre.τ).loc Cert.RmsPre.main_arg5) = m ((c.tc : Thread Cert.RmsPre.nD Cert.RmsPre.τ).loc Cert.RmsPre.main_arg5))
      ∧ r.2.sem = fun _ => 0)

def quiescent_RmsPreIdeal [hRmsPreIdeal : Cert.RmsPreIdeal.Facts] : Prop :=
  ∀ (m : (ℓ : Loc Cert.RmsPreIdeal.nD Cert.RmsPreIdeal.τ Cert.RmsPreIdeal.sig) → Buf (Elt Ideal) ℓ) (g : Dev Cert.RmsPreIdeal.nD → PrngReg), Pre_RmsPreIdeal m →
    θ_run (Cert.RmsPreIdeal.defs (F := Ideal)) (onTc (τ := Cert.RmsPreIdeal.τ) (Cert.RmsPreIdeal.main (F := Ideal))) ⟨m, fun _ => 0, g⟩ (fun r => (∀ c : Dev Cert.RmsPreIdeal.nD,
      r.2.mem ((c.tc : Thread Cert.RmsPreIdeal.nD Cert.RmsPreIdeal.τ).loc Cert.RmsPreIdeal.main_arg0) = m ((c.tc : Thread Cert.RmsPreIdeal.nD Cert.RmsPreIdeal.τ).loc Cert.RmsPreIdeal.main_arg0)
      ∧ r.2.mem ((c.tc : Thread Cert.RmsPreIdeal.nD Cert.RmsPreIdeal.τ).loc Cert.RmsPreIdeal.main_arg1) = m ((c.tc : Thread Cert.RmsPreIdeal.nD Cert.RmsPreIdeal.τ).loc Cert.RmsPreIdeal.main_arg1)
      ∧ r.2.mem ((c.tc : Thread Cert.RmsPreIdeal.nD Cert.RmsPreIdeal.τ).loc Cert.RmsPreIdeal.main_arg2) = m ((c.tc : Thread Cert.RmsPreIdeal.nD Cert.RmsPreIdeal.τ).loc Cert.RmsPreIdeal.main_arg2)
      ∧ r.2.mem ((c.tc : Thread Cert.RmsPreIdeal.nD Cert.RmsPreIdeal.τ).loc Cert.RmsPreIdeal.main_arg3) = m ((c.tc : Thread Cert.RmsPreIdeal.nD Cert.RmsPreIdeal.τ).loc Cert.RmsPreIdeal.main_arg3)
      ∧ r.2.mem ((c.tc : Thread Cert.RmsPreIdeal.nD Cert.RmsPreIdeal.τ).loc Cert.RmsPreIdeal.main_arg4) = m ((c.tc : Thread Cert.RmsPreIdeal.nD Cert.RmsPreIdeal.τ).loc Cert.RmsPreIdeal.main_arg4)
      ∧ r.2.mem ((c.tc : Thread Cert.RmsPreIdeal.nD Cert.RmsPreIdeal.τ).loc Cert.RmsPreIdeal.main_arg5) = m ((c.tc : Thread Cert.RmsPreIdeal.nD Cert.RmsPreIdeal.τ).loc Cert.RmsPreIdeal.main_arg5))
      ∧ r.2.sem = fun _ => 0)

def quiescent_RmsPreRefIdeal [hRmsPreRefIdeal : Cert.RmsPreRefIdeal.Facts] : Prop :=
  ∀ (m : (ℓ : Loc Cert.RmsPreRefIdeal.nD Cert.RmsPreRefIdeal.τ Cert.RmsPreRefIdeal.sig) → Buf (Elt Ideal) ℓ) (g : Dev Cert.RmsPreRefIdeal.nD → PrngReg), Pre_RmsPreRefIdeal m →
    θ_run (Cert.RmsPreRefIdeal.defs (F := Ideal)) (onTc (τ := Cert.RmsPreRefIdeal.τ) (Cert.RmsPreRefIdeal.main (F := Ideal))) ⟨m, fun _ => 0, g⟩ (fun r => (∀ c : Dev Cert.RmsPreRefIdeal.nD,
      r.2.mem ((c.tc : Thread Cert.RmsPreRefIdeal.nD Cert.RmsPreRefIdeal.τ).loc Cert.RmsPreRefIdeal.main_arg0) = m ((c.tc : Thread Cert.RmsPreRefIdeal.nD Cert.RmsPreRefIdeal.τ).loc Cert.RmsPreRefIdeal.main_arg0)
      ∧ r.2.mem ((c.tc : Thread Cert.RmsPreRefIdeal.nD Cert.RmsPreRefIdeal.τ).loc Cert.RmsPreRefIdeal.main_arg1) = m ((c.tc : Thread Cert.RmsPreRefIdeal.nD Cert.RmsPreRefIdeal.τ).loc Cert.RmsPreRefIdeal.main_arg1)
      ∧ r.2.mem ((c.tc : Thread Cert.RmsPreRefIdeal.nD Cert.RmsPreRefIdeal.τ).loc Cert.RmsPreRefIdeal.main_arg2) = m ((c.tc : Thread Cert.RmsPreRefIdeal.nD Cert.RmsPreRefIdeal.τ).loc Cert.RmsPreRefIdeal.main_arg2)
      ∧ r.2.mem ((c.tc : Thread Cert.RmsPreRefIdeal.nD Cert.RmsPreRefIdeal.τ).loc Cert.RmsPreRefIdeal.main_arg3) = m ((c.tc : Thread Cert.RmsPreRefIdeal.nD Cert.RmsPreRefIdeal.τ).loc Cert.RmsPreRefIdeal.main_arg3)
      ∧ r.2.mem ((c.tc : Thread Cert.RmsPreRefIdeal.nD Cert.RmsPreRefIdeal.τ).loc Cert.RmsPreRefIdeal.main_arg4) = m ((c.tc : Thread Cert.RmsPreRefIdeal.nD Cert.RmsPreRefIdeal.τ).loc Cert.RmsPreRefIdeal.main_arg4)
      ∧ r.2.mem ((c.tc : Thread Cert.RmsPreRefIdeal.nD Cert.RmsPreRefIdeal.τ).loc Cert.RmsPreRefIdeal.main_arg5) = m ((c.tc : Thread Cert.RmsPreRefIdeal.nD Cert.RmsPreRefIdeal.τ).loc Cert.RmsPreRefIdeal.main_arg5))
      ∧ r.2.sem = fun _ => 0)

def quiescent_RmsPair [hRmsPair : Cert.RmsPair.Facts] : Prop :=
  ∀ (m : (ℓ : Loc Cert.RmsPair.nD Cert.RmsPair.τ Cert.RmsPair.sig) → Buf (Elt Bits) ℓ) (g : Dev Cert.RmsPair.nD → PrngReg), Pre_RmsPair m →
    θ_run (Cert.RmsPair.defs (F := Bits)) (onTc (τ := Cert.RmsPair.τ) (Cert.RmsPair.main (F := Bits))) ⟨m, fun _ => 0, g⟩ (fun r => (∀ c : Dev Cert.RmsPair.nD,
      r.2.mem ((c.tc : Thread Cert.RmsPair.nD Cert.RmsPair.τ).loc Cert.RmsPair.main_arg0) = m ((c.tc : Thread Cert.RmsPair.nD Cert.RmsPair.τ).loc Cert.RmsPair.main_arg0)
      ∧ r.2.mem ((c.tc : Thread Cert.RmsPair.nD Cert.RmsPair.τ).loc Cert.RmsPair.main_arg1) = m ((c.tc : Thread Cert.RmsPair.nD Cert.RmsPair.τ).loc Cert.RmsPair.main_arg1)
      ∧ r.2.mem ((c.tc : Thread Cert.RmsPair.nD Cert.RmsPair.τ).loc Cert.RmsPair.main_arg2) = m ((c.tc : Thread Cert.RmsPair.nD Cert.RmsPair.τ).loc Cert.RmsPair.main_arg2)
      ∧ r.2.mem ((c.tc : Thread Cert.RmsPair.nD Cert.RmsPair.τ).loc Cert.RmsPair.main_arg3) = m ((c.tc : Thread Cert.RmsPair.nD Cert.RmsPair.τ).loc Cert.RmsPair.main_arg3)
      ∧ r.2.mem ((c.tc : Thread Cert.RmsPair.nD Cert.RmsPair.τ).loc Cert.RmsPair.main_arg4) = m ((c.tc : Thread Cert.RmsPair.nD Cert.RmsPair.τ).loc Cert.RmsPair.main_arg4)
      ∧ r.2.mem ((c.tc : Thread Cert.RmsPair.nD Cert.RmsPair.τ).loc Cert.RmsPair.main_arg5) = m ((c.tc : Thread Cert.RmsPair.nD Cert.RmsPair.τ).loc Cert.RmsPair.main_arg5))
      ∧ r.2.sem = fun _ => 0)

def quiescent_RmsPairIdeal [hRmsPairIdeal : Cert.RmsPairIdeal.Facts] : Prop :=
  ∀ (m : (ℓ : Loc Cert.RmsPairIdeal.nD Cert.RmsPairIdeal.τ Cert.RmsPairIdeal.sig) → Buf (Elt Ideal) ℓ) (g : Dev Cert.RmsPairIdeal.nD → PrngReg), Pre_RmsPairIdeal m →
    θ_run (Cert.RmsPairIdeal.defs (F := Ideal)) (onTc (τ := Cert.RmsPairIdeal.τ) (Cert.RmsPairIdeal.main (F := Ideal))) ⟨m, fun _ => 0, g⟩ (fun r => (∀ c : Dev Cert.RmsPairIdeal.nD,
      r.2.mem ((c.tc : Thread Cert.RmsPairIdeal.nD Cert.RmsPairIdeal.τ).loc Cert.RmsPairIdeal.main_arg0) = m ((c.tc : Thread Cert.RmsPairIdeal.nD Cert.RmsPairIdeal.τ).loc Cert.RmsPairIdeal.main_arg0)
      ∧ r.2.mem ((c.tc : Thread Cert.RmsPairIdeal.nD Cert.RmsPairIdeal.τ).loc Cert.RmsPairIdeal.main_arg1) = m ((c.tc : Thread Cert.RmsPairIdeal.nD Cert.RmsPairIdeal.τ).loc Cert.RmsPairIdeal.main_arg1)
      ∧ r.2.mem ((c.tc : Thread Cert.RmsPairIdeal.nD Cert.RmsPairIdeal.τ).loc Cert.RmsPairIdeal.main_arg2) = m ((c.tc : Thread Cert.RmsPairIdeal.nD Cert.RmsPairIdeal.τ).loc Cert.RmsPairIdeal.main_arg2)
      ∧ r.2.mem ((c.tc : Thread Cert.RmsPairIdeal.nD Cert.RmsPairIdeal.τ).loc Cert.RmsPairIdeal.main_arg3) = m ((c.tc : Thread Cert.RmsPairIdeal.nD Cert.RmsPairIdeal.τ).loc Cert.RmsPairIdeal.main_arg3)
      ∧ r.2.mem ((c.tc : Thread Cert.RmsPairIdeal.nD Cert.RmsPairIdeal.τ).loc Cert.RmsPairIdeal.main_arg4) = m ((c.tc : Thread Cert.RmsPairIdeal.nD Cert.RmsPairIdeal.τ).loc Cert.RmsPairIdeal.main_arg4)
      ∧ r.2.mem ((c.tc : Thread Cert.RmsPairIdeal.nD Cert.RmsPairIdeal.τ).loc Cert.RmsPairIdeal.main_arg5) = m ((c.tc : Thread Cert.RmsPairIdeal.nD Cert.RmsPairIdeal.τ).loc Cert.RmsPairIdeal.main_arg5))
      ∧ r.2.sem = fun _ => 0)

def quiescent_RmsPairRefIdeal [hRmsPairRefIdeal : Cert.RmsPairRefIdeal.Facts] : Prop :=
  ∀ (m : (ℓ : Loc Cert.RmsPairRefIdeal.nD Cert.RmsPairRefIdeal.τ Cert.RmsPairRefIdeal.sig) → Buf (Elt Ideal) ℓ) (g : Dev Cert.RmsPairRefIdeal.nD → PrngReg), Pre_RmsPairRefIdeal m →
    θ_run (Cert.RmsPairRefIdeal.defs (F := Ideal)) (onTc (τ := Cert.RmsPairRefIdeal.τ) (Cert.RmsPairRefIdeal.main (F := Ideal))) ⟨m, fun _ => 0, g⟩ (fun r => (∀ c : Dev Cert.RmsPairRefIdeal.nD,
      r.2.mem ((c.tc : Thread Cert.RmsPairRefIdeal.nD Cert.RmsPairRefIdeal.τ).loc Cert.RmsPairRefIdeal.main_arg0) = m ((c.tc : Thread Cert.RmsPairRefIdeal.nD Cert.RmsPairRefIdeal.τ).loc Cert.RmsPairRefIdeal.main_arg0)
      ∧ r.2.mem ((c.tc : Thread Cert.RmsPairRefIdeal.nD Cert.RmsPairRefIdeal.τ).loc Cert.RmsPairRefIdeal.main_arg1) = m ((c.tc : Thread Cert.RmsPairRefIdeal.nD Cert.RmsPairRefIdeal.τ).loc Cert.RmsPairRefIdeal.main_arg1)
      ∧ r.2.mem ((c.tc : Thread Cert.RmsPairRefIdeal.nD Cert.RmsPairRefIdeal.τ).loc Cert.RmsPairRefIdeal.main_arg2) = m ((c.tc : Thread Cert.RmsPairRefIdeal.nD Cert.RmsPairRefIdeal.τ).loc Cert.RmsPairRefIdeal.main_arg2)
      ∧ r.2.mem ((c.tc : Thread Cert.RmsPairRefIdeal.nD Cert.RmsPairRefIdeal.τ).loc Cert.RmsPairRefIdeal.main_arg3) = m ((c.tc : Thread Cert.RmsPairRefIdeal.nD Cert.RmsPairRefIdeal.τ).loc Cert.RmsPairRefIdeal.main_arg3)
      ∧ r.2.mem ((c.tc : Thread Cert.RmsPairRefIdeal.nD Cert.RmsPairRefIdeal.τ).loc Cert.RmsPairRefIdeal.main_arg4) = m ((c.tc : Thread Cert.RmsPairRefIdeal.nD Cert.RmsPairRefIdeal.τ).loc Cert.RmsPairRefIdeal.main_arg4)
      ∧ r.2.mem ((c.tc : Thread Cert.RmsPairRefIdeal.nD Cert.RmsPairRefIdeal.τ).loc Cert.RmsPairRefIdeal.main_arg5) = m ((c.tc : Thread Cert.RmsPairRefIdeal.nD Cert.RmsPairRefIdeal.τ).loc Cert.RmsPairRefIdeal.main_arg5))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ r.2.sem = fun _ => 0)

def quiescent_SwigluIdeal_pre_finite_up_weight_and_cotangent [hSwigluIdeal : Cert.SwigluIdeal.Facts] [hPre_finite_up_weight_and_cotangent : Cert.Pre_finite_up_weight_and_cotangent.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal_finite_up_weight_and_cotangent m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2))
      ∧ r.2.sem = fun _ => 0)

def quiescent_SwigluRefIdeal_pre_finite_up_weight_and_cotangent [hSwigluRefIdeal : Cert.SwigluRefIdeal.Facts] [hPre_finite_up_weight_and_cotangent : Cert.Pre_finite_up_weight_and_cotangent.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal_finite_up_weight_and_cotangent m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1)
      ∧ r.2.mem ((c.tc : Thread Cert.MemAttn.nD Cert.MemAttn.τ).loc Cert.MemAttn.main_arg2) = m ((c.tc : Thread Cert.MemAttn.nD Cert.MemAttn.τ).loc Cert.MemAttn.main_arg2))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2))
      ∧ r.2.sem = fun _ => 0)

def quiescent_MemAttnIdeal_pre_finite_queries_and_keys [hMemAttnIdeal : Cert.MemAttnIdeal.Facts] [hPre_finite_queries_and_keys : Cert.Pre_finite_queries_and_keys.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal_finite_queries_and_keys m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2))
      ∧ r.2.sem = fun _ => 0)

def quiescent_MemAttnRefIdeal_pre_finite_queries_and_keys [hMemAttnRefIdeal : Cert.MemAttnRefIdeal.Facts] [hPre_finite_queries_and_keys : Cert.Pre_finite_queries_and_keys.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal_finite_queries_and_keys m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2))
      ∧ r.2.sem = fun _ => 0)

def quiescent_Cumsum [hCumsum : Cert.Cumsum.Facts] : Prop :=
  ∀ (m : (ℓ : Loc Cert.Cumsum.nD Cert.Cumsum.τ Cert.Cumsum.sig) → Buf (Elt Bits) ℓ) (g : Dev Cert.Cumsum.nD → PrngReg), Pre_Cumsum m →
    θ_run (Cert.Cumsum.defs (F := Bits)) (onTc (τ := Cert.Cumsum.τ) (Cert.Cumsum.main (F := Bits))) ⟨m, fun _ => 0, g⟩ (fun r => (∀ c : Dev Cert.Cumsum.nD,
      r.2.mem ((c.tc : Thread Cert.Cumsum.nD Cert.Cumsum.τ).loc Cert.Cumsum.main_arg0) = m ((c.tc : Thread Cert.Cumsum.nD Cert.Cumsum.τ).loc Cert.Cumsum.main_arg0)
      ∧ r.2.mem ((c.tc : Thread Cert.Cumsum.nD Cert.Cumsum.τ).loc Cert.Cumsum.main_arg1) = m ((c.tc : Thread Cert.Cumsum.nD Cert.Cumsum.τ).loc Cert.Cumsum.main_arg1))
      ∧ r.2.sem = fun _ => 0)

def quiescent_CumsumIdeal [hCumsumIdeal : Cert.CumsumIdeal.Facts] : Prop :=
  ∀ (m : (ℓ : Loc Cert.CumsumIdeal.nD Cert.CumsumIdeal.τ Cert.CumsumIdeal.sig) → Buf (Elt Ideal) ℓ) (g : Dev Cert.CumsumIdeal.nD → PrngReg), Pre_CumsumIdeal m →
    θ_run (Cert.CumsumIdeal.defs (F := Ideal)) (onTc (τ := Cert.CumsumIdeal.τ) (Cert.CumsumIdeal.main (F := Ideal))) ⟨m, fun _ => 0, g⟩ (fun r => (∀ c : Dev Cert.CumsumIdeal.nD,
      r.2.mem ((c.tc : Thread Cert.CumsumIdeal.nD Cert.CumsumIdeal.τ).loc Cert.CumsumIdeal.main_arg0) = m ((c.tc : Thread Cert.CumsumIdeal.nD Cert.CumsumIdeal.τ).loc Cert.CumsumIdeal.main_arg0)
      ∧ r.2.mem ((c.tc : Thread Cert.CumsumIdeal.nD Cert.CumsumIdeal.τ).loc Cert.CumsumIdeal.main_arg1) = m ((c.tc : Thread Cert.CumsumIdeal.nD Cert.CumsumIdeal.τ).loc Cert.CumsumIdeal.main_arg1))
      ∧ r.2.sem = fun _ => 0)

def quiescent_CumsumRefIdeal [hCumsumRefIdeal : Cert.CumsumRefIdeal.Facts] : Prop :=
  ∀ (m : (ℓ : Loc Cert.CumsumRefIdeal.nD Cert.CumsumRefIdeal.τ Cert.CumsumRefIdeal.sig) → Buf (Elt Ideal) ℓ) (g : Dev Cert.CumsumRefIdeal.nD → PrngReg), Pre_CumsumRefIdeal m →
    θ_run (Cert.CumsumRefIdeal.defs (F := Ideal)) (onTc (τ := Cert.CumsumRefIdeal.τ) (Cert.CumsumRefIdeal.main (F := Ideal))) ⟨m, fun _ => 0, g⟩ (fun r => (∀ c : Dev Cert.CumsumRefIdeal.nD,
      r.2.mem ((c.tc : Thread Cert.CumsumRefIdeal.nD Cert.CumsumRefIdeal.τ).loc Cert.CumsumRefIdeal.main_arg0) = m ((c.tc : Thread Cert.CumsumRefIdeal.nD Cert.CumsumRefIdeal.τ).loc Cert.CumsumRefIdeal.main_arg0)
      ∧ r.2.mem ((c.tc : Thread Cert.CumsumRefIdeal.nD Cert.CumsumRefIdeal.τ).loc Cert.CumsumRefIdeal.main_arg1) = m ((c.tc : Thread Cert.CumsumRefIdeal.nD Cert.CumsumRefIdeal.τ).loc Cert.CumsumRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_queries_keys_values_gates_and_cotangent [hAttnIdeal : Cert.AttnIdeal.Facts] [hPre_finite_queries_keys_values_gates_and_cotangent : Cert.Pre_finite_queries_keys_values_gates_and_cotangent.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_queries_keys_values_gates_and_cotangent m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_queries_keys_values_gates_and_cotangent [hAttnRefIdeal : Cert.AttnRefIdeal.Facts] [hPre_finite_queries_keys_values_gates_and_cotangent : Cert.Pre_finite_queries_keys_values_gates_and_cotangent.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_queries_keys_values_gates_and_cotangent m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_RmsMemFwd [hRmsMemFwd : Cert.RmsMemFwd.Facts] : Prop :=
  ∀ (m : (ℓ : Loc Cert.RmsMemFwd.nD Cert.RmsMemFwd.τ Cert.RmsMemFwd.sig) → Buf (Elt Bits) ℓ) (g : Dev Cert.RmsMemFwd.nD → PrngReg), Pre_RmsMemFwd m →
    θ_run (Cert.RmsMemFwd.defs (F := Bits)) (onTc (τ := Cert.RmsMemFwd.τ) (Cert.RmsMemFwd.main (F := Bits))) ⟨m, fun _ => 0, g⟩ (fun r => (∀ c : Dev Cert.RmsMemFwd.nD,
      r.2.mem ((c.tc : Thread Cert.RmsMemFwd.nD Cert.RmsMemFwd.τ).loc Cert.RmsMemFwd.main_arg0) = m ((c.tc : Thread Cert.RmsMemFwd.nD Cert.RmsMemFwd.τ).loc Cert.RmsMemFwd.main_arg0)
      ∧ r.2.mem ((c.tc : Thread Cert.RmsMemFwd.nD Cert.RmsMemFwd.τ).loc Cert.RmsMemFwd.main_arg1) = m ((c.tc : Thread Cert.RmsMemFwd.nD Cert.RmsMemFwd.τ).loc Cert.RmsMemFwd.main_arg1))
      ∧ r.2.sem = fun _ => 0)

def quiescent_RmsMemFwdIdeal [hRmsMemFwdIdeal : Cert.RmsMemFwdIdeal.Facts] : Prop :=
  ∀ (m : (ℓ : Loc Cert.RmsMemFwdIdeal.nD Cert.RmsMemFwdIdeal.τ Cert.RmsMemFwdIdeal.sig) → Buf (Elt Ideal) ℓ) (g : Dev Cert.RmsMemFwdIdeal.nD → PrngReg), Pre_RmsMemFwdIdeal m →
    θ_run (Cert.RmsMemFwdIdeal.defs (F := Ideal)) (onTc (τ := Cert.RmsMemFwdIdeal.τ) (Cert.RmsMemFwdIdeal.main (F := Ideal))) ⟨m, fun _ => 0, g⟩ (fun r => (∀ c : Dev Cert.RmsMemFwdIdeal.nD,
      r.2.mem ((c.tc : Thread Cert.RmsMemFwdIdeal.nD Cert.RmsMemFwdIdeal.τ).loc Cert.RmsMemFwdIdeal.main_arg0) = m ((c.tc : Thread Cert.RmsMemFwdIdeal.nD Cert.RmsMemFwdIdeal.τ).loc Cert.RmsMemFwdIdeal.main_arg0)
      ∧ r.2.mem ((c.tc : Thread Cert.RmsMemFwdIdeal.nD Cert.RmsMemFwdIdeal.τ).loc Cert.RmsMemFwdIdeal.main_arg1) = m ((c.tc : Thread Cert.RmsMemFwdIdeal.nD Cert.RmsMemFwdIdeal.τ).loc Cert.RmsMemFwdIdeal.main_arg1))
      ∧ r.2.sem = fun _ => 0)

def quiescent_RmsMemFwdRefIdeal [hRmsMemFwdRefIdeal : Cert.RmsMemFwdRefIdeal.Facts] : Prop :=
  ∀ (m : (ℓ : Loc Cert.RmsMemFwdRefIdeal.nD Cert.RmsMemFwdRefIdeal.τ Cert.RmsMemFwdRefIdeal.sig) → Buf (Elt Ideal) ℓ) (g : Dev Cert.RmsMemFwdRefIdeal.nD → PrngReg), Pre_RmsMemFwdRefIdeal m →
    θ_run (Cert.RmsMemFwdRefIdeal.defs (F := Ideal)) (onTc (τ := Cert.RmsMemFwdRefIdeal.τ) (Cert.RmsMemFwdRefIdeal.main (F := Ideal))) ⟨m, fun _ => 0, g⟩ (fun r => (∀ c : Dev Cert.RmsMemFwdRefIdeal.nD,
      r.2.mem ((c.tc : Thread Cert.RmsMemFwdRefIdeal.nD Cert.RmsMemFwdRefIdeal.τ).loc Cert.RmsMemFwdRefIdeal.main_arg0) = m ((c.tc : Thread Cert.RmsMemFwdRefIdeal.nD Cert.RmsMemFwdRefIdeal.τ).loc Cert.RmsMemFwdRefIdeal.main_arg0)
      ∧ r.2.mem ((c.tc : Thread Cert.RmsMemFwdRefIdeal.nD Cert.RmsMemFwdRefIdeal.τ).loc Cert.RmsMemFwdRefIdeal.main_arg1) = m ((c.tc : Thread Cert.RmsMemFwdRefIdeal.nD Cert.RmsMemFwdRefIdeal.τ).loc Cert.RmsMemFwdRefIdeal.main_arg1))
      ∧ r.2.sem = fun _ => 0)

def quiescent_RmsPreFwd [hRmsPreFwd : Cert.RmsPreFwd.Facts] : Prop :=
  ∀ (m : (ℓ : Loc Cert.RmsPreFwd.nD Cert.RmsPreFwd.τ Cert.RmsPreFwd.sig) → Buf (Elt Bits) ℓ) (g : Dev Cert.RmsPreFwd.nD → PrngReg), Pre_RmsPreFwd m →
    θ_run (Cert.RmsPreFwd.defs (F := Bits)) (onTc (τ := Cert.RmsPreFwd.τ) (Cert.RmsPreFwd.main (F := Bits))) ⟨m, fun _ => 0, g⟩ (fun r => (∀ c : Dev Cert.RmsPreFwd.nD,
      r.2.mem ((c.tc : Thread Cert.RmsPreFwd.nD Cert.RmsPreFwd.τ).loc Cert.RmsPreFwd.main_arg0) = m ((c.tc : Thread Cert.RmsPreFwd.nD Cert.RmsPreFwd.τ).loc Cert.RmsPreFwd.main_arg0)
      ∧ r.2.mem ((c.tc : Thread Cert.RmsPreFwd.nD Cert.RmsPreFwd.τ).loc Cert.RmsPreFwd.main_arg1) = m ((c.tc : Thread Cert.RmsPreFwd.nD Cert.RmsPreFwd.τ).loc Cert.RmsPreFwd.main_arg1)
      ∧ r.2.mem ((c.tc : Thread Cert.RmsPreFwd.nD Cert.RmsPreFwd.τ).loc Cert.RmsPreFwd.main_arg2) = m ((c.tc : Thread Cert.RmsPreFwd.nD Cert.RmsPreFwd.τ).loc Cert.RmsPreFwd.main_arg2))
      ∧ r.2.sem = fun _ => 0)

def quiescent_RmsPreFwdIdeal [hRmsPreFwdIdeal : Cert.RmsPreFwdIdeal.Facts] : Prop :=
  ∀ (m : (ℓ : Loc Cert.RmsPreFwdIdeal.nD Cert.RmsPreFwdIdeal.τ Cert.RmsPreFwdIdeal.sig) → Buf (Elt Ideal) ℓ) (g : Dev Cert.RmsPreFwdIdeal.nD → PrngReg), Pre_RmsPreFwdIdeal m →
    θ_run (Cert.RmsPreFwdIdeal.defs (F := Ideal)) (onTc (τ := Cert.RmsPreFwdIdeal.τ) (Cert.RmsPreFwdIdeal.main (F := Ideal))) ⟨m, fun _ => 0, g⟩ (fun r => (∀ c : Dev Cert.RmsPreFwdIdeal.nD,
      r.2.mem ((c.tc : Thread Cert.RmsPreFwdIdeal.nD Cert.RmsPreFwdIdeal.τ).loc Cert.RmsPreFwdIdeal.main_arg0) = m ((c.tc : Thread Cert.RmsPreFwdIdeal.nD Cert.RmsPreFwdIdeal.τ).loc Cert.RmsPreFwdIdeal.main_arg0)
      ∧ r.2.mem ((c.tc : Thread Cert.RmsPreFwdIdeal.nD Cert.RmsPreFwdIdeal.τ).loc Cert.RmsPreFwdIdeal.main_arg1) = m ((c.tc : Thread Cert.RmsPreFwdIdeal.nD Cert.RmsPreFwdIdeal.τ).loc Cert.RmsPreFwdIdeal.main_arg1)
      ∧ r.2.mem ((c.tc : Thread Cert.RmsPreFwdIdeal.nD Cert.RmsPreFwdIdeal.τ).loc Cert.RmsPreFwdIdeal.main_arg2) = m ((c.tc : Thread Cert.RmsPreFwdIdeal.nD Cert.RmsPreFwdIdeal.τ).loc Cert.RmsPreFwdIdeal.main_arg2))
      ∧ r.2.sem = fun _ => 0)

def quiescent_RmsPreFwdRefIdeal [hRmsPreFwdRefIdeal : Cert.RmsPreFwdRefIdeal.Facts] : Prop :=
  ∀ (m : (ℓ : Loc Cert.RmsPreFwdRefIdeal.nD Cert.RmsPreFwdRefIdeal.τ Cert.RmsPreFwdRefIdeal.sig) → Buf (Elt Ideal) ℓ) (g : Dev Cert.RmsPreFwdRefIdeal.nD → PrngReg), Pre_RmsPreFwdRefIdeal m →
    θ_run (Cert.RmsPreFwdRefIdeal.defs (F := Ideal)) (onTc (τ := Cert.RmsPreFwdRefIdeal.τ) (Cert.RmsPreFwdRefIdeal.main (F := Ideal))) ⟨m, fun _ => 0, g⟩ (fun r => (∀ c : Dev Cert.RmsPreFwdRefIdeal.nD,
      r.2.mem ((c.tc : Thread Cert.RmsPreFwdRefIdeal.nD Cert.RmsPreFwdRefIdeal.τ).loc Cert.RmsPreFwdRefIdeal.main_arg0) = m ((c.tc : Thread Cert.RmsPreFwdRefIdeal.nD Cert.RmsPreFwdRefIdeal.τ).loc Cert.RmsPreFwdRefIdeal.main_arg0)
      ∧ r.2.mem ((c.tc : Thread Cert.RmsPreFwdRefIdeal.nD Cert.RmsPreFwdRefIdeal.τ).loc Cert.RmsPreFwdRefIdeal.main_arg1) = m ((c.tc : Thread Cert.RmsPreFwdRefIdeal.nD Cert.RmsPreFwdRefIdeal.τ).loc Cert.RmsPreFwdRefIdeal.main_arg1)
      ∧ r.2.mem ((c.tc : Thread Cert.RmsPreFwdRefIdeal.nD Cert.RmsPreFwdRefIdeal.τ).loc Cert.RmsPreFwdRefIdeal.main_arg2) = m ((c.tc : Thread Cert.RmsPreFwdRefIdeal.nD Cert.RmsPreFwdRefIdeal.τ).loc Cert.RmsPreFwdRefIdeal.main_arg2))
      ∧ r.2.sem = fun _ => 0)

def quiescent_ForgetFwd [hForgetFwd : Cert.ForgetFwd.Facts] : Prop :=
  ∀ (m : (ℓ : Loc Cert.ForgetFwd.nD Cert.ForgetFwd.τ Cert.ForgetFwd.sig) → Buf (Elt Bits) ℓ) (g : Dev Cert.ForgetFwd.nD → PrngReg), Pre_ForgetFwd m →
    θ_run (Cert.ForgetFwd.defs (F := Bits)) (onTc (τ := Cert.ForgetFwd.τ) (Cert.ForgetFwd.main (F := Bits))) ⟨m, fun _ => 0, g⟩ (fun r => (∀ c : Dev Cert.ForgetFwd.nD,
      r.2.mem ((c.tc : Thread Cert.ForgetFwd.nD Cert.ForgetFwd.τ).loc Cert.ForgetFwd.main_arg0) = m ((c.tc : Thread Cert.ForgetFwd.nD Cert.ForgetFwd.τ).loc Cert.ForgetFwd.main_arg0)
      ∧ r.2.mem ((c.tc : Thread Cert.ForgetFwd.nD Cert.ForgetFwd.τ).loc Cert.ForgetFwd.main_arg1) = m ((c.tc : Thread Cert.ForgetFwd.nD Cert.ForgetFwd.τ).loc Cert.ForgetFwd.main_arg1))
      ∧ r.2.sem = fun _ => 0)

def quiescent_ForgetFwdIdeal [hForgetFwdIdeal : Cert.ForgetFwdIdeal.Facts] : Prop :=
  ∀ (m : (ℓ : Loc Cert.ForgetFwdIdeal.nD Cert.ForgetFwdIdeal.τ Cert.ForgetFwdIdeal.sig) → Buf (Elt Ideal) ℓ) (g : Dev Cert.ForgetFwdIdeal.nD → PrngReg), Pre_ForgetFwdIdeal m →
    θ_run (Cert.ForgetFwdIdeal.defs (F := Ideal)) (onTc (τ := Cert.ForgetFwdIdeal.τ) (Cert.ForgetFwdIdeal.main (F := Ideal))) ⟨m, fun _ => 0, g⟩ (fun r => (∀ c : Dev Cert.ForgetFwdIdeal.nD,
      r.2.mem ((c.tc : Thread Cert.ForgetFwdIdeal.nD Cert.ForgetFwdIdeal.τ).loc Cert.ForgetFwdIdeal.main_arg0) = m ((c.tc : Thread Cert.ForgetFwdIdeal.nD Cert.ForgetFwdIdeal.τ).loc Cert.ForgetFwdIdeal.main_arg0)
      ∧ r.2.mem ((c.tc : Thread Cert.ForgetFwdIdeal.nD Cert.ForgetFwdIdeal.τ).loc Cert.ForgetFwdIdeal.main_arg1) = m ((c.tc : Thread Cert.ForgetFwdIdeal.nD Cert.ForgetFwdIdeal.τ).loc Cert.ForgetFwdIdeal.main_arg1))
      ∧ r.2.sem = fun _ => 0)

def quiescent_ForgetFwdRefIdeal [hForgetFwdRefIdeal : Cert.ForgetFwdRefIdeal.Facts] : Prop :=
  ∀ (m : (ℓ : Loc Cert.ForgetFwdRefIdeal.nD Cert.ForgetFwdRefIdeal.τ Cert.ForgetFwdRefIdeal.sig) → Buf (Elt Ideal) ℓ) (g : Dev Cert.ForgetFwdRefIdeal.nD → PrngReg), Pre_ForgetFwdRefIdeal m →
    θ_run (Cert.ForgetFwdRefIdeal.defs (F := Ideal)) (onTc (τ := Cert.ForgetFwdRefIdeal.τ) (Cert.ForgetFwdRefIdeal.main (F := Ideal))) ⟨m, fun _ => 0, g⟩ (fun r => (∀ c : Dev Cert.ForgetFwdRefIdeal.nD,
      r.2.mem ((c.tc : Thread Cert.ForgetFwdRefIdeal.nD Cert.ForgetFwdRefIdeal.τ).loc Cert.ForgetFwdRefIdeal.main_arg0) = m ((c.tc : Thread Cert.ForgetFwdRefIdeal.nD Cert.ForgetFwdRefIdeal.τ).loc Cert.ForgetFwdRefIdeal.main_arg0)
      ∧ r.2.mem ((c.tc : Thread Cert.ForgetFwdRefIdeal.nD Cert.ForgetFwdRefIdeal.τ).loc Cert.ForgetFwdRefIdeal.main_arg1) = m ((c.tc : Thread Cert.ForgetFwdRefIdeal.nD Cert.ForgetFwdRefIdeal.τ).loc Cert.ForgetFwdRefIdeal.main_arg1))
      ∧ r.2.sem = fun _ => 0)

def quiescent_CumsumFwd [hCumsumFwd : Cert.CumsumFwd.Facts] : Prop :=
  ∀ (m : (ℓ : Loc Cert.CumsumFwd.nD Cert.CumsumFwd.τ Cert.CumsumFwd.sig) → Buf (Elt Bits) ℓ) (g : Dev Cert.CumsumFwd.nD → PrngReg), Pre_CumsumFwd m →
    θ_run (Cert.CumsumFwd.defs (F := Bits)) (onTc (τ := Cert.CumsumFwd.τ) (Cert.CumsumFwd.main (F := Bits))) ⟨m, fun _ => 0, g⟩ (fun r => (∀ c : Dev Cert.CumsumFwd.nD,
      r.2.mem ((c.tc : Thread Cert.CumsumFwd.nD Cert.CumsumFwd.τ).loc Cert.CumsumFwd.main_arg0) = m ((c.tc : Thread Cert.CumsumFwd.nD Cert.CumsumFwd.τ).loc Cert.CumsumFwd.main_arg0))
      ∧ r.2.sem = fun _ => 0)

def quiescent_CumsumFwdIdeal [hCumsumFwdIdeal : Cert.CumsumFwdIdeal.Facts] : Prop :=
  ∀ (m : (ℓ : Loc Cert.CumsumFwdIdeal.nD Cert.CumsumFwdIdeal.τ Cert.CumsumFwdIdeal.sig) → Buf (Elt Ideal) ℓ) (g : Dev Cert.CumsumFwdIdeal.nD → PrngReg), Pre_CumsumFwdIdeal m →
    θ_run (Cert.CumsumFwdIdeal.defs (F := Ideal)) (onTc (τ := Cert.CumsumFwdIdeal.τ) (Cert.CumsumFwdIdeal.main (F := Ideal))) ⟨m, fun _ => 0, g⟩ (fun r => (∀ c : Dev Cert.CumsumFwdIdeal.nD,
      r.2.mem ((c.tc : Thread Cert.CumsumFwdIdeal.nD Cert.CumsumFwdIdeal.τ).loc Cert.CumsumFwdIdeal.main_arg0) = m ((c.tc : Thread Cert.CumsumFwdIdeal.nD Cert.CumsumFwdIdeal.τ).loc Cert.CumsumFwdIdeal.main_arg0))
      ∧ r.2.sem = fun _ => 0)

def quiescent_CumsumFwdRefIdeal [hCumsumFwdRefIdeal : Cert.CumsumFwdRefIdeal.Facts] : Prop :=
  ∀ (m : (ℓ : Loc Cert.CumsumFwdRefIdeal.nD Cert.CumsumFwdRefIdeal.τ Cert.CumsumFwdRefIdeal.sig) → Buf (Elt Ideal) ℓ) (g : Dev Cert.CumsumFwdRefIdeal.nD → PrngReg), Pre_CumsumFwdRefIdeal m →
    θ_run (Cert.CumsumFwdRefIdeal.defs (F := Ideal)) (onTc (τ := Cert.CumsumFwdRefIdeal.τ) (Cert.CumsumFwdRefIdeal.main (F := Ideal))) ⟨m, fun _ => 0, g⟩ (fun r => (∀ c : Dev Cert.CumsumFwdRefIdeal.nD,
      r.2.mem ((c.tc : Thread Cert.CumsumFwdRefIdeal.nD Cert.CumsumFwdRefIdeal.τ).loc Cert.CumsumFwdRefIdeal.main_arg0) = m ((c.tc : Thread Cert.CumsumFwdRefIdeal.nD Cert.CumsumFwdRefIdeal.τ).loc Cert.CumsumFwdRefIdeal.main_arg0))
      ∧ r.2.sem = fun _ => 0)

def quiescent_MemFwd [hMemFwd : Cert.MemFwd.Facts] : Prop :=
  ∀ (m : (ℓ : Loc Cert.MemFwd.nD Cert.MemFwd.τ Cert.MemFwd.sig) → Buf (Elt Bits) ℓ) (g : Dev Cert.MemFwd.nD → PrngReg), Pre_MemFwd m →
    θ_run (Cert.MemFwd.defs (F := Bits)) (onTc (τ := Cert.MemFwd.τ) (Cert.MemFwd.main (F := Bits))) ⟨m, fun _ => 0, g⟩ (fun r => (∀ c : Dev Cert.MemFwd.nD,
      r.2.mem ((c.tc : Thread Cert.MemFwd.nD Cert.MemFwd.τ).loc Cert.MemFwd.main_arg0) = m ((c.tc : Thread Cert.MemFwd.nD Cert.MemFwd.τ).loc Cert.MemFwd.main_arg0)
      ∧ r.2.mem ((c.tc : Thread Cert.MemFwd.nD Cert.MemFwd.τ).loc Cert.MemFwd.main_arg1) = m ((c.tc : Thread Cert.MemFwd.nD Cert.MemFwd.τ).loc Cert.MemFwd.main_arg1))
      ∧ r.2.sem = fun _ => 0)

def quiescent_MemFwdIdeal [hMemFwdIdeal : Cert.MemFwdIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg), Pre_MemFwdIdeal m →
    θ_run (Cert.MemFwdIdeal.defs (F := Ideal)) (onTc (τ := Cert.MemFwdIdeal.τ) (Cert.MemFwdIdeal.main (F := Ideal))) ⟨m, fun _ => 0, g⟩ (fun r => (∀ c : Dev Cert.MemFwdIdeal.nD,
      r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
      ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1))
      ∧ r.2.sem = fun _ => 0)

def quiescent_MemFwdRefIdeal [hMemFwdRefIdeal : Cert.MemFwdRefIdeal.Facts] : Prop :=
  ∀ (m : (ℓ : Loc Cert.MemFwdRefIdeal.nD Cert.MemFwdRefIdeal.τ Cert.MemFwdRefIdeal.sig) → Buf (Elt Ideal) ℓ) (g : Dev Cert.MemFwdRefIdeal.nD → PrngReg), Pre_MemFwdRefIdeal m →
    θ_run (Cert.MemFwdRefIdeal.defs (F := Ideal)) (onTc (τ := Cert.MemFwdRefIdeal.τ) (Cert.MemFwdRefIdeal.main (F := Ideal))) ⟨m, fun _ => 0, g⟩ (fun r => (∀ c : Dev Cert.MemFwdRefIdeal.nD,
      r.2.mem ((c.tc : Thread Cert.MemFwdRefIdeal.nD Cert.MemFwdRefIdeal.τ).loc Cert.MemFwdRefIdeal.main_arg0) = m ((c.tc : Thread Cert.MemFwdRefIdeal.nD Cert.MemFwdRefIdeal.τ).loc Cert.MemFwdRefIdeal.main_arg0)
      ∧ r.2.mem ((c.tc : Thread Cert.MemFwdRefIdeal.nD Cert.MemFwdRefIdeal.τ).loc Cert.MemFwdRefIdeal.main_arg1) = m ((c.tc : Thread Cert.MemFwdRefIdeal.nD Cert.MemFwdRefIdeal.τ).loc Cert.MemFwdRefIdeal.main_arg1))
      ∧ r.2.sem = fun _ => 0)

def quiescent_SwigluFwd [hSwigluFwd : Cert.SwigluFwd.Facts] : Prop :=
  ∀ (m : (ℓ : Loc Cert.SwigluFwd.nD Cert.SwigluFwd.τ Cert.SwigluFwd.sig) → Buf (Elt Bits) ℓ) (g : Dev Cert.SwigluFwd.nD → PrngReg), Pre_SwigluFwd m →
    θ_run (Cert.SwigluFwd.defs (F := Bits)) (onTc (τ := Cert.SwigluFwd.τ) (Cert.SwigluFwd.main (F := Bits))) ⟨m, fun _ => 0, g⟩ (fun r => (∀ c : Dev Cert.SwigluFwd.nD,
      r.2.mem ((c.tc : Thread Cert.SwigluFwd.nD Cert.SwigluFwd.τ).loc Cert.SwigluFwd.main_arg0) = m ((c.tc : Thread Cert.SwigluFwd.nD Cert.SwigluFwd.τ).loc Cert.SwigluFwd.main_arg0)
      ∧ r.2.mem ((c.tc : Thread Cert.SwigluFwd.nD Cert.SwigluFwd.τ).loc Cert.SwigluFwd.main_arg1) = m ((c.tc : Thread Cert.SwigluFwd.nD Cert.SwigluFwd.τ).loc Cert.SwigluFwd.main_arg1))
      ∧ r.2.sem = fun _ => 0)

def quiescent_SwigluFwdIdeal [hSwigluFwdIdeal : Cert.SwigluFwdIdeal.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg), Pre_SwigluFwdIdeal m →
    θ_run (Cert.SwigluFwdIdeal.defs (F := Ideal)) (onTc (τ := Cert.SwigluFwdIdeal.τ) (Cert.SwigluFwdIdeal.main (F := Ideal))) ⟨m, fun _ => 0, g⟩ (fun r => (∀ c : Dev Cert.SwigluFwdIdeal.nD,
      r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0)
      ∧ r.2.mem ((c.tc : Thread Cert.SwigluFwdIdeal.nD Cert.SwigluFwdIdeal.τ).loc Cert.SwigluFwdIdeal.main_arg1) = m ((c.tc : Thread Cert.SwigluFwdIdeal.nD Cert.SwigluFwdIdeal.τ).loc Cert.SwigluFwdIdeal.main_arg1))
      ∧ r.2.sem = fun _ => 0)

def quiescent_SwigluFwdRefIdeal [hSwigluFwdRefIdeal : Cert.SwigluFwdRefIdeal.Facts] : Prop :=
  ∀ (m : (ℓ : Loc Cert.SwigluFwdRefIdeal.nD Cert.SwigluFwdRefIdeal.τ Cert.SwigluFwdRefIdeal.sig) → Buf (Elt Ideal) ℓ) (g : Dev Cert.SwigluFwdRefIdeal.nD → PrngReg), Pre_SwigluFwdRefIdeal m →
    θ_run (Cert.SwigluFwdRefIdeal.defs (F := Ideal)) (onTc (τ := Cert.SwigluFwdRefIdeal.τ) (Cert.SwigluFwdRefIdeal.main (F := Ideal))) ⟨m, fun _ => 0, g⟩ (fun r => (∀ c : Dev Cert.SwigluFwdRefIdeal.nD,
      r.2.mem ((c.tc : Thread Cert.SwigluFwdRefIdeal.nD Cert.SwigluFwdRefIdeal.τ).loc Cert.SwigluFwdRefIdeal.main_arg0) = m ((c.tc : Thread Cert.SwigluFwdRefIdeal.nD Cert.SwigluFwdRefIdeal.τ).loc Cert.SwigluFwdRefIdeal.main_arg0)
      ∧ r.2.mem ((c.tc : Thread Cert.SwigluFwdRefIdeal.nD Cert.SwigluFwdRefIdeal.τ).loc Cert.SwigluFwdRefIdeal.main_arg1) = m ((c.tc : Thread Cert.SwigluFwdRefIdeal.nD Cert.SwigluFwdRefIdeal.τ).loc Cert.SwigluFwdRefIdeal.main_arg1))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6)
      ∧ r.2.mem ((c.tc : Thread Cert.MergeFwd.nD Cert.MergeFwd.τ).loc Cert.MergeFwd.main_arg7) = m ((c.tc : Thread Cert.MergeFwd.nD Cert.MergeFwd.τ).loc Cert.MergeFwd.main_arg7)
      ∧ r.2.mem ((c.tc : Thread Cert.MergeFwd.nD Cert.MergeFwd.τ).loc Cert.MergeFwd.main_arg8) = m ((c.tc : Thread Cert.MergeFwd.nD Cert.MergeFwd.τ).loc Cert.MergeFwd.main_arg8)
      ∧ r.2.mem ((c.tc : Thread Cert.MergeFwd.nD Cert.MergeFwd.τ).loc Cert.MergeFwd.main_arg9) = m ((c.tc : Thread Cert.MergeFwd.nD Cert.MergeFwd.τ).loc Cert.MergeFwd.main_arg9)
      ∧ r.2.mem ((c.tc : Thread Cert.MergeFwd.nD Cert.MergeFwd.τ).loc Cert.MergeFwd.main_arg10) = m ((c.tc : Thread Cert.MergeFwd.nD Cert.MergeFwd.τ).loc Cert.MergeFwd.main_arg10))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
      ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7)
      ∧ r.2.mem ((c.tc : Thread Cert.MergeFwdIdeal.nD Cert.MergeFwdIdeal.τ).loc Cert.MergeFwdIdeal.main_arg8) = m ((c.tc : Thread Cert.MergeFwdIdeal.nD Cert.MergeFwdIdeal.τ).loc Cert.MergeFwdIdeal.main_arg8)
      ∧ r.2.mem ((c.tc : Thread Cert.MergeFwdIdeal.nD Cert.MergeFwdIdeal.τ).loc Cert.MergeFwdIdeal.main_arg9) = m ((c.tc : Thread Cert.MergeFwdIdeal.nD Cert.MergeFwdIdeal.τ).loc Cert.MergeFwdIdeal.main_arg9)
      ∧ r.2.mem ((c.tc : Thread Cert.MergeFwdIdeal.nD Cert.MergeFwdIdeal.τ).loc Cert.MergeFwdIdeal.main_arg10) = m ((c.tc : Thread Cert.MergeFwdIdeal.nD Cert.MergeFwdIdeal.τ).loc Cert.MergeFwdIdeal.main_arg10))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6)
      ∧ r.2.mem ((c.tc : Thread Cert.MergeFwdRefIdeal.nD Cert.MergeFwdRefIdeal.τ).loc Cert.MergeFwdRefIdeal.main_arg7) = m ((c.tc : Thread Cert.MergeFwdRefIdeal.nD Cert.MergeFwdRefIdeal.τ).loc Cert.MergeFwdRefIdeal.main_arg7)
      ∧ r.2.mem ((c.tc : Thread Cert.MergeFwdRefIdeal.nD Cert.MergeFwdRefIdeal.τ).loc Cert.MergeFwdRefIdeal.main_arg8) = m ((c.tc : Thread Cert.MergeFwdRefIdeal.nD Cert.MergeFwdRefIdeal.τ).loc Cert.MergeFwdRefIdeal.main_arg8)
      ∧ r.2.mem ((c.tc : Thread Cert.MergeFwdRefIdeal.nD Cert.MergeFwdRefIdeal.τ).loc Cert.MergeFwdRefIdeal.main_arg9) = m ((c.tc : Thread Cert.MergeFwdRefIdeal.nD Cert.MergeFwdRefIdeal.τ).loc Cert.MergeFwdRefIdeal.main_arg9)
      ∧ r.2.mem ((c.tc : Thread Cert.MergeFwdRefIdeal.nD Cert.MergeFwdRefIdeal.τ).loc Cert.MergeFwdRefIdeal.main_arg10) = m ((c.tc : Thread Cert.MergeFwdRefIdeal.nD Cert.MergeFwdRefIdeal.τ).loc Cert.MergeFwdRefIdeal.main_arg10))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_Pieces [hPieces : Cert.Pieces.Facts] : Prop :=
  ∀ (m : (ℓ : Loc Cert.Pieces.nD Cert.Pieces.τ Cert.Pieces.sig) → Buf (Elt Bits) ℓ) (g : Dev Cert.Pieces.nD → PrngReg), Pre_Pieces m →
    θ_run (Cert.Pieces.defs (F := Bits)) (onTc (τ := Cert.Pieces.τ) (Cert.Pieces.main (F := Bits))) ⟨m, fun _ => 0, g⟩ (fun r => (∀ c : Dev Cert.Pieces.nD,
      r.2.mem ((c.tc : Thread Cert.Pieces.nD Cert.Pieces.τ).loc Cert.Pieces.main_arg0) = m ((c.tc : Thread Cert.Pieces.nD Cert.Pieces.τ).loc Cert.Pieces.main_arg0)
      ∧ r.2.mem ((c.tc : Thread Cert.Pieces.nD Cert.Pieces.τ).loc Cert.Pieces.main_arg1) = m ((c.tc : Thread Cert.Pieces.nD Cert.Pieces.τ).loc Cert.Pieces.main_arg1)
      ∧ r.2.mem ((c.tc : Thread Cert.Pieces.nD Cert.Pieces.τ).loc Cert.Pieces.main_arg2) = m ((c.tc : Thread Cert.Pieces.nD Cert.Pieces.τ).loc Cert.Pieces.main_arg2)
      ∧ r.2.mem ((c.tc : Thread Cert.Pieces.nD Cert.Pieces.τ).loc Cert.Pieces.main_arg3) = m ((c.tc : Thread Cert.Pieces.nD Cert.Pieces.τ).loc Cert.Pieces.main_arg3)
      ∧ r.2.mem ((c.tc : Thread Cert.Pieces.nD Cert.Pieces.τ).loc Cert.Pieces.main_arg4) = m ((c.tc : Thread Cert.Pieces.nD Cert.Pieces.τ).loc Cert.Pieces.main_arg4)
      ∧ r.2.mem ((c.tc : Thread Cert.Pieces.nD Cert.Pieces.τ).loc Cert.Pieces.main_arg5) = m ((c.tc : Thread Cert.Pieces.nD Cert.Pieces.τ).loc Cert.Pieces.main_arg5)
      ∧ r.2.mem ((c.tc : Thread Cert.Pieces.nD Cert.Pieces.τ).loc Cert.Pieces.main_arg6) = m ((c.tc : Thread Cert.Pieces.nD Cert.Pieces.τ).loc Cert.Pieces.main_arg6))
      ∧ r.2.sem = fun _ => 0)

def quiescent_PiecesIdeal [hPiecesIdeal : Cert.PiecesIdeal.Facts] : Prop :=
  ∀ (m : (ℓ : Loc Cert.PiecesIdeal.nD Cert.PiecesIdeal.τ Cert.PiecesIdeal.sig) → Buf (Elt Ideal) ℓ) (g : Dev Cert.PiecesIdeal.nD → PrngReg), Pre_PiecesIdeal m →
    θ_run (Cert.PiecesIdeal.defs (F := Ideal)) (onTc (τ := Cert.PiecesIdeal.τ) (Cert.PiecesIdeal.main (F := Ideal))) ⟨m, fun _ => 0, g⟩ (fun r => (∀ c : Dev Cert.PiecesIdeal.nD,
      r.2.mem ((c.tc : Thread Cert.PiecesIdeal.nD Cert.PiecesIdeal.τ).loc Cert.PiecesIdeal.main_arg0) = m ((c.tc : Thread Cert.PiecesIdeal.nD Cert.PiecesIdeal.τ).loc Cert.PiecesIdeal.main_arg0)
      ∧ r.2.mem ((c.tc : Thread Cert.PiecesIdeal.nD Cert.PiecesIdeal.τ).loc Cert.PiecesIdeal.main_arg1) = m ((c.tc : Thread Cert.PiecesIdeal.nD Cert.PiecesIdeal.τ).loc Cert.PiecesIdeal.main_arg1)
      ∧ r.2.mem ((c.tc : Thread Cert.PiecesIdeal.nD Cert.PiecesIdeal.τ).loc Cert.PiecesIdeal.main_arg2) = m ((c.tc : Thread Cert.PiecesIdeal.nD Cert.PiecesIdeal.τ).loc Cert.PiecesIdeal.main_arg2)
      ∧ r.2.mem ((c.tc : Thread Cert.PiecesIdeal.nD Cert.PiecesIdeal.τ).loc Cert.PiecesIdeal.main_arg3) = m ((c.tc : Thread Cert.PiecesIdeal.nD Cert.PiecesIdeal.τ).loc Cert.PiecesIdeal.main_arg3)
      ∧ r.2.mem ((c.tc : Thread Cert.PiecesIdeal.nD Cert.PiecesIdeal.τ).loc Cert.PiecesIdeal.main_arg4) = m ((c.tc : Thread Cert.PiecesIdeal.nD Cert.PiecesIdeal.τ).loc Cert.PiecesIdeal.main_arg4)
      ∧ r.2.mem ((c.tc : Thread Cert.PiecesIdeal.nD Cert.PiecesIdeal.τ).loc Cert.PiecesIdeal.main_arg5) = m ((c.tc : Thread Cert.PiecesIdeal.nD Cert.PiecesIdeal.τ).loc Cert.PiecesIdeal.main_arg5)
      ∧ r.2.mem ((c.tc : Thread Cert.PiecesIdeal.nD Cert.PiecesIdeal.τ).loc Cert.PiecesIdeal.main_arg6) = m ((c.tc : Thread Cert.PiecesIdeal.nD Cert.PiecesIdeal.τ).loc Cert.PiecesIdeal.main_arg6))
      ∧ r.2.sem = fun _ => 0)

def quiescent_PiecesRefIdeal [hPiecesRefIdeal : Cert.PiecesRefIdeal.Facts] : Prop :=
  ∀ (m : (ℓ : Loc Cert.PiecesRefIdeal.nD Cert.PiecesRefIdeal.τ Cert.PiecesRefIdeal.sig) → Buf (Elt Ideal) ℓ) (g : Dev Cert.PiecesRefIdeal.nD → PrngReg), Pre_PiecesRefIdeal m →
    θ_run (Cert.PiecesRefIdeal.defs (F := Ideal)) (onTc (τ := Cert.PiecesRefIdeal.τ) (Cert.PiecesRefIdeal.main (F := Ideal))) ⟨m, fun _ => 0, g⟩ (fun r => (∀ c : Dev Cert.PiecesRefIdeal.nD,
      r.2.mem ((c.tc : Thread Cert.PiecesRefIdeal.nD Cert.PiecesRefIdeal.τ).loc Cert.PiecesRefIdeal.main_arg0) = m ((c.tc : Thread Cert.PiecesRefIdeal.nD Cert.PiecesRefIdeal.τ).loc Cert.PiecesRefIdeal.main_arg0)
      ∧ r.2.mem ((c.tc : Thread Cert.PiecesRefIdeal.nD Cert.PiecesRefIdeal.τ).loc Cert.PiecesRefIdeal.main_arg1) = m ((c.tc : Thread Cert.PiecesRefIdeal.nD Cert.PiecesRefIdeal.τ).loc Cert.PiecesRefIdeal.main_arg1)
      ∧ r.2.mem ((c.tc : Thread Cert.PiecesRefIdeal.nD Cert.PiecesRefIdeal.τ).loc Cert.PiecesRefIdeal.main_arg2) = m ((c.tc : Thread Cert.PiecesRefIdeal.nD Cert.PiecesRefIdeal.τ).loc Cert.PiecesRefIdeal.main_arg2)
      ∧ r.2.mem ((c.tc : Thread Cert.PiecesRefIdeal.nD Cert.PiecesRefIdeal.τ).loc Cert.PiecesRefIdeal.main_arg3) = m ((c.tc : Thread Cert.PiecesRefIdeal.nD Cert.PiecesRefIdeal.τ).loc Cert.PiecesRefIdeal.main_arg3)
      ∧ r.2.mem ((c.tc : Thread Cert.PiecesRefIdeal.nD Cert.PiecesRefIdeal.τ).loc Cert.PiecesRefIdeal.main_arg4) = m ((c.tc : Thread Cert.PiecesRefIdeal.nD Cert.PiecesRefIdeal.τ).loc Cert.PiecesRefIdeal.main_arg4)
      ∧ r.2.mem ((c.tc : Thread Cert.PiecesRefIdeal.nD Cert.PiecesRefIdeal.τ).loc Cert.PiecesRefIdeal.main_arg5) = m ((c.tc : Thread Cert.PiecesRefIdeal.nD Cert.PiecesRefIdeal.τ).loc Cert.PiecesRefIdeal.main_arg5)
      ∧ r.2.mem ((c.tc : Thread Cert.PiecesRefIdeal.nD Cert.PiecesRefIdeal.τ).loc Cert.PiecesRefIdeal.main_arg6) = m ((c.tc : Thread Cert.PiecesRefIdeal.nD Cert.PiecesRefIdeal.τ).loc Cert.PiecesRefIdeal.main_arg6))
      ∧ r.2.sem = fun _ => 0)

def preserves_Forget_ForgetIdeal : Prop :=
  True

def algebraic_ForgetIdeal_ForgetRefIdeal [hForgetIdeal : Cert.ForgetIdeal.Facts] [hForgetRefIdeal : Cert.ForgetRefIdeal.Facts] : Prop :=
  ∀ (m : (ℓ : Loc Cert.ForgetIdeal.nD Cert.ForgetIdeal.τ Cert.ForgetIdeal.sig) → Buf (Elt Ideal) ℓ) (g : Dev Cert.ForgetIdeal.nD → PrngReg)
    (m' : (ℓ : Loc Cert.ForgetRefIdeal.nD Cert.ForgetRefIdeal.τ Cert.ForgetRefIdeal.sig) → Buf (Elt Ideal) ℓ) (g' : Dev Cert.ForgetRefIdeal.nD → PrngReg), Pre_ForgetIdeal m →
    (∀ c : Dev Cert.ForgetIdeal.nD,
      m' ((c.tc : Thread Cert.ForgetRefIdeal.nD Cert.ForgetRefIdeal.τ).loc Cert.ForgetRefIdeal.main_arg0) = m ((c.tc : Thread Cert.ForgetIdeal.nD Cert.ForgetIdeal.τ).loc Cert.ForgetIdeal.main_arg0)
      ∧ m' ((c.tc : Thread Cert.ForgetRefIdeal.nD Cert.ForgetRefIdeal.τ).loc Cert.ForgetRefIdeal.main_arg1) = m ((c.tc : Thread Cert.ForgetIdeal.nD Cert.ForgetIdeal.τ).loc Cert.ForgetIdeal.main_arg1)
      ∧ m' ((c.tc : Thread Cert.ForgetRefIdeal.nD Cert.ForgetRefIdeal.τ).loc Cert.ForgetRefIdeal.main_arg2) = m ((c.tc : Thread Cert.ForgetIdeal.nD Cert.ForgetIdeal.τ).loc Cert.ForgetIdeal.main_arg2)) →
    ∃ (v0 : (c : Dev Cert.ForgetIdeal.nD) → Buf (Elt Ideal) ((c.tc : Thread Cert.ForgetIdeal.nD Cert.ForgetIdeal.τ).loc Cert.ForgetIdeal.main_v4_0)) (v1 : (c : Dev Cert.ForgetIdeal.nD) → Buf (Elt Ideal) ((c.tc : Thread Cert.ForgetIdeal.nD Cert.ForgetIdeal.τ).loc Cert.ForgetIdeal.main_v4_1)),
      θ_run (Cert.ForgetIdeal.defs (F := Ideal)) (onTc (τ := Cert.ForgetIdeal.τ) (Cert.ForgetIdeal.main (F := Ideal))) ⟨m, fun _ => 0, g⟩ (fun r => ∀ c : Dev Cert.ForgetIdeal.nD,
          r.2.mem ((c.tc : Thread Cert.ForgetIdeal.nD Cert.ForgetIdeal.τ).loc Cert.ForgetIdeal.main_v4_0) = v0 c
          ∧ r.2.mem ((c.tc : Thread Cert.ForgetIdeal.nD Cert.ForgetIdeal.τ).loc Cert.ForgetIdeal.main_v4_1) = v1 c
          ∧ r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
          ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
          ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2))
      ∧ θ_run (Cert.ForgetRefIdeal.defs (F := Ideal)) (onTc (τ := Cert.ForgetRefIdeal.τ) (Cert.ForgetRefIdeal.main (F := Ideal))) ⟨m', fun _ => 0, g'⟩ (fun r => ∀ c : Dev Cert.ForgetRefIdeal.nD,
          r.2.mem ((c.tc : Thread Cert.ForgetRefIdeal.nD Cert.ForgetRefIdeal.τ).loc Cert.ForgetRefIdeal.main_v9) = v0 c
          ∧ r.2.mem ((c.tc : Thread Cert.ForgetRefIdeal.nD Cert.ForgetRefIdeal.τ).loc Cert.ForgetRefIdeal.main_v10) = v1 c
          ∧ r.2.mem ((c.tc : Thread Cert.ForgetRefIdeal.nD Cert.ForgetRefIdeal.τ).loc Cert.ForgetRefIdeal.main_arg0) = m' ((c.tc : Thread Cert.ForgetRefIdeal.nD Cert.ForgetRefIdeal.τ).loc Cert.ForgetRefIdeal.main_arg0)
          ∧ r.2.mem ((c.tc : Thread Cert.ForgetRefIdeal.nD Cert.ForgetRefIdeal.τ).loc Cert.ForgetRefIdeal.main_arg1) = m' ((c.tc : Thread Cert.ForgetRefIdeal.nD Cert.ForgetRefIdeal.τ).loc Cert.ForgetRefIdeal.main_arg1)
          ∧ r.2.mem ((c.tc : Thread Cert.ForgetRefIdeal.nD Cert.ForgetRefIdeal.τ).loc Cert.ForgetRefIdeal.main_arg2) = m' ((c.tc : Thread Cert.ForgetRefIdeal.nD Cert.ForgetRefIdeal.τ).loc Cert.ForgetRefIdeal.main_arg2))

def preserves_RmsMem_RmsMemIdeal : Prop :=
  True

def algebraic_RmsMemIdeal_RmsMemRefIdeal [hRmsMemIdeal : Cert.RmsMemIdeal.Facts] [hRmsMemRefIdeal : Cert.RmsMemRefIdeal.Facts] : Prop :=
  ∀ (m : (ℓ : Loc Cert.RmsMemIdeal.nD Cert.RmsMemIdeal.τ Cert.RmsMemIdeal.sig) → Buf (Elt Ideal) ℓ) (g : Dev Cert.RmsMemIdeal.nD → PrngReg)
    (m' : (ℓ : Loc Cert.RmsMemRefIdeal.nD Cert.RmsMemRefIdeal.τ Cert.RmsMemRefIdeal.sig) → Buf (Elt Ideal) ℓ) (g' : Dev Cert.RmsMemRefIdeal.nD → PrngReg), Pre_RmsMemIdeal m →
    (∀ c : Dev Cert.RmsMemIdeal.nD,
      m' ((c.tc : Thread Cert.RmsMemRefIdeal.nD Cert.RmsMemRefIdeal.τ).loc Cert.RmsMemRefIdeal.main_arg0) = m ((c.tc : Thread Cert.RmsMemIdeal.nD Cert.RmsMemIdeal.τ).loc Cert.RmsMemIdeal.main_arg0)
      ∧ m' ((c.tc : Thread Cert.RmsMemRefIdeal.nD Cert.RmsMemRefIdeal.τ).loc Cert.RmsMemRefIdeal.main_arg1) = m ((c.tc : Thread Cert.RmsMemIdeal.nD Cert.RmsMemIdeal.τ).loc Cert.RmsMemIdeal.main_arg1)
      ∧ m' ((c.tc : Thread Cert.RmsMemRefIdeal.nD Cert.RmsMemRefIdeal.τ).loc Cert.RmsMemRefIdeal.main_arg2) = m ((c.tc : Thread Cert.RmsMemIdeal.nD Cert.RmsMemIdeal.τ).loc Cert.RmsMemIdeal.main_arg2)) →
    ∃ (v0 : (c : Dev Cert.RmsMemIdeal.nD) → Buf (Elt Ideal) ((c.tc : Thread Cert.RmsMemIdeal.nD Cert.RmsMemIdeal.τ).loc Cert.RmsMemIdeal.main_v0_0)) (v1 : (c : Dev Cert.RmsMemIdeal.nD) → Buf (Elt Ideal) ((c.tc : Thread Cert.RmsMemIdeal.nD Cert.RmsMemIdeal.τ).loc Cert.RmsMemIdeal.main_v0_1)),
      θ_run (Cert.RmsMemIdeal.defs (F := Ideal)) (onTc (τ := Cert.RmsMemIdeal.τ) (Cert.RmsMemIdeal.main (F := Ideal))) ⟨m, fun _ => 0, g⟩ (fun r => ∀ c : Dev Cert.RmsMemIdeal.nD,
          r.2.mem ((c.tc : Thread Cert.RmsMemIdeal.nD Cert.RmsMemIdeal.τ).loc Cert.RmsMemIdeal.main_v0_0) = v0 c
          ∧ r.2.mem ((c.tc : Thread Cert.RmsMemIdeal.nD Cert.RmsMemIdeal.τ).loc Cert.RmsMemIdeal.main_v0_1) = v1 c
          ∧ r.2.mem ((c.tc : Thread Cert.RmsMemIdeal.nD Cert.RmsMemIdeal.τ).loc Cert.RmsMemIdeal.main_arg0) = m ((c.tc : Thread Cert.RmsMemIdeal.nD Cert.RmsMemIdeal.τ).loc Cert.RmsMemIdeal.main_arg0)
          ∧ r.2.mem ((c.tc : Thread Cert.RmsMemIdeal.nD Cert.RmsMemIdeal.τ).loc Cert.RmsMemIdeal.main_arg1) = m ((c.tc : Thread Cert.RmsMemIdeal.nD Cert.RmsMemIdeal.τ).loc Cert.RmsMemIdeal.main_arg1)
          ∧ r.2.mem ((c.tc : Thread Cert.RmsMemIdeal.nD Cert.RmsMemIdeal.τ).loc Cert.RmsMemIdeal.main_arg2) = m ((c.tc : Thread Cert.RmsMemIdeal.nD Cert.RmsMemIdeal.τ).loc Cert.RmsMemIdeal.main_arg2))
      ∧ θ_run (Cert.RmsMemRefIdeal.defs (F := Ideal)) (onTc (τ := Cert.RmsMemRefIdeal.τ) (Cert.RmsMemRefIdeal.main (F := Ideal))) ⟨m', fun _ => 0, g'⟩ (fun r => ∀ c : Dev Cert.RmsMemRefIdeal.nD,
          r.2.mem ((c.tc : Thread Cert.RmsMemRefIdeal.nD Cert.RmsMemRefIdeal.τ).loc Cert.RmsMemRefIdeal.main_v34) = v0 c
          ∧ r.2.mem ((c.tc : Thread Cert.RmsMemRefIdeal.nD Cert.RmsMemRefIdeal.τ).loc Cert.RmsMemRefIdeal.main_v17) = v1 c
          ∧ r.2.mem ((c.tc : Thread Cert.RmsMemRefIdeal.nD Cert.RmsMemRefIdeal.τ).loc Cert.RmsMemRefIdeal.main_arg0) = m' ((c.tc : Thread Cert.RmsMemRefIdeal.nD Cert.RmsMemRefIdeal.τ).loc Cert.RmsMemRefIdeal.main_arg0)
          ∧ r.2.mem ((c.tc : Thread Cert.RmsMemRefIdeal.nD Cert.RmsMemRefIdeal.τ).loc Cert.RmsMemRefIdeal.main_arg1) = m' ((c.tc : Thread Cert.RmsMemRefIdeal.nD Cert.RmsMemRefIdeal.τ).loc Cert.RmsMemRefIdeal.main_arg1)
          ∧ r.2.mem ((c.tc : Thread Cert.RmsMemRefIdeal.nD Cert.RmsMemRefIdeal.τ).loc Cert.RmsMemRefIdeal.main_arg2) = m' ((c.tc : Thread Cert.RmsMemRefIdeal.nD Cert.RmsMemRefIdeal.τ).loc Cert.RmsMemRefIdeal.main_arg2))

def preserves_RmsPre_RmsPreIdeal : Prop :=
  True

def algebraic_RmsPreIdeal_RmsPreRefIdeal [hRmsPreIdeal : Cert.RmsPreIdeal.Facts] [hRmsPreRefIdeal : Cert.RmsPreRefIdeal.Facts] : Prop :=
  ∀ (m : (ℓ : Loc Cert.RmsPreIdeal.nD Cert.RmsPreIdeal.τ Cert.RmsPreIdeal.sig) → Buf (Elt Ideal) ℓ) (g : Dev Cert.RmsPreIdeal.nD → PrngReg)
    (m' : (ℓ : Loc Cert.RmsPreRefIdeal.nD Cert.RmsPreRefIdeal.τ Cert.RmsPreRefIdeal.sig) → Buf (Elt Ideal) ℓ) (g' : Dev Cert.RmsPreRefIdeal.nD → PrngReg), Pre_RmsPreIdeal m →
    (∀ c : Dev Cert.RmsPreIdeal.nD,
      m' ((c.tc : Thread Cert.RmsPreRefIdeal.nD Cert.RmsPreRefIdeal.τ).loc Cert.RmsPreRefIdeal.main_arg0) = m ((c.tc : Thread Cert.RmsPreIdeal.nD Cert.RmsPreIdeal.τ).loc Cert.RmsPreIdeal.main_arg0)
      ∧ m' ((c.tc : Thread Cert.RmsPreRefIdeal.nD Cert.RmsPreRefIdeal.τ).loc Cert.RmsPreRefIdeal.main_arg1) = m ((c.tc : Thread Cert.RmsPreIdeal.nD Cert.RmsPreIdeal.τ).loc Cert.RmsPreIdeal.main_arg1)
      ∧ m' ((c.tc : Thread Cert.RmsPreRefIdeal.nD Cert.RmsPreRefIdeal.τ).loc Cert.RmsPreRefIdeal.main_arg2) = m ((c.tc : Thread Cert.RmsPreIdeal.nD Cert.RmsPreIdeal.τ).loc Cert.RmsPreIdeal.main_arg2)
      ∧ m' ((c.tc : Thread Cert.RmsPreRefIdeal.nD Cert.RmsPreRefIdeal.τ).loc Cert.RmsPreRefIdeal.main_arg3) = m ((c.tc : Thread Cert.RmsPreIdeal.nD Cert.RmsPreIdeal.τ).loc Cert.RmsPreIdeal.main_arg3)
      ∧ m' ((c.tc : Thread Cert.RmsPreRefIdeal.nD Cert.RmsPreRefIdeal.τ).loc Cert.RmsPreRefIdeal.main_arg4) = m ((c.tc : Thread Cert.RmsPreIdeal.nD Cert.RmsPreIdeal.τ).loc Cert.RmsPreIdeal.main_arg4)
      ∧ m' ((c.tc : Thread Cert.RmsPreRefIdeal.nD Cert.RmsPreRefIdeal.τ).loc Cert.RmsPreRefIdeal.main_arg5) = m ((c.tc : Thread Cert.RmsPreIdeal.nD Cert.RmsPreIdeal.τ).loc Cert.RmsPreIdeal.main_arg5)) →
    ∃ (v0 : (c : Dev Cert.RmsPreIdeal.nD) → Buf (Elt Ideal) ((c.tc : Thread Cert.RmsPreIdeal.nD Cert.RmsPreIdeal.τ).loc Cert.RmsPreIdeal.main_v5_0)) (v1 : (c : Dev Cert.RmsPreIdeal.nD) → Buf (Elt Ideal) ((c.tc : Thread Cert.RmsPreIdeal.nD Cert.RmsPreIdeal.τ).loc Cert.RmsPreIdeal.main_v5_1)),
      θ_run (Cert.RmsPreIdeal.defs (F := Ideal)) (onTc (τ := Cert.RmsPreIdeal.τ) (Cert.RmsPreIdeal.main (F := Ideal))) ⟨m, fun _ => 0, g⟩ (fun r => ∀ c : Dev Cert.RmsPreIdeal.nD,
          r.2.mem ((c.tc : Thread Cert.RmsPreIdeal.nD Cert.RmsPreIdeal.τ).loc Cert.RmsPreIdeal.main_v5_0) = v0 c
          ∧ r.2.mem ((c.tc : Thread Cert.RmsPreIdeal.nD Cert.RmsPreIdeal.τ).loc Cert.RmsPreIdeal.main_v5_1) = v1 c
          ∧ r.2.mem ((c.tc : Thread Cert.RmsPreIdeal.nD Cert.RmsPreIdeal.τ).loc Cert.RmsPreIdeal.main_arg0) = m ((c.tc : Thread Cert.RmsPreIdeal.nD Cert.RmsPreIdeal.τ).loc Cert.RmsPreIdeal.main_arg0)
          ∧ r.2.mem ((c.tc : Thread Cert.RmsPreIdeal.nD Cert.RmsPreIdeal.τ).loc Cert.RmsPreIdeal.main_arg1) = m ((c.tc : Thread Cert.RmsPreIdeal.nD Cert.RmsPreIdeal.τ).loc Cert.RmsPreIdeal.main_arg1)
          ∧ r.2.mem ((c.tc : Thread Cert.RmsPreIdeal.nD Cert.RmsPreIdeal.τ).loc Cert.RmsPreIdeal.main_arg2) = m ((c.tc : Thread Cert.RmsPreIdeal.nD Cert.RmsPreIdeal.τ).loc Cert.RmsPreIdeal.main_arg2)
          ∧ r.2.mem ((c.tc : Thread Cert.RmsPreIdeal.nD Cert.RmsPreIdeal.τ).loc Cert.RmsPreIdeal.main_arg3) = m ((c.tc : Thread Cert.RmsPreIdeal.nD Cert.RmsPreIdeal.τ).loc Cert.RmsPreIdeal.main_arg3)
          ∧ r.2.mem ((c.tc : Thread Cert.RmsPreIdeal.nD Cert.RmsPreIdeal.τ).loc Cert.RmsPreIdeal.main_arg4) = m ((c.tc : Thread Cert.RmsPreIdeal.nD Cert.RmsPreIdeal.τ).loc Cert.RmsPreIdeal.main_arg4)
          ∧ r.2.mem ((c.tc : Thread Cert.RmsPreIdeal.nD Cert.RmsPreIdeal.τ).loc Cert.RmsPreIdeal.main_arg5) = m ((c.tc : Thread Cert.RmsPreIdeal.nD Cert.RmsPreIdeal.τ).loc Cert.RmsPreIdeal.main_arg5))
      ∧ θ_run (Cert.RmsPreRefIdeal.defs (F := Ideal)) (onTc (τ := Cert.RmsPreRefIdeal.τ) (Cert.RmsPreRefIdeal.main (F := Ideal))) ⟨m', fun _ => 0, g'⟩ (fun r => ∀ c : Dev Cert.RmsPreRefIdeal.nD,
          r.2.mem ((c.tc : Thread Cert.RmsPreRefIdeal.nD Cert.RmsPreRefIdeal.τ).loc Cert.RmsPreRefIdeal.main_v37) = v0 c
          ∧ r.2.mem ((c.tc : Thread Cert.RmsPreRefIdeal.nD Cert.RmsPreRefIdeal.τ).loc Cert.RmsPreRefIdeal.main_v20) = v1 c
          ∧ r.2.mem ((c.tc : Thread Cert.RmsPreRefIdeal.nD Cert.RmsPreRefIdeal.τ).loc Cert.RmsPreRefIdeal.main_arg0) = m' ((c.tc : Thread Cert.RmsPreRefIdeal.nD Cert.RmsPreRefIdeal.τ).loc Cert.RmsPreRefIdeal.main_arg0)
          ∧ r.2.mem ((c.tc : Thread Cert.RmsPreRefIdeal.nD Cert.RmsPreRefIdeal.τ).loc Cert.RmsPreRefIdeal.main_arg1) = m' ((c.tc : Thread Cert.RmsPreRefIdeal.nD Cert.RmsPreRefIdeal.τ).loc Cert.RmsPreRefIdeal.main_arg1)
          ∧ r.2.mem ((c.tc : Thread Cert.RmsPreRefIdeal.nD Cert.RmsPreRefIdeal.τ).loc Cert.RmsPreRefIdeal.main_arg2) = m' ((c.tc : Thread Cert.RmsPreRefIdeal.nD Cert.RmsPreRefIdeal.τ).loc Cert.RmsPreRefIdeal.main_arg2)
          ∧ r.2.mem ((c.tc : Thread Cert.RmsPreRefIdeal.nD Cert.RmsPreRefIdeal.τ).loc Cert.RmsPreRefIdeal.main_arg3) = m' ((c.tc : Thread Cert.RmsPreRefIdeal.nD Cert.RmsPreRefIdeal.τ).loc Cert.RmsPreRefIdeal.main_arg3)
          ∧ r.2.mem ((c.tc : Thread Cert.RmsPreRefIdeal.nD Cert.RmsPreRefIdeal.τ).loc Cert.RmsPreRefIdeal.main_arg4) = m' ((c.tc : Thread Cert.RmsPreRefIdeal.nD Cert.RmsPreRefIdeal.τ).loc Cert.RmsPreRefIdeal.main_arg4)
          ∧ r.2.mem ((c.tc : Thread Cert.RmsPreRefIdeal.nD Cert.RmsPreRefIdeal.τ).loc Cert.RmsPreRefIdeal.main_arg5) = m' ((c.tc : Thread Cert.RmsPreRefIdeal.nD Cert.RmsPreRefIdeal.τ).loc Cert.RmsPreRefIdeal.main_arg5))

def preserves_RmsPair_RmsPairIdeal : Prop :=
  True

def algebraic_RmsPairIdeal_RmsPairRefIdeal [hRmsPairIdeal : Cert.RmsPairIdeal.Facts] [hRmsPairRefIdeal : Cert.RmsPairRefIdeal.Facts] : Prop :=
  ∀ (m : (ℓ : Loc Cert.RmsPairIdeal.nD Cert.RmsPairIdeal.τ Cert.RmsPairIdeal.sig) → Buf (Elt Ideal) ℓ) (g : Dev Cert.RmsPairIdeal.nD → PrngReg)
    (m' : (ℓ : Loc Cert.RmsPairRefIdeal.nD Cert.RmsPairRefIdeal.τ Cert.RmsPairRefIdeal.sig) → Buf (Elt Ideal) ℓ) (g' : Dev Cert.RmsPairRefIdeal.nD → PrngReg), Pre_RmsPairIdeal m →
    (∀ c : Dev Cert.RmsPairIdeal.nD,
      m' ((c.tc : Thread Cert.RmsPairRefIdeal.nD Cert.RmsPairRefIdeal.τ).loc Cert.RmsPairRefIdeal.main_arg0) = m ((c.tc : Thread Cert.RmsPairIdeal.nD Cert.RmsPairIdeal.τ).loc Cert.RmsPairIdeal.main_arg0)
      ∧ m' ((c.tc : Thread Cert.RmsPairRefIdeal.nD Cert.RmsPairRefIdeal.τ).loc Cert.RmsPairRefIdeal.main_arg1) = m ((c.tc : Thread Cert.RmsPairIdeal.nD Cert.RmsPairIdeal.τ).loc Cert.RmsPairIdeal.main_arg1)
      ∧ m' ((c.tc : Thread Cert.RmsPairRefIdeal.nD Cert.RmsPairRefIdeal.τ).loc Cert.RmsPairRefIdeal.main_arg2) = m ((c.tc : Thread Cert.RmsPairIdeal.nD Cert.RmsPairIdeal.τ).loc Cert.RmsPairIdeal.main_arg2)
      ∧ m' ((c.tc : Thread Cert.RmsPairRefIdeal.nD Cert.RmsPairRefIdeal.τ).loc Cert.RmsPairRefIdeal.main_arg3) = m ((c.tc : Thread Cert.RmsPairIdeal.nD Cert.RmsPairIdeal.τ).loc Cert.RmsPairIdeal.main_arg3)
      ∧ m' ((c.tc : Thread Cert.RmsPairRefIdeal.nD Cert.RmsPairRefIdeal.τ).loc Cert.RmsPairRefIdeal.main_arg4) = m ((c.tc : Thread Cert.RmsPairIdeal.nD Cert.RmsPairIdeal.τ).loc Cert.RmsPairIdeal.main_arg4)
      ∧ m' ((c.tc : Thread Cert.RmsPairRefIdeal.nD Cert.RmsPairRefIdeal.τ).loc Cert.RmsPairRefIdeal.main_arg5) = m ((c.tc : Thread Cert.RmsPairIdeal.nD Cert.RmsPairIdeal.τ).loc Cert.RmsPairIdeal.main_arg5)) →
    ∃ (v0 : (c : Dev Cert.RmsPairIdeal.nD) → Buf (Elt Ideal) ((c.tc : Thread Cert.RmsPairIdeal.nD Cert.RmsPairIdeal.τ).loc Cert.RmsPairIdeal.main_v13_0)) (v1 : (c : Dev Cert.RmsPairIdeal.nD) → Buf (Elt Ideal) ((c.tc : Thread Cert.RmsPairIdeal.nD Cert.RmsPairIdeal.τ).loc Cert.RmsPairIdeal.main_v13_1)) (v2 : (c : Dev Cert.RmsPairIdeal.nD) → Buf (Elt Ideal) ((c.tc : Thread Cert.RmsPairIdeal.nD Cert.RmsPairIdeal.τ).loc Cert.RmsPairIdeal.main_v13_2)) (v3 : (c : Dev Cert.RmsPairIdeal.nD) → Buf (Elt Ideal) ((c.tc : Thread Cert.RmsPairIdeal.nD Cert.RmsPairIdeal.τ).loc Cert.RmsPairIdeal.main_v13_3)),
      θ_run (Cert.RmsPairIdeal.defs (F := Ideal)) (onTc (τ := Cert.RmsPairIdeal.τ) (Cert.RmsPairIdeal.main (F := Ideal))) ⟨m, fun _ => 0, g⟩ (fun r => ∀ c : Dev Cert.RmsPairIdeal.nD,
          r.2.mem ((c.tc : Thread Cert.RmsPairIdeal.nD Cert.RmsPairIdeal.τ).loc Cert.RmsPairIdeal.main_v13_0) = v0 c
          ∧ r.2.mem ((c.tc : Thread Cert.RmsPairIdeal.nD Cert.RmsPairIdeal.τ).loc Cert.RmsPairIdeal.main_v13_1) = v1 c
          ∧ r.2.mem ((c.tc : Thread Cert.RmsPairIdeal.nD Cert.RmsPairIdeal.τ).loc Cert.RmsPairIdeal.main_v13_2) = v2 c
          ∧ r.2.mem ((c.tc : Thread Cert.RmsPairIdeal.nD Cert.RmsPairIdeal.τ).loc Cert.RmsPairIdeal.main_v13_3) = v3 c
          ∧ r.2.mem ((c.tc : Thread Cert.RmsPairIdeal.nD Cert.RmsPairIdeal.τ).loc Cert.RmsPairIdeal.main_arg0) = m ((c.tc : Thread Cert.RmsPairIdeal.nD Cert.RmsPairIdeal.τ).loc Cert.RmsPairIdeal.main_arg0)
          ∧ r.2.mem ((c.tc : Thread Cert.RmsPairIdeal.nD Cert.RmsPairIdeal.τ).loc Cert.RmsPairIdeal.main_arg1) = m ((c.tc : Thread Cert.RmsPairIdeal.nD Cert.RmsPairIdeal.τ).loc Cert.RmsPairIdeal.main_arg1)
          ∧ r.2.mem ((c.tc : Thread Cert.RmsPairIdeal.nD Cert.RmsPairIdeal.τ).loc Cert.RmsPairIdeal.main_arg2) = m ((c.tc : Thread Cert.RmsPairIdeal.nD Cert.RmsPairIdeal.τ).loc Cert.RmsPairIdeal.main_arg2)
          ∧ r.2.mem ((c.tc : Thread Cert.RmsPairIdeal.nD Cert.RmsPairIdeal.τ).loc Cert.RmsPairIdeal.main_arg3) = m ((c.tc : Thread Cert.RmsPairIdeal.nD Cert.RmsPairIdeal.τ).loc Cert.RmsPairIdeal.main_arg3)
          ∧ r.2.mem ((c.tc : Thread Cert.RmsPairIdeal.nD Cert.RmsPairIdeal.τ).loc Cert.RmsPairIdeal.main_arg4) = m ((c.tc : Thread Cert.RmsPairIdeal.nD Cert.RmsPairIdeal.τ).loc Cert.RmsPairIdeal.main_arg4)
          ∧ r.2.mem ((c.tc : Thread Cert.RmsPairIdeal.nD Cert.RmsPairIdeal.τ).loc Cert.RmsPairIdeal.main_arg5) = m ((c.tc : Thread Cert.RmsPairIdeal.nD Cert.RmsPairIdeal.τ).loc Cert.RmsPairIdeal.main_arg5))
      ∧ θ_run (Cert.RmsPairRefIdeal.defs (F := Ideal)) (onTc (τ := Cert.RmsPairRefIdeal.τ) (Cert.RmsPairRefIdeal.main (F := Ideal))) ⟨m', fun _ => 0, g'⟩ (fun r => ∀ c : Dev Cert.RmsPairRefIdeal.nD,
          r.2.mem ((c.tc : Thread Cert.RmsPairRefIdeal.nD Cert.RmsPairRefIdeal.τ).loc Cert.RmsPairRefIdeal.main_v50) = v0 c
          ∧ r.2.mem ((c.tc : Thread Cert.RmsPairRefIdeal.nD Cert.RmsPairRefIdeal.τ).loc Cert.RmsPairRefIdeal.main_v71) = v1 c
          ∧ r.2.mem ((c.tc : Thread Cert.RmsPairRefIdeal.nD Cert.RmsPairRefIdeal.τ).loc Cert.RmsPairRefIdeal.main_v33) = v2 c
          ∧ r.2.mem ((c.tc : Thread Cert.RmsPairRefIdeal.nD Cert.RmsPairRefIdeal.τ).loc Cert.RmsPairRefIdeal.main_v54) = v3 c
          ∧ r.2.mem ((c.tc : Thread Cert.RmsPairRefIdeal.nD Cert.RmsPairRefIdeal.τ).loc Cert.RmsPairRefIdeal.main_arg0) = m' ((c.tc : Thread Cert.RmsPairRefIdeal.nD Cert.RmsPairRefIdeal.τ).loc Cert.RmsPairRefIdeal.main_arg0)
          ∧ r.2.mem ((c.tc : Thread Cert.RmsPairRefIdeal.nD Cert.RmsPairRefIdeal.τ).loc Cert.RmsPairRefIdeal.main_arg1) = m' ((c.tc : Thread Cert.RmsPairRefIdeal.nD Cert.RmsPairRefIdeal.τ).loc Cert.RmsPairRefIdeal.main_arg1)
          ∧ r.2.mem ((c.tc : Thread Cert.RmsPairRefIdeal.nD Cert.RmsPairRefIdeal.τ).loc Cert.RmsPairRefIdeal.main_arg2) = m' ((c.tc : Thread Cert.RmsPairRefIdeal.nD Cert.RmsPairRefIdeal.τ).loc Cert.RmsPairRefIdeal.main_arg2)
          ∧ r.2.mem ((c.tc : Thread Cert.RmsPairRefIdeal.nD Cert.RmsPairRefIdeal.τ).loc Cert.RmsPairRefIdeal.main_arg3) = m' ((c.tc : Thread Cert.RmsPairRefIdeal.nD Cert.RmsPairRefIdeal.τ).loc Cert.RmsPairRefIdeal.main_arg3)
          ∧ r.2.mem ((c.tc : Thread Cert.RmsPairRefIdeal.nD Cert.RmsPairRefIdeal.τ).loc Cert.RmsPairRefIdeal.main_arg4) = m' ((c.tc : Thread Cert.RmsPairRefIdeal.nD Cert.RmsPairRefIdeal.τ).loc Cert.RmsPairRefIdeal.main_arg4)
          ∧ r.2.mem ((c.tc : Thread Cert.RmsPairRefIdeal.nD Cert.RmsPairRefIdeal.τ).loc Cert.RmsPairRefIdeal.main_arg5) = m' ((c.tc : Thread Cert.RmsPairRefIdeal.nD Cert.RmsPairRefIdeal.τ).loc Cert.RmsPairRefIdeal.main_arg5))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)) →
    ∃ (v0 : (c : Dev Cert.FinalIdeal.nD) → Buf (Elt Ideal) ((c.tc : Thread Cert.FinalIdeal.nD Cert.FinalIdeal.τ).loc Cert.FinalIdeal.main_v0_0)) (v1 : (c : Dev Cert.FinalIdeal.nD) → Buf (Elt Ideal) ((c.tc : Thread Cert.FinalIdeal.nD Cert.FinalIdeal.τ).loc Cert.FinalIdeal.main_v0_1)) (v2 : (c : Dev Cert.FinalIdeal.nD) → Buf (Elt Ideal) ((c.tc : Thread Cert.FinalIdeal.nD Cert.FinalIdeal.τ).loc Cert.FinalIdeal.main_v0_2)) (v3 : (c : Dev Cert.FinalIdeal.nD) → Buf (Elt Ideal) ((c.tc : Thread Cert.FinalIdeal.nD Cert.FinalIdeal.τ).loc Cert.FinalIdeal.main_v0_3)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v0_0) = v0 c
          ∧ r.2.mem ((c.tc : Thread Cert.FinalIdeal.nD Cert.FinalIdeal.τ).loc Cert.FinalIdeal.main_v0_1) = v1 c
          ∧ r.2.mem ((c.tc : Thread Cert.FinalIdeal.nD Cert.FinalIdeal.τ).loc Cert.FinalIdeal.main_v0_2) = v2 c
          ∧ r.2.mem ((c.tc : Thread Cert.FinalIdeal.nD Cert.FinalIdeal.τ).loc Cert.FinalIdeal.main_v0_3) = v3 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v30) = v0 c
          ∧ r.2.mem ((c.tc : Thread Cert.FinalRefIdeal.nD Cert.FinalRefIdeal.τ).loc Cert.FinalRefIdeal.main_v50) = v1 c
          ∧ r.2.mem ((c.tc : Thread Cert.FinalRefIdeal.nD Cert.FinalRefIdeal.τ).loc Cert.FinalRefIdeal.main_v51) = v2 c
          ∧ r.2.mem ((c.tc : Thread Cert.FinalRefIdeal.nD Cert.FinalRefIdeal.τ).loc Cert.FinalRefIdeal.main_v33) = v3 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3))

def preserves_Swiglu_SwigluIdeal : Prop :=
  True

def algebraic_SwigluIdeal_SwigluRefIdeal_pre_finite_up_weight_and_cotangent [hSwigluIdeal : Cert.SwigluIdeal.Facts] [hSwigluRefIdeal : Cert.SwigluRefIdeal.Facts] [hPre_finite_up_weight_and_cotangent : Cert.Pre_finite_up_weight_and_cotangent.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal_finite_up_weight_and_cotangent m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)) →
    ∃ (v0 : (c : Dev Cert.SwigluIdeal.nD) → Buf (Elt Ideal) ((c.tc : Thread Cert.SwigluIdeal.nD Cert.SwigluIdeal.τ).loc Cert.SwigluIdeal.main_v6)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v6) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v10) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v11_0)) (v1 : (c : Dev Cert.MergeIdeal.nD) → Buf (Elt Ideal) ((c.tc : Thread Cert.MergeIdeal.nD Cert.MergeIdeal.τ).loc Cert.MergeIdeal.main_v11_1)) (v2 : (c : Dev Cert.MergeIdeal.nD) → Buf (Elt Ideal) ((c.tc : Thread Cert.MergeIdeal.nD Cert.MergeIdeal.τ).loc Cert.MergeIdeal.main_v11_2)) (v3 : (c : Dev Cert.MergeIdeal.nD) → Buf (Elt Ideal) ((c.tc : Thread Cert.MergeIdeal.nD Cert.MergeIdeal.τ).loc Cert.MergeIdeal.main_v11_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v11_0) = v0 c
          ∧ r.2.mem ((c.tc : Thread Cert.MergeIdeal.nD Cert.MergeIdeal.τ).loc Cert.MergeIdeal.main_v11_1) = v1 c
          ∧ r.2.mem ((c.tc : Thread Cert.MergeIdeal.nD Cert.MergeIdeal.τ).loc Cert.MergeIdeal.main_v11_2) = v2 c
          ∧ r.2.mem ((c.tc : Thread Cert.MergeIdeal.nD Cert.MergeIdeal.τ).loc Cert.MergeIdeal.main_v11_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v40) = v0 c
          ∧ r.2.mem ((c.tc : Thread Cert.MergeRefIdeal.nD Cert.MergeRefIdeal.τ).loc Cert.MergeRefIdeal.main_v41) = v1 c
          ∧ r.2.mem ((c.tc : Thread Cert.MergeRefIdeal.nD Cert.MergeRefIdeal.τ).loc Cert.MergeRefIdeal.main_v42) = v2 c
          ∧ r.2.mem ((c.tc : Thread Cert.MergeRefIdeal.nD Cert.MergeRefIdeal.τ).loc Cert.MergeRefIdeal.main_v43) = v3 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_MemAttn_MemAttnIdeal : Prop :=
  True

def algebraic_MemAttnIdeal_MemAttnRefIdeal_pre_finite_queries_and_keys [hMemAttnIdeal : Cert.MemAttnIdeal.Facts] [hMemAttnRefIdeal : Cert.MemAttnRefIdeal.Facts] [hPre_finite_queries_and_keys : Cert.Pre_finite_queries_and_keys.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal_finite_queries_and_keys m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)
      ∧ m' ((c.tc : Thread Cert.MemAttnRefIdeal.nD Cert.MemAttnRefIdeal.τ).loc Cert.MemAttnRefIdeal.main_arg2) = m ((c.tc : Thread Cert.MemAttnIdeal.nD Cert.MemAttnIdeal.τ).loc Cert.MemAttnIdeal.main_arg2)) →
    ∃ (v0 : (c : Dev Cert.MemAttnIdeal.nD) → Buf (Elt Ideal) ((c.tc : Thread Cert.MemAttnIdeal.nD Cert.MemAttnIdeal.τ).loc Cert.MemAttnIdeal.main_v6_0)) (v1 : (c : Dev Cert.MemAttnIdeal.nD) → Buf (Elt Ideal) ((c.tc : Thread Cert.MemAttnIdeal.nD Cert.MemAttnIdeal.τ).loc Cert.MemAttnIdeal.main_v6_1)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v6_0) = v0 c
          ∧ r.2.mem ((c.tc : Thread Cert.MemAttnIdeal.nD Cert.MemAttnIdeal.τ).loc Cert.MemAttnIdeal.main_v6_1) = v1 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
          ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v67) = v0 c
          ∧ r.2.mem ((c.tc : Thread Cert.MemAttnRefIdeal.nD Cert.MemAttnRefIdeal.τ).loc Cert.MemAttnRefIdeal.main_v65) = v1 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1)
          ∧ r.2.mem ((c.tc : Thread Cert.MemAttnRefIdeal.nD Cert.MemAttnRefIdeal.τ).loc Cert.MemAttnRefIdeal.main_arg2) = m' ((c.tc : Thread Cert.MemAttnRefIdeal.nD Cert.MemAttnRefIdeal.τ).loc Cert.MemAttnRefIdeal.main_arg2))

def preserves_Cumsum_CumsumIdeal : Prop :=
  True

def algebraic_CumsumIdeal_CumsumRefIdeal [hCumsumIdeal : Cert.CumsumIdeal.Facts] [hCumsumRefIdeal : Cert.CumsumRefIdeal.Facts] : Prop :=
  ∀ (m : (ℓ : Loc Cert.CumsumIdeal.nD Cert.CumsumIdeal.τ Cert.CumsumIdeal.sig) → Buf (Elt Ideal) ℓ) (g : Dev Cert.CumsumIdeal.nD → PrngReg)
    (m' : (ℓ : Loc Cert.CumsumRefIdeal.nD Cert.CumsumRefIdeal.τ Cert.CumsumRefIdeal.sig) → Buf (Elt Ideal) ℓ) (g' : Dev Cert.CumsumRefIdeal.nD → PrngReg), Pre_CumsumIdeal m →
    (∀ c : Dev Cert.CumsumIdeal.nD,
      m' ((c.tc : Thread Cert.CumsumRefIdeal.nD Cert.CumsumRefIdeal.τ).loc Cert.CumsumRefIdeal.main_arg0) = m ((c.tc : Thread Cert.CumsumIdeal.nD Cert.CumsumIdeal.τ).loc Cert.CumsumIdeal.main_arg0)
      ∧ m' ((c.tc : Thread Cert.CumsumRefIdeal.nD Cert.CumsumRefIdeal.τ).loc Cert.CumsumRefIdeal.main_arg1) = m ((c.tc : Thread Cert.CumsumIdeal.nD Cert.CumsumIdeal.τ).loc Cert.CumsumIdeal.main_arg1)) →
    ∃ (v0 : (c : Dev Cert.CumsumIdeal.nD) → Buf (Elt Ideal) ((c.tc : Thread Cert.CumsumIdeal.nD Cert.CumsumIdeal.τ).loc Cert.CumsumIdeal.main_v0)),
      θ_run (Cert.CumsumIdeal.defs (F := Ideal)) (onTc (τ := Cert.CumsumIdeal.τ) (Cert.CumsumIdeal.main (F := Ideal))) ⟨m, fun _ => 0, g⟩ (fun r => ∀ c : Dev Cert.CumsumIdeal.nD,
          r.2.mem ((c.tc : Thread Cert.CumsumIdeal.nD Cert.CumsumIdeal.τ).loc Cert.CumsumIdeal.main_v0) = v0 c
          ∧ r.2.mem ((c.tc : Thread Cert.CumsumIdeal.nD Cert.CumsumIdeal.τ).loc Cert.CumsumIdeal.main_arg0) = m ((c.tc : Thread Cert.CumsumIdeal.nD Cert.CumsumIdeal.τ).loc Cert.CumsumIdeal.main_arg0)
          ∧ r.2.mem ((c.tc : Thread Cert.CumsumIdeal.nD Cert.CumsumIdeal.τ).loc Cert.CumsumIdeal.main_arg1) = m ((c.tc : Thread Cert.CumsumIdeal.nD Cert.CumsumIdeal.τ).loc Cert.CumsumIdeal.main_arg1))
      ∧ θ_run (Cert.CumsumRefIdeal.defs (F := Ideal)) (onTc (τ := Cert.CumsumRefIdeal.τ) (Cert.CumsumRefIdeal.main (F := Ideal))) ⟨m', fun _ => 0, g'⟩ (fun r => ∀ c : Dev Cert.CumsumRefIdeal.nD,
          r.2.mem ((c.tc : Thread Cert.CumsumRefIdeal.nD Cert.CumsumRefIdeal.τ).loc Cert.CumsumRefIdeal.main_v3) = v0 c
          ∧ r.2.mem ((c.tc : Thread Cert.CumsumRefIdeal.nD Cert.CumsumRefIdeal.τ).loc Cert.CumsumRefIdeal.main_arg0) = m' ((c.tc : Thread Cert.CumsumRefIdeal.nD Cert.CumsumRefIdeal.τ).loc Cert.CumsumRefIdeal.main_arg0)
          ∧ r.2.mem ((c.tc : Thread Cert.CumsumRefIdeal.nD Cert.CumsumRefIdeal.τ).loc Cert.CumsumRefIdeal.main_arg1) = m' ((c.tc : Thread Cert.CumsumRefIdeal.nD Cert.CumsumRefIdeal.τ).loc Cert.CumsumRefIdeal.main_arg1))

def preserves_Attn_AttnIdeal : Prop :=
  IdealRules.named_const.Statement Cert.AttnIdeal.κ "mask" .f32 0xF149F2CA#32 ⊥

def algebraic_AttnIdeal_AttnRefIdeal_pre_finite_queries_keys_values_gates_and_cotangent [hAttnIdeal : Cert.AttnIdeal.Facts] [hAttnRefIdeal : Cert.AttnRefIdeal.Facts] [hPre_finite_queries_keys_values_gates_and_cotangent : Cert.Pre_finite_queries_keys_values_gates_and_cotangent.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_queries_keys_values_gates_and_cotangent m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v52_0)) (v1 : (c : Dev Cert.AttnIdeal.nD) → Buf (Elt Ideal) ((c.tc : Thread Cert.AttnIdeal.nD Cert.AttnIdeal.τ).loc Cert.AttnIdeal.main_v52_1)) (v2 : (c : Dev Cert.AttnIdeal.nD) → Buf (Elt Ideal) ((c.tc : Thread Cert.AttnIdeal.nD Cert.AttnIdeal.τ).loc Cert.AttnIdeal.main_v52_2)) (v3 : (c : Dev Cert.AttnIdeal.nD) → Buf (Elt Ideal) ((c.tc : Thread Cert.AttnIdeal.nD Cert.AttnIdeal.τ).loc Cert.AttnIdeal.main_v52_3)) (v4 : (c : Dev Cert.AttnIdeal.nD) → Buf (Elt Ideal) ((c.tc : Thread Cert.AttnIdeal.nD Cert.AttnIdeal.τ).loc Cert.AttnIdeal.main_v52_4)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v52_0) = v0 c
          ∧ r.2.mem ((c.tc : Thread Cert.AttnIdeal.nD Cert.AttnIdeal.τ).loc Cert.AttnIdeal.main_v52_1) = v1 c
          ∧ r.2.mem ((c.tc : Thread Cert.AttnIdeal.nD Cert.AttnIdeal.τ).loc Cert.AttnIdeal.main_v52_2) = v2 c
          ∧ r.2.mem ((c.tc : Thread Cert.AttnIdeal.nD Cert.AttnIdeal.τ).loc Cert.AttnIdeal.main_v52_3) = v3 c
          ∧ r.2.mem ((c.tc : Thread Cert.AttnIdeal.nD Cert.AttnIdeal.τ).loc Cert.AttnIdeal.main_v52_4) = v4 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v91) = v0 c
          ∧ r.2.mem ((c.tc : Thread Cert.AttnRefIdeal.nD Cert.AttnRefIdeal.τ).loc Cert.AttnRefIdeal.main_v92) = v1 c
          ∧ r.2.mem ((c.tc : Thread Cert.AttnRefIdeal.nD Cert.AttnRefIdeal.τ).loc Cert.AttnRefIdeal.main_v93) = v2 c
          ∧ r.2.mem ((c.tc : Thread Cert.AttnRefIdeal.nD Cert.AttnRefIdeal.τ).loc Cert.AttnRefIdeal.main_v94) = v3 c
          ∧ r.2.mem ((c.tc : Thread Cert.AttnRefIdeal.nD Cert.AttnRefIdeal.τ).loc Cert.AttnRefIdeal.main_v95) = v4 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_RmsMemFwd_RmsMemFwdIdeal : Prop :=
  True

def algebraic_RmsMemFwdIdeal_RmsMemFwdRefIdeal [hRmsMemFwdIdeal : Cert.RmsMemFwdIdeal.Facts] [hRmsMemFwdRefIdeal : Cert.RmsMemFwdRefIdeal.Facts] : Prop :=
  ∀ (m : (ℓ : Loc Cert.RmsMemFwdIdeal.nD Cert.RmsMemFwdIdeal.τ Cert.RmsMemFwdIdeal.sig) → Buf (Elt Ideal) ℓ) (g : Dev Cert.RmsMemFwdIdeal.nD → PrngReg)
    (m' : (ℓ : Loc Cert.RmsMemFwdRefIdeal.nD Cert.RmsMemFwdRefIdeal.τ Cert.RmsMemFwdRefIdeal.sig) → Buf (Elt Ideal) ℓ) (g' : Dev Cert.RmsMemFwdRefIdeal.nD → PrngReg), Pre_RmsMemFwdIdeal m →
    (∀ c : Dev Cert.RmsMemFwdIdeal.nD,
      m' ((c.tc : Thread Cert.RmsMemFwdRefIdeal.nD Cert.RmsMemFwdRefIdeal.τ).loc Cert.RmsMemFwdRefIdeal.main_arg0) = m ((c.tc : Thread Cert.RmsMemFwdIdeal.nD Cert.RmsMemFwdIdeal.τ).loc Cert.RmsMemFwdIdeal.main_arg0)
      ∧ m' ((c.tc : Thread Cert.RmsMemFwdRefIdeal.nD Cert.RmsMemFwdRefIdeal.τ).loc Cert.RmsMemFwdRefIdeal.main_arg1) = m ((c.tc : Thread Cert.RmsMemFwdIdeal.nD Cert.RmsMemFwdIdeal.τ).loc Cert.RmsMemFwdIdeal.main_arg1)) →
    ∃ (v0 : (c : Dev Cert.RmsMemFwdIdeal.nD) → Buf (Elt Ideal) ((c.tc : Thread Cert.RmsMemFwdIdeal.nD Cert.RmsMemFwdIdeal.τ).loc Cert.RmsMemFwdIdeal.main_v0)),
      θ_run (Cert.RmsMemFwdIdeal.defs (F := Ideal)) (onTc (τ := Cert.RmsMemFwdIdeal.τ) (Cert.RmsMemFwdIdeal.main (F := Ideal))) ⟨m, fun _ => 0, g⟩ (fun r => ∀ c : Dev Cert.RmsMemFwdIdeal.nD,
          r.2.mem ((c.tc : Thread Cert.RmsMemFwdIdeal.nD Cert.RmsMemFwdIdeal.τ).loc Cert.RmsMemFwdIdeal.main_v0) = v0 c
          ∧ r.2.mem ((c.tc : Thread Cert.RmsMemFwdIdeal.nD Cert.RmsMemFwdIdeal.τ).loc Cert.RmsMemFwdIdeal.main_arg0) = m ((c.tc : Thread Cert.RmsMemFwdIdeal.nD Cert.RmsMemFwdIdeal.τ).loc Cert.RmsMemFwdIdeal.main_arg0)
          ∧ r.2.mem ((c.tc : Thread Cert.RmsMemFwdIdeal.nD Cert.RmsMemFwdIdeal.τ).loc Cert.RmsMemFwdIdeal.main_arg1) = m ((c.tc : Thread Cert.RmsMemFwdIdeal.nD Cert.RmsMemFwdIdeal.τ).loc Cert.RmsMemFwdIdeal.main_arg1))
      ∧ θ_run (Cert.RmsMemFwdRefIdeal.defs (F := Ideal)) (onTc (τ := Cert.RmsMemFwdRefIdeal.τ) (Cert.RmsMemFwdRefIdeal.main (F := Ideal))) ⟨m', fun _ => 0, g'⟩ (fun r => ∀ c : Dev Cert.RmsMemFwdRefIdeal.nD,
          r.2.mem ((c.tc : Thread Cert.RmsMemFwdRefIdeal.nD Cert.RmsMemFwdRefIdeal.τ).loc Cert.RmsMemFwdRefIdeal.main_v12) = v0 c
          ∧ r.2.mem ((c.tc : Thread Cert.RmsMemFwdRefIdeal.nD Cert.RmsMemFwdRefIdeal.τ).loc Cert.RmsMemFwdRefIdeal.main_arg0) = m' ((c.tc : Thread Cert.RmsMemFwdRefIdeal.nD Cert.RmsMemFwdRefIdeal.τ).loc Cert.RmsMemFwdRefIdeal.main_arg0)
          ∧ r.2.mem ((c.tc : Thread Cert.RmsMemFwdRefIdeal.nD Cert.RmsMemFwdRefIdeal.τ).loc Cert.RmsMemFwdRefIdeal.main_arg1) = m' ((c.tc : Thread Cert.RmsMemFwdRefIdeal.nD Cert.RmsMemFwdRefIdeal.τ).loc Cert.RmsMemFwdRefIdeal.main_arg1))

def preserves_RmsPreFwd_RmsPreFwdIdeal : Prop :=
  True

def algebraic_RmsPreFwdIdeal_RmsPreFwdRefIdeal [hRmsPreFwdIdeal : Cert.RmsPreFwdIdeal.Facts] [hRmsPreFwdRefIdeal : Cert.RmsPreFwdRefIdeal.Facts] : Prop :=
  ∀ (m : (ℓ : Loc Cert.RmsPreFwdIdeal.nD Cert.RmsPreFwdIdeal.τ Cert.RmsPreFwdIdeal.sig) → Buf (Elt Ideal) ℓ) (g : Dev Cert.RmsPreFwdIdeal.nD → PrngReg)
    (m' : (ℓ : Loc Cert.RmsPreFwdRefIdeal.nD Cert.RmsPreFwdRefIdeal.τ Cert.RmsPreFwdRefIdeal.sig) → Buf (Elt Ideal) ℓ) (g' : Dev Cert.RmsPreFwdRefIdeal.nD → PrngReg), Pre_RmsPreFwdIdeal m →
    (∀ c : Dev Cert.RmsPreFwdIdeal.nD,
      m' ((c.tc : Thread Cert.RmsPreFwdRefIdeal.nD Cert.RmsPreFwdRefIdeal.τ).loc Cert.RmsPreFwdRefIdeal.main_arg0) = m ((c.tc : Thread Cert.RmsPreFwdIdeal.nD Cert.RmsPreFwdIdeal.τ).loc Cert.RmsPreFwdIdeal.main_arg0)
      ∧ m' ((c.tc : Thread Cert.RmsPreFwdRefIdeal.nD Cert.RmsPreFwdRefIdeal.τ).loc Cert.RmsPreFwdRefIdeal.main_arg1) = m ((c.tc : Thread Cert.RmsPreFwdIdeal.nD Cert.RmsPreFwdIdeal.τ).loc Cert.RmsPreFwdIdeal.main_arg1)
      ∧ m' ((c.tc : Thread Cert.RmsPreFwdRefIdeal.nD Cert.RmsPreFwdRefIdeal.τ).loc Cert.RmsPreFwdRefIdeal.main_arg2) = m ((c.tc : Thread Cert.RmsPreFwdIdeal.nD Cert.RmsPreFwdIdeal.τ).loc Cert.RmsPreFwdIdeal.main_arg2)) →
    ∃ (v0 : (c : Dev Cert.RmsPreFwdIdeal.nD) → Buf (Elt Ideal) ((c.tc : Thread Cert.RmsPreFwdIdeal.nD Cert.RmsPreFwdIdeal.τ).loc Cert.RmsPreFwdIdeal.main_v3_0)) (v1 : (c : Dev Cert.RmsPreFwdIdeal.nD) → Buf (Elt Ideal) ((c.tc : Thread Cert.RmsPreFwdIdeal.nD Cert.RmsPreFwdIdeal.τ).loc Cert.RmsPreFwdIdeal.main_v3_1)),
      θ_run (Cert.RmsPreFwdIdeal.defs (F := Ideal)) (onTc (τ := Cert.RmsPreFwdIdeal.τ) (Cert.RmsPreFwdIdeal.main (F := Ideal))) ⟨m, fun _ => 0, g⟩ (fun r => ∀ c : Dev Cert.RmsPreFwdIdeal.nD,
          r.2.mem ((c.tc : Thread Cert.RmsPreFwdIdeal.nD Cert.RmsPreFwdIdeal.τ).loc Cert.RmsPreFwdIdeal.main_v3_0) = v0 c
          ∧ r.2.mem ((c.tc : Thread Cert.RmsPreFwdIdeal.nD Cert.RmsPreFwdIdeal.τ).loc Cert.RmsPreFwdIdeal.main_v3_1) = v1 c
          ∧ r.2.mem ((c.tc : Thread Cert.RmsPreFwdIdeal.nD Cert.RmsPreFwdIdeal.τ).loc Cert.RmsPreFwdIdeal.main_arg0) = m ((c.tc : Thread Cert.RmsPreFwdIdeal.nD Cert.RmsPreFwdIdeal.τ).loc Cert.RmsPreFwdIdeal.main_arg0)
          ∧ r.2.mem ((c.tc : Thread Cert.RmsPreFwdIdeal.nD Cert.RmsPreFwdIdeal.τ).loc Cert.RmsPreFwdIdeal.main_arg1) = m ((c.tc : Thread Cert.RmsPreFwdIdeal.nD Cert.RmsPreFwdIdeal.τ).loc Cert.RmsPreFwdIdeal.main_arg1)
          ∧ r.2.mem ((c.tc : Thread Cert.RmsPreFwdIdeal.nD Cert.RmsPreFwdIdeal.τ).loc Cert.RmsPreFwdIdeal.main_arg2) = m ((c.tc : Thread Cert.RmsPreFwdIdeal.nD Cert.RmsPreFwdIdeal.τ).loc Cert.RmsPreFwdIdeal.main_arg2))
      ∧ θ_run (Cert.RmsPreFwdRefIdeal.defs (F := Ideal)) (onTc (τ := Cert.RmsPreFwdRefIdeal.τ) (Cert.RmsPreFwdRefIdeal.main (F := Ideal))) ⟨m', fun _ => 0, g'⟩ (fun r => ∀ c : Dev Cert.RmsPreFwdRefIdeal.nD,
          r.2.mem ((c.tc : Thread Cert.RmsPreFwdRefIdeal.nD Cert.RmsPreFwdRefIdeal.τ).loc Cert.RmsPreFwdRefIdeal.main_v12) = v0 c
          ∧ r.2.mem ((c.tc : Thread Cert.RmsPreFwdRefIdeal.nD Cert.RmsPreFwdRefIdeal.τ).loc Cert.RmsPreFwdRefIdeal.main_v14) = v1 c
          ∧ r.2.mem ((c.tc : Thread Cert.RmsPreFwdRefIdeal.nD Cert.RmsPreFwdRefIdeal.τ).loc Cert.RmsPreFwdRefIdeal.main_arg0) = m' ((c.tc : Thread Cert.RmsPreFwdRefIdeal.nD Cert.RmsPreFwdRefIdeal.τ).loc Cert.RmsPreFwdRefIdeal.main_arg0)
          ∧ r.2.mem ((c.tc : Thread Cert.RmsPreFwdRefIdeal.nD Cert.RmsPreFwdRefIdeal.τ).loc Cert.RmsPreFwdRefIdeal.main_arg1) = m' ((c.tc : Thread Cert.RmsPreFwdRefIdeal.nD Cert.RmsPreFwdRefIdeal.τ).loc Cert.RmsPreFwdRefIdeal.main_arg1)
          ∧ r.2.mem ((c.tc : Thread Cert.RmsPreFwdRefIdeal.nD Cert.RmsPreFwdRefIdeal.τ).loc Cert.RmsPreFwdRefIdeal.main_arg2) = m' ((c.tc : Thread Cert.RmsPreFwdRefIdeal.nD Cert.RmsPreFwdRefIdeal.τ).loc Cert.RmsPreFwdRefIdeal.main_arg2))

def preserves_ForgetFwd_ForgetFwdIdeal : Prop :=
  True

def algebraic_ForgetFwdIdeal_ForgetFwdRefIdeal [hForgetFwdIdeal : Cert.ForgetFwdIdeal.Facts] [hForgetFwdRefIdeal : Cert.ForgetFwdRefIdeal.Facts] : Prop :=
  ∀ (m : (ℓ : Loc Cert.ForgetFwdIdeal.nD Cert.ForgetFwdIdeal.τ Cert.ForgetFwdIdeal.sig) → Buf (Elt Ideal) ℓ) (g : Dev Cert.ForgetFwdIdeal.nD → PrngReg)
    (m' : (ℓ : Loc Cert.ForgetFwdRefIdeal.nD Cert.ForgetFwdRefIdeal.τ Cert.ForgetFwdRefIdeal.sig) → Buf (Elt Ideal) ℓ) (g' : Dev Cert.ForgetFwdRefIdeal.nD → PrngReg), Pre_ForgetFwdIdeal m →
    (∀ c : Dev Cert.ForgetFwdIdeal.nD,
      m' ((c.tc : Thread Cert.ForgetFwdRefIdeal.nD Cert.ForgetFwdRefIdeal.τ).loc Cert.ForgetFwdRefIdeal.main_arg0) = m ((c.tc : Thread Cert.ForgetFwdIdeal.nD Cert.ForgetFwdIdeal.τ).loc Cert.ForgetFwdIdeal.main_arg0)
      ∧ m' ((c.tc : Thread Cert.ForgetFwdRefIdeal.nD Cert.ForgetFwdRefIdeal.τ).loc Cert.ForgetFwdRefIdeal.main_arg1) = m ((c.tc : Thread Cert.ForgetFwdIdeal.nD Cert.ForgetFwdIdeal.τ).loc Cert.ForgetFwdIdeal.main_arg1)) →
    ∃ (v0 : (c : Dev Cert.ForgetFwdIdeal.nD) → Buf (Elt Ideal) ((c.tc : Thread Cert.ForgetFwdIdeal.nD Cert.ForgetFwdIdeal.τ).loc Cert.ForgetFwdIdeal.main_v2)),
      θ_run (Cert.ForgetFwdIdeal.defs (F := Ideal)) (onTc (τ := Cert.ForgetFwdIdeal.τ) (Cert.ForgetFwdIdeal.main (F := Ideal))) ⟨m, fun _ => 0, g⟩ (fun r => ∀ c : Dev Cert.ForgetFwdIdeal.nD,
          r.2.mem ((c.tc : Thread Cert.ForgetFwdIdeal.nD Cert.ForgetFwdIdeal.τ).loc Cert.ForgetFwdIdeal.main_v2) = v0 c
          ∧ r.2.mem ((c.tc : Thread Cert.ForgetFwdIdeal.nD Cert.ForgetFwdIdeal.τ).loc Cert.ForgetFwdIdeal.main_arg0) = m ((c.tc : Thread Cert.ForgetFwdIdeal.nD Cert.ForgetFwdIdeal.τ).loc Cert.ForgetFwdIdeal.main_arg0)
          ∧ r.2.mem ((c.tc : Thread Cert.ForgetFwdIdeal.nD Cert.ForgetFwdIdeal.τ).loc Cert.ForgetFwdIdeal.main_arg1) = m ((c.tc : Thread Cert.ForgetFwdIdeal.nD Cert.ForgetFwdIdeal.τ).loc Cert.ForgetFwdIdeal.main_arg1))
      ∧ θ_run (Cert.ForgetFwdRefIdeal.defs (F := Ideal)) (onTc (τ := Cert.ForgetFwdRefIdeal.τ) (Cert.ForgetFwdRefIdeal.main (F := Ideal))) ⟨m', fun _ => 0, g'⟩ (fun r => ∀ c : Dev Cert.ForgetFwdRefIdeal.nD,
          r.2.mem ((c.tc : Thread Cert.ForgetFwdRefIdeal.nD Cert.ForgetFwdRefIdeal.τ).loc Cert.ForgetFwdRefIdeal.main_v4) = v0 c
          ∧ r.2.mem ((c.tc : Thread Cert.ForgetFwdRefIdeal.nD Cert.ForgetFwdRefIdeal.τ).loc Cert.ForgetFwdRefIdeal.main_arg0) = m' ((c.tc : Thread Cert.ForgetFwdRefIdeal.nD Cert.ForgetFwdRefIdeal.τ).loc Cert.ForgetFwdRefIdeal.main_arg0)
          ∧ r.2.mem ((c.tc : Thread Cert.ForgetFwdRefIdeal.nD Cert.ForgetFwdRefIdeal.τ).loc Cert.ForgetFwdRefIdeal.main_arg1) = m' ((c.tc : Thread Cert.ForgetFwdRefIdeal.nD Cert.ForgetFwdRefIdeal.τ).loc Cert.ForgetFwdRefIdeal.main_arg1))

def preserves_CumsumFwd_CumsumFwdIdeal : Prop :=
  True

def algebraic_CumsumFwdIdeal_CumsumFwdRefIdeal [hCumsumFwdIdeal : Cert.CumsumFwdIdeal.Facts] [hCumsumFwdRefIdeal : Cert.CumsumFwdRefIdeal.Facts] : Prop :=
  ∀ (m : (ℓ : Loc Cert.CumsumFwdIdeal.nD Cert.CumsumFwdIdeal.τ Cert.CumsumFwdIdeal.sig) → Buf (Elt Ideal) ℓ) (g : Dev Cert.CumsumFwdIdeal.nD → PrngReg)
    (m' : (ℓ : Loc Cert.CumsumFwdRefIdeal.nD Cert.CumsumFwdRefIdeal.τ Cert.CumsumFwdRefIdeal.sig) → Buf (Elt Ideal) ℓ) (g' : Dev Cert.CumsumFwdRefIdeal.nD → PrngReg), Pre_CumsumFwdIdeal m →
    (∀ c : Dev Cert.CumsumFwdIdeal.nD,
      m' ((c.tc : Thread Cert.CumsumFwdRefIdeal.nD Cert.CumsumFwdRefIdeal.τ).loc Cert.CumsumFwdRefIdeal.main_arg0) = m ((c.tc : Thread Cert.CumsumFwdIdeal.nD Cert.CumsumFwdIdeal.τ).loc Cert.CumsumFwdIdeal.main_arg0)) →
    ∃ (v0 : (c : Dev Cert.CumsumFwdIdeal.nD) → Buf (Elt Ideal) ((c.tc : Thread Cert.CumsumFwdIdeal.nD Cert.CumsumFwdIdeal.τ).loc Cert.CumsumFwdIdeal.main_v0)),
      θ_run (Cert.CumsumFwdIdeal.defs (F := Ideal)) (onTc (τ := Cert.CumsumFwdIdeal.τ) (Cert.CumsumFwdIdeal.main (F := Ideal))) ⟨m, fun _ => 0, g⟩ (fun r => ∀ c : Dev Cert.CumsumFwdIdeal.nD,
          r.2.mem ((c.tc : Thread Cert.CumsumFwdIdeal.nD Cert.CumsumFwdIdeal.τ).loc Cert.CumsumFwdIdeal.main_v0) = v0 c
          ∧ r.2.mem ((c.tc : Thread Cert.CumsumFwdIdeal.nD Cert.CumsumFwdIdeal.τ).loc Cert.CumsumFwdIdeal.main_arg0) = m ((c.tc : Thread Cert.CumsumFwdIdeal.nD Cert.CumsumFwdIdeal.τ).loc Cert.CumsumFwdIdeal.main_arg0))
      ∧ θ_run (Cert.CumsumFwdRefIdeal.defs (F := Ideal)) (onTc (τ := Cert.CumsumFwdRefIdeal.τ) (Cert.CumsumFwdRefIdeal.main (F := Ideal))) ⟨m', fun _ => 0, g'⟩ (fun r => ∀ c : Dev Cert.CumsumFwdRefIdeal.nD,
          r.2.mem ((c.tc : Thread Cert.CumsumFwdRefIdeal.nD Cert.CumsumFwdRefIdeal.τ).loc Cert.CumsumFwdRefIdeal.main_v0) = v0 c
          ∧ r.2.mem ((c.tc : Thread Cert.CumsumFwdRefIdeal.nD Cert.CumsumFwdRefIdeal.τ).loc Cert.CumsumFwdRefIdeal.main_arg0) = m' ((c.tc : Thread Cert.CumsumFwdRefIdeal.nD Cert.CumsumFwdRefIdeal.τ).loc Cert.CumsumFwdRefIdeal.main_arg0))

def preserves_MemFwd_MemFwdIdeal : Prop :=
  True

def algebraic_MemFwdIdeal_MemFwdRefIdeal [hMemFwdIdeal : Cert.MemFwdIdeal.Facts] [hMemFwdRefIdeal : Cert.MemFwdRefIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg)
    (m' : (ℓ : Loc Cert.MemFwdRefIdeal.nD Cert.MemFwdRefIdeal.τ Cert.MemFwdRefIdeal.sig) → Buf (Elt Ideal) ℓ) (g' : Dev Cert.MemFwdRefIdeal.nD → PrngReg), Pre_MemFwdIdeal m →
    (∀ c : Dev Cert.MemFwdIdeal.nD,
      m' ((c.tc : Thread Cert.MemFwdRefIdeal.nD Cert.MemFwdRefIdeal.τ).loc Cert.MemFwdRefIdeal.main_arg0) = m ((c.tc : Thread Cert.MemFwdIdeal.nD Cert.MemFwdIdeal.τ).loc Cert.MemFwdIdeal.main_arg0)
      ∧ m' ((c.tc : Thread Cert.MemFwdRefIdeal.nD Cert.MemFwdRefIdeal.τ).loc Cert.MemFwdRefIdeal.main_arg1) = m ((c.tc : Thread Cert.MemFwdIdeal.nD Cert.MemFwdIdeal.τ).loc Cert.MemFwdIdeal.main_arg1)) →
    ∃ (v0 : (c : Dev Cert.MemFwdIdeal.nD) → Buf (Elt Ideal) ((c.tc : Thread Cert.MemFwdIdeal.nD Cert.MemFwdIdeal.τ).loc Cert.MemFwdIdeal.main_v5)),
      θ_run (Cert.MemFwdIdeal.defs (F := Ideal)) (onTc (τ := Cert.MemFwdIdeal.τ) (Cert.MemFwdIdeal.main (F := Ideal))) ⟨m, fun _ => 0, g⟩ (fun r => ∀ c : Dev Cert.MemFwdIdeal.nD,
          r.2.mem ((c.tc : Thread Cert.MemFwdIdeal.nD Cert.MemFwdIdeal.τ).loc Cert.MemFwdIdeal.main_v5) = v0 c
          ∧ r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
          ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1))
      ∧ θ_run (Cert.MemFwdRefIdeal.defs (F := Ideal)) (onTc (τ := Cert.MemFwdRefIdeal.τ) (Cert.MemFwdRefIdeal.main (F := Ideal))) ⟨m', fun _ => 0, g'⟩ (fun r => ∀ c : Dev Cert.MemFwdRefIdeal.nD,
          r.2.mem ((c.tc : Thread Cert.MemFwdRefIdeal.nD Cert.MemFwdRefIdeal.τ).loc Cert.MemFwdRefIdeal.main_v23) = v0 c
          ∧ r.2.mem ((c.tc : Thread Cert.MemFwdRefIdeal.nD Cert.MemFwdRefIdeal.τ).loc Cert.MemFwdRefIdeal.main_arg0) = m' ((c.tc : Thread Cert.MemFwdRefIdeal.nD Cert.MemFwdRefIdeal.τ).loc Cert.MemFwdRefIdeal.main_arg0)
          ∧ r.2.mem ((c.tc : Thread Cert.MemFwdRefIdeal.nD Cert.MemFwdRefIdeal.τ).loc Cert.MemFwdRefIdeal.main_arg1) = m' ((c.tc : Thread Cert.MemFwdRefIdeal.nD Cert.MemFwdRefIdeal.τ).loc Cert.MemFwdRefIdeal.main_arg1))

def preserves_SwigluFwd_SwigluFwdIdeal : Prop :=
  True

def algebraic_SwigluFwdIdeal_SwigluFwdRefIdeal [hSwigluFwdIdeal : Cert.SwigluFwdIdeal.Facts] [hSwigluFwdRefIdeal : Cert.SwigluFwdRefIdeal.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg)
    (m' : (ℓ : Loc Cert.SwigluFwdRefIdeal.nD Cert.SwigluFwdRefIdeal.τ Cert.SwigluFwdRefIdeal.sig) → Buf (Elt Ideal) ℓ) (g' : Dev Cert.SwigluFwdRefIdeal.nD → PrngReg), Pre_SwigluFwdIdeal m →
    (∀ c : Dev Cert.SwigluFwdIdeal.nD,
      m' ((c.tc : Thread Cert.SwigluFwdRefIdeal.nD Cert.SwigluFwdRefIdeal.τ).loc Cert.SwigluFwdRefIdeal.main_arg0) = m ((c.tc : Thread Cert.SwigluFwdIdeal.nD Cert.SwigluFwdIdeal.τ).loc Cert.SwigluFwdIdeal.main_arg0)
      ∧ m' ((c.tc : Thread Cert.SwigluFwdRefIdeal.nD Cert.SwigluFwdRefIdeal.τ).loc Cert.SwigluFwdRefIdeal.main_arg1) = m ((c.tc : Thread Cert.SwigluFwdIdeal.nD Cert.SwigluFwdIdeal.τ).loc Cert.SwigluFwdIdeal.main_arg1)) →
    ∃ (v0 : (c : Dev Cert.SwigluFwdIdeal.nD) → Buf (Elt Ideal) ((c.tc : Thread Cert.SwigluFwdIdeal.nD Cert.SwigluFwdIdeal.τ).loc Cert.SwigluFwdIdeal.main_v3_0)) (v1 : (c : Dev Cert.SwigluFwdIdeal.nD) → Buf (Elt Ideal) ((c.tc : Thread Cert.SwigluFwdIdeal.nD Cert.SwigluFwdIdeal.τ).loc Cert.SwigluFwdIdeal.main_v3_1)) (v2 : (c : Dev Cert.SwigluFwdIdeal.nD) → Buf (Elt Ideal) ((c.tc : Thread Cert.SwigluFwdIdeal.nD Cert.SwigluFwdIdeal.τ).loc Cert.SwigluFwdIdeal.main_v3_2)),
      θ_run (Cert.SwigluFwdIdeal.defs (F := Ideal)) (onTc (τ := Cert.SwigluFwdIdeal.τ) (Cert.SwigluFwdIdeal.main (F := Ideal))) ⟨m, fun _ => 0, g⟩ (fun r => ∀ c : Dev Cert.SwigluFwdIdeal.nD,
          r.2.mem ((c.tc : Thread Cert.SwigluFwdIdeal.nD Cert.SwigluFwdIdeal.τ).loc Cert.SwigluFwdIdeal.main_v3_0) = v0 c
          ∧ r.2.mem ((c.tc : Thread Cert.SwigluFwdIdeal.nD Cert.SwigluFwdIdeal.τ).loc Cert.SwigluFwdIdeal.main_v3_1) = v1 c
          ∧ r.2.mem ((c.tc : Thread Cert.SwigluFwdIdeal.nD Cert.SwigluFwdIdeal.τ).loc Cert.SwigluFwdIdeal.main_v3_2) = v2 c
          ∧ r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0)
          ∧ r.2.mem ((c.tc : Thread Cert.SwigluFwdIdeal.nD Cert.SwigluFwdIdeal.τ).loc Cert.SwigluFwdIdeal.main_arg1) = m ((c.tc : Thread Cert.SwigluFwdIdeal.nD Cert.SwigluFwdIdeal.τ).loc Cert.SwigluFwdIdeal.main_arg1))
      ∧ θ_run (Cert.SwigluFwdRefIdeal.defs (F := Ideal)) (onTc (τ := Cert.SwigluFwdRefIdeal.τ) (Cert.SwigluFwdRefIdeal.main (F := Ideal))) ⟨m', fun _ => 0, g'⟩ (fun r => ∀ c : Dev Cert.SwigluFwdRefIdeal.nD,
          r.2.mem ((c.tc : Thread Cert.SwigluFwdRefIdeal.nD Cert.SwigluFwdRefIdeal.τ).loc Cert.SwigluFwdRefIdeal.main_v5) = v0 c
          ∧ r.2.mem ((c.tc : Thread Cert.SwigluFwdRefIdeal.nD Cert.SwigluFwdRefIdeal.τ).loc Cert.SwigluFwdRefIdeal.main_v6) = v1 c
          ∧ r.2.mem ((c.tc : Thread Cert.SwigluFwdRefIdeal.nD Cert.SwigluFwdRefIdeal.τ).loc Cert.SwigluFwdRefIdeal.main_v7) = v2 c
          ∧ r.2.mem ((c.tc : Thread Cert.SwigluFwdRefIdeal.nD Cert.SwigluFwdRefIdeal.τ).loc Cert.SwigluFwdRefIdeal.main_arg0) = m' ((c.tc : Thread Cert.SwigluFwdRefIdeal.nD Cert.SwigluFwdRefIdeal.τ).loc Cert.SwigluFwdRefIdeal.main_arg0)
          ∧ r.2.mem ((c.tc : Thread Cert.SwigluFwdRefIdeal.nD Cert.SwigluFwdRefIdeal.τ).loc Cert.SwigluFwdRefIdeal.main_arg1) = m' ((c.tc : Thread Cert.SwigluFwdRefIdeal.nD Cert.SwigluFwdRefIdeal.τ).loc Cert.SwigluFwdRefIdeal.main_arg1))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)
      ∧ m' ((c.tc : Thread Cert.MergeFwdRefIdeal.nD Cert.MergeFwdRefIdeal.τ).loc Cert.MergeFwdRefIdeal.main_arg7) = m ((c.tc : Thread Cert.MergeFwdIdeal.nD Cert.MergeFwdIdeal.τ).loc Cert.MergeFwdIdeal.main_arg7)
      ∧ m' ((c.tc : Thread Cert.MergeFwdRefIdeal.nD Cert.MergeFwdRefIdeal.τ).loc Cert.MergeFwdRefIdeal.main_arg8) = m ((c.tc : Thread Cert.MergeFwdIdeal.nD Cert.MergeFwdIdeal.τ).loc Cert.MergeFwdIdeal.main_arg8)
      ∧ m' ((c.tc : Thread Cert.MergeFwdRefIdeal.nD Cert.MergeFwdRefIdeal.τ).loc Cert.MergeFwdRefIdeal.main_arg9) = m ((c.tc : Thread Cert.MergeFwdIdeal.nD Cert.MergeFwdIdeal.τ).loc Cert.MergeFwdIdeal.main_arg9)
      ∧ m' ((c.tc : Thread Cert.MergeFwdRefIdeal.nD Cert.MergeFwdRefIdeal.τ).loc Cert.MergeFwdRefIdeal.main_arg10) = m ((c.tc : Thread Cert.MergeFwdIdeal.nD Cert.MergeFwdIdeal.τ).loc Cert.MergeFwdIdeal.main_arg10)) →
    ∃ (v0 : (c : Dev Cert.MergeFwdIdeal.nD) → Buf (Elt Ideal) ((c.tc : Thread Cert.MergeFwdIdeal.nD Cert.MergeFwdIdeal.τ).loc Cert.MergeFwdIdeal.main_v11_0)) (v1 : (c : Dev Cert.MergeFwdIdeal.nD) → Buf (Elt Ideal) ((c.tc : Thread Cert.MergeFwdIdeal.nD Cert.MergeFwdIdeal.τ).loc Cert.MergeFwdIdeal.main_v11_1)) (v2 : (c : Dev Cert.MergeFwdIdeal.nD) → Buf (Elt Ideal) ((c.tc : Thread Cert.MergeFwdIdeal.nD Cert.MergeFwdIdeal.τ).loc Cert.MergeFwdIdeal.main_v11_2)) (v3 : (c : Dev Cert.MergeFwdIdeal.nD) → Buf (Elt Ideal) ((c.tc : Thread Cert.MergeFwdIdeal.nD Cert.MergeFwdIdeal.τ).loc Cert.MergeFwdIdeal.main_v11_3)) (v4 : (c : Dev Cert.MergeFwdIdeal.nD) → Buf (Elt Ideal) ((c.tc : Thread Cert.MergeFwdIdeal.nD Cert.MergeFwdIdeal.τ).loc Cert.MergeFwdIdeal.main_v11_4)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v11_0) = v0 c
          ∧ r.2.mem ((c.tc : Thread Cert.MergeFwdIdeal.nD Cert.MergeFwdIdeal.τ).loc Cert.MergeFwdIdeal.main_v11_1) = v1 c
          ∧ r.2.mem ((c.tc : Thread Cert.MergeFwdIdeal.nD Cert.MergeFwdIdeal.τ).loc Cert.MergeFwdIdeal.main_v11_2) = v2 c
          ∧ r.2.mem ((c.tc : Thread Cert.MergeFwdIdeal.nD Cert.MergeFwdIdeal.τ).loc Cert.MergeFwdIdeal.main_v11_3) = v3 c
          ∧ r.2.mem ((c.tc : Thread Cert.MergeFwdIdeal.nD Cert.MergeFwdIdeal.τ).loc Cert.MergeFwdIdeal.main_v11_4) = v4 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
          ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7)
          ∧ r.2.mem ((c.tc : Thread Cert.MergeFwdIdeal.nD Cert.MergeFwdIdeal.τ).loc Cert.MergeFwdIdeal.main_arg8) = m ((c.tc : Thread Cert.MergeFwdIdeal.nD Cert.MergeFwdIdeal.τ).loc Cert.MergeFwdIdeal.main_arg8)
          ∧ r.2.mem ((c.tc : Thread Cert.MergeFwdIdeal.nD Cert.MergeFwdIdeal.τ).loc Cert.MergeFwdIdeal.main_arg9) = m ((c.tc : Thread Cert.MergeFwdIdeal.nD Cert.MergeFwdIdeal.τ).loc Cert.MergeFwdIdeal.main_arg9)
          ∧ r.2.mem ((c.tc : Thread Cert.MergeFwdIdeal.nD Cert.MergeFwdIdeal.τ).loc Cert.MergeFwdIdeal.main_arg10) = m ((c.tc : Thread Cert.MergeFwdIdeal.nD Cert.MergeFwdIdeal.τ).loc Cert.MergeFwdIdeal.main_arg10))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v40) = v0 c
          ∧ r.2.mem ((c.tc : Thread Cert.MergeFwdRefIdeal.nD Cert.MergeFwdRefIdeal.τ).loc Cert.MergeFwdRefIdeal.main_v22) = v1 c
          ∧ r.2.mem ((c.tc : Thread Cert.MergeFwdRefIdeal.nD Cert.MergeFwdRefIdeal.τ).loc Cert.MergeFwdRefIdeal.main_v41) = v2 c
          ∧ r.2.mem ((c.tc : Thread Cert.MergeFwdRefIdeal.nD Cert.MergeFwdRefIdeal.τ).loc Cert.MergeFwdRefIdeal.main_v35) = v3 c
          ∧ r.2.mem ((c.tc : Thread Cert.MergeFwdRefIdeal.nD Cert.MergeFwdRefIdeal.τ).loc Cert.MergeFwdRefIdeal.main_v54) = v4 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6)
          ∧ r.2.mem ((c.tc : Thread Cert.MergeFwdRefIdeal.nD Cert.MergeFwdRefIdeal.τ).loc Cert.MergeFwdRefIdeal.main_arg7) = m' ((c.tc : Thread Cert.MergeFwdRefIdeal.nD Cert.MergeFwdRefIdeal.τ).loc Cert.MergeFwdRefIdeal.main_arg7)
          ∧ r.2.mem ((c.tc : Thread Cert.MergeFwdRefIdeal.nD Cert.MergeFwdRefIdeal.τ).loc Cert.MergeFwdRefIdeal.main_arg8) = m' ((c.tc : Thread Cert.MergeFwdRefIdeal.nD Cert.MergeFwdRefIdeal.τ).loc Cert.MergeFwdRefIdeal.main_arg8)
          ∧ r.2.mem ((c.tc : Thread Cert.MergeFwdRefIdeal.nD Cert.MergeFwdRefIdeal.τ).loc Cert.MergeFwdRefIdeal.main_arg9) = m' ((c.tc : Thread Cert.MergeFwdRefIdeal.nD Cert.MergeFwdRefIdeal.τ).loc Cert.MergeFwdRefIdeal.main_arg9)
          ∧ r.2.mem ((c.tc : Thread Cert.MergeFwdRefIdeal.nD Cert.MergeFwdRefIdeal.τ).loc Cert.MergeFwdRefIdeal.main_arg10) = m' ((c.tc : Thread Cert.MergeFwdRefIdeal.nD Cert.MergeFwdRefIdeal.τ).loc Cert.MergeFwdRefIdeal.main_arg10))

def preserves_AttnFwd_AttnFwdIdeal : Prop :=
  IdealRules.named_const.Statement Cert.AttnFwdIdeal.κ "mask" .f32 0xF149F2CA#32 ⊥

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v6) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v4) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)) (v3 : (c : Dev Cert.AdamwIdeal.nD) → Buf (Elt Ideal) ((c.tc : Thread Cert.AdamwIdeal.nD Cert.AdamwIdeal.τ).loc Cert.AdamwIdeal.main_v0_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_v0_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v1) = v0 c
          ∧ r.2.mem ((c.tc : Thread Cert.AdamwRefIdeal.nD Cert.AdamwRefIdeal.τ).loc Cert.AdamwRefIdeal.main_v25) = v1 c
          ∧ r.2.mem ((c.tc : Thread Cert.AdamwRefIdeal.nD Cert.AdamwRefIdeal.τ).loc Cert.AdamwRefIdeal.main_v6) = v2 c
          ∧ r.2.mem ((c.tc : Thread Cert.AdamwRefIdeal.nD Cert.AdamwRefIdeal.τ).loc Cert.AdamwRefIdeal.main_v12) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_Pieces_PiecesIdeal : Prop :=
  True

def algebraic_PiecesIdeal_PiecesRefIdeal [hPiecesIdeal : Cert.PiecesIdeal.Facts] [hPiecesRefIdeal : Cert.PiecesRefIdeal.Facts] : Prop :=
  ∀ (m : (ℓ : Loc Cert.PiecesIdeal.nD Cert.PiecesIdeal.τ Cert.PiecesIdeal.sig) → Buf (Elt Ideal) ℓ) (g : Dev Cert.PiecesIdeal.nD → PrngReg)
    (m' : (ℓ : Loc Cert.PiecesRefIdeal.nD Cert.PiecesRefIdeal.τ Cert.PiecesRefIdeal.sig) → Buf (Elt Ideal) ℓ) (g' : Dev Cert.PiecesRefIdeal.nD → PrngReg), Pre_PiecesIdeal m →
    (∀ c : Dev Cert.PiecesIdeal.nD,
      m' ((c.tc : Thread Cert.PiecesRefIdeal.nD Cert.PiecesRefIdeal.τ).loc Cert.PiecesRefIdeal.main_arg0) = m ((c.tc : Thread Cert.PiecesIdeal.nD Cert.PiecesIdeal.τ).loc Cert.PiecesIdeal.main_arg0)
      ∧ m' ((c.tc : Thread Cert.PiecesRefIdeal.nD Cert.PiecesRefIdeal.τ).loc Cert.PiecesRefIdeal.main_arg1) = m ((c.tc : Thread Cert.PiecesIdeal.nD Cert.PiecesIdeal.τ).loc Cert.PiecesIdeal.main_arg1)
      ∧ m' ((c.tc : Thread Cert.PiecesRefIdeal.nD Cert.PiecesRefIdeal.τ).loc Cert.PiecesRefIdeal.main_arg2) = m ((c.tc : Thread Cert.PiecesIdeal.nD Cert.PiecesIdeal.τ).loc Cert.PiecesIdeal.main_arg2)
      ∧ m' ((c.tc : Thread Cert.PiecesRefIdeal.nD Cert.PiecesRefIdeal.τ).loc Cert.PiecesRefIdeal.main_arg3) = m ((c.tc : Thread Cert.PiecesIdeal.nD Cert.PiecesIdeal.τ).loc Cert.PiecesIdeal.main_arg3)
      ∧ m' ((c.tc : Thread Cert.PiecesRefIdeal.nD Cert.PiecesRefIdeal.τ).loc Cert.PiecesRefIdeal.main_arg4) = m ((c.tc : Thread Cert.PiecesIdeal.nD Cert.PiecesIdeal.τ).loc Cert.PiecesIdeal.main_arg4)
      ∧ m' ((c.tc : Thread Cert.PiecesRefIdeal.nD Cert.PiecesRefIdeal.τ).loc Cert.PiecesRefIdeal.main_arg5) = m ((c.tc : Thread Cert.PiecesIdeal.nD Cert.PiecesIdeal.τ).loc Cert.PiecesIdeal.main_arg5)
      ∧ m' ((c.tc : Thread Cert.PiecesRefIdeal.nD Cert.PiecesRefIdeal.τ).loc Cert.PiecesRefIdeal.main_arg6) = m ((c.tc : Thread Cert.PiecesIdeal.nD Cert.PiecesIdeal.τ).loc Cert.PiecesIdeal.main_arg6)) →
    ∃ (v0 : (c : Dev Cert.PiecesIdeal.nD) → Buf (Elt Ideal) ((c.tc : Thread Cert.PiecesIdeal.nD Cert.PiecesIdeal.τ).loc Cert.PiecesIdeal.main_v11)),
      θ_run (Cert.PiecesIdeal.defs (F := Ideal)) (onTc (τ := Cert.PiecesIdeal.τ) (Cert.PiecesIdeal.main (F := Ideal))) ⟨m, fun _ => 0, g⟩ (fun r => ∀ c : Dev Cert.PiecesIdeal.nD,
          r.2.mem ((c.tc : Thread Cert.PiecesIdeal.nD Cert.PiecesIdeal.τ).loc Cert.PiecesIdeal.main_v11) = v0 c
          ∧ r.2.mem ((c.tc : Thread Cert.PiecesIdeal.nD Cert.PiecesIdeal.τ).loc Cert.PiecesIdeal.main_arg0) = m ((c.tc : Thread Cert.PiecesIdeal.nD Cert.PiecesIdeal.τ).loc Cert.PiecesIdeal.main_arg0)
          ∧ r.2.mem ((c.tc : Thread Cert.PiecesIdeal.nD Cert.PiecesIdeal.τ).loc Cert.PiecesIdeal.main_arg1) = m ((c.tc : Thread Cert.PiecesIdeal.nD Cert.PiecesIdeal.τ).loc Cert.PiecesIdeal.main_arg1)
          ∧ r.2.mem ((c.tc : Thread Cert.PiecesIdeal.nD Cert.PiecesIdeal.τ).loc Cert.PiecesIdeal.main_arg2) = m ((c.tc : Thread Cert.PiecesIdeal.nD Cert.PiecesIdeal.τ).loc Cert.PiecesIdeal.main_arg2)
          ∧ r.2.mem ((c.tc : Thread Cert.PiecesIdeal.nD Cert.PiecesIdeal.τ).loc Cert.PiecesIdeal.main_arg3) = m ((c.tc : Thread Cert.PiecesIdeal.nD Cert.PiecesIdeal.τ).loc Cert.PiecesIdeal.main_arg3)
          ∧ r.2.mem ((c.tc : Thread Cert.PiecesIdeal.nD Cert.PiecesIdeal.τ).loc Cert.PiecesIdeal.main_arg4) = m ((c.tc : Thread Cert.PiecesIdeal.nD Cert.PiecesIdeal.τ).loc Cert.PiecesIdeal.main_arg4)
          ∧ r.2.mem ((c.tc : Thread Cert.PiecesIdeal.nD Cert.PiecesIdeal.τ).loc Cert.PiecesIdeal.main_arg5) = m ((c.tc : Thread Cert.PiecesIdeal.nD Cert.PiecesIdeal.τ).loc Cert.PiecesIdeal.main_arg5)
          ∧ r.2.mem ((c.tc : Thread Cert.PiecesIdeal.nD Cert.PiecesIdeal.τ).loc Cert.PiecesIdeal.main_arg6) = m ((c.tc : Thread Cert.PiecesIdeal.nD Cert.PiecesIdeal.τ).loc Cert.PiecesIdeal.main_arg6))
      ∧ θ_run (Cert.PiecesRefIdeal.defs (F := Ideal)) (onTc (τ := Cert.PiecesRefIdeal.τ) (Cert.PiecesRefIdeal.main (F := Ideal))) ⟨m', fun _ => 0, g'⟩ (fun r => ∀ c : Dev Cert.PiecesRefIdeal.nD,
          r.2.mem ((c.tc : Thread Cert.PiecesRefIdeal.nD Cert.PiecesRefIdeal.τ).loc Cert.PiecesRefIdeal.main_v5) = v0 c
          ∧ r.2.mem ((c.tc : Thread Cert.PiecesRefIdeal.nD Cert.PiecesRefIdeal.τ).loc Cert.PiecesRefIdeal.main_arg0) = m' ((c.tc : Thread Cert.PiecesRefIdeal.nD Cert.PiecesRefIdeal.τ).loc Cert.PiecesRefIdeal.main_arg0)
          ∧ r.2.mem ((c.tc : Thread Cert.PiecesRefIdeal.nD Cert.PiecesRefIdeal.τ).loc Cert.PiecesRefIdeal.main_arg1) = m' ((c.tc : Thread Cert.PiecesRefIdeal.nD Cert.PiecesRefIdeal.τ).loc Cert.PiecesRefIdeal.main_arg1)
          ∧ r.2.mem ((c.tc : Thread Cert.PiecesRefIdeal.nD Cert.PiecesRefIdeal.τ).loc Cert.PiecesRefIdeal.main_arg2) = m' ((c.tc : Thread Cert.PiecesRefIdeal.nD Cert.PiecesRefIdeal.τ).loc Cert.PiecesRefIdeal.main_arg2)
          ∧ r.2.mem ((c.tc : Thread Cert.PiecesRefIdeal.nD Cert.PiecesRefIdeal.τ).loc Cert.PiecesRefIdeal.main_arg3) = m' ((c.tc : Thread Cert.PiecesRefIdeal.nD Cert.PiecesRefIdeal.τ).loc Cert.PiecesRefIdeal.main_arg3)
          ∧ r.2.mem ((c.tc : Thread Cert.PiecesRefIdeal.nD Cert.PiecesRefIdeal.τ).loc Cert.PiecesRefIdeal.main_arg4) = m' ((c.tc : Thread Cert.PiecesRefIdeal.nD Cert.PiecesRefIdeal.τ).loc Cert.PiecesRefIdeal.main_arg4)
          ∧ r.2.mem ((c.tc : Thread Cert.PiecesRefIdeal.nD Cert.PiecesRefIdeal.τ).loc Cert.PiecesRefIdeal.main_arg5) = m' ((c.tc : Thread Cert.PiecesRefIdeal.nD Cert.PiecesRefIdeal.τ).loc Cert.PiecesRefIdeal.main_arg5)
          ∧ r.2.mem ((c.tc : Thread Cert.PiecesRefIdeal.nD Cert.PiecesRefIdeal.τ).loc Cert.PiecesRefIdeal.main_arg6) = m' ((c.tc : Thread Cert.PiecesRefIdeal.nD Cert.PiecesRefIdeal.τ).loc Cert.PiecesRefIdeal.main_arg6))

def Claim : Prop :=
  ∃ (hForget : Cert.Forget.Facts) (hForgetIdeal : Cert.ForgetIdeal.Facts) (hForgetRefIdeal : Cert.ForgetRefIdeal.Facts) (hRmsMem : Cert.RmsMem.Facts) (hRmsMemIdeal : Cert.RmsMemIdeal.Facts) (hRmsMemRefIdeal : Cert.RmsMemRefIdeal.Facts) (hRmsPre : Cert.RmsPre.Facts) (hRmsPreIdeal : Cert.RmsPreIdeal.Facts) (hRmsPreRefIdeal : Cert.RmsPreRefIdeal.Facts) (hRmsPair : Cert.RmsPair.Facts) (hRmsPairIdeal : Cert.RmsPairIdeal.Facts) (hRmsPairRefIdeal : Cert.RmsPairRefIdeal.Facts) (hFinal : Cert.Final.Facts) (hFinalIdeal : Cert.FinalIdeal.Facts) (hFinalRefIdeal : Cert.FinalRefIdeal.Facts) (hSwiglu : Cert.Swiglu.Facts) (hSwigluIdeal : Cert.SwigluIdeal.Facts) (hSwigluRefIdeal : Cert.SwigluRefIdeal.Facts) (hMerge : Cert.Merge.Facts) (hMergeIdeal : Cert.MergeIdeal.Facts) (hMergeRefIdeal : Cert.MergeRefIdeal.Facts) (hMemAttn : Cert.MemAttn.Facts) (hMemAttnIdeal : Cert.MemAttnIdeal.Facts) (hMemAttnRefIdeal : Cert.MemAttnRefIdeal.Facts) (hCumsum : Cert.Cumsum.Facts) (hCumsumIdeal : Cert.CumsumIdeal.Facts) (hCumsumRefIdeal : Cert.CumsumRefIdeal.Facts) (hAttn : Cert.Attn.Facts) (hAttnIdeal : Cert.AttnIdeal.Facts) (hAttnRefIdeal : Cert.AttnRefIdeal.Facts) (hRmsMemFwd : Cert.RmsMemFwd.Facts) (hRmsMemFwdIdeal : Cert.RmsMemFwdIdeal.Facts) (hRmsMemFwdRefIdeal : Cert.RmsMemFwdRefIdeal.Facts) (hRmsPreFwd : Cert.RmsPreFwd.Facts) (hRmsPreFwdIdeal : Cert.RmsPreFwdIdeal.Facts) (hRmsPreFwdRefIdeal : Cert.RmsPreFwdRefIdeal.Facts) (hForgetFwd : Cert.ForgetFwd.Facts) (hForgetFwdIdeal : Cert.ForgetFwdIdeal.Facts) (hForgetFwdRefIdeal : Cert.ForgetFwdRefIdeal.Facts) (hCumsumFwd : Cert.CumsumFwd.Facts) (hCumsumFwdIdeal : Cert.CumsumFwdIdeal.Facts) (hCumsumFwdRefIdeal : Cert.CumsumFwdRefIdeal.Facts) (hMemFwd : Cert.MemFwd.Facts) (hMemFwdIdeal : Cert.MemFwdIdeal.Facts) (hMemFwdRefIdeal : Cert.MemFwdRefIdeal.Facts) (hSwigluFwd : Cert.SwigluFwd.Facts) (hSwigluFwdIdeal : Cert.SwigluFwdIdeal.Facts) (hSwigluFwdRefIdeal : Cert.SwigluFwdRefIdeal.Facts) (hMergeFwd : Cert.MergeFwd.Facts) (hMergeFwdIdeal : Cert.MergeFwdIdeal.Facts) (hMergeFwdRefIdeal : Cert.MergeFwdRefIdeal.Facts) (hAttnFwd : Cert.AttnFwd.Facts) (hAttnFwdIdeal : Cert.AttnFwdIdeal.Facts) (hAttnFwdRefIdeal : Cert.AttnFwdRefIdeal.Facts) (hProj : Cert.Proj.Facts) (hProjIdeal : Cert.ProjIdeal.Facts) (hProjRefIdeal : Cert.ProjRefIdeal.Facts) (hAdamw : Cert.Adamw.Facts) (hAdamwIdeal : Cert.AdamwIdeal.Facts) (hAdamwRefIdeal : Cert.AdamwRefIdeal.Facts) (hPieces : Cert.Pieces.Facts) (hPiecesIdeal : Cert.PiecesIdeal.Facts) (hPiecesRefIdeal : Cert.PiecesRefIdeal.Facts) (hPre_finite_up_weight_and_cotangent : Cert.Pre_finite_up_weight_and_cotangent.Facts) (hPre_finite_queries_and_keys : Cert.Pre_finite_queries_and_keys.Facts) (hPre_finite_queries_keys_values_gates_and_cotangent : Cert.Pre_finite_queries_keys_values_gates_and_cotangent.Facts),
    quiescent_Forget (hForget := hForget)
    ∧ quiescent_ForgetIdeal (hForgetIdeal := hForgetIdeal)
    ∧ quiescent_ForgetRefIdeal (hForgetRefIdeal := hForgetRefIdeal)
    ∧ quiescent_RmsMem (hRmsMem := hRmsMem)
    ∧ quiescent_RmsMemIdeal (hRmsMemIdeal := hRmsMemIdeal)
    ∧ quiescent_RmsMemRefIdeal (hRmsMemRefIdeal := hRmsMemRefIdeal)
    ∧ quiescent_RmsPre (hRmsPre := hRmsPre)
    ∧ quiescent_RmsPreIdeal (hRmsPreIdeal := hRmsPreIdeal)
    ∧ quiescent_RmsPreRefIdeal (hRmsPreRefIdeal := hRmsPreRefIdeal)
    ∧ quiescent_RmsPair (hRmsPair := hRmsPair)
    ∧ quiescent_RmsPairIdeal (hRmsPairIdeal := hRmsPairIdeal)
    ∧ quiescent_RmsPairRefIdeal (hRmsPairRefIdeal := hRmsPairRefIdeal)
    ∧ quiescent_Final (hFinal := hFinal)
    ∧ quiescent_FinalIdeal (hFinalIdeal := hFinalIdeal)
    ∧ quiescent_FinalRefIdeal (hFinalRefIdeal := hFinalRefIdeal)
    ∧ quiescent_Swiglu (hSwiglu := hSwiglu)
    ∧ quiescent_SwigluIdeal (hSwigluIdeal := hSwigluIdeal)
    ∧ quiescent_SwigluIdeal_pre_finite_up_weight_and_cotangent (hSwigluIdeal := hSwigluIdeal) (hPre_finite_up_weight_and_cotangent := hPre_finite_up_weight_and_cotangent)
    ∧ quiescent_SwigluRefIdeal (hSwigluRefIdeal := hSwigluRefIdeal)
    ∧ quiescent_SwigluRefIdeal_pre_finite_up_weight_and_cotangent (hSwigluRefIdeal := hSwigluRefIdeal) (hPre_finite_up_weight_and_cotangent := hPre_finite_up_weight_and_cotangent)
    ∧ quiescent_Merge (hMerge := hMerge)
    ∧ quiescent_MergeIdeal (hMergeIdeal := hMergeIdeal)
    ∧ quiescent_MergeRefIdeal (hMergeRefIdeal := hMergeRefIdeal)
    ∧ quiescent_MemAttn (hMemAttn := hMemAttn)
    ∧ quiescent_MemAttnIdeal (hMemAttnIdeal := hMemAttnIdeal)
    ∧ quiescent_MemAttnIdeal_pre_finite_queries_and_keys (hMemAttnIdeal := hMemAttnIdeal) (hPre_finite_queries_and_keys := hPre_finite_queries_and_keys)
    ∧ quiescent_MemAttnRefIdeal (hMemAttnRefIdeal := hMemAttnRefIdeal)
    ∧ quiescent_MemAttnRefIdeal_pre_finite_queries_and_keys (hMemAttnRefIdeal := hMemAttnRefIdeal) (hPre_finite_queries_and_keys := hPre_finite_queries_and_keys)
    ∧ quiescent_Cumsum (hCumsum := hCumsum)
    ∧ quiescent_CumsumIdeal (hCumsumIdeal := hCumsumIdeal)
    ∧ quiescent_CumsumRefIdeal (hCumsumRefIdeal := hCumsumRefIdeal)
    ∧ quiescent_Attn (hAttn := hAttn)
    ∧ quiescent_AttnIdeal (hAttnIdeal := hAttnIdeal)
    ∧ quiescent_AttnIdeal_pre_finite_queries_keys_values_gates_and_cotangent (hAttnIdeal := hAttnIdeal) (hPre_finite_queries_keys_values_gates_and_cotangent := hPre_finite_queries_keys_values_gates_and_cotangent)
    ∧ quiescent_AttnRefIdeal (hAttnRefIdeal := hAttnRefIdeal)
    ∧ quiescent_AttnRefIdeal_pre_finite_queries_keys_values_gates_and_cotangent (hAttnRefIdeal := hAttnRefIdeal) (hPre_finite_queries_keys_values_gates_and_cotangent := hPre_finite_queries_keys_values_gates_and_cotangent)
    ∧ quiescent_RmsMemFwd (hRmsMemFwd := hRmsMemFwd)
    ∧ quiescent_RmsMemFwdIdeal (hRmsMemFwdIdeal := hRmsMemFwdIdeal)
    ∧ quiescent_RmsMemFwdRefIdeal (hRmsMemFwdRefIdeal := hRmsMemFwdRefIdeal)
    ∧ quiescent_RmsPreFwd (hRmsPreFwd := hRmsPreFwd)
    ∧ quiescent_RmsPreFwdIdeal (hRmsPreFwdIdeal := hRmsPreFwdIdeal)
    ∧ quiescent_RmsPreFwdRefIdeal (hRmsPreFwdRefIdeal := hRmsPreFwdRefIdeal)
    ∧ quiescent_ForgetFwd (hForgetFwd := hForgetFwd)
    ∧ quiescent_ForgetFwdIdeal (hForgetFwdIdeal := hForgetFwdIdeal)
    ∧ quiescent_ForgetFwdRefIdeal (hForgetFwdRefIdeal := hForgetFwdRefIdeal)
    ∧ quiescent_CumsumFwd (hCumsumFwd := hCumsumFwd)
    ∧ quiescent_CumsumFwdIdeal (hCumsumFwdIdeal := hCumsumFwdIdeal)
    ∧ quiescent_CumsumFwdRefIdeal (hCumsumFwdRefIdeal := hCumsumFwdRefIdeal)
    ∧ quiescent_MemFwd (hMemFwd := hMemFwd)
    ∧ quiescent_MemFwdIdeal (hMemFwdIdeal := hMemFwdIdeal)
    ∧ quiescent_MemFwdRefIdeal (hMemFwdRefIdeal := hMemFwdRefIdeal)
    ∧ quiescent_SwigluFwd (hSwigluFwd := hSwigluFwd)
    ∧ quiescent_SwigluFwdIdeal (hSwigluFwdIdeal := hSwigluFwdIdeal)
    ∧ quiescent_SwigluFwdRefIdeal (hSwigluFwdRefIdeal := hSwigluFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ quiescent_Proj (hProj := hProj)
    ∧ quiescent_ProjIdeal (hProjIdeal := hProjIdeal)
    ∧ quiescent_ProjRefIdeal (hProjRefIdeal := hProjRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_Pieces (hPieces := hPieces)
    ∧ quiescent_PiecesIdeal (hPiecesIdeal := hPiecesIdeal)
    ∧ quiescent_PiecesRefIdeal (hPiecesRefIdeal := hPiecesRefIdeal)
    ∧ preserves_Forget_ForgetIdeal
    ∧ algebraic_ForgetIdeal_ForgetRefIdeal (hForgetIdeal := hForgetIdeal) (hForgetRefIdeal := hForgetRefIdeal)
    ∧ preserves_RmsMem_RmsMemIdeal
    ∧ algebraic_RmsMemIdeal_RmsMemRefIdeal (hRmsMemIdeal := hRmsMemIdeal) (hRmsMemRefIdeal := hRmsMemRefIdeal)
    ∧ preserves_RmsPre_RmsPreIdeal
    ∧ algebraic_RmsPreIdeal_RmsPreRefIdeal (hRmsPreIdeal := hRmsPreIdeal) (hRmsPreRefIdeal := hRmsPreRefIdeal)
    ∧ preserves_RmsPair_RmsPairIdeal
    ∧ algebraic_RmsPairIdeal_RmsPairRefIdeal (hRmsPairIdeal := hRmsPairIdeal) (hRmsPairRefIdeal := hRmsPairRefIdeal)
    ∧ preserves_Final_FinalIdeal
    ∧ algebraic_FinalIdeal_FinalRefIdeal (hFinalIdeal := hFinalIdeal) (hFinalRefIdeal := hFinalRefIdeal)
    ∧ preserves_Swiglu_SwigluIdeal
    ∧ algebraic_SwigluIdeal_SwigluRefIdeal_pre_finite_up_weight_and_cotangent (hSwigluIdeal := hSwigluIdeal) (hSwigluRefIdeal := hSwigluRefIdeal) (hPre_finite_up_weight_and_cotangent := hPre_finite_up_weight_and_cotangent)
    ∧ preserves_Merge_MergeIdeal
    ∧ algebraic_MergeIdeal_MergeRefIdeal (hMergeIdeal := hMergeIdeal) (hMergeRefIdeal := hMergeRefIdeal)
    ∧ preserves_MemAttn_MemAttnIdeal
    ∧ algebraic_MemAttnIdeal_MemAttnRefIdeal_pre_finite_queries_and_keys (hMemAttnIdeal := hMemAttnIdeal) (hMemAttnRefIdeal := hMemAttnRefIdeal) (hPre_finite_queries_and_keys := hPre_finite_queries_and_keys)
    ∧ preserves_Cumsum_CumsumIdeal
    ∧ algebraic_CumsumIdeal_CumsumRefIdeal (hCumsumIdeal := hCumsumIdeal) (hCumsumRefIdeal := hCumsumRefIdeal)
    ∧ preserves_Attn_AttnIdeal
    ∧ algebraic_AttnIdeal_AttnRefIdeal_pre_finite_queries_keys_values_gates_and_cotangent (hAttnIdeal := hAttnIdeal) (hAttnRefIdeal := hAttnRefIdeal) (hPre_finite_queries_keys_values_gates_and_cotangent := hPre_finite_queries_keys_values_gates_and_cotangent)
    ∧ preserves_RmsMemFwd_RmsMemFwdIdeal
    ∧ algebraic_RmsMemFwdIdeal_RmsMemFwdRefIdeal (hRmsMemFwdIdeal := hRmsMemFwdIdeal) (hRmsMemFwdRefIdeal := hRmsMemFwdRefIdeal)
    ∧ preserves_RmsPreFwd_RmsPreFwdIdeal
    ∧ algebraic_RmsPreFwdIdeal_RmsPreFwdRefIdeal (hRmsPreFwdIdeal := hRmsPreFwdIdeal) (hRmsPreFwdRefIdeal := hRmsPreFwdRefIdeal)
    ∧ preserves_ForgetFwd_ForgetFwdIdeal
    ∧ algebraic_ForgetFwdIdeal_ForgetFwdRefIdeal (hForgetFwdIdeal := hForgetFwdIdeal) (hForgetFwdRefIdeal := hForgetFwdRefIdeal)
    ∧ preserves_CumsumFwd_CumsumFwdIdeal
    ∧ algebraic_CumsumFwdIdeal_CumsumFwdRefIdeal (hCumsumFwdIdeal := hCumsumFwdIdeal) (hCumsumFwdRefIdeal := hCumsumFwdRefIdeal)
    ∧ preserves_MemFwd_MemFwdIdeal
    ∧ algebraic_MemFwdIdeal_MemFwdRefIdeal (hMemFwdIdeal := hMemFwdIdeal) (hMemFwdRefIdeal := hMemFwdRefIdeal)
    ∧ preserves_SwigluFwd_SwigluFwdIdeal
    ∧ algebraic_SwigluFwdIdeal_SwigluFwdRefIdeal (hSwigluFwdIdeal := hSwigluFwdIdeal) (hSwigluFwdRefIdeal := hSwigluFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_AttnFwd_AttnFwdIdeal
    ∧ preserves_Proj_ProjIdeal
    ∧ algebraic_ProjIdeal_ProjRefIdeal (hProjIdeal := hProjIdeal) (hProjRefIdeal := hProjRefIdeal)
    ∧ preserves_Adamw_AdamwIdeal
    ∧ algebraic_AdamwIdeal_AdamwRefIdeal (hAdamwIdeal := hAdamwIdeal) (hAdamwRefIdeal := hAdamwRefIdeal)
    ∧ preserves_Pieces_PiecesIdeal
    ∧ algebraic_PiecesIdeal_PiecesRefIdeal (hPiecesIdeal := hPiecesIdeal) (hPiecesRefIdeal := hPiecesRefIdeal)
-- ==== Pre_finite_queries_and_keys.lean ====
abbrev S8192x9232 : Shape := ⟨2, ![8192, 9232]⟩
abbrev S256x2048 : Shape := ⟨2, ![256, 2048]⟩
abbrev S8192x1024 : Shape := ⟨2, ![8192, 1024]⟩
abbrev S_ : Shape := ⟨0, ![]⟩
abbrev S256x1024 : Shape := ⟨2, ![256, 1024]⟩

class Facts : Prop where
  slices_S8192x9232_S8192x1024_0_5136 : S8192x9232.Slices ![0, 5136] S8192x1024
  bcast_S_S8192x1024 : S_.BroadcastsInDim S8192x1024 (![] : Fin 0 → Fin S8192x1024.rank)
  reducesTo_S8192x1024_S_d0_1 : S8192x1024.ReducesTo [0, 1] S_
  h_S_ : 0 < S_.numel
  slices_S256x2048_S256x1024_0_0 : S256x2048.Slices ![0, 0] S256x1024
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S8192x9232 .f32) (main_arg1 : FVec F S256x2048 .f32) (main_arg2 : FVec F S8192x1024 .f32) : IVec S_ 1 :=
  let main_v0 : FVec F S8192x1024 .f32 := (extractStridedSlice S8192x1024 ![0, 5136] · slices_S8192x9232_S8192x1024_0_5136) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S256x1024 .f32 := (extractStridedSlice S256x1024 ![0, 0] · slices_S256x2048_S256x1024_0_0) main_arg1
  let main_v6 : FVec F S256x1024 .f32 := Host.absf main_v5
  let main_cst_0 : FVec F S_ .f32 := constant S_ .f32 0x7F800000#32
  let main_v7 : FVec F S256x1024 .f32 := broadcastInDim S256x1024 ![] bcast_S_S256x1024 main_cst_0
  let main_v8 : IVec S256x1024 1 := cmpf .olt main_v6 main_v7
  let main_c_1 : IVec S_ 1 := constantI S_ 1 1#1
  let main_v9 : IVec S_ 1 := (fun x v => Host.reduce IntOp.andi x v reducesTo_S256x1024_S_d0_1 h_S_) main_v8 main_c_1
  let main_v10 : IVec S_ 1 := andi main_v4 main_v9
  main_v10
-- ==== Pre_finite_queries_keys_values_gates_and_cotangent.lean ====
abbrev S8192x9232 : Shape := ⟨2, ![8192, 9232]⟩
abbrev S16x8192 : Shape := ⟨2, ![16, 8192]⟩
abbrev S8192x1024 : Shape := ⟨2, ![8192, 1024]⟩
abbrev S8192x3072 : Shape := ⟨2, ![8192, 3072]⟩
abbrev S_ : Shape := ⟨0, ![]⟩

class Facts : Prop where
  slices_S8192x9232_S8192x3072_0_0 : S8192x9232.Slices ![0, 0] S8192x3072
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S16x8192 : S_.BroadcastsInDim S16x8192 (![] : Fin 0 → Fin S16x8192.rank)
  reducesTo_S16x8192_S_d0_1 : S16x8192.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x9232 .f32) (main_arg1 : FVec F S16x8192 .f32) (main_arg2 : FVec F S8192x1024 .f32) : IVec S_ 1 :=
  let main_v0 : FVec F S8192x3072 .f32 := (extractStridedSlice S8192x3072 ![0, 0] · slices_S8192x9232_S8192x3072_0_0) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_c : IVec S_ 1 := constantI S_ 1 1#1
  let main_v4 : IVec S_ 1 := (fun x v => Host.reduce IntOp.andi x v reducesTo_S8192x3072_S_d0_1 h_S_) main_v3 main_c
  let main_v5 : FVec F S16x8192 .f32 := Host.absf main_arg1
  let main_cst_0 : FVec F S_ .f32 := constant S_ .f32 0x7F800000#32
  let main_v6 : FVec F S16x8192 .f32 := broadcastInDim S16x8192 ![] bcast_S_S16x8192 main_cst_0
  let main_v7 : IVec S16x8192 1 := cmpf .olt main_v5 main_v6
  let main_c_1 : IVec S_ 1 := constantI S_ 1 1#1
  let main_v8 : IVec S_ 1 := (fun x v => Host.reduce IntOp.andi x v reducesTo_S16x8192_S_d0_1 h_S_) main_v7 main_c_1
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : IVec S_ 1 := andi main_v4 main_v13
  main_v14
-- ==== Pre_finite_up_weight_and_cotangent.lean ====
abbrev S8192x5632 : Shape := ⟨2, ![8192, 5632]⟩
abbrev S2816x1024 : Shape := ⟨2, ![2816, 1024]⟩
abbrev S8192x1024 : Shape := ⟨2, ![8192, 1024]⟩
abbrev S8192x2816 : Shape := ⟨2, ![8192, 2816]⟩
abbrev S_ : Shape := ⟨0, ![]⟩

class Facts : Prop where
  slices_S8192x5632_S8192x2816_0_2816 : S8192x5632.Slices ![0, 2816] S8192x2816
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x5632 .f32) (main_arg1 : FVec F S2816x1024 .f32) (main_arg2 : FVec F S8192x1024 .f32) : IVec S_ 1 :=
  let main_v0 : FVec F S8192x2816 .f32 := (extractStridedSlice S8192x2816 ![0, 2816] · slices_S8192x5632_S8192x2816_0_2816) main_arg0
  let main_v1 : FVec F S8192x2816 .f32 := Host.absf main_v0
  let main_cst : FVec F S_ .f32 := constant S_ .f32 0x7F800000#32
  let main_v2 : FVec F S8192x2816 .f32 := broadcastInDim S8192x2816 ![] bcast_S_S8192x2816 main_cst
  let main_v3 : IVec S8192x2816 1 := cmpf .olt main_v1 main_v2
  let main_c : IVec S_ 1 := constantI S_ 1 1#1
  let main_v4 : IVec S_ 1 := (fun x v => Host.reduce IntOp.andi x v reducesTo_S8192x2816_S_d0_1 h_S_) main_v3 main_c
  let main_v5 : FVec F S2816x1024 .f32 := Host.absf main_arg1
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_c_1 : IVec S_ 1 := constantI S_ 1 1#1
  let main_v8 : IVec S_ 1 := (fun x v => Host.reduce IntOp.andi x v reducesTo_S2816x1024_S_d0_1 h_S_) main_v7 main_c_1
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : IVec S_ 1 := andi main_v4 main_v13
  main_v14
-- ==== Forget.lean ====
abbrev S8192x16 : Shape := ⟨2, ![8192, 16]⟩
abbrev S1x16 : Shape := ⟨2, ![1, 16]⟩
abbrev S16x8192 : Shape := ⟨2, ![16, 8192]⟩
abbrev S_ : Shape := ⟨0, ![]⟩
abbrev S8192x128 : Shape := ⟨2, ![8192, 128]⟩
abbrev S1x128 : Shape := ⟨2, ![1, 128]⟩
abbrev S1024x128 : Shape := ⟨2, ![1024, 128]⟩
abbrev S128 : Shape := ⟨1, ![128]⟩

abbrev nBuf : Space → Nat
  | .hbm => 15
  | .vmem => 8
  | .smem => 0
  | _ => 0

abbrev bufTy : (tb : Table) → Fin (tcTables nBuf tb) → BufTy
  | .hbm, ⟨0, _⟩ => ⟨S8192x16, .f32⟩
  | .hbm, ⟨1, _⟩ => ⟨S1x16, .f32⟩
  | .hbm, ⟨2, _⟩ => ⟨S16x8192, .f32⟩
  | .hbm, ⟨3, _⟩ => ⟨S_, .i32⟩
  | .hbm, ⟨4, _⟩ => ⟨S_, .f32⟩
  | .hbm, ⟨5, _⟩ => ⟨S8192x128, .f32⟩
  | .hbm, ⟨6, _⟩ => ⟨S_, .i32⟩
  | .hbm, ⟨7, _⟩ => ⟨S_, .f32⟩
  | .hbm, ⟨8, _⟩ => ⟨S1x128, .f32⟩
  | .hbm, ⟨9, _⟩ => ⟨S8192x16, .f32⟩
  | .hbm, ⟨10, _⟩ => ⟨S_, .i32⟩
  | .hbm, ⟨11, _⟩ => ⟨S_, .f32⟩
  | .hbm, ⟨12, _⟩ => ⟨S8192x128, .f32⟩
  | .hbm, ⟨13, _⟩ => ⟨S8192x128, .bf16⟩
  | .hbm, ⟨14, _⟩ => ⟨S1x128, .f32⟩
  | .local _ .vmem, ⟨0, _⟩ => ⟨S1024x128, .f32⟩
  | .local _ .vmem, ⟨1, _⟩ => ⟨S1024x128, .f32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | .local _ .vmem, ⟨5, _⟩ => ⟨S1024x128, .bf16⟩
  | .local _ .vmem, ⟨6, _⟩ => ⟨S1024x128, .bf16⟩
  | .local _ .vmem, ⟨7, _⟩ => ⟨S1x128, .f32⟩
  | _, _ => ⟨S8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_c_1 : Ref sig .tc := ⟨.hbm, 10, rfl⟩
abbrev main_call2_v0 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v22 : BitVec 1 := Scalar.cmpi .eq arg0 c0_i32
  let v23 : BitVec 32 := Scalar.extui v22
  let c0_i32_11 : BitVec 32 := 0#32
  let v24 : BitVec 1 := Scalar.cmpi .ne v23 c0_i32_11
  v24

def k0_cond2 (i : grid0.Coords) : BitVec 1 :=
  let arg0 : BitVec 32 := BitVec.ofNat 32 (i 0).val
  let c0_i32_12 : BitVec 32 := 0#32
  let v25 : BitVec 1 := Scalar.cmpi .sgt arg0 c0_i32_12
  let v26 : BitVec 32 := Scalar.extui v25
  let c0_i32_13 : BitVec 32 := 0#32
  let v27 : BitVec 1 := Scalar.cmpi .ne v26 c0_i32_13
  v27

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ForgetRefIdeal.lean ====
abbrev S8192x16 : Shape := ⟨2, ![8192, 16]⟩
abbrev S1x16 : Shape := ⟨2, ![1, 16]⟩
abbrev S16x8192 : Shape := ⟨2, ![16, 8192]⟩
abbrev S_ : Shape := ⟨0, ![]⟩
abbrev S16 : Shape := ⟨1, ![16]⟩
abbrev S8192x128 : Shape := ⟨2, ![8192, 128]⟩
abbrev S1x128 : Shape := ⟨2, ![1, 128]⟩

abbrev nBuf : Space → Nat
  | .hbm => 68
  | .vmem => 0
  | .smem => 0
  | _ => 0

abbrev bufTy : (tb : Table) → Fin (tcTables nBuf tb) → BufTy
  | .hbm, ⟨0, _⟩ => ⟨S8192x16, .f32⟩
  | .hbm, ⟨1, _⟩ => ⟨S1x16, .f32⟩
  | .hbm, ⟨2, _⟩ => ⟨S16x8192, .f32⟩
  | .hbm, ⟨3, _⟩ => ⟨S8192x16, .f32⟩
  | .hbm, ⟨4, _⟩ => ⟨S8192x16, .f32⟩
  | .hbm, ⟨5, _⟩ => ⟨S8192x16, .f32⟩
  | .hbm, ⟨6, _⟩ => ⟨S_, .f32⟩
  | .hbm, ⟨7, _⟩ => ⟨S8192x16, .f32⟩
  | .hbm, ⟨8, _⟩ => ⟨S8192x16, .f32⟩
  | .hbm, ⟨9, _⟩ => ⟨S8192x16, .f32⟩
  | .hbm, ⟨10, _⟩ => ⟨S8192x16, .f32⟩
  | .hbm, ⟨11, _⟩ => ⟨S8192x16, .i1⟩
  | .hbm, ⟨12, _⟩ => ⟨S8192x16, .f32⟩
  | .hbm, ⟨13, _⟩ => ⟨S8192x16, .f32⟩
  | .hbm, ⟨14, _⟩ => ⟨S8192x16, .f32⟩
  | .hbm, ⟨15, _⟩ => ⟨S8192x16, .f32⟩
  | .hbm, ⟨16, _⟩ => ⟨S8192x16, .f32⟩
  | .hbm, ⟨17, _⟩ => ⟨S8192x16, .f32⟩
  | .hbm, ⟨18, _⟩ => ⟨S8192x16, .f32⟩
  | .hbm, ⟨19, _⟩ => ⟨S8192x16, .f32⟩
  | .hbm, ⟨20, _⟩ => ⟨S_, .f32⟩
  | .hbm, ⟨21, _⟩ => ⟨S8192x16, .f32⟩
  | .hbm, ⟨22, _⟩ => ⟨S8192x16, .i1⟩
  | .hbm, ⟨23, _⟩ => ⟨S_, .f32⟩
  | .hbm, ⟨24, _⟩ => ⟨S8192x16, .f32⟩
  | .hbm, ⟨25, _⟩ => ⟨S8192x16, .f32⟩
  | .hbm, ⟨26, _⟩ => ⟨S_, .f32⟩
  | .hbm, ⟨27, _⟩ => ⟨S8192x16, .f32⟩
  | .hbm, ⟨28, _⟩ => ⟨S8192x16, .i1⟩
  | .hbm, ⟨29, _⟩ => ⟨S_, .f32⟩
  | .hbm, ⟨30, _⟩ => ⟨S8192x16, .f32⟩
  | .hbm, ⟨31, _⟩ => ⟨S8192x16, .f32⟩
  | .hbm, ⟨32, _⟩ => ⟨S8192x16, .f32⟩
  | .hbm, ⟨33, _⟩ => ⟨S8192x16, .f32⟩
  | .hbm, ⟨34, _⟩ => ⟨S_, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192x16, .f32⟩
  | .hbm, ⟨42, _⟩ => ⟨S8192x16, .i1⟩
  | .hbm, ⟨43, _⟩ => ⟨S_, .f32⟩
  | .hbm, ⟨44, _⟩ => ⟨S8192x16, .f32⟩
  | .hbm, ⟨45, _⟩ => ⟨S8192x16, .f32⟩
  | .hbm, ⟨46, _⟩ => ⟨S8192x16, .f32⟩
  | .hbm, ⟨47, _⟩ => ⟨S8192x16, .f32⟩
  | .hbm, ⟨48, _⟩ => ⟨S8192x16, .f32⟩
  | .hbm, ⟨49, _⟩ => ⟨S_, .f32⟩
  | .hbm, ⟨50, _⟩ => ⟨S8192x16, .f32⟩
  | .hbm, ⟨51, _⟩ => ⟨S8192x16, .f32⟩
  | .hbm, ⟨52, _⟩ => ⟨S8192x16, .f32⟩
  | .hbm, ⟨53, _⟩ => ⟨S16x8192, .f32⟩
  | .hbm, ⟨54, _⟩ => ⟨S8192x16, .f32⟩
  | .hbm, ⟨55, _⟩ => ⟨S8192x16, .f32⟩
  | .hbm, ⟨56, _⟩ => ⟨S8192x16, .f32⟩
  | .hbm, ⟨57, _⟩ => ⟨S8192x16, .f32⟩
  | .hbm, ⟨58, _⟩ => ⟨S_, .f32⟩
  | .hbm, ⟨59, _⟩ => ⟨S16, .f32⟩
  | .hbm, ⟨60, _⟩ => ⟨S1x16, .f32⟩
  | .hbm, ⟨61, _⟩ => ⟨S_, .i32⟩
  | .hbm, ⟨62, _⟩ => ⟨S_, .f32⟩
  | .hbm, ⟨63, _⟩ => ⟨S8192x128, .f32⟩
  | .hbm, ⟨64, _⟩ => ⟨S8192x128, .bf16⟩
  | .hbm, ⟨65, _⟩ => ⟨S_, .i32⟩
  | .hbm, ⟨66, _⟩ => ⟨S_, .f32⟩
  | .hbm, ⟨67, _⟩ => ⟨S1x128, .f32⟩
  | _, _ => ⟨S8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1_0 : Ref sig .tc := ⟨.hbm, 19, rfl⟩
abbrev main_call0_call0_cst_0 : Ref sig .tc := ⟨.hbm, 20, rfl⟩
abbrev main_call0_call0_v13 : Ref sig .tc := ⟨.hbm, 21, rfl⟩
abbrev main_call0_call0_v14 : Ref sig .tc := ⟨.hbm, 22, rfl⟩
abbrev main_call0_call0_cst_1 : Ref sig .tc := ⟨.hbm, 23, rfl⟩
abbrev main_call0_call0_v15 : Ref sig .tc := ⟨.hbm, 24, rfl⟩
abbrev main_call0_call0_v16 : Ref sig .tc := ⟨.hbm, 25, rfl⟩
abbrev main_call0_call0_cst_2 : Ref sig .tc := ⟨.hbm, 26, rfl⟩
abbrev main_call0_call0_v17 : Ref sig .tc := ⟨.hbm, 27, rfl⟩
abbrev main_call0_call0_v18 : Ref sig .tc := ⟨.hbm, 28, rfl⟩
abbrev main_call0_call0_cst_3 : Ref sig .tc := ⟨.hbm, 29, rfl⟩
abbrev main_call0_call0_v19 : Ref sig .tc := ⟨.hbm, 30, rfl⟩
abbrev main_call0_call0_v20 : Ref sig .tc := ⟨.hbm, 31, rfl⟩
abbrev main_call0_call0_v21 : Ref sig .tc := ⟨.hbm, 32, rfl⟩
abbrev main_v2_1 : Ref sig .tc := ⟨.hbm, 33, rfl⟩
abbrev main_call0_call0_cst_4 : Ref sig .tc := ⟨.hbm, 34, rfl⟩
abbrev main_call0_call0_cst_5 : Ref sig .tc := ⟨.hbm, 35, rfl⟩
abbrev main_call0_call0_v23 : Ref sig .tc := ⟨.hbm, 36, rfl⟩
abbrev main_call0_call0_cst_6 : Ref sig .tc := ⟨.hbm, 37, rfl⟩
abbrev main_call0_call0_cst_7 : Ref sig .tc := ⟨.hbm, 38, rfl⟩
abbrev main_call0_call0_v24 : Ref sig .tc := ⟨.hbm, 39, rfl⟩
abbrev main_call0_call0_cst_8 : Ref sig .tc := ⟨.hbm, 40, rfl⟩
abbrev main_call0_call0_v25 : Ref sig .tc := ⟨.hbm, 41, rfl⟩
abbrev main_call0_call0_v26 : Ref sig .tc := ⟨.hbm, 42, rfl⟩
abbrev main_call0_call0_cst_9 : Ref sig .tc := ⟨.hbm, 43, rfl⟩
abbrev main_call0_call0_v27 : Ref sig .tc := ⟨.hbm, 44, rfl⟩
abbrev main_call0_call0_v28 : Ref sig .tc := ⟨.hbm, 45, rfl⟩
abbrev main_call0_call0_v29 : Ref sig .tc := ⟨.hbm, 46, rfl⟩
abbrev main_call0_call0_v30 : Ref sig .tc := ⟨.hbm, 47, rfl⟩
abbrev main_call0_call0_v31 : Ref sig .tc := ⟨.hbm, 48, rfl⟩
abbrev main_call0_call0_cst_10 : Ref sig .tc := ⟨.hbm, 49, rfl⟩
abbrev main_call0_call0_v32 : Ref sig .tc := ⟨.hbm, 50, rfl⟩
abbrev main_v2_2 : Ref sig .tc := ⟨.hbm, 51, rfl⟩
abbrev main_v2_0 : Ref sig .tc := ⟨.hbm, 52, rfl⟩
abbrev main_v3 : Ref sig .tc := ⟨.hbm, 53, rfl⟩
abbrev main_v4 : Ref sig .tc := ⟨.hbm, 54, rfl⟩
abbrev main_call1_v0 : Ref sig .tc := ⟨.hbm, 55, rfl⟩
abbrev main_call1_v1 : Ref sig .tc := ⟨.hbm, 56, rfl⟩
abbrev main_v5 : Ref sig .tc := ⟨.hbm, 57, rfl⟩
abbrev main_cst : Ref sig .tc := ⟨.hbm, 58, rfl⟩
abbrev main_v6 : Ref sig .tc := ⟨.hbm, 59, rfl⟩
abbrev main_v7 : Ref sig .tc := ⟨.hbm, 60, rfl⟩
abbrev main_c : Ref sig .tc := ⟨.hbm, 61, rfl⟩
abbrev main_call2_v0 : Ref sig .tc := ⟨.hbm, 62, rfl⟩
abbrev main_v8 : Ref sig .tc := ⟨.hbm, 63, rfl⟩
abbrev main_v9 : Ref sig .tc := ⟨.hbm, 64, rfl⟩
abbrev main_c_0 : Ref sig .tc := ⟨.hbm, 65, rfl⟩
abbrev main_call3_v0 : Ref sig .tc := ⟨.hbm, 66, rfl⟩
abbrev main_v10 : Ref sig .tc := ⟨.hbm, 67, rfl⟩

abbrev nD : Nat := 1
abbrev τ : Topo := Topo.v7x

variable {F : FTy → Type} [FloatOps F]
-- ==== RmsMem.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .bf16⟩
  | .hbm, ⟨4, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .bf16⟩
  | .local _ .vmem, ⟨4, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v30 : BitVec 1 := Scalar.cmpi .eq arg0 c0_i32
  let v31 : BitVec 32 := Scalar.extui v30
  let c0_i32_12 : BitVec 32 := 0#32
  let v32 : BitVec 1 := Scalar.cmpi .ne v31 c0_i32_12
  v32

def k0_cond2 (i : grid0.Coords) : BitVec 1 :=
  let arg0 : BitVec 32 := BitVec.ofNat 32 (i 0).val
  let c0_i32_13 : BitVec 32 := 0#32
  let v33 : BitVec 1 := Scalar.cmpi .sgt arg0 c0_i32_13
  let v34 : BitVec 32 := Scalar.extui v33
  let c0_i32_14 : BitVec 32 := 0#32
  let v35 : BitVec 1 := Scalar.cmpi .ne v34 c0_i32_14
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RmsMemRefIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256, .f32⟩
  | .hbm, ⟨31, _⟩ => ⟨S256x1, .f32⟩
  | .hbm, ⟨32, _⟩ => ⟨S256x1024, .f32⟩
  | .hbm, ⟨33, _⟩ => ⟨S256x1024, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S_, .f32⟩
  | .hbm, ⟨39, _⟩ => ⟨S256, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== RmsPre.lean ====
abbrev S8192x1024 : Shape := ⟨2, ![8192, 1024]⟩
abbrev S1x1024 : Shape := ⟨2, ![1, 1024]⟩
abbrev S1024x16 : Shape := ⟨2, ![1024, 16]⟩
abbrev S8192x16 : Shape := ⟨2, ![8192, 16]⟩
abbrev S16x1024 : Shape := ⟨2, ![16, 1024]⟩
abbrev S_ : Shape := ⟨0, ![]⟩
abbrev S128x1024 : Shape := ⟨2, ![128, 1024]⟩
abbrev S8192x128 : Shape := ⟨2, ![8192, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1024 : Shape := ⟨1, ![1024]⟩

abbrev nBuf : Space → Nat
  | .hbm => 17
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x16, .f32⟩
  | .hbm, ⟨3, _⟩ => ⟨S8192x1024, .f32⟩
  | .hbm, ⟨4, _⟩ => ⟨S8192x16, .f32⟩
  | .hbm, ⟨5, _⟩ => ⟨S8192x1024, .f32⟩
  | .hbm, ⟨6, _⟩ => ⟨S16x1024, .f32⟩
  | .hbm, ⟨7, _⟩ => ⟨S16x1024, .bf16⟩
  | .hbm, ⟨8, _⟩ => ⟨S_, .i32⟩
  | .hbm, ⟨9, _⟩ => ⟨S_, .bf16⟩
  | .hbm, ⟨10, _⟩ => ⟨S128x1024, .bf16⟩
  | .hbm, ⟨11, _⟩ => ⟨S8192x16, .bf16⟩
  | .hbm, ⟨12, _⟩ => ⟨S_, .i32⟩
  | .hbm, ⟨13, _⟩ => ⟨S_, .bf16⟩
  | .hbm, ⟨14, _⟩ => ⟨S8192x128, .bf16⟩
  | .hbm, ⟨15, _⟩ => ⟨S8192x1024, .f32⟩
  | .hbm, ⟨16, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x128, .bf16⟩
  | .local _ .vmem, ⟨8, _⟩ => ⟨S512x128, .bf16⟩
  | .local _ .vmem, ⟨9, _⟩ => ⟨S128x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_19 : BitVec 32 := 0#32
  let v39 : BitVec 1 := Scalar.cmpi .ne v38 c0_i32_19
  v39

def k0_cond2 (i : grid0.Coords) : BitVec 1 :=
  let arg0 : BitVec 32 := BitVec.ofNat 32 (i 0).val
  let c0_i32_20 : BitVec 32 := 0#32
  let v40 : BitVec 1 := Scalar.cmpi .sgt arg0 c0_i32_20
  let v41 : BitVec 32 := Scalar.extui v40
  let c0_i32_21 : BitVec 32 := 0#32
  let v42 : BitVec 1 := Scalar.cmpi .ne v41 c0_i32_21
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RmsPreRefIdeal.lean ====
abbrev S8192x1024 : Shape := ⟨2, ![8192, 1024]⟩
abbrev S1x1024 : Shape := ⟨2, ![1, 1024]⟩
abbrev S1024x16 : Shape := ⟨2, ![1024, 16]⟩
abbrev S8192x16 : Shape := ⟨2, ![8192, 16]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x16, .f32⟩
  | .hbm, ⟨3, _⟩ => ⟨S8192x1024, .f32⟩
  | .hbm, ⟨4, _⟩ => ⟨S8192x16, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x16, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== RmsPair.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 26
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S1x1024, .f32⟩
  | .hbm, ⟨25, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v61 : BitVec 1 := Scalar.cmpi .eq arg0 c0_i32
  let v62 : BitVec 32 := Scalar.extui v61
  let c0_i32_26 : BitVec 32 := 0#32
  let v63 : BitVec 1 := Scalar.cmpi .ne v62 c0_i32_26
  v63

def k0_cond2 (i : grid0.Coords) : BitVec 1 :=
  let arg0 : BitVec 32 := BitVec.ofNat 32 (i 0).val
  let c0_i32_27 : BitVec 32 := 0#32
  let v64 : BitVec 1 := Scalar.cmpi .sgt arg0 c0_i32_27
  let v65 : BitVec 32 := Scalar.extui v64
  let c0_i32_28 : BitVec 32 := 0#32
  let v66 : BitVec 1 := Scalar.cmpi .ne v65 c0_i32_28
  v66

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RmsPairRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S8192x1024, .f32⟩
  | .hbm, ⟨81, _⟩ => ⟨S8192x1024, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== Final.lean ====
abbrev S8192x1024 : Shape := ⟨2, ![8192, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .hbm, ⟨6, _⟩ => ⟨S8x128, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S8x128, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v50 : BitVec 1 := Scalar.cmpi .eq arg0 c0_i32
  let v51 : BitVec 32 := Scalar.extui v50
  let c0_i32_23 : BitVec 32 := 0#32
  let v52 : BitVec 1 := Scalar.cmpi .ne v51 c0_i32_23
  v52

def k0_cond2 (i : grid0.Coords) : BitVec 1 :=
  let arg0 : BitVec 32 := BitVec.ofNat 32 (i 0).val
  let c0_i32_24 : BitVec 32 := 0#32
  let v53 : BitVec 1 := Scalar.cmpi .sgt arg0 c0_i32_24
  let v54 : BitVec 32 := Scalar.extui v53
  let c0_i32_25 : BitVec 32 := 0#32
  let v55 : BitVec 1 := Scalar.cmpi .ne v54 c0_i32_25
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FinalRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x128 : Shape := ⟨2, ![8, 128]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .bf16⟩
  | .hbm, ⟨71, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_cst_8 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Swiglu.lean ====
abbrev S8192x5632 : Shape := ⟨2, ![8192, 5632]⟩
abbrev S2816x1024 : Shape := ⟨2, ![2816, 1024]⟩
abbrev S8192x1024 : Shape := ⟨2, ![8192, 1024]⟩
abbrev S8192x2816 : Shape := ⟨2, ![8192, 2816]⟩
abbrev S512x1024 : Shape := ⟨2, ![512, 1024]⟩
abbrev S512x2816 : Shape := ⟨2, ![512, 2816]⟩
abbrev S512x5632 : Shape := ⟨2, ![512, 5632]⟩
abbrev S1408x1024 : Shape := ⟨2, ![1408, 1024]⟩
abbrev S512x1408 : Shape := ⟨2, ![512, 1408]⟩

abbrev nBuf : Space → Nat
  | .hbm => 10
  | .vmem => 9
  | .smem => 0
  | _ => 0

abbrev bufTy : (tb : Table) → Fin (tcTables nBuf tb) → BufTy
  | .hbm, ⟨0, _⟩ => ⟨S8192x5632, .f32⟩
  | .hbm, ⟨1, _⟩ => ⟨S2816x1024, .f32⟩
  | .hbm, ⟨2, _⟩ => ⟨S8192x1024, .f32⟩
  | .hbm, ⟨3, _⟩ => ⟨S8192x2816, .f32⟩
  | .hbm, ⟨4, _⟩ => ⟨S8192x2816, .bf16⟩
  | .hbm, ⟨5, _⟩ => ⟨S8192x2816, .f32⟩
  | .hbm, ⟨6, _⟩ => ⟨S8192x2816, .bf16⟩
  | .hbm, ⟨7, _⟩ => ⟨S8192x1024, .bf16⟩
  | .hbm, ⟨8, _⟩ => ⟨S2816x1024, .bf16⟩
  | .hbm, ⟨9, _⟩ => ⟨S8192x5632, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x5632, .bf16⟩
  | .local _ .vmem, ⟨8, _⟩ => ⟨S512x5632, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SwigluRefIdeal.lean ====
abbrev S8192x5632 : Shape := ⟨2, ![8192, 5632]⟩
abbrev S2816x1024 : Shape := ⟨2, ![2816, 1024]⟩
abbrev S8192x1024 : Shape := ⟨2, ![8192, 1024]⟩
abbrev S8192x2816 : Shape := ⟨2, ![8192, 2816]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S2816x1024, .f32⟩
  | .hbm, ⟨2, _⟩ => ⟨S8192x1024, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x1024, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x5632, .f32⟩
  | .hbm, ⟨28, _⟩ => ⟨S8192x5632, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩

abbrev nD : Nat := 1
abbrev τ : Topo := Topo.v7x

variable {F : FTy → Type} [FloatOps F]
-- ==== Merge.lean ====
abbrev S8192x1024 : Shape := ⟨2, ![8192, 1024]⟩
abbrev S8192x9232 : Shape := ⟨2, ![8192, 9232]⟩
abbrev S1024x1024 : Shape := ⟨2, ![1024, 1024]⟩
abbrev S1x8192x1024 : Shape := ⟨3, ![1, 8192, 1024]⟩
abbrev S3x8192x1024 : Shape := ⟨3, ![3, 8192, 1024]⟩
abbrev S8192x3072 : Shape := ⟨2, ![8192, 3072]⟩
abbrev S8192x6144 : Shape := ⟨2, ![8192, 6144]⟩
abbrev S8192x9216 : Shape := ⟨2, ![8192, 9216]⟩
abbrev S256x1024 : Shape := ⟨2, ![256, 1024]⟩
abbrev S3x256x1024 : Shape := ⟨3, ![3, 256, 1024]⟩
abbrev S256x3072 : Shape := ⟨2, ![256, 3072]⟩
abbrev S1x256x1024 : Shape := ⟨3, ![1, 256, 1024]⟩

abbrev nBuf : Space → Nat
  | .hbm => 21
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x9232, .f32⟩
  | .hbm, ⟨4, _⟩ => ⟨S1024x1024, .f32⟩
  | .hbm, ⟨5, _⟩ => ⟨S8192x1024, .f32⟩
  | .hbm, ⟨6, _⟩ => ⟨S1x8192x1024, .f32⟩
  | .hbm, ⟨7, _⟩ => ⟨S1x8192x1024, .f32⟩
  | .hbm, ⟨8, _⟩ => ⟨S1x8192x1024, .f32⟩
  | .hbm, ⟨9, _⟩ => ⟨S3x8192x1024, .f32⟩
  | .hbm, ⟨10, _⟩ => ⟨S3x8192x1024, .bf16⟩
  | .hbm, ⟨11, _⟩ => ⟨S8192x1024, .bf16⟩
  | .hbm, ⟨12, _⟩ => ⟨S1024x1024, .bf16⟩
  | .hbm, ⟨13, _⟩ => ⟨S8192x3072, .f32⟩
  | .hbm, ⟨14, _⟩ => ⟨S8192x6144, .f32⟩
  | .hbm, ⟨15, _⟩ => ⟨S8192x9216, .f32⟩
  | .hbm, ⟨16, _⟩ => ⟨S8192x9216, .bf16⟩
  | .hbm, ⟨17, _⟩ => ⟨S8192x1024, .bf16⟩
  | .hbm, ⟨18, _⟩ => ⟨S8192x1024, .bf16⟩
  | .hbm, ⟨19, _⟩ => ⟨S8192x1024, .bf16⟩
  | .hbm, ⟨20, _⟩ => ⟨S8192x3072, .bf16⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S3x256x1024, .bf16⟩
  | .local _ .vmem, ⟨10, _⟩ => ⟨S3x256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x3072, .bf16⟩
  | .local _ .vmem, ⟨18, _⟩ => ⟨S256x3072, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S8192x1024 : Shape := ⟨2, ![8192, 1024]⟩
abbrev S8192x9232 : Shape := ⟨2, ![8192, 9232]⟩
abbrev S1024x1024 : Shape := ⟨2, ![1024, 1024]⟩
abbrev S8192x3072 : Shape := ⟨2, ![8192, 3072]⟩
abbrev S_ : Shape := ⟨0, ![]⟩
abbrev S8192x3x1024 : Shape := ⟨3, ![8192, 3, 1024]⟩
abbrev S8192x1x1024 : Shape := ⟨3, ![8192, 1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x9232, .f32⟩
  | .hbm, ⟨4, _⟩ => ⟨S1024x1024, .f32⟩
  | .hbm, ⟨5, _⟩ => ⟨S8192x1024, .f32⟩
  | .hbm, ⟨6, _⟩ => ⟨S8192x3072, .f32⟩
  | .hbm, ⟨7, _⟩ => ⟨S8192x3072, .f32⟩
  | .hbm, ⟨8, _⟩ => ⟨S8192x3072, .f32⟩
  | .hbm, ⟨9, _⟩ => ⟨S_, .f32⟩
  | .hbm, ⟨10, _⟩ => ⟨S8192x3072, .f32⟩
  | .hbm, ⟨11, _⟩ => ⟨S8192x3072, .f32⟩
  | .hbm, ⟨12, _⟩ => ⟨S_, .f32⟩
  | .hbm, ⟨13, _⟩ => ⟨S8192x3072, .f32⟩
  | .hbm, ⟨14, _⟩ => ⟨S8192x3072, .f32⟩
  | .hbm, ⟨15, _⟩ => ⟨S_, .f32⟩
  | .hbm, ⟨16, _⟩ => ⟨S8192x3072, .f32⟩
  | .hbm, ⟨17, _⟩ => ⟨S8192x3072, .f32⟩
  | .hbm, ⟨18, _⟩ => ⟨S8192x3072, .f32⟩
  | .hbm, ⟨19, _⟩ => ⟨S8192x3x1024, .f32⟩
  | .hbm, ⟨20, _⟩ => ⟨S8192x1x1024, .f32⟩
  | .hbm, ⟨21, _⟩ => ⟨S8192x1024, .f32⟩
  | .hbm, ⟨22, _⟩ => ⟨S8192x1024, .f32⟩
  | .hbm, ⟨23, _⟩ => ⟨S8192x1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1x1024, .f32⟩
  | .hbm, ⟨36, _⟩ => ⟨S_, .f32⟩
  | .hbm, ⟨37, _⟩ => ⟨S8192x3x1024, .f32⟩
  | .hbm, ⟨38, _⟩ => ⟨S8192x1024, .f32⟩
  | .hbm, ⟨39, _⟩ => ⟨S8192x1024, .f32⟩
  | .hbm, ⟨40, _⟩ => ⟨S8192x1x1024, .f32⟩
  | .hbm, ⟨41, _⟩ => ⟨S_, .f32⟩
  | .hbm, ⟨42, _⟩ => ⟨S8192x3x1024, .f32⟩
  | .hbm, ⟨43, _⟩ => ⟨S8192x3x1024, .f32⟩
  | .hbm, ⟨44, _⟩ => ⟨S8192x1024, .f32⟩
  | .hbm, ⟨45, _⟩ => ⟨S8192x1024, .f32⟩
  | .hbm, ⟨46, _⟩ => ⟨S8192x1x1024, .f32⟩
  | .hbm, ⟨47, _⟩ => ⟨S_, .f32⟩
  | .hbm, ⟨48, _⟩ => ⟨S8192x3x1024, .f32⟩
  | .hbm, ⟨49, _⟩ => ⟨S8192x3x1024, .f32⟩
  | .hbm, ⟨50, _⟩ => ⟨S8192x3072, .f32⟩
  | .hbm, ⟨51, _⟩ => ⟨S8192x3072, .f32⟩
  | .hbm, ⟨52, _⟩ => ⟨S8192x1024, .bf16⟩
  | .hbm, ⟨53, _⟩ => ⟨S8192x1024, .bf16⟩
  | .hbm, ⟨54, _⟩ => ⟨S8192x1024, .bf16⟩
  | .hbm, ⟨55, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== MemAttn.lean ====
abbrev S8192x9232 : Shape := ⟨2, ![8192, 9232]⟩
abbrev S256x2048 : Shape := ⟨2, ![256, 2048]⟩
abbrev S8192x1024 : Shape := ⟨2, ![8192, 1024]⟩
abbrev S8192x3072 : Shape := ⟨2, ![8192, 3072]⟩
abbrev S8192x6144 : Shape := ⟨2, ![8192, 6144]⟩
abbrev S8192x9216 : Shape := ⟨2, ![8192, 9216]⟩
abbrev S1024x1024 : Shape := ⟨2, ![1024, 1024]⟩
abbrev S256x1024 : Shape := ⟨2, ![256, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 11
  | .vmem => 9
  | .smem => 0
  | _ => 0

abbrev bufTy : (tb : Table) → Fin (tcTables nBuf tb) → BufTy
  | .hbm, ⟨0, _⟩ => ⟨S8192x9232, .f32⟩
  | .hbm, ⟨1, _⟩ => ⟨S256x2048, .f32⟩
  | .hbm, ⟨2, _⟩ => ⟨S8192x1024, .f32⟩
  | .hbm, ⟨3, _⟩ => ⟨S8192x3072, .f32⟩
  | .hbm, ⟨4, _⟩ => ⟨S8192x6144, .f32⟩
  | .hbm, ⟨5, _⟩ => ⟨S8192x9216, .f32⟩
  | .hbm, ⟨6, _⟩ => ⟨S8192x9216, .bf16⟩
  | .hbm, ⟨7, _⟩ => ⟨S8192x1024, .bf16⟩
  | .hbm, ⟨8, _⟩ => ⟨S256x2048, .bf16⟩
  | .hbm, ⟨9, _⟩ => ⟨S8192x1024, .bf16⟩
  | .hbm, ⟨10, _⟩ => ⟨S256x2048, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S256x2048, .f32⟩
  | _, _ => ⟨S8192x9232, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MemAttnRefIdeal.lean ====
abbrev S8192x9232 : Shape := ⟨2, ![8192, 9232]⟩
abbrev S256x2048 : Shape := ⟨2, ![256, 2048]⟩
abbrev S8192x1024 : Shape := ⟨2, ![8192, 1024]⟩
abbrev S8192x4x256 : Shape := ⟨3, ![8192, 4, 256]⟩
abbrev S256x1024 : Shape := ⟨2, ![256, 1024]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩

abbrev nBuf : Space → Nat
  | .hbm => 85
  | .vmem => 0
  | .smem => 0
  | _ => 0

abbrev bufTy : (tb : Table) → Fin (tcTables nBuf tb) → BufTy
  | .hbm, ⟨0, _⟩ => ⟨S8192x9232, .f32⟩
  | .hbm, ⟨1, _⟩ => ⟨S256x2048, .f32⟩
  | .hbm, ⟨2, _⟩ => ⟨S8192x1024, .f32⟩
  | .hbm, ⟨3, _⟩ => ⟨S8192x1024, .f32⟩
  | .hbm, ⟨4, _⟩ => ⟨S8192x4x256, .f32⟩
  | .hbm, ⟨5, _⟩ => ⟨S256x1024, .f32⟩
  | .hbm, ⟨6, _⟩ => ⟨S256x1024, .f32⟩
  | .hbm, ⟨7, _⟩ => ⟨S256x4x256, .f32⟩
  | .hbm, ⟨8, _⟩ => ⟨S256x4x256, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S4x8192x256, .f32⟩
  | .hbm, ⟨17, _⟩ => ⟨S4x8192x256, .i1⟩
  | .hbm, ⟨18, _⟩ => ⟨S4x8192x256, .f32⟩
  | .hbm, ⟨19, _⟩ => ⟨S_, .f32⟩
  | .hbm, ⟨20, _⟩ => ⟨S4x8192, .f32⟩
  | .hbm, ⟨21, _⟩ => ⟨S_, .f32⟩
  | .hbm, ⟨22, _⟩ => ⟨S4x8192, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .i1⟩
  | .hbm, ⟨27, _⟩ => ⟨S_, .f32⟩
  | .hbm, ⟨28, _⟩ => ⟨S4x8192, .f32⟩
  | .hbm, ⟨29, _⟩ => ⟨S4x8192, .i1⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S4x8192, .f32⟩
  | .hbm, ⟨37, _⟩ => ⟨S4x8192, .f32⟩
  | .hbm, ⟨38, _⟩ => ⟨S4x8192x1, .f32⟩
  | .hbm, ⟨39, _⟩ => ⟨S4x8192x256, .f32⟩
  | .hbm, ⟨40, _⟩ => ⟨S4x8192x256, .f32⟩
  | .hbm, ⟨41, _⟩ => ⟨S4x8192x256, .f32⟩
  | .hbm, ⟨42, _⟩ => ⟨S_, .f32⟩
  | .hbm, ⟨43, _⟩ => ⟨S4x8192, .f32⟩
  | .hbm, ⟨44, _⟩ => ⟨S4x8192x1, .f32⟩
  | .hbm, ⟨45, _⟩ => ⟨S4x8192x256, .f32⟩
  | .hbm, ⟨46, _⟩ => ⟨S4x8192x256, .f32⟩
  | .hbm, ⟨47, _⟩ => ⟨S4x8192x1, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x256x8192, .f32⟩
  | .hbm, ⟨52, _⟩ => ⟨S8192x4x256, .f32⟩
  | .hbm, ⟨53, _⟩ => ⟨S8192x1024, .f32⟩
  | .hbm, ⟨54, _⟩ => ⟨S8192x4x256, .f32⟩
  | .hbm, ⟨55, _⟩ => ⟨S4x256x8192, .f32⟩
  | .hbm, ⟨56, _⟩ => ⟨S4x8192x256, .f32⟩
  | .hbm, ⟨57, _⟩ => ⟨S4x256x256, .f32⟩
  | .hbm, ⟨58, _⟩ => ⟨S256x4x256, .f32⟩
  | .hbm, ⟨59, _⟩ => ⟨S4x8192x256, .f32⟩
  | .hbm, ⟨60, _⟩ => ⟨S4x8192x256, .f32⟩
  | .hbm, ⟨61, _⟩ => ⟨S4x8192x256, .f32⟩
  | .hbm, ⟨62, _⟩ => ⟨S_, .f32⟩
  | .hbm, ⟨63, _⟩ => ⟨S4x8192, .f32⟩
  | .hbm, ⟨64, _⟩ => ⟨S4x8192x1, .f32⟩
  | .hbm, ⟨65, _⟩ => ⟨S4x8192x1, .f32⟩
  | .hbm, ⟨66, _⟩ => ⟨S4x8192x256, .f32⟩
  | .hbm, ⟨67, _⟩ => ⟨S4x8192x256, .f32⟩
  | .hbm, ⟨68, _⟩ => ⟨S_, .f32⟩
  | .hbm, ⟨69, _⟩ => ⟨S4x8192, .f32⟩
  | .hbm, ⟨70, _⟩ => ⟨S4x8192x256, .f32⟩
  | .hbm, ⟨71, _⟩ => ⟨S4x8192x256, .f32⟩
  | .hbm, ⟨72, _⟩ => ⟨S4x8192x256, .f32⟩
  | .hbm, ⟨73, _⟩ => ⟨S_, .f32⟩
  | .hbm, ⟨74, _⟩ => ⟨S4x8192x256, .f32⟩
  | .hbm, ⟨75, _⟩ => ⟨S4x8192x256, .f32⟩
  | .hbm, ⟨76, _⟩ => ⟨S4x256x256, .f32⟩
  | .hbm, ⟨77, _⟩ => ⟨S256x4x256, .f32⟩
  | .hbm, ⟨78, _⟩ => ⟨S4x8192x256, .f32⟩
  | .hbm, ⟨79, _⟩ => ⟨S8192x4x256, .f32⟩
  | .hbm, ⟨80, _⟩ => ⟨S256x1024, .f32⟩
  | .hbm, ⟨81, _⟩ => ⟨S256x1024, .f32⟩
  | .hbm, ⟨82, _⟩ => ⟨S256x2048, .f32⟩
  | .hbm, ⟨83, _⟩ => ⟨S8192x1024, .f32⟩
  | .hbm, ⟨84, _⟩ => ⟨S8192x1024, .bf16⟩
  | _, _ => ⟨S8192x9232, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_10 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_11 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_12 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩

abbrev nD : Nat := 1
abbrev τ : Topo := Topo.v7x

variable {F : FTy → Type} [FloatOps F]
-- ==== Cumsum.lean ====
abbrev S16x8192 : Shape := ⟨2, ![16, 8192]⟩
abbrev S128x128 : Shape := ⟨2, ![128, 128]⟩
abbrev S16x1 : Shape := ⟨2, ![16, 1]⟩
abbrev S16x128 : Shape := ⟨2, ![16, 128]⟩
abbrev S16 : Shape := ⟨1, ![16]⟩

abbrev nBuf : Space → Nat
  | .hbm => 3
  | .vmem => 3
  | .smem => 0
  | _ => 0

abbrev bufTy : (tb : Table) → Fin (tcTables nBuf tb) → BufTy
  | .hbm, ⟨0, _⟩ => ⟨S16x8192, .f32⟩
  | .hbm, ⟨1, _⟩ => ⟨S16x8192, .f32⟩
  | .hbm, ⟨2, _⟩ => ⟨S16x8192, .f32⟩
  | .local _ .vmem, ⟨0, _⟩ => ⟨S16x8192, .f32⟩
  | .local _ .vmem, ⟨1, _⟩ => ⟨S16x8192, .f32⟩
  | .local _ .vmem, ⟨2, _⟩ => ⟨S16x8192, .f32⟩
  | _, _ => ⟨S16x8192, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c64_i32 : BitVec 32 := 64#32
  let v6 : BitVec 32 := Scalar.addi c0_i32 c64_i32
  let c1_i32 : BitVec 32 := 1#32
  ⟨c0_i32, v6, c1_i32⟩
def k0_mult1 (k0_t1 : Fin k0_t1_loop.trips) : BitVec 32 :=
  let c63_i32 : BitVec 32 := 63#32
  let c0_i32 : BitVec 32 := 0#32
  let c1_i32 : BitVec 32 := 1#32
  let arg3 : BitVec 32 := Scf.iv c0_i32 c1_i32 k0_t1
  let v8 : BitVec 32 := Scalar.subi c63_i32 arg3
  let c128_i32 : BitVec 32 := 128#32
  let v9 : BitVec 32 := Scalar.muli v8 c128_i32
  v9
def k0_off1 (k0_t1 : Fin k0_t1_loop.trips) : Fin 2 → Nat :=
  let c0 : Index := 0#32
  let c63_i32 : BitVec 32 := 63#32
  let c0_i32 : BitVec 32 := 0#32
  let c1_i32 : BitVec 32 := 1#32
  let arg3 : BitVec 32 := Scf.iv c0_i32 c1_i32 k0_t1
  let v8 : BitVec 32 := Scalar.subi c63_i32 arg3
  let c128_i32 : BitVec 32 := 128#32
  let v9 : BitVec 32 := Scalar.muli v8 c128_i32
  let v10 : BitVec 32 := v9
  let v11 : Index := Scalar.indexCast v10
  ![0, v11.toNat]
abbrev stage0_0 : Fin 1 → Memref sig .tc .vmem S16x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== CumsumRefIdeal.lean ====
abbrev S16x8192 : Shape := ⟨2, ![16, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S16x8192, .f32⟩
  | .hbm, ⟨1, _⟩ => ⟨S16x8192, .f32⟩
  | .hbm, ⟨2, _⟩ => ⟨S_, .f32⟩
  | .hbm, ⟨3, _⟩ => ⟨S16x8192, .f32⟩
  | .hbm, ⟨4, _⟩ => ⟨S_, .f32⟩
  | .hbm, ⟨5, _⟩ => ⟨S_, .f32⟩
  | .hbm, ⟨6, _⟩ => ⟨S16x8192, .f32⟩
  | .hbm, ⟨7, _⟩ => ⟨S16x8192, .f32⟩
  | .hbm, ⟨8, _⟩ => ⟨S_, .f32⟩
  | .hbm, ⟨9, _⟩ => ⟨S_, .f32⟩
  | .hbm, ⟨10, _⟩ => ⟨S16x8192, .f32⟩
  | _, _ => ⟨S16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_v1 : Ref sig .tc := ⟨.hbm, 6, rfl⟩
abbrev main_v2 : Ref sig .tc := ⟨.hbm, 7, rfl⟩
abbrev main_call1_call0_cst : Ref sig .tc := ⟨.hbm, 8, rfl⟩
abbrev main_call1_call0_v0 : Ref sig .tc := ⟨.hbm, 9, rfl⟩
abbrev main_v3 : Ref sig .tc := ⟨.hbm, 10, rfl⟩

abbrev nD : Nat := 1
abbrev τ : Topo := Topo.v7x

variable {F : FTy → Type} [FloatOps F]
-- ==== Attn.lean ====
abbrev S8192x9232 : Shape := ⟨2, ![8192, 9232]⟩
abbrev S16x8192 : Shape := ⟨2, ![16, 8192]⟩
abbrev S8192x1024 : Shape := ⟨2, ![8192, 1024]⟩
abbrev S8192x16x64 : Shape := ⟨3, ![8192, 16, 64]⟩
abbrev S16x8192x64 : Shape := ⟨3, ![16, 8192, 64]⟩
abbrev S16x16x512 : Shape := ⟨3, ![16, 16, 512]⟩
abbrev S16x16x1 : Shape := ⟨3, ![16, 16, 1]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8192x3072 : Shape := ⟨2, ![8192, 3072]⟩
abbrev S8192x6144 : Shape := ⟨2, ![8192, 6144]⟩
abbrev S8192x9216 : Shape := ⟨2, ![8192, 9216]⟩
abbrev S8x2x8192 : Shape := ⟨3, ![8, 2, 8192]⟩
abbrev S512x128 : Shape := ⟨2, ![512, 128]⟩
abbrev S8192x128 : Shape := ⟨2, ![8192, 128]⟩
abbrev S2x512x1 : Shape := ⟨3, ![2, 512, 1]⟩
abbrev S1x2x8192 : Shape := ⟨3, ![1, 2, 8192]⟩
abbrev S1x2x512 : Shape := ⟨3, ![1, 2, 512]⟩
abbrev S512x512 : Shape := ⟨2, ![512, 512]⟩
abbrev S1x2x128 : Shape := ⟨3, ![1, 2, 128]⟩
abbrev S2x128 : Shape := ⟨2, ![2, 128]⟩
abbrev S1x1 : Shape := ⟨2, ![1, 1]⟩
abbrev S1x512x1 : Shape := ⟨3, ![1, 512, 1]⟩
abbrev S512x1 : Shape := ⟨2, ![512, 1]⟩
abbrev S512 : Shape := ⟨1, ![512]⟩
abbrev S1024x128 : Shape := ⟨2, ![1024, 128]⟩
abbrev S1x1x1024 : Shape := ⟨3, ![1, 1, 1024]⟩
abbrev S1x1024 : Shape := ⟨2, ![1, 1024]⟩
abbrev S512x1024 : Shape := ⟨2, ![512, 1024]⟩
abbrev S1024 : Shape := ⟨1, ![1024]⟩
abbrev S1x1x512 : Shape := ⟨3, ![1, 1, 512]⟩
abbrev S1x512 : Shape := ⟨2, ![1, 512]⟩
abbrev S128x512 : Shape := ⟨2, ![128, 512]⟩

abbrev nBuf : Space → Nat
  | .hbm => 67
  | .vmem => 26
  | .smem => 0
  | _ => 0

abbrev bufTy : (tb : Table) → Fin (tcTables nBuf tb) → BufTy
  | .hbm, ⟨0, _⟩ => ⟨S8192x9232, .f32⟩
  | .hbm, ⟨1, _⟩ => ⟨S16x8192, .f32⟩
  | .hbm, ⟨2, _⟩ => ⟨S8192x1024, .f32⟩
  | .hbm, ⟨3, _⟩ => ⟨S8192x1024, .f32⟩
  | .hbm, ⟨4, _⟩ => ⟨S8192x16x64, .f32⟩
  | .hbm, ⟨5, _⟩ => ⟨S16x8192x64, .f32⟩
  | .hbm, ⟨6, _⟩ => ⟨S8192x1024, .f32⟩
  | .hbm, ⟨7, _⟩ => ⟨S8192x16x64, .f32⟩
  | .hbm, ⟨8, _⟩ => ⟨S16x8192x64, .f32⟩
  | .hbm, ⟨9, _⟩ => ⟨S8192x1024, .f32⟩
  | .hbm, ⟨10, _⟩ => ⟨S8192x16x64, .f32⟩
  | .hbm, ⟨11, _⟩ => ⟨S16x8192x64, .f32⟩
  | .hbm, ⟨12, _⟩ => ⟨S16x16x512, .f32⟩
  | .hbm, ⟨13, _⟩ => ⟨S16x16x1, .f32⟩
  | .hbm, ⟨14, _⟩ => ⟨S16x16x512, .f32⟩
  | .hbm, ⟨15, _⟩ => ⟨S16x8192, .f32⟩
  | .hbm, ⟨16, _⟩ => ⟨S16x8192x8192, .f32⟩
  | .hbm, ⟨17, _⟩ => ⟨S_, .f32⟩
  | .hbm, ⟨18, _⟩ => ⟨S16x8192x8192, .f32⟩
  | .hbm, ⟨19, _⟩ => ⟨S16x8192x8192, .f32⟩
  | .hbm, ⟨20, _⟩ => ⟨S16x8192x1, .f32⟩
  | .hbm, ⟨21, _⟩ => ⟨S16x1x8192, .f32⟩
  | .hbm, ⟨22, _⟩ => ⟨S16x8192x8192, .f32⟩
  | .hbm, ⟨23, _⟩ => ⟨S16x8192x8192, .f32⟩
  | .hbm, ⟨24, _⟩ => ⟨S16x8192x8192, .f32⟩
  | .hbm, ⟨25, _⟩ => ⟨S16x8192x8192, .f32⟩
  | .hbm, ⟨26, _⟩ => ⟨S8192, .i32⟩
  | .hbm, ⟨27, _⟩ => ⟨S1x8192, .i32⟩
  | .hbm, ⟨28, _⟩ => ⟨S8192x1, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S_, .f32⟩
  | .hbm, ⟨33, _⟩ => ⟨S_, .f32⟩
  | .hbm, ⟨34, _⟩ => ⟨S16x8192x8192, .i1⟩
  | .hbm, ⟨35, _⟩ => ⟨S16x8192x8192, .f32⟩
  | .hbm, ⟨36, _⟩ => ⟨S16x8192x8192, .f32⟩
  | .hbm, ⟨37, _⟩ => ⟨S_, .f32⟩
  | .hbm, ⟨38, _⟩ => ⟨S16x8192, .f32⟩
  | .hbm, ⟨39, _⟩ => ⟨S16x8192x1, .f32⟩
  | .hbm, ⟨40, _⟩ => ⟨S16x8192x8192, .f32⟩
  | .hbm, ⟨41, _⟩ => ⟨S16x8192x8192, .f32⟩
  | .hbm, ⟨42, _⟩ => ⟨S16x8192x8192, .f32⟩
  | .hbm, ⟨43, _⟩ => ⟨S_, .f32⟩
  | .hbm, ⟨44, _⟩ => ⟨S16x8192, .f32⟩
  | .hbm, ⟨45, _⟩ => ⟨S16x8192x1, .f32⟩
  | .hbm, ⟨46, _⟩ => ⟨S16x8192x8192, .f32⟩
  | .hbm, ⟨47, _⟩ => ⟨S16x8192x8192, .f32⟩
  | .hbm, ⟨48, _⟩ => ⟨S16x8192x8192, .f32⟩
  | .hbm, ⟨49, _⟩ => ⟨S16x8192x64, .f32⟩
  | .hbm, ⟨50, _⟩ => ⟨S16x8192x64, .f32⟩
  | .hbm, ⟨51, _⟩ => ⟨S16x8192x64, .f32⟩
  | .hbm, ⟨52, _⟩ => ⟨S8192x16x64, .f32⟩
  | .hbm, ⟨53, _⟩ => ⟨S8192x1024, .f32⟩
  | .hbm, ⟨54, _⟩ => ⟨S8192x3072, .f32⟩
  | .hbm, ⟨55, _⟩ => ⟨S8192x6144, .f32⟩
  | .hbm, ⟨56, _⟩ => ⟨S8192x9216, .f32⟩
  | .hbm, ⟨57, _⟩ => ⟨S8192x9216, .bf16⟩
  | .hbm, ⟨58, _⟩ => ⟨S8192x1024, .bf16⟩
  | .hbm, ⟨59, _⟩ => ⟨S16x8192x1, .f32⟩
  | .hbm, ⟨60, _⟩ => ⟨S16x8192x1, .f32⟩
  | .hbm, ⟨61, _⟩ => ⟨S8x2x8192, .f32⟩
  | .hbm, ⟨62, _⟩ => ⟨S8192x1024, .bf16⟩
  | .hbm, ⟨63, _⟩ => ⟨S8192x1024, .bf16⟩
  | .hbm, ⟨64, _⟩ => ⟨S8192x1024, .bf16⟩
  | .hbm, ⟨65, _⟩ => ⟨S8x2x8192, .f32⟩
  | .hbm, ⟨66, _⟩ => ⟨S8x2x8192, .f32⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | .local _ .vmem, ⟨10, _⟩ => ⟨S2x512x1, .f32⟩
  | .local _ .vmem, ⟨11, _⟩ => ⟨S2x512x1, .f32⟩
  | .local _ .vmem, ⟨12, _⟩ => ⟨S1x2x8192, .f32⟩
  | .local _ .vmem, ⟨13, _⟩ => ⟨S1x2x8192, .f32⟩
  | .local _ .vmem, ⟨14, _⟩ => ⟨S512x128, .bf16⟩
  | .local _ .vmem, ⟨15, _⟩ => ⟨S512x128, .bf16⟩
  | .local _ .vmem, ⟨16, _⟩ => ⟨S8192x128, .bf16⟩
  | .local _ .vmem, ⟨17, _⟩ => ⟨S8192x128, .bf16⟩
  | .local _ .vmem, ⟨18, _⟩ => ⟨S8192x128, .bf16⟩
  | .local _ .vmem, ⟨19, _⟩ => ⟨S8192x128, .bf16⟩
  | .local _ .vmem, ⟨20, _⟩ => ⟨S1x2x8192, .f32⟩
  | .local _ .vmem, ⟨21, _⟩ => ⟨S1x2x8192, .f32⟩
  | .local _ .vmem, ⟨22, _⟩ => ⟨S1x2x512, .f32⟩
  | .local _ .vmem, ⟨23, _⟩ => ⟨S1x2x512, .f32⟩
  | .local _ .vmem, ⟨24, _⟩ => ⟨S8192x128, .f32⟩
  | .local _ .vmem, ⟨25, _⟩ => ⟨S8192x128, .f32⟩
  | _, _ => ⟨S8192x9232, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52_0 : Ref sig .tc := ⟨.hbm, 62, rfl⟩
abbrev main_v52_1 : Ref sig .tc := ⟨.hbm, 63, rfl⟩
abbrev main_v52_2 : Ref sig .tc := ⟨.hbm, 64, rfl⟩
abbrev main_v52_3 : Ref sig .tc := ⟨.hbm, 65, rfl⟩
abbrev main_v52_4 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v74 : BitVec 32 := Scalar.muli arg1 c512_i32
  v74
def k0_off1 (i : grid0.Coords) : Fin 3 → Nat :=
  let c0_22 : Index := 0#32
  let c0_23 : Index := 0#32
  let arg1 : BitVec 32 := BitVec.ofNat 32 (i 1).val
  let c512_i32 : BitVec 32 := 512#32
  let v74 : BitVec 32 := Scalar.muli arg1 c512_i32
  let v75 : BitVec 32 := v74
  let v76 : Index := Scalar.indexCast v75
  ![0, 0, v76.toNat]
@[reducible] def k0_t1_loop (i : grid0.Coords) : Scf.Loop 32 :=
  let c0_i32_43 : BitVec 32 := 0#32
  let arg1 : BitVec 32 := BitVec.ofNat 32 (i 1).val
  let c0_i32_36 : BitVec 32 := 0#32
  let v99 : BitVec 1 := Scalar.cmpi .sgt arg1 c0_i32_36
  let v100 : BitVec 32 := Scalar.extui v99
  let c0_i32_37 : BitVec 32 := 0#32
  let v101 : BitVec 1 := Scalar.cmpi .slt arg1 c0_i32_37
  let v102 : BitVec 32 := Scalar.extui v101
  let v103 : BitVec 32 := Scalar.subi v100 v102
  let c2_i32 : BitVec 32 := 2#32
  let c0_i32_38 : BitVec 32 := 0#32
  let v104 : BitVec 1 := Scalar.cmpi .sgt c2_i32 c0_i32_38
  let v105 : BitVec 32 := Scalar.extui v104
  let c0_i32_39 : BitVec 32 := 0#32
  let v106 : BitVec 1 := Scalar.cmpi .slt c2_i32 c0_i32_39
  let v107 : BitVec 32 := Scalar.extui v106
  let v108 : BitVec 32 := Scalar.subi v105 v107
  let v109 : BitVec 1 := Scalar.cmpi .ne v103 v108
  let v110 : BitVec 32 := Scalar.remsi arg1 c2_i32
  let c0_i32_40 : BitVec 32 := 0#32
  let v111 : BitVec 1 := Scalar.cmpi .ne v110 c0_i32_40
  let v112 : BitVec 1 := Scalar.andi v109 v111
  let v98 : BitVec 32 := Scalar.divsi arg1 c2_i32
  let c1_i32_41 : BitVec 32 := 1#32
  let v113 : BitVec 32 := Scalar.subi v98 c1_i32_41
  let v114 : BitVec 32 := Scalar.select v112 v113 v98
  let v116 : BitVec 32 := Scalar.subi v114 c0_i32_43
  let c1_i32_44 : BitVec 32 := 1#32
  let v118 : BitVec 32 := Scalar.divsi v116 c1_i32_44
  let v119 : BitVec 32 := Scalar.muli v118 c1_i32_44
  let v120 : BitVec 32 := Scalar.addi c0_i32_43 v119
  let c1_i32_45 : BitVec 32 := 1#32
  ⟨c0_i32_43, v120, c1_i32_45⟩
def k0_mult2 (i : grid0.Coords) (k0_t1 : Fin (k0_t1_loop i).trips) : BitVec 32 :=
  let c0_i32_43 : BitVec 32 := 0#32
  let c1_i32_45 : BitVec 32 := 1#32
  let arg16 : BitVec 32 := Scf.iv c0_i32_43 c1_i32_45 k0_t1
  let c2_i32_116 : BitVec 32 := 2#32
  let v310 : BitVec 32 := Scalar.muli arg16 c2_i32_116
  let c512_i32_117 : BitVec 32 := 512#32
  let v311 : BitVec 32 := Scalar.muli v310 c512_i32_117
  v311
def k0_off2 (i : grid0.Coords) (k0_t1 : Fin (k0_t1_loop i).trips) : Fin 2 → Nat :=
  let c0_i32_43 : BitVec 32 := 0#32
  let c1_i32_45 : BitVec 32 := 1#32
  let arg16 : BitVec 32 := Scf.iv c0_i32_43 c1_i32_45 k0_t1
  let c2_i32_116 : BitVec 32 := 2#32
  let v310 : BitVec 32 := Scalar.muli arg16 c2_i32_116
  let c512_i32_117 : BitVec 32 := 512#32
  let v311 : BitVec 32 := Scalar.muli v310 c512_i32_117
  let v312 : BitVec 32 := v311
  let v313 : Index := Scalar.indexCast v312
  let c0_118 : Index := 0#32
  ![v313.toNat, 0]
def k0_off3 (i : grid0.Coords) (k0_t1 : Fin (k0_t1_loop i).trips) : Fin 3 → Nat :=
  let c0_138 : Index := 0#32
  let c0_139 : Index := 0#32
  let c0_i32_43 : BitVec 32 := 0#32
  let c1_i32_45 : BitVec 32 := 1#32
  let arg16 : BitVec 32 := Scf.iv c0_i32_43 c1_i32_45 k0_t1
  let c2_i32_116 : BitVec 32 := 2#32
  let v310 : BitVec 32 := Scalar.muli arg16 c2_i32_116
  let c512_i32_117 : BitVec 32 := 512#32
  let v311 : BitVec 32 := Scalar.muli v310 c512_i32_117
  let v312 : BitVec 32 := v311
  let v375 : Index := Scalar.indexCast v312
  ![0, 0, v375.toNat]
def k0_off4 (i : grid0.Coords) (k0_t1 : Fin (k0_t1_loop i).trips) : Fin 3 → Nat :=
  let c0_152 : Index := 0#32
  let c1_153 : Index := 1#32
  let c0_i32_43 : BitVec 32 := 0#32
  let c1_i32_45 : BitVec 32 := 1#32
  let arg16 : BitVec 32 := Scf.iv c0_i32_43 c1_i32_45 k0_t1
  let c2_i32_116 : BitVec 32 := 2#32
  let v310 : BitVec 32 := Scalar.muli arg16 c2_i32_116
  let c512_i32_117 : BitVec 32 := 512#32
  let v311 : BitVec 32 := Scalar.muli v310 c512_i32_117
  let v312 : BitVec 32 := v311
  let v413 : Index := Scalar.indexCast v312
  ![0, 1, v413.toNat]
@[reducible] def k0_t2_loop (i : grid0.Coords) : Scf.Loop 32 :=
  let c0_i32_43 : BitVec 32 := 0#32
  let arg1 : BitVec 32 := BitVec.ofNat 32 (i 1).val
  let c0_i32_36 : BitVec 32 := 0#32
  let v99 : BitVec 1 := Scalar.cmpi .sgt arg1 c0_i32_36
  let v100 : BitVec 32 := Scalar.extui v99
  let c0_i32_37 : BitVec 32 := 0#32
  let v101 : BitVec 1 := Scalar.cmpi .slt arg1 c0_i32_37
  let v102 : BitVec 32 := Scalar.extui v101
  let v103 : BitVec 32 := Scalar.subi v100 v102
  let c2_i32 : BitVec 32 := 2#32
  let c0_i32_38 : BitVec 32 := 0#32
  let v104 : BitVec 1 := Scalar.cmpi .sgt c2_i32 c0_i32_38
  let v105 : BitVec 32 := Scalar.extui v104
  let c0_i32_39 : BitVec 32 := 0#32
  let v106 : BitVec 1 := Scalar.cmpi .slt c2_i32 c0_i32_39
  let v107 : BitVec 32 := Scalar.extui v106
  let v108 : BitVec 32 := Scalar.subi v105 v107
  let v109 : BitVec 1 := Scalar.cmpi .ne v103 v108
  let v110 : BitVec 32 := Scalar.remsi arg1 c2_i32
  let c0_i32_40 : BitVec 32 := 0#32
  let v111 : BitVec 1 := Scalar.cmpi .ne v110 c0_i32_40
  let v112 : BitVec 1 := Scalar.andi v109 v111
  let v98 : BitVec 32 := Scalar.divsi arg1 c2_i32
  let c1_i32_41 : BitVec 32 := 1#32
  let v113 : BitVec 32 := Scalar.subi v98 c1_i32_41
  let v114 : BitVec 32 := Scalar.select v112 v113 v98
  let v116 : BitVec 32 := Scalar.subi v114 c0_i32_43
  let c1_i32_44 : BitVec 32 := 1#32
  let v118 : BitVec 32 := Scalar.divsi v116 c1_i32_44
  let v119 : BitVec 32 := Scalar.muli v118 c1_i32_44
  let v120 : BitVec 32 := Scalar.addi c0_i32_43 v119
  let v117 : BitVec 32 := Scalar.addi c0_i32_43 v116
  let c1_i32_46 : BitVec 32 := 1#32
  ⟨v120, v117, c1_i32_46⟩
def k0_mult3 (i : grid0.Coords) (k0_t2 : Fin (k0_t2_loop i).trips) : BitVec 32 :=
  let c0_i32_43 : BitVec 32 := 0#32
  let arg1 : BitVec 32 := BitVec.ofNat 32 (i 1).val
  let c0_i32_36 : BitVec 32 := 0#32
  let v99 : BitVec 1 := Scalar.cmpi .sgt arg1 c0_i32_36
  let v100 : BitVec 32 := Scalar.extui v99
  let c0_i32_37 : BitVec 32 := 0#32
  let v101 : BitVec 1 := Scalar.cmpi .slt arg1 c0_i32_37
  let v102 : BitVec 32 := Scalar.extui v101
  let v103 : BitVec 32 := Scalar.subi v100 v102
  let c2_i32 : BitVec 32 := 2#32
  let c0_i32_38 : BitVec 32 := 0#32
  let v104 : BitVec 1 := Scalar.cmpi .sgt c2_i32 c0_i32_38
  let v105 : BitVec 32 := Scalar.extui v104
  let c0_i32_39 : BitVec 32 := 0#32
  let v106 : BitVec 1 := Scalar.cmpi .slt c2_i32 c0_i32_39
  let v107 : BitVec 32 := Scalar.extui v106
  let v108 : BitVec 32 := Scalar.subi v105 v107
  let v109 : BitVec 1 := Scalar.cmpi .ne v103 v108
  let v110 : BitVec 32 := Scalar.remsi arg1 c2_i32
  let c0_i32_40 : BitVec 32 := 0#32
  let v111 : BitVec 1 := Scalar.cmpi .ne v110 c0_i32_40
  let v112 : BitVec 1 := Scalar.andi v109 v111
  let v98 : BitVec 32 := Scalar.divsi arg1 c2_i32
  let c1_i32_41 : BitVec 32 := 1#32
  let v113 : BitVec 32 := Scalar.subi v98 c1_i32_41
  let v114 : BitVec 32 := Scalar.select v112 v113 v98
  let v116 : BitVec 32 := Scalar.subi v114 c0_i32_43
  let c1_i32_44 : BitVec 32 := 1#32
  let v118 : BitVec 32 := Scalar.divsi v116 c1_i32_44
  let v119 : BitVec 32 := Scalar.muli v118 c1_i32_44
  let v120 : BitVec 32 := Scalar.addi c0_i32_43 v119
  let c1_i32_46 : BitVec 32 := 1#32
  let arg16 : BitVec 32 := Scf.iv v120 c1_i32_46 k0_t2
  let c2_i32_116 : BitVec 32 := 2#32
  let v310 : BitVec 32 := Scalar.muli arg16 c2_i32_116
  let c512_i32_117 : BitVec 32 := 512#32
  let v311 : BitVec 32 := Scalar.muli v310 c512_i32_117
  v311
def k0_off5 (i : grid0.Coords) (k0_t2 : Fin (k0_t2_loop i).trips) : Fin 2 → Nat :=
  let c0_i32_43 : BitVec 32 := 0#32
  let arg1 : BitVec 32 := BitVec.ofNat 32 (i 1).val
  let c0_i32_36 : BitVec 32 := 0#32
  let v99 : BitVec 1 := Scalar.cmpi .sgt arg1 c0_i32_36
  let v100 : BitVec 32 := Scalar.extui v99
  let c0_i32_37 : BitVec 32 := 0#32
  let v101 : BitVec 1 := Scalar.cmpi .slt arg1 c0_i32_37
  let v102 : BitVec 32 := Scalar.extui v101
  let v103 : BitVec 32 := Scalar.subi v100 v102
  let c2_i32 : BitVec 32 := 2#32
  let c0_i32_38 : BitVec 32 := 0#32
  let v104 : BitVec 1 := Scalar.cmpi .sgt c2_i32 c0_i32_38
  let v105 : BitVec 32 := Scalar.extui v104
  let c0_i32_39 : BitVec 32 := 0#32
  let v106 : BitVec 1 := Scalar.cmpi .slt c2_i32 c0_i32_39
  let v107 : BitVec 32 := Scalar.extui v106
  let v108 : BitVec 32 := Scalar.subi v105 v107
  let v109 : BitVec 1 := Scalar.cmpi .ne v103 v108
  let v110 : BitVec 32 := Scalar.remsi arg1 c2_i32
  let c0_i32_40 : BitVec 32 := 0#32
  let v111 : BitVec 1 := Scalar.cmpi .ne v110 c0_i32_40
  let v112 : BitVec 1 := Scalar.andi v109 v111
  let v98 : BitVec 32 := Scalar.divsi arg1 c2_i32
  let c1_i32_41 : BitVec 32 := 1#32
  let v113 : BitVec 32 := Scalar.subi v98 c1_i32_41
  let v114 : BitVec 32 := Scalar.select v112 v113 v98
  let v116 : BitVec 32 := Scalar.subi v114 c0_i32_43
  let c1_i32_44 : BitVec 32 := 1#32
  let v118 : BitVec 32 := Scalar.divsi v116 c1_i32_44
  let v119 : BitVec 32 := Scalar.muli v118 c1_i32_44
  let v120 : BitVec 32 := Scalar.addi c0_i32_43 v119
  let c1_i32_46 : BitVec 32 := 1#32
  let arg16 : BitVec 32 := Scf.iv v120 c1_i32_46 k0_t2
  let c2_i32_116 : BitVec 32 := 2#32
  let v310 : BitVec 32 := Scalar.muli arg16 c2_i32_116
  let c512_i32_117 : BitVec 32 := 512#32
  let v311 : BitVec 32 := Scalar.muli v310 c512_i32_117
  let v312 : BitVec 32 := v311
  let v313 : Index := Scalar.indexCast v312
  let c0_118 : Index := 0#32
  ![v313.toNat, 0]
def k0_off6 (i : grid0.Coords) (k0_t2 : Fin (k0_t2_loop i).trips) : Fin 3 → Nat :=
  let c0_138 : Index := 0#32
  let c0_139 : Index := 0#32
  let c0_i32_43 : BitVec 32 := 0#32
  let arg1 : BitVec 32 := BitVec.ofNat 32 (i 1).val
  let c0_i32_36 : BitVec 32 := 0#32
  let v99 : BitVec 1 := Scalar.cmpi .sgt arg1 c0_i32_36
  let v100 : BitVec 32 := Scalar.extui v99
  let c0_i32_37 : BitVec 32 := 0#32
  let v101 : BitVec 1 := Scalar.cmpi .slt arg1 c0_i32_37
  let v102 : BitVec 32 := Scalar.extui v101
  let v103 : BitVec 32 := Scalar.subi v100 v102
  let c2_i32 : BitVec 32 := 2#32
  let c0_i32_38 : BitVec 32 := 0#32
  let v104 : BitVec 1 := Scalar.cmpi .sgt c2_i32 c0_i32_38
  let v105 : BitVec 32 := Scalar.extui v104
  let c0_i32_39 : BitVec 32 := 0#32
  let v106 : BitVec 1 := Scalar.cmpi .slt c2_i32 c0_i32_39
  let v107 : BitVec 32 := Scalar.extui v106
  let v108 : BitVec 32 := Scalar.subi v105 v107
  let v109 : BitVec 1 := Scalar.cmpi .ne v103 v108
  let v110 : BitVec 32 := Scalar.remsi arg1 c2_i32
  let c0_i32_40 : BitVec 32 := 0#32
  let v111 : BitVec 1 := Scalar.cmpi .ne v110 c0_i32_40
  let v112 : BitVec 1 := Scalar.andi v109 v111
  let v98 : BitVec 32 := Scalar.divsi arg1 c2_i32
  let c1_i32_41 : BitVec 32 := 1#32
  let v113 : BitVec 32 := Scalar.subi v98 c1_i32_41
  let v114 : BitVec 32 := Scalar.select v112 v113 v98
  let v116 : BitVec 32 := Scalar.subi v114 c0_i32_43
  let c1_i32_44 : BitVec 32 := 1#32
  let v118 : BitVec 32 := Scalar.divsi v116 c1_i32_44
  let v119 : BitVec 32 := Scalar.muli v118 c1_i32_44
  let v120 : BitVec 32 := Scalar.addi c0_i32_43 v119
  let c1_i32_46 : BitVec 32 := 1#32
  let arg16 : BitVec 32 := Scf.iv v120 c1_i32_46 k0_t2
  let c2_i32_116 : BitVec 32 := 2#32
  let v310 : BitVec 32 := Scalar.muli arg16 c2_i32_116
  let c512_i32_117 : BitVec 32 := 512#32
  let v311 : BitVec 32 := Scalar.muli v310 c512_i32_117
  let v312 : BitVec 32 := v311
  let v375 : Index := Scalar.indexCast v312
  ![0, 0, v375.toNat]
def k0_off7 (i : grid0.Coords) (k0_t2 : Fin (k0_t2_loop i).trips) : Fin 3 → Nat :=
  let c0_152 : Index := 0#32
  let c1_153 : Index := 1#32
  let c0_i32_43 : BitVec 32 := 0#32
  let arg1 : BitVec 32 := BitVec.ofNat 32 (i 1).val
  let c0_i32_36 : BitVec 32 := 0#32
  let v99 : BitVec 1 := Scalar.cmpi .sgt arg1 c0_i32_36
  let v100 : BitVec 32 := Scalar.extui v99
  let c0_i32_37 : BitVec 32 := 0#32
  let v101 : BitVec 1 := Scalar.cmpi .slt arg1 c0_i32_37
  let v102 : BitVec 32 := Scalar.extui v101
  let v103 : BitVec 32 := Scalar.subi v100 v102
  let c2_i32 : BitVec 32 := 2#32
  let c0_i32_38 : BitVec 32 := 0#32
  let v104 : BitVec 1 := Scalar.cmpi .sgt c2_i32 c0_i32_38
  let v105 : BitVec 32 := Scalar.extui v104
  let c0_i32_39 : BitVec 32 := 0#32
  let v106 : BitVec 1 := Scalar.cmpi .slt c2_i32 c0_i32_39
  let v107 : BitVec 32 := Scalar.extui v106
  let v108 : BitVec 32 := Scalar.subi v105 v107
  let v109 : BitVec 1 := Scalar.cmpi .ne v103 v108
  let v110 : BitVec 32 := Scalar.remsi arg1 c2_i32
  let c0_i32_40 : BitVec 32 := 0#32
  let v111 : BitVec 1 := Scalar.cmpi .ne v110 c0_i32_40
  let v112 : BitVec 1 := Scalar.andi v109 v111
  let v98 : BitVec 32 := Scalar.divsi arg1 c2_i32
  let c1_i32_41 : BitVec 32 := 1#32
  let v113 : BitVec 32 := Scalar.subi v98 c1_i32_41
  let v114 : BitVec 32 := Scalar.select v112 v113 v98
  let v116 : BitVec 32 := Scalar.subi v114 c0_i32_43
  let c1_i32_44 : BitVec 32 := 1#32
  let v118 : BitVec 32 := Scalar.divsi v116 c1_i32_44
  let v119 : BitVec 32 := Scalar.muli v118 c1_i32_44
  let v120 : BitVec 32 := Scalar.addi c0_i32_43 v119
  let c1_i32_46 : BitVec 32 := 1#32
  let arg16 : BitVec 32 := Scf.iv v120 c1_i32_46 k0_t2
  let c2_i32_116 : BitVec 32 := 2#32
  let v310 : BitVec 32 := Scalar.muli arg16 c2_i32_116
  let c512_i32_117 : BitVec 32 := 512#32
  let v311 : BitVec 32 := Scalar.muli v310 c512_i32_117
  let v312 : BitVec 32 := v311
  let v413 : Index := Scalar.indexCast v312
  ![0, 1, v413.toNat]
@[reducible] def k0_t3_loop (i : grid0.Coords) : Scf.Loop 32 :=
  let arg1 : BitVec 32 := BitVec.ofNat 32 (i 1).val
  let c0_i32_36 : BitVec 32 := 0#32
  let v99 : BitVec 1 := Scalar.cmpi .sgt arg1 c0_i32_36
  let v100 : BitVec 32 := Scalar.extui v99
  let c0_i32_37 : BitVec 32 := 0#32
  let v101 : BitVec 1 := Scalar.cmpi .slt arg1 c0_i32_37
  let v102 : BitVec 32 := Scalar.extui v101
  let v103 : BitVec 32 := Scalar.subi v100 v102
  let c2_i32 : BitVec 32 := 2#32
  let c0_i32_38 : BitVec 32 := 0#32
  let v104 : BitVec 1 := Scalar.cmpi .sgt c2_i32 c0_i32_38
  let v105 : BitVec 32 := Scalar.extui v104
  let c0_i32_39 : BitVec 32 := 0#32
  let v106 : BitVec 1 := Scalar.cmpi .slt c2_i32 c0_i32_39
  let v107 : BitVec 32 := Scalar.extui v106
  let v108 : BitVec 32 := Scalar.subi v105 v107
  let v109 : BitVec 1 := Scalar.cmpi .ne v103 v108
  let v110 : BitVec 32 := Scalar.remsi arg1 c2_i32
  let c0_i32_40 : BitVec 32 := 0#32
  let v111 : BitVec 1 := Scalar.cmpi .ne v110 c0_i32_40
  let v112 : BitVec 1 := Scalar.andi v109 v111
  let v98 : BitVec 32 := Scalar.divsi arg1 c2_i32
  let c1_i32_41 : BitVec 32 := 1#32
  let v113 : BitVec 32 := Scalar.subi v98 c1_i32_41
  let v114 : BitVec 32 := Scalar.select v112 v113 v98
  let c2_i32_47 : BitVec 32 := 2#32
  let v123 : BitVec 32 := Scalar.muli v114 c2_i32_47
  let v124 : BitVec 32 := Scalar.subi arg1 v123
  let c1_i32_48 : BitVec 32 := 1#32
  let v126 : BitVec 32 := Scalar.divsi v124 c1_i32_48
  let v127 : BitVec 32 := Scalar.muli v126 c1_i32_48
  let v128 : BitVec 32 := Scalar.addi v123 v127
  let c1_i32_49 : BitVec 32 := 1#32
  ⟨v123, v128, c1_i32_49⟩
def k0_mult4 (i : grid0.Coords) (k0_t3 : Fin (k0_t3_loop i).trips) : BitVec 32 :=
  let arg1 : BitVec 32 := BitVec.ofNat 32 (i 1).val
  let c0_i32_36 : BitVec 32 := 0#32
  let v99 : BitVec 1 := Scalar.cmpi .sgt arg1 c0_i32_36
  let v100 : BitVec 32 := Scalar.extui v99
  let c0_i32_37 : BitVec 32 := 0#32
  let v101 : BitVec 1 := Scalar.cmpi .slt arg1 c0_i32_37
  let v102 : BitVec 32 := Scalar.extui v101
  let v103 : BitVec 32 := Scalar.subi v100 v102
  let c2_i32 : BitVec 32 := 2#32
  let c0_i32_38 : BitVec 32 := 0#32
  let v104 : BitVec 1 := Scalar.cmpi .sgt c2_i32 c0_i32_38
  let v105 : BitVec 32 := Scalar.extui v104
  let c0_i32_39 : BitVec 32 := 0#32
  let v106 : BitVec 1 := Scalar.cmpi .slt c2_i32 c0_i32_39
  let v107 : BitVec 32 := Scalar.extui v106
  let v108 : BitVec 32 := Scalar.subi v105 v107
  let v109 : BitVec 1 := Scalar.cmpi .ne v103 v108
  let v110 : BitVec 32 := Scalar.remsi arg1 c2_i32
  let c0_i32_40 : BitVec 32 := 0#32
  let v111 : BitVec 1 := Scalar.cmpi .ne v110 c0_i32_40
  let v112 : BitVec 1 := Scalar.andi v109 v111
  let v98 : BitVec 32 := Scalar.divsi arg1 c2_i32
  let c1_i32_41 : BitVec 32 := 1#32
  let v113 : BitVec 32 := Scalar.subi v98 c1_i32_41
  let v114 : BitVec 32 := Scalar.select v112 v113 v98
  let c2_i32_47 : BitVec 32 := 2#32
  let v123 : BitVec 32 := Scalar.muli v114 c2_i32_47
  let c1_i32_49 : BitVec 32 := 1#32
  let arg16 : BitVec 32 := Scf.iv v123 c1_i32_49 k0_t3
  let c512_i32_116 : BitVec 32 := 512#32
  let v310 : BitVec 32 := Scalar.muli arg16 c512_i32_116
  v310
def k0_off8 (i : grid0.Coords) (k0_t3 : Fin (k0_t3_loop i).trips) : Fin 2 → Nat :=
  let arg1 : BitVec 32 := BitVec.ofNat 32 (i 1).val
  let c0_i32_36 : BitVec 32 := 0#32
  let v99 : BitVec 1 := Scalar.cmpi .sgt arg1 c0_i32_36
  let v100 : BitVec 32 := Scalar.extui v99
  let c0_i32_37 : BitVec 32 := 0#32
  let v101 : BitVec 1 := Scalar.cmpi .slt arg1 c0_i32_37
  let v102 : BitVec 32 := Scalar.extui v101
  let v103 : BitVec 32 := Scalar.subi v100 v102
  let c2_i32 : BitVec 32 := 2#32
  let c0_i32_38 : BitVec 32 := 0#32
  let v104 : BitVec 1 := Scalar.cmpi .sgt c2_i32 c0_i32_38
  let v105 : BitVec 32 := Scalar.extui v104
  let c0_i32_39 : BitVec 32 := 0#32
  let v106 : BitVec 1 := Scalar.cmpi .slt c2_i32 c0_i32_39
  let v107 : BitVec 32 := Scalar.extui v106
  let v108 : BitVec 32 := Scalar.subi v105 v107
  let v109 : BitVec 1 := Scalar.cmpi .ne v103 v108
  let v110 : BitVec 32 := Scalar.remsi arg1 c2_i32
  let c0_i32_40 : BitVec 32 := 0#32
  let v111 : BitVec 1 := Scalar.cmpi .ne v110 c0_i32_40
  let v112 : BitVec 1 := Scalar.andi v109 v111
  let v98 : BitVec 32 := Scalar.divsi arg1 c2_i32
  let c1_i32_41 : BitVec 32 := 1#32
  let v113 : BitVec 32 := Scalar.subi v98 c1_i32_41
  let v114 : BitVec 32 := Scalar.select v112 v113 v98
  let c2_i32_47 : BitVec 32 := 2#32
  let v123 : BitVec 32 := Scalar.muli v114 c2_i32_47
  let c1_i32_49 : BitVec 32 := 1#32
  let arg16 : BitVec 32 := Scf.iv v123 c1_i32_49 k0_t3
  let c512_i32_116 : BitVec 32 := 512#32
  let v310 : BitVec 32 := Scalar.muli arg16 c512_i32_116
  let v311 : BitVec 32 := v310
  let v312 : Index := Scalar.indexCast v311
  let c0_117 : Index := 0#32
  ![v312.toNat, 0]
def k0_off9 (i : grid0.Coords) (k0_t3 : Fin (k0_t3_loop i).trips) : Fin 3 → Nat :=
  let c0_137 : Index := 0#32
  let c0_138 : Index := 0#32
  let arg1 : BitVec 32 := BitVec.ofNat 32 (i 1).val
  let c0_i32_36 : BitVec 32 := 0#32
  let v99 : BitVec 1 := Scalar.cmpi .sgt arg1 c0_i32_36
  let v100 : BitVec 32 := Scalar.extui v99
  let c0_i32_37 : BitVec 32 := 0#32
  let v101 : BitVec 1 := Scalar.cmpi .slt arg1 c0_i32_37
  let v102 : BitVec 32 := Scalar.extui v101
  let v103 : BitVec 32 := Scalar.subi v100 v102
  let c2_i32 : BitVec 32 := 2#32
  let c0_i32_38 : BitVec 32 := 0#32
  let v104 : BitVec 1 := Scalar.cmpi .sgt c2_i32 c0_i32_38
  let v105 : BitVec 32 := Scalar.extui v104
  let c0_i32_39 : BitVec 32 := 0#32
  let v106 : BitVec 1 := Scalar.cmpi .slt c2_i32 c0_i32_39
  let v107 : BitVec 32 := Scalar.extui v106
  let v108 : BitVec 32 := Scalar.subi v105 v107
  let v109 : BitVec 1 := Scalar.cmpi .ne v103 v108
  let v110 : BitVec 32 := Scalar.remsi arg1 c2_i32
  let c0_i32_40 : BitVec 32 := 0#32
  let v111 : BitVec 1 := Scalar.cmpi .ne v110 c0_i32_40
  let v112 : BitVec 1 := Scalar.andi v109 v111
  let v98 : BitVec 32 := Scalar.divsi arg1 c2_i32
  let c1_i32_41 : BitVec 32 := 1#32
  let v113 : BitVec 32 := Scalar.subi v98 c1_i32_41
  let v114 : BitVec 32 := Scalar.select v112 v113 v98
  let c2_i32_47 : BitVec 32 := 2#32
  let v123 : BitVec 32 := Scalar.muli v114 c2_i32_47
  let c1_i32_49 : BitVec 32 := 1#32
  let arg16 : BitVec 32 := Scf.iv v123 c1_i32_49 k0_t3
  let c512_i32_116 : BitVec 32 := 512#32
  let v310 : BitVec 32 := Scalar.muli arg16 c512_i32_116
  let v311 : BitVec 32 := v310
  let v374 : Index := Scalar.indexCast v311
  ![0, 0, v374.toNat]
def k0_off10 (i : grid0.Coords) (k0_t3 : Fin (k0_t3_loop i).trips) : Fin 3 → Nat :=
  let c0_151 : Index := 0#32
  let c1_152 : Index := 1#32
  let arg1 : BitVec 32 := BitVec.ofNat 32 (i 1).val
  let c0_i32_36 : BitVec 32 := 0#32
  let v99 : BitVec 1 := Scalar.cmpi .sgt arg1 c0_i32_36
  let v100 : BitVec 32 := Scalar.extui v99
  let c0_i32_37 : BitVec 32 := 0#32
  let v101 : BitVec 1 := Scalar.cmpi .slt arg1 c0_i32_37
  let v102 : BitVec 32 := Scalar.extui v101
  let v103 : BitVec 32 := Scalar.subi v100 v102
  let c2_i32 : BitVec 32 := 2#32
  let c0_i32_38 : BitVec 32 := 0#32
  let v104 : BitVec 1 := Scalar.cmpi .sgt c2_i32 c0_i32_38
  let v105 : BitVec 32 := Scalar.extui v104
  let c0_i32_39 : BitVec 32 := 0#32
  let v106 : BitVec 1 := Scalar.cmpi .slt c2_i32 c0_i32_39
  let v107 : BitVec 32 := Scalar.extui v106
  let v108 : BitVec 32 := Scalar.subi v105 v107
  let v109 : BitVec 1 := Scalar.cmpi .ne v103 v108
  let v110 : BitVec 32 := Scalar.remsi arg1 c2_i32
  let c0_i32_40 : BitVec 32 := 0#32
  let v111 : BitVec 1 := Scalar.cmpi .ne v110 c0_i32_40
  let v112 : BitVec 1 := Scalar.andi v109 v111
  let v98 : BitVec 32 := Scalar.divsi arg1 c2_i32
  let c1_i32_41 : BitVec 32 := 1#32
  let v113 : BitVec 32 := Scalar.subi v98 c1_i32_41
  let v114 : BitVec 32 := Scalar.select v112 v113 v98
  let c2_i32_47 : BitVec 32 := 2#32
  let v123 : BitVec 32 := Scalar.muli v114 c2_i32_47
  let c1_i32_49 : BitVec 32 := 1#32
  let arg16 : BitVec 32 := Scf.iv v123 c1_i32_49 k0_t3
  let c512_i32_116 : BitVec 32 := 512#32
  let v310 : BitVec 32 := Scalar.muli arg16 c512_i32_116
  let v311 : BitVec 32 := v310
  let v412 : Index := Scalar.indexCast v311
  ![0, 1, v412.toNat]
@[reducible] def k0_t4_loop (i : grid0.Coords) : Scf.Loop 32 :=
  let arg1 : BitVec 32 := BitVec.ofNat 32 (i 1).val
  let c0_i32_36 : BitVec 32 := 0#32
  let v99 : BitVec 1 := Scalar.cmpi .sgt arg1 c0_i32_36
  let v100 : BitVec 32 := Scalar.extui v99
  let c0_i32_37 : BitVec 32 := 0#32
  let v101 : BitVec 1 := Scalar.cmpi .slt arg1 c0_i32_37
  let v102 : BitVec 32 := Scalar.extui v101
  let v103 : BitVec 32 := Scalar.subi v100 v102
  let c2_i32 : BitVec 32 := 2#32
  let c0_i32_38 : BitVec 32 := 0#32
  let v104 : BitVec 1 := Scalar.cmpi .sgt c2_i32 c0_i32_38
  let v105 : BitVec 32 := Scalar.extui v104
  let c0_i32_39 : BitVec 32 := 0#32
  let v106 : BitVec 1 := Scalar.cmpi .slt c2_i32 c0_i32_39
  let v107 : BitVec 32 := Scalar.extui v106
  let v108 : BitVec 32 := Scalar.subi v105 v107
  let v109 : BitVec 1 := Scalar.cmpi .ne v103 v108
  let v110 : BitVec 32 := Scalar.remsi arg1 c2_i32
  let c0_i32_40 : BitVec 32 := 0#32
  let v111 : BitVec 1 := Scalar.cmpi .ne v110 c0_i32_40
  let v112 : BitVec 1 := Scalar.andi v109 v111
  let v98 : BitVec 32 := Scalar.divsi arg1 c2_i32
  let c1_i32_41 : BitVec 32 := 1#32
  let v113 : BitVec 32 := Scalar.subi v98 c1_i32_41
  let v114 : BitVec 32 := Scalar.select v112 v113 v98
  let c2_i32_47 : BitVec 32 := 2#32
  let v123 : BitVec 32 := Scalar.muli v114 c2_i32_47
  let v124 : BitVec 32 := Scalar.subi arg1 v123
  let c1_i32_48 : BitVec 32 := 1#32
  let v126 : BitVec 32 := Scalar.divsi v124 c1_i32_48
  let v127 : BitVec 32 := Scalar.muli v126 c1_i32_48
  let v128 : BitVec 32 := Scalar.addi v123 v127
  let v125 : BitVec 32 := Scalar.addi v123 v124
  let c1_i32_50 : BitVec 32 := 1#32
  ⟨v128, v125, c1_i32_50⟩
def k0_mult5 (i : grid0.Coords) (k0_t4 : Fin (k0_t4_loop i).trips) : BitVec 32 :=
  let arg1 : BitVec 32 := BitVec.ofNat 32 (i 1).val
  let c0_i32_36 : BitVec 32 := 0#32
  let v99 : BitVec 1 := Scalar.cmpi .sgt arg1 c0_i32_36
  let v100 : BitVec 32 := Scalar.extui v99
  let c0_i32_37 : BitVec 32 := 0#32
  let v101 : BitVec 1 := Scalar.cmpi .slt arg1 c0_i32_37
  let v102 : BitVec 32 := Scalar.extui v101
  let v103 : BitVec 32 := Scalar.subi v100 v102
  let c2_i32 : BitVec 32 := 2#32
  let c0_i32_38 : BitVec 32 := 0#32
  let v104 : BitVec 1 := Scalar.cmpi .sgt c2_i32 c0_i32_38
  let v105 : BitVec 32 := Scalar.extui v104
  let c0_i32_39 : BitVec 32 := 0#32
  let v106 : BitVec 1 := Scalar.cmpi .slt c2_i32 c0_i32_39
  let v107 : BitVec 32 := Scalar.extui v106
  let v108 : BitVec 32 := Scalar.subi v105 v107
  let v109 : BitVec 1 := Scalar.cmpi .ne v103 v108
  let v110 : BitVec 32 := Scalar.remsi arg1 c2_i32
  let c0_i32_40 : BitVec 32 := 0#32
  let v111 : BitVec 1 := Scalar.cmpi .ne v110 c0_i32_40
  let v112 : BitVec 1 := Scalar.andi v109 v111
  let v98 : BitVec 32 := Scalar.divsi arg1 c2_i32
  let c1_i32_41 : BitVec 32 := 1#32
  let v113 : BitVec 32 := Scalar.subi v98 c1_i32_41
  let v114 : BitVec 32 := Scalar.select v112 v113 v98
  let c2_i32_47 : BitVec 32 := 2#32
  let v123 : BitVec 32 := Scalar.muli v114 c2_i32_47
  let v124 : BitVec 32 := Scalar.subi arg1 v123
  let c1_i32_48 : BitVec 32 := 1#32
  let v126 : BitVec 32 := Scalar.divsi v124 c1_i32_48
  let v127 : BitVec 32 := Scalar.muli v126 c1_i32_48
  let v128 : BitVec 32 := Scalar.addi v123 v127
  let c1_i32_50 : BitVec 32 := 1#32
  let arg16 : BitVec 32 := Scf.iv v128 c1_i32_50 k0_t4
  let c512_i32_116 : BitVec 32 := 512#32
  let v310 : BitVec 32 := Scalar.muli arg16 c512_i32_116
  v310
def k0_off11 (i : grid0.Coords) (k0_t4 : Fin (k0_t4_loop i).trips) : Fin 2 → Nat :=
  let arg1 : BitVec 32 := BitVec.ofNat 32 (i 1).val
  let c0_i32_36 : BitVec 32 := 0#32
  let v99 : BitVec 1 := Scalar.cmpi .sgt arg1 c0_i32_36
  let v100 : BitVec 32 := Scalar.extui v99
  let c0_i32_37 : BitVec 32 := 0#32
  let v101 : BitVec 1 := Scalar.cmpi .slt arg1 c0_i32_37
  let v102 : BitVec 32 := Scalar.extui v101
  let v103 : BitVec 32 := Scalar.subi v100 v102
  let c2_i32 : BitVec 32 := 2#32
  let c0_i32_38 : BitVec 32 := 0#32
  let v104 : BitVec 1 := Scalar.cmpi .sgt c2_i32 c0_i32_38
  let v105 : BitVec 32 := Scalar.extui v104
  let c0_i32_39 : BitVec 32 := 0#32
  let v106 : BitVec 1 := Scalar.cmpi .slt c2_i32 c0_i32_39
  let v107 : BitVec 32 := Scalar.extui v106
  let v108 : BitVec 32 := Scalar.subi v105 v107
  let v109 : BitVec 1 := Scalar.cmpi .ne v103 v108
  let v110 : BitVec 32 := Scalar.remsi arg1 c2_i32
  let c0_i32_40 : BitVec 32 := 0#32
  let v111 : BitVec 1 := Scalar.cmpi .ne v110 c0_i32_40
  let v112 : BitVec 1 := Scalar.andi v109 v111
  let v98 : BitVec 32 := Scalar.divsi arg1 c2_i32
  let c1_i32_41 : BitVec 32 := 1#32
  let v113 : BitVec 32 := Scalar.subi v98 c1_i32_41
  let v114 : BitVec 32 := Scalar.select v112 v113 v98
  let c2_i32_47 : BitVec 32 := 2#32
  let v123 : BitVec 32 := Scalar.muli v114 c2_i32_47
  let v124 : BitVec 32 := Scalar.subi arg1 v123
  let c1_i32_48 : BitVec 32 := 1#32
  let v126 : BitVec 32 := Scalar.divsi v124 c1_i32_48
  let v127 : BitVec 32 := Scalar.muli v126 c1_i32_48
  let v128 : BitVec 32 := Scalar.addi v123 v127
  let c1_i32_50 : BitVec 32 := 1#32
  let arg16 : BitVec 32 := Scf.iv v128 c1_i32_50 k0_t4
  let c512_i32_116 : BitVec 32 := 512#32
  let v310 : BitVec 32 := Scalar.muli arg16 c512_i32_116
  let v311 : BitVec 32 := v310
  let v312 : Index := Scalar.indexCast v311
  let c0_117 : Index := 0#32
  ![v312.toNat, 0]
def k0_off12 (i : grid0.Coords) (k0_t4 : Fin (k0_t4_loop i).trips) : Fin 3 → Nat :=
  let c0_137 : Index := 0#32
  let c0_138 : Index := 0#32
  let arg1 : BitVec 32 := BitVec.ofNat 32 (i 1).val
  let c0_i32_36 : BitVec 32 := 0#32
  let v99 : BitVec 1 := Scalar.cmpi .sgt arg1 c0_i32_36
  let v100 : BitVec 32 := Scalar.extui v99
  let c0_i32_37 : BitVec 32 := 0#32
  let v101 : BitVec 1 := Scalar.cmpi .slt arg1 c0_i32_37
  let v102 : BitVec 32 := Scalar.extui v101
  let v103 : BitVec 32 := Scalar.subi v100 v102
  let c2_i32 : BitVec 32 := 2#32
  let c0_i32_38 : BitVec 32 := 0#32
  let v104 : BitVec 1 := Scalar.cmpi .sgt c2_i32 c0_i32_38
  let v105 : BitVec 32 := Scalar.extui v104
  let c0_i32_39 : BitVec 32 := 0#32
  let v106 : BitVec 1 := Scalar.cmpi .slt c2_i32 c0_i32_39
  let v107 : BitVec 32 := Scalar.extui v106
  let v108 : BitVec 32 := Scalar.subi v105 v107
  let v109 : BitVec 1 := Scalar.cmpi .ne v103 v108
  let v110 : BitVec 32 := Scalar.remsi arg1 c2_i32
  let c0_i32_40 : BitVec 32 := 0#32
  let v111 : BitVec 1 := Scalar.cmpi .ne v110 c0_i32_40
  let v112 : BitVec 1 := Scalar.andi v109 v111
  let v98 : BitVec 32 := Scalar.divsi arg1 c2_i32
  let c1_i32_41 : BitVec 32 := 1#32
  let v113 : BitVec 32 := Scalar.subi v98 c1_i32_41
  let v114 : BitVec 32 := Scalar.select v112 v113 v98
  let c2_i32_47 : BitVec 32 := 2#32
  let v123 : BitVec 32 := Scalar.muli v114 c2_i32_47
  let v124 : BitVec 32 := Scalar.subi arg1 v123
  let c1_i32_48 : BitVec 32 := 1#32
  let v126 : BitVec 32 := Scalar.divsi v124 c1_i32_48
  let v127 : BitVec 32 := Scalar.muli v126 c1_i32_48
  let v128 : BitVec 32 := Scalar.addi v123 v127
  let c1_i32_50 : BitVec 32 := 1#32
  let arg16 : BitVec 32 := Scf.iv v128 c1_i32_50 k0_t4
  let c512_i32_116 : BitVec 32 := 512#32
  let v310 : BitVec 32 := Scalar.muli arg16 c512_i32_116
  let v311 : BitVec 32 := v310
  let v374 : Index := Scalar.indexCast v311
  ![0, 0, v374.toNat]
def k0_off13 (i : grid0.Coords) (k0_t4 : Fin (k0_t4_loop i).trips) : Fin 3 → Nat :=
  let c0_151 : Index := 0#32
  let c1_152 : Index := 1#32
  let arg1 : BitVec 32 := BitVec.ofNat 32 (i 1).val
  let c0_i32_36 : BitVec 32 := 0#32
  let v99 : BitVec 1 := Scalar.cmpi .sgt arg1 c0_i32_36
  let v100 : BitVec 32 := Scalar.extui v99
  let c0_i32_37 : BitVec 32 := 0#32
  let v101 : BitVec 1 := Scalar.cmpi .slt arg1 c0_i32_37
  let v102 : BitVec 32 := Scalar.extui v101
  let v103 : BitVec 32 := Scalar.subi v100 v102
  let c2_i32 : BitVec 32 := 2#32
  let c0_i32_38 : BitVec 32 := 0#32
  let v104 : BitVec 1 := Scalar.cmpi .sgt c2_i32 c0_i32_38
  let v105 : BitVec 32 := Scalar.extui v104
  let c0_i32_39 : BitVec 32 := 0#32
  let v106 : BitVec 1 := Scalar.cmpi .slt c2_i32 c0_i32_39
  let v107 : BitVec 32 := Scalar.extui v106
  let v108 : BitVec 32 := Scalar.subi v105 v107
  let v109 : BitVec 1 := Scalar.cmpi .ne v103 v108
  let v110 : BitVec 32 := Scalar.remsi arg1 c2_i32
  let c0_i32_40 : BitVec 32 := 0#32
  let v111 : BitVec 1 := Scalar.cmpi .ne v110 c0_i32_40
  let v112 : BitVec 1 := Scalar.andi v109 v111
  let v98 : BitVec 32 := Scalar.divsi arg1 c2_i32
  let c1_i32_41 : BitVec 32 := 1#32
  let v113 : BitVec 32 := Scalar.subi v98 c1_i32_41
  let v114 : BitVec 32 := Scalar.select v112 v113 v98
  let c2_i32_47 : BitVec 32 := 2#32
  let v123 : BitVec 32 := Scalar.muli v114 c2_i32_47
  let v124 : BitVec 32 := Scalar.subi arg1 v123
  let c1_i32_48 : BitVec 32 := 1#32
  let v126 : BitVec 32 := Scalar.divsi v124 c1_i32_48
  let v127 : BitVec 32 := Scalar.muli v126 c1_i32_48
  let v128 : BitVec 32 := Scalar.addi v123 v127
  let c1_i32_50 : BitVec 32 := 1#32
  let arg16 : BitVec 32 := Scf.iv v128 c1_i32_50 k0_t4
  let c512_i32_116 : BitVec 32 := 512#32
  let v310 : BitVec 32 := Scalar.muli arg16 c512_i32_116
  let v311 : BitVec 32 := v310
  let v412 : Index := Scalar.indexCast v311
  ![0, 1, v412.toNat]
def k0_mult6 (i : grid0.Coords) : BitVec 32 :=
  let arg1 : BitVec 32 := BitVec.ofNat 32 (i 1).val
  let c512_i32_51 : BitVec 32 := 512#32
  let v131 : BitVec 32 := Scalar.muli arg1 c512_i32_51
  v131
def k0_off14 (i : grid0.Coords) : Fin 2 → Nat :=
  let arg1 : BitVec 32 := BitVec.ofNat 32 (i 1).val
  let c512_i32_51 : BitVec 32 := 512#32
  let v131 : BitVec 32 := Scalar.muli arg1 c512_i32_51
  let v132 : BitVec 32 := v131
  let v133 : Index := Scalar.indexCast v132
  let c0_52 : Index := 0#32
  ![v133.toNat, 0]
def k0_off15 (i : grid0.Coords) : Fin 3 → Nat :=
  let c0_72 : Index := 0#32
  let c0_73 : Index := 0#32
  let arg1 : BitVec 32 := BitVec.ofNat 32 (i 1).val
  let c512_i32_51 : BitVec 32 := 512#32
  let v131 : BitVec 32 := Scalar.muli arg1 c512_i32_51
  let v132 : BitVec 32 := v131
  let v195 : Index := Scalar.indexCast v132
  ![0, 0, v195.toNat]
def k0_off16 (i : grid0.Coords) : Fin 3 → Nat :=
  let c0_87 : Index := 0#32
  let c1_88 : Index := 1#32
  let arg1 : BitVec 32 := BitVec.ofNat 32 (i 1).val
  let c512_i32_51 : BitVec 32 := 512#32
  let v131 : BitVec 32 := Scalar.muli arg1 c512_i32_51
  let v132 : BitVec 32 := v131
  let v235 : Index := Scalar.indexCast v132
  ![0, 1, v235.toNat]
def k0_cond2 (i : grid0.Coords) : BitVec 1 :=
  let arg1 : BitVec 32 := BitVec.ofNat 32 (i 1).val
  let c15_i32 : BitVec 32 := 15#32
  let v307 : BitVec 1 := Scalar.cmpi .eq arg1 c15_i32
  let v308 : BitVec 32 := Scalar.extui v307
  let c0_i32_115 : BitVec 32 := 0#32
  let v309 : BitVec 1 := Scalar.cmpi .ne v308 c0_i32_115
  v309

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8192x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x2x8192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x2x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S8192x9232 : Shape := ⟨2, ![8192, 9232]⟩
abbrev S16x8192 : Shape := ⟨2, ![16, 8192]⟩
abbrev S8192x1024 : Shape := ⟨2, ![8192, 1024]⟩
abbrev S8192x16x64 : Shape := ⟨3, ![8192, 16, 64]⟩
abbrev S16x8192x64 : Shape := ⟨3, ![16, 8192, 64]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x64x8192 : Shape := ⟨3, ![16, 64, 8192]⟩
abbrev S8x2x8192 : Shape := ⟨3, ![8, 2, 8192]⟩

abbrev nBuf : Space → Nat
  | .hbm => 125
  | .vmem => 0
  | .smem => 0
  | _ => 0

abbrev bufTy : (tb : Table) → Fin (tcTables nBuf tb) → BufTy
  | .hbm, ⟨0, _⟩ => ⟨S8192x9232, .f32⟩
  | .hbm, ⟨1, _⟩ => ⟨S16x8192, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x16x64, .f32⟩
  | .hbm, ⟨7, _⟩ => ⟨S16x8192x64, .f32⟩
  | .hbm, ⟨8, _⟩ => ⟨S8192x16x64, .f32⟩
  | .hbm, ⟨9, _⟩ => ⟨S16x8192x64, .f32⟩
  | .hbm, ⟨10, _⟩ => ⟨S8192x16x64, .f32⟩
  | .hbm, ⟨11, _⟩ => ⟨S16x8192x64, .f32⟩
  | .hbm, ⟨12, _⟩ => ⟨S16x8192x8192, .f32⟩
  | .hbm, ⟨13, _⟩ => ⟨S_, .f32⟩
  | .hbm, ⟨14, _⟩ => ⟨S16x8192x8192, .f32⟩
  | .hbm, ⟨15, _⟩ => ⟨S16x8192x8192, .f32⟩
  | .hbm, ⟨16, _⟩ => ⟨S16x8192x1, .f32⟩
  | .hbm, ⟨17, _⟩ => ⟨S16x1x8192, .f32⟩
  | .hbm, ⟨18, _⟩ => ⟨S16x8192x8192, .f32⟩
  | .hbm, ⟨19, _⟩ => ⟨S16x8192x8192, .f32⟩
  | .hbm, ⟨20, _⟩ => ⟨S16x8192x8192, .f32⟩
  | .hbm, ⟨21, _⟩ => ⟨S16x8192x8192, .f32⟩
  | .hbm, ⟨22, _⟩ => ⟨S8192, .i32⟩
  | .hbm, ⟨23, _⟩ => ⟨S1x8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S_, .f32⟩
  | .hbm, ⟨29, _⟩ => ⟨S_, .f32⟩
  | .hbm, ⟨30, _⟩ => ⟨S16x8192x8192, .i1⟩
  | .hbm, ⟨31, _⟩ => ⟨S16x8192x8192, .f32⟩
  | .hbm, ⟨32, _⟩ => ⟨S16x8192x8192, .f32⟩
  | .hbm, ⟨33, _⟩ => ⟨S_, .f32⟩
  | .hbm, ⟨34, _⟩ => ⟨S16x8192x8192, .f32⟩
  | .hbm, ⟨35, _⟩ => ⟨S_, .f32⟩
  | .hbm, ⟨36, _⟩ => ⟨S16x8192, .f32⟩
  | .hbm, ⟨37, _⟩ => ⟨S16x8192x1, .f32⟩
  | .hbm, ⟨38, _⟩ => ⟨S16x8192x8192, .f32⟩
  | .hbm, ⟨39, _⟩ => ⟨S16x8192x8192, .i1⟩
  | .hbm, ⟨40, _⟩ => ⟨S16x8192x8192, .f32⟩
  | .hbm, ⟨41, _⟩ => ⟨S_, .f32⟩
  | .hbm, ⟨42, _⟩ => ⟨S16x8192, .f32⟩
  | .hbm, ⟨43, _⟩ => ⟨S_, .f32⟩
  | .hbm, ⟨44, _⟩ => ⟨S16x8192, .f32⟩
  | .hbm, ⟨45, _⟩ => ⟨S16x8192, .f32⟩
  | .hbm, ⟨46, _⟩ => ⟨S_, .f32⟩
  | .hbm, ⟨47, _⟩ => ⟨S16x8192, .f32⟩
  | .hbm, ⟨48, _⟩ => ⟨S16x8192, .i1⟩
  | .hbm, ⟨49, _⟩ => ⟨S_, .f32⟩
  | .hbm, ⟨50, _⟩ => ⟨S16x8192, .f32⟩
  | .hbm, ⟨51, _⟩ => ⟨S16x8192, .i1⟩
  | .hbm, ⟨52, _⟩ => ⟨S_, .f32⟩
  | .hbm, ⟨53, _⟩ => ⟨S16x8192, .f32⟩
  | .hbm, ⟨54, _⟩ => ⟨S_, .f32⟩
  | .hbm, ⟨55, _⟩ => ⟨S16x8192, .f32⟩
  | .hbm, ⟨56, _⟩ => ⟨S_, .f32⟩
  | .hbm, ⟨57, _⟩ => ⟨S16x8192, .f32⟩
  | .hbm, ⟨58, _⟩ => ⟨S16x8192, .f32⟩
  | .hbm, ⟨59, _⟩ => ⟨S16x8192, .f32⟩
  | .hbm, ⟨60, _⟩ => ⟨S16x8192x1, .f32⟩
  | .hbm, ⟨61, _⟩ => ⟨S16x8192x8192, .f32⟩
  | .hbm, ⟨62, _⟩ => ⟨S16x8192x8192, .f32⟩
  | .hbm, ⟨63, _⟩ => ⟨S16x8192x8192, .f32⟩
  | .hbm, ⟨64, _⟩ => ⟨S_, .f32⟩
  | .hbm, ⟨65, _⟩ => ⟨S16x8192, .f32⟩
  | .hbm, ⟨66, _⟩ => ⟨S16x8192x1, .f32⟩
  | .hbm, ⟨67, _⟩ => ⟨S16x8192x8192, .f32⟩
  | .hbm, ⟨68, _⟩ => ⟨S16x8192x8192, .f32⟩
  | .hbm, ⟨69, _⟩ => ⟨S16x8192x1, .f32⟩
  | .hbm, ⟨70, _⟩ => ⟨S_, .f32⟩
  | .hbm, ⟨71, _⟩ => ⟨S16x8192x1, .f32⟩
  | .hbm, ⟨72, _⟩ => ⟨S16x8192x1, .f32⟩
  | .hbm, ⟨73, _⟩ => ⟨S16x8192x64, .f32⟩
  | .hbm, ⟨74, _⟩ => ⟨S8192x16x64, .f32⟩
  | .hbm, ⟨75, _⟩ => ⟨S8192x1024, .f32⟩
  | .hbm, ⟨76, _⟩ => ⟨S8192x16x64, .f32⟩
  | .hbm, ⟨77, _⟩ => ⟨S16x8192x64, .f32⟩
  | .hbm, ⟨78, _⟩ => ⟨S16x64x8192, .f32⟩
  | .hbm, ⟨79, _⟩ => ⟨S16x8192x64, .f32⟩
  | .hbm, ⟨80, _⟩ => ⟨S16x8192x8192, .f32⟩
  | .hbm, ⟨81, _⟩ => ⟨S16x8192x8192, .f32⟩
  | .hbm, ⟨82, _⟩ => ⟨S16x8192x8192, .f32⟩
  | .hbm, ⟨83, _⟩ => ⟨S16x8192x8192, .f32⟩
  | .hbm, ⟨84, _⟩ => ⟨S_, .f32⟩
  | .hbm, ⟨85, _⟩ => ⟨S16x8192, .f32⟩
  | .hbm, ⟨86, _⟩ => ⟨S16x8192x1, .f32⟩
  | .hbm, ⟨87, _⟩ => ⟨S16x8192x1, .f32⟩
  | .hbm, ⟨88, _⟩ => ⟨S16x8192x8192, .f32⟩
  | .hbm, ⟨89, _⟩ => ⟨S16x8192x8192, .f32⟩
  | .hbm, ⟨90, _⟩ => ⟨S_, .f32⟩
  | .hbm, ⟨91, _⟩ => ⟨S16x8192, .f32⟩
  | .hbm, ⟨92, _⟩ => ⟨S16x8192x8192, .f32⟩
  | .hbm, ⟨93, _⟩ => ⟨S16x8192x8192, .f32⟩
  | .hbm, ⟨94, _⟩ => ⟨S16x8192x8192, .f32⟩
  | .hbm, ⟨95, _⟩ => ⟨S_, .f32⟩
  | .hbm, ⟨96, _⟩ => ⟨S16x8192x8192, .f32⟩
  | .hbm, ⟨97, _⟩ => ⟨S16x8192x8192, .f32⟩
  | .hbm, ⟨98, _⟩ => ⟨S_, .f32⟩
  | .hbm, ⟨99, _⟩ => ⟨S16x8192, .f32⟩
  | .hbm, ⟨100, _⟩ => ⟨S16x8192x1, .f32⟩
  | .hbm, ⟨101, _⟩ => ⟨S16x8192x8192, .f32⟩
  | .hbm, ⟨102, _⟩ => ⟨S_, .f32⟩
  | .hbm, ⟨103, _⟩ => ⟨S16x8192, .f32⟩
  | .hbm, ⟨104, _⟩ => ⟨S16x1x8192, .f32⟩
  | .hbm, ⟨105, _⟩ => ⟨S_, .f32⟩
  | .hbm, ⟨106, _⟩ => ⟨S16x8192, .f32⟩
  | .hbm, ⟨107, _⟩ => ⟨S_, .f32⟩
  | .hbm, ⟨108, _⟩ => ⟨S16x8192, .f32⟩
  | .hbm, ⟨109, _⟩ => ⟨S_, .f32⟩
  | .hbm, ⟨110, _⟩ => ⟨S16x8192x8192, .f32⟩
  | .hbm, ⟨111, _⟩ => ⟨S16x8192x8192, .f32⟩
  | .hbm, ⟨112, _⟩ => ⟨S16x8192x64, .f32⟩
  | .hbm, ⟨113, _⟩ => ⟨S16x8192x64, .f32⟩
  | .hbm, ⟨114, _⟩ => ⟨S8192x16x64, .f32⟩
  | .hbm, ⟨115, _⟩ => ⟨S8192x1024, .f32⟩
  | .hbm, ⟨116, _⟩ => ⟨S8192x16x64, .f32⟩
  | .hbm, ⟨117, _⟩ => ⟨S8192x1024, .f32⟩
  | .hbm, ⟨118, _⟩ => ⟨S8192x16x64, .f32⟩
  | .hbm, ⟨119, _⟩ => ⟨S8192x1024, .f32⟩
  | .hbm, ⟨120, _⟩ => ⟨S8192x1024, .bf16⟩
  | .hbm, ⟨121, _⟩ => ⟨S8192x1024, .bf16⟩
  | .hbm, ⟨122, _⟩ => ⟨S8192x1024, .bf16⟩
  | .hbm, ⟨123, _⟩ => ⟨S8x2x8192, .f32⟩
  | .hbm, ⟨124, _⟩ => ⟨S8x2x8192, .f32⟩
  | _, _ => ⟨S8192x9232, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_call0_v0 : Ref sig .tc := ⟨.hbm, 29, rfl⟩
abbrev main_v24_1 : Ref sig .tc := ⟨.hbm, 30, rfl⟩
abbrev main_call0_v2 : Ref sig .tc := ⟨.hbm, 31, rfl⟩
abbrev main_v24_0 : Ref sig .tc := ⟨.hbm, 32, rfl⟩
abbrev main_call0_cst : Ref sig .tc := ⟨.hbm, 33, rfl⟩
abbrev main_v24_2 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_11 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_12 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_call1_cst : Ref sig .tc := ⟨.hbm, 95, rfl⟩
abbrev main_call1_v0 : Ref sig .tc := ⟨.hbm, 96, rfl⟩
abbrev main_v73 : Ref sig .tc := ⟨.hbm, 97, rfl⟩
abbrev main_cst_13 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_14 : Ref sig .tc := ⟨.hbm, 102, rfl⟩
abbrev main_v77 : Ref sig .tc := ⟨.hbm, 103, rfl⟩
abbrev main_v78 : Ref sig .tc := ⟨.hbm, 104, rfl⟩
abbrev main_cst_15 : Ref sig .tc := ⟨.hbm, 105, rfl⟩
abbrev main_v79 : Ref sig .tc := ⟨.hbm, 106, rfl⟩
abbrev main_cst_16 : Ref sig .tc := ⟨.hbm, 107, rfl⟩
abbrev main_v80 : Ref sig .tc := ⟨.hbm, 108, rfl⟩
abbrev main_cst_17 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩

abbrev nD : Nat := 1
abbrev τ : Topo := Topo.v7x

variable {F : FTy → Type} [FloatOps F]
-- ==== RmsMemFwd.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== RmsMemFwdRefIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== RmsPreFwd.lean ====
abbrev S8192x1024 : Shape := ⟨2, ![8192, 1024]⟩
abbrev S1x1024 : Shape := ⟨2, ![1, 1024]⟩
abbrev S1024x16 : Shape := ⟨2, ![1024, 16]⟩
abbrev S16x1024 : Shape := ⟨2, ![16, 1024]⟩
abbrev S_ : Shape := ⟨0, ![]⟩
abbrev S128x1024 : Shape := ⟨2, ![128, 1024]⟩
abbrev S8192x128 : Shape := ⟨2, ![8192, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x16, .f32⟩
  | .hbm, ⟨3, _⟩ => ⟨S16x1024, .f32⟩
  | .hbm, ⟨4, _⟩ => ⟨S16x1024, .bf16⟩
  | .hbm, ⟨5, _⟩ => ⟨S_, .i32⟩
  | .hbm, ⟨6, _⟩ => ⟨S_, .bf16⟩
  | .hbm, ⟨7, _⟩ => ⟨S128x1024, .bf16⟩
  | .hbm, ⟨8, _⟩ => ⟨S8192x1024, .bf16⟩
  | .hbm, ⟨9, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S128x1024, .bf16⟩
  | .local _ .vmem, ⟨4, _⟩ => ⟨S512x1024, .bf16⟩
  | .local _ .vmem, ⟨5, _⟩ => ⟨S512x1024, .bf16⟩
  | .local _ .vmem, ⟨6, _⟩ => ⟨S512x128, .f32⟩
  | .local _ .vmem, ⟨7, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RmsPreFwdRefIdeal.lean ====
abbrev S8192x1024 : Shape := ⟨2, ![8192, 1024]⟩
abbrev S1x1024 : Shape := ⟨2, ![1, 1024]⟩
abbrev S1024x16 : Shape := ⟨2, ![1024, 16]⟩
abbrev S_ : Shape := ⟨0, ![]⟩
abbrev S8192 : Shape := ⟨1, ![8192]⟩
abbrev S8192x1 : Shape := ⟨2, ![8192, 1]⟩
abbrev S1024x128 : Shape := ⟨2, ![1024, 128]⟩
abbrev S8192x128 : Shape := ⟨2, ![8192, 128]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x16, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S_, .i32⟩
  | .hbm, ⟨20, _⟩ => ⟨S_, .f32⟩
  | .hbm, ⟨21, _⟩ => ⟨S1024x128, .f32⟩
  | .hbm, ⟨22, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== ForgetFwd.lean ====
abbrev S8192x16 : Shape := ⟨2, ![8192, 16]⟩
abbrev S1x16 : Shape := ⟨2, ![1, 16]⟩
abbrev S_ : Shape := ⟨0, ![]⟩
abbrev S8192x128 : Shape := ⟨2, ![8192, 128]⟩
abbrev S1x128 : Shape := ⟨2, ![1, 128]⟩
abbrev S1024x128 : Shape := ⟨2, ![1024, 128]⟩

abbrev nBuf : Space → Nat
  | .hbm => 9
  | .vmem => 5
  | .smem => 0
  | _ => 0

abbrev bufTy : (tb : Table) → Fin (tcTables nBuf tb) → BufTy
  | .hbm, ⟨0, _⟩ => ⟨S8192x16, .f32⟩
  | .hbm, ⟨1, _⟩ => ⟨S1x16, .f32⟩
  | .hbm, ⟨2, _⟩ => ⟨S_, .i32⟩
  | .hbm, ⟨3, _⟩ => ⟨S_, .f32⟩
  | .hbm, ⟨4, _⟩ => ⟨S8192x128, .f32⟩
  | .hbm, ⟨5, _⟩ => ⟨S_, .i32⟩
  | .hbm, ⟨6, _⟩ => ⟨S_, .f32⟩
  | .hbm, ⟨7, _⟩ => ⟨S1x128, .f32⟩
  | .hbm, ⟨8, _⟩ => ⟨S8192x128, .f32⟩
  | .local _ .vmem, ⟨0, _⟩ => ⟨S1024x128, .f32⟩
  | .local _ .vmem, ⟨1, _⟩ => ⟨S1024x128, .f32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | _, _ => ⟨S8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ForgetFwdRefIdeal.lean ====
abbrev S8192x16 : Shape := ⟨2, ![8192, 16]⟩
abbrev S1x16 : Shape := ⟨2, ![1, 16]⟩
abbrev S_ : Shape := ⟨0, ![]⟩
abbrev S8192x128 : Shape := ⟨2, ![8192, 128]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x16, .f32⟩
  | .hbm, ⟨1, _⟩ => ⟨S1x16, .f32⟩
  | .hbm, ⟨2, _⟩ => ⟨S_, .i32⟩
  | .hbm, ⟨3, _⟩ => ⟨S_, .f32⟩
  | .hbm, ⟨4, _⟩ => ⟨S8192x128, .f32⟩
  | .hbm, ⟨5, _⟩ => ⟨S_, .i32⟩
  | .hbm, ⟨6, _⟩ => ⟨S_, .f32⟩
  | .hbm, ⟨7, _⟩ => ⟨S1x128, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S_, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S8192x128, .i1⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | _, _ => ⟨S8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call2_v0 : Ref sig .tc := ⟨.hbm, 10, rfl⟩
abbrev main_call2_call0_cst : Ref sig .tc := ⟨.hbm, 11, rfl⟩
abbrev main_call2_call0_v0 : Ref sig .tc := ⟨.hbm, 12, rfl⟩
abbrev main_call2_call0_v1 : Ref sig .tc := ⟨.hbm, 13, rfl⟩
abbrev main_call2_call0_v2 : Ref sig .tc := ⟨.hbm, 14, rfl⟩
abbrev main_call2_call0_v3 : Ref sig .tc := ⟨.hbm, 15, rfl⟩
abbrev main_call2_call0_v4 : Ref sig .tc := ⟨.hbm, 16, rfl⟩
abbrev main_call2_call0_v5 : Ref sig .tc := ⟨.hbm, 17, rfl⟩
abbrev main_call2_call0_v6 : Ref sig .tc := ⟨.hbm, 18, rfl⟩
abbrev main_call2_call0_v7 : Ref sig .tc := ⟨.hbm, 19, rfl⟩
abbrev main_call2_call0_v8 : Ref sig .tc := ⟨.hbm, 20, rfl⟩
abbrev main_call2_call0_v9 : Ref sig .tc := ⟨.hbm, 21, rfl⟩
abbrev main_call2_call0_v10 : Ref sig .tc := ⟨.hbm, 22, rfl⟩
abbrev main_call2_call0_v11 : Ref sig .tc := ⟨.hbm, 23, rfl⟩
abbrev main_call2_v1 : Ref sig .tc := ⟨.hbm, 24, rfl⟩
abbrev main_v4 : Ref sig .tc := ⟨.hbm, 25, rfl⟩

abbrev nD : Nat := 1
abbrev τ : Topo := Topo.v7x

variable {F : FTy → Type} [FloatOps F]
-- ==== CumsumFwd.lean ====
abbrev S16x8192 : Shape := ⟨2, ![16, 8192]⟩
abbrev S128x128 : Shape := ⟨2, ![128, 128]⟩
abbrev S16x1 : Shape := ⟨2, ![16, 1]⟩
abbrev S16x128 : Shape := ⟨2, ![16, 128]⟩
abbrev S16 : Shape := ⟨1, ![16]⟩

abbrev nBuf : Space → Nat
  | .hbm => 2
  | .vmem => 2
  | .smem => 0
  | _ => 0

abbrev bufTy : (tb : Table) → Fin (tcTables nBuf tb) → BufTy
  | .hbm, ⟨0, _⟩ => ⟨S16x8192, .f32⟩
  | .hbm, ⟨1, _⟩ => ⟨S16x8192, .f32⟩
  | .local _ .vmem, ⟨0, _⟩ => ⟨S16x8192, .f32⟩
  | .local _ .vmem, ⟨1, _⟩ => ⟨S16x8192, .f32⟩
  | _, _ => ⟨S16x8192, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c64_i32 : BitVec 32 := 64#32
  let v6 : BitVec 32 := Scalar.addi c0_i32 c64_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg2 : BitVec 32 := Scf.iv c0_i32 c1_i32 k0_t1
  let c128_i32 : BitVec 32 := 128#32
  let v8 : BitVec 32 := Scalar.muli arg2 c128_i32
  v8
def k0_off1 (k0_t1 : Fin k0_t1_loop.trips) : Fin 2 → Nat :=
  let c0 : Index := 0#32
  let c0_i32 : BitVec 32 := 0#32
  let c1_i32 : BitVec 32 := 1#32
  let arg2 : BitVec 32 := Scf.iv c0_i32 c1_i32 k0_t1
  let c128_i32 : BitVec 32 := 128#32
  let v8 : BitVec 32 := Scalar.muli arg2 c128_i32
  let v9 : BitVec 32 := v8
  let v10 : Index := Scalar.indexCast v9
  ![0, v10.toNat]
abbrev stage0_0 : Fin 1 → Memref sig .tc .vmem S16x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== CumsumFwdRefIdeal.lean ====
abbrev S16x8192 : Shape := ⟨2, ![16, 8192]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S16x8192, .f32⟩
  | .hbm, ⟨1, _⟩ => ⟨S_, .f32⟩
  | .hbm, ⟨2, _⟩ => ⟨S_, .f32⟩
  | .hbm, ⟨3, _⟩ => ⟨S16x8192, .f32⟩
  | _, _ => ⟨S16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== MemFwd.lean ====
abbrev S8192x9232 : Shape := ⟨2, ![8192, 9232]⟩
abbrev S256x2048 : Shape := ⟨2, ![256, 2048]⟩
abbrev S8192x3072 : Shape := ⟨2, ![8192, 3072]⟩
abbrev S8192x6144 : Shape := ⟨2, ![8192, 6144]⟩
abbrev S8192x9216 : Shape := ⟨2, ![8192, 9216]⟩
abbrev S8192x1024 : Shape := ⟨2, ![8192, 1024]⟩
abbrev S1024x1024 : Shape := ⟨2, ![1024, 1024]⟩
abbrev S256x1024 : Shape := ⟨2, ![256, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 8
  | .vmem => 6
  | .smem => 0
  | _ => 0

abbrev bufTy : (tb : Table) → Fin (tcTables nBuf tb) → BufTy
  | .hbm, ⟨0, _⟩ => ⟨S8192x9232, .f32⟩
  | .hbm, ⟨1, _⟩ => ⟨S256x2048, .f32⟩
  | .hbm, ⟨2, _⟩ => ⟨S8192x3072, .f32⟩
  | .hbm, ⟨3, _⟩ => ⟨S8192x6144, .f32⟩
  | .hbm, ⟨4, _⟩ => ⟨S8192x9216, .f32⟩
  | .hbm, ⟨5, _⟩ => ⟨S8192x9216, .bf16⟩
  | .hbm, ⟨6, _⟩ => ⟨S256x2048, .bf16⟩
  | .hbm, ⟨7, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | _, _ => ⟨S8192x9232, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemFwdRefIdeal.lean ====
abbrev S8192x9232 : Shape := ⟨2, ![8192, 9232]⟩
abbrev S256x2048 : Shape := ⟨2, ![256, 2048]⟩
abbrev S8192x1024 : Shape := ⟨2, ![8192, 1024]⟩
abbrev S8192x4x256 : Shape := ⟨3, ![8192, 4, 256]⟩
abbrev S256x1024 : Shape := ⟨2, ![256, 1024]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 30
  | .vmem => 0
  | .smem => 0
  | _ => 0

abbrev bufTy : (tb : Table) → Fin (tcTables nBuf tb) → BufTy
  | .hbm, ⟨0, _⟩ => ⟨S8192x9232, .f32⟩
  | .hbm, ⟨1, _⟩ => ⟨S256x2048, .f32⟩
  | .hbm, ⟨2, _⟩ => ⟨S8192x1024, .f32⟩
  | .hbm, ⟨3, _⟩ => ⟨S8192x4x256, .f32⟩
  | .hbm, ⟨4, _⟩ => ⟨S256x1024, .f32⟩
  | .hbm, ⟨5, _⟩ => ⟨S256x1024, .f32⟩
  | .hbm, ⟨6, _⟩ => ⟨S256x4x256, .f32⟩
  | .hbm, ⟨7, _⟩ => ⟨S256x4x256, .f32⟩
  | .hbm, ⟨8, _⟩ => ⟨S4x8192x256, .f32⟩
  | .hbm, ⟨9, _⟩ => ⟨S_, .f32⟩
  | .hbm, ⟨10, _⟩ => ⟨S4x8192x256, .f32⟩
  | .hbm, ⟨11, _⟩ => ⟨S4x8192x256, .f32⟩
  | .hbm, ⟨12, _⟩ => ⟨S_, .f32⟩
  | .hbm, ⟨13, _⟩ => ⟨S4x8192, .f32⟩
  | .hbm, ⟨14, _⟩ => ⟨S_, .f32⟩
  | .hbm, ⟨15, _⟩ => ⟨S4x8192, .f32⟩
  | .hbm, ⟨16, _⟩ => ⟨S4x8192, .f32⟩
  | .hbm, ⟨17, _⟩ => ⟨S4x8192x1, .f32⟩
  | .hbm, ⟨18, _⟩ => ⟨S4x8192x256, .f32⟩
  | .hbm, ⟨19, _⟩ => ⟨S4x8192x256, .f32⟩
  | .hbm, ⟨20, _⟩ => ⟨S4x8192x256, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S4x8192x256, .f32⟩
  | .hbm, ⟨25, _⟩ => ⟨S4x8192x256, .f32⟩
  | .hbm, ⟨26, _⟩ => ⟨S4x256x8192, .f32⟩
  | .hbm, ⟨27, _⟩ => ⟨S8192x4x256, .f32⟩
  | .hbm, ⟨28, _⟩ => ⟨S8192x1024, .f32⟩
  | .hbm, ⟨29, _⟩ => ⟨S8192x1024, .bf16⟩
  | _, _ => ⟨S8192x9232, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== SwigluFwd.lean ====
abbrev S8192x1024 : Shape := ⟨2, ![8192, 1024]⟩
abbrev S1024x5632 : Shape := ⟨2, ![1024, 5632]⟩
abbrev S5632x1024 : Shape := ⟨2, ![5632, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S5632x1024, .f32⟩
  | .hbm, ⟨4, _⟩ => ⟨S5632x1024, .bf16⟩
  | .hbm, ⟨5, _⟩ => ⟨S8192x2816, .bf16⟩
  | .hbm, ⟨6, _⟩ => ⟨S8192x2816, .bf16⟩
  | .hbm, ⟨7, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SwigluFwdRefIdeal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .bf16⟩
  | .hbm, ⟨16, _⟩ => ⟨S8192x2816, .bf16⟩
  | .hbm, ⟨17, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== MergeFwd.lean ====
abbrev S8192x1024 : Shape := ⟨2, ![8192, 1024]⟩
abbrev S8192x9232 : Shape := ⟨2, ![8192, 9232]⟩
abbrev S1024x1024 : Shape := ⟨2, ![1024, 1024]⟩
abbrev S1x1024 : Shape := ⟨2, ![1, 1024]⟩
abbrev S8192x3072 : Shape := ⟨2, ![8192, 3072]⟩
abbrev S8192x6144 : Shape := ⟨2, ![8192, 6144]⟩
abbrev S8192x9216 : Shape := ⟨2, ![8192, 9216]⟩
abbrev S3x8192x1024 : Shape := ⟨3, ![3, 8192, 1024]⟩
abbrev S256x1024 : Shape := ⟨2, ![256, 1024]⟩
abbrev S3x256x1024 : Shape := ⟨3, ![3, 256, 1024]⟩
abbrev S1x256x1024 : Shape := ⟨3, ![1, 256, 1024]⟩
abbrev S256 : Shape := ⟨1, ![256]⟩
abbrev S256x1 : Shape := ⟨2, ![256, 1]⟩

abbrev nBuf : Space → Nat
  | .hbm => 27
  | .vmem => 30
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x9232, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S8192x1024, .f32⟩
  | .hbm, ⟨9, _⟩ => ⟨S1x1024, .f32⟩
  | .hbm, ⟨10, _⟩ => ⟨S1x1024, .f32⟩
  | .hbm, ⟨11, _⟩ => ⟨S8192x1024, .bf16⟩
  | .hbm, ⟨12, _⟩ => ⟨S8192x1024, .bf16⟩
  | .hbm, ⟨13, _⟩ => ⟨S8192x1024, .bf16⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S8192x3072, .f32⟩
  | .hbm, ⟨19, _⟩ => ⟨S8192x6144, .f32⟩
  | .hbm, ⟨20, _⟩ => ⟨S8192x9216, .f32⟩
  | .hbm, ⟨21, _⟩ => ⟨S8192x9216, .bf16⟩
  | .hbm, ⟨22, _⟩ => ⟨S8192x1024, .bf16⟩
  | .hbm, ⟨23, _⟩ => ⟨S8192x1024, .f32⟩
  | .hbm, ⟨24, _⟩ => ⟨S3x8192x1024, .bf16⟩
  | .hbm, ⟨25, _⟩ => ⟨S8192x1024, .f32⟩
  | .hbm, ⟨26, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S1x1024, .f32⟩
  | .local _ .vmem, ⟨20, _⟩ => ⟨S256x1024, .bf16⟩
  | .local _ .vmem, ⟨21, _⟩ => ⟨S256x1024, .bf16⟩
  | .local _ .vmem, ⟨22, _⟩ => ⟨S256x1024, .f32⟩
  | .local _ .vmem, ⟨23, _⟩ => ⟨S256x1024, .f32⟩
  | .local _ .vmem, ⟨24, _⟩ => ⟨S3x256x1024, .bf16⟩
  | .local _ .vmem, ⟨25, _⟩ => ⟨S3x256x1024, .bf16⟩
  | .local _ .vmem, ⟨26, _⟩ => ⟨S256x1024, .f32⟩
  | .local _ .vmem, ⟨27, _⟩ => ⟨S256x1024, .f32⟩
  | .local _ .vmem, ⟨28, _⟩ => ⟨S256x1024, .bf16⟩
  | .local _ .vmem, ⟨29, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev main_v11_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S3x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MergeFwdRefIdeal.lean ====
abbrev S8192x1024 : Shape := ⟨2, ![8192, 1024]⟩
abbrev S8192x9232 : Shape := ⟨2, ![8192, 9232]⟩
abbrev S1024x1024 : Shape := ⟨2, ![1024, 1024]⟩
abbrev S1x1024 : Shape := ⟨2, ![1, 1024]⟩
abbrev S8192x3072 : Shape := ⟨2, ![8192, 3072]⟩
abbrev S_ : Shape := ⟨0, ![]⟩
abbrev S8192x3x1024 : Shape := ⟨3, ![8192, 3, 1024]⟩
abbrev S8192x1x1024 : Shape := ⟨3, ![8192, 1, 1024]⟩
abbrev S8192 : Shape := ⟨1, ![8192]⟩
abbrev S8192x1 : Shape := ⟨2, ![8192, 1]⟩
abbrev S1x8192x1024 : Shape := ⟨3, ![1, 8192, 1024]⟩
abbrev S3x8192x1024 : Shape := ⟨3, ![3, 8192, 1024]⟩

abbrev nBuf : Space → Nat
  | .hbm => 74
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x9232, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S8192x1024, .f32⟩
  | .hbm, ⟨9, _⟩ => ⟨S1x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x3072, .f32⟩
  | .hbm, ⟨15, _⟩ => ⟨S8192x3072, .f32⟩
  | .hbm, ⟨16, _⟩ => ⟨S8192x3072, .f32⟩
  | .hbm, ⟨17, _⟩ => ⟨S_, .f32⟩
  | .hbm, ⟨18, _⟩ => ⟨S8192x3072, .f32⟩
  | .hbm, ⟨19, _⟩ => ⟨S8192x3072, .f32⟩
  | .hbm, ⟨20, _⟩ => ⟨S_, .f32⟩
  | .hbm, ⟨21, _⟩ => ⟨S8192x3072, .f32⟩
  | .hbm, ⟨22, _⟩ => ⟨S8192x3072, .f32⟩
  | .hbm, ⟨23, _⟩ => ⟨S8192x3x1024, .f32⟩
  | .hbm, ⟨24, _⟩ => ⟨S8192x1x1024, .f32⟩
  | .hbm, ⟨25, _⟩ => ⟨S8192x1024, .f32⟩
  | .hbm, ⟨26, _⟩ => ⟨S8192x1024, .f32⟩
  | .hbm, ⟨27, _⟩ => ⟨S8192x1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S1x8192x1024, .f32⟩
  | .hbm, ⟨53, _⟩ => ⟨S1x8192x1024, .f32⟩
  | .hbm, ⟨54, _⟩ => ⟨S1x8192x1024, .f32⟩
  | .hbm, ⟨55, _⟩ => ⟨S3x8192x1024, .f32⟩
  | .hbm, ⟨56, _⟩ => ⟨S8192x1024, .bf16⟩
  | .hbm, ⟨57, _⟩ => ⟨S3x8192x1024, .bf16⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_4 : Ref sig .tc := ⟨.hbm, 59, rfl⟩
abbrev main_v43 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== AttnFwd.lean ====
abbrev S8192x9232 : Shape := ⟨2, ![8192, 9232]⟩
abbrev S16x8192 : Shape := ⟨2, ![16, 8192]⟩
abbrev S8192x3072 : Shape := ⟨2, ![8192, 3072]⟩
abbrev S8192x6144 : Shape := ⟨2, ![8192, 6144]⟩
abbrev S8192x9216 : Shape := ⟨2, ![8192, 9216]⟩
abbrev S8x2x8192 : Shape := ⟨3, ![8, 2, 8192]⟩
abbrev S8192x1024 : Shape := ⟨2, ![8192, 1024]⟩
abbrev S16x8192x1 : Shape := ⟨3, ![16, 8192, 1]⟩
abbrev S512x128 : Shape := ⟨2, ![512, 128]⟩
abbrev S8192x128 : Shape := ⟨2, ![8192, 128]⟩
abbrev S1x2x8192 : Shape := ⟨3, ![1, 2, 8192]⟩
abbrev S2x512x1 : Shape := ⟨3, ![2, 512, 1]⟩
abbrev S512x512 : Shape := ⟨2, ![512, 512]⟩
abbrev S1x2x128 : Shape := ⟨3, ![1, 2, 128]⟩
abbrev S2x128 : Shape := ⟨2, ![2, 128]⟩
abbrev S1x1 : Shape := ⟨2, ![1, 1]⟩
abbrev S512x1 : Shape := ⟨2, ![512, 1]⟩
abbrev S2048x128 : Shape := ⟨2, ![2048, 128]⟩
abbrev S1x1x2048 : Shape := ⟨3, ![1, 1, 2048]⟩
abbrev S1x2048 : Shape := ⟨2, ![1, 2048]⟩
abbrev S512x2048 : Shape := ⟨2, ![512, 2048]⟩
abbrev S512 : Shape := ⟨1, ![512]⟩
abbrev S1024x128 : Shape := ⟨2, ![1024, 128]⟩
abbrev S1x1x1024 : Shape := ⟨3, ![1, 1, 1024]⟩
abbrev S1x1024 : Shape := ⟨2, ![1, 1024]⟩
abbrev S512x1024 : Shape := ⟨2, ![512, 1024]⟩
abbrev S1x1x512 : Shape := ⟨3, ![1, 1, 512]⟩
abbrev S1x512 : Shape := ⟨2, ![1, 512]⟩
abbrev S1x512x1 : Shape := ⟨3, ![1, 512, 1]⟩

abbrev nBuf : Space → Nat
  | .hbm => 10
  | .vmem => 14
  | .smem => 0
  | _ => 0

abbrev bufTy : (tb : Table) → Fin (tcTables nBuf tb) → BufTy
  | .hbm, ⟨0, _⟩ => ⟨S8192x9232, .f32⟩
  | .hbm, ⟨1, _⟩ => ⟨S16x8192, .f32⟩
  | .hbm, ⟨2, _⟩ => ⟨S8192x3072, .f32⟩
  | .hbm, ⟨3, _⟩ => ⟨S8192x6144, .f32⟩
  | .hbm, ⟨4, _⟩ => ⟨S8192x9216, .f32⟩
  | .hbm, ⟨5, _⟩ => ⟨S8192x9216, .bf16⟩
  | .hbm, ⟨6, _⟩ => ⟨S8x2x8192, .f32⟩
  | .hbm, ⟨7, _⟩ => ⟨S8192x1024, .bf16⟩
  | .hbm, ⟨8, _⟩ => ⟨S8192x1024, .f32⟩
  | .hbm, ⟨9, _⟩ => ⟨S16x8192x1, .f32⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1x2x8192, .f32⟩
  | .local _ .vmem, ⟨7, _⟩ => ⟨S1x2x8192, .f32⟩
  | .local _ .vmem, ⟨8, _⟩ => ⟨S512x128, .bf16⟩
  | .local _ .vmem, ⟨9, _⟩ => ⟨S512x128, .bf16⟩
  | .local _ .vmem, ⟨10, _⟩ => ⟨S512x128, .f32⟩
  | .local _ .vmem, ⟨11, _⟩ => ⟨S512x128, .f32⟩
  | .local _ .vmem, ⟨12, _⟩ => ⟨S2x512x1, .f32⟩
  | .local _ .vmem, ⟨13, _⟩ => ⟨S2x512x1, .f32⟩
  | _, _ => ⟨S8192x9232, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev main_v5_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v65 : BitVec 32 := Scalar.muli arg1 c512_i32
  v65
def k0_off1 (i : grid0.Coords) : Fin 3 → Nat :=
  let c0_16 : Index := 0#32
  let c0_17 : Index := 0#32
  let arg1 : BitVec 32 := BitVec.ofNat 32 (i 1).val
  let c512_i32 : BitVec 32 := 512#32
  let v65 : BitVec 32 := Scalar.muli arg1 c512_i32
  let v66 : BitVec 32 := v65
  let v67 : Index := Scalar.indexCast v66
  ![0, 0, v67.toNat]
@[reducible] def k0_t1_loop (i : grid0.Coords) : Scf.Loop 32 :=
  let c0_i32_35 : BitVec 32 := 0#32
  let arg1 : BitVec 32 := BitVec.ofNat 32 (i 1).val
  let c0_i32_22 : BitVec 32 := 0#32
  let v80 : BitVec 1 := Scalar.cmpi .sgt arg1 c0_i32_22
  let v81 : BitVec 32 := Scalar.extui v80
  let c0_i32_23 : BitVec 32 := 0#32
  let v82 : BitVec 1 := Scalar.cmpi .slt arg1 c0_i32_23
  let v83 : BitVec 32 := Scalar.extui v82
  let v84 : BitVec 32 := Scalar.subi v81 v83
  let c4_i32 : BitVec 32 := 4#32
  let c0_i32_24 : BitVec 32 := 0#32
  let v85 : BitVec 1 := Scalar.cmpi .sgt c4_i32 c0_i32_24
  let v86 : BitVec 32 := Scalar.extui v85
  let c0_i32_25 : BitVec 32 := 0#32
  let v87 : BitVec 1 := Scalar.cmpi .slt c4_i32 c0_i32_25
  let v88 : BitVec 32 := Scalar.extui v87
  let v89 : BitVec 32 := Scalar.subi v86 v88
  let v90 : BitVec 1 := Scalar.cmpi .ne v84 v89
  let v91 : BitVec 32 := Scalar.remsi arg1 c4_i32
  let c0_i32_26 : BitVec 32 := 0#32
  let v92 : BitVec 1 := Scalar.cmpi .ne v91 c0_i32_26
  let v93 : BitVec 1 := Scalar.andi v90 v92
  let v79 : BitVec 32 := Scalar.divsi arg1 c4_i32
  let c1_i32_27 : BitVec 32 := 1#32
  let v94 : BitVec 32 := Scalar.subi v79 c1_i32_27
  let v95 : BitVec 32 := Scalar.select v93 v94 v79
  let v115 : BitVec 32 := Scalar.subi v95 c0_i32_35
  let c1_i32_36 : BitVec 32 := 1#32
  let v117 : BitVec 32 := Scalar.divsi v115 c1_i32_36
  let v118 : BitVec 32 := Scalar.muli v117 c1_i32_36
  let v119 : BitVec 32 := Scalar.addi c0_i32_35 v118
  let c1_i32_37 : BitVec 32 := 1#32
  ⟨c0_i32_35, v119, c1_i32_37⟩
def k0_mult2 (i : grid0.Coords) (k0_t1 : Fin (k0_t1_loop i).trips) : BitVec 32 :=
  let c0_i32_35 : BitVec 32 := 0#32
  let c1_i32_37 : BitVec 32 := 1#32
  let arg9 : BitVec 32 := Scf.iv c0_i32_35 c1_i32_37 k0_t1
  let c4_i32_79 : BitVec 32 := 4#32
  let v227 : BitVec 32 := Scalar.muli arg9 c4_i32_79
  let c512_i32_80 : BitVec 32 := 512#32
  let v228 : BitVec 32 := Scalar.muli v227 c512_i32_80
  v228
def k0_off2 (i : grid0.Coords) (k0_t1 : Fin (k0_t1_loop i).trips) : Fin 2 → Nat :=
  let c0_i32_35 : BitVec 32 := 0#32
  let c1_i32_37 : BitVec 32 := 1#32
  let arg9 : BitVec 32 := Scf.iv c0_i32_35 c1_i32_37 k0_t1
  let c4_i32_79 : BitVec 32 := 4#32
  let v227 : BitVec 32 := Scalar.muli arg9 c4_i32_79
  let c512_i32_80 : BitVec 32 := 512#32
  let v228 : BitVec 32 := Scalar.muli v227 c512_i32_80
  let v229 : BitVec 32 := v228
  let v230 : Index := Scalar.indexCast v229
  let c0_81 : Index := 0#32
  ![v230.toNat, 0]
def k0_off3 (i : grid0.Coords) (k0_t1 : Fin (k0_t1_loop i).trips) : Fin 3 → Nat :=
  let c0_83 : Index := 0#32
  let c0_84 : Index := 0#32
  let c0_i32_35 : BitVec 32 := 0#32
  let c1_i32_37 : BitVec 32 := 1#32
  let arg9 : BitVec 32 := Scf.iv c0_i32_35 c1_i32_37 k0_t1
  let c4_i32_79 : BitVec 32 := 4#32
  let v227 : BitVec 32 := Scalar.muli arg9 c4_i32_79
  let c512_i32_80 : BitVec 32 := 512#32
  let v228 : BitVec 32 := Scalar.muli v227 c512_i32_80
  let v229 : BitVec 32 := v228
  let v237 : Index := Scalar.indexCast v229
  ![0, 0, v237.toNat]
def k0_off4 (i : grid0.Coords) (k0_t1 : Fin (k0_t1_loop i).trips) : Fin 3 → Nat :=
  let c0_90 : Index := 0#32
  let c1_91 : Index := 1#32
  let c0_i32_35 : BitVec 32 := 0#32
  let c1_i32_37 : BitVec 32 := 1#32
  let arg9 : BitVec 32 := Scf.iv c0_i32_35 c1_i32_37 k0_t1
  let c4_i32_79 : BitVec 32 := 4#32
  let v227 : BitVec 32 := Scalar.muli arg9 c4_i32_79
  let c512_i32_80 : BitVec 32 := 512#32
  let v228 : BitVec 32 := Scalar.muli v227 c512_i32_80
  let v229 : BitVec 32 := v228
  let v262 : Index := Scalar.indexCast v229
  ![0, 1, v262.toNat]
@[reducible] def k0_t2_loop (i : grid0.Coords) : Scf.Loop 32 :=
  let c0_i32_35 : BitVec 32 := 0#32
  let arg1 : BitVec 32 := BitVec.ofNat 32 (i 1).val
  let c0_i32_22 : BitVec 32 := 0#32
  let v80 : BitVec 1 := Scalar.cmpi .sgt arg1 c0_i32_22
  let v81 : BitVec 32 := Scalar.extui v80
  let c0_i32_23 : BitVec 32 := 0#32
  let v82 : BitVec 1 := Scalar.cmpi .slt arg1 c0_i32_23
  let v83 : BitVec 32 := Scalar.extui v82
  let v84 : BitVec 32 := Scalar.subi v81 v83
  let c4_i32 : BitVec 32 := 4#32
  let c0_i32_24 : BitVec 32 := 0#32
  let v85 : BitVec 1 := Scalar.cmpi .sgt c4_i32 c0_i32_24
  let v86 : BitVec 32 := Scalar.extui v85
  let c0_i32_25 : BitVec 32 := 0#32
  let v87 : BitVec 1 := Scalar.cmpi .slt c4_i32 c0_i32_25
  let v88 : BitVec 32 := Scalar.extui v87
  let v89 : BitVec 32 := Scalar.subi v86 v88
  let v90 : BitVec 1 := Scalar.cmpi .ne v84 v89
  let v91 : BitVec 32 := Scalar.remsi arg1 c4_i32
  let c0_i32_26 : BitVec 32 := 0#32
  let v92 : BitVec 1 := Scalar.cmpi .ne v91 c0_i32_26
  let v93 : BitVec 1 := Scalar.andi v90 v92
  let v79 : BitVec 32 := Scalar.divsi arg1 c4_i32
  let c1_i32_27 : BitVec 32 := 1#32
  let v94 : BitVec 32 := Scalar.subi v79 c1_i32_27
  let v95 : BitVec 32 := Scalar.select v93 v94 v79
  let v115 : BitVec 32 := Scalar.subi v95 c0_i32_35
  let c1_i32_36 : BitVec 32 := 1#32
  let v117 : BitVec 32 := Scalar.divsi v115 c1_i32_36
  let v118 : BitVec 32 := Scalar.muli v117 c1_i32_36
  let v119 : BitVec 32 := Scalar.addi c0_i32_35 v118
  let v116 : BitVec 32 := Scalar.addi c0_i32_35 v115
  let c1_i32_38 : BitVec 32 := 1#32
  ⟨v119, v116, c1_i32_38⟩
def k0_mult3 (i : grid0.Coords) (k0_t2 : Fin (k0_t2_loop i).trips) : BitVec 32 :=
  let c0_i32_35 : BitVec 32 := 0#32
  let arg1 : BitVec 32 := BitVec.ofNat 32 (i 1).val
  let c0_i32_22 : BitVec 32 := 0#32
  let v80 : BitVec 1 := Scalar.cmpi .sgt arg1 c0_i32_22
  let v81 : BitVec 32 := Scalar.extui v80
  let c0_i32_23 : BitVec 32 := 0#32
  let v82 : BitVec 1 := Scalar.cmpi .slt arg1 c0_i32_23
  let v83 : BitVec 32 := Scalar.extui v82
  let v84 : BitVec 32 := Scalar.subi v81 v83
  let c4_i32 : BitVec 32 := 4#32
  let c0_i32_24 : BitVec 32 := 0#32
  let v85 : BitVec 1 := Scalar.cmpi .sgt c4_i32 c0_i32_24
  let v86 : BitVec 32 := Scalar.extui v85
  let c0_i32_25 : BitVec 32 := 0#32
  let v87 : BitVec 1 := Scalar.cmpi .slt c4_i32 c0_i32_25
  let v88 : BitVec 32 := Scalar.extui v87
  let v89 : BitVec 32 := Scalar.subi v86 v88
  let v90 : BitVec 1 := Scalar.cmpi .ne v84 v89
  let v91 : BitVec 32 := Scalar.remsi arg1 c4_i32
  let c0_i32_26 : BitVec 32 := 0#32
  let v92 : BitVec 1 := Scalar.cmpi .ne v91 c0_i32_26
  let v93 : BitVec 1 := Scalar.andi v90 v92
  let v79 : BitVec 32 := Scalar.divsi arg1 c4_i32
  let c1_i32_27 : BitVec 32 := 1#32
  let v94 : BitVec 32 := Scalar.subi v79 c1_i32_27
  let v95 : BitVec 32 := Scalar.select v93 v94 v79
  let v115 : BitVec 32 := Scalar.subi v95 c0_i32_35
  let c1_i32_36 : BitVec 32 := 1#32
  let v117 : BitVec 32 := Scalar.divsi v115 c1_i32_36
  let v118 : BitVec 32 := Scalar.muli v117 c1_i32_36
  let v119 : BitVec 32 := Scalar.addi c0_i32_35 v118
  let c1_i32_38 : BitVec 32 := 1#32
  let arg9 : BitVec 32 := Scf.iv v119 c1_i32_38 k0_t2
  let c4_i32_79 : BitVec 32 := 4#32
  let v227 : BitVec 32 := Scalar.muli arg9 c4_i32_79
  let c512_i32_80 : BitVec 32 := 512#32
  let v228 : BitVec 32 := Scalar.muli v227 c512_i32_80
  v228
def k0_off5 (i : grid0.Coords) (k0_t2 : Fin (k0_t2_loop i).trips) : Fin 2 → Nat :=
  let c0_i32_35 : BitVec 32 := 0#32
  let arg1 : BitVec 32 := BitVec.ofNat 32 (i 1).val
  let c0_i32_22 : BitVec 32 := 0#32
  let v80 : BitVec 1 := Scalar.cmpi .sgt arg1 c0_i32_22
  let v81 : BitVec 32 := Scalar.extui v80
  let c0_i32_23 : BitVec 32 := 0#32
  let v82 : BitVec 1 := Scalar.cmpi .slt arg1 c0_i32_23
  let v83 : BitVec 32 := Scalar.extui v82
  let v84 : BitVec 32 := Scalar.subi v81 v83
  let c4_i32 : BitVec 32 := 4#32
  let c0_i32_24 : BitVec 32 := 0#32
  let v85 : BitVec 1 := Scalar.cmpi .sgt c4_i32 c0_i32_24
  let v86 : BitVec 32 := Scalar.extui v85
  let c0_i32_25 : BitVec 32 := 0#32
  let v87 : BitVec 1 := Scalar.cmpi .slt c4_i32 c0_i32_25
  let v88 : BitVec 32 := Scalar.extui v87
  let v89 : BitVec 32 := Scalar.subi v86 v88
  let v90 : BitVec 1 := Scalar.cmpi .ne v84 v89
  let v91 : BitVec 32 := Scalar.remsi arg1 c4_i32
  let c0_i32_26 : BitVec 32 := 0#32
  let v92 : BitVec 1 := Scalar.cmpi .ne v91 c0_i32_26
  let v93 : BitVec 1 := Scalar.andi v90 v92
  let v79 : BitVec 32 := Scalar.divsi arg1 c4_i32
  let c1_i32_27 : BitVec 32 := 1#32
  let v94 : BitVec 32 := Scalar.subi v79 c1_i32_27
  let v95 : BitVec 32 := Scalar.select v93 v94 v79
  let v115 : BitVec 32 := Scalar.subi v95 c0_i32_35
  let c1_i32_36 : BitVec 32 := 1#32
  let v117 : BitVec 32 := Scalar.divsi v115 c1_i32_36
  let v118 : BitVec 32 := Scalar.muli v117 c1_i32_36
  let v119 : BitVec 32 := Scalar.addi c0_i32_35 v118
  let c1_i32_38 : BitVec 32 := 1#32
  let arg9 : BitVec 32 := Scf.iv v119 c1_i32_38 k0_t2
  let c4_i32_79 : BitVec 32 := 4#32
  let v227 : BitVec 32 := Scalar.muli arg9 c4_i32_79
  let c512_i32_80 : BitVec 32 := 512#32
  let v228 : BitVec 32 := Scalar.muli v227 c512_i32_80
  let v229 : BitVec 32 := v228
  let v230 : Index := Scalar.indexCast v229
  let c0_81 : Index := 0#32
  ![v230.toNat, 0]
def k0_off6 (i : grid0.Coords) (k0_t2 : Fin (k0_t2_loop i).trips) : Fin 3 → Nat :=
  let c0_83 : Index := 0#32
  let c0_84 : Index := 0#32
  let c0_i32_35 : BitVec 32 := 0#32
  let arg1 : BitVec 32 := BitVec.ofNat 32 (i 1).val
  let c0_i32_22 : BitVec 32 := 0#32
  let v80 : BitVec 1 := Scalar.cmpi .sgt arg1 c0_i32_22
  let v81 : BitVec 32 := Scalar.extui v80
  let c0_i32_23 : BitVec 32 := 0#32
  let v82 : BitVec 1 := Scalar.cmpi .slt arg1 c0_i32_23
  let v83 : BitVec 32 := Scalar.extui v82
  let v84 : BitVec 32 := Scalar.subi v81 v83
  let c4_i32 : BitVec 32 := 4#32
  let c0_i32_24 : BitVec 32 := 0#32
  let v85 : BitVec 1 := Scalar.cmpi .sgt c4_i32 c0_i32_24
  let v86 : BitVec 32 := Scalar.extui v85
  let c0_i32_25 : BitVec 32 := 0#32
  let v87 : BitVec 1 := Scalar.cmpi .slt c4_i32 c0_i32_25
  let v88 : BitVec 32 := Scalar.extui v87
  let v89 : BitVec 32 := Scalar.subi v86 v88
  let v90 : BitVec 1 := Scalar.cmpi .ne v84 v89
  let v91 : BitVec 32 := Scalar.remsi arg1 c4_i32
  let c0_i32_26 : BitVec 32 := 0#32
  let v92 : BitVec 1 := Scalar.cmpi .ne v91 c0_i32_26
  let v93 : BitVec 1 := Scalar.andi v90 v92
  let v79 : BitVec 32 := Scalar.divsi arg1 c4_i32
  let c1_i32_27 : BitVec 32 := 1#32
  let v94 : BitVec 32 := Scalar.subi v79 c1_i32_27
  let v95 : BitVec 32 := Scalar.select v93 v94 v79
  let v115 : BitVec 32 := Scalar.subi v95 c0_i32_35
  let c1_i32_36 : BitVec 32 := 1#32
  let v117 : BitVec 32 := Scalar.divsi v115 c1_i32_36
  let v118 : BitVec 32 := Scalar.muli v117 c1_i32_36
  let v119 : BitVec 32 := Scalar.addi c0_i32_35 v118
  let c1_i32_38 : BitVec 32 := 1#32
  let arg9 : BitVec 32 := Scf.iv v119 c1_i32_38 k0_t2
  let c4_i32_79 : BitVec 32 := 4#32
  let v227 : BitVec 32 := Scalar.muli arg9 c4_i32_79
  let c512_i32_80 : BitVec 32 := 512#32
  let v228 : BitVec 32 := Scalar.muli v227 c512_i32_80
  let v229 : BitVec 32 := v228
  let v237 : Index := Scalar.indexCast v229
  ![0, 0, v237.toNat]
def k0_off7 (i : grid0.Coords) (k0_t2 : Fin (k0_t2_loop i).trips) : Fin 3 → Nat :=
  let c0_90 : Index := 0#32
  let c1_91 : Index := 1#32
  let c0_i32_35 : BitVec 32 := 0#32
  let arg1 : BitVec 32 := BitVec.ofNat 32 (i 1).val
  let c0_i32_22 : BitVec 32 := 0#32
  let v80 : BitVec 1 := Scalar.cmpi .sgt arg1 c0_i32_22
  let v81 : BitVec 32 := Scalar.extui v80
  let c0_i32_23 : BitVec 32 := 0#32
  let v82 : BitVec 1 := Scalar.cmpi .slt arg1 c0_i32_23
  let v83 : BitVec 32 := Scalar.extui v82
  let v84 : BitVec 32 := Scalar.subi v81 v83
  let c4_i32 : BitVec 32 := 4#32
  let c0_i32_24 : BitVec 32 := 0#32
  let v85 : BitVec 1 := Scalar.cmpi .sgt c4_i32 c0_i32_24
  let v86 : BitVec 32 := Scalar.extui v85
  let c0_i32_25 : BitVec 32 := 0#32
  let v87 : BitVec 1 := Scalar.cmpi .slt c4_i32 c0_i32_25
  let v88 : BitVec 32 := Scalar.extui v87
  let v89 : BitVec 32 := Scalar.subi v86 v88
  let v90 : BitVec 1 := Scalar.cmpi .ne v84 v89
  let v91 : BitVec 32 := Scalar.remsi arg1 c4_i32
  let c0_i32_26 : BitVec 32 := 0#32
  let v92 : BitVec 1 := Scalar.cmpi .ne v91 c0_i32_26
  let v93 : BitVec 1 := Scalar.andi v90 v92
  let v79 : BitVec 32 := Scalar.divsi arg1 c4_i32
  let c1_i32_27 : BitVec 32 := 1#32
  let v94 : BitVec 32 := Scalar.subi v79 c1_i32_27
  let v95 : BitVec 32 := Scalar.select v93 v94 v79
  let v115 : BitVec 32 := Scalar.subi v95 c0_i32_35
  let c1_i32_36 : BitVec 32 := 1#32
  let v117 : BitVec 32 := Scalar.divsi v115 c1_i32_36
  let v118 : BitVec 32 := Scalar.muli v117 c1_i32_36
  let v119 : BitVec 32 := Scalar.addi c0_i32_35 v118
  let c1_i32_38 : BitVec 32 := 1#32
  let arg9 : BitVec 32 := Scf.iv v119 c1_i32_38 k0_t2
  let c4_i32_79 : BitVec 32 := 4#32
  let v227 : BitVec 32 := Scalar.muli arg9 c4_i32_79
  let c512_i32_80 : BitVec 32 := 512#32
  let v228 : BitVec 32 := Scalar.muli v227 c512_i32_80
  let v229 : BitVec 32 := v228
  let v262 : Index := Scalar.indexCast v229
  ![0, 1, v262.toNat]
@[reducible] def k0_t3_loop (i : grid0.Coords) : Scf.Loop 32 :=
  let c0_i32_39 : BitVec 32 := 0#32
  let arg1 : BitVec 32 := BitVec.ofNat 32 (i 1).val
  let c0_i32_22 : BitVec 32 := 0#32
  let v80 : BitVec 1 := Scalar.cmpi .sgt arg1 c0_i32_22
  let v81 : BitVec 32 := Scalar.extui v80
  let c0_i32_23 : BitVec 32 := 0#32
  let v82 : BitVec 1 := Scalar.cmpi .slt arg1 c0_i32_23
  let v83 : BitVec 32 := Scalar.extui v82
  let v84 : BitVec 32 := Scalar.subi v81 v83
  let c4_i32 : BitVec 32 := 4#32
  let c0_i32_24 : BitVec 32 := 0#32
  let v85 : BitVec 1 := Scalar.cmpi .sgt c4_i32 c0_i32_24
  let v86 : BitVec 32 := Scalar.extui v85
  let c0_i32_25 : BitVec 32 := 0#32
  let v87 : BitVec 1 := Scalar.cmpi .slt c4_i32 c0_i32_25
  let v88 : BitVec 32 := Scalar.extui v87
  let v89 : BitVec 32 := Scalar.subi v86 v88
  let v90 : BitVec 1 := Scalar.cmpi .ne v84 v89
  let v91 : BitVec 32 := Scalar.remsi arg1 c4_i32
  let c0_i32_26 : BitVec 32 := 0#32
  let v92 : BitVec 1 := Scalar.cmpi .ne v91 c0_i32_26
  let v93 : BitVec 1 := Scalar.andi v90 v92
  let v79 : BitVec 32 := Scalar.divsi arg1 c4_i32
  let c1_i32_27 : BitVec 32 := 1#32
  let v94 : BitVec 32 := Scalar.subi v79 c1_i32_27
  let v95 : BitVec 32 := Scalar.select v93 v94 v79
  let c4_i32_28 : BitVec 32 := 4#32
  let v96 : BitVec 32 := Scalar.muli v95 c4_i32_28
  let v97 : BitVec 32 := Scalar.subi arg1 v96
  let c0_i32_29 : BitVec 32 := 0#32
  let v99 : BitVec 1 := Scalar.cmpi .sgt v97 c0_i32_29
  let v100 : BitVec 32 := Scalar.extui v99
  let c0_i32_30 : BitVec 32 := 0#32
  let v101 : BitVec 1 := Scalar.cmpi .slt v97 c0_i32_30
  let v102 : BitVec 32 := Scalar.extui v101
  let v103 : BitVec 32 := Scalar.subi v100 v102
  let c2_i32 : BitVec 32 := 2#32
  let c0_i32_31 : BitVec 32 := 0#32
  let v104 : BitVec 1 := Scalar.cmpi .sgt c2_i32 c0_i32_31
  let v105 : BitVec 32 := Scalar.extui v104
  let c0_i32_32 : BitVec 32 := 0#32
  let v106 : BitVec 1 := Scalar.cmpi .slt c2_i32 c0_i32_32
  let v107 : BitVec 32 := Scalar.extui v106
  let v108 : BitVec 32 := Scalar.subi v105 v107
  let v109 : BitVec 1 := Scalar.cmpi .ne v103 v108
  let v110 : BitVec 32 := Scalar.remsi v97 c2_i32
  let c0_i32_33 : BitVec 32 := 0#32
  let v111 : BitVec 1 := Scalar.cmpi .ne v110 c0_i32_33
  let v112 : BitVec 1 := Scalar.andi v109 v111
  let v98 : BitVec 32 := Scalar.divsi v97 c2_i32
  let c1_i32_34 : BitVec 32 := 1#32
  let v113 : BitVec 32 := Scalar.subi v98 c1_i32_34
  let v114 : BitVec 32 := Scalar.select v112 v113 v98
  let v122 : BitVec 32 := Scalar.subi v114 c0_i32_39
  let c1_i32_40 : BitVec 32 := 1#32
  let v124 : BitVec 32 := Scalar.divsi v122 c1_i32_40
  let v125 : BitVec 32 := Scalar.muli v124 c1_i32_40
  let v126 : BitVec 32 := Scalar.addi c0_i32_39 v125
  let c1_i32_41 : BitVec 32 := 1#32
  ⟨c0_i32_39, v126, c1_i32_41⟩
def k0_mult4 (i : grid0.Coords) (k0_t3 : Fin (k0_t3_loop i).trips) : BitVec 32 :=
  let arg1 : BitVec 32 := BitVec.ofNat 32 (i 1).val
  let c0_i32_22 : BitVec 32 := 0#32
  let v80 : BitVec 1 := Scalar.cmpi .sgt arg1 c0_i32_22
  let v81 : BitVec 32 := Scalar.extui v80
  let c0_i32_23 : BitVec 32 := 0#32
  let v82 : BitVec 1 := Scalar.cmpi .slt arg1 c0_i32_23
  let v83 : BitVec 32 := Scalar.extui v82
  let v84 : BitVec 32 := Scalar.subi v81 v83
  let c4_i32 : BitVec 32 := 4#32
  let c0_i32_24 : BitVec 32 := 0#32
  let v85 : BitVec 1 := Scalar.cmpi .sgt c4_i32 c0_i32_24
  let v86 : BitVec 32 := Scalar.extui v85
  let c0_i32_25 : BitVec 32 := 0#32
  let v87 : BitVec 1 := Scalar.cmpi .slt c4_i32 c0_i32_25
  let v88 : BitVec 32 := Scalar.extui v87
  let v89 : BitVec 32 := Scalar.subi v86 v88
  let v90 : BitVec 1 := Scalar.cmpi .ne v84 v89
  let v91 : BitVec 32 := Scalar.remsi arg1 c4_i32
  let c0_i32_26 : BitVec 32 := 0#32
  let v92 : BitVec 1 := Scalar.cmpi .ne v91 c0_i32_26
  let v93 : BitVec 1 := Scalar.andi v90 v92
  let v79 : BitVec 32 := Scalar.divsi arg1 c4_i32
  let c1_i32_27 : BitVec 32 := 1#32
  let v94 : BitVec 32 := Scalar.subi v79 c1_i32_27
  let v95 : BitVec 32 := Scalar.select v93 v94 v79
  let c4_i32_28 : BitVec 32 := 4#32
  let v96 : BitVec 32 := Scalar.muli v95 c4_i32_28
  let c2_i32_79 : BitVec 32 := 2#32
  let c0_i32_39 : BitVec 32 := 0#32
  let c1_i32_41 : BitVec 32 := 1#32
  let arg9 : BitVec 32 := Scf.iv c0_i32_39 c1_i32_41 k0_t3
  let v227 : BitVec 32 := Scalar.muli c2_i32_79 arg9
  let v228 : BitVec 32 := Scalar.addi v96 v227
  let c512_i32_80 : BitVec 32 := 512#32
  let v229 : BitVec 32 := Scalar.muli v228 c512_i32_80
  v229
def k0_off8 (i : grid0.Coords) (k0_t3 : Fin (k0_t3_loop i).trips) : Fin 2 → Nat :=
  let arg1 : BitVec 32 := BitVec.ofNat 32 (i 1).val
  let c0_i32_22 : BitVec 32 := 0#32
  let v80 : BitVec 1 := Scalar.cmpi .sgt arg1 c0_i32_22
  let v81 : BitVec 32 := Scalar.extui v80
  let c0_i32_23 : BitVec 32 := 0#32
  let v82 : BitVec 1 := Scalar.cmpi .slt arg1 c0_i32_23
  let v83 : BitVec 32 := Scalar.extui v82
  let v84 : BitVec 32 := Scalar.subi v81 v83
  let c4_i32 : BitVec 32 := 4#32
  let c0_i32_24 : BitVec 32 := 0#32
  let v85 : BitVec 1 := Scalar.cmpi .sgt c4_i32 c0_i32_24
  let v86 : BitVec 32 := Scalar.extui v85
  let c0_i32_25 : BitVec 32 := 0#32
  let v87 : BitVec 1 := Scalar.cmpi .slt c4_i32 c0_i32_25
  let v88 : BitVec 32 := Scalar.extui v87
  let v89 : BitVec 32 := Scalar.subi v86 v88
  let v90 : BitVec 1 := Scalar.cmpi .ne v84 v89
  let v91 : BitVec 32 := Scalar.remsi arg1 c4_i32
  let c0_i32_26 : BitVec 32 := 0#32
  let v92 : BitVec 1 := Scalar.cmpi .ne v91 c0_i32_26
  let v93 : BitVec 1 := Scalar.andi v90 v92
  let v79 : BitVec 32 := Scalar.divsi arg1 c4_i32
  let c1_i32_27 : BitVec 32 := 1#32
  let v94 : BitVec 32 := Scalar.subi v79 c1_i32_27
  let v95 : BitVec 32 := Scalar.select v93 v94 v79
  let c4_i32_28 : BitVec 32 := 4#32
  let v96 : BitVec 32 := Scalar.muli v95 c4_i32_28
  let c2_i32_79 : BitVec 32 := 2#32
  let c0_i32_39 : BitVec 32 := 0#32
  let c1_i32_41 : BitVec 32 := 1#32
  let arg9 : BitVec 32 := Scf.iv c0_i32_39 c1_i32_41 k0_t3
  let v227 : BitVec 32 := Scalar.muli c2_i32_79 arg9
  let v228 : BitVec 32 := Scalar.addi v96 v227
  let c512_i32_80 : BitVec 32 := 512#32
  let v229 : BitVec 32 := Scalar.muli v228 c512_i32_80
  let v230 : BitVec 32 := v229
  let v231 : Index := Scalar.indexCast v230
  let c0_81 : Index := 0#32
  ![v231.toNat, 0]
def k0_off9 (i : grid0.Coords) (k0_t3 : Fin (k0_t3_loop i).trips) : Fin 3 → Nat :=
  let c0_83 : Index := 0#32
  let c0_84 : Index := 0#32
  let arg1 : BitVec 32 := BitVec.ofNat 32 (i 1).val
  let c0_i32_22 : BitVec 32 := 0#32
  let v80 : BitVec 1 := Scalar.cmpi .sgt arg1 c0_i32_22
  let v81 : BitVec 32 := Scalar.extui v80
  let c0_i32_23 : BitVec 32 := 0#32
  let v82 : BitVec 1 := Scalar.cmpi .slt arg1 c0_i32_23
  let v83 : BitVec 32 := Scalar.extui v82
  let v84 : BitVec 32 := Scalar.subi v81 v83
  let c4_i32 : BitVec 32 := 4#32
  let c0_i32_24 : BitVec 32 := 0#32
  let v85 : BitVec 1 := Scalar.cmpi .sgt c4_i32 c0_i32_24
  let v86 : BitVec 32 := Scalar.extui v85
  let c0_i32_25 : BitVec 32 := 0#32
  let v87 : BitVec 1 := Scalar.cmpi .slt c4_i32 c0_i32_25
  let v88 : BitVec 32 := Scalar.extui v87
  let v89 : BitVec 32 := Scalar.subi v86 v88
  let v90 : BitVec 1 := Scalar.cmpi .ne v84 v89
  let v91 : BitVec 32 := Scalar.remsi arg1 c4_i32
  let c0_i32_26 : BitVec 32 := 0#32
  let v92 : BitVec 1 := Scalar.cmpi .ne v91 c0_i32_26
  let v93 : BitVec 1 := Scalar.andi v90 v92
  let v79 : BitVec 32 := Scalar.divsi arg1 c4_i32
  let c1_i32_27 : BitVec 32 := 1#32
  let v94 : BitVec 32 := Scalar.subi v79 c1_i32_27
  let v95 : BitVec 32 := Scalar.select v93 v94 v79
  let c4_i32_28 : BitVec 32 := 4#32
  let v96 : BitVec 32 := Scalar.muli v95 c4_i32_28
  let c2_i32_79 : BitVec 32 := 2#32
  let c0_i32_39 : BitVec 32 := 0#32
  let c1_i32_41 : BitVec 32 := 1#32
  let arg9 : BitVec 32 := Scf.iv c0_i32_39 c1_i32_41 k0_t3
  let v227 : BitVec 32 := Scalar.muli c2_i32_79 arg9
  let v228 : BitVec 32 := Scalar.addi v96 v227
  let c512_i32_80 : BitVec 32 := 512#32
  let v229 : BitVec 32 := Scalar.muli v228 c512_i32_80
  let v230 : BitVec 32 := v229
  let v238 : Index := Scalar.indexCast v230
  ![0, 0, v238.toNat]
def k0_off10 (i : grid0.Coords) (k0_t3 : Fin (k0_t3_loop i).trips) : Fin 3 → Nat :=
  let c0_90 : Index := 0#32
  let c1_91 : Index := 1#32
  let arg1 : BitVec 32 := BitVec.ofNat 32 (i 1).val
  let c0_i32_22 : BitVec 32 := 0#32
  let v80 : BitVec 1 := Scalar.cmpi .sgt arg1 c0_i32_22
  let v81 : BitVec 32 := Scalar.extui v80
  let c0_i32_23 : BitVec 32 := 0#32
  let v82 : BitVec 1 := Scalar.cmpi .slt arg1 c0_i32_23
  let v83 : BitVec 32 := Scalar.extui v82
  let v84 : BitVec 32 := Scalar.subi v81 v83
  let c4_i32 : BitVec 32 := 4#32
  let c0_i32_24 : BitVec 32 := 0#32
  let v85 : BitVec 1 := Scalar.cmpi .sgt c4_i32 c0_i32_24
  let v86 : BitVec 32 := Scalar.extui v85
  let c0_i32_25 : BitVec 32 := 0#32
  let v87 : BitVec 1 := Scalar.cmpi .slt c4_i32 c0_i32_25
  let v88 : BitVec 32 := Scalar.extui v87
  let v89 : BitVec 32 := Scalar.subi v86 v88
  let v90 : BitVec 1 := Scalar.cmpi .ne v84 v89
  let v91 : BitVec 32 := Scalar.remsi arg1 c4_i32
  let c0_i32_26 : BitVec 32 := 0#32
  let v92 : BitVec 1 := Scalar.cmpi .ne v91 c0_i32_26
  let v93 : BitVec 1 := Scalar.andi v90 v92
  let v79 : BitVec 32 := Scalar.divsi arg1 c4_i32
  let c1_i32_27 : BitVec 32 := 1#32
  let v94 : BitVec 32 := Scalar.subi v79 c1_i32_27
  let v95 : BitVec 32 := Scalar.select v93 v94 v79
  let c4_i32_28 : BitVec 32 := 4#32
  let v96 : BitVec 32 := Scalar.muli v95 c4_i32_28
  let c2_i32_79 : BitVec 32 := 2#32
  let c0_i32_39 : BitVec 32 := 0#32
  let c1_i32_41 : BitVec 32 := 1#32
  let arg9 : BitVec 32 := Scf.iv c0_i32_39 c1_i32_41 k0_t3
  let v227 : BitVec 32 := Scalar.muli c2_i32_79 arg9
  let v228 : BitVec 32 := Scalar.addi v96 v227
  let c512_i32_80 : BitVec 32 := 512#32
  let v229 : BitVec 32 := Scalar.muli v228 c512_i32_80
  let v230 : BitVec 32 := v229
  let v263 : Index := Scalar.indexCast v230
  ![0, 1, v263.toNat]
@[reducible] def k0_t4_loop (i : grid0.Coords) : Scf.Loop 32 :=
  let c0_i32_39 : BitVec 32 := 0#32
  let arg1 : BitVec 32 := BitVec.ofNat 32 (i 1).val
  let c0_i32_22 : BitVec 32 := 0#32
  let v80 : BitVec 1 := Scalar.cmpi .sgt arg1 c0_i32_22
  let v81 : BitVec 32 := Scalar.extui v80
  let c0_i32_23 : BitVec 32 := 0#32
  let v82 : BitVec 1 := Scalar.cmpi .slt arg1 c0_i32_23
  let v83 : BitVec 32 := Scalar.extui v82
  let v84 : BitVec 32 := Scalar.subi v81 v83
  let c4_i32 : BitVec 32 := 4#32
  let c0_i32_24 : BitVec 32 := 0#32
  let v85 : BitVec 1 := Scalar.cmpi .sgt c4_i32 c0_i32_24
  let v86 : BitVec 32 := Scalar.extui v85
  let c0_i32_25 : BitVec 32 := 0#32
  let v87 : BitVec 1 := Scalar.cmpi .slt c4_i32 c0_i32_25
  let v88 : BitVec 32 := Scalar.extui v87
  let v89 : BitVec 32 := Scalar.subi v86 v88
  let v90 : BitVec 1 := Scalar.cmpi .ne v84 v89
  let v91 : BitVec 32 := Scalar.remsi arg1 c4_i32
  let c0_i32_26 : BitVec 32 := 0#32
  let v92 : BitVec 1 := Scalar.cmpi .ne v91 c0_i32_26
  let v93 : BitVec 1 := Scalar.andi v90 v92
  let v79 : BitVec 32 := Scalar.divsi arg1 c4_i32
  let c1_i32_27 : BitVec 32 := 1#32
  let v94 : BitVec 32 := Scalar.subi v79 c1_i32_27
  let v95 : BitVec 32 := Scalar.select v93 v94 v79
  let c4_i32_28 : BitVec 32 := 4#32
  let v96 : BitVec 32 := Scalar.muli v95 c4_i32_28
  let v97 : BitVec 32 := Scalar.subi arg1 v96
  let c0_i32_29 : BitVec 32 := 0#32
  let v99 : BitVec 1 := Scalar.cmpi .sgt v97 c0_i32_29
  let v100 : BitVec 32 := Scalar.extui v99
  let c0_i32_30 : BitVec 32 := 0#32
  let v101 : BitVec 1 := Scalar.cmpi .slt v97 c0_i32_30
  let v102 : BitVec 32 := Scalar.extui v101
  let v103 : BitVec 32 := Scalar.subi v100 v102
  let c2_i32 : BitVec 32 := 2#32
  let c0_i32_31 : BitVec 32 := 0#32
  let v104 : BitVec 1 := Scalar.cmpi .sgt c2_i32 c0_i32_31
  let v105 : BitVec 32 := Scalar.extui v104
  let c0_i32_32 : BitVec 32 := 0#32
  let v106 : BitVec 1 := Scalar.cmpi .slt c2_i32 c0_i32_32
  let v107 : BitVec 32 := Scalar.extui v106
  let v108 : BitVec 32 := Scalar.subi v105 v107
  let v109 : BitVec 1 := Scalar.cmpi .ne v103 v108
  let v110 : BitVec 32 := Scalar.remsi v97 c2_i32
  let c0_i32_33 : BitVec 32 := 0#32
  let v111 : BitVec 1 := Scalar.cmpi .ne v110 c0_i32_33
  let v112 : BitVec 1 := Scalar.andi v109 v111
  let v98 : BitVec 32 := Scalar.divsi v97 c2_i32
  let c1_i32_34 : BitVec 32 := 1#32
  let v113 : BitVec 32 := Scalar.subi v98 c1_i32_34
  let v114 : BitVec 32 := Scalar.select v112 v113 v98
  let v122 : BitVec 32 := Scalar.subi v114 c0_i32_39
  let c1_i32_40 : BitVec 32 := 1#32
  let v124 : BitVec 32 := Scalar.divsi v122 c1_i32_40
  let v125 : BitVec 32 := Scalar.muli v124 c1_i32_40
  let v126 : BitVec 32 := Scalar.addi c0_i32_39 v125
  let v123 : BitVec 32 := Scalar.addi c0_i32_39 v122
  let c1_i32_42 : BitVec 32 := 1#32
  ⟨v126, v123, c1_i32_42⟩
def k0_mult5 (i : grid0.Coords) (k0_t4 : Fin (k0_t4_loop i).trips) : BitVec 32 :=
  let arg1 : BitVec 32 := BitVec.ofNat 32 (i 1).val
  let c0_i32_22 : BitVec 32 := 0#32
  let v80 : BitVec 1 := Scalar.cmpi .sgt arg1 c0_i32_22
  let v81 : BitVec 32 := Scalar.extui v80
  let c0_i32_23 : BitVec 32 := 0#32
  let v82 : BitVec 1 := Scalar.cmpi .slt arg1 c0_i32_23
  let v83 : BitVec 32 := Scalar.extui v82
  let v84 : BitVec 32 := Scalar.subi v81 v83
  let c4_i32 : BitVec 32 := 4#32
  let c0_i32_24 : BitVec 32 := 0#32
  let v85 : BitVec 1 := Scalar.cmpi .sgt c4_i32 c0_i32_24
  let v86 : BitVec 32 := Scalar.extui v85
  let c0_i32_25 : BitVec 32 := 0#32
  let v87 : BitVec 1 := Scalar.cmpi .slt c4_i32 c0_i32_25
  let v88 : BitVec 32 := Scalar.extui v87
  let v89 : BitVec 32 := Scalar.subi v86 v88
  let v90 : BitVec 1 := Scalar.cmpi .ne v84 v89
  let v91 : BitVec 32 := Scalar.remsi arg1 c4_i32
  let c0_i32_26 : BitVec 32 := 0#32
  let v92 : BitVec 1 := Scalar.cmpi .ne v91 c0_i32_26
  let v93 : BitVec 1 := Scalar.andi v90 v92
  let v79 : BitVec 32 := Scalar.divsi arg1 c4_i32
  let c1_i32_27 : BitVec 32 := 1#32
  let v94 : BitVec 32 := Scalar.subi v79 c1_i32_27
  let v95 : BitVec 32 := Scalar.select v93 v94 v79
  let c4_i32_28 : BitVec 32 := 4#32
  let v96 : BitVec 32 := Scalar.muli v95 c4_i32_28
  let c2_i32_79 : BitVec 32 := 2#32
  let c0_i32_39 : BitVec 32 := 0#32
  let v97 : BitVec 32 := Scalar.subi arg1 v96
  let c0_i32_29 : BitVec 32 := 0#32
  let v99 : BitVec 1 := Scalar.cmpi .sgt v97 c0_i32_29
  let v100 : BitVec 32 := Scalar.extui v99
  let c0_i32_30 : BitVec 32 := 0#32
  let v101 : BitVec 1 := Scalar.cmpi .slt v97 c0_i32_30
  let v102 : BitVec 32 := Scalar.extui v101
  let v103 : BitVec 32 := Scalar.subi v100 v102
  let c2_i32 : BitVec 32 := 2#32
  let c0_i32_31 : BitVec 32 := 0#32
  let v104 : BitVec 1 := Scalar.cmpi .sgt c2_i32 c0_i32_31
  let v105 : BitVec 32 := Scalar.extui v104
  let c0_i32_32 : BitVec 32 := 0#32
  let v106 : BitVec 1 := Scalar.cmpi .slt c2_i32 c0_i32_32
  let v107 : BitVec 32 := Scalar.extui v106
  let v108 : BitVec 32 := Scalar.subi v105 v107
  let v109 : BitVec 1 := Scalar.cmpi .ne v103 v108
  let v110 : BitVec 32 := Scalar.remsi v97 c2_i32
  let c0_i32_33 : BitVec 32 := 0#32
  let v111 : BitVec 1 := Scalar.cmpi .ne v110 c0_i32_33
  let v112 : BitVec 1 := Scalar.andi v109 v111
  let v98 : BitVec 32 := Scalar.divsi v97 c2_i32
  let c1_i32_34 : BitVec 32 := 1#32
  let v113 : BitVec 32 := Scalar.subi v98 c1_i32_34
  let v114 : BitVec 32 := Scalar.select v112 v113 v98
  let v122 : BitVec 32 := Scalar.subi v114 c0_i32_39
  let c1_i32_40 : BitVec 32 := 1#32
  let v124 : BitVec 32 := Scalar.divsi v122 c1_i32_40
  let v125 : BitVec 32 := Scalar.muli v124 c1_i32_40
  let v126 : BitVec 32 := Scalar.addi c0_i32_39 v125
  let c1_i32_42 : BitVec 32 := 1#32
  let arg9 : BitVec 32 := Scf.iv v126 c1_i32_42 k0_t4
  let v227 : BitVec 32 := Scalar.muli c2_i32_79 arg9
  let v228 : BitVec 32 := Scalar.addi v96 v227
  let c512_i32_80 : BitVec 32 := 512#32
  let v229 : BitVec 32 := Scalar.muli v228 c512_i32_80
  v229
def k0_off11 (i : grid0.Coords) (k0_t4 : Fin (k0_t4_loop i).trips) : Fin 2 → Nat :=
  let arg1 : BitVec 32 := BitVec.ofNat 32 (i 1).val
  let c0_i32_22 : BitVec 32 := 0#32
  let v80 : BitVec 1 := Scalar.cmpi .sgt arg1 c0_i32_22
  let v81 : BitVec 32 := Scalar.extui v80
  let c0_i32_23 : BitVec 32 := 0#32
  let v82 : BitVec 1 := Scalar.cmpi .slt arg1 c0_i32_23
  let v83 : BitVec 32 := Scalar.extui v82
  let v84 : BitVec 32 := Scalar.subi v81 v83
  let c4_i32 : BitVec 32 := 4#32
  let c0_i32_24 : BitVec 32 := 0#32
  let v85 : BitVec 1 := Scalar.cmpi .sgt c4_i32 c0_i32_24
  let v86 : BitVec 32 := Scalar.extui v85
  let c0_i32_25 : BitVec 32 := 0#32
  let v87 : BitVec 1 := Scalar.cmpi .slt c4_i32 c0_i32_25
  let v88 : BitVec 32 := Scalar.extui v87
  let v89 : BitVec 32 := Scalar.subi v86 v88
  let v90 : BitVec 1 := Scalar.cmpi .ne v84 v89
  let v91 : BitVec 32 := Scalar.remsi arg1 c4_i32
  let c0_i32_26 : BitVec 32 := 0#32
  let v92 : BitVec 1 := Scalar.cmpi .ne v91 c0_i32_26
  let v93 : BitVec 1 := Scalar.andi v90 v92
  let v79 : BitVec 32 := Scalar.divsi arg1 c4_i32
  let c1_i32_27 : BitVec 32 := 1#32
  let v94 : BitVec 32 := Scalar.subi v79 c1_i32_27
  let v95 : BitVec 32 := Scalar.select v93 v94 v79
  let c4_i32_28 : BitVec 32 := 4#32
  let v96 : BitVec 32 := Scalar.muli v95 c4_i32_28
  let c2_i32_79 : BitVec 32 := 2#32
  let c0_i32_39 : BitVec 32 := 0#32
  let v97 : BitVec 32 := Scalar.subi arg1 v96
  let c0_i32_29 : BitVec 32 := 0#32
  let v99 : BitVec 1 := Scalar.cmpi .sgt v97 c0_i32_29
  let v100 : BitVec 32 := Scalar.extui v99
  let c0_i32_30 : BitVec 32 := 0#32
  let v101 : BitVec 1 := Scalar.cmpi .slt v97 c0_i32_30
  let v102 : BitVec 32 := Scalar.extui v101
  let v103 : BitVec 32 := Scalar.subi v100 v102
  let c2_i32 : BitVec 32 := 2#32
  let c0_i32_31 : BitVec 32 := 0#32
  let v104 : BitVec 1 := Scalar.cmpi .sgt c2_i32 c0_i32_31
  let v105 : BitVec 32 := Scalar.extui v104
  let c0_i32_32 : BitVec 32 := 0#32
  let v106 : BitVec 1 := Scalar.cmpi .slt c2_i32 c0_i32_32
  let v107 : BitVec 32 := Scalar.extui v106
  let v108 : BitVec 32 := Scalar.subi v105 v107
  let v109 : BitVec 1 := Scalar.cmpi .ne v103 v108
  let v110 : BitVec 32 := Scalar.remsi v97 c2_i32
  let c0_i32_33 : BitVec 32 := 0#32
  let v111 : BitVec 1 := Scalar.cmpi .ne v110 c0_i32_33
  let v112 : BitVec 1 := Scalar.andi v109 v111
  let v98 : BitVec 32 := Scalar.divsi v97 c2_i32
  let c1_i32_34 : BitVec 32 := 1#32
  let v113 : BitVec 32 := Scalar.subi v98 c1_i32_34
  let v114 : BitVec 32 := Scalar.select v112 v113 v98
  let v122 : BitVec 32 := Scalar.subi v114 c0_i32_39
  let c1_i32_40 : BitVec 32 := 1#32
  let v124 : BitVec 32 := Scalar.divsi v122 c1_i32_40
  let v125 : BitVec 32 := Scalar.muli v124 c1_i32_40
  let v126 : BitVec 32 := Scalar.addi c0_i32_39 v125
  let c1_i32_42 : BitVec 32 := 1#32
  let arg9 : BitVec 32 := Scf.iv v126 c1_i32_42 k0_t4
  let v227 : BitVec 32 := Scalar.muli c2_i32_79 arg9
  let v228 : BitVec 32 := Scalar.addi v96 v227
  let c512_i32_80 : BitVec 32 := 512#32
  let v229 : BitVec 32 := Scalar.muli v228 c512_i32_80
  let v230 : BitVec 32 := v229
  let v231 : Index := Scalar.indexCast v230
  let c0_81 : Index := 0#32
  ![v231.toNat, 0]
def k0_off12 (i : grid0.Coords) (k0_t4 : Fin (k0_t4_loop i).trips) : Fin 3 → Nat :=
  let c0_83 : Index := 0#32
  let c0_84 : Index := 0#32
  let arg1 : BitVec 32 := BitVec.ofNat 32 (i 1).val
  let c0_i32_22 : BitVec 32 := 0#32
  let v80 : BitVec 1 := Scalar.cmpi .sgt arg1 c0_i32_22
  let v81 : BitVec 32 := Scalar.extui v80
  let c0_i32_23 : BitVec 32 := 0#32
  let v82 : BitVec 1 := Scalar.cmpi .slt arg1 c0_i32_23
  let v83 : BitVec 32 := Scalar.extui v82
  let v84 : BitVec 32 := Scalar.subi v81 v83
  let c4_i32 : BitVec 32 := 4#32
  let c0_i32_24 : BitVec 32 := 0#32
  let v85 : BitVec 1 := Scalar.cmpi .sgt c4_i32 c0_i32_24
  let v86 : BitVec 32 := Scalar.extui v85
  let c0_i32_25 : BitVec 32 := 0#32
  let v87 : BitVec 1 := Scalar.cmpi .slt c4_i32 c0_i32_25
  let v88 : BitVec 32 := Scalar.extui v87
  let v89 : BitVec 32 := Scalar.subi v86 v88
  let v90 : BitVec 1 := Scalar.cmpi .ne v84 v89
  let v91 : BitVec 32 := Scalar.remsi arg1 c4_i32
  let c0_i32_26 : BitVec 32 := 0#32
  let v92 : BitVec 1 := Scalar.cmpi .ne v91 c0_i32_26
  let v93 : BitVec 1 := Scalar.andi v90 v92
  let v79 : BitVec 32 := Scalar.divsi arg1 c4_i32
  let c1_i32_27 : BitVec 32 := 1#32
  let v94 : BitVec 32 := Scalar.subi v79 c1_i32_27
  let v95 : BitVec 32 := Scalar.select v93 v94 v79
  let c4_i32_28 : BitVec 32 := 4#32
  let v96 : BitVec 32 := Scalar.muli v95 c4_i32_28
  let c2_i32_79 : BitVec 32 := 2#32
  let c0_i32_39 : BitVec 32 := 0#32
  let v97 : BitVec 32 := Scalar.subi arg1 v96
  let c0_i32_29 : BitVec 32 := 0#32
  let v99 : BitVec 1 := Scalar.cmpi .sgt v97 c0_i32_29
  let v100 : BitVec 32 := Scalar.extui v99
  let c0_i32_30 : BitVec 32 := 0#32
  let v101 : BitVec 1 := Scalar.cmpi .slt v97 c0_i32_30
  let v102 : BitVec 32 := Scalar.extui v101
  let v103 : BitVec 32 := Scalar.subi v100 v102
  let c2_i32 : BitVec 32 := 2#32
  let c0_i32_31 : BitVec 32 := 0#32
  let v104 : BitVec 1 := Scalar.cmpi .sgt c2_i32 c0_i32_31
  let v105 : BitVec 32 := Scalar.extui v104
  let c0_i32_32 : BitVec 32 := 0#32
  let v106 : BitVec 1 := Scalar.cmpi .slt c2_i32 c0_i32_32
  let v107 : BitVec 32 := Scalar.extui v106
  let v108 : BitVec 32 := Scalar.subi v105 v107
  let v109 : BitVec 1 := Scalar.cmpi .ne v103 v108
  let v110 : BitVec 32 := Scalar.remsi v97 c2_i32
  let c0_i32_33 : BitVec 32 := 0#32
  let v111 : BitVec 1 := Scalar.cmpi .ne v110 c0_i32_33
  let v112 : BitVec 1 := Scalar.andi v109 v111
  let v98 : BitVec 32 := Scalar.divsi v97 c2_i32
  let c1_i32_34 : BitVec 32 := 1#32
  let v113 : BitVec 32 := Scalar.subi v98 c1_i32_34
  let v114 : BitVec 32 := Scalar.select v112 v113 v98
  let v122 : BitVec 32 := Scalar.subi v114 c0_i32_39
  let c1_i32_40 : BitVec 32 := 1#32
  let v124 : BitVec 32 := Scalar.divsi v122 c1_i32_40
  let v125 : BitVec 32 := Scalar.muli v124 c1_i32_40
  let v126 : BitVec 32 := Scalar.addi c0_i32_39 v125
  let c1_i32_42 : BitVec 32 := 1#32
  let arg9 : BitVec 32 := Scf.iv v126 c1_i32_42 k0_t4
  let v227 : BitVec 32 := Scalar.muli c2_i32_79 arg9
  let v228 : BitVec 32 := Scalar.addi v96 v227
  let c512_i32_80 : BitVec 32 := 512#32
  let v229 : BitVec 32 := Scalar.muli v228 c512_i32_80
  let v230 : BitVec 32 := v229
  let v238 : Index := Scalar.indexCast v230
  ![0, 0, v238.toNat]
def k0_off13 (i : grid0.Coords) (k0_t4 : Fin (k0_t4_loop i).trips) : Fin 3 → Nat :=
  let c0_90 : Index := 0#32
  let c1_91 : Index := 1#32
  let arg1 : BitVec 32 := BitVec.ofNat 32 (i 1).val
  let c0_i32_22 : BitVec 32 := 0#32
  let v80 : BitVec 1 := Scalar.cmpi .sgt arg1 c0_i32_22
  let v81 : BitVec 32 := Scalar.extui v80
  let c0_i32_23 : BitVec 32 := 0#32
  let v82 : BitVec 1 := Scalar.cmpi .slt arg1 c0_i32_23
  let v83 : BitVec 32 := Scalar.extui v82
  let v84 : BitVec 32 := Scalar.subi v81 v83
  let c4_i32 : BitVec 32 := 4#32
  let c0_i32_24 : BitVec 32 := 0#32
  let v85 : BitVec 1 := Scalar.cmpi .sgt c4_i32 c0_i32_24
  let v86 : BitVec 32 := Scalar.extui v85
  let c0_i32_25 : BitVec 32 := 0#32
  let v87 : BitVec 1 := Scalar.cmpi .slt c4_i32 c0_i32_25
  let v88 : BitVec 32 := Scalar.extui v87
  let v89 : BitVec 32 := Scalar.subi v86 v88
  let v90 : BitVec 1 := Scalar.cmpi .ne v84 v89
  let v91 : BitVec 32 := Scalar.remsi arg1 c4_i32
  let c0_i32_26 : BitVec 32 := 0#32
  let v92 : BitVec 1 := Scalar.cmpi .ne v91 c0_i32_26
  let v93 : BitVec 1 := Scalar.andi v90 v92
  let v79 : BitVec 32 := Scalar.divsi arg1 c4_i32
  let c1_i32_27 : BitVec 32 := 1#32
  let v94 : BitVec 32 := Scalar.subi v79 c1_i32_27
  let v95 : BitVec 32 := Scalar.select v93 v94 v79
  let c4_i32_28 : BitVec 32 := 4#32
  let v96 : BitVec 32 := Scalar.muli v95 c4_i32_28
  let c2_i32_79 : BitVec 32 := 2#32
  let c0_i32_39 : BitVec 32 := 0#32
  let v97 : BitVec 32 := Scalar.subi arg1 v96
  let c0_i32_29 : BitVec 32 := 0#32
  let v99 : BitVec 1 := Scalar.cmpi .sgt v97 c0_i32_29
  let v100 : BitVec 32 := Scalar.extui v99
  let c0_i32_30 : BitVec 32 := 0#32
  let v101 : BitVec 1 := Scalar.cmpi .slt v97 c0_i32_30
  let v102 : BitVec 32 := Scalar.extui v101
  let v103 : BitVec 32 := Scalar.subi v100 v102
  let c2_i32 : BitVec 32 := 2#32
  let c0_i32_31 : BitVec 32 := 0#32
  let v104 : BitVec 1 := Scalar.cmpi .sgt c2_i32 c0_i32_31
  let v105 : BitVec 32 := Scalar.extui v104
  let c0_i32_32 : BitVec 32 := 0#32
  let v106 : BitVec 1 := Scalar.cmpi .slt c2_i32 c0_i32_32
  let v107 : BitVec 32 := Scalar.extui v106
  let v108 : BitVec 32 := Scalar.subi v105 v107
  let v109 : BitVec 1 := Scalar.cmpi .ne v103 v108
  let v110 : BitVec 32 := Scalar.remsi v97 c2_i32
  let c0_i32_33 : BitVec 32 := 0#32
  let v111 : BitVec 1 := Scalar.cmpi .ne v110 c0_i32_33
  let v112 : BitVec 1 := Scalar.andi v109 v111
  let v98 : BitVec 32 := Scalar.divsi v97 c2_i32
  let c1_i32_34 : BitVec 32 := 1#32
  let v113 : BitVec 32 := Scalar.subi v98 c1_i32_34
  let v114 : BitVec 32 := Scalar.select v112 v113 v98
  let v122 : BitVec 32 := Scalar.subi v114 c0_i32_39
  let c1_i32_40 : BitVec 32 := 1#32
  let v124 : BitVec 32 := Scalar.divsi v122 c1_i32_40
  let v125 : BitVec 32 := Scalar.muli v124 c1_i32_40
  let v126 : BitVec 32 := Scalar.addi c0_i32_39 v125
  let c1_i32_42 : BitVec 32 := 1#32
  let arg9 : BitVec 32 := Scf.iv v126 c1_i32_42 k0_t4
  let v227 : BitVec 32 := Scalar.muli c2_i32_79 arg9
  let v228 : BitVec 32 := Scalar.addi v96 v227
  let c512_i32_80 : BitVec 32 := 512#32
  let v229 : BitVec 32 := Scalar.muli v228 c512_i32_80
  let v230 : BitVec 32 := v229
  let v263 : Index := Scalar.indexCast v230
  ![0, 1, v263.toNat]
@[reducible] def k0_t5_loop (i : grid0.Coords) : Scf.Loop 32 :=
  let arg1 : BitVec 32 := BitVec.ofNat 32 (i 1).val
  let c0_i32_22 : BitVec 32 := 0#32
  let v80 : BitVec 1 := Scalar.cmpi .sgt arg1 c0_i32_22
  let v81 : BitVec 32 := Scalar.extui v80
  let c0_i32_23 : BitVec 32 := 0#32
  let v82 : BitVec 1 := Scalar.cmpi .slt arg1 c0_i32_23
  let v83 : BitVec 32 := Scalar.extui v82
  let v84 : BitVec 32 := Scalar.subi v81 v83
  let c4_i32 : BitVec 32 := 4#32
  let c0_i32_24 : BitVec 32 := 0#32
  let v85 : BitVec 1 := Scalar.cmpi .sgt c4_i32 c0_i32_24
  let v86 : BitVec 32 := Scalar.extui v85
  let c0_i32_25 : BitVec 32 := 0#32
  let v87 : BitVec 1 := Scalar.cmpi .slt c4_i32 c0_i32_25
  let v88 : BitVec 32 := Scalar.extui v87
  let v89 : BitVec 32 := Scalar.subi v86 v88
  let v90 : BitVec 1 := Scalar.cmpi .ne v84 v89
  let v91 : BitVec 32 := Scalar.remsi arg1 c4_i32
  let c0_i32_26 : BitVec 32 := 0#32
  let v92 : BitVec 1 := Scalar.cmpi .ne v91 c0_i32_26
  let v93 : BitVec 1 := Scalar.andi v90 v92
  let v79 : BitVec 32 := Scalar.divsi arg1 c4_i32
  let c1_i32_27 : BitVec 32 := 1#32
  let v94 : BitVec 32 := Scalar.subi v79 c1_i32_27
  let v95 : BitVec 32 := Scalar.select v93 v94 v79
  let c4_i32_28 : BitVec 32 := 4#32
  let v96 : BitVec 32 := Scalar.muli v95 c4_i32_28
  let c2_i32_43 : BitVec 32 := 2#32
  let v97 : BitVec 32 := Scalar.subi arg1 v96
  let c0_i32_29 : BitVec 32 := 0#32
  let v99 : BitVec 1 := Scalar.cmpi .sgt v97 c0_i32_29
  let v100 : BitVec 32 := Scalar.extui v99
  let c0_i32_30 : BitVec 32 := 0#32
  let v101 : BitVec 1 := Scalar.cmpi .slt v97 c0_i32_30
  let v102 : BitVec 32 := Scalar.extui v101
  let v103 : BitVec 32 := Scalar.subi v100 v102
  let c2_i32 : BitVec 32 := 2#32
  let c0_i32_31 : BitVec 32 := 0#32
  let v104 : BitVec 1 := Scalar.cmpi .sgt c2_i32 c0_i32_31
  let v105 : BitVec 32 := Scalar.extui v104
  let c0_i32_32 : BitVec 32 := 0#32
  let v106 : BitVec 1 := Scalar.cmpi .slt c2_i32 c0_i32_32
  let v107 : BitVec 32 := Scalar.extui v106
  let v108 : BitVec 32 := Scalar.subi v105 v107
  let v109 : BitVec 1 := Scalar.cmpi .ne v103 v108
  let v110 : BitVec 32 := Scalar.remsi v97 c2_i32
  let c0_i32_33 : BitVec 32 := 0#32
  let v111 : BitVec 1 := Scalar.cmpi .ne v110 c0_i32_33
  let v112 : BitVec 1 := Scalar.andi v109 v111
  let v98 : BitVec 32 := Scalar.divsi v97 c2_i32
  let c1_i32_34 : BitVec 32 := 1#32
  let v113 : BitVec 32 := Scalar.subi v98 c1_i32_34
  let v114 : BitVec 32 := Scalar.select v112 v113 v98
  let v129 : BitVec 32 := Scalar.muli c2_i32_43 v114
  let v130 : BitVec 32 := Scalar.addi v96 v129
  let v131 : BitVec 32 := Scalar.subi arg1 v130
  let c1_i32_44 : BitVec 32 := 1#32
  let v133 : BitVec 32 := Scalar.divsi v131 c1_i32_44
  let v134 : BitVec 32 := Scalar.muli v133 c1_i32_44
  let v135 : BitVec 32 := Scalar.addi v130 v134
  let c1_i32_45 : BitVec 32 := 1#32
  ⟨v130, v135, c1_i32_45⟩
def k0_mult6 (i : grid0.Coords) (k0_t5 : Fin (k0_t5_loop i).trips) : BitVec 32 :=
  let arg1 : BitVec 32 := BitVec.ofNat 32 (i 1).val
  let c0_i32_22 : BitVec 32 := 0#32
  let v80 : BitVec 1 := Scalar.cmpi .sgt arg1 c0_i32_22
  let v81 : BitVec 32 := Scalar.extui v80
  let c0_i32_23 : BitVec 32 := 0#32
  let v82 : BitVec 1 := Scalar.cmpi .slt arg1 c0_i32_23
  let v83 : BitVec 32 := Scalar.extui v82
  let v84 : BitVec 32 := Scalar.subi v81 v83
  let c4_i32 : BitVec 32 := 4#32
  let c0_i32_24 : BitVec 32 := 0#32
  let v85 : BitVec 1 := Scalar.cmpi .sgt c4_i32 c0_i32_24
  let v86 : BitVec 32 := Scalar.extui v85
  let c0_i32_25 : BitVec 32 := 0#32
  let v87 : BitVec 1 := Scalar.cmpi .slt c4_i32 c0_i32_25
  let v88 : BitVec 32 := Scalar.extui v87
  let v89 : BitVec 32 := Scalar.subi v86 v88
  let v90 : BitVec 1 := Scalar.cmpi .ne v84 v89
  let v91 : BitVec 32 := Scalar.remsi arg1 c4_i32
  let c0_i32_26 : BitVec 32 := 0#32
  let v92 : BitVec 1 := Scalar.cmpi .ne v91 c0_i32_26
  let v93 : BitVec 1 := Scalar.andi v90 v92
  let v79 : BitVec 32 := Scalar.divsi arg1 c4_i32
  let c1_i32_27 : BitVec 32 := 1#32
  let v94 : BitVec 32 := Scalar.subi v79 c1_i32_27
  let v95 : BitVec 32 := Scalar.select v93 v94 v79
  let c4_i32_28 : BitVec 32 := 4#32
  let v96 : BitVec 32 := Scalar.muli v95 c4_i32_28
  let c2_i32_43 : BitVec 32 := 2#32
  let v97 : BitVec 32 := Scalar.subi arg1 v96
  let c0_i32_29 : BitVec 32 := 0#32
  let v99 : BitVec 1 := Scalar.cmpi .sgt v97 c0_i32_29
  let v100 : BitVec 32 := Scalar.extui v99
  let c0_i32_30 : BitVec 32 := 0#32
  let v101 : BitVec 1 := Scalar.cmpi .slt v97 c0_i32_30
  let v102 : BitVec 32 := Scalar.extui v101
  let v103 : BitVec 32 := Scalar.subi v100 v102
  let c2_i32 : BitVec 32 := 2#32
  let c0_i32_31 : BitVec 32 := 0#32
  let v104 : BitVec 1 := Scalar.cmpi .sgt c2_i32 c0_i32_31
  let v105 : BitVec 32 := Scalar.extui v104
  let c0_i32_32 : BitVec 32 := 0#32
  let v106 : BitVec 1 := Scalar.cmpi .slt c2_i32 c0_i32_32
  let v107 : BitVec 32 := Scalar.extui v106
  let v108 : BitVec 32 := Scalar.subi v105 v107
  let v109 : BitVec 1 := Scalar.cmpi .ne v103 v108
  let v110 : BitVec 32 := Scalar.remsi v97 c2_i32
  let c0_i32_33 : BitVec 32 := 0#32
  let v111 : BitVec 1 := Scalar.cmpi .ne v110 c0_i32_33
  let v112 : BitVec 1 := Scalar.andi v109 v111
  let v98 : BitVec 32 := Scalar.divsi v97 c2_i32
  let c1_i32_34 : BitVec 32 := 1#32
  let v113 : BitVec 32 := Scalar.subi v98 c1_i32_34
  let v114 : BitVec 32 := Scalar.select v112 v113 v98
  let v129 : BitVec 32 := Scalar.muli c2_i32_43 v114
  let v130 : BitVec 32 := Scalar.addi v96 v129
  let c1_i32_45 : BitVec 32 := 1#32
  let arg9 : BitVec 32 := Scf.iv v130 c1_i32_45 k0_t5
  let c512_i32_79 : BitVec 32 := 512#32
  let v227 : BitVec 32 := Scalar.muli arg9 c512_i32_79
  v227
def k0_off14 (i : grid0.Coords) (k0_t5 : Fin (k0_t5_loop i).trips) : Fin 2 → Nat :=
  let arg1 : BitVec 32 := BitVec.ofNat 32 (i 1).val
  let c0_i32_22 : BitVec 32 := 0#32
  let v80 : BitVec 1 := Scalar.cmpi .sgt arg1 c0_i32_22
  let v81 : BitVec 32 := Scalar.extui v80
  let c0_i32_23 : BitVec 32 := 0#32
  let v82 : BitVec 1 := Scalar.cmpi .slt arg1 c0_i32_23
  let v83 : BitVec 32 := Scalar.extui v82
  let v84 : BitVec 32 := Scalar.subi v81 v83
  let c4_i32 : BitVec 32 := 4#32
  let c0_i32_24 : BitVec 32 := 0#32
  let v85 : BitVec 1 := Scalar.cmpi .sgt c4_i32 c0_i32_24
  let v86 : BitVec 32 := Scalar.extui v85
  let c0_i32_25 : BitVec 32 := 0#32
  let v87 : BitVec 1 := Scalar.cmpi .slt c4_i32 c0_i32_25
  let v88 : BitVec 32 := Scalar.extui v87
  let v89 : BitVec 32 := Scalar.subi v86 v88
  let v90 : BitVec 1 := Scalar.cmpi .ne v84 v89
  let v91 : BitVec 32 := Scalar.remsi arg1 c4_i32
  let c0_i32_26 : BitVec 32 := 0#32
  let v92 : BitVec 1 := Scalar.cmpi .ne v91 c0_i32_26
  let v93 : BitVec 1 := Scalar.andi v90 v92
  let v79 : BitVec 32 := Scalar.divsi arg1 c4_i32
  let c1_i32_27 : BitVec 32 := 1#32
  let v94 : BitVec 32 := Scalar.subi v79 c1_i32_27
  let v95 : BitVec 32 := Scalar.select v93 v94 v79
  let c4_i32_28 : BitVec 32 := 4#32
  let v96 : BitVec 32 := Scalar.muli v95 c4_i32_28
  let c2_i32_43 : BitVec 32 := 2#32
  let v97 : BitVec 32 := Scalar.subi arg1 v96
  let c0_i32_29 : BitVec 32 := 0#32
  let v99 : BitVec 1 := Scalar.cmpi .sgt v97 c0_i32_29
  let v100 : BitVec 32 := Scalar.extui v99
  let c0_i32_30 : BitVec 32 := 0#32
  let v101 : BitVec 1 := Scalar.cmpi .slt v97 c0_i32_30
  let v102 : BitVec 32 := Scalar.extui v101
  let v103 : BitVec 32 := Scalar.subi v100 v102
  let c2_i32 : BitVec 32 := 2#32
  let c0_i32_31 : BitVec 32 := 0#32
  let v104 : BitVec 1 := Scalar.cmpi .sgt c2_i32 c0_i32_31
  let v105 : BitVec 32 := Scalar.extui v104
  let c0_i32_32 : BitVec 32 := 0#32
  let v106 : BitVec 1 := Scalar.cmpi .slt c2_i32 c0_i32_32
  let v107 : BitVec 32 := Scalar.extui v106
  let v108 : BitVec 32 := Scalar.subi v105 v107
  let v109 : BitVec 1 := Scalar.cmpi .ne v103 v108
  let v110 : BitVec 32 := Scalar.remsi v97 c2_i32
  let c0_i32_33 : BitVec 32 := 0#32
  let v111 : BitVec 1 := Scalar.cmpi .ne v110 c0_i32_33
  let v112 : BitVec 1 := Scalar.andi v109 v111
  let v98 : BitVec 32 := Scalar.divsi v97 c2_i32
  let c1_i32_34 : BitVec 32 := 1#32
  let v113 : BitVec 32 := Scalar.subi v98 c1_i32_34
  let v114 : BitVec 32 := Scalar.select v112 v113 v98
  let v129 : BitVec 32 := Scalar.muli c2_i32_43 v114
  let v130 : BitVec 32 := Scalar.addi v96 v129
  let c1_i32_45 : BitVec 32 := 1#32
  let arg9 : BitVec 32 := Scf.iv v130 c1_i32_45 k0_t5
  let c512_i32_79 : BitVec 32 := 512#32
  let v227 : BitVec 32 := Scalar.muli arg9 c512_i32_79
  let v228 : BitVec 32 := v227
  let v229 : Index := Scalar.indexCast v228
  let c0_80 : Index := 0#32
  ![v229.toNat, 0]
def k0_off15 (i : grid0.Coords) (k0_t5 : Fin (k0_t5_loop i).trips) : Fin 3 → Nat :=
  let c0_82 : Index := 0#32
  let c0_83 : Index := 0#32
  let arg1 : BitVec 32 := BitVec.ofNat 32 (i 1).val
  let c0_i32_22 : BitVec 32 := 0#32
  let v80 : BitVec 1 := Scalar.cmpi .sgt arg1 c0_i32_22
  let v81 : BitVec 32 := Scalar.extui v80
  let c0_i32_23 : BitVec 32 := 0#32
  let v82 : BitVec 1 := Scalar.cmpi .slt arg1 c0_i32_23
  let v83 : BitVec 32 := Scalar.extui v82
  let v84 : BitVec 32 := Scalar.subi v81 v83
  let c4_i32 : BitVec 32 := 4#32
  let c0_i32_24 : BitVec 32 := 0#32
  let v85 : BitVec 1 := Scalar.cmpi .sgt c4_i32 c0_i32_24
  let v86 : BitVec 32 := Scalar.extui v85
  let c0_i32_25 : BitVec 32 := 0#32
  let v87 : BitVec 1 := Scalar.cmpi .slt c4_i32 c0_i32_25
  let v88 : BitVec 32 := Scalar.extui v87
  let v89 : BitVec 32 := Scalar.subi v86 v88
  let v90 : BitVec 1 := Scalar.cmpi .ne v84 v89
  let v91 : BitVec 32 := Scalar.remsi arg1 c4_i32
  let c0_i32_26 : BitVec 32 := 0#32
  let v92 : BitVec 1 := Scalar.cmpi .ne v91 c0_i32_26
  let v93 : BitVec 1 := Scalar.andi v90 v92
  let v79 : BitVec 32 := Scalar.divsi arg1 c4_i32
  let c1_i32_27 : BitVec 32 := 1#32
  let v94 : BitVec 32 := Scalar.subi v79 c1_i32_27
  let v95 : BitVec 32 := Scalar.select v93 v94 v79
  let c4_i32_28 : BitVec 32 := 4#32
  let v96 : BitVec 32 := Scalar.muli v95 c4_i32_28
  let c2_i32_43 : BitVec 32 := 2#32
  let v97 : BitVec 32 := Scalar.subi arg1 v96
  let c0_i32_29 : BitVec 32 := 0#32
  let v99 : BitVec 1 := Scalar.cmpi .sgt v97 c0_i32_29
  let v100 : BitVec 32 := Scalar.extui v99
  let c0_i32_30 : BitVec 32 := 0#32
  let v101 : BitVec 1 := Scalar.cmpi .slt v97 c0_i32_30
  let v102 : BitVec 32 := Scalar.extui v101
  let v103 : BitVec 32 := Scalar.subi v100 v102
  let c2_i32 : BitVec 32 := 2#32
  let c0_i32_31 : BitVec 32 := 0#32
  let v104 : BitVec 1 := Scalar.cmpi .sgt c2_i32 c0_i32_31
  let v105 : BitVec 32 := Scalar.extui v104
  let c0_i32_32 : BitVec 32 := 0#32
  let v106 : BitVec 1 := Scalar.cmpi .slt c2_i32 c0_i32_32
  let v107 : BitVec 32 := Scalar.extui v106
  let v108 : BitVec 32 := Scalar.subi v105 v107
  let v109 : BitVec 1 := Scalar.cmpi .ne v103 v108
  let v110 : BitVec 32 := Scalar.remsi v97 c2_i32
  let c0_i32_33 : BitVec 32 := 0#32
  let v111 : BitVec 1 := Scalar.cmpi .ne v110 c0_i32_33
  let v112 : BitVec 1 := Scalar.andi v109 v111
  let v98 : BitVec 32 := Scalar.divsi v97 c2_i32
  let c1_i32_34 : BitVec 32 := 1#32
  let v113 : BitVec 32 := Scalar.subi v98 c1_i32_34
  let v114 : BitVec 32 := Scalar.select v112 v113 v98
  let v129 : BitVec 32 := Scalar.muli c2_i32_43 v114
  let v130 : BitVec 32 := Scalar.addi v96 v129
  let c1_i32_45 : BitVec 32 := 1#32
  let arg9 : BitVec 32 := Scf.iv v130 c1_i32_45 k0_t5
  let c512_i32_79 : BitVec 32 := 512#32
  let v227 : BitVec 32 := Scalar.muli arg9 c512_i32_79
  let v228 : BitVec 32 := v227
  let v236 : Index := Scalar.indexCast v228
  ![0, 0, v236.toNat]
def k0_off16 (i : grid0.Coords) (k0_t5 : Fin (k0_t5_loop i).trips) : Fin 3 → Nat :=
  let c0_89 : Index := 0#32
  let c1_90 : Index := 1#32
  let arg1 : BitVec 32 := BitVec.ofNat 32 (i 1).val
  let c0_i32_22 : BitVec 32 := 0#32
  let v80 : BitVec 1 := Scalar.cmpi .sgt arg1 c0_i32_22
  let v81 : BitVec 32 := Scalar.extui v80
  let c0_i32_23 : BitVec 32 := 0#32
  let v82 : BitVec 1 := Scalar.cmpi .slt arg1 c0_i32_23
  let v83 : BitVec 32 := Scalar.extui v82
  let v84 : BitVec 32 := Scalar.subi v81 v83
  let c4_i32 : BitVec 32 := 4#32
  let c0_i32_24 : BitVec 32 := 0#32
  let v85 : BitVec 1 := Scalar.cmpi .sgt c4_i32 c0_i32_24
  let v86 : BitVec 32 := Scalar.extui v85
  let c0_i32_25 : BitVec 32 := 0#32
  let v87 : BitVec 1 := Scalar.cmpi .slt c4_i32 c0_i32_25
  let v88 : BitVec 32 := Scalar.extui v87
  let v89 : BitVec 32 := Scalar.subi v86 v88
  let v90 : BitVec 1 := Scalar.cmpi .ne v84 v89
  let v91 : BitVec 32 := Scalar.remsi arg1 c4_i32
  let c0_i32_26 : BitVec 32 := 0#32
  let v92 : BitVec 1 := Scalar.cmpi .ne v91 c0_i32_26
  let v93 : BitVec 1 := Scalar.andi v90 v92
  let v79 : BitVec 32 := Scalar.divsi arg1 c4_i32
  let c1_i32_27 : BitVec 32 := 1#32
  let v94 : BitVec 32 := Scalar.subi v79 c1_i32_27
  let v95 : BitVec 32 := Scalar.select v93 v94 v79
  let c4_i32_28 : BitVec 32 := 4#32
  let v96 : BitVec 32 := Scalar.muli v95 c4_i32_28
  let c2_i32_43 : BitVec 32 := 2#32
  let v97 : BitVec 32 := Scalar.subi arg1 v96
  let c0_i32_29 : BitVec 32 := 0#32
  let v99 : BitVec 1 := Scalar.cmpi .sgt v97 c0_i32_29
  let v100 : BitVec 32 := Scalar.extui v99
  let c0_i32_30 : BitVec 32 := 0#32
  let v101 : BitVec 1 := Scalar.cmpi .slt v97 c0_i32_30
  let v102 : BitVec 32 := Scalar.extui v101
  let v103 : BitVec 32 := Scalar.subi v100 v102
  let c2_i32 : BitVec 32 := 2#32
  let c0_i32_31 : BitVec 32 := 0#32
  let v104 : BitVec 1 := Scalar.cmpi .sgt c2_i32 c0_i32_31
  let v105 : BitVec 32 := Scalar.extui v104
  let c0_i32_32 : BitVec 32 := 0#32
  let v106 : BitVec 1 := Scalar.cmpi .slt c2_i32 c0_i32_32
  let v107 : BitVec 32 := Scalar.extui v106
  let v108 : BitVec 32 := Scalar.subi v105 v107
  let v109 : BitVec 1 := Scalar.cmpi .ne v103 v108
  let v110 : BitVec 32 := Scalar.remsi v97 c2_i32
  let c0_i32_33 : BitVec 32 := 0#32
  let v111 : BitVec 1 := Scalar.cmpi .ne v110 c0_i32_33
  let v112 : BitVec 1 := Scalar.andi v109 v111
  let v98 : BitVec 32 := Scalar.divsi v97 c2_i32
  let c1_i32_34 : BitVec 32 := 1#32
  let v113 : BitVec 32 := Scalar.subi v98 c1_i32_34
  let v114 : BitVec 32 := Scalar.select v112 v113 v98
  let v129 : BitVec 32 := Scalar.muli c2_i32_43 v114
  let v130 : BitVec 32 := Scalar.addi v96 v129
  let c1_i32_45 : BitVec 32 := 1#32
  let arg9 : BitVec 32 := Scf.iv v130 c1_i32_45 k0_t5
  let c512_i32_79 : BitVec 32 := 512#32
  let v227 : BitVec 32 := Scalar.muli arg9 c512_i32_79
  let v228 : BitVec 32 := v227
  let v261 : Index := Scalar.indexCast v228
  ![0, 1, v261.toNat]
@[reducible] def k0_t6_loop (i : grid0.Coords) : Scf.Loop 32 :=
  let arg1 : BitVec 32 := BitVec.ofNat 32 (i 1).val
  let c0_i32_22 : BitVec 32 := 0#32
  let v80 : BitVec 1 := Scalar.cmpi .sgt arg1 c0_i32_22
  let v81 : BitVec 32 := Scalar.extui v80
  let c0_i32_23 : BitVec 32 := 0#32
  let v82 : BitVec 1 := Scalar.cmpi .slt arg1 c0_i32_23
  let v83 : BitVec 32 := Scalar.extui v82
  let v84 : BitVec 32 := Scalar.subi v81 v83
  let c4_i32 : BitVec 32 := 4#32
  let c0_i32_24 : BitVec 32 := 0#32
  let v85 : BitVec 1 := Scalar.cmpi .sgt c4_i32 c0_i32_24
  let v86 : BitVec 32 := Scalar.extui v85
  let c0_i32_25 : BitVec 32 := 0#32
  let v87 : BitVec 1 := Scalar.cmpi .slt c4_i32 c0_i32_25
  let v88 : BitVec 32 := Scalar.extui v87
  let v89 : BitVec 32 := Scalar.subi v86 v88
  let v90 : BitVec 1 := Scalar.cmpi .ne v84 v89
  let v91 : BitVec 32 := Scalar.remsi arg1 c4_i32
  let c0_i32_26 : BitVec 32 := 0#32
  let v92 : BitVec 1 := Scalar.cmpi .ne v91 c0_i32_26
  let v93 : BitVec 1 := Scalar.andi v90 v92
  let v79 : BitVec 32 := Scalar.divsi arg1 c4_i32
  let c1_i32_27 : BitVec 32 := 1#32
  let v94 : BitVec 32 := Scalar.subi v79 c1_i32_27
  let v95 : BitVec 32 := Scalar.select v93 v94 v79
  let c4_i32_28 : BitVec 32 := 4#32
  let v96 : BitVec 32 := Scalar.muli v95 c4_i32_28
  let c2_i32_43 : BitVec 32 := 2#32
  let v97 : BitVec 32 := Scalar.subi arg1 v96
  let c0_i32_29 : BitVec 32 := 0#32
  let v99 : BitVec 1 := Scalar.cmpi .sgt v97 c0_i32_29
  let v100 : BitVec 32 := Scalar.extui v99
  let c0_i32_30 : BitVec 32 := 0#32
  let v101 : BitVec 1 := Scalar.cmpi .slt v97 c0_i32_30
  let v102 : BitVec 32 := Scalar.extui v101
  let v103 : BitVec 32 := Scalar.subi v100 v102
  let c2_i32 : BitVec 32 := 2#32
  let c0_i32_31 : BitVec 32 := 0#32
  let v104 : BitVec 1 := Scalar.cmpi .sgt c2_i32 c0_i32_31
  let v105 : BitVec 32 := Scalar.extui v104
  let c0_i32_32 : BitVec 32 := 0#32
  let v106 : BitVec 1 := Scalar.cmpi .slt c2_i32 c0_i32_32
  let v107 : BitVec 32 := Scalar.extui v106
  let v108 : BitVec 32 := Scalar.subi v105 v107
  let v109 : BitVec 1 := Scalar.cmpi .ne v103 v108
  let v110 : BitVec 32 := Scalar.remsi v97 c2_i32
  let c0_i32_33 : BitVec 32 := 0#32
  let v111 : BitVec 1 := Scalar.cmpi .ne v110 c0_i32_33
  let v112 : BitVec 1 := Scalar.andi v109 v111
  let v98 : BitVec 32 := Scalar.divsi v97 c2_i32
  let c1_i32_34 : BitVec 32 := 1#32
  let v113 : BitVec 32 := Scalar.subi v98 c1_i32_34
  let v114 : BitVec 32 := Scalar.select v112 v113 v98
  let v129 : BitVec 32 := Scalar.muli c2_i32_43 v114
  let v130 : BitVec 32 := Scalar.addi v96 v129
  let v131 : BitVec 32 := Scalar.subi arg1 v130
  let c1_i32_44 : BitVec 32 := 1#32
  let v133 : BitVec 32 := Scalar.divsi v131 c1_i32_44
  let v134 : BitVec 32 := Scalar.muli v133 c1_i32_44
  let v135 : BitVec 32 := Scalar.addi v130 v134
  let v132 : BitVec 32 := Scalar.addi v130 v131
  let c1_i32_46 : BitVec 32 := 1#32
  ⟨v135, v132, c1_i32_46⟩
def k0_mult7 (i : grid0.Coords) (k0_t6 : Fin (k0_t6_loop i).trips) : BitVec 32 :=
  let arg1 : BitVec 32 := BitVec.ofNat 32 (i 1).val
  let c0_i32_22 : BitVec 32 := 0#32
  let v80 : BitVec 1 := Scalar.cmpi .sgt arg1 c0_i32_22
  let v81 : BitVec 32 := Scalar.extui v80
  let c0_i32_23 : BitVec 32 := 0#32
  let v82 : BitVec 1 := Scalar.cmpi .slt arg1 c0_i32_23
  let v83 : BitVec 32 := Scalar.extui v82
  let v84 : BitVec 32 := Scalar.subi v81 v83
  let c4_i32 : BitVec 32 := 4#32
  let c0_i32_24 : BitVec 32 := 0#32
  let v85 : BitVec 1 := Scalar.cmpi .sgt c4_i32 c0_i32_24
  let v86 : BitVec 32 := Scalar.extui v85
  let c0_i32_25 : BitVec 32 := 0#32
  let v87 : BitVec 1 := Scalar.cmpi .slt c4_i32 c0_i32_25
  let v88 : BitVec 32 := Scalar.extui v87
  let v89 : BitVec 32 := Scalar.subi v86 v88
  let v90 : BitVec 1 := Scalar.cmpi .ne v84 v89
  let v91 : BitVec 32 := Scalar.remsi arg1 c4_i32
  let c0_i32_26 : BitVec 32 := 0#32
  let v92 : BitVec 1 := Scalar.cmpi .ne v91 c0_i32_26
  let v93 : BitVec 1 := Scalar.andi v90 v92
  let v79 : BitVec 32 := Scalar.divsi arg1 c4_i32
  let c1_i32_27 : BitVec 32 := 1#32
  let v94 : BitVec 32 := Scalar.subi v79 c1_i32_27
  let v95 : BitVec 32 := Scalar.select v93 v94 v79
  let c4_i32_28 : BitVec 32 := 4#32
  let v96 : BitVec 32 := Scalar.muli v95 c4_i32_28
  let c2_i32_43 : BitVec 32 := 2#32
  let v97 : BitVec 32 := Scalar.subi arg1 v96
  let c0_i32_29 : BitVec 32 := 0#32
  let v99 : BitVec 1 := Scalar.cmpi .sgt v97 c0_i32_29
  let v100 : BitVec 32 := Scalar.extui v99
  let c0_i32_30 : BitVec 32 := 0#32
  let v101 : BitVec 1 := Scalar.cmpi .slt v97 c0_i32_30
  let v102 : BitVec 32 := Scalar.extui v101
  let v103 : BitVec 32 := Scalar.subi v100 v102
  let c2_i32 : BitVec 32 := 2#32
  let c0_i32_31 : BitVec 32 := 0#32
  let v104 : BitVec 1 := Scalar.cmpi .sgt c2_i32 c0_i32_31
  let v105 : BitVec 32 := Scalar.extui v104
  let c0_i32_32 : BitVec 32 := 0#32
  let v106 : BitVec 1 := Scalar.cmpi .slt c2_i32 c0_i32_32
  let v107 : BitVec 32 := Scalar.extui v106
  let v108 : BitVec 32 := Scalar.subi v105 v107
  let v109 : BitVec 1 := Scalar.cmpi .ne v103 v108
  let v110 : BitVec 32 := Scalar.remsi v97 c2_i32
  let c0_i32_33 : BitVec 32 := 0#32
  let v111 : BitVec 1 := Scalar.cmpi .ne v110 c0_i32_33
  let v112 : BitVec 1 := Scalar.andi v109 v111
  let v98 : BitVec 32 := Scalar.divsi v97 c2_i32
  let c1_i32_34 : BitVec 32 := 1#32
  let v113 : BitVec 32 := Scalar.subi v98 c1_i32_34
  let v114 : BitVec 32 := Scalar.select v112 v113 v98
  let v129 : BitVec 32 := Scalar.muli c2_i32_43 v114
  let v130 : BitVec 32 := Scalar.addi v96 v129
  let v131 : BitVec 32 := Scalar.subi arg1 v130
  let c1_i32_44 : BitVec 32 := 1#32
  let v133 : BitVec 32 := Scalar.divsi v131 c1_i32_44
  let v134 : BitVec 32 := Scalar.muli v133 c1_i32_44
  let v135 : BitVec 32 := Scalar.addi v130 v134
  let c1_i32_46 : BitVec 32 := 1#32
  let arg9 : BitVec 32 := Scf.iv v135 c1_i32_46 k0_t6
  let c512_i32_79 : BitVec 32 := 512#32
  let v227 : BitVec 32 := Scalar.muli arg9 c512_i32_79
  v227
def k0_off17 (i : grid0.Coords) (k0_t6 : Fin (k0_t6_loop i).trips) : Fin 2 → Nat :=
  let arg1 : BitVec 32 := BitVec.ofNat 32 (i 1).val
  let c0_i32_22 : BitVec 32 := 0#32
  let v80 : BitVec 1 := Scalar.cmpi .sgt arg1 c0_i32_22
  let v81 : BitVec 32 := Scalar.extui v80
  let c0_i32_23 : BitVec 32 := 0#32
  let v82 : BitVec 1 := Scalar.cmpi .slt arg1 c0_i32_23
  let v83 : BitVec 32 := Scalar.extui v82
  let v84 : BitVec 32 := Scalar.subi v81 v83
  let c4_i32 : BitVec 32 := 4#32
  let c0_i32_24 : BitVec 32 := 0#32
  let v85 : BitVec 1 := Scalar.cmpi .sgt c4_i32 c0_i32_24
  let v86 : BitVec 32 := Scalar.extui v85
  let c0_i32_25 : BitVec 32 := 0#32
  let v87 : BitVec 1 := Scalar.cmpi .slt c4_i32 c0_i32_25
  let v88 : BitVec 32 := Scalar.extui v87
  let v89 : BitVec 32 := Scalar.subi v86 v88
  let v90 : BitVec 1 := Scalar.cmpi .ne v84 v89
  let v91 : BitVec 32 := Scalar.remsi arg1 c4_i32
  let c0_i32_26 : BitVec 32 := 0#32
  let v92 : BitVec 1 := Scalar.cmpi .ne v91 c0_i32_26
  let v93 : BitVec 1 := Scalar.andi v90 v92
  let v79 : BitVec 32 := Scalar.divsi arg1 c4_i32
  let c1_i32_27 : BitVec 32 := 1#32
  let v94 : BitVec 32 := Scalar.subi v79 c1_i32_27
  let v95 : BitVec 32 := Scalar.select v93 v94 v79
  let c4_i32_28 : BitVec 32 := 4#32
  let v96 : BitVec 32 := Scalar.muli v95 c4_i32_28
  let c2_i32_43 : BitVec 32 := 2#32
  let v97 : BitVec 32 := Scalar.subi arg1 v96
  let c0_i32_29 : BitVec 32 := 0#32
  let v99 : BitVec 1 := Scalar.cmpi .sgt v97 c0_i32_29
  let v100 : BitVec 32 := Scalar.extui v99
  let c0_i32_30 : BitVec 32 := 0#32
  let v101 : BitVec 1 := Scalar.cmpi .slt v97 c0_i32_30
  let v102 : BitVec 32 := Scalar.extui v101
  let v103 : BitVec 32 := Scalar.subi v100 v102
  let c2_i32 : BitVec 32 := 2#32
  let c0_i32_31 : BitVec 32 := 0#32
  let v104 : BitVec 1 := Scalar.cmpi .sgt c2_i32 c0_i32_31
  let v105 : BitVec 32 := Scalar.extui v104
  let c0_i32_32 : BitVec 32 := 0#32
  let v106 : BitVec 1 := Scalar.cmpi .slt c2_i32 c0_i32_32
  let v107 : BitVec 32 := Scalar.extui v106
  let v108 : BitVec 32 := Scalar.subi v105 v107
  let v109 : BitVec 1 := Scalar.cmpi .ne v103 v108
  let v110 : BitVec 32 := Scalar.remsi v97 c2_i32
  let c0_i32_33 : BitVec 32 := 0#32
  let v111 : BitVec 1 := Scalar.cmpi .ne v110 c0_i32_33
  let v112 : BitVec 1 := Scalar.andi v109 v111
  let v98 : BitVec 32 := Scalar.divsi v97 c2_i32
  let c1_i32_34 : BitVec 32 := 1#32
  let v113 : BitVec 32 := Scalar.subi v98 c1_i32_34
  let v114 : BitVec 32 := Scalar.select v112 v113 v98
  let v129 : BitVec 32 := Scalar.muli c2_i32_43 v114
  let v130 : BitVec 32 := Scalar.addi v96 v129
  let v131 : BitVec 32 := Scalar.subi arg1 v130
  let c1_i32_44 : BitVec 32 := 1#32
  let v133 : BitVec 32 := Scalar.divsi v131 c1_i32_44
  let v134 : BitVec 32 := Scalar.muli v133 c1_i32_44
  let v135 : BitVec 32 := Scalar.addi v130 v134
  let c1_i32_46 : BitVec 32 := 1#32
  let arg9 : BitVec 32 := Scf.iv v135 c1_i32_46 k0_t6
  let c512_i32_79 : BitVec 32 := 512#32
  let v227 : BitVec 32 := Scalar.muli arg9 c512_i32_79
  let v228 : BitVec 32 := v227
  let v229 : Index := Scalar.indexCast v228
  let c0_80 : Index := 0#32
  ![v229.toNat, 0]
def k0_off18 (i : grid0.Coords) (k0_t6 : Fin (k0_t6_loop i).trips) : Fin 3 → Nat :=
  let c0_82 : Index := 0#32
  let c0_83 : Index := 0#32
  let arg1 : BitVec 32 := BitVec.ofNat 32 (i 1).val
  let c0_i32_22 : BitVec 32 := 0#32
  let v80 : BitVec 1 := Scalar.cmpi .sgt arg1 c0_i32_22
  let v81 : BitVec 32 := Scalar.extui v80
  let c0_i32_23 : BitVec 32 := 0#32
  let v82 : BitVec 1 := Scalar.cmpi .slt arg1 c0_i32_23
  let v83 : BitVec 32 := Scalar.extui v82
  let v84 : BitVec 32 := Scalar.subi v81 v83
  let c4_i32 : BitVec 32 := 4#32
  let c0_i32_24 : BitVec 32 := 0#32
  let v85 : BitVec 1 := Scalar.cmpi .sgt c4_i32 c0_i32_24
  let v86 : BitVec 32 := Scalar.extui v85
  let c0_i32_25 : BitVec 32 := 0#32
  let v87 : BitVec 1 := Scalar.cmpi .slt c4_i32 c0_i32_25
  let v88 : BitVec 32 := Scalar.extui v87
  let v89 : BitVec 32 := Scalar.subi v86 v88
  let v90 : BitVec 1 := Scalar.cmpi .ne v84 v89
  let v91 : BitVec 32 := Scalar.remsi arg1 c4_i32
  let c0_i32_26 : BitVec 32 := 0#32
  let v92 : BitVec 1 := Scalar.cmpi .ne v91 c0_i32_26
  let v93 : BitVec 1 := Scalar.andi v90 v92
  let v79 : BitVec 32 := Scalar.divsi arg1 c4_i32
  let c1_i32_27 : BitVec 32 := 1#32
  let v94 : BitVec 32 := Scalar.subi v79 c1_i32_27
  let v95 : BitVec 32 := Scalar.select v93 v94 v79
  let c4_i32_28 : BitVec 32 := 4#32
  let v96 : BitVec 32 := Scalar.muli v95 c4_i32_28
  let c2_i32_43 : BitVec 32 := 2#32
  let v97 : BitVec 32 := Scalar.subi arg1 v96
  let c0_i32_29 : BitVec 32 := 0#32
  let v99 : BitVec 1 := Scalar.cmpi .sgt v97 c0_i32_29
  let v100 : BitVec 32 := Scalar.extui v99
  let c0_i32_30 : BitVec 32 := 0#32
  let v101 : BitVec 1 := Scalar.cmpi .slt v97 c0_i32_30
  let v102 : BitVec 32 := Scalar.extui v101
  let v103 : BitVec 32 := Scalar.subi v100 v102
  let c2_i32 : BitVec 32 := 2#32
  let c0_i32_31 : BitVec 32 := 0#32
  let v104 : BitVec 1 := Scalar.cmpi .sgt c2_i32 c0_i32_31
  let v105 : BitVec 32 := Scalar.extui v104
  let c0_i32_32 : BitVec 32 := 0#32
  let v106 : BitVec 1 := Scalar.cmpi .slt c2_i32 c0_i32_32
  let v107 : BitVec 32 := Scalar.extui v106
  let v108 : BitVec 32 := Scalar.subi v105 v107
  let v109 : BitVec 1 := Scalar.cmpi .ne v103 v108
  let v110 : BitVec 32 := Scalar.remsi v97 c2_i32
  let c0_i32_33 : BitVec 32 := 0#32
  let v111 : BitVec 1 := Scalar.cmpi .ne v110 c0_i32_33
  let v112 : BitVec 1 := Scalar.andi v109 v111
  let v98 : BitVec 32 := Scalar.divsi v97 c2_i32
  let c1_i32_34 : BitVec 32 := 1#32
  let v113 : BitVec 32 := Scalar.subi v98 c1_i32_34
  let v114 : BitVec 32 := Scalar.select v112 v113 v98
  let v129 : BitVec 32 := Scalar.muli c2_i32_43 v114
  let v130 : BitVec 32 := Scalar.addi v96 v129
  let v131 : BitVec 32 := Scalar.subi arg1 v130
  let c1_i32_44 : BitVec 32 := 1#32
  let v133 : BitVec 32 := Scalar.divsi v131 c1_i32_44
  let v134 : BitVec 32 := Scalar.muli v133 c1_i32_44
  let v135 : BitVec 32 := Scalar.addi v130 v134
  let c1_i32_46 : BitVec 32 := 1#32
  let arg9 : BitVec 32 := Scf.iv v135 c1_i32_46 k0_t6
  let c512_i32_79 : BitVec 32 := 512#32
  let v227 : BitVec 32 := Scalar.muli arg9 c512_i32_79
  let v228 : BitVec 32 := v227
  let v236 : Index := Scalar.indexCast v228
  ![0, 0, v236.toNat]
def k0_off19 (i : grid0.Coords) (k0_t6 : Fin (k0_t6_loop i).trips) : Fin 3 → Nat :=
  let c0_89 : Index := 0#32
  let c1_90 : Index := 1#32
  let arg1 : BitVec 32 := BitVec.ofNat 32 (i 1).val
  let c0_i32_22 : BitVec 32 := 0#32
  let v80 : BitVec 1 := Scalar.cmpi .sgt arg1 c0_i32_22
  let v81 : BitVec 32 := Scalar.extui v80
  let c0_i32_23 : BitVec 32 := 0#32
  let v82 : BitVec 1 := Scalar.cmpi .slt arg1 c0_i32_23
  let v83 : BitVec 32 := Scalar.extui v82
  let v84 : BitVec 32 := Scalar.subi v81 v83
  let c4_i32 : BitVec 32 := 4#32
  let c0_i32_24 : BitVec 32 := 0#32
  let v85 : BitVec 1 := Scalar.cmpi .sgt c4_i32 c0_i32_24
  let v86 : BitVec 32 := Scalar.extui v85
  let c0_i32_25 : BitVec 32 := 0#32
  let v87 : BitVec 1 := Scalar.cmpi .slt c4_i32 c0_i32_25
  let v88 : BitVec 32 := Scalar.extui v87
  let v89 : BitVec 32 := Scalar.subi v86 v88
  let v90 : BitVec 1 := Scalar.cmpi .ne v84 v89
  let v91 : BitVec 32 := Scalar.remsi arg1 c4_i32
  let c0_i32_26 : BitVec 32 := 0#32
  let v92 : BitVec 1 := Scalar.cmpi .ne v91 c0_i32_26
  let v93 : BitVec 1 := Scalar.andi v90 v92
  let v79 : BitVec 32 := Scalar.divsi arg1 c4_i32
  let c1_i32_27 : BitVec 32 := 1#32
  let v94 : BitVec 32 := Scalar.subi v79 c1_i32_27
  let v95 : BitVec 32 := Scalar.select v93 v94 v79
  let c4_i32_28 : BitVec 32 := 4#32
  let v96 : BitVec 32 := Scalar.muli v95 c4_i32_28
  let c2_i32_43 : BitVec 32 := 2#32
  let v97 : BitVec 32 := Scalar.subi arg1 v96
  let c0_i32_29 : BitVec 32 := 0#32
  let v99 : BitVec 1 := Scalar.cmpi .sgt v97 c0_i32_29
  let v100 : BitVec 32 := Scalar.extui v99
  let c0_i32_30 : BitVec 32 := 0#32
  let v101 : BitVec 1 := Scalar.cmpi .slt v97 c0_i32_30
  let v102 : BitVec 32 := Scalar.extui v101
  let v103 : BitVec 32 := Scalar.subi v100 v102
  let c2_i32 : BitVec 32 := 2#32
  let c0_i32_31 : BitVec 32 := 0#32
  let v104 : BitVec 1 := Scalar.cmpi .sgt c2_i32 c0_i32_31
  let v105 : BitVec 32 := Scalar.extui v104
  let c0_i32_32 : BitVec 32 := 0#32
  let v106 : BitVec 1 := Scalar.cmpi .slt c2_i32 c0_i32_32
  let v107 : BitVec 32 := Scalar.extui v106
  let v108 : BitVec 32 := Scalar.subi v105 v107
  let v109 : BitVec 1 := Scalar.cmpi .ne v103 v108
  let v110 : BitVec 32 := Scalar.remsi v97 c2_i32
  let c0_i32_33 : BitVec 32 := 0#32
  let v111 : BitVec 1 := Scalar.cmpi .ne v110 c0_i32_33
  let v112 : BitVec 1 := Scalar.andi v109 v111
  let v98 : BitVec 32 := Scalar.divsi v97 c2_i32
  let c1_i32_34 : BitVec 32 := 1#32
  let v113 : BitVec 32 := Scalar.subi v98 c1_i32_34
  let v114 : BitVec 32 := Scalar.select v112 v113 v98
  let v129 : BitVec 32 := Scalar.muli c2_i32_43 v114
  let v130 : BitVec 32 := Scalar.addi v96 v129
  let v131 : BitVec 32 := Scalar.subi arg1 v130
  let c1_i32_44 : BitVec 32 := 1#32
  let v133 : BitVec 32 := Scalar.divsi v131 c1_i32_44
  let v134 : BitVec 32 := Scalar.muli v133 c1_i32_44
  let v135 : BitVec 32 := Scalar.addi v130 v134
  let c1_i32_46 : BitVec 32 := 1#32
  let arg9 : BitVec 32 := Scf.iv v135 c1_i32_46 k0_t6
  let c512_i32_79 : BitVec 32 := 512#32
  let v227 : BitVec 32 := Scalar.muli arg9 c512_i32_79
  let v228 : BitVec 32 := v227
  let v261 : Index := Scalar.indexCast v228
  ![0, 1, v261.toNat]
def k0_mult8 (i : grid0.Coords) : BitVec 32 :=
  let arg1 : BitVec 32 := BitVec.ofNat 32 (i 1).val
  let c512_i32_47 : BitVec 32 := 512#32
  let v138 : BitVec 32 := Scalar.muli arg1 c512_i32_47
  v138
def k0_off20 (i : grid0.Coords) : Fin 2 → Nat :=
  let arg1 : BitVec 32 := BitVec.ofNat 32 (i 1).val
  let c512_i32_47 : BitVec 32 := 512#32
  let v138 : BitVec 32 := Scalar.muli arg1 c512_i32_47
  let v139 : BitVec 32 := v138
  let v140 : Index := Scalar.indexCast v139
  let c0_48 : Index := 0#32
  ![v140.toNat, 0]
def k0_off21 (i : grid0.Coords) : Fin 3 → Nat :=
  let c0_50 : Index := 0#32
  let c0_51 : Index := 0#32
  let arg1 : BitVec 32 := BitVec.ofNat 32 (i 1).val
  let c512_i32_47 : BitVec 32 := 512#32
  let v138 : BitVec 32 := Scalar.muli arg1 c512_i32_47
  let v139 : BitVec 32 := v138
  let v147 : Index := Scalar.indexCast v139
  ![0, 0, v147.toNat]
def k0_off22 (i : grid0.Coords) : Fin 3 → Nat :=
  let c0_58 : Index := 0#32
  let c1 : Index := 1#32
  let arg1 : BitVec 32 := BitVec.ofNat 32 (i 1).val
  let c512_i32_47 : BitVec 32 := 512#32
  let v138 : BitVec 32 := Scalar.muli arg1 c512_i32_47
  let v139 : BitVec 32 := v138
  let v174 : Index := Scalar.indexCast v139
  ![0, 1, v174.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnFwdIdeal.lean ====
variable {F : FTy → Type} [FloatOps F] [Named F]
def κ : String → Option EReal := fun
  | "mask" => some ⊥
  | _ => none
-- ==== AttnFwdRefIdeal.lean ====
abbrev S8192x9232 : Shape := ⟨2, ![8192, 9232]⟩
abbrev S16x8192 : Shape := ⟨2, ![16, 8192]⟩
abbrev S8192x1024 : Shape := ⟨2, ![8192, 1024]⟩
abbrev S8192x16x64 : Shape := ⟨3, ![8192, 16, 64]⟩
abbrev S16x8192x64 : Shape := ⟨3, ![16, 8192, 64]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x16x512 : Shape := ⟨3, ![16, 16, 512]⟩
abbrev S16x16x1 : Shape := ⟨3, ![16, 16, 1]⟩

abbrev nBuf : Space → Nat
  | .hbm => 68
  | .vmem => 0
  | .smem => 0
  | _ => 0

abbrev bufTy : (tb : Table) → Fin (tcTables nBuf tb) → BufTy
  | .hbm, ⟨0, _⟩ => ⟨S8192x9232, .f32⟩
  | .hbm, ⟨1, _⟩ => ⟨S16x8192, .f32⟩
  | .hbm, ⟨2, _⟩ => ⟨S8192x1024, .f32⟩
  | .hbm, ⟨3, _⟩ => ⟨S8192x16x64, .f32⟩
  | .hbm, ⟨4, _⟩ => ⟨S16x8192x64, .f32⟩
  | .hbm, ⟨5, _⟩ => ⟨S8192x1024, .f32⟩
  | .hbm, ⟨6, _⟩ => ⟨S8192x16x64, .f32⟩
  | .hbm, ⟨7, _⟩ => ⟨S16x8192x64, .f32⟩
  | .hbm, ⟨8, _⟩ => ⟨S8192x1024, .f32⟩
  | .hbm, ⟨9, _⟩ => ⟨S8192x16x64, .f32⟩
  | .hbm, ⟨10, _⟩ => ⟨S16x8192x64, .f32⟩
  | .hbm, ⟨11, _⟩ => ⟨S16x8192x8192, .f32⟩
  | .hbm, ⟨12, _⟩ => ⟨S_, .f32⟩
  | .hbm, ⟨13, _⟩ => ⟨S16x8192x8192, .f32⟩
  | .hbm, ⟨14, _⟩ => ⟨S16x8192x8192, .f32⟩
  | .hbm, ⟨15, _⟩ => ⟨S16x8192x1, .f32⟩
  | .hbm, ⟨16, _⟩ => ⟨S16x1x8192, .f32⟩
  | .hbm, ⟨17, _⟩ => ⟨S16x8192x8192, .f32⟩
  | .hbm, ⟨18, _⟩ => ⟨S16x8192x8192, .f32⟩
  | .hbm, ⟨19, _⟩ => ⟨S16x8192x8192, .f32⟩
  | .hbm, ⟨20, _⟩ => ⟨S16x8192x8192, .f32⟩
  | .hbm, ⟨21, _⟩ => ⟨S8192, .i32⟩
  | .hbm, ⟨22, _⟩ => ⟨S1x8192, .i32⟩
  | .hbm, ⟨23, _⟩ => ⟨S8192x1, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S_, .f32⟩
  | .hbm, ⟨28, _⟩ => ⟨S_, .f32⟩
  | .hbm, ⟨29, _⟩ => ⟨S16x8192x8192, .i1⟩
  | .hbm, ⟨30, _⟩ => ⟨S16x8192x8192, .f32⟩
  | .hbm, ⟨31, _⟩ => ⟨S16x8192x8192, .f32⟩
  | .hbm, ⟨32, _⟩ => ⟨S_, .f32⟩
  | .hbm, ⟨33, _⟩ => ⟨S16x8192, .f32⟩
  | .hbm, ⟨34, _⟩ => ⟨S16x8192x1, .f32⟩
  | .hbm, ⟨35, _⟩ => ⟨S16x8192x8192, .f32⟩
  | .hbm, ⟨36, _⟩ => ⟨S16x8192x8192, .f32⟩
  | .hbm, ⟨37, _⟩ => ⟨S16x8192x8192, .f32⟩
  | .hbm, ⟨38, _⟩ => ⟨S_, .f32⟩
  | .hbm, ⟨39, _⟩ => ⟨S16x8192, .f32⟩
  | .hbm, ⟨40, _⟩ => ⟨S16x8192x1, .f32⟩
  | .hbm, ⟨41, _⟩ => ⟨S16x8192x1, .f32⟩
  | .hbm, ⟨42, _⟩ => ⟨S16x8192x1, .f32⟩
  | .hbm, ⟨43, _⟩ => ⟨S16x16x512, .f32⟩
  | .hbm, ⟨44, _⟩ => ⟨S16x16x1, .f32⟩
  | .hbm, ⟨45, _⟩ => ⟨S16x16x512, .f32⟩
  | .hbm, ⟨46, _⟩ => ⟨S16x8192, .f32⟩
  | .hbm, ⟨47, _⟩ => ⟨S_, .f32⟩
  | .hbm, ⟨48, _⟩ => ⟨S16x8192, .f32⟩
  | .hbm, ⟨49, _⟩ => ⟨S_, .f32⟩
  | .hbm, ⟨50, _⟩ => ⟨S16x8192, .f32⟩
  | .hbm, ⟨51, _⟩ => ⟨S16x8192, .f32⟩
  | .hbm, ⟨52, _⟩ => ⟨S16x8192x1, .f32⟩
  | .hbm, ⟨53, _⟩ => ⟨S16x8192x8192, .f32⟩
  | .hbm, ⟨54, _⟩ => ⟨S16x8192x8192, .f32⟩
  | .hbm, ⟨55, _⟩ => ⟨S16x8192x8192, .f32⟩
  | .hbm, ⟨56, _⟩ => ⟨S_, .f32⟩
  | .hbm, ⟨57, _⟩ => ⟨S16x8192, .f32⟩
  | .hbm, ⟨58, _⟩ => ⟨S16x8192x1, .f32⟩
  | .hbm, ⟨59, _⟩ => ⟨S16x8192x8192, .f32⟩
  | .hbm, ⟨60, _⟩ => ⟨S16x8192x8192, .f32⟩
  | .hbm, ⟨61, _⟩ => ⟨S16x8192x64, .f32⟩
  | .hbm, ⟨62, _⟩ => ⟨S8192x16x64, .f32⟩
  | .hbm, ⟨63, _⟩ => ⟨S8192x1024, .f32⟩
  | .hbm, ⟨64, _⟩ => ⟨S8192x1024, .bf16⟩
  | .hbm, ⟨65, _⟩ => ⟨S16x8192, .f32⟩
  | .hbm, ⟨66, _⟩ => ⟨S16x8192x1, .f32⟩
  | .hbm, ⟨67, _⟩ => ⟨S16x8192x1, .f32⟩
  | _, _ => ⟨S8192x9232, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_5 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩

abbrev nD : Nat := 1
abbrev τ : Topo := Topo.v7x

variable {F : FTy → Type} [FloatOps F]
-- ==== Proj.lean ====
abbrev S8192x1024 : Shape := ⟨2, ![8192, 1024]⟩
abbrev S1024x9232 : Shape := ⟨2, ![1024, 9232]⟩
abbrev S1024x3072 : Shape := ⟨2, ![1024, 3072]⟩
abbrev S1024x6144 : Shape := ⟨2, ![1024, 6144]⟩
abbrev S1024x9216 : Shape := ⟨2, ![1024, 9216]⟩
abbrev S9216x1024 : Shape := ⟨2, ![9216, 1024]⟩
abbrev S8192x9216 : Shape := ⟨2, ![8192, 9216]⟩
abbrev S2048x1024 : Shape := ⟨2, ![2048, 1024]⟩
abbrev S1024x1024 : Shape := ⟨2, ![1024, 1024]⟩

abbrev nBuf : Space → Nat
  | .hbm => 9
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x9232, .f32⟩
  | .hbm, ⟨2, _⟩ => ⟨S8192x1024, .bf16⟩
  | .hbm, ⟨3, _⟩ => ⟨S1024x3072, .f32⟩
  | .hbm, ⟨4, _⟩ => ⟨S1024x6144, .f32⟩
  | .hbm, ⟨5, _⟩ => ⟨S1024x9216, .f32⟩
  | .hbm, ⟨6, _⟩ => ⟨S1024x9216, .bf16⟩
  | .hbm, ⟨7, _⟩ => ⟨S9216x1024, .bf16⟩
  | .hbm, ⟨8, _⟩ => ⟨S8192x9216, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S8192x1024 : Shape := ⟨2, ![8192, 1024]⟩
abbrev S1024x9232 : Shape := ⟨2, ![1024, 9232]⟩
abbrev S8192x9232 : Shape := ⟨2, ![8192, 9232]⟩
abbrev S8192x3072 : Shape := ⟨2, ![8192, 3072]⟩
abbrev S8192x6144 : Shape := ⟨2, ![8192, 6144]⟩
abbrev S8192x9216 : Shape := ⟨2, ![8192, 9216]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x9232, .f32⟩
  | .hbm, ⟨2, _⟩ => ⟨S8192x9232, .f32⟩
  | .hbm, ⟨3, _⟩ => ⟨S8192x3072, .f32⟩
  | .hbm, ⟨4, _⟩ => ⟨S8192x6144, .f32⟩
  | .hbm, ⟨5, _⟩ => ⟨S8192x9216, .f32⟩
  | .hbm, ⟨6, _⟩ => ⟨S8192x9216, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Adamw.lean ====
abbrev S1024x256 : Shape := ⟨2, ![1024, 256]⟩
abbrev S8x1024x256 : Shape := ⟨3, ![8, 1024, 256]⟩
abbrev S512x256 : Shape := ⟨2, ![512, 256]⟩
abbrev S8x512x256 : Shape := ⟨3, ![8, 512, 256]⟩
abbrev S1x512x256 : Shape := ⟨3, ![1, 512, 256]⟩

abbrev nBuf : Space → Nat
  | .hbm => 8
  | .vmem => 16
  | .smem => 0
  | _ => 0

abbrev bufTy : (tb : Table) → Fin (tcTables nBuf tb) → BufTy
  | .hbm, ⟨0, _⟩ => ⟨S1024x256, .f32⟩
  | .hbm, ⟨1, _⟩ => ⟨S8x1024x256, .bf16⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S512x256, .f32⟩
  | .local _ .vmem, ⟨1, _⟩ => ⟨S512x256, .f32⟩
  | .local _ .vmem, ⟨2, _⟩ => ⟨S8x512x256, .bf16⟩
  | .local _ .vmem, ⟨3, _⟩ => ⟨S8x512x256, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamwRefIdeal.lean ====
abbrev S1024x256 : Shape := ⟨2, ![1024, 256]⟩
abbrev S8x1024x256 : Shape := ⟨3, ![8, 1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S8x1024x256, .bf16⟩
  | .hbm, ⟨2, _⟩ => ⟨S1024x256, .f32⟩
  | .hbm, ⟨3, _⟩ => ⟨S1024x256, .f32⟩
  | .hbm, ⟨4, _⟩ => ⟨S8x1024x256, .f32⟩
  | .hbm, ⟨5, _⟩ => ⟨S_, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Pieces.lean ====
abbrev S8192x1024 : Shape := ⟨2, ![8192, 1024]⟩
abbrev S8192x2048 : Shape := ⟨2, ![8192, 2048]⟩
abbrev S8192x3072 : Shape := ⟨2, ![8192, 3072]⟩
abbrev S1024x9232 : Shape := ⟨2, ![1024, 9232]⟩
abbrev S1024x3072 : Shape := ⟨2, ![1024, 3072]⟩
abbrev S1024x6144 : Shape := ⟨2, ![1024, 6144]⟩
abbrev S1024x9216 : Shape := ⟨2, ![1024, 9216]⟩
abbrev S9216x1024 : Shape := ⟨2, ![9216, 1024]⟩
abbrev S1024x1024 : Shape := ⟨2, ![1024, 1024]⟩

abbrev nBuf : Space → Nat
  | .hbm => 19
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x2048, .f32⟩
  | .hbm, ⟨4, _⟩ => ⟨S8192x1024, .f32⟩
  | .hbm, ⟨5, _⟩ => ⟨S8192x3072, .f32⟩
  | .hbm, ⟨6, _⟩ => ⟨S1024x9232, .f32⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x2048, .bf16⟩
  | .hbm, ⟨11, _⟩ => ⟨S8192x1024, .bf16⟩
  | .hbm, ⟨12, _⟩ => ⟨S8192x3072, .bf16⟩
  | .hbm, ⟨13, _⟩ => ⟨S1024x3072, .f32⟩
  | .hbm, ⟨14, _⟩ => ⟨S1024x6144, .f32⟩
  | .hbm, ⟨15, _⟩ => ⟨S1024x9216, .f32⟩
  | .hbm, ⟨16, _⟩ => ⟨S1024x9216, .bf16⟩
  | .hbm, ⟨17, _⟩ => ⟨S9216x1024, .bf16⟩
  | .hbm, ⟨18, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 9], ![false, false]⟩

def k0_cond19 (i : grid0.Coords) : BitVec 1 :=
  let arg1 : BitVec 32 := BitVec.ofNat 32 (i 1).val
  let c8_i32 : BitVec 32 := 8#32
  let v30 : BitVec 1 := Scalar.cmpi .eq arg1 c8_i32
  let v31 : BitVec 32 := Scalar.extui v30
  let c0_i32_11 : BitVec 32 := 0#32
  let v32 : BitVec 1 := Scalar.cmpi .ne v31 c0_i32_11
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== PiecesRefIdeal.lean ====
abbrev S8192x1024 : Shape := ⟨2, ![8192, 1024]⟩
abbrev S8192x2048 : Shape := ⟨2, ![8192, 2048]⟩
abbrev S8192x3072 : Shape := ⟨2, ![8192, 3072]⟩
abbrev S1024x9232 : Shape := ⟨2, ![1024, 9232]⟩
abbrev S1024x3072 : Shape := ⟨2, ![1024, 3072]⟩
abbrev S1024x6144 : Shape := ⟨2, ![1024, 6144]⟩
abbrev S1024x9216 : Shape := ⟨2, ![1024, 9216]⟩
abbrev S8192x9216 : Shape := ⟨2, ![8192, 9216]⟩
abbrev S9216x1024 : Shape := ⟨2, ![9216, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x2048, .f32⟩
  | .hbm, ⟨4, _⟩ => ⟨S8192x1024, .f32⟩
  | .hbm, ⟨5, _⟩ => ⟨S8192x3072, .f32⟩
  | .hbm, ⟨6, _⟩ => ⟨S1024x9232, .f32⟩
  | .hbm, ⟨7, _⟩ => ⟨S1024x3072, .f32⟩
  | .hbm, ⟨8, _⟩ => ⟨S1024x6144, .f32⟩
  | .hbm, ⟨9, _⟩ => ⟨S1024x9216, .f32⟩
  | .hbm, ⟨10, _⟩ => ⟨S8192x9216, .f32⟩
  | .hbm, ⟨11, _⟩ => ⟨S9216x1024, .f32⟩
  | .hbm, ⟨12, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]
-- ==== Proof.AttnOffs.lean ====
module

public import proofs.«01_k».proof.Proof.Gen.AttnIdeal.Points
public import proofs.«01_k».proof.Proof.Gen.AttnIdeal.Loops

/-!
  The attention gradient's counted loops at query block `i`: how many trips each takes, and where each trip's block of
  keys begins.
-/

@[expose] public section

namespace Cert.AttnIdeal.Hand

open Idealize.ShloMosaic

theorem trips1 : ∀ i : grid0.Coords, (k0_t1_loop i).trips = (i 1).val / 2 := by decide +kernel
theorem trips2 : ∀ i : grid0.Coords, (k0_t2_loop i).trips = 0 := by decide +kernel
theorem trips3 : ∀ i : grid0.Coords, (k0_t3_loop i).trips = (i 1).val % 2 := by decide +kernel
theorem trips4 : ∀ i : grid0.Coords, (k0_t4_loop i).trips = 0 := by decide +kernel

theorem off1_eq : ∀ i, k0_off1 i = ![0, 0, 512 * (i 1).val] := by decide +kernel
theorem off2_eq : ∀ i k, k0_off2 i k = ![1024 * k.val, 0] := by decide +kernel
theorem off3_eq : ∀ i k, k0_off3 i k = ![0, 0, 1024 * k.val] := by decide +kernel
theorem off4_eq : ∀ i k, k0_off4 i k = ![0, 1, 1024 * k.val] := by decide +kernel
theorem off8_eq : ∀ i k, k0_off8 i k = ![1024 * ((i 1).val / 2) + 512 * k.val, 0] := by decide +kernel
theorem off9_eq : ∀ i k, k0_off9 i k = ![0, 0, 1024 * ((i 1).val / 2) + 512 * k.val] := by decide +kernel
theorem off10_eq : ∀ i k, k0_off10 i k = ![0, 1, 1024 * ((i 1).val / 2) + 512 * k.val] := by decide +kernel
theorem off14_eq : ∀ i, k0_off14 i = ![512 * (i 1).val, 0] := by decide +kernel
theorem off15_eq : ∀ i, k0_off15 i = ![0, 0, 512 * (i 1).val] := by decide +kernel
theorem off16_eq : ∀ i, k0_off16 i = ![0, 1, 512 * (i 1).val] := by decide +kernel

instance (i k : _) : ClosedOff (k0_off2 i k) := ⟨_, off2_eq i k⟩
instance (i k : _) : ClosedOff (k0_off3 i k) := ⟨_, off3_eq i k⟩
instance (i k : _) : ClosedOff (k0_off4 i k) := ⟨_, off4_eq i k⟩
instance (i k : _) : ClosedOff (k0_off8 i k) := ⟨_, off8_eq i k⟩
instance (i k : _) : ClosedOff (k0_off9 i k) := ⟨_, off9_eq i k⟩
instance (i k : _) : ClosedOff (k0_off10 i k) := ⟨_, off10_eq i k⟩

end Cert.AttnIdeal.Hand

end
-- ==== Proof.AttnLoops.lean ====
module

public import proofs.«01_k».proof.Proof.AttnOffs
public import Idealize.ShloMosaic.Lib.Tactic

/-!
  The attention gradient's counted loops, each gone through by an invariant.

  A trip reads a block of keys, a block of values and the gates' row, and adds to three buffers: the row of gate
  derivatives, the value derivatives and the key derivatives. The invariant says that before trip `k` the carried value
  and the three buffers are what the trips before it leave, from whatever they held at the loop's start. The two loops
  of leftover trips take none.
-/

@[expose] public section

set_option maxRecDepth 8192
set_option maxHeartbeats 4000000

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal.Gen

variable {F : FTy → Type} [FloatOps F] [Named F]

local notation "𝕄" => MT nD τ sig Unit (Elt F) ℕ (UR sig nD τ) ℕ

/-- What a loop carries: the queries' derivative so far and its two heads' row sums. -/
abbrev Carried (F : FTy → Type) : Type := FVec F S512x128 .f32 × FVec F S512x1 .f32 × FVec F S512x1 .f32

/-- What a whole staging buffer holds. -/
abbrev Held (F : FTy → Type) {s : Shape} {e : EltTy} (M : Memref sig .tc .vmem s e) : Type := BufTy.Contents (Elt F) M.view.ty

variable (𝒱 : Variants) (c : Dev nD) (bd : Option 𝒱.V) (i : grid0.Coords)
  (a2 : Memref sig .tc .vmem S512x128 .bf16) (w2 : a2.IsWhole)
  (a3 : Memref sig .tc .vmem S8192x128 .bf16) (w3 : a3.IsWhole)
  (a4 : Memref sig .tc .vmem S8192x128 .bf16) (w4 : a4.IsWhole)
  (a5 : Memref sig .tc .vmem S512x128 .bf16) (w5 : a5.IsWhole)
  (a6 : Memref sig .tc .vmem S512x128 .f32) (w6 : a6.IsWhole)
  (a7 : Memref sig .tc .vmem S2x512x1 .f32) (w7 : a7.IsWhole)
  (a8 : Memref sig .tc .vmem S1x2x8192 .f32) (w8 : a8.IsWhole)
  (a9 : Memref sig .tc .vmem S512x128 .bf16) (w9 : a9.IsWhole)
  (a10 : Memref sig .tc .vmem S8192x128 .bf16) (w10 : a10.IsWhole)
  (a11 : Memref sig .tc .vmem S8192x128 .bf16) (w11 : a11.IsWhole)
  (a12 : Memref sig .tc .vmem S1x2x8192 .f32) (w12 : a12.IsWhole)
  (a13 : Memref sig .tc .vmem S1x2x512 .f32) (w13 : a13.IsWhole)
  (a14 : Memref sig .tc .vmem S8192x128 .f32) (w14 : a14.IsWhole)
  (a15 : Memref sig .tc .vmem S8192x128 .f32) (w15 : a15.IsWhole)

/-- A value after the first `k` trips of `n`, each applying `f`. -/
def iter {n : Nat} {σ : Type} (f : Fin n → σ → σ) (s : σ) : ℕ → σ
  | 0 => s
  | k + 1 => if h : k < n then f ⟨k, h⟩ (iter f s k) else iter f s k

theorem iter_succ {n : Nat} {σ : Type} (f : Fin n → σ → σ) (s : σ) (k : Fin n) :
    iter f s (k.val + 1) = f k (iter f s k.val) := dif_pos k.isLt

/-- What stands after `k` trips: what was there before the first, or what the trips made of it. -/
def past {α : Type} (k : ℕ) (g x : α) : α :=
  match k with
  | 0 => g
  | _ + 1 => x

theorem past_eq {α : Type} (k : ℕ) (g x : α) (h : k = 0 → x = g) : past k g x = x := by
  cases k with
  | zero => exact (h rfl).symm
  | succ k => rfl

/-- What a loop's trips hand on: the carried value and the three buffers they add to. -/
abbrev Handed (F : FTy → Type) {s12 s14 s15 : Shape} (a12 : Memref sig .tc .vmem s12 .f32)
    (a14 : Memref sig .tc .vmem s14 .f32) (a15 : Memref sig .tc .vmem s15 .f32) : Type :=
  Carried F × Held F a12 × Held F a14 × Held F a15

/-- What a trip touches: keys, values and gates at their contents, and the three buffers it adds to at any. -/
abbrev Touched (X3 : Held F a3) (X4 : Held F a4) (X8 : Held F a8) (f12 : Held F a12) (f14 : Held F a14)
    (f15 : Held F a15) : sProp 𝕄 :=
  iprop((a3.view.loc (c : Thread nD τ) ↦[a3.view.set]{fullShare} X3)
    ∗ (a4.view.loc (c : Thread nD τ) ↦[a4.view.set]{fullShare} X4)
    ∗ (a8.view.loc (c : Thread nD τ) ↦[a8.view.set]{fullShare} X8)
    ∗ (a12.view.loc (c : Thread nD τ) ↦[a12.view.set]{fullShare} f12)
    ∗ (a14.view.loc (c : Thread nD τ) ↦[a14.view.set]{fullShare} f14)
    ∗ (a15.view.loc (c : Thread nD τ) ↦[a15.view.set]{fullShare} f15))

section Wide

variable (v8 : FVec F S512x128 .bf16) (v38 : IVec S512x128 1) (v65 : IVec S512x128 1) (v67 : FVec F S512x128 .bf16) (v69 : FVec F S512x128 .bf16) (v71 : FVec F S512x128 .bf16) (v73 : FVec F S512x128 .bf16) (v79 : FVec F S1x1 .f32) (v80 : FVec F S1x1 .f32) (v82 : FVec F S512x1 .f32) (v83 : Vec F S1x512x1 .f32) (v86 : Vec F S512x128 .f32)

/-- One trip over two blocks of keys. -/
@[irreducible] def trip1 (X3 : Held F a3) (X4 : Held F a4) (X8 : Held F a8) (k : Fin (k0_t1_loop i).trips) :
    Σ' (R : Carried F → Carried F) (L12 : Held F a12 → List (View.Piece (Elt F) S1x2x8192 .f32))
      (L14 : Held F a14 → List (View.Piece (Elt F) S8192x128 .f32)),
      { L15 : Held F a15 → List (View.Piece (Elt F) S8192x128 .f32) //
        ∀ (E : Set ℕ) (acc : Carried F) (f12 : Held F a12) (f14 : Held F a14) (f15 : Held F a15),
          Touched c a3 a4 a8 a12 a14 a15 X3 X4 X8 f12 f14 f15
          ⊢ wp frame (wpE (defs₀ (F := F)) 𝒱 (c : Thread nD τ) bd) E
              (k0_t1_body (F := F) i a2 w2 a3 w3 a4 w4 a5 w5 a6 w6 a7 w7 a8 w8 a9 w9 a10 w10 a11 w11 a12 w12 a13 w13 a14 w14 a15 w15 0#32 v8 v38 v65 v67 v69 v71 v73 v79 v80 v82 v83 v86 k acc)
              (fun yld => iprop(⌜yld = R acc⌝ ∗ Touched c a3 a4 a8 a12 a14 a15 X3 X4 X8
                (a12.view.writes (Elt F) f12 (L12 f12)) (a14.view.writes (Elt F) f14 (L14 f14))
                (a15.view.writes (Elt F) f15 (L15 f15)))) } := by
  have hk : k.val < 7 := Nat.lt_of_lt_of_le k.isLt (k0_t1_abs i).2.1
  refine ⟨?_, ?_, ?_, ?_, fun E acc f12 f14 f15 => ?run⟩
  case run =>
    unfold k0_t1_body
    iintro ⟨H3, H4, H8, H12, H14, H15⟩
    sl_exec_parts
    sl_step
    sl_close

/-- The trip as a function of what the trips before hand on. -/
abbrev step1 (X3 : Held F a3) (X4 : Held F a4) (X8 : Held F a8) (k : Fin (k0_t1_loop i).trips)
    (s : Handed F a12 a14 a15) : Handed F a12 a14 a15 :=
  let t := trip1 (F := F) 𝒱 c bd i a2 w2 a3 w3 a4 w4 a5 w5 a6 w6 a7 w7 a8 w8 a9 w9 a10 w10 a11 w11 a12 w12 a13 w13 a14 w14 a15 w15 v8 v38 v65 v67 v69 v71 v73 v79 v80 v82 v83 v86 X3 X4 X8 k
  (t.1 s.1, a12.view.writes (Elt F) s.2.1 (t.2.1 s.2.1), a14.view.writes (Elt F) s.2.2.1 (t.2.2.1 s.2.2.1),
    a15.view.writes (Elt F) s.2.2.2 (t.2.2.2.1 s.2.2.2))

/-- What the first `k` trips hand on. -/
@[irreducible] def st1 (X3 : Held F a3) (X4 : Held F a4) (X8 : Held F a8) (s : Handed F a12 a14 a15) (k : ℕ) :
    Handed F a12 a14 a15 :=
  iter (step1 (F := F) 𝒱 c bd i a2 w2 a3 w3 a4 w4 a5 w5 a6 w6 a7 w7 a8 w8 a9 w9 a10 w10 a11 w11 a12 w12 a13 w13 a14 w14 a15 w15 v8 v38 v65 v67 v69 v71 v73 v79 v80 v82 v83 v86 X3 X4 X8) s k

theorem st1_zero (X3 : Held F a3) (X4 : Held F a4) (X8 : Held F a8) (s : Handed F a12 a14 a15) :
    st1 (F := F) 𝒱 c bd i a2 w2 a3 w3 a4 w4 a5 w5 a6 w6 a7 w7 a8 w8 a9 w9 a10 w10 a11 w11 a12 w12 a13 w13 a14 w14 a15 w15 v8 v38 v65 v67 v69 v71 v73 v79 v80 v82 v83 v86 X3 X4 X8 s 0 = s := by
  unfold st1; rfl

theorem st1_succ (X3 : Held F a3) (X4 : Held F a4) (X8 : Held F a8) (s : Handed F a12 a14 a15)
    (k : Fin (k0_t1_loop i).trips) :
    st1 (F := F) 𝒱 c bd i a2 w2 a3 w3 a4 w4 a5 w5 a6 w6 a7 w7 a8 w8 a9 w9 a10 w10 a11 w11 a12 w12 a13 w13 a14 w14 a15 w15 v8 v38 v65 v67 v69 v71 v73 v79 v80 v82 v83 v86 X3 X4 X8 s (k.val + 1)
      = step1 (F := F) 𝒱 c bd i a2 w2 a3 w3 a4 w4 a5 w5 a6 w6 a7 w7 a8 w8 a9 w9 a10 w10 a11 w11 a12 w12 a13 w13 a14 w14 a15 w15 v8 v38 v65 v67 v69 v71 v73 v79 v80 v82 v83 v86 X3 X4 X8 k (st1 (F := F) 𝒱 c bd i a2 w2 a3 w3 a4 w4 a5 w5 a6 w6 a7 w7 a8 w8 a9 w9 a10 w10 a11 w11 a12 w12 a13 w13 a14 w14 a15 w15 v8 v38 v65 v67 v69 v71 v73 v79 v80 v82 v83 v86 X3 X4 X8 s k.val) := by
  unfold st1; exact iter_succ _ _ k

set_option warn.classDefReducibility false in
/-- The loop by its invariant: before trip `k` everything is what the first `k` trips hand on. -/
@[sl_loop] def loopInv1 (E : Set ℕ) (X3 : Held F a3) (X4 : Held F a4) (X8 : Held F a8) (G12 : Held F a12)
    (G14 : Held F a14) (G15 : Held F a15) (init : Carried F) :
    LoopInvTy_k0_t1 (F := F) Unit ℕ (UR sig nD τ) ℕ 𝒱 c bd E i a2 w2 a3 w3 a4 w4 a5 w5 a6 w6 a7 w7 a8 w8 a9 w9 a10 w10 a11 w11 a12 w12 a13 w13 a14 w14 a15 w15 0#32 v8 v38 v65 v67 v69 v71 v73 v79 v80 v82 v83 v86 init where
  inv k acc := iprop((a3.view.loc (c : Thread nD τ) ↦[a3.view.set]{fullShare} X3)
    ∗ (a4.view.loc (c : Thread nD τ) ↦[a4.view.set]{fullShare} X4)
    ∗ (a8.view.loc (c : Thread nD τ) ↦[a8.view.set]{fullShare} X8)
    ∗ (∃ f, (a12.view.loc (c : Thread nD τ) ↦[a12.view.set]{fullShare} f)
        ∗ ⌜f = past k G12 (st1 (F := F) 𝒱 c bd i a2 w2 a3 w3 a4 w4 a5 w5 a6 w6 a7 w7 a8 w8 a9 w9 a10 w10 a11 w11 a12 w12 a13 w13 a14 w14 a15 w15 v8 v38 v65 v67 v69 v71 v73 v79 v80 v82 v83 v86 X3 X4 X8 (init, G12, G14, G15) k).2.1⌝)
    ∗ (∃ f, (a14.view.loc (c : Thread nD τ) ↦[a14.view.set]{fullShare} f)
        ∗ ⌜f = past k G14 (st1 (F := F) 𝒱 c bd i a2 w2 a3 w3 a4 w4 a5 w5 a6 w6 a7 w7 a8 w8 a9 w9 a10 w10 a11 w11 a12 w12 a13 w13 a14 w14 a15 w15 v8 v38 v65 v67 v69 v71 v73 v79 v80 v82 v83 v86 X3 X4 X8 (init, G12, G14, G15) k).2.2.1⌝)
    ∗ (∃ f, (a15.view.loc (c : Thread nD τ) ↦[a15.view.set]{fullShare} f)
        ∗ ⌜f = past k G15 (st1 (F := F) 𝒱 c bd i a2 w2 a3 w3 a4 w4 a5 w5 a6 w6 a7 w7 a8 w8 a9 w9 a10 w10 a11 w11 a12 w12 a13 w13 a14 w14 a15 w15 v8 v38 v65 v67 v69 v71 v73 v79 v80 v82 v83 v86 X3 X4 X8 (init, G12, G14, G15) k).2.2.2⌝)
    ∗ ⌜acc = past k init (st1 (F := F) 𝒱 c bd i a2 w2 a3 w3 a4 w4 a5 w5 a6 w6 a7 w7 a8 w8 a9 w9 a10 w10 a11 w11 a12 w12 a13 w13 a14 w14 a15 w15 v8 v38 v65 v67 v69 v71 v73 v79 v80 v82 v83 v86 X3 X4 X8 (init, G12, G14, G15) k).1⌝)
  step k acc := by
    iintro ⟨H3, H4, H8, ⟨%f12, H12, %h12⟩, ⟨%f14, H14, %h14⟩, ⟨%f15, H15, %h15⟩, %hacc⟩
    rw [past_eq k.val _ _ fun h => by rw [h, st1_zero]] at hacc h12 h14 h15
    subst hacc h12 h14 h15
    iapply (wp_wand_r Idealize.ShloMosaic.frame (wpE (defs₀ (F := F)) 𝒱 (c : Thread nD τ) bd) E)
    isplitl [H3 H4 H8 H12 H14 H15]
    · iapply ((trip1 (F := F) 𝒱 c bd i a2 w2 a3 w3 a4 w4 a5 w5 a6 w6 a7 w7 a8 w8 a9 w9 a10 w10 a11 w11 a12 w12 a13 w13 a14 w14 a15 w15 v8 v38 v65 v67 v69 v71 v73 v79 v80 v82 v83 v86 X3 X4 X8 k).2.2.2.2 E _ _ _ _)
      isplitl [H3]; · iexact H3
      isplitl [H4]; · iexact H4
      isplitl [H8]; · iexact H8
      isplitl [H12]; · iexact H12
      isplitl [H14]; · iexact H14
      iexact H15
    · iintro %yld ⟨%hres, H3, H4, H8, H12, H14, H15⟩
      simp only [past, st1_succ]
      isplitl [H3]; · iexact H3
      isplitl [H4]; · iexact H4
      isplitl [H8]; · iexact H8
      isplitl [H12]
      · iexists _; isplitl [H12]; · iexact H12
        ipureintro; rfl
      isplitl [H14]
      · iexists _; isplitl [H14]; · iexact H14
        ipureintro; rfl
      isplitl [H15]
      · iexists _; isplitl [H15]; · iexact H15
        ipureintro; rfl
      ipureintro; exact hres

end Wide

section Single

variable (v67 : FVec F S512x128 .bf16) (v69 : FVec F S512x128 .bf16) (v71 : FVec F S512x128 .bf16) (v73 : FVec F S512x128 .bf16) (v79 : FVec F S1x1 .f32) (v80 : FVec F S1x1 .f32) (v82 : FVec F S512x1 .f32) (v84 : FVec F S512x1 .f32) (v92 : FVec F S512x1 .f32) (v96 : FVec F S512x1 .f32) (v121_0 : FVec F S512x128 .f32) (v121_1 : FVec F S512x1 .f32) (v121_2 : FVec F S512x1 .f32) (v123 : BitVec 32)

/-- One trip over one block of keys. -/
@[irreducible] def trip3 (X3 : Held F a3) (X4 : Held F a4) (X8 : Held F a8) (k : Fin (k0_t3_loop i).trips) :
    Σ' (R : Carried F → Carried F) (L12 : Held F a12 → List (View.Piece (Elt F) S1x2x8192 .f32))
      (L14 : Held F a14 → List (View.Piece (Elt F) S8192x128 .f32)),
      { L15 : Held F a15 → List (View.Piece (Elt F) S8192x128 .f32) //
        ∀ (E : Set ℕ) (acc : Carried F) (f12 : Held F a12) (f14 : Held F a14) (f15 : Held F a15),
          Touched c a3 a4 a8 a12 a14 a15 X3 X4 X8 f12 f14 f15
          ⊢ wp frame (wpE (defs₀ (F := F)) 𝒱 (c : Thread nD τ) bd) E
              (k0_t3_body (F := F) i a2 w2 a3 w3 a4 w4 a5 w5 a6 w6 a7 w7 a8 w8 a9 w9 a10 w10 a11 w11 a12 w12 a13 w13 a14 w14 a15 w15 0#32 v67 v69 v71 v73 v79 v80 v82 v84 v92 v96 0#32 0#32 v121_0 v121_1 v121_2 0#32 v123 k acc)
              (fun yld => iprop(⌜yld = R acc⌝ ∗ Touched c a3 a4 a8 a12 a14 a15 X3 X4 X8
                (a12.view.writes (Elt F) f12 (L12 f12)) (a14.view.writes (Elt F) f14 (L14 f14))
                (a15.view.writes (Elt F) f15 (L15 f15)))) } := by
  have hk : 1024 * ((i 1).val / 2) + 512 * k.val + 512 ≤ 8192 := by
    have h := Nat.lt_of_lt_of_eq k.isLt (trips3 i); have h2 : (i 1).val < 16 := (i 1).isLt; omega
  refine ⟨?_, ?_, ?_, ?_, fun E acc f12 f14 f15 => ?run⟩
  case run =>
    unfold k0_t3_body
    iintro ⟨H3, H4, H8, H12, H14, H15⟩
    sl_exec_parts
    sl_step
    sl_close

/-- The trip as a function of what the trips before hand on. -/
abbrev step3 (X3 : Held F a3) (X4 : Held F a4) (X8 : Held F a8) (k : Fin (k0_t3_loop i).trips)
    (s : Handed F a12 a14 a15) : Handed F a12 a14 a15 :=
  let t := trip3 (F := F) 𝒱 c bd i a2 w2 a3 w3 a4 w4 a5 w5 a6 w6 a7 w7 a8 w8 a9 w9 a10 w10 a11 w11 a12 w12 a13 w13 a14 w14 a15 w15 v67 v69 v71 v73 v79 v80 v82 v84 v92 v96 v121_0 v121_1 v121_2 v123 X3 X4 X8 k
  (t.1 s.1, a12.view.writes (Elt F) s.2.1 (t.2.1 s.2.1), a14.view.writes (Elt F) s.2.2.1 (t.2.2.1 s.2.2.1),
    a15.view.writes (Elt F) s.2.2.2 (t.2.2.2.1 s.2.2.2))

/-- What the first `k` trips hand on. -/
@[irreducible] def st3 (X3 : Held F a3) (X4 : Held F a4) (X8 : Held F a8) (s : Handed F a12 a14 a15) (k : ℕ) :
    Handed F a12 a14 a15 :=
  iter (step3 (F := F) 𝒱 c bd i a2 w2 a3 w3 a4 w4 a5 w5 a6 w6 a7 w7 a8 w8 a9 w9 a10 w10 a11 w11 a12 w12 a13 w13 a14 w14 a15 w15 v67 v69 v71 v73 v79 v80 v82 v84 v92 v96 v121_0 v121_1 v121_2 v123 X3 X4 X8) s k

theorem st3_zero (X3 : Held F a3) (X4 : Held F a4) (X8 : Held F a8) (s : Handed F a12 a14 a15) :
    st3 (F := F) 𝒱 c bd i a2 w2 a3 w3 a4 w4 a5 w5 a6 w6 a7 w7 a8 w8 a9 w9 a10 w10 a11 w11 a12 w12 a13 w13 a14 w14 a15 w15 v67 v69 v71 v73 v79 v80 v82 v84 v92 v96 v121_0 v121_1 v121_2 v123 X3 X4 X8 s 0 = s := by
  unfold st3; rfl

theorem st3_succ (X3 : Held F a3) (X4 : Held F a4) (X8 : Held F a8) (s : Handed F a12 a14 a15)
    (k : Fin (k0_t3_loop i).trips) :
    st3 (F := F) 𝒱 c bd i a2 w2 a3 w3 a4 w4 a5 w5 a6 w6 a7 w7 a8 w8 a9 w9 a10 w10 a11 w11 a12 w12 a13 w13 a14 w14 a15 w15 v67 v69 v71 v73 v79 v80 v82 v84 v92 v96 v121_0 v121_1 v121_2 v123 X3 X4 X8 s (k.val + 1)
      = step3 (F := F) 𝒱 c bd i a2 w2 a3 w3 a4 w4 a5 w5 a6 w6 a7 w7 a8 w8 a9 w9 a10 w10 a11 w11 a12 w12 a13 w13 a14 w14 a15 w15 v67 v69 v71 v73 v79 v80 v82 v84 v92 v96 v121_0 v121_1 v121_2 v123 X3 X4 X8 k (st3 (F := F) 𝒱 c bd i a2 w2 a3 w3 a4 w4 a5 w5 a6 w6 a7 w7 a8 w8 a9 w9 a10 w10 a11 w11 a12 w12 a13 w13 a14 w14 a15 w15 v67 v69 v71 v73 v79 v80 v82 v84 v92 v96 v121_0 v121_1 v121_2 v123 X3 X4 X8 s k.val) := by
  unfold st3; exact iter_succ _ _ k

set_option warn.classDefReducibility false in
/-- The loop by its invariant: before trip `k` everything is what the first `k` trips hand on. -/
@[sl_loop] def loopInv3 (E : Set ℕ) (X3 : Held F a3) (X4 : Held F a4) (X8 : Held F a8) (G12 : Held F a12)
    (G14 : Held F a14) (G15 : Held F a15) (init : Carried F) :
    LoopInvTy_k0_t3 (F := F) Unit ℕ (UR sig nD τ) ℕ 𝒱 c bd E i a2 w2 a3 w3 a4 w4 a5 w5 a6 w6 a7 w7 a8 w8 a9 w9 a10 w10 a11 w11 a12 w12 a13 w13 a14 w14 a15 w15 0#32 v67 v69 v71 v73 v79 v80 v82 v84 v92 v96 0#32 0#32 init.1 init.2.1 init.2.2 0#32 v123 init where
  inv k acc := iprop((a3.view.loc (c : Thread nD τ) ↦[a3.view.set]{fullShare} X3)
    ∗ (a4.view.loc (c : Thread nD τ) ↦[a4.view.set]{fullShare} X4)
    ∗ (a8.view.loc (c : Thread nD τ) ↦[a8.view.set]{fullShare} X8)
    ∗ (∃ f, (a12.view.loc (c : Thread nD τ) ↦[a12.view.set]{fullShare} f)
        ∗ ⌜f = past k G12 (st3 (F := F) 𝒱 c bd i a2 w2 a3 w3 a4 w4 a5 w5 a6 w6 a7 w7 a8 w8 a9 w9 a10 w10 a11 w11 a12 w12 a13 w13 a14 w14 a15 w15 v67 v69 v71 v73 v79 v80 v82 v84 v92 v96 init.1 init.2.1 init.2.2 v123 X3 X4 X8 (init, G12, G14, G15) k).2.1⌝)
    ∗ (∃ f, (a14.view.loc (c : Thread nD τ) ↦[a14.view.set]{fullShare} f)
        ∗ ⌜f = past k G14 (st3 (F := F) 𝒱 c bd i a2 w2 a3 w3 a4 w4 a5 w5 a6 w6 a7 w7 a8 w8 a9 w9 a10 w10 a11 w11 a12 w12 a13 w13 a14 w14 a15 w15 v67 v69 v71 v73 v79 v80 v82 v84 v92 v96 init.1 init.2.1 init.2.2 v123 X3 X4 X8 (init, G12, G14, G15) k).2.2.1⌝)
    ∗ (∃ f, (a15.view.loc (c : Thread nD τ) ↦[a15.view.set]{fullShare} f)
        ∗ ⌜f = past k G15 (st3 (F := F) 𝒱 c bd i a2 w2 a3 w3 a4 w4 a5 w5 a6 w6 a7 w7 a8 w8 a9 w9 a10 w10 a11 w11 a12 w12 a13 w13 a14 w14 a15 w15 v67 v69 v71 v73 v79 v80 v82 v84 v92 v96 init.1 init.2.1 init.2.2 v123 X3 X4 X8 (init, G12, G14, G15) k).2.2.2⌝)
    ∗ ⌜acc = past k init (st3 (F := F) 𝒱 c bd i a2 w2 a3 w3 a4 w4 a5 w5 a6 w6 a7 w7 a8 w8 a9 w9 a10 w10 a11 w11 a12 w12 a13 w13 a14 w14 a15 w15 v67 v69 v71 v73 v79 v80 v82 v84 v92 v96 init.1 init.2.1 init.2.2 v123 X3 X4 X8 (init, G12, G14, G15) k).1⌝)
  step k acc := by
    iintro ⟨H3, H4, H8, ⟨%f12, H12, %h12⟩, ⟨%f14, H14, %h14⟩, ⟨%f15, H15, %h15⟩, %hacc⟩
    rw [past_eq k.val _ _ fun h => by rw [h, st3_zero]] at hacc h12 h14 h15
    subst hacc h12 h14 h15
    iapply (wp_wand_r Idealize.ShloMosaic.frame (wpE (defs₀ (F := F)) 𝒱 (c : Thread nD τ) bd) E)
    isplitl [H3 H4 H8 H12 H14 H15]
    · iapply ((trip3 (F := F) 𝒱 c bd i a2 w2 a3 w3 a4 w4 a5 w5 a6 w6 a7 w7 a8 w8 a9 w9 a10 w10 a11 w11 a12 w12 a13 w13 a14 w14 a15 w15 v67 v69 v71 v73 v79 v80 v82 v84 v92 v96 init.1 init.2.1 init.2.2 v123 X3 X4 X8 k).2.2.2.2 E _ _ _ _)
      isplitl [H3]; · iexact H3
      isplitl [H4]; · iexact H4
      isplitl [H8]; · iexact H8
      isplitl [H12]; · iexact H12
      isplitl [H14]; · iexact H14
      iexact H15
    · iintro %yld ⟨%hres, H3, H4, H8, H12, H14, H15⟩
      simp only [past, st3_succ]
      isplitl [H3]; · iexact H3
      isplitl [H4]; · iexact H4
      isplitl [H8]; · iexact H8
      isplitl [H12]
      · iexists _; isplitl [H12]; · iexact H12
        ipureintro; rfl
      isplitl [H14]
      · iexists _; isplitl [H14]; · iexact H14
        ipureintro; rfl
      isplitl [H15]
      · iexists _; isplitl [H15]; · iexact H15
        ipureintro; rfl
      ipureintro; exact hres

end Single

end Cert.AttnIdeal.Hand

end
-- ==== Proof.AttnRunFirst.lean ====
module

public import proofs.«01_k».proof.Proof.AttnOffs
public import Idealize.ShloMosaic.Lib.Pipeline.TableIdle
public import Idealize.ShloMosaic.Lib.Ring
public import Idealize.ShloMosaic.Lib.WordCmp

/-!
  The attention gradient's body, run at the first block of queries of a pair of heads.

  There the body clears the key derivatives, the value derivatives and the gates' row before it adds to them, and no
  loop takes a trip: the block of queries meets its own keys only.
-/

@[expose] public section

set_option maxRecDepth 16384
set_option sl_exec.matchHeartbeats 8000
set_option maxHeartbeats 4000000

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal.Gen

variable {F : FTy → Type} [FloatOps F] [Named F]

local notation "𝕄" => MT nD τ sig Unit (Elt F) ℕ (UR sig nD τ) ℕ

variable (c : Dev nD) (i : grid0.Coords)
  (a2 : Memref sig .tc .vmem S512x128 .bf16) (w2 : a2.IsWhole)
  (a3 : Memref sig .tc .vmem S8192x128 .bf16) (w3 : a3.IsWhole)
  (a4 : Memref sig .tc .vmem S8192x128 .bf16) (w4 : a4.IsWhole)
  (a5 : Memref sig .tc .vmem S512x128 .bf16) (w5 : a5.IsWhole)
  (a6 : Memref sig .tc .vmem S512x128 .f32) (w6 : a6.IsWhole)
  (a7 : Memref sig .tc .vmem S2x512x1 .f32) (w7 : a7.IsWhole)
  (a8 : Memref sig .tc .vmem S1x2x8192 .f32) (w8 : a8.IsWhole)
  (a9 : Memref sig .tc .vmem S512x128 .bf16) (w9 : a9.IsWhole)
  (a10 : Memref sig .tc .vmem S8192x128 .bf16) (w10 : a10.IsWhole)
  (a11 : Memref sig .tc .vmem S8192x128 .bf16) (w11 : a11.IsWhole)
  (a12 : Memref sig .tc .vmem S1x2x8192 .f32) (w12 : a12.IsWhole)
  (a13 : Memref sig .tc .vmem S1x2x512 .f32) (w13 : a13.IsWhole)
  (a14 : Memref sig .tc .vmem S8192x128 .f32) (w14 : a14.IsWhole)
  (a15 : Memref sig .tc .vmem S8192x128 .f32) (w15 : a15.IsWhole)

/-- The body clears its accumulators: the first block of queries. -/
abbrev First (i : grid0.Coords) : Prop :=
  Scalar.cmpi .ne (Scalar.extui (Scalar.cmpi .eq (BitVec.ofNat 32 (i 1).val) 0#32) : BitVec 32) 0#32 = 1#1

/-- The body writes its accumulators out: the last block of queries. -/
abbrev Last (i : grid0.Coords) : Prop := k0_cond2 i = 1#1

theorem first_zero {i : grid0.Coords} (h : First i) : (i 1).val = 0 := by
  revert i; decide +kernel

/-- The body at the first block of queries: no loop takes a trip there. -/
noncomputable def runFirst (hc0 : First i) (hc1 : ¬Last i)
    (x2 : Vec F S512x128 .bf16) (x3 : Vec F S8192x128 .bf16) (x4 : Vec F S8192x128 .bf16) (x5 : Vec F S512x128 .bf16) (x6 : Vec F S512x128 .f32) (x7 : Vec F S2x512x1 .f32) (x8 : Vec F S1x2x8192 .f32) :
    Σ' (L9 : List (View.Piece (Elt F) S512x128 .bf16)) (L13 : List (View.Piece (Elt F) S1x2x512 .f32)) (X12 : BufTy.Contents (Elt F) a12.view.ty) (X14 : BufTy.Contents (Elt F) a14.view.ty), { X15 : BufTy.Contents (Elt F) a15.view.ty //
      ∀ (E : Set ℕ) (K : PUnit → sProp 𝕄),
        iprop(owns (c : Thread nD τ) a2 fullShare x2
            ∗ owns (c : Thread nD τ) a3 fullShare x3
            ∗ owns (c : Thread nD τ) a4 fullShare x4
            ∗ owns (c : Thread nD τ) a5 fullShare x5
            ∗ owns (c : Thread nD τ) a6 fullShare x6
            ∗ owns (c : Thread nD τ) a7 fullShare x7
            ∗ owns (c : Thread nD τ) a8 fullShare x8
            ∗ (∃ d, owns (c : Thread nD τ) a9 fullShare d)
            ∗ (∃ d, owns (c : Thread nD τ) a12 fullShare d)
            ∗ (∃ d, owns (c : Thread nD τ) a13 fullShare d)
            ∗ (∃ d, owns (c : Thread nD τ) a14 fullShare d)
            ∗ (∃ d, owns (c : Thread nD τ) a15 fullShare d)
            ∗ (iprop(owns (c : Thread nD τ) a2 fullShare x2
            ∗ owns (c : Thread nD τ) a3 fullShare x3
            ∗ owns (c : Thread nD τ) a4 fullShare x4
            ∗ owns (c : Thread nD τ) a5 fullShare x5
            ∗ owns (c : Thread nD τ) a6 fullShare x6
            ∗ owns (c : Thread nD τ) a7 fullShare x7
            ∗ owns (c : Thread nD τ) a8 fullShare x8
            ∗ (∃ f, a9.view.loc (c : Thread nD τ) ↦[a9.view.set]{fullShare} a9.view.writes (Elt F) f L9)
            ∗ (a12.view.loc (c : Thread nD τ) ↦[a12.view.set]{fullShare} X12)
            ∗ (∃ f, a13.view.loc (c : Thread nD τ) ↦[a13.view.set]{fullShare} a13.view.writes (Elt F) f L13)
            ∗ (a14.view.loc (c : Thread nD τ) ↦[a14.view.set]{fullShare} X14)
            ∗ (a15.view.loc (c : Thread nD τ) ↦[a15.view.set]{fullShare} X15)) -∗ K ⟨⟩))
          ⊢ wp frame (wpE (defs₀ (F := F)) Variants.none c none) E
              (cc0_attn_bwd i a2 w2 a3 w3 a4 w4 a5 w5 a6 w6 a7 w7 a8 w8 a9 w9 a10 w10 a11 w11 a12 w12 a13 w13 a14 w14 a15 w15) K } := by
  refine ⟨?_, ?_, ?_, ?_, ?_, fun E K => ?run⟩
  case run =>
    simp only [cc0_attn_bwd_eq_skeleton]; unfold cc0_attn_bwd_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d12, %f12, -, H12⟩, ⟨%d13, %f13, -, H13⟩, ⟨%d14, %f14, -, H14⟩, ⟨%d15, %f15, -, H15⟩, Hk⟩
    obtain rfl := w2.eq_unread hf2; obtain rfl := w3.eq_unread hf3; obtain rfl := w4.eq_unread hf4; obtain rfl := w5.eq_unread hf5; obtain rfl := w6.eq_unread hf6; obtain rfl := w7.eq_unread hf7; obtain rfl := w8.eq_unread hf8
    have hi := first_zero hc0
    have htr1 : (k0_t1_loop i).trips = 0 := (trips1 i).trans (by rw [hi])
    have htr3 : (k0_t3_loop i).trips = 0 := (trips3 i).trans (by rw [hi])
    have htr2 := trips2 i
    have htr4 := trips4 i
    sl_exec (disch := first | sl_exact hc0 | sl_exact hc1)
    sl_step
    iapply Hk
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    isplitl [H7]
    · iexists _; isplitr; · ipureintro; exact w7.read_unread _
      iexact H7
    isplitl [H8]
    · iexists _; isplitr; · ipureintro; exact w8.read_unread _
      iexact H8
    isplitl [H9]; · iexists _; iexact H9
    isplitl [H12]; · iexact H12
    isplitl [H13]; · iexists _; iexact H13
    isplitl [H14]; · iexact H14
    iexact H15

end Cert.AttnIdeal.Hand

end
-- ==== Proof.AttnRun.lean ====
module

public import proofs.«01_k».proof.Proof.AttnLoops
public import proofs.«01_k».proof.Proof.AttnRunFirst
public import Idealize.ShloMosaic.Lib.Pipeline.TableIdle
public import Idealize.ShloMosaic.Lib.Ring
public import Idealize.ShloMosaic.Lib.WordCmp

/-!
  The attention gradient's body, run at a middle and at the last block of queries of a pair of heads.

  At either the body adds to what the block before left; at the last it also writes the two accumulated derivatives out.
-/

@[expose] public section

set_option maxRecDepth 16384
set_option sl_exec.matchHeartbeats 8000
set_option maxHeartbeats 4000000

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal.Gen

variable {F : FTy → Type} [FloatOps F] [Named F]

local notation "𝕄" => MT nD τ sig Unit (Elt F) ℕ (UR sig nD τ) ℕ

variable (c : Dev nD) (i : grid0.Coords)
  (a2 : Memref sig .tc .vmem S512x128 .bf16) (w2 : a2.IsWhole)
  (a3 : Memref sig .tc .vmem S8192x128 .bf16) (w3 : a3.IsWhole)
  (a4 : Memref sig .tc .vmem S8192x128 .bf16) (w4 : a4.IsWhole)
  (a5 : Memref sig .tc .vmem S512x128 .bf16) (w5 : a5.IsWhole)
  (a6 : Memref sig .tc .vmem S512x128 .f32) (w6 : a6.IsWhole)
  (a7 : Memref sig .tc .vmem S2x512x1 .f32) (w7 : a7.IsWhole)
  (a8 : Memref sig .tc .vmem S1x2x8192 .f32) (w8 : a8.IsWhole)
  (a9 : Memref sig .tc .vmem S512x128 .bf16) (w9 : a9.IsWhole)
  (a10 : Memref sig .tc .vmem S8192x128 .bf16) (w10 : a10.IsWhole)
  (a11 : Memref sig .tc .vmem S8192x128 .bf16) (w11 : a11.IsWhole)
  (a12 : Memref sig .tc .vmem S1x2x8192 .f32) (w12 : a12.IsWhole)
  (a13 : Memref sig .tc .vmem S1x2x512 .f32) (w13 : a13.IsWhole)
  (a14 : Memref sig .tc .vmem S8192x128 .f32) (w14 : a14.IsWhole)
  (a15 : Memref sig .tc .vmem S8192x128 .f32) (w15 : a15.IsWhole)

/-- The body at a middle block of queries. -/
noncomputable def runMid (hc0 : ¬First i) (hc1 : ¬Last i)
    (x2 : Vec F S512x128 .bf16) (x3 : Vec F S8192x128 .bf16) (x4 : Vec F S8192x128 .bf16) (x5 : Vec F S512x128 .bf16) (x6 : Vec F S512x128 .f32) (x7 : Vec F S2x512x1 .f32) (x8 : Vec F S1x2x8192 .f32) (x12 : Vec F S1x2x8192 .f32) (x14 : Vec F S8192x128 .f32) (x15 : Vec F S8192x128 .f32) :
    Σ' (L9 : List (View.Piece (Elt F) S512x128 .bf16)) (L13 : List (View.Piece (Elt F) S1x2x512 .f32)) (X12 : Held F a12) (X14 : Held F a14), { X15 : Held F a15 //
      ∀ (E : Set ℕ) (K : PUnit → sProp 𝕄),
        iprop(owns (c : Thread nD τ) a2 fullShare x2
            ∗ owns (c : Thread nD τ) a3 fullShare x3
            ∗ owns (c : Thread nD τ) a4 fullShare x4
            ∗ owns (c : Thread nD τ) a5 fullShare x5
            ∗ owns (c : Thread nD τ) a6 fullShare x6
            ∗ owns (c : Thread nD τ) a7 fullShare x7
            ∗ owns (c : Thread nD τ) a8 fullShare x8
            ∗ (∃ d, owns (c : Thread nD τ) a9 fullShare d)
            ∗ owns (c : Thread nD τ) a12 fullShare x12
            ∗ (∃ d, owns (c : Thread nD τ) a13 fullShare d)
            ∗ owns (c : Thread nD τ) a14 fullShare x14
            ∗ owns (c : Thread nD τ) a15 fullShare x15
            ∗ (iprop(owns (c : Thread nD τ) a2 fullShare x2
            ∗ owns (c : Thread nD τ) a3 fullShare x3
            ∗ owns (c : Thread nD τ) a4 fullShare x4
            ∗ owns (c : Thread nD τ) a5 fullShare x5
            ∗ owns (c : Thread nD τ) a6 fullShare x6
            ∗ owns (c : Thread nD τ) a7 fullShare x7
            ∗ owns (c : Thread nD τ) a8 fullShare x8
            ∗ (∃ f, a9.view.loc (c : Thread nD τ) ↦[a9.view.set]{fullShare} a9.view.writes (Elt F) f L9)
            ∗ (a12.view.loc (c : Thread nD τ) ↦[a12.view.set]{fullShare} X12)
            ∗ (∃ f, a13.view.loc (c : Thread nD τ) ↦[a13.view.set]{fullShare} a13.view.writes (Elt F) f L13)
            ∗ (a14.view.loc (c : Thread nD τ) ↦[a14.view.set]{fullShare} X14)
            ∗ (a15.view.loc (c : Thread nD τ) ↦[a15.view.set]{fullShare} X15)) -∗ K ⟨⟩))
          ⊢ wp frame (wpE (defs₀ (F := F)) Variants.none c none) E
              (cc0_attn_bwd i a2 w2 a3 w3 a4 w4 a5 w5 a6 w6 a7 w7 a8 w8 a9 w9 a10 w10 a11 w11 a12 w12 a13 w13 a14 w14 a15 w15) K } := by
  refine ⟨?_, ?_, ?_, ?_, ?_, fun E K => ?run⟩
  case run =>
    simp only [cc0_attn_bwd_eq_skeleton]; unfold cc0_attn_bwd_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f12, %hf12, H12⟩, ⟨%d13, %f13, -, H13⟩, ⟨%f14, %hf14, H14⟩, ⟨%f15, %hf15, H15⟩, Hk⟩
    obtain rfl := w2.eq_unread hf2; obtain rfl := w3.eq_unread hf3; obtain rfl := w4.eq_unread hf4; obtain rfl := w5.eq_unread hf5; obtain rfl := w6.eq_unread hf6; obtain rfl := w7.eq_unread hf7; obtain rfl := w8.eq_unread hf8; obtain rfl := w12.eq_unread hf12; obtain rfl := w14.eq_unread hf14; obtain rfl := w15.eq_unread hf15
    have htr2 := trips2 i
    have htr4 := trips4 i
    sl_exec (disch := first | sl_exact hc0 | sl_exact hc1)
    sl_step
    iapply Hk
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    isplitl [H7]
    · iexists _; isplitr; · ipureintro; exact w7.read_unread _
      iexact H7
    isplitl [H8]
    · iexists _; isplitr; · ipureintro; exact w8.read_unread _
      iexact H8
    isplitl [H9]; · iexists _; iexact H9
    isplitl [H12]; · iexact H12
    isplitl [H13]; · iexists _; iexact H13
    isplitl [H14]; · iexact H14
    iexact H15

/-- The body at the last block of queries. -/
noncomputable def runLast (hc0 : ¬First i) (hc1 : Last i)
    (x2 : Vec F S512x128 .bf16) (x3 : Vec F S8192x128 .bf16) (x4 : Vec F S8192x128 .bf16) (x5 : Vec F S512x128 .bf16) (x6 : Vec F S512x128 .f32) (x7 : Vec F S2x512x1 .f32) (x8 : Vec F S1x2x8192 .f32) (x12 : Vec F S1x2x8192 .f32) (x14 : Vec F S8192x128 .f32) (x15 : Vec F S8192x128 .f32) :
    Σ' (L9 : List (View.Piece (Elt F) S512x128 .bf16)) (L13 : List (View.Piece (Elt F) S1x2x512 .f32)) (L10 : List (View.Piece (Elt F) S8192x128 .bf16)) (L11 : List (View.Piece (Elt F) S8192x128 .bf16)) (X12 : Held F a12) (X14 : Held F a14), { X15 : Held F a15 //
      ∀ (E : Set ℕ) (K : PUnit → sProp 𝕄),
        iprop(owns (c : Thread nD τ) a2 fullShare x2
            ∗ owns (c : Thread nD τ) a3 fullShare x3
            ∗ owns (c : Thread nD τ) a4 fullShare x4
            ∗ owns (c : Thread nD τ) a5 fullShare x5
            ∗ owns (c : Thread nD τ) a6 fullShare x6
            ∗ owns (c : Thread nD τ) a7 fullShare x7
            ∗ owns (c : Thread nD τ) a8 fullShare x8
            ∗ (∃ d, owns (c : Thread nD τ) a9 fullShare d)
            ∗ (∃ d, owns (c : Thread nD τ) a10 fullShare d)
            ∗ (∃ d, owns (c : Thread nD τ) a11 fullShare d)
            ∗ owns (c : Thread nD τ) a12 fullShare x12
            ∗ (∃ d, owns (c : Thread nD τ) a13 fullShare d)
            ∗ owns (c : Thread nD τ) a14 fullShare x14
            ∗ owns (c : Thread nD τ) a15 fullShare x15
            ∗ (iprop(owns (c : Thread nD τ) a2 fullShare x2
            ∗ owns (c : Thread nD τ) a3 fullShare x3
            ∗ owns (c : Thread nD τ) a4 fullShare x4
            ∗ owns (c : Thread nD τ) a5 fullShare x5
            ∗ owns (c : Thread nD τ) a6 fullShare x6
            ∗ owns (c : Thread nD τ) a7 fullShare x7
            ∗ owns (c : Thread nD τ) a8 fullShare x8
            ∗ (∃ f, a9.view.loc (c : Thread nD τ) ↦[a9.view.set]{fullShare} a9.view.writes (Elt F) f L9)
            ∗ (∃ f, a10.view.loc (c : Thread nD τ) ↦[a10.view.set]{fullShare} a10.view.writes (Elt F) f L10)
            ∗ (∃ f, a11.view.loc (c : Thread nD τ) ↦[a11.view.set]{fullShare} a11.view.writes (Elt F) f L11)
            ∗ (a12.view.loc (c : Thread nD τ) ↦[a12.view.set]{fullShare} X12)
            ∗ (∃ f, a13.view.loc (c : Thread nD τ) ↦[a13.view.set]{fullShare} a13.view.writes (Elt F) f L13)
            ∗ (a14.view.loc (c : Thread nD τ) ↦[a14.view.set]{fullShare} X14)
            ∗ (a15.view.loc (c : Thread nD τ) ↦[a15.view.set]{fullShare} X15)) -∗ K ⟨⟩))
          ⊢ wp frame (wpE (defs₀ (F := F)) Variants.none c none) E
              (cc0_attn_bwd i a2 w2 a3 w3 a4 w4 a5 w5 a6 w6 a7 w7 a8 w8 a9 w9 a10 w10 a11 w11 a12 w12 a13 w13 a14 w14 a15 w15) K } := by
  refine ⟨?_, ?_, ?_, ?_, ?_, ?_, ?_, fun E K => ?run⟩
  case run =>
    simp only [cc0_attn_bwd_eq_skeleton]; unfold cc0_attn_bwd_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%d13, %f13, -, H13⟩, ⟨%f14, %hf14, H14⟩, ⟨%f15, %hf15, H15⟩, Hk⟩
    obtain rfl := w2.eq_unread hf2; obtain rfl := w3.eq_unread hf3; obtain rfl := w4.eq_unread hf4; obtain rfl := w5.eq_unread hf5; obtain rfl := w6.eq_unread hf6; obtain rfl := w7.eq_unread hf7; obtain rfl := w8.eq_unread hf8; obtain rfl := w12.eq_unread hf12; obtain rfl := w14.eq_unread hf14; obtain rfl := w15.eq_unread hf15
    have htr2 := trips2 i
    have htr4 := trips4 i
    sl_exec (disch := first | sl_exact hc0 | sl_exact hc1)
    sl_step
    iapply Hk
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    isplitl [H7]
    · iexists _; isplitr; · ipureintro; exact w7.read_unread _
      iexact H7
    isplitl [H8]
    · iexists _; isplitr; · ipureintro; exact w8.read_unread _
      iexact H8
    isplitl [H9]; · iexists _; iexact H9
    isplitl [H10]; · iexists _; iexact H10
    isplitl [H11]; · iexists _; iexact H11
    isplitl [H12]; · iexact H12
    isplitl [H13]; · iexists _; iexact H13
    isplitl [H14]; · iexact H14
    iexact H15

end Cert.AttnIdeal.Hand

end
-- ==== Proof.AttnFrame.lean ====
module

public import proofs.«01_k».proof.Proof.AttnRun
public import proofs.«01_k».proof.Proof.Gen.AttnIdeal.Frame
public import Idealize.ShloMosaic.Lib.Claim

/-!
  The attention gradient's launch: whatever values are launched, the program ends with its arguments unchanged.

  What the body leaves at a point is a function of what it found there (`next`); `enter` repeats it from the first point, and
  between two points the scratch buffers hold the key and value derivatives `enter` says.
-/

@[expose] public section

set_option maxRecDepth 16384
set_option maxHeartbeats 4000000

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev ms0 (t : Fin cfg0.N) : Memref sig .tc .vmem S512x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S8192x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2x512x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x2x8192 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x128 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S8192x128 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S8192x128 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x2x8192 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x2x512 .f32 := win0_11.stage (cfg0.slots t 11)
abbrev hs11 (t : Fin cfg0.N) : (ms11 t).IsWhole := hstage0_11 ((cfg0.slots t 11).cast nbuf0_11)
abbrev accK : Memref sig .tc .vmem S8192x128 .f32 := Memref.whole cc0_scratch0
abbrev haccK : accK.IsWhole := Memref.isWhole_whole _
abbrev accV : Memref sig .tc .vmem S8192x128 .f32 := Memref.whole cc0_scratch1
abbrev haccV : accV.IsWhole := Memref.isWhole_whole _

/-- What the body leaves: the query derivatives and the two rows of gate derivatives of a block of queries, the key and value
    derivatives and the keys' gate derivatives gathered so far, and the two gathered derivatives as written out. -/
structure Left (F : FTy → Type) [FloatOps F] where
  dq : Vec F S512x128 .bf16
  dkOut : Vec F S8192x128 .bf16
  dvOut : Vec F S8192x128 .bf16
  dc : Vec F S1x2x8192 .f32
  dcq : Vec F S1x2x512 .f32
  dk : Vec F S8192x128 .f32
  dv : Vec F S8192x128 .f32

/-- What is left before the first point: anything. -/
def Left.any : Left F := ⟨View.canon [], View.canon [], View.canon [], View.canon [], View.canon [], View.canon [], View.canon []⟩

/-- The body's run at a point of this kind, on the point's buffers and blocks. -/
abbrev atFirst (c : Dev nD) (t : Fin cfg0.N) (hc0 : First (grid0.coords t)) (hc1 : ¬Last (grid0.coords t)) :=
  runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) accK haccK accV haccV hc0 hc1
    (iblk m c 0 t) (iblk m c 1 t) (iblk m c 2 t) (iblk m c 3 t) (iblk m c 4 t) (iblk m c 5 t) (iblk m c 6 t)

theorem coverFirst9 (c : Dev nD) (t : Fin cfg0.N) (hc0 : First (grid0.coords t)) (hc1 : ¬Last (grid0.coords t)) (y : S512x128.Idx) :
    ∃ pc ∈ (atFirst m c t hc0 hc1).1, y ∈ pc.1.set :=
  View.cover_of_tiledL (atFirst m c t hc0 hc1).1 S512x128.size (by sl_kernel_rfl) y

theorem coverFirst13 (c : Dev nD) (t : Fin cfg0.N) (hc0 : First (grid0.coords t)) (hc1 : ¬Last (grid0.coords t)) (y : S1x2x512.Idx) :
    ∃ pc ∈ (atFirst m c t hc0 hc1).2.1, y ∈ pc.1.set :=
  View.cover_of_tiledL (atFirst m c t hc0 hc1).2.1 ![1, 1, 512] (by sl_kernel_rfl) y

/-- What that run leaves. -/
def leftFirst (c : Dev nD) (t : Fin cfg0.N) (hc0 : First (grid0.coords t)) (hc1 : ¬Last (grid0.coords t)) : Left F where
  dq := View.canon (atFirst m c t hc0 hc1).1
  dkOut := View.canon []
  dvOut := View.canon []
  dc := (ms10 t).view.read (Elt F) (atFirst m c t hc0 hc1).2.2.1
  dcq := View.canon (atFirst m c t hc0 hc1).2.1
  dk := accK.view.read (Elt F) (atFirst m c t hc0 hc1).2.2.2.1
  dv := accV.view.read (Elt F) (atFirst m c t hc0 hc1).2.2.2.2.1

/-- The body's run at a point of this kind, on the point's buffers and blocks. -/
abbrev atMid (c : Dev nD) (t : Fin cfg0.N) (prev : Left F) (hc0 : ¬First (grid0.coords t)) (hc1 : ¬Last (grid0.coords t)) :=
  runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) accK haccK accV haccV hc0 hc1
    (iblk m c 0 t) (iblk m c 1 t) (iblk m c 2 t) (iblk m c 3 t) (iblk m c 4 t) (iblk m c 5 t) (iblk m c 6 t) prev.dc prev.dk prev.dv

theorem coverMid9 (c : Dev nD) (t : Fin cfg0.N) (prev : Left F) (hc0 : ¬First (grid0.coords t)) (hc1 : ¬Last (grid0.coords t)) (y : S512x128.Idx) :
    ∃ pc ∈ (atMid m c t prev hc0 hc1).1, y ∈ pc.1.set :=
  View.cover_of_tiledL (atMid m c t prev hc0 hc1).1 S512x128.size (by sl_kernel_rfl) y

theorem coverMid13 (c : Dev nD) (t : Fin cfg0.N) (prev : Left F) (hc0 : ¬First (grid0.coords t)) (hc1 : ¬Last (grid0.coords t)) (y : S1x2x512.Idx) :
    ∃ pc ∈ (atMid m c t prev hc0 hc1).2.1, y ∈ pc.1.set :=
  View.cover_of_tiledL (atMid m c t prev hc0 hc1).2.1 ![1, 1, 512] (by sl_kernel_rfl) y

/-- What that run leaves. -/
def leftMid (c : Dev nD) (t : Fin cfg0.N) (prev : Left F) (hc0 : ¬First (grid0.coords t)) (hc1 : ¬Last (grid0.coords t)) : Left F where
  dq := View.canon (atMid m c t prev hc0 hc1).1
  dkOut := View.canon []
  dvOut := View.canon []
  dc := (ms10 t).view.read (Elt F) (atMid m c t prev hc0 hc1).2.2.1
  dcq := View.canon (atMid m c t prev hc0 hc1).2.1
  dk := accK.view.read (Elt F) (atMid m c t prev hc0 hc1).2.2.2.1
  dv := accV.view.read (Elt F) (atMid m c t prev hc0 hc1).2.2.2.2.1

/-- The body's run at a point of this kind, on the point's buffers and blocks. -/
abbrev atLast (c : Dev nD) (t : Fin cfg0.N) (prev : Left F) (hc0 : ¬First (grid0.coords t)) (hc1 : Last (grid0.coords t)) :=
  runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) accK haccK accV haccV hc0 hc1
    (iblk m c 0 t) (iblk m c 1 t) (iblk m c 2 t) (iblk m c 3 t) (iblk m c 4 t) (iblk m c 5 t) (iblk m c 6 t) prev.dc prev.dk prev.dv

theorem coverLast9 (c : Dev nD) (t : Fin cfg0.N) (prev : Left F) (hc0 : ¬First (grid0.coords t)) (hc1 : Last (grid0.coords t)) (y : S512x128.Idx) :
    ∃ pc ∈ (atLast m c t prev hc0 hc1).1, y ∈ pc.1.set :=
  View.cover_of_tiledL (atLast m c t prev hc0 hc1).1 S512x128.size (by sl_kernel_rfl) y

theorem coverLast13 (c : Dev nD) (t : Fin cfg0.N) (prev : Left F) (hc0 : ¬First (grid0.coords t)) (hc1 : Last (grid0.coords t)) (y : S1x2x512.Idx) :
    ∃ pc ∈ (atLast m c t prev hc0 hc1).2.1, y ∈ pc.1.set :=
  View.cover_of_tiledL (atLast m c t prev hc0 hc1).2.1 ![1, 1, 512] (by sl_kernel_rfl) y

theorem coverLast10 (c : Dev nD) (t : Fin cfg0.N) (prev : Left F) (hc0 : ¬First (grid0.coords t)) (hc1 : Last (grid0.coords t)) (y : S8192x128.Idx) :
    ∃ pc ∈ (atLast m c t prev hc0 hc1).2.2.1, y ∈ pc.1.set :=
  View.cover_of_tiledL (atLast m c t prev hc0 hc1).2.2.1 S8192x128.size (by sl_kernel_rfl) y

theorem coverLast11 (c : Dev nD) (t : Fin cfg0.N) (prev : Left F) (hc0 : ¬First (grid0.coords t)) (hc1 : Last (grid0.coords t)) (y : S8192x128.Idx) :
    ∃ pc ∈ (atLast m c t prev hc0 hc1).2.2.2.1, y ∈ pc.1.set :=
  View.cover_of_tiledL (atLast m c t prev hc0 hc1).2.2.2.1 S8192x128.size (by sl_kernel_rfl) y

/-- What that run leaves. -/
def leftLast (c : Dev nD) (t : Fin cfg0.N) (prev : Left F) (hc0 : ¬First (grid0.coords t)) (hc1 : Last (grid0.coords t)) : Left F where
  dq := View.canon (atLast m c t prev hc0 hc1).1
  dkOut := View.canon (atLast m c t prev hc0 hc1).2.2.1
  dvOut := View.canon (atLast m c t prev hc0 hc1).2.2.2.1
  dc := (ms10 t).view.read (Elt F) (atLast m c t prev hc0 hc1).2.2.2.2.1
  dcq := View.canon (atLast m c t prev hc0 hc1).2.1
  dk := accK.view.read (Elt F) (atLast m c t prev hc0 hc1).2.2.2.2.2.1
  dv := accV.view.read (Elt F) (atLast m c t prev hc0 hc1).2.2.2.2.2.2.1

open Classical in
/-- What the body leaves at a point, given what it found. -/
def next (c : Dev nD) (t : Fin cfg0.N) (prev : Left F) : Left F :=
  if hc0 : First (grid0.coords t) then
    if hc1 : Last (grid0.coords t) then prev else leftFirst m c t hc0 hc1
  else if hc1 : Last (grid0.coords t) then leftLast m c t prev hc0 hc1 else leftMid m c t prev hc0 hc1

theorem next_first (c : Dev nD) (t : Fin cfg0.N) (prev : Left F) (hc0 : First (grid0.coords t)) (hc1 : ¬Last (grid0.coords t)) :
    next m c t prev = leftFirst m c t hc0 hc1 := (dif_pos hc0).trans (dif_neg hc1)
theorem next_mid (c : Dev nD) (t : Fin cfg0.N) (prev : Left F) (hc0 : ¬First (grid0.coords t)) (hc1 : ¬Last (grid0.coords t)) :
    next m c t prev = leftMid m c t prev hc0 hc1 := (dif_neg hc0).trans (dif_neg hc1)
theorem next_last (c : Dev nD) (t : Fin cfg0.N) (prev : Left F) (hc0 : ¬First (grid0.coords t)) (hc1 : Last (grid0.coords t)) :
    next m c t prev = leftLast m c t prev hc0 hc1 := (dif_neg hc0).trans (dif_pos hc1)

/-- What was left before position `n`. -/
def enter (c : Dev nD) : ℕ → Left F
  | 0 => Left.any
  | n + 1 => if h : n < cfg0.N then next m c ⟨n, h⟩ (enter c n) else enter c n

theorem enter_succ (c : Dev nD) (t : Fin cfg0.N) : enter m c (t.val + 1) = next m c t (enter m c t.val) := dif_pos t.isLt

/-- The scratch buffers between two points: at what was left before, once a point has run. -/
def between (c : Dev nD) (n : ℕ) : sProp 𝕄 :=
  iprop((∃ dk dv, ⌜n ≠ 0 → dk = (enter m c n).dk ∧ dv = (enter m c n).dv⌝
      ∗ owns (c : Thread nD τ) accK fullShare dk ∗ owns (c : Thread nD τ) accV fullShare dv)
    ∗ (∃ r, prngReg c r))

/-- The launch's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (enter m c (t.val + 1)).dq
    | ⟨8, _⟩ => (enter m c (t.val + 1)).dkOut
    | ⟨9, _⟩ => (enter m c (t.val + 1)).dvOut
    | ⟨10, _⟩ => (enter m c (t.val + 1)).dc
    | ⟨11, _⟩ => (enter m c (t.val + 1)).dcq
  Φ t := between m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (enter m c (t.val + 1)).dq := by dsimp only [dats]
theorem after_8 (c : Dev nD) (t : Fin cfg0.N) : (dats m 0 c).after 8 t = (enter m c (t.val + 1)).dkOut := by dsimp only [dats]
theorem after_9 (c : Dev nD) (t : Fin cfg0.N) : (dats m 0 c).after 9 t = (enter m c (t.val + 1)).dvOut := by dsimp only [dats]
theorem after_10 (c : Dev nD) (t : Fin cfg0.N) : (dats m 0 c).after 10 t = (enter m c (t.val + 1)).dc := by dsimp only [dats]
theorem after_11 (c : Dev nD) (t : Fin cfg0.N) : (dats m 0 c).after 11 t = (enter m c (t.val + 1)).dcq := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

theorem first_iff : ∀ t : Fin cfg0.N, First (grid0.coords t) ↔ t.val % 16 = 0 :=
  (by decide +kernel : ∀ t : Fin grid0.N, First (grid0.coords t) ↔ t.val % 16 = 0)
theorem last_iff : ∀ t : Fin cfg0.N, Last (grid0.coords t) ↔ t.val % 16 = 15 :=
  (by decide +kernel : ∀ t : Fin grid0.N, Last (grid0.coords t) ↔ t.val % 16 = 15)
theorem live (t : Fin cfg0.N) (w : Fin cfg0.W) (h8 : w ≠ 8) (h9 : w ≠ 9) : cfg0.idle w (grid0.coords t) = false := by
  match w with
  | 0 => rfl | 1 => rfl | 2 => rfl | 3 => rfl | 4 => rfl | 5 => rfl | 6 => rfl | 7 => rfl | 10 => rfl | 11 => rfl
  | 8 => exact absurd rfl h8
  | 9 => exact absurd rfl h9
theorem idle8 (t : Fin cfg0.N) : cfg0.idle 8 (grid0.coords t) = !(k0_cond2 (grid0.coords t) == 1#1) := rfl
theorem idle9 (t : Fin cfg0.N) : cfg0.idle 9 (grid0.coords t) = !(k0_cond2 (grid0.coords t) == 1#1) := rfl

/-- The buffer of the keys' gate derivatives is fresh at the first block of queries of a pair of heads, and there only. -/
theorem fresh10 (t : Fin cfg0.N) : cfg0.fresh 10 t.val = decide (t.val % 16 = 0) :=
  Pipeline.Cfg.fresh_tab cfg0 10 (fun n => decide (n % 16 = 0)) rfl
    (by decide +kernel : ∀ t : Fin grid0.N, decide ((t.val + 1) % 16 = 0) = (win0_10.flush t || (idle0 10 (grid0.coords t) && decide (t.val % 16 = 0))))
    t.val (Nat.le_of_lt t.isLt)

theorem before_10 (c : Dev nD) (t : Fin cfg0.N) (h : ¬First (grid0.coords t)) (d) :
    (dats m 0 c).before 10 t d = (enter m c t.val).dc := by
  have h0 : ¬t.val % 16 = 0 := fun e => h ((first_iff t).mpr e)
  rw [Dat.before_out_traj _ 10 rfl (fun _ _ => rfl)
    (fun t' _ hi _ => by rw [live t' 10 (by decide) (by decide)] at hi; exact absurd hi Bool.false_ne_true) t.val t rfl d,
    if_neg (by rw [fresh10 t, decide_eq_true_eq]; exact h0)]
  rw [after_10]
  exact congrArg (fun n => (enter m c n).dc) (Nat.succ_pred_eq_of_pos (Nat.pos_of_ne_zero fun e => h0 (by have e' : t.val = 0 := e; rw [e'])))

theorem leaves_0 (c : Dev nD) (t : Fin cfg0.N) :
    (dats m 0 c).leavesExact 0 t = owns (c : Thread nD τ) (ms0 t) fullShare ((dats m 0 c).after 0 t) := by
  unfold Dat.leavesExact; rw [live t 0 (by decide) (by decide)]
theorem leaves_1 (c : Dev nD) (t : Fin cfg0.N) :
    (dats m 0 c).leavesExact 1 t = owns (c : Thread nD τ) (ms1 t) fullShare ((dats m 0 c).after 1 t) := by
  unfold Dat.leavesExact; rw [live t 1 (by decide) (by decide)]
theorem leaves_2 (c : Dev nD) (t : Fin cfg0.N) :
    (dats m 0 c).leavesExact 2 t = owns (c : Thread nD τ) (ms2 t) fullShare ((dats m 0 c).after 2 t) := by
  unfold Dat.leavesExact; rw [live t 2 (by decide) (by decide)]
theorem leaves_3 (c : Dev nD) (t : Fin cfg0.N) :
    (dats m 0 c).leavesExact 3 t = owns (c : Thread nD τ) (ms3 t) fullShare ((dats m 0 c).after 3 t) := by
  unfold Dat.leavesExact; rw [live t 3 (by decide) (by decide)]
theorem leaves_4 (c : Dev nD) (t : Fin cfg0.N) :
    (dats m 0 c).leavesExact 4 t = owns (c : Thread nD τ) (ms4 t) fullShare ((dats m 0 c).after 4 t) := by
  unfold Dat.leavesExact; rw [live t 4 (by decide) (by decide)]
theorem leaves_5 (c : Dev nD) (t : Fin cfg0.N) :
    (dats m 0 c).leavesExact 5 t = owns (c : Thread nD τ) (ms5 t) fullShare ((dats m 0 c).after 5 t) := by
  unfold Dat.leavesExact; rw [live t 5 (by decide) (by decide)]
theorem leaves_6 (c : Dev nD) (t : Fin cfg0.N) :
    (dats m 0 c).leavesExact 6 t = owns (c : Thread nD τ) (ms6 t) fullShare ((dats m 0 c).after 6 t) := by
  unfold Dat.leavesExact; rw [live t 6 (by decide) (by decide)]
theorem leaves_7 (c : Dev nD) (t : Fin cfg0.N) :
    (dats m 0 c).leavesExact 7 t = owns (c : Thread nD τ) (ms7 t) fullShare ((dats m 0 c).after 7 t) := by
  unfold Dat.leavesExact; rw [live t 7 (by decide) (by decide)]
theorem leaves_10 (c : Dev nD) (t : Fin cfg0.N) :
    (dats m 0 c).leavesExact 10 t = owns (c : Thread nD τ) (ms10 t) fullShare ((dats m 0 c).after 10 t) := by
  unfold Dat.leavesExact; rw [live t 10 (by decide) (by decide)]
theorem leaves_11 (c : Dev nD) (t : Fin cfg0.N) :
    (dats m 0 c).leavesExact 11 t = owns (c : Thread nD τ) (ms11 t) fullShare ((dats m 0 c).after 11 t) := by
  unfold Dat.leavesExact; rw [live t 11 (by decide) (by decide)]
theorem leaves_8_last (c : Dev nD) (t : Fin cfg0.N) (h : Last (grid0.coords t)) :
    (dats m 0 c).leavesExact 8 t = owns (c : Thread nD τ) (ms8 t) fullShare ((dats m 0 c).after 8 t) := by
  unfold Dat.leavesExact; rw [idle8 t, h]; rfl
theorem leaves_8_idle (c : Dev nD) (t : Fin cfg0.N) (h : ¬Last (grid0.coords t)) :
    (dats m 0 c).leavesExact 8 t = iprop(∃ d, owns (c : Thread nD τ) (ms8 t) fullShare ((dats m 0 c).before 8 t d)) :=
  Dat.leavesExact_idle _ 8 t (by rw [idle8 t, beq_false_of_ne h]; rfl)
    (by rw [← Bool.not_eq_true, flush0_8 t, ← last_iff t]; exact h)
theorem leaves_9_last (c : Dev nD) (t : Fin cfg0.N) (h : Last (grid0.coords t)) :
    (dats m 0 c).leavesExact 9 t = owns (c : Thread nD τ) (ms9 t) fullShare ((dats m 0 c).after 9 t) := by
  unfold Dat.leavesExact; rw [idle9 t, h]; rfl
theorem leaves_9_idle (c : Dev nD) (t : Fin cfg0.N) (h : ¬Last (grid0.coords t)) :
    (dats m 0 c).leavesExact 9 t = iprop(∃ d, owns (c : Thread nD τ) (ms9 t) fullShare ((dats m 0 c).before 9 t d)) :=
  Dat.leavesExact_idle _ 9 t (by rw [idle9 t, beq_false_of_ne h]; rfl)
    (by rw [← Bool.not_eq_true, flush0_9 t, ← last_iff t]; exact h)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

theorem soundFirst (c : Dev nD) (t : Fin cfg0.N) (hc0 : First (grid0.coords t)) (hc1 : ¬Last (grid0.coords t)) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = between m c (t.val + 1) from rfl, show (dats m 0 c).Φ t.castSucc = between m c t.val from rfl,
    show (dats m 0 c).owesAt () t.succ = (dats m 0 c).owesAt () t.castSucc from rfl]
  rw [leaves_0, leaves_1, leaves_2, leaves_3, leaves_4, leaves_5, leaves_6, leaves_7, leaves_10, leaves_11, leaves_8_idle m c t hc1, leaves_9_idle m c t hc1]
  rw [after_0, after_1, after_2, after_3, after_4, after_5, after_6, after_7, after_10, after_11]
  unfold between
  rw [enter_succ, next_first m c t _ hc0 hc1]
  unfold leftFirst; dsimp only
  iintro ⟨⟨⟨%dk, %dv, %hkv, HK, HV⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((atFirst m c t hc0 hc1).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H10]; · iexists _; iexact H10
  isplitl [H11]; · iexists _; iexact H11
  isplitl [HK]; · iexists _; iexact HK
  isplitl [HV]; · iexists _; iexact HV
  iintro ⟨H0, H1, H2, H3, H4, H5, H6, ⟨%e7, H7⟩, H10, ⟨%e11, H11⟩, HK, HV⟩
  isplitl [HK HV HR]
  · isplitl [HK HV]
    · iexists _; iexists _; isplitr
      · ipureintro; exact fun _ => ⟨rfl, rfl⟩
      isplitl [HK]
      · unfold owns; iexists _; isplitr
        swap; · iexact HK
        ipureintro; rfl
      · unfold owns; iexists _; isplitr
        swap; · iexact HV
        ipureintro; rfl
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_eq_canon _ _ _ (coverFirst9 m c t hc0 hc1)
  isplitl [H8]; · iexists _; iexact H8
  isplitl [H9]; · iexists _; iexact H9
  isplitl [H10]
  · unfold owns; iexists _; isplitr
    swap; · iexact H10
    ipureintro; exact rfl
  unfold owns; iexists _; isplitr
  swap; · iexact H11
  ipureintro; exact View.read_writes_eq_canon _ _ _ (coverFirst13 m c t hc0 hc1)

theorem soundMid (c : Dev nD) (t : Fin cfg0.N) (hc0 : ¬First (grid0.coords t)) (hc1 : ¬Last (grid0.coords t)) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  simp only [before_10 m c t hc0]
  rw [show (dats m 0 c).Φ t.succ = between m c (t.val + 1) from rfl, show (dats m 0 c).Φ t.castSucc = between m c t.val from rfl,
    show (dats m 0 c).owesAt () t.succ = (dats m 0 c).owesAt () t.castSucc from rfl]
  rw [leaves_0, leaves_1, leaves_2, leaves_3, leaves_4, leaves_5, leaves_6, leaves_7, leaves_10, leaves_11, leaves_8_idle m c t hc1, leaves_9_idle m c t hc1]
  rw [after_0, after_1, after_2, after_3, after_4, after_5, after_6, after_7, after_10, after_11]
  unfold between
  rw [enter_succ, next_mid m c t _ hc0 hc1]
  unfold leftMid; dsimp only
  iintro ⟨⟨⟨%dk, %dv, %hkv, HK, HV⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain ⟨rfl, rfl⟩ := hkv (fun e => hc0 ((first_iff t).mpr (by rw [e])))
  iapply ((atMid m c t (enter m c t.val) hc0 hc1).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H10]; · iexact H10
  isplitl [H11]; · iexists _; iexact H11
  isplitl [HK]; · iexact HK
  isplitl [HV]; · iexact HV
  iintro ⟨H0, H1, H2, H3, H4, H5, H6, ⟨%e7, H7⟩, H10, ⟨%e11, H11⟩, HK, HV⟩
  isplitl [HK HV HR]
  · isplitl [HK HV]
    · iexists _; iexists _; isplitr
      · ipureintro; exact fun _ => ⟨rfl, rfl⟩
      isplitl [HK]
      · unfold owns; iexists _; isplitr
        swap; · iexact HK
        ipureintro; rfl
      · unfold owns; iexists _; isplitr
        swap; · iexact HV
        ipureintro; rfl
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_eq_canon _ _ _ (coverMid9 m c t (enter m c t.val) hc0 hc1)
  isplitl [H8]; · iexists _; iexact H8
  isplitl [H9]; · iexists _; iexact H9
  isplitl [H10]
  · unfold owns; iexists _; isplitr
    swap; · iexact H10
    ipureintro; exact rfl
  unfold owns; iexists _; isplitr
  swap; · iexact H11
  ipureintro; exact View.read_writes_eq_canon _ _ _ (coverMid13 m c t (enter m c t.val) hc0 hc1)

theorem soundLast (c : Dev nD) (t : Fin cfg0.N) (hc0 : ¬First (grid0.coords t)) (hc1 : Last (grid0.coords t)) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  simp only [before_10 m c t hc0]
  rw [show (dats m 0 c).Φ t.succ = between m c (t.val + 1) from rfl, show (dats m 0 c).Φ t.castSucc = between m c t.val from rfl,
    show (dats m 0 c).owesAt () t.succ = (dats m 0 c).owesAt () t.castSucc from rfl]
  rw [leaves_0, leaves_1, leaves_2, leaves_3, leaves_4, leaves_5, leaves_6, leaves_7, leaves_10, leaves_11, leaves_8_last m c t hc1, leaves_9_last m c t hc1]
  rw [after_0, after_1, after_2, after_3, after_4, after_5, after_6, after_7, after_10, after_11, after_8, after_9]
  unfold between
  rw [enter_succ, next_last m c t _ hc0 hc1]
  unfold leftLast; dsimp only
  iintro ⟨⟨⟨%dk, %dv, %hkv, HK, HV⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain ⟨rfl, rfl⟩ := hkv (fun e => hc0 ((first_iff t).mpr (by rw [e])))
  iapply ((atLast m c t (enter m c t.val) hc0 hc1).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexact H10
  isplitl [H11]; · iexists _; iexact H11
  isplitl [HK]; · iexact HK
  isplitl [HV]; · iexact HV
  iintro ⟨H0, H1, H2, H3, H4, H5, H6, ⟨%e7, H7⟩, ⟨%e8, H8⟩, ⟨%e9, H9⟩, H10, ⟨%e11, H11⟩, HK, HV⟩
  isplitl [HK HV HR]
  · isplitl [HK HV]
    · iexists _; iexists _; isplitr
      · ipureintro; exact fun _ => ⟨rfl, rfl⟩
      isplitl [HK]
      · unfold owns; iexists _; isplitr
        swap; · iexact HK
        ipureintro; rfl
      · unfold owns; iexists _; isplitr
        swap; · iexact HV
        ipureintro; rfl
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_eq_canon _ _ _ (coverLast9 m c t (enter m c t.val) hc0 hc1)
  isplitl [H8]
  · unfold owns; iexists _; isplitr
    swap; · iexact H8
    ipureintro; exact View.read_writes_eq_canon _ _ _ (coverLast10 m c t (enter m c t.val) hc0 hc1)
  isplitl [H9]
  · unfold owns; iexists _; isplitr
    swap; · iexact H9
    ipureintro; exact View.read_writes_eq_canon _ _ _ (coverLast11 m c t (enter m c t.val) hc0 hc1)
  isplitl [H10]
  · unfold owns; iexists _; isplitr
    swap; · iexact H10
    ipureintro; exact rfl
  unfold owns; iexists _; isplitr
  swap; · iexact H11
  ipureintro; exact View.read_writes_eq_canon _ _ _ (coverLast13 m c t (enter m c t.val) hc0 hc1)

theorem sound_body (c : Dev nD) (t : Fin cfg0.N) :
    bodyPre m c t ⊢ wp frame (wpE (defs₀ (F := F)) Variants.none c none) Set.univ (bodyAt0 t) (fun _ => bodyPost m c t) := by
  by_cases hc0 : First (grid0.coords t)
  · exact soundFirst m c t hc0 fun h => by have := (first_iff t).mp hc0; have := (last_iff t).mp h; omega
  · by_cases hc1 : Last (grid0.coords t)
    · exact soundLast m c t hc0 hc1
    · exact soundMid m c t hc0 hc1

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem between_in (c : Dev nD) : Pipeline.ΦA spec0 c ⊢ (dats m 0 c).Φ 0 := by
  show Pipeline.ΦA spec0 c ⊢ between m c 0
  unfold Pipeline.ΦA between
  rw [scopedRest0_eq]
  simp only [owns_whole]
  iintro ⟨⟨⟨%dk, HK⟩, ⟨%dv, HV⟩⟩, HR⟩
  isplitl [HK HV]
  · iexists dk; iexists dv; isplitr
    · ipureintro; exact fun h => absurd rfl h
    isplitl [HK]; · iexact HK
    iexact HV
  iexact HR

theorem between_out (c : Dev nD) : (dats m 0 c).Φ (Fin.last cfg0.N) ⊢ Pipeline.ΦA spec0 c := by
  show between m c cfg0.N ⊢ Pipeline.ΦA spec0 c
  unfold Pipeline.ΦA between
  rw [scopedRest0_eq]
  simp only [owns_whole]
  iintro ⟨⟨%dk, %dv, -, HK, HV⟩, HR⟩
  isplitl [HK HV]
  · isplitl [HK]; · iexists dk; iexact HK
    iexists dv; iexact HV
  iexact HR

set_option backward.isDefEq.respectTransparency.types false in
/-- The launch ends with every array as the proof data say and every semaphore at zero. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl) (howed := fun _ _ => rfl) (V := V m)
    (hmain := hmain m Variants.none) (hA := A_eq m) (hin := between_in m) (hout := between_out m)

theorem run_main : θ_run defs (onTc (τ := τ) (main (F := F))) (s₀ m ρ) (Pipeline.FramePost cfgs (dats m) 0 (V m)) :=
  (θ_run defs _ _).mono (fun _ h => h.1) (run_quiet m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiet m ρ))

end Cert.AttnIdeal.Hand

end
-- ==== Proof.AttnFrameBits.lean ====
module

public import proofs.«01_k».proof.Proof.AttnFrame
public import proofs.«01_k».proof.Proof.Gen.Attn.Skeleton

/-!
  The attention gradient as compiled: its frame, from the run of the program with the mask named.

  The two programs differ in the mask alone, and that run holds whatever number the name stands for; here the name stands
  for the number the kernel writes.
-/

@[expose] public section

set_option maxRecDepth 65536

noncomputable section

namespace Cert.Attn.Hand

open Idealize.ShloMosaic Idealize.ShloMosaic.TcCoe Idealize.ShloMosaic.Tactic
open Idealize.SL Idealize.SL.Sem

variable {F : FTy → Type} [FloatOps F]

/-- Every name stands for the number written. -/
local instance written : Named F := ⟨fun _ _ {_} b => Scalar.ofBits _ b⟩

theorem same (F : FTy → Type) [FloatOps F] :
    (∀ (m : (ℓ : Loc Cert.AttnIdeal.nD Cert.AttnIdeal.τ Cert.AttnIdeal.sig) → Buf (Elt F) ℓ) (ρ : Dev Cert.AttnIdeal.nD → PrngReg),
      θ_run (Cert.AttnIdeal.defs (F := F)) (onTc (τ := Cert.AttnIdeal.τ) (Cert.AttnIdeal.main (F := F))) ⟨m, fun _ => 0, ρ⟩ (fun r => (∀ c : Dev Cert.AttnIdeal.nD,
        r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
        ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
        ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
        ∧ r.2.sem = fun _ => 0))
    = (∀ (m : (ℓ : Loc Cert.Attn.nD Cert.Attn.τ Cert.Attn.sig) → Buf (Elt F) ℓ) (ρ : Dev Cert.Attn.nD → PrngReg),
      θ_run (Cert.Attn.defs (F := F)) (onTc (τ := Cert.Attn.τ) (Cert.Attn.main (F := F))) ⟨m, fun _ => 0, ρ⟩ (fun r => (∀ c : Dev Cert.Attn.nD,
        r.2.mem ((c.tc : Thread Cert.Attn.nD Cert.Attn.τ).loc Cert.Attn.main_arg0) = m ((c.tc : Thread Cert.Attn.nD Cert.Attn.τ).loc Cert.Attn.main_arg0)
        ∧ r.2.mem ((c.tc : Thread Cert.Attn.nD Cert.Attn.τ).loc Cert.Attn.main_arg1) = m ((c.tc : Thread Cert.Attn.nD Cert.Attn.τ).loc Cert.Attn.main_arg1)
        ∧ r.2.mem ((c.tc : Thread Cert.Attn.nD Cert.Attn.τ).loc Cert.Attn.main_arg2) = m ((c.tc : Thread Cert.Attn.nD Cert.Attn.τ).loc Cert.Attn.main_arg2))
        ∧ r.2.sem = fun _ => 0)) := by
  sl_kernel_rfl

theorem frame : ∀ (m : (ℓ : Loc Cert.Attn.nD Cert.Attn.τ Cert.Attn.sig) → Buf (Elt F) ℓ) (ρ : Dev Cert.Attn.nD → PrngReg),
      θ_run (Cert.Attn.defs (F := F)) (onTc (τ := Cert.Attn.τ) (Cert.Attn.main (F := F))) ⟨m, fun _ => 0, ρ⟩ (fun r => (∀ c : Dev Cert.Attn.nD,
        r.2.mem ((c.tc : Thread Cert.Attn.nD Cert.Attn.τ).loc Cert.Attn.main_arg0) = m ((c.tc : Thread Cert.Attn.nD Cert.Attn.τ).loc Cert.Attn.main_arg0)
        ∧ r.2.mem ((c.tc : Thread Cert.Attn.nD Cert.Attn.τ).loc Cert.Attn.main_arg1) = m ((c.tc : Thread Cert.Attn.nD Cert.Attn.τ).loc Cert.Attn.main_arg1)
        ∧ r.2.mem ((c.tc : Thread Cert.Attn.nD Cert.Attn.τ).loc Cert.Attn.main_arg2) = m ((c.tc : Thread Cert.Attn.nD Cert.Attn.τ).loc Cert.Attn.main_arg2))
        ∧ r.2.sem = fun _ => 0) :=
  cast (same F) fun m ρ => Cert.AttnIdeal.Hand.frame m ρ

end Cert.Attn.Hand

end
-- ==== Proof.Laws.lean ====
/-
  Facts of extended-real arithmetic that the value proofs share: a non-negative real factor goes through sums, sums of
  reals are real, and the numbers that the literals of the programs stand for. None of them asks that an argument be
  finite, except where a hypothesis says so.
-/
module

public import Idealize.ShloMosaic.PureOps.Ideal
public import Idealize.ShloMosaic.Lib.IdealHost

@[expose] public section

noncomputable section

namespace Cert.Laws

open Idealize.ShloMosaic
open scoped BigOperators

/-- A non-negative real factor on the left goes through a sum of two terms. -/
theorem real_mul_add {r : ℝ} (hr : 0 ≤ r) (a b : EReal) : (r : EReal) * (a + b) = r * a + r * b :=
  EReal.left_distrib_of_nonneg_of_ne_top (EReal.coe_nonneg.2 hr) (EReal.coe_ne_top r) a b

/-- A non-negative real factor on the right goes through a sum of two terms. -/
theorem add_mul_real {r : ℝ} (hr : 0 ≤ r) (a b : EReal) : (a + b) * (r : EReal) = a * r + b * r :=
  EReal.right_distrib_of_nonneg_of_ne_top (EReal.coe_nonneg.2 hr) (EReal.coe_ne_top r) a b

/-- A non-negative real factor on the left goes through a difference. -/
theorem real_mul_sub {r : ℝ} (hr : 0 ≤ r) (a b : EReal) : (r : EReal) * (a - b) = r * a - r * b := by
  rw [sub_eq_add_neg, sub_eq_add_neg, real_mul_add hr, mul_neg]

/-- A non-negative real factor on the left goes through a finite sum. -/
theorem real_mul_sum {ι : Type} {r : ℝ} (hr : 0 ≤ r) (s : Finset ι) (f : ι → EReal) :
    (r : EReal) * ∑ i ∈ s, f i = ∑ i ∈ s, (r : EReal) * f i := by
  classical
  induction s using Finset.induction_on with
  | empty => simp
  | insert a s ha ih => rw [Finset.sum_insert ha, Finset.sum_insert ha, real_mul_add hr, ih]

/-- A non-negative real factor on the right goes through a finite sum. -/
theorem sum_mul_real {ι : Type} {r : ℝ} (hr : 0 ≤ r) (s : Finset ι) (f : ι → EReal) :
    (∑ i ∈ s, f i) * (r : EReal) = ∑ i ∈ s, f i * (r : EReal) := by
  rw [mul_comm, real_mul_sum hr]; exact Finset.sum_congr rfl fun i _ => mul_comm _ _

/-- A sum of reals is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A square is not negative. -/
theorem sq_nonneg (x : EReal) : 0 ≤ x * x := by
  induction x using EReal.rec with
  | bot => simp
  | top => simp
  | coe r => rw [← EReal.coe_mul]; exact EReal.coe_nonneg.2 (mul_self_nonneg r)

/-- A term added to itself is its double. -/
theorem add_self (x : EReal) : x + x = ((2 : ℝ) : EReal) * x := by
  induction x using EReal.rec with
  | bot => rw [EReal.coe_mul_bot_of_pos (by norm_num)]; rfl
  | top => rw [EReal.coe_mul_top_of_pos (by norm_num)]; rfl
  | coe r => rw [← EReal.coe_add, ← EReal.coe_mul]; congr 1; ring

/-- Reals multiply as reals, the other factors to the right of them. -/
theorem coe_mul_coe_mul (r s : ℝ) (x : EReal) : (r : EReal) * ((s : EReal) * x) = ((r * s : ℝ) : EReal) * x := by
  rw [← mul_assoc, ← EReal.coe_mul]

/-- The word of zero is zero. -/
theorem word_zero : Ideal.ofBits .f32 0x00000000#32 = 0 := by simp [Ideal.ofBits, Ideal.ieee]

/-- The word of 1024 is 1024. -/
theorem word_1024 : Ideal.ofBits .f32 0x44800000#32 = ((1024 : ℝ) : EReal) := by
  simp [Ideal.ofBits, Ideal.ieee, -EReal.coe_mul]; norm_num

/-- The word of minus one half is minus one half. -/
theorem word_neg_half : Ideal.ofBits .f32 0xBF000000#32 = ((-(1 / 2) : ℝ) : EReal) := by
  simp [Ideal.ofBits, Ideal.ieee, -EReal.coe_mul, -EReal.coe_neg]; norm_num

/-- The number that the word of the norms' 1e-6 stands for. -/
def eps : ℝ := 8796093 / 8796093022208

theorem eps_pos : 0 < eps := by unfold eps; norm_num

/-- The word of the norms' 1e-6 stands for `eps`. -/
theorem word_eps : Ideal.ofBits .f32 0x358637BD#32 = (eps : EReal) := by
  simp [Ideal.ofBits, Ideal.ieee, -EReal.coe_mul, eps]; norm_num

end Cert.Laws

end
-- ==== Proof.GateMath.lean ====
/-
  The gate's derivative two ways: one minus the logistic value of z, and the exponential of minus z minus the
  softplus of minus z, equal at every extended real.
-/
module

public import Idealize.ShloMosaic.PureOps.Ideal
public import Idealize.ShloMosaic.Lib.IdealHost
public import proofs.«01_k».proof.Proof.Laws

@[expose] public section

noncomputable section

namespace Cert.GateMath

open Idealize.ShloMosaic

/-- The word of one is one. -/
theorem word_one : Ideal.ofBits .f32 0x3F800000#32 = 1 := by
  simp [Ideal.ofBits, Ideal.ieee, -EReal.coe_mul]; norm_num

/-- The word of plus infinity is plus infinity. -/
theorem word_top : Ideal.ofBits .f32 0x7F800000#32 = ⊤ := by simp [Ideal.ofBits, Ideal.ieee]

/-- No extended real differs from itself. -/
theorem cmpf_une_self (x : EReal) : FloatOps.cmpf (F := Ideal) (φ := .f32) .une x x = 0#1 := by
  simp [Ideal.cmpf_def, Ideal.cmp]

/-- The ordered equality of two extended reals is their equality. -/
theorem cmpf_oeq_iff (x y : EReal) : (FloatOps.cmpf (F := Ideal) (φ := .f32) .oeq x y = 1) = (x = y) := by
  by_cases h : x = y <;> simp [Ideal.cmpf_def, Ideal.cmp, h]

/-- One minus the logistic function, as the kernel spells it. -/
def gate (z : EReal) : EReal := 1 - Ideal.div 1 (1 + Ideal.exp (0 - z))

/-- The softplus of `u`, as the larger of `u` and zero plus a logarithm. -/
def softplus (u : EReal) : EReal := max u 0 + Ideal.log1p (Ideal.exp (-(max u (-u))))

/-- The derivative of the softplus, as the reference's derivative spells it: infinite values cancelled first. -/
def dsoftplus (u : EReal) : EReal :=
  Ideal.exp ((if u = ⊤ then 0 else u) - (if softplus u = ⊤ then 0 else softplus u))

theorem softplus_coe (u : ℝ) : softplus (u : EReal) = ((Real.log (1 + Real.exp u) : ℝ) : EReal) := by
  have h0 : ((0 : ℝ) : EReal) = 0 := rfl
  have h1 : ((1 : ℝ) : EReal) = 1 := rfl
  have habs : max (u : EReal) (-(u : EReal)) = ((|u| : ℝ) : EReal) := by
    rw [← EReal.coe_neg, ← EReal.coe_strictMono.monotone.map_max]; rfl
  have hpos : (0 : ℝ) < 1 + Real.exp (-|u|) := by positivity
  unfold softplus
  rw [habs, ← EReal.coe_neg, Ideal.exp_coe, Ideal.log1p, ← h1, ← EReal.coe_add, Ideal.log_coe _, if_neg (not_le.2 hpos), ← h0, ← EReal.coe_strictMono.monotone.map_max, ← EReal.coe_add]
  congr 1
  rcases le_total u 0 with h | h
  · rw [max_eq_right h, abs_of_nonpos h, neg_neg, zero_add]
  · rw [max_eq_left h, abs_of_nonneg h]
    nth_rewrite 1 [← Real.log_exp u]
    rw [← Real.log_mul (Real.exp_pos u).ne' (by positivity), mul_add, ← Real.exp_add]
    rw [add_neg_cancel, Real.exp_zero, mul_one, add_comm]

/-- The logistic derivative is the derivative of the softplus, at every extended real. -/
theorem gate_eq (z : EReal) : gate z = dsoftplus (-z) := by
  have h0 : ((0 : ℝ) : EReal) = 0 := rfl
  have h1 : ((1 : ℝ) : EReal) = 1 := rfl
  induction z using EReal.rec with
  | bot =>
    have hs : softplus ⊤ = ⊤ := by
      unfold softplus
      simp [Ideal.log1p, ← h0, ← h1, ← EReal.coe_add, -EReal.coe_zero, -EReal.coe_one]
    have hg : gate ⊥ = 1 := by
      unfold gate
      rw [zero_sub, EReal.neg_bot, Ideal.exp_top, EReal.add_top_of_ne_bot (by rw [← h1]; exact EReal.coe_ne_bot _), Ideal.div, if_neg (by simp)]
      simp
    rw [hg, EReal.neg_bot, dsoftplus, if_pos rfl, if_pos hs, sub_zero, ← h0, Ideal.exp_coe, Real.exp_zero, h1]
  | top =>
    have hs : softplus ⊥ = 0 := by
      unfold softplus
      rw [EReal.neg_bot, max_eq_right bot_le, max_eq_right bot_le, EReal.neg_top, Ideal.exp_bot, Ideal.log1p, add_zero, ← h1, Ideal.log_coe,
        if_neg (by norm_num), Real.log_one, ← h0, ← EReal.coe_add, add_zero]
    have hg : gate ⊤ = 0 := by
      unfold gate
      rw [zero_sub, EReal.neg_top, Ideal.exp_bot, add_zero, ← h1, Ideal.div_coe one_ne_zero, ← EReal.coe_mul, ← EReal.coe_sub, ← h0]
      congr 1; norm_num
    rw [hg, EReal.neg_top, dsoftplus, if_neg (by simp), hs, if_neg (by simp), sub_zero, Ideal.exp_bot]
  | coe z =>
    have hp : (0 : ℝ) < 1 + Real.exp (-z) := by positivity
    unfold gate dsoftplus
    rw [← EReal.coe_neg, softplus_coe, if_neg (EReal.coe_ne_top _), if_neg (EReal.coe_ne_top _), zero_sub, ← EReal.coe_neg, Ideal.exp_coe, ← h1,
      ← EReal.coe_add, Ideal.div_coe hp.ne', ← EReal.coe_mul, ← EReal.coe_sub, ← EReal.coe_sub, Ideal.exp_coe, Real.exp_sub, Real.exp_log hp]
    congr 1; field_simp; ring

end Cert.GateMath

end
-- ==== Proof.IdxReads.lean ====
/-
  Layout operations and one-axis sums of rank-2 arrays, read at an index by its coordinates.
-/
module

public import Idealize.ShloMosaic.PureOps.Ideal.Laws
public import Idealize.ShloMosaic.Lib.ValueIdx
public import Idealize.ShloMosaic.Lib.KernelVsHost
public import Idealize.ShloMosaic.Lib.ValueLayout
public import Idealize.ShloMosaic.Lib.ValueLayoutCasts
public import Idealize.ShloMosaic.Lib.Pipeline.Value

@[expose] public section

noncomputable section

namespace Cert.IdxReads

open Idealize.ShloMosaic Idealize.ShloMosaic.ValueIdx
open scoped BigOperators

/-- The zero offsets of a whole rank-2 rectangle. -/
theorem hz2 : (![0, 0] : Fin 2 → Nat) = fun _ => 0 := funext fun a => by fin_cases a <;> rfl

/-- The zero offsets of a whole rank-3 rectangle. -/
theorem hz3 : (![0, 0, 0] : Fin 3 → Nat) = fun _ => 0 := funext fun a => by fin_cases a <;> rfl

variable {Val : EltTy → Type} {e : EltTy}

/-- A load through the whole rank-2 rectangle reads the contents. -/
theorem ld2 {a b : Nat} (inb : ∀ d : Fin 2, (![0, 0] : Fin 2 → Nat) d + (![a, b] : Fin 2 → Nat) d ≤ (![a, b] : Fin 2 → Nat) d)
    (X : (⟨2, ![a, b]⟩ : Shape).Idx → Val e) : View.ld X (Rect.unit (s := ⟨2, ![a, b]⟩) ![0, 0] ![a, b] inb) = X :=
  View.ld_unit_zero (S := ⟨2, ![a, b]⟩) hz2 inb X

/-- A load through the whole rank-3 rectangle reads the contents. -/
theorem ld3 {a b c : Nat}
    (inb : ∀ d : Fin 3, (![0, 0, 0] : Fin 3 → Nat) d + (![a, b, c] : Fin 3 → Nat) d ≤ (![a, b, c] : Fin 3 → Nat) d)
    (X : (⟨3, ![a, b, c]⟩ : Shape).Idx → Val e) : View.ld X (Rect.unit (s := ⟨3, ![a, b, c]⟩) ![0, 0, 0] ![a, b, c] inb) = X :=
  View.ld_unit_zero (S := ⟨3, ![a, b, c]⟩) hz3 inb X

/-- The sum along each row, at a row. -/
theorem rowSum_apply {a b : Nat} (x : FVec Ideal ⟨2, ![a, b]⟩ .f32)
    (h : (⟨2, ![a, b]⟩ : Shape).Reduces [1] ⟨1, ![a]⟩)
    (i : Fin a) : multiReduction .add [1] ⟨1, ![a]⟩ x 0x00000000#32 h (.inl rfl) rfl (ix1 i) = ∑ k : Fin b, x (ix2 i k) := by
  refine (Ideal.multiReduction_add_single x _ h _ _ (ix1 i)).trans (Finset.sum_congr rfl fun k _ => congrArg x ?_)
  funext d; match d with | ⟨0, _⟩ => exact Fin.ext rfl | ⟨1, _⟩ => exact Fin.ext rfl

/-- The sum down each column, at a column. -/
theorem colSum_apply {a b : Nat} (x : FVec Ideal ⟨2, ![a, b]⟩ .f32)
    (h : (⟨2, ![a, b]⟩ : Shape).Reduces [0] ⟨1, ![b]⟩)
    (j : Fin b) : multiReduction .add [0] ⟨1, ![b]⟩ x 0x00000000#32 h (.inl rfl) rfl (ix1 j) = ∑ k : Fin a, x (ix2 k j) := by
  refine (Ideal.multiReduction_add_single x _ h _ _ (ix1 j)).trans (Finset.sum_congr rfl fun k _ => congrArg x ?_)
  funext d; match d with | ⟨0, _⟩ => exact Fin.ext rfl | ⟨1, _⟩ => exact Fin.ext rfl

/-- A vector cast to one row reads, at `(u, j)`, the vector at `j`. -/
theorem shapeCast_b_1b_apply {α : Type} {b : Nat} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val; rw [hu]; omega)

/-- A column broadcast along the rows reads, at `(i, j)`, the column at `i`. -/
theorem bcastCol_apply {α : Type} {a b : Nat} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i 0) :=
  broadcastTo_apply _ _ _ _ (fun d => by
    match d with
    | ⟨0, _⟩ => show i.val = if a = 1 then 0 else i.val; split <;> omega
    | ⟨1, _⟩ => rfl)

/-- A row broadcast down the columns reads, at `(i, j)`, the row at `j`. -/
theorem bcastRow_apply {α : Type} {a b : Nat} (x : (⟨2, ![1, b]⟩ : Shape).Idx → α)
    (h : (⟨2, ![1, b]⟩ : Shape).Broadcasts ⟨2, ![a, b]⟩) (i : Fin a) (j : Fin b) :
    broadcastTo ⟨2, ![a, b]⟩ x h (ix2 i j) = x (ix2 0 j) :=
  broadcastTo_apply _ _ _ _ (fun d => by
    match d with
    | ⟨0, _⟩ => rfl
    | ⟨1, _⟩ => show j.val = if b = 1 then 0 else j.val; split <;> omega)

/-- Columns padded on the right: the operand in its own columns, the padding value in the others. -/
theorem padCols_apply {α : Type} {a b c q : Nat} (x : (⟨2, ![a, b]⟩ : Shape).Idx → α) {u : Shape} (v : u.Idx → α)
    (h : (⟨2, ![a, b]⟩ : Shape).Pads ![0, 0] ![0, q] ![0, 0] ⟨2, ![a, c]⟩) (hu : 0 < u.numel) (i : Fin a) (j : Fin c) :
    pad ⟨2, ![a, c]⟩ ![0, 0] ![0, q] ![0, 0] x v h hu (ix2 i j)
      = if hj : j.val < b then x (ix2 i ⟨j.val, hj⟩) else v (Shape.Idx.first hu) := by
  by_cases hj : j.val < b
  · rw [dif_pos hj]
    exact pad_apply_of_inside _ _ _ _ _ _ _ _ (ix2 i ⟨j.val, hj⟩) (fun d => by
      match d with
      | ⟨0, _⟩ => show i.val = 0 + i.val * (0 + 1); omega
      | ⟨1, _⟩ => show j.val = 0 + j.val * (0 + 1); omega)
  · rw [dif_neg hj]
    exact pad_apply_of_not_inside _ _ _ _ _ _ _ _ ⟨1, Nat.one_lt_two⟩ (fun hin => hj (by
      have h3 := hin.2.2
      have e : j.val - 0 < b * 1 := by
        have : (j.val - 0) / (0 + 1) < b := h3
        omega
      omega))

/-- Rows padded at the end: the operand in its own rows, the padding value in the others. -/
theorem padRows_apply {α : Type} {a b c q : Nat} (x : (⟨2, ![a, b]⟩ : Shape).Idx → α) {u : Shape} (v : u.Idx → α)
    (h : (⟨2, ![a, b]⟩ : Shape).Pads ![0, 0] ![q, 0] ![0, 0] ⟨2, ![c, b]⟩) (hu : 0 < u.numel) (i : Fin c) (j : Fin b) :
    pad ⟨2, ![c, b]⟩ ![0, 0] ![q, 0] ![0, 0] x v h hu (ix2 i j)
      = if hi : i.val < a then x (ix2 ⟨i.val, hi⟩ j) else v (Shape.Idx.first hu) := by
  by_cases hi : i.val < a
  · rw [dif_pos hi]
    exact pad_apply_of_inside _ _ _ _ _ _ _ _ (ix2 ⟨i.val, hi⟩ j) (fun d => by
      match d with
      | ⟨0, _⟩ => show i.val = 0 + i.val * (0 + 1); omega
      | ⟨1, _⟩ => show j.val = 0 + j.val * (0 + 1); omega)
  · rw [dif_neg hi]
    exact pad_apply_of_not_inside _ _ _ _ _ _ _ _ ⟨0, Nat.zero_lt_two⟩ (fun hin => hi (by
      have h3 := hin.2.2
      have e : (i.val - 0) / (0 + 1) < a := h3
      omega))

/-- A sum over padded places is the sum over the places that are not padding. -/
theorem sum_pad {n k : Nat} (h : n ≤ k) (f : Fin n → EReal) : (∑ i : Fin k, if hi : i.val < n then f ⟨i.val, hi⟩ else 0) = ∑ i : Fin n, f i := by
  obtain ⟨d, rfl⟩ := Nat.exists_eq_add_of_le h
  rw [Fin.sum_univ_add]
  simp

end Cert.IdxReads

end
-- ==== Proof.ForgetPay.lean ====
/-
  The forget gate's backward call, its body's results at an index, and the host arrays it reads.
-/
module

public import proofs.«01_k».proof.Proof.Gen.ForgetIdeal.Value
public import proofs.«01_k».proof.Proof.GateMath
public import proofs.«01_k».proof.Proof.IdxReads

@[expose] public section

set_option maxRecDepth 16384

noncomputable section

namespace Cert.ForgetIdeal.Hand

open Cert.ForgetIdeal Cert.ForgetIdeal.Gen Idealize.ShloMosaic Idealize.ShloMosaic.TcCoe Idealize.SL.Sem
open Idealize.ShloMosaic.ValueIdx Cert.IdxReads Cert.Laws Cert.GateMath
open scoped BigOperators

/-- The gradient before the gate, from the gate's input, the bias and the cotangent. -/
theorem pay1_apply (f : FVec Ideal S1024x128 .f32) (b : FVec Ideal S1x128 .f32) (y : FVec Ideal S1024x128 .f32) (i : Fin 1024) (j : Fin 128) :
    k0_pay1 (F := Ideal) f b y (ix2 i j) = y (ix2 i j) * gate (f (ix2 i j) + b (ix2 0 j)) := by
  unfold k0_pay1
  simp only [shapeCast_self]
  show y (ix2 i j) * (Ideal.ofBits .f32 0x3F800000#32 - Ideal.div (Ideal.ofBits .f32 0x3F800000#32) (Ideal.ofBits .f32 0x3F800000#32
    + Ideal.exp (Ideal.ofBits .f32 0x00000000#32 - (f (ix2 i j) + broadcastTo S1024x128 b _ (ix2 i j))))) = _
  rw [word_one, word_zero, bcastRow_apply]; rfl

/-- A block's share of the bias's gradient. -/
theorem pay3_apply (f : FVec Ideal S1024x128 .f32) (b : FVec Ideal S1x128 .f32) (y : FVec Ideal S1024x128 .f32) (j : Fin 128) :
    k0_pay3 (F := Ideal) f b y (ix2 0 j) = ∑ i : Fin 1024, y (ix2 i j) * gate (f (ix2 i j) + b (ix2 0 j)) := by
  unfold k0_pay3; dsimp only
  rw [shapeCast_b_1b_apply, colSum_apply]
  simp only [pay1_apply]

/-- The bias's gradient so far with the block's share. -/
theorem pay4_apply (f : FVec Ideal S1024x128 .f32) (b : FVec Ideal S1x128 .f32) (y : FVec Ideal S1024x128 .f32) (a : FVec Ideal S1x128 .f32) (j : Fin 128) :
    k0_pay4 (F := Ideal) f b y a (ix2 0 j) = a (ix2 0 j) + ∑ i : Fin 1024, y (ix2 i j) * gate (f (ix2 i j) + b (ix2 0 j)) := by
  unfold k0_pay4
  simp only [shapeCast_self, addf_apply, pay3_apply]

variable (m : (ℓ : Loc nD τ sig) → Buf (Elt Ideal) ℓ) (ρ : Dev nD → PrngReg)

/-- The word of zero as a number. -/
theorem sitofp_zero (i : S_.Idx) : (sitofp (F := Ideal) .f32 (constantI S_ 32 0#32)) i = (0 : EReal) := by
  show ((BitVec.toInt 0#32 : ℝ) : EReal) = 0
  simp

/-- The padded gate input the call reads, at an index. -/
theorem V_v0 (c : Dev nD) (i : Fin 8192) (j : Fin 128) : V m c main_v0 (ix2 i j)
    = if hj : j.val < 16 then m ((c : Thread nD τ).loc main_arg0) (ix2 i ⟨j.val, hj⟩) else (0 : EReal) := by
  refine (congrFun (show V m c main_v0 = pad S8192x128 ![0, 0] ![0, 112] ![0, 0] (m ((c : Thread nD τ).loc main_arg0))
      (sitofp (F := Ideal) .f32 (constantI S_ 32 0#32)) pads_S8192x16_S8192x128_000_01120 h_S_ by
    unfold_abbrev_sides
    simp only [hostOps0, hostOps0_1, hostOps0_2, hostOps0_3, hostOps0_4, hostOps0_5, List.flatten_cons, List.flatten_nil, List.append_nil,
      List.cons_append, List.nil_append]
    after_results; rfl) _).trans ?_
  refine (padCols_apply _ _ _ _ i j).trans ?_
  rw [sitofp_zero]

/-- The padded bias the call reads, at an index. -/
theorem V_v1 (c : Dev nD) (i : Fin 1) (j : Fin 128) : V m c main_v1 (ix2 i j)
    = if hj : j.val < 16 then m ((c : Thread nD τ).loc main_arg1) (ix2 i ⟨j.val, hj⟩) else (0 : EReal) := by
  refine (congrFun (show V m c main_v1 = pad S1x128 ![0, 0] ![0, 112] ![0, 0] (m ((c : Thread nD τ).loc main_arg1))
      (sitofp (F := Ideal) .f32 (constantI S_ 32 0#32)) pads_S1x16_S1x128_000_01120 h_S_ by
    unfold_abbrev_sides
    simp only [hostOps0, hostOps0_1, hostOps0_2, hostOps0_3, hostOps0_4, hostOps0_5, List.flatten_cons, List.flatten_nil, List.append_nil,
      List.cons_append, List.nil_append]
    after_results; rfl) _).trans ?_
  refine (padCols_apply _ _ _ _ i j).trans ?_
  rw [sitofp_zero]

/-- The padded, transposed cotangent the call reads, at an index. -/
theorem V_v3 (c : Dev nD) (i : Fin 8192) (j : Fin 128) : V m c main_v3 (ix2 i j)
    = if hj : j.val < 16 then m ((c : Thread nD τ).loc main_arg2) (ix2 ⟨j.val, hj⟩ i) else (0 : EReal) := by
  refine (congrFun (show V m c main_v3 = pad S8192x128 ![0, 0] ![0, 112] ![0, 0] (transpose S8192x16 [1, 0] (m ((c : Thread nD τ).loc main_arg2)) transposes_S16x8192_S8192x16_1_0)
      (sitofp (F := Ideal) .f32 (constantI S_ 32 0#32)) pads_S8192x16_S8192x128_000_01120 h_S_ by
    unfold_abbrev_sides
    simp only [hostOps0, hostOps0_1, hostOps0_2, hostOps0_3, hostOps0_4, hostOps0_5, List.flatten_cons, List.flatten_nil, List.append_nil,
      List.cons_append, List.nil_append]
    after_results; rfl) _).trans ?_
  refine (padCols_apply _ _ _ _ i j).trans ?_
  rw [sitofp_zero]
  split_ifs
  · exact transpose_apply _ _ _ _ _ (by intro d; match d with | ⟨0, _⟩ => rfl | ⟨1, _⟩ => rfl)
  · rfl

end Cert.ForgetIdeal.Hand
end
-- ==== Proof.ForgetValue.lean ====
/-
  The forget gate's backward call: its two result arrays after the run.
-/
module

public import proofs.«01_k».proof.Proof.ForgetPay
public import Idealize.ShloMosaic.Lib.Pipeline.ValueKit.Point

@[expose] public section

set_option maxRecDepth 16384

noncomputable section

namespace Cert.ForgetIdeal.Hand

open Cert.ForgetIdeal Cert.ForgetIdeal.Gen
open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2)
open Cert.GateMath
open Idealize.ShloMosaic.Pipeline (Dat)
open scoped BigOperators

variable (m : (ℓ : Loc nD τ sig) → Buf (Elt Ideal) ℓ)

/-- The three arrays the call reads. -/
def fA (c : Dev nD) : FVec Ideal S8192x128 .f32 := V m c main_v0
def bA (c : Dev nD) : FVec Ideal S1x128 .f32 := V m c main_v1
def yA (c : Dev nD) : FVec Ideal S8192x128 .f32 := V m c main_v3

/-- The gradient before the gate, from the arrays the call reads. -/
def dz (c : Dev nD) (i : Fin 8192) (j : Fin 128) : EReal :=
  yA m c (ix2 i j) * gate (fA m c (ix2 i j) + bA m c (ix2 0 j))

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)

/-- A row of a block, as a row of the array. -/
def row (t : Fin cfg0.N) (i : Fin 1024) : Fin 8192 := ⟨t.val * 1024 + i.val, by have h := Nat.lt_of_lt_of_eq t.isLt N_0; omega⟩

theorem blk0 (c : Dev nD) (t : Fin cfg0.N) (i : Fin 1024) (j : Fin 128) : iblk m c 0 t (ix2 i j) = fA m c (ix2 (row t i) j) := by
  unfold fA; blk_ext! [iblk, idx0 t, row]

theorem blk1 (c : Dev nD) (t : Fin cfg0.N) (j : Fin 128) : iblk m c 1 t (ix2 0 j) = bA m c (ix2 0 j) := by
  unfold bA; blk_ext! [iblk, idx1 t]

theorem blk2 (c : Dev nD) (t : Fin cfg0.N) (i : Fin 1024) (j : Fin 128) : iblk m c 2 t (ix2 i j) = yA m c (ix2 (row t i) j) := by
  unfold yA; blk_ext! [iblk, idx2 t, row]

/-- What point `t` leaves of the gradient before the gate. -/
theorem out3 (c : Dev nD) (t : Fin cfg0.N) (i : Fin 1024) (j : Fin 128) : (outsAt0 m c t.val t.isLt).1 (ix2 i j) = dz m c (row t i) j := by
  by_cases h : t.val % 8 = 0
  · rw [outsAt0_A m c t h (by have h := Nat.lt_of_lt_of_eq t.isLt N_0; omega)]; frame_out
    show k0_pay1 (F := Ideal) _ _ _ (ix2 i j) = _
    rw [pay1_apply, blk0, blk1, blk2]; rfl
  · rw [outsAt0_B m c t h (by omega)]; frame_out
    show k0_pay1 (F := Ideal) _ _ _ (ix2 i j) = _
    rw [pay1_apply, blk0, blk1, blk2]; rfl

/-- What the last point leaves of the bias's gradient. -/
theorem out4 (c : Dev nD) (t : Fin cfg0.N) (ht : t.val + 1 = cfg0.N) (j : Fin 128) :
    (outsAt0 m c t.val t.isLt).2 (ix2 0 j) = ∑ i : Fin 8192, dz m c i j := by
  have h := Pipeline.eq_sum_fin_of_reset_step_apply_last (fun n h => fun j : Fin 128 => (outsAt0 m c n h).2 (ix2 0 j)) 8 (fun _ => (0 : EReal))
    (fun t j => ∑ i : Fin 1024, dz m c (row t i) j)
    (fun t h j => by
      rw [outsAt0_A m c t h (by have h := Nat.lt_of_lt_of_eq t.isLt N_0; omega)]; frame_out
      rw [pay3_apply, zero_add]; exact Finset.sum_congr rfl fun i _ => by rw [blk0, blk1, blk2]; rfl)
    (fun t h j => by
      rw [outsAt0_B m c t h (by omega)]; frame_out
      rw [pay4_apply]; exact congrArg _ (Finset.sum_congr rfl fun i _ => by rw [blk0, blk1, blk2]; rfl))
    (le_of_eq N_0) t ht j
  refine h.trans ?_
  rw [zero_add]
  exact Fin.sum_mul_add_congr (S := 8) (n := 1024) (fun s k hl => rfl) rfl

/-- The array of the gradient before the gate. -/
theorem final3 (c : Dev nD) : (dats m 0 c).arrAt 3 cfg0.N = fun i : S8192x128.Idx => dz m c (i 0) (i 1) := by
  refine (dats m 0 c).arrAt_eq_of_covers 3 _ (by decide +kernel) fun t hf y => ?_
  blk_simp
  obtain ⟨a, b, rfl⟩ : ∃ a b, y = ix2 a b := ⟨y 0, y 1, eq_ix2 y⟩
  rw [after0_3, out3]
  refine congrArg₂ (dz m c) (Fin.ext ?_) (Fin.ext ?_)
  · blk_simp [idx3 t, row]
  · blk_simp [idx3 t]

/-- The array of the bias's gradient. -/
theorem final4 (c : Dev nD) : (dats m 0 c).arrAt 4 cfg0.N = fun i : S1x128.Idx => ∑ k : Fin 8192, dz m c k (i 1) := by
  refine (dats m 0 c).arrAt_eq_of_after_last 4 ⟨7, by rw [show cfg0.N = 8 from N_0]; decide⟩ (by decide +kernel) _ fun y => ?_
  obtain ⟨a, b, rfl⟩ : ∃ a b, y = ix2 a b := ⟨y 0, y 1, eq_ix2 y⟩
  obtain rfl : a = 0 := Subsingleton.elim _ _
  refine Eq.trans ?_ (out4 m c ⟨7, by rw [show cfg0.N = 8 from N_0]; decide⟩ (show 7 + 1 = cfg0.N from N_0.symm) b)
  exact congrFun (after0_4 m c _) _

end Cert.ForgetIdeal.Hand
end
-- ==== Proof.ForgetClaims.lean ====
/-
  The forget gate's reference derivative at an index, and the claim.
-/
module

public import proofs.«01_k».proof.Defs
public import proofs.«01_k».proof.Proof.Gen.ForgetRefIdeal.Read
public import Idealize.ShloMosaic.Lib.Quiescent
public import proofs.«01_k».proof.Proof.ForgetValue

@[expose] public section

set_option maxRecDepth 16384

noncomputable section

namespace Cert.ForgetRefIdeal.Hand

open Cert.ForgetRefIdeal Cert.ForgetRefIdeal.Gen Cert.ForgetRefIdeal.Read
open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2)
open Cert.GateMath Cert.IdxReads Cert.Laws

variable (f : FVec Ideal S8192x16 .f32) (b : FVec Ideal S1x16 .f32) (y : FVec Ideal S16x8192 .f32)

/-- The derivative of the logarithm of the gate, before its sign. -/
theorem v2_1_apply (i : Fin 8192) (j : Fin 16) : val_main_v2_1 (F := Ideal) f b (ix2 i j) = dsoftplus (-(f (ix2 i j) + b (ix2 0 j))) := by
  have e0 : idx_main_v0 (ix2 i j) = ix2 0 j := Shape.idx_ext₂ rfl rfl
  simp only [val_main_v0_apply, val_main_v1_apply, val_main_call0_v0_apply, val_main_call0_call0_cst_apply, val_main_call0_call0_v0_apply, val_main_call0_call0_v1_apply, val_main_call0_call0_v2_apply, val_main_call0_call0_v3_apply, val_main_call0_call0_v4_apply, val_main_call0_call0_v5_apply, val_main_call0_call0_v6_apply, val_main_call0_call0_v7_apply, val_main_call0_call0_v8_apply, val_main_call0_call0_v9_apply, val_main_call0_call0_v10_apply, val_main_call0_call0_v11_apply, val_main_call0_v1_0_apply, val_main_call0_call0_cst_0_apply, val_main_call0_call0_v13_apply, val_main_call0_call0_v14_apply, val_main_call0_call0_cst_1_apply, val_main_call0_call0_v15_apply, val_main_call0_call0_v16_apply, val_main_call0_call0_cst_2_apply, val_main_call0_call0_v17_apply, val_main_call0_call0_v18_apply, val_main_call0_call0_cst_3_apply, val_main_call0_call0_v19_apply, val_main_call0_call0_v20_apply, val_main_call0_call0_v21_apply, val_main_v2_1_apply, val_main_call0_call0_cst_4_apply, val_main_call0_call0_cst_5_apply, val_main_call0_call0_v23_apply, val_main_call0_call0_cst_6_apply, val_main_call0_call0_cst_7_apply, val_main_call0_call0_v24_apply, val_main_call0_call0_cst_8_apply, val_main_call0_call0_v25_apply, val_main_call0_call0_v26_apply, val_main_call0_call0_cst_9_apply, val_main_call0_call0_v27_apply, val_main_call0_call0_v28_apply, val_main_call0_call0_v29_apply, val_main_call0_call0_v30_apply, val_main_call0_call0_v31_apply, val_main_call0_call0_cst_10_apply, val_main_call0_call0_v32_apply, val_main_call1_v0_apply, val_main_call1_v1_apply, val_main_call2_v0_apply, val_main_call3_v0_apply, e0, Ideal.hostNegf_def, Ideal.hostUnary_exp_def, Ideal.hostUnary_log1p_def, Ideal.subf_def, Ideal.addf_def, Ideal.ofBits_def, word_zero, word_top,
    Ideal.maximumf_def, Ideal.hostAbsf_def, cmpf_une_self, Scalar.select, cmpf_oeq_iff, Ideal.negf_def, Ideal.absf_def, sub_zero,
    show ¬(0#1 : BitVec 1) = 1 by decide, if_false]
  rfl

/-- The gradient before the gate. -/
theorem v5_apply (i : Fin 8192) (j : Fin 16) : val_main_v5 (F := Ideal) f b y (ix2 i j) = y (ix2 j i) * gate (f (ix2 i j) + b (ix2 0 j)) := by
  have e4 : idx_main_v4 (ix2 i j) = ix2 j i := Shape.idx_ext₂ rfl rfl
  rw [gate_eq]
  simp only [val_main_v5_apply, val_main_call1_v1_apply, val_main_call1_v0_apply, val_main_v4_apply, e4, v2_1_apply, Ideal.hostNegf_def, Ideal.mulf_def,
    Ideal.negf_def, neg_mul, neg_neg]

/-- The first result: the gradient before the gate, padded. -/
theorem v9_apply (i : Fin 8192) (j : Fin 128) : val_main_v9 (F := Ideal) f b y (ix2 i j)
    = if hj : j.val < 16 then y (ix2 ⟨j.val, hj⟩ i) * gate (f (ix2 i ⟨j.val, hj⟩) + b (ix2 0 ⟨j.val, hj⟩)) else (0 : EReal) := by
  rw [val_main_v9_apply]
  unfold val_main_v8
  refine (padCols_apply _ _ _ _ i j).trans ?_
  simp only [v5_apply]
  split_ifs
  · rfl
  · exact Cert.ForgetIdeal.Hand.sitofp_zero _

/-- The second result: the bias's gradient, padded. -/
theorem v10_apply (j : Fin 128) : val_main_v10 (F := Ideal) f b y (ix2 0 j)
    = if hj : j.val < 16 then ∑ i : Fin 8192, y (ix2 ⟨j.val, hj⟩ i) * gate (f (ix2 i ⟨j.val, hj⟩) + b (ix2 0 ⟨j.val, hj⟩)) else (0 : EReal) := by
  have e : ∀ (k : Fin 8192) (j : Fin 16), idx_main_v6 (idx_main_v7 (ix2 0 j)) k = ix2 k j := fun k j =>
    Shape.idx_ext₂ rfl (by show 0 * 16 + j.val = j.val; omega)
  unfold val_main_v10
  refine (padCols_apply _ _ _ _ 0 j).trans ?_
  simp only [val_main_v7_apply, val_main_v6_apply, e, v5_apply, val_main_cst_apply, Ideal.ofBits_def, word_zero, zero_add]
  split_ifs
  · rfl
  · exact Cert.ForgetIdeal.Hand.sitofp_zero _

end Cert.ForgetRefIdeal.Hand

namespace Cert.ForgetClaims

open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2)
open Cert.ForgetIdeal.Hand

/-- The kernel's gradient before the gate, from the call's arguments. -/
theorem dz_eq (m : (ℓ : Loc Cert.ForgetIdeal.nD Cert.ForgetIdeal.τ Cert.ForgetIdeal.sig) → Buf (Elt Ideal) ℓ) (c : Dev Cert.ForgetIdeal.nD)
    (f : FVec Ideal Cert.ForgetIdeal.S8192x16 .f32) (hf : m ((c.tc : Thread Cert.ForgetIdeal.nD Cert.ForgetIdeal.τ).loc Cert.ForgetIdeal.main_arg0) = f)
    (b : FVec Ideal Cert.ForgetIdeal.S1x16 .f32) (hb : m ((c.tc : Thread Cert.ForgetIdeal.nD Cert.ForgetIdeal.τ).loc Cert.ForgetIdeal.main_arg1) = b)
    (y : FVec Ideal Cert.ForgetIdeal.S16x8192 .f32) (hy : m ((c.tc : Thread Cert.ForgetIdeal.nD Cert.ForgetIdeal.τ).loc Cert.ForgetIdeal.main_arg2) = y)
    (i : Fin 8192) (j : Fin 128) : dz m c i j
    = if hj : j.val < 16 then y (ix2 ⟨j.val, hj⟩ i) * Cert.GateMath.gate (f (ix2 i ⟨j.val, hj⟩) + b (ix2 0 ⟨j.val, hj⟩)) else (0 : EReal) := by
  subst hf hb hy
  unfold dz fA bA yA
  rw [V_v0, V_v1, V_v3]
  split_ifs
  · rfl
  · exact zero_mul _

/-- The forget gate's backward call computes the derivative of the gate's logarithm. -/
theorem algebraic : Cert.algebraic_ForgetIdeal_ForgetRefIdeal (hForgetIdeal := Cert.ForgetIdeal.Gen.facts) (hForgetRefIdeal := Cert.ForgetRefIdeal.Gen.facts) := by
  intro m ρ m' ρ' _ hag
  refine ⟨fun c => Cert.ForgetRefIdeal.Read.val_main_v9 (F := Ideal) (m ((c.tc : Thread Cert.ForgetIdeal.nD Cert.ForgetIdeal.τ).loc Cert.ForgetIdeal.main_arg0))
      (m ((c.tc : Thread Cert.ForgetIdeal.nD Cert.ForgetIdeal.τ).loc Cert.ForgetIdeal.main_arg1)) (m ((c.tc : Thread Cert.ForgetIdeal.nD Cert.ForgetIdeal.τ).loc Cert.ForgetIdeal.main_arg2)),
    fun c => Cert.ForgetRefIdeal.Read.val_main_v10 (F := Ideal) (m ((c.tc : Thread Cert.ForgetIdeal.nD Cert.ForgetIdeal.τ).loc Cert.ForgetIdeal.main_arg0))
      (m ((c.tc : Thread Cert.ForgetIdeal.nD Cert.ForgetIdeal.τ).loc Cert.ForgetIdeal.main_arg1)) (m ((c.tc : Thread Cert.ForgetIdeal.nD Cert.ForgetIdeal.τ).loc Cert.ForgetIdeal.main_arg2)), ?_, ?_⟩
  · refine (θ_run _ _ _).mono (fun r h c => ⟨(h c).1.trans ((final3 m c).trans (funext fun i => ?_)),
      (h c).2.1.trans ((final4 m c).trans (funext fun i => ?_)), (h c).2.2⟩) (Cert.ForgetIdeal.Value.run_blocks m ρ)
    · obtain ⟨a, b, rfl⟩ : ∃ a b, i = ix2 a b := ⟨i 0, i 1, eq_ix2 i⟩
      exact (dz_eq m c _ rfl _ rfl _ rfl a b).trans (Cert.ForgetRefIdeal.Hand.v9_apply _ _ _ a b).symm
    · obtain ⟨a, b, rfl⟩ : ∃ a b, i = ix2 a b := ⟨i 0, i 1, eq_ix2 i⟩
      obtain rfl : a = 0 := Subsingleton.elim _ _
      refine Eq.trans ?_ (Cert.ForgetRefIdeal.Hand.v10_apply _ _ _ b).symm
      show ∑ k : Fin 8192, dz m c k b = _
      by_cases hb : b.val < 16
      · rw [dif_pos hb]
        exact Finset.sum_congr rfl fun k _ => (dz_eq m c _ rfl _ rfl _ rfl k b).trans (dif_pos hb)
      · rw [dif_neg hb]
        exact Finset.sum_eq_zero fun k _ => (dz_eq m c _ rfl _ rfl _ rfl k b).trans (dif_neg hb)
  · refine (θ_run _ _ _).mono (fun r h c => ⟨(h c).1.trans ?_, (h c).2.1.trans ?_, (h c).2.2⟩) (Cert.ForgetRefIdeal.Value.run m' ρ')
    · rw [(hag c).1, (hag c).2.1, (hag c).2.2]
      exact Cert.ForgetRefIdeal.Read.val_main_v9_eq ..
    · rw [(hag c).1, (hag c).2.1, (hag c).2.2]
      exact Cert.ForgetRefIdeal.Read.val_main_v10_eq ..

/-- The reference runs and leaves its arguments and the counters as they were. -/
theorem frame_ref : Cert.quiescent_ForgetRefIdeal (hForgetRefIdeal := Cert.ForgetRefIdeal.Gen.facts) := fun m ρ _ =>
  (θ_run Cert.ForgetRefIdeal.defs _ _).mono (fun r h => ⟨fun c => (h c).2.2, sem_eq_zero_of_no_sems (by decide) r.2⟩)
    (Cert.ForgetRefIdeal.Value.run (F := Ideal) m ρ)

end Cert.ForgetClaims

end
-- ==== Proof.NormMath.lean ====
/-
  The gradient of a root-mean-square norm along one row, in extended reals. With `S = Σ x²`, `v = S / n + eps` and
  `r = 1 / √v` the kernels compute `r · (gy - x r · (Σ gy · x r) / n)`; the derivative that jax takes of `x · r · g` is
  `gy · r` plus `x · B` twice, with `B = (Σ x · gy) · (-½ · r / v) / n`. They are equal at ALL extended reals: where the
  row holds an infinity, `r` is zero and both are zero.
-/
module

public import proofs.«01_k».proof.Proof.Laws

@[expose] public section

noncomputable section

namespace Cert.NormMath

open Idealize.ShloMosaic Cert.Laws
open scoped BigOperators

/-- The reciprocal root of a row's mean square plus `eps` is a non-negative real `r`, and `r` divided by what the root
    is taken of is `r` cubed: also where the row holds an infinity (`r` is zero there). -/
theorem rsqrt_real {S : EReal} (hS : 0 ≤ S) : ∃ r : ℝ, 0 ≤ r
    ∧ Ideal.rsqrt (Ideal.div S ((1024 : ℝ) : EReal) + (eps : EReal)) = (r : EReal)
    ∧ Ideal.div (r : EReal) (Ideal.div S ((1024 : ℝ) : EReal) + (eps : EReal)) = ((r * r * r : ℝ) : EReal) := by
  rw [Ideal.div_coe (by norm_num) S]
  induction S using EReal.rec with
  | bot => exact absurd hS (by simp)
  | top =>
    have e : (⊤ : EReal) * ((1 / 1024 : ℝ) : EReal) + (eps : EReal) = ⊤ := by
      rw [EReal.top_mul_coe_of_pos (by norm_num)]; rfl
    refine ⟨0, le_refl _, ?_, ?_⟩
    · rw [e]; simp
    · rw [e]; simp [Ideal.div]
  | coe s =>
    have hs : 0 ≤ s := EReal.coe_nonneg.1 hS
    have hv : 0 < s * (1 / 1024) + eps := by have := eps_pos; positivity
    rw [← EReal.coe_mul, ← EReal.coe_add]
    refine ⟨(Real.sqrt (s * (1 / 1024) + eps))⁻¹, by positivity, ?_, ?_⟩
    · rw [Ideal.rsqrt_coe, if_neg (not_lt.2 hv.le), if_neg hv.ne']
    · rw [Ideal.div_coe hv.ne', ← EReal.coe_mul]
      congr 1
      have h1 : Real.sqrt (s * (1 / 1024) + eps) * Real.sqrt (s * (1 / 1024) + eps) = s * (1 / 1024) + eps :=
        Real.mul_self_sqrt hv.le
      have h2 : Real.sqrt (s * (1 / 1024) + eps) ≠ 0 := (Real.sqrt_pos.2 hv).ne'
      generalize Real.sqrt (s * (1 / 1024) + eps) = q at h1 h2
      rw [← h1]; field_simp

/-- The gradient of the norm at one place of a row, as the kernels write it (left) and as the derivative is printed
    (right): `x`, `gy` the place's input and scaled cotangent, `X`, `G` the row's. -/
theorem dx_eq {ι : Type} [Fintype ι] (X G : ι → EReal) (S x gy : EReal) (hS : 0 ≤ S) :
    (let v := Ideal.div S ((1024 : ℝ) : EReal) + (eps : EReal)
     let r := Ideal.rsqrt v
     r * (gy - x * r * Ideal.div (∑ k, G k * (X k * r)) ((1024 : ℝ) : EReal)))
    = (let v := Ideal.div S ((1024 : ℝ) : EReal) + (eps : EReal)
       let r := Ideal.rsqrt v
       let B := Ideal.div ((∑ k, X k * G k) * (((-(1 / 2) : ℝ) : EReal) * Ideal.div r v)) ((1024 : ℝ) : EReal)
       gy * r + x * B + B * x) := by
  obtain ⟨r, hr, e1, e2⟩ := rsqrt_real hS
  dsimp only
  rw [e1, e2]
  simp only [Ideal.div_coe (show (1024 : ℝ) ≠ 0 by norm_num)]
  have hT : ∑ k, G k * (X k * (r : EReal)) = (∑ k, X k * G k) * (r : EReal) := by
    rw [sum_mul_real hr]; exact Finset.sum_congr rfl fun k _ => by rw [mul_comm (X k) (G k), mul_assoc]
  rw [hT]
  generalize ∑ k, X k * G k = T
  have hB : T * (((-(1 / 2) : ℝ) : EReal) * ((r * r * r : ℝ) : EReal)) * ((1 / 1024 : ℝ) : EReal)
      = ((-(1 / 2) * (r * r * r) * (1 / 1024) : ℝ) : EReal) * T := by
    rw [← EReal.coe_mul, mul_assoc, ← EReal.coe_mul, mul_comm]
  rw [hB, real_mul_sub hr, mul_comm (_ * T) x, add_assoc, add_self, sub_eq_add_neg, mul_comm gy]
  congr 1
  have h1 : (r : EReal) * (x * r * (T * r * ((1 / 1024 : ℝ) : EReal)))
      = ((r * r * r * (1 / 1024) : ℝ) : EReal) * (x * T) := by
    simp only [EReal.coe_mul]; ac_rfl
  have h2 : ((2 : ℝ) : EReal) * (x * (((-(1 / 2) * (r * r * r) * (1 / 1024) : ℝ) : EReal) * T))
      = ((-(r * r * r * (1 / 1024)) : ℝ) : EReal) * (x * T) := by
    rw [mul_left_comm x, coe_mul_coe_mul]; congr 2; ring
  rw [h1, h2, EReal.coe_neg, neg_mul]

/-- A row's mean square with `eps`, and its reciprocal root. -/
def ms (X : Fin 1024 → EReal) : EReal := Ideal.div (∑ k, X k * X k) ((1024 : ℝ) : EReal) + (eps : EReal)
def rs (X : Fin 1024 → EReal) : EReal := Ideal.rsqrt (ms X)

/-- The gradient of the norm at a place of a row `X`, with the scaled cotangent `G`, as the kernels write it. -/
def dx (X G : Fin 1024 → EReal) (j : Fin 1024) : EReal :=
  rs X * (G j - X j * rs X * Ideal.div (∑ k, G k * (X k * rs X)) ((1024 : ℝ) : EReal))

/-- The gradient through the mean square, as the derivative is printed. -/
def bb (X G : Fin 1024 → EReal) : EReal :=
  Ideal.div ((∑ k, X k * G k) * (((-(1 / 2) : ℝ) : EReal) * Ideal.div (rs X) (ms X))) ((1024 : ℝ) : EReal)

theorem dx_row (X G : Fin 1024 → EReal) (j : Fin 1024) : dx X G j = G j * rs X + X j * bb X G + bb X G * X j :=
  dx_eq X G _ (X j) (G j) (Finset.sum_nonneg fun _ _ => sq_nonneg _)

end Cert.NormMath

end
-- ==== Proof.RmsMemClaims.lean ====
/-
  The memory norm's backward call: its two result arrays, index by index, are the derivative's.
-/
module

public import proofs.«01_k».proof.Defs
public import proofs.«01_k».proof.Proof.Gen.RmsMemIdeal.Value
public import proofs.«01_k».proof.Proof.Gen.RmsMemRefIdeal.Read
public import Idealize.ShloMosaic.Lib.Quiescent
public import proofs.«01_k».proof.Proof.NormMath
public import proofs.«01_k».proof.Proof.IdxReads

@[expose] public section

set_option maxRecDepth 16384

noncomputable section

namespace Cert.RmsMemIdeal.Hand

open Cert.RmsMemIdeal Cert.RmsMemIdeal.Gen Idealize.ShloMosaic Idealize.ShloMosaic.TcCoe Idealize.SL.Sem
open Idealize.ShloMosaic.ValueIdx Cert.IdxReads Cert.Laws
open Idealize.ShloMosaic.Pipeline (Dat)
open scoped BigOperators

/-- The reciprocal root of a row's mean square. -/
theorem pay1_apply (x : FVec Ideal S256x1024 .f32) (i : Fin 256) : k0_pay1 (F := Ideal) x (ix2 i 0)
    = Ideal.rsqrt (Ideal.div (∑ k : Fin 1024, x (ix2 i k) * x (ix2 i k)) ((1024 : ℝ) : EReal) + (eps : EReal)) := by
  unfold k0_pay1; dsimp only
  show Ideal.rsqrt (Ideal.div (shapeCast S256x1 _ _ (ix2 i 0)) (Ideal.ofBits .f32 0x44800000#32) + Ideal.ofBits .f32 0x358637BD#32) = _
  rw [word_1024, word_eps, shapeCast_a_a1_apply, rowSum_apply]; rfl

/-- The gradient of the input, from the input, the cotangent and the scale. -/
theorem pay3_apply (x y : FVec Ideal S256x1024 .f32) (g : FVec Ideal S1x1024 .f32) (i : Fin 256) (j : Fin 1024) :
    k0_pay3 (F := Ideal) x y g (ix2 i j) =
      (let v := Ideal.div (∑ k : Fin 1024, x (ix2 i k) * x (ix2 i k)) ((1024 : ℝ) : EReal) + (eps : EReal)
       let r := Ideal.rsqrt v
       r * (y (ix2 i j) * g (ix2 0 j) - x (ix2 i j) * r
         * Ideal.div (∑ k : Fin 1024, (y (ix2 i k) * g (ix2 0 k)) * (x (ix2 i k) * r)) ((1024 : ℝ) : EReal))) := by
  unfold k0_pay3 k0_pay2; dsimp only
  simp only [truncf_apply, mulf_apply, subf_apply, divf_apply, bcastCol_apply, bcastRow_apply, shapeCast_a_a1_apply, broadcast_apply, pay1_apply]
  rw [rowSum_apply]
  simp only [mulf_apply, bcastCol_apply, bcastRow_apply, pay1_apply]
  rw [show (Scalar.ofBits (F := Ideal) .f32 0x44800000#32) = ((1024 : ℝ) : EReal) from word_1024]

/-- The scale's gradient: the cotangent times the normalized input, summed over the rows. -/
theorem pay4_apply (x y : FVec Ideal S256x1024 .f32) (j : Fin 1024) :
    k0_pay4 (F := Ideal) x y (ix2 0 j) =
      ∑ i : Fin 256, y (ix2 i j) * (x (ix2 i j)
        * Ideal.rsqrt (Ideal.div (∑ k : Fin 1024, x (ix2 i k) * x (ix2 i k)) ((1024 : ℝ) : EReal) + (eps : EReal))) := by
  unfold k0_pay4 k0_pay2; dsimp only
  rw [shapeCast_b_1b_apply, colSum_apply]
  simp only [mulf_apply, bcastCol_apply, pay1_apply]

variable (m : (ℓ : Loc nD τ sig) → Buf (Elt Ideal) ℓ) (ρ : Dev nD → PrngReg)

/-- Each input window's one block is its whole array. -/
theorem iblk_eq (c : Dev nD) (t : Fin cfg0.N) :
    iblk m c 0 t = m ((c : Thread nD τ).loc main_arg0) ∧ iblk m c 1 t = m ((c : Thread nD τ).loc main_arg1)
      ∧ iblk m c 2 t = m ((c : Thread nD τ).loc main_arg2) := by
  have ht : t = ⟨0, by rw [show cfg0.N = 1 from N_0]; decide⟩ := Fin.ext (by have h : t.val < 1 := Nat.lt_of_lt_of_eq t.isLt N_0; show t.val = 0; omega)
  subst ht
  refine ⟨funext fun y => ?_, funext fun y => ?_, funext fun y => ?_⟩
  · show m ((c : Thread nD τ).loc main_arg0) ((win0_0.rect _).emb y) = _
    refine congrArg _ (funext fun a => Fin.ext ?_)
    exact Pipeline.Window.rect_emb_val_of_index_zero win0_0 _ a (by revert a; decide +kernel) y
  · show m ((c : Thread nD τ).loc main_arg1) ((win0_1.rect _).emb y) = _
    refine congrArg _ (funext fun a => Fin.ext ?_)
    exact Pipeline.Window.rect_emb_val_of_index_zero win0_1 _ a (by revert a; decide +kernel) y
  · show m ((c : Thread nD τ).loc main_arg2) ((win0_2.rect _).emb y) = _
    refine congrArg _ (funext fun a => Fin.ext ?_)
    exact Pipeline.Window.rect_emb_val_of_index_zero win0_2 _ a (by revert a; decide +kernel) y

/-- What the one grid point writes back of the input's gradient. -/
theorem flushed3_eq (c : Dev nD) (t : Fin cfg0.N) : (dats m 0 c).flushed 3 t
    = k0_pay3 (F := Ideal) (m ((c : Thread nD τ).loc main_arg0)) (m ((c : Thread nD τ).loc main_arg2)) (m ((c : Thread nD τ).loc main_arg1)) := by
  rw [Value.flushed3_A, ← (iblk_eq m c t).1, ← (iblk_eq m c t).2.1, ← (iblk_eq m c t).2.2]
  show out0_A_3 c (grid0.coords t) (ms0_0 t) (hs0_0 t) (ms0_1 t) (hs0_1 t) (ms0_2 t) (hs0_2 t) (ms0_3 t) (hs0_3 t) (ms0_4 t) (hs0_4 t) (hcond0_0 t) (hcond0_1 t) (iblk m c 0 t) (iblk m c 1 t) (iblk m c 2 t) = _
  unfold out0_A_3
  rw [View.read_writes_eq_canon _ _ _ (cover0_A_3 c _ _ _ _ _ _ _ _ _ _ _ _ _ _ _ _)]
  unfold kernelRun0_A; dsimp only; sl_unfold_words
  rw [View.canon_unit_zero hz2]
  simp only [View.readAt_eq_ld, ld2, (hs0_0 t).read_unread, (hs0_1 t).read_unread, (hs0_2 t).read_unread]

/-- What the one grid point writes back of the scale's gradient. -/
theorem flushed4_eq (c : Dev nD) (t : Fin cfg0.N) : (dats m 0 c).flushed 4 t
    = k0_pay4 (F := Ideal) (m ((c : Thread nD τ).loc main_arg0)) (m ((c : Thread nD τ).loc main_arg2)) := by
  rw [Value.flushed4_A, ← (iblk_eq m c t).1, ← (iblk_eq m c t).2.2]
  show out0_A_4 c (grid0.coords t) (ms0_0 t) (hs0_0 t) (ms0_1 t) (hs0_1 t) (ms0_2 t) (hs0_2 t) (ms0_3 t) (hs0_3 t) (ms0_4 t) (hs0_4 t) (hcond0_0 t) (hcond0_1 t) (iblk m c 0 t) (iblk m c 1 t) (iblk m c 2 t) = _
  unfold out0_A_4
  rw [View.read_writes_eq_canon _ _ _ (cover0_A_4 c _ _ _ _ _ _ _ _ _ _ _ _ _ _ _ _)]
  unfold kernelRun0_A; dsimp only; sl_unfold_words
  rw [View.canon_unit_zero hz2]
  simp only [View.readAt_eq_ld, ld2, (hs0_0 t).read_unread, (hs0_1 t).read_unread, (hs0_2 t).read_unread]

/-- The array of the input's gradient after the run. -/
theorem final3 (c : Dev nD) (i : S256x1024.Idx) : (dats m 0 c).arrAt 3 cfg0.N i
    = k0_pay3 (F := Ideal) (m ((c : Thread nD τ).loc main_arg0)) (m ((c : Thread nD τ).loc main_arg2)) (m ((c : Thread nD τ).loc main_arg1)) i := by
  have h := (dats m 0 c).arrAt_emb_eq_flushed 3 (Value.disjoint3) ⟨0, by rw [show cfg0.N = 1 from N_0]; decide⟩ (by decide +kernel) i
  rw [flushed3_eq] at h
  refine Eq.trans (congrArg _ ?_) h
  refine funext fun a => Fin.ext (Pipeline.Window.rect_emb_val_of_index_zero win0_3 _ a (by revert a; decide +kernel) i).symm

/-- The array of the scale's gradient after the run. -/
theorem final4 (c : Dev nD) (i : S1x1024.Idx) : (dats m 0 c).arrAt 4 cfg0.N i
    = k0_pay4 (F := Ideal) (m ((c : Thread nD τ).loc main_arg0)) (m ((c : Thread nD τ).loc main_arg2)) i := by
  have h := (dats m 0 c).arrAt_emb_eq_flushed 4 (Value.disjoint4) ⟨0, by rw [show cfg0.N = 1 from N_0]; decide⟩ (by decide +kernel) i
  rw [flushed4_eq] at h
  refine Eq.trans (congrArg _ ?_) h
  refine funext fun a => Fin.ext (Pipeline.Window.rect_emb_val_of_index_zero win0_4 _ a (by revert a; decide +kernel) i).symm

end Cert.RmsMemIdeal.Hand

namespace Cert.RmsMemRefIdeal.Hand

open Cert.RmsMemRefIdeal Cert.RmsMemRefIdeal.Gen Cert.RmsMemRefIdeal.Read
open Idealize.ShloMosaic Idealize.ShloMosaic.TcCoe Idealize.SL.Sem Idealize.ShloMosaic.ValueIdx Cert.IdxReads Cert.Laws

/-- What the reciprocal root is taken of, at a row. -/
theorem v6_apply (x : FVec Ideal S256x1024 .f32) (i : Fin 256) : val_main_v6 (F := Ideal) x (ix2 i 0)
    = Ideal.div (∑ k : Fin 1024, x (ix2 i k) * x (ix2 i k)) ((1024 : ℝ) : EReal) + (eps : EReal) := by
  have e : ∀ k, idx_main_v1 (idx_main_v2 (ix2 i 0)) k = ix2 i k := fun k => Shape.idx_ext₂ rfl rfl
  simp only [val_main_v6_apply, val_main_v5_apply, val_main_v4_apply, val_main_v3_apply, val_main_v2_apply, val_main_v1_apply,
    val_main_v0_apply, val_main_cst_apply, val_main_cst_0_apply, val_main_cst_1_apply, e]
  show Ideal.div (Ideal.ofBits .f32 0x00000000#32 + ∑ k : Fin 1024, x (ix2 i k) * x (ix2 i k)) (Ideal.ofBits .f32 0x44800000#32) + Ideal.ofBits .f32 0x358637BD#32 = _
  rw [word_zero, zero_add, word_1024, word_eps]

/-- The input's gradient of the reference, at an index. -/
theorem v34_apply (x : FVec Ideal S256x1024 .f32) (g : FVec Ideal S1x1024 .f32) (y : FVec Ideal S256x1024 .f32)
    (i : Fin 256) (j : Fin 1024) : val_main_v34 (F := Ideal) x g y (ix2 i j)
    = (let v := Ideal.div (∑ k : Fin 1024, x (ix2 i k) * x (ix2 i k)) ((1024 : ℝ) : EReal) + (eps : EReal)
       let r := Ideal.rsqrt v
       let B := Ideal.div ((∑ k, x (ix2 i k) * (y (ix2 i k) * g (ix2 0 k))) * (((-(1 / 2) : ℝ) : EReal) * Ideal.div r v)) ((1024 : ℝ) : EReal)
       y (ix2 i j) * g (ix2 0 j) * r + x (ix2 i j) * B + B * x (ix2 i j)) := by
  rw [← v6_apply x i]
  have e18 : ∀ k : Fin 1024, idx_main_v18 (ix2 i k) = ix2 0 k := fun k => Shape.idx_ext₂ rfl rfl
  have e23 : idx_main_v23 (ix2 i j) = ix2 i 0 := Shape.idx_ext₂ rfl rfl
  have e29 : ∀ k : Fin 1, idx_main_v28 (idx_main_v29 (ix2 i j)) k = ix2 i 0 := fun k => Shape.idx_ext₂ rfl (by show k.val = 0; omega)
  have e21 : ∀ k, idx_main_v21 (idx_main_v22 (ix2 i 0)) k = ix2 i k := fun k => Shape.idx_ext₂ (by show i.val * 1 + 0 = i.val; omega) rfl
  simp only [val_main_v34_apply, val_main_v33_apply, val_main_v32_apply, val_main_v31_apply, val_main_v30_apply, val_main_v29_apply,
    val_main_v28_apply, val_main_v27_apply, val_main_v26_apply, val_main_v25_apply, val_main_v24_apply, val_main_v23_apply,
    val_main_v22_apply, val_main_v21_apply, val_main_v20_apply, val_main_v19_apply, val_main_v18_apply, val_main_v10_apply,
    val_main_v9_apply, val_main_v8_apply, val_main_v7_apply, e18, e23, e29, e21]
  generalize hv : val_main_v6 (F := Ideal) x (ix2 i 0) = v
  simp only [val_main_cst_2_apply, val_main_cst_4_apply, val_main_cst_5_apply, val_main_cst_6_apply, Ideal.truncf_def, Ideal.addf_def,
    Ideal.mulf_def, Ideal.hostDivf_def, Ideal.hostUnary_rsqrt_def, Ideal.ofBits_def, word_zero, word_neg_half, word_1024, zero_add,
    Fin.sum_univ_one]

/-- The scale's gradient of the reference, at an index. -/
theorem v17_apply (x y : FVec Ideal S256x1024 .f32) (j : Fin 1024) : val_main_v17 (F := Ideal) x y (ix2 0 j)
    = ∑ i : Fin 256, x (ix2 i j)
        * Ideal.rsqrt (Ideal.div (∑ k : Fin 1024, x (ix2 i k) * x (ix2 i k)) ((1024 : ℝ) : EReal) + (eps : EReal)) * y (ix2 i j) := by
  have e16 : ∀ k, idx_main_v16 (idx_main_v17 (ix2 0 j)) k = ix2 k j := fun k => Shape.idx_ext₂ rfl (by show 0 * 1024 + j.val = j.val; omega)
  have e11 : ∀ i, idx_main_v11 (ix2 i j) = ix2 i 0 := fun i => Shape.idx_ext₂ rfl rfl
  simp only [val_main_v17_apply, val_main_v16_apply, val_main_v15_apply, val_main_v12_apply, val_main_v11_apply, val_main_v7_apply,
    val_main_cst_3_apply, e16, e11, v6_apply, Ideal.mulf_def, Ideal.hostUnary_rsqrt_def, Ideal.ofBits_def, word_zero, zero_add]

end Cert.RmsMemRefIdeal.Hand

namespace Cert.RmsMemClaims

open Idealize.ShloMosaic Idealize.ShloMosaic.TcCoe Idealize.SL.Sem Idealize.ShloMosaic.ValueIdx Cert.IdxReads Cert.Laws Cert.NormMath

/-- The memory norm's backward call computes the derivative of the norm. -/
theorem algebraic : Cert.algebraic_RmsMemIdeal_RmsMemRefIdeal (hRmsMemIdeal := Cert.RmsMemIdeal.Gen.facts) (hRmsMemRefIdeal := Cert.RmsMemRefIdeal.Gen.facts) := by
  intro m ρ m' ρ' _ hag
  refine ⟨fun c => Cert.RmsMemRefIdeal.Read.val_main_v34 (F := Ideal) (m ((c.tc : Thread Cert.RmsMemIdeal.nD Cert.RmsMemIdeal.τ).loc Cert.RmsMemIdeal.main_arg0))
      (m ((c.tc : Thread Cert.RmsMemIdeal.nD Cert.RmsMemIdeal.τ).loc Cert.RmsMemIdeal.main_arg1)) (m ((c.tc : Thread Cert.RmsMemIdeal.nD Cert.RmsMemIdeal.τ).loc Cert.RmsMemIdeal.main_arg2)),
    fun c => Cert.RmsMemRefIdeal.Read.val_main_v17 (F := Ideal) (m ((c.tc : Thread Cert.RmsMemIdeal.nD Cert.RmsMemIdeal.τ).loc Cert.RmsMemIdeal.main_arg0))
      (m ((c.tc : Thread Cert.RmsMemIdeal.nD Cert.RmsMemIdeal.τ).loc Cert.RmsMemIdeal.main_arg2)), ?_, ?_⟩
  · refine (θ_run _ _ _).mono (fun r h c => ⟨(h c).1.trans (funext fun i => ?_), (h c).2.1.trans (funext fun i => ?_), (h c).2.2⟩)
      (Cert.RmsMemIdeal.Value.run_blocks m ρ)
    · obtain ⟨a, b, rfl⟩ : ∃ a b, i = ix2 a b := ⟨i 0, i 1, eq_ix2 i⟩
      refine (Cert.RmsMemIdeal.Hand.final3 m c _).trans ((Cert.RmsMemIdeal.Hand.pay3_apply _ _ _ _ _).trans
        (Eq.trans ?_ (Cert.RmsMemRefIdeal.Hand.v34_apply _ _ _ _ _).symm))
      exact dx_eq _ _ _ _ _ (Finset.sum_nonneg fun _ _ => sq_nonneg _)
    · obtain ⟨a, b, rfl⟩ : ∃ a b, i = ix2 a b := ⟨i 0, i 1, eq_ix2 i⟩
      obtain rfl : a = 0 := Subsingleton.elim _ _
      refine (Cert.RmsMemIdeal.Hand.final4 m c _).trans ((Cert.RmsMemIdeal.Hand.pay4_apply _ _ _).trans
        (Eq.trans ?_ (Cert.RmsMemRefIdeal.Hand.v17_apply _ _ _).symm))
      exact Finset.sum_congr rfl fun i _ => mul_comm _ _
  · refine (θ_run _ _ _).mono (fun r h c => ⟨(h c).1.trans ?_, (h c).2.1.trans ?_, (h c).2.2⟩) (Cert.RmsMemRefIdeal.Value.run m' ρ')
    · rw [(hag c).1, (hag c).2.1, (hag c).2.2]
      exact Cert.RmsMemRefIdeal.Read.val_main_v34_eq ..
    · rw [(hag c).1, (hag c).2.2]
      exact Cert.RmsMemRefIdeal.Read.val_main_v17_eq ..

/-- The reference runs and leaves its arguments and the counters as they were. -/
theorem frame_ref : Cert.quiescent_RmsMemRefIdeal (hRmsMemRefIdeal := Cert.RmsMemRefIdeal.Gen.facts) := fun m ρ _ =>
  (θ_run Cert.RmsMemRefIdeal.defs _ _).mono (fun r h => ⟨fun c => (h c).2.2, sem_eq_zero_of_no_sems (by decide) r.2⟩)
    (Cert.RmsMemRefIdeal.Value.run (F := Ideal) m ρ)

end Cert.RmsMemClaims

end
-- ==== Proof.RmsPrePay.lean ====
/-
  The gate-projected norm's backward call, its body's results at an index, and the host arrays it reads.
-/
module

public import proofs.«01_k».proof.Proof.Gen.RmsPreIdeal.Value
public import Idealize.ShloMosaic.Lib.MatmulPlain
public import proofs.«01_k».proof.Proof.NormMath
public import proofs.«01_k».proof.Proof.IdxReads

@[expose] public section

set_option maxRecDepth 16384

noncomputable section

namespace Cert.RmsPreIdeal.Hand

open Cert.RmsPreIdeal Cert.RmsPreIdeal.Gen Idealize.ShloMosaic Idealize.ShloMosaic.TcCoe Idealize.SL.Sem
open Idealize.ShloMosaic.ValueIdx Cert.IdxReads Cert.Laws Cert.NormMath
open scoped BigOperators

/-- The norm's cotangent: the given one plus the projection of the gate's. -/
theorem pay2_apply (y : FVec Ideal S512x1024 .f32) (f : FVec Ideal S512x128 .bf16) (w : FVec Ideal S128x1024 .bf16) (i : Fin 512) (j : Fin 1024) :
    k0_pay2 (F := Ideal) y f w (ix2 i j) = y (ix2 i j) + ∑ k : Fin 128, f (ix2 i k) * w (ix2 k j) := by
  unfold k0_pay2
  simp only [shapeCast_self]
  refine congrArg (y (ix2 i j) + ·) ((Ideal.matmul_plain_apply _ _ _ _ i j).trans ?_)
  exact (congrArg (· + _) word_zero).trans (zero_add _)

/-- The reciprocal root of a row's mean square. -/
theorem pay3_apply (x : FVec Ideal S512x1024 .f32) (i : Fin 512) : k0_pay3 (F := Ideal) x (ix2 i 0) = rs (fun k => x (ix2 i k)) := by
  unfold k0_pay3; dsimp only
  show Ideal.rsqrt (Ideal.div (shapeCast S512x1 _ _ (ix2 i 0)) (Ideal.ofBits .f32 0x44800000#32) + Ideal.ofBits .f32 0x358637BD#32) = _
  rw [word_1024, word_eps, shapeCast_a_a1_apply, rowSum_apply]; rfl

theorem pay4_apply (x : FVec Ideal S512x1024 .f32) (i : Fin 512) (j : Fin 1024) :
    k0_pay4 (F := Ideal) x (ix2 i j) = x (ix2 i j) * rs (fun k => x (ix2 i k)) := by
  unfold k0_pay4
  rw [mulf_apply, bcastCol_apply, pay3_apply]

/-- The gradient of the input. -/
theorem pay5_apply (x y : FVec Ideal S512x1024 .f32) (f : FVec Ideal S512x128 .bf16) (w : FVec Ideal S128x1024 .bf16) (g : FVec Ideal S1x1024 .f32)
    (r : FVec Ideal S512x1024 .f32) (i : Fin 512) (j : Fin 1024) :
    k0_pay5 (F := Ideal) x y f w g r (ix2 i j) = dx (fun k => x (ix2 i k)) (fun k => k0_pay2 (F := Ideal) y f w (ix2 i k) * g (ix2 0 k)) j + r (ix2 i j) := by
  unfold k0_pay5; dsimp only
  simp only [addf_apply, mulf_apply, subf_apply, divf_apply, bcastCol_apply, bcastRow_apply, shapeCast_a_a1_apply, broadcast_apply, pay3_apply, pay4_apply]
  rw [rowSum_apply]
  simp only [mulf_apply, bcastRow_apply, pay4_apply]
  rw [show (Scalar.ofBits (F := Ideal) .f32 0x44800000#32) = ((1024 : ℝ) : EReal) from word_1024]
  rfl

/-- A block's share of the scale's gradient. -/
theorem pay6_apply (x y : FVec Ideal S512x1024 .f32) (f : FVec Ideal S512x128 .bf16) (w : FVec Ideal S128x1024 .bf16) (j : Fin 1024) :
    k0_pay6 (F := Ideal) x y f w (ix2 0 j) = ∑ i : Fin 512, k0_pay2 (F := Ideal) y f w (ix2 i j) * (x (ix2 i j) * rs (fun k => x (ix2 i k))) := by
  unfold k0_pay6; dsimp only
  rw [shapeCast_b_1b_apply, colSum_apply]
  simp only [mulf_apply, pay4_apply]

theorem pay1_apply (p a : FVec Ideal S1x1024 .f32) (j : Fin 1024) : k0_pay1 (F := Ideal) p a (ix2 0 j) = a (ix2 0 j) + p (ix2 0 j) := by
  unfold k0_pay1
  simp only [shapeCast_self, addf_apply]

variable (m : (ℓ : Loc nD τ sig) → Buf (Elt Ideal) ℓ) (ρ : Dev nD → PrngReg)

theorem sitofp_zero (i : S_.Idx) : (sitofp (F := Ideal) .bf16 (constantI S_ 32 0#32)) i = (0 : EReal) := by
  show ((BitVec.toInt 0#32 : ℝ) : EReal) = 0
  simp

/-- The padded, transposed projection the call reads, at an index. -/
theorem V_v2 (c : Dev nD) (i : Fin 128) (j : Fin 1024) : V m c main_v2 (ix2 i j)
    = if hi : i.val < 16 then m ((c : Thread nD τ).loc main_arg2) (ix2 j ⟨i.val, hi⟩) else (0 : EReal) := by
  refine (congrFun (show V m c main_v2 = pad S128x1024 ![0, 0] ![112, 0] ![0, 0] (truncf .bf16 (transpose S16x1024 [1, 0] (m ((c : Thread nD τ).loc main_arg2)) transposes_S1024x16_S16x1024_1_0) bitsLt_bf16_f32)
      (sitofp (F := Ideal) .bf16 (constantI S_ 32 0#32)) pads_S16x1024_S128x1024_01120_000 h_S_ by
    unfold_abbrev_sides
    simp only [hostOps0, hostOps0_1, hostOps0_2, hostOps0_3, List.flatten_cons, List.flatten_nil, List.append_nil,
      List.cons_append, List.nil_append]
    after_results; rfl) _).trans ?_
  refine (padRows_apply _ _ _ _ i j).trans ?_
  rw [sitofp_zero]
  split_ifs
  · exact transpose_apply _ _ _ _ _ (by intro d; match d with | ⟨0, _⟩ => rfl | ⟨1, _⟩ => rfl)
  · rfl

/-- The padded gate cotangent the call reads, at an index. -/
theorem V_v4 (c : Dev nD) (i : Fin 8192) (j : Fin 128) : V m c main_v4 (ix2 i j)
    = if hj : j.val < 16 then m ((c : Thread nD τ).loc main_arg4) (ix2 i ⟨j.val, hj⟩) else (0 : EReal) := by
  refine (congrFun (show V m c main_v4 = pad S8192x128 ![0, 0] ![0, 112] ![0, 0] (truncf .bf16 (m ((c : Thread nD τ).loc main_arg4)) bitsLt_bf16_f32)
      (sitofp (F := Ideal) .bf16 (constantI S_ 32 0#32)) pads_S8192x16_S8192x128_000_01120 h_S_ by
    unfold_abbrev_sides
    simp only [hostOps0, hostOps0_1, hostOps0_2, hostOps0_3, List.flatten_cons, List.flatten_nil, List.append_nil,
      List.cons_append, List.nil_append]
    after_results; rfl) _).trans ?_
  refine (padCols_apply _ _ _ _ i j).trans ?_
  rw [sitofp_zero]; rfl

end Cert.RmsPreIdeal.Hand
end
-- ==== Proof.RmsPreValue.lean ====
/-
  The gate-projected norm's backward call: its two result arrays after the run.
-/
module

public import proofs.«01_k».proof.Proof.RmsPrePay
public import Idealize.ShloMosaic.Lib.Pipeline.ValueKit.Point

@[expose] public section

set_option maxRecDepth 16384

noncomputable section

namespace Cert.RmsPreIdeal.Hand

open Cert.RmsPreIdeal Cert.RmsPreIdeal.Gen
open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2)
open Cert.NormMath Cert.IdxReads
open Idealize.ShloMosaic.Pipeline (Dat)
open scoped BigOperators

variable (m : (ℓ : Loc nD τ sig) → Buf (Elt Ideal) ℓ)

/-- The arrays of the call's arguments. -/
def xA (c : Dev nD) : FVec Ideal S8192x1024 .f32 := m ((c : Thread nD τ).loc main_arg0)
def gA (c : Dev nD) : FVec Ideal S1x1024 .f32 := m ((c : Thread nD τ).loc main_arg1)
def wA (c : Dev nD) : FVec Ideal S1024x16 .f32 := m ((c : Thread nD τ).loc main_arg2)
def yA (c : Dev nD) : FVec Ideal S8192x1024 .f32 := m ((c : Thread nD τ).loc main_arg3)
def fA (c : Dev nD) : FVec Ideal S8192x16 .f32 := m ((c : Thread nD τ).loc main_arg4)
def rA (c : Dev nD) : FVec Ideal S8192x1024 .f32 := m ((c : Thread nD τ).loc main_arg5)

/-- The norm's whole cotangent and the two gradients' terms. -/
def ct (c : Dev nD) (i : Fin 8192) (j : Fin 1024) : EReal := yA m c (ix2 i j) + ∑ k : Fin 16, fA m c (ix2 i k) * wA m c (ix2 j k)
def dxA (c : Dev nD) (i : Fin 8192) (j : Fin 1024) : EReal :=
  dx (fun k => xA m c (ix2 i k)) (fun k => ct m c i k * gA m c (ix2 0 k)) j + rA m c (ix2 i j)
def dg (c : Dev nD) (j : Fin 1024) (i : Fin 8192) : EReal := ct m c i j * (xA m c (ix2 i j) * rs (fun k => xA m c (ix2 i k)))

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![0, 0] := (by decide +kernel : ∀ t : Fin grid0.N, _)

/-- A row of a block, as a row of the array. -/
def row (t : Fin cfg0.N) (i : Fin 512) : Fin 8192 := ⟨t.val * 512 + i.val, by have h := Nat.lt_of_lt_of_eq t.isLt N_0; omega⟩

theorem V_arg (c : Dev nD) : V m c main_arg0 = xA m c ∧ V m c main_arg1 = gA m c ∧ V m c main_arg3 = yA m c ∧ V m c main_arg5 = rA m c := by
  refine ⟨?_, ?_, ?_, ?_⟩ <;> rfl

theorem blk0 (c : Dev nD) (t : Fin cfg0.N) (i : Fin 512) (j : Fin 1024) : iblk m c 0 t (ix2 i j) = xA m c (ix2 (row t i) j) := by
  unfold xA; blk_ext! [iblk, idx0 t, row]
theorem blk1 (c : Dev nD) (t : Fin cfg0.N) (j : Fin 1024) : iblk m c 1 t (ix2 0 j) = gA m c (ix2 0 j) := by
  unfold gA; blk_ext! [iblk, idx1 t]
theorem blk2 (c : Dev nD) (t : Fin cfg0.N) (i : Fin 512) (j : Fin 1024) : iblk m c 2 t (ix2 i j) = yA m c (ix2 (row t i) j) := by
  unfold yA; blk_ext! [iblk, idx2 t, row]
theorem blk3 (c : Dev nD) (t : Fin cfg0.N) (i : Fin 512) (j : Fin 1024) : iblk m c 3 t (ix2 i j) = rA m c (ix2 (row t i) j) := by
  unfold rA; blk_ext! [iblk, idx3 t, row]
theorem blk4 (c : Dev nD) (t : Fin cfg0.N) (i : Fin 512) (j : Fin 128) : iblk m c 4 t (ix2 i j)
    = if hj : j.val < 16 then fA m c (ix2 (row t i) ⟨j.val, hj⟩) else (0 : EReal) := by
  refine Eq.trans ?_ (V_v4 m c (row t i) j)
  blk_ext! [iblk, idx4 t, row]
theorem blk5 (c : Dev nD) (t : Fin cfg0.N) (i : Fin 128) (j : Fin 1024) : iblk m c 5 t (ix2 i j)
    = if hi : i.val < 16 then wA m c (ix2 j ⟨i.val, hi⟩) else (0 : EReal) := by
  refine Eq.trans ?_ (V_v2 m c i j)
  blk_ext! [iblk, idx5 t]

/-- The block's cotangent is the array's. -/
theorem ct_blk (c : Dev nD) (t : Fin cfg0.N) (i : Fin 512) (j : Fin 1024) :
    k0_pay2 (F := Ideal) (iblk m c 2 t) (iblk m c 4 t) (iblk m c 5 t) (ix2 i j) = ct m c (row t i) j := by
  rw [pay2_apply, blk2]
  refine congrArg (yA m c (ix2 (row t i) j) + ·) ?_
  refine Eq.trans (Finset.sum_congr rfl fun k _ => ?_) (sum_pad (by decide : 16 ≤ 128) fun k => fA m c (ix2 (row t i) k) * wA m c (ix2 j k))
  rw [blk4, blk5]
  split_ifs
  · rfl
  · exact zero_mul _

theorem pay5_blk (c : Dev nD) (t : Fin cfg0.N) (i : Fin 512) (j : Fin 1024) :
    k0_pay5 (F := Ideal) (iblk m c 0 t) (iblk m c 2 t) (iblk m c 4 t) (iblk m c 5 t) (iblk m c 1 t) (iblk m c 3 t) (ix2 i j) = dxA m c (row t i) j := by
  rw [pay5_apply, blk3]
  simp only [ct_blk, blk0, blk1]
  rfl

theorem pay6_blk (c : Dev nD) (t : Fin cfg0.N) (j : Fin 1024) :
    k0_pay6 (F := Ideal) (iblk m c 0 t) (iblk m c 2 t) (iblk m c 4 t) (iblk m c 5 t) (ix2 0 j) = ∑ i : Fin 512, dg m c j (row t i) := by
  rw [pay6_apply]
  simp only [ct_blk, blk0]
  rfl

/-- What point `t` leaves of the input's gradient. -/
theorem out6 (c : Dev nD) (t : Fin cfg0.N) (i : Fin 512) (j : Fin 1024) : (outsAt0 m c t.val t.isLt).1 (ix2 i j) = dxA m c (row t i) j := by
  by_cases h : t.val % 16 = 0
  · rw [outsAt0_A m c t h (by have h := Nat.lt_of_lt_of_eq t.isLt N_0; omega)]; frame_out
    exact pay5_blk m c t i j
  · rw [outsAt0_B m c t h (by omega)]; frame_out
    exact pay5_blk m c t i j

/-- What the last point leaves of the scale's gradient. -/
theorem out7 (c : Dev nD) (t : Fin cfg0.N) (ht : t.val + 1 = cfg0.N) (j : Fin 1024) :
    (outsAt0 m c t.val t.isLt).2 (ix2 0 j) = ∑ i : Fin 8192, dg m c j i := by
  have h := Pipeline.eq_sum_fin_of_reset_step_apply_last (fun n h => fun j : Fin 1024 => (outsAt0 m c n h).2 (ix2 0 j)) 16 (fun _ => (0 : EReal))
    (fun t j => ∑ i : Fin 512, dg m c j (row t i))
    (fun t h j => by
      rw [outsAt0_A m c t h (by have h := Nat.lt_of_lt_of_eq t.isLt N_0; omega)]; frame_out
      rw [zero_add]; exact pay6_blk m c t j)
    (fun t h j => by
      rw [outsAt0_B m c t h (by omega)]; frame_out
      exact (pay1_apply _ _ j).trans (congrArg _ (pay6_blk m c t j)))
    (le_of_eq N_0) t ht j
  refine h.trans ?_
  rw [zero_add]
  exact Fin.sum_mul_add_congr (S := 16) (n := 512) (fun s k hl => rfl) rfl

/-- The array of the input's gradient. -/
theorem final6 (c : Dev nD) : (dats m 0 c).arrAt 6 cfg0.N = fun i : S8192x1024.Idx => dxA m c (i 0) (i 1) := by
  refine (dats m 0 c).arrAt_eq_of_covers 6 _ (by decide +kernel) fun t hf y => ?_
  blk_simp
  obtain ⟨a, b, rfl⟩ : ∃ a b, y = ix2 a b := ⟨y 0, y 1, eq_ix2 y⟩
  rw [after0_6, out6]
  refine congrArg₂ (dxA m c) (Fin.ext ?_) (Fin.ext ?_)
  · blk_simp [idx6 t, row]
  · blk_simp [idx6 t]

/-- The array of the scale's gradient. -/
theorem final7 (c : Dev nD) : (dats m 0 c).arrAt 7 cfg0.N = fun i : S1x1024.Idx => ∑ k : Fin 8192, dg m c (i 1) k := by
  refine (dats m 0 c).arrAt_eq_of_after_last 7 ⟨15, by rw [show cfg0.N = 16 from N_0]; decide⟩ (by decide +kernel) _ fun y => ?_
  obtain ⟨a, b, rfl⟩ : ∃ a b, y = ix2 a b := ⟨y 0, y 1, eq_ix2 y⟩
  obtain rfl : a = 0 := Subsingleton.elim _ _
  refine Eq.trans ?_ (out7 m c ⟨15, by rw [show cfg0.N = 16 from N_0]; decide⟩ (show 15 + 1 = cfg0.N from N_0.symm) b)
  exact congrFun (after0_7 m c _) _

end Cert.RmsPreIdeal.Hand
end
-- ==== Proof.RmsPreClaims.lean ====
/-
  The gate-projected norm's reference derivative at an index, and the claim.
-/
module

public import proofs.«01_k».proof.Defs
public import proofs.«01_k».proof.Proof.Gen.RmsPreRefIdeal.Read
public import Idealize.ShloMosaic.Lib.Quiescent
public import proofs.«01_k».proof.Proof.RmsPreValue
public import proofs.«01_k».proof.Proof.Gen.RmsPreIdeal.Value

@[expose] public section

set_option maxRecDepth 16384

noncomputable section

namespace Cert.RmsPreRefIdeal.Hand

open Cert.RmsPreRefIdeal Cert.RmsPreRefIdeal.Gen Cert.RmsPreRefIdeal.Read
open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2)
open Cert.IdxReads Cert.Laws Cert.NormMath

variable (x0 : FVec Ideal S8192x1024 .f32) (x1 : FVec Ideal S1x1024 .f32) (x2 : FVec Ideal S1024x16 .f32) (x3 : FVec Ideal S8192x1024 .f32)
  (x4 : FVec Ideal S8192x16 .f32) (x5 : FVec Ideal S8192x1024 .f32)

/-- What the reciprocal root is taken of, at a row. -/
theorem v6_apply (i : Fin 8192) : val_main_v6 (F := Ideal) x0 (ix2 i 0) = ms (fun k => x0 (ix2 i k)) := by
  have e : ∀ k, idx_main_v1 (idx_main_v2 (ix2 i 0)) k = ix2 i k := fun k => Shape.idx_ext₂ rfl rfl
  simp only [val_main_v6_apply, val_main_v5_apply, val_main_v4_apply, val_main_v3_apply, val_main_v2_apply, val_main_v1_apply,
    val_main_v0_apply, val_main_cst_apply, val_main_cst_0_apply, val_main_cst_1_apply, e]
  show Ideal.div (Ideal.ofBits .f32 0x00000000#32 + ∑ k : Fin 1024, x0 (ix2 i k) * x0 (ix2 i k)) (Ideal.ofBits .f32 0x44800000#32) + Ideal.ofBits .f32 0x358637BD#32 = _
  rw [word_zero, zero_add, word_1024, word_eps]; rfl

theorem v7_apply (i : Fin 8192) : val_main_v7 (F := Ideal) x0 (ix2 i 0) = rs (fun k => x0 (ix2 i k)) :=
  congrArg Ideal.rsqrt (v6_apply x0 i)

/-- The norm's whole cotangent. -/
def ctR (i : Fin 8192) (j : Fin 1024) : EReal := x3 (ix2 i j) + ∑ k : Fin 16, x4 (ix2 i k) * x2 (ix2 j k)

theorem v17_apply (i : Fin 8192) (j : Fin 1024) : val_main_v17 (F := Ideal) x2 x3 x4 (ix2 i j) = ctR x2 x3 x4 i j := by
  have el : ∀ k, lidx_main_v16 (ix2 i j) k = ix2 i k := fun k => Shape.idx_ext₂ rfl rfl
  have er : ∀ k, ridx_main_v16 (ix2 i j) k = ix2 j k := fun k => Shape.idx_ext₂ rfl rfl
  simp only [val_main_v17_apply, val_main_v16_apply, el, er, Ideal.addf_def]; rfl

theorem v22_apply (i : Fin 8192) (j : Fin 1024) : val_main_v22 (F := Ideal) x1 x2 x3 x4 (ix2 i j) = ctR x2 x3 x4 i j * x1 (ix2 0 j) := by
  have e : idx_main_v21 (ix2 i j) = ix2 0 j := Shape.idx_ext₂ rfl rfl
  simp only [val_main_v22_apply, val_main_v21_apply, e, v17_apply, Ideal.mulf_def]

theorem v31_apply (i : Fin 8192) : val_main_v31 (F := Ideal) x0 x1 x2 x3 x4 (ix2 i 0) = bb (fun k => x0 (ix2 i k)) (fun k => ctR x2 x3 x4 i k * x1 (ix2 0 k)) := by
  have e : ∀ k, idx_main_v24 (idx_main_v25 (ix2 i 0)) k = ix2 i k := fun k => Shape.idx_ext₂ (by show i.val * 1 + 0 = i.val; omega) rfl
  simp only [val_main_v31_apply, val_main_v30_apply, val_main_v29_apply, val_main_v25_apply, val_main_v24_apply, val_main_v23_apply,
    val_main_v10_apply, val_main_v9_apply, val_main_v8_apply, e, v22_apply, v6_apply, v7_apply]
  simp only [val_main_cst_2_apply, val_main_cst_4_apply, val_main_cst_5_apply, Ideal.mulf_def, Ideal.hostDivf_def, Ideal.ofBits_def, word_zero,
    word_neg_half, word_1024, zero_add]
  rfl

/-- The input's gradient of the reference, at an index. -/
theorem v37_apply (i : Fin 8192) (j : Fin 1024) : val_main_v37 (F := Ideal) x0 x1 x2 x3 x4 x5 (ix2 i j)
    = dx (fun k => x0 (ix2 i k)) (fun k => ctR x2 x3 x4 i k * x1 (ix2 0 k)) j + x5 (ix2 i j) := by
  have e26 : idx_main_v26 (ix2 i j) = ix2 i 0 := Shape.idx_ext₂ rfl rfl
  have e33 : ∀ k : Fin 1, idx_main_v32 (idx_main_v33 (ix2 i j)) k = ix2 i 0 := fun k => Shape.idx_ext₂ rfl (by show k.val = 0; omega)
  rw [dx_row]
  simp only [val_main_v37_apply, val_main_v36_apply, val_main_v35_apply, val_main_v34_apply, val_main_v33_apply, val_main_v32_apply,
    val_main_v28_apply, val_main_v27_apply, val_main_v26_apply, e26, e33, v22_apply, v7_apply, v31_apply, val_main_cst_6_apply, Ideal.addf_def,
    Ideal.mulf_def, Ideal.ofBits_def, word_zero, zero_add, Fin.sum_univ_one]
  rw [add_assoc, add_assoc, add_comm, ← add_assoc]

/-- The scale's gradient of the reference, at an index. -/
theorem v20_apply (j : Fin 1024) : val_main_v20 (F := Ideal) x0 x2 x3 x4 (ix2 0 j)
    = ∑ i : Fin 8192, ctR x2 x3 x4 i j * (x0 (ix2 i j) * rs (fun k => x0 (ix2 i k))) := by
  have e19 : ∀ k, idx_main_v19 (idx_main_v20 (ix2 0 j)) k = ix2 k j := fun k => Shape.idx_ext₂ rfl (by show 0 * 1024 + j.val = j.val; omega)
  have e11 : ∀ i, idx_main_v11 (ix2 i j) = ix2 i 0 := fun i => Shape.idx_ext₂ rfl rfl
  simp only [val_main_v20_apply, val_main_v19_apply, val_main_v18_apply, val_main_v12_apply, val_main_v11_apply, e19, e11, v7_apply, v17_apply,
    val_main_cst_3_apply, Ideal.mulf_def, Ideal.ofBits_def, word_zero, zero_add]
  exact Finset.sum_congr rfl fun i _ => mul_comm _ _

end Cert.RmsPreRefIdeal.Hand

namespace Cert.RmsPreClaims

open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2)
open Cert.RmsPreIdeal.Hand

/-- The norm's backward call computes the derivative of the norm and its projection. -/
theorem algebraic : Cert.algebraic_RmsPreIdeal_RmsPreRefIdeal (hRmsPreIdeal := Cert.RmsPreIdeal.Gen.facts) (hRmsPreRefIdeal := Cert.RmsPreRefIdeal.Gen.facts) := by
  intro m ρ m' ρ' _ hag
  refine ⟨fun c => Cert.RmsPreRefIdeal.Read.val_main_v37 (F := Ideal) (xA m c) (gA m c) (wA m c) (yA m c) (fA m c) (rA m c),
    fun c => Cert.RmsPreRefIdeal.Read.val_main_v20 (F := Ideal) (xA m c) (wA m c) (yA m c) (fA m c), ?_, ?_⟩
  · refine (θ_run _ _ _).mono (fun r h c => ⟨(h c).1.trans ((final6 m c).trans (funext fun z => ?_)),
      (h c).2.1.trans ((final7 m c).trans (funext fun z => ?_)), (h c).2.2⟩) (Cert.RmsPreIdeal.Value.run_blocks m ρ)
    · obtain ⟨i, j, rfl⟩ : ∃ (i : Fin 8192) (j : Fin 1024), z = ix2 i j := ⟨z 0, z 1, eq_ix2 z⟩
      exact (Cert.RmsPreRefIdeal.Hand.v37_apply (xA m c) (gA m c) (wA m c) (yA m c) (fA m c) (rA m c) i j).symm
    · obtain ⟨i, j, rfl⟩ : ∃ (i : Fin 1) (j : Fin 1024), z = ix2 i j := ⟨z 0, z 1, eq_ix2 z⟩
      obtain rfl : i = 0 := Subsingleton.elim _ _
      exact (Cert.RmsPreRefIdeal.Hand.v20_apply (xA m c) (wA m c) (yA m c) (fA m c) j).symm
  · refine (θ_run _ _ _).mono (fun r h c => ⟨(h c).1.trans ?_, (h c).2.1.trans ?_, (h c).2.2⟩) (Cert.RmsPreRefIdeal.Value.run m' ρ')
    · refine (Cert.RmsPreRefIdeal.Read.val_main_v37_eq ..).trans ?_
      rw [(hag c).1, (hag c).2.1, (hag c).2.2.1, (hag c).2.2.2.1, (hag c).2.2.2.2.1, (hag c).2.2.2.2.2]; rfl
    · refine (Cert.RmsPreRefIdeal.Read.val_main_v20_eq ..).trans ?_
      rw [(hag c).1, (hag c).2.2.1, (hag c).2.2.2.1, (hag c).2.2.2.2.1]; rfl

/-- The reference runs and leaves its arguments and the counters as they were. -/
theorem frame_ref : Cert.quiescent_RmsPreRefIdeal (hRmsPreRefIdeal := Cert.RmsPreRefIdeal.Gen.facts) := fun m ρ _ =>
  (θ_run Cert.RmsPreRefIdeal.defs _ _).mono (fun r h => ⟨fun c => (h c).2.2, sem_eq_zero_of_no_sems (by decide) r.2⟩)
    (Cert.RmsPreRefIdeal.Value.run (F := Ideal) m ρ)

end Cert.RmsPreClaims

end
-- ==== Proof.RmsPairRef.lean ====
/-
  The two stacked norms' reference derivative at an index.
-/
module

public import proofs.«01_k».proof.Proof.Gen.RmsPairRefIdeal.Read
public import proofs.«01_k».proof.Proof.NormMath
public import proofs.«01_k».proof.Proof.IdxReads

@[expose] public section

set_option maxRecDepth 16384

noncomputable section

namespace Cert.RmsPairRefIdeal.Hand

open Cert.RmsPairRefIdeal Cert.RmsPairRefIdeal.Gen Cert.RmsPairRefIdeal.Read
open Idealize.ShloMosaic Idealize.ShloMosaic.TcCoe Idealize.SL.Sem
open Idealize.ShloMosaic.ValueIdx Cert.IdxReads Cert.Laws Cert.NormMath

variable (x0 x1 : FVec Ideal S8192x1024 .f32) (x2 x3 : FVec Ideal S1x1024 .f32) (x4 x5 : FVec Ideal S8192x1024 .f32)

/-- The first norm: what its reciprocal root is taken of, and the root. -/
theorem v6_apply (i : Fin 8192) : val_main_v6 (F := Ideal) x1 (ix2 i 0) = ms (fun k => x1 (ix2 i k)) := by
  have e : ∀ k, idx_main_v1 (idx_main_v2 (ix2 i 0)) k = ix2 i k := fun k => Shape.idx_ext₂ rfl rfl
  simp only [val_main_v6_apply, val_main_v5_apply, val_main_v4_apply, val_main_v3_apply, val_main_v2_apply, val_main_v1_apply,
    val_main_v0_apply, val_main_cst_apply, val_main_cst_0_apply, val_main_cst_1_apply, e]
  show Ideal.div (Ideal.ofBits .f32 0x00000000#32 + ∑ k : Fin 1024, x1 (ix2 i k) * x1 (ix2 i k)) (Ideal.ofBits .f32 0x44800000#32) + Ideal.ofBits .f32 0x358637BD#32 = _
  rw [word_zero, zero_add, word_1024, word_eps]; rfl

theorem v7_apply (i : Fin 8192) : val_main_v7 (F := Ideal) x1 (ix2 i 0) = rs (fun k => x1 (ix2 i k)) :=
  congrArg Ideal.rsqrt (v6_apply x1 i)

theorem v12_apply (i : Fin 8192) (j : Fin 1024) : val_main_v12 (F := Ideal) x1 (ix2 i j) = x1 (ix2 i j) * rs (fun k => x1 (ix2 i k)) := by
  have e : idx_main_v11 (ix2 i j) = ix2 i 0 := Shape.idx_ext₂ rfl rfl
  simp only [val_main_v12_apply, val_main_v11_apply, e, v7_apply, Ideal.mulf_def]

/-- What the second norm is taken of. -/
def mid (i : Fin 8192) (j : Fin 1024) : EReal := x0 (ix2 i j) + x1 (ix2 i j) * rs (fun k => x1 (ix2 i k)) * x2 (ix2 0 j)

theorem v15_apply (i : Fin 8192) (j : Fin 1024) : val_main_v15 (F := Ideal) x0 x1 x2 (ix2 i j) = mid x0 x1 x2 i j := by
  have e : idx_main_v13 (ix2 i j) = ix2 0 j := Shape.idx_ext₂ rfl rfl
  simp only [val_main_v15_apply, val_main_v14_apply, val_main_v13_apply, e, v12_apply, Ideal.mulf_def, Ideal.addf_def]; rfl

/-- The second norm: what its reciprocal root is taken of, and the root. -/
theorem v22_apply (i : Fin 8192) : val_main_v22 (F := Ideal) x0 x1 x2 (ix2 i 0) = ms (mid x0 x1 x2 i) := by
  have e : ∀ k, idx_main_v17 (idx_main_v18 (ix2 i 0)) k = ix2 i k := fun k => Shape.idx_ext₂ rfl rfl
  simp only [val_main_v22_apply, val_main_v21_apply, val_main_v20_apply, val_main_v19_apply, val_main_v18_apply, val_main_v17_apply,
    val_main_v16_apply, val_main_cst_3_apply, val_main_cst_4_apply, val_main_cst_5_apply, e, v15_apply]
  show Ideal.div (Ideal.ofBits .f32 0x00000000#32 + ∑ k : Fin 1024, mid x0 x1 x2 i k * mid x0 x1 x2 i k) (Ideal.ofBits .f32 0x44800000#32) + Ideal.ofBits .f32 0x358637BD#32 = _
  rw [word_zero, zero_add, word_1024, word_eps]; rfl

theorem v23_apply (i : Fin 8192) : val_main_v23 (F := Ideal) x0 x1 x2 (ix2 i 0) = rs (mid x0 x1 x2 i) :=
  congrArg Ideal.rsqrt (v22_apply x0 x1 x2 i)

/-- The second norm's scale's gradient. -/
theorem v33_apply (j : Fin 1024) : val_main_v33 (F := Ideal) x0 x1 x2 x4 (ix2 0 j)
    = ∑ i : Fin 8192, x4 (ix2 i j) * (mid x0 x1 x2 i j * rs (mid x0 x1 x2 i)) := by
  have e : ∀ k, idx_main_v32 (idx_main_v33 (ix2 0 j)) k = ix2 k j := fun k => Shape.idx_ext₂ rfl (by show 0 * 1024 + j.val = j.val; omega)
  have e27 : ∀ i, idx_main_v27 (ix2 i j) = ix2 i 0 := fun i => Shape.idx_ext₂ rfl rfl
  simp only [val_main_v33_apply, val_main_v32_apply, val_main_v31_apply, val_main_v28_apply, val_main_v27_apply, e, e27, v23_apply, v15_apply,
    val_main_cst_7_apply, Ideal.mulf_def, Ideal.ofBits_def, word_zero, zero_add]
  exact Finset.sum_congr rfl fun i _ => mul_comm _ _

theorem v35_apply (i : Fin 8192) (j : Fin 1024) : val_main_v35 (F := Ideal) x3 x4 (ix2 i j) = x4 (ix2 i j) * x3 (ix2 0 j) := by
  have e : idx_main_v34 (ix2 i j) = ix2 0 j := Shape.idx_ext₂ rfl rfl
  simp only [val_main_v35_apply, val_main_v34_apply, e, Ideal.mulf_def]

theorem v44_apply (i : Fin 8192) : val_main_v44 (F := Ideal) x0 x1 x2 x3 x4 (ix2 i 0) = bb (mid x0 x1 x2 i) (fun k => x4 (ix2 i k) * x3 (ix2 0 k)) := by
  have e : ∀ k, idx_main_v37 (idx_main_v38 (ix2 i 0)) k = ix2 i k := fun k => Shape.idx_ext₂ (by show i.val * 1 + 0 = i.val; omega) rfl
  simp only [val_main_v44_apply, val_main_v43_apply, val_main_v42_apply, val_main_v38_apply, val_main_v37_apply, val_main_v36_apply,
    val_main_v26_apply, val_main_v25_apply, val_main_v24_apply, e, v15_apply, v35_apply, v22_apply, v23_apply]
  simp only [val_main_cst_6_apply, val_main_cst_8_apply, val_main_cst_9_apply, Ideal.mulf_def, Ideal.hostDivf_def, Ideal.ofBits_def, word_zero,
    word_neg_half, word_1024, zero_add]
  rfl

/-- The gradient of what the second norm is taken of, with the residual's. -/
def dmid (i : Fin 8192) (j : Fin 1024) : EReal := dx (mid x0 x1 x2 i) (fun k => x4 (ix2 i k) * x3 (ix2 0 k)) j + x5 (ix2 i j)

theorem v50_apply (i : Fin 8192) (j : Fin 1024) : val_main_v50 (F := Ideal) x0 x1 x2 x3 x4 x5 (ix2 i j) = dmid x0 x1 x2 x3 x4 x5 i j := by
  have e39 : idx_main_v39 (ix2 i j) = ix2 i 0 := Shape.idx_ext₂ rfl rfl
  have e46 : ∀ k : Fin 1, idx_main_v45 (idx_main_v46 (ix2 i j)) k = ix2 i 0 := fun k => Shape.idx_ext₂ rfl (by show k.val = 0; omega)
  unfold dmid
  rw [dx_row]
  simp only [val_main_v50_apply, val_main_v49_apply, val_main_v48_apply, val_main_v47_apply, val_main_v46_apply, val_main_v45_apply,
    val_main_v41_apply, val_main_v40_apply, val_main_v39_apply, e39, e46, v35_apply, v15_apply, v23_apply, v44_apply, val_main_cst_10_apply, Ideal.addf_def,
    Ideal.mulf_def, Ideal.ofBits_def, word_zero, zero_add, Fin.sum_univ_one]
  rw [add_assoc, add_assoc, add_comm, ← add_assoc]

theorem v51_apply (i : Fin 8192) (j : Fin 1024) : val_main_v51 (F := Ideal) x0 x1 x2 x3 x4 x5 (ix2 i j) = dmid x0 x1 x2 x3 x4 x5 i j := by
  have e : idx_main_v51 (ix2 i j) = ix2 i j := Shape.idx_ext₂ (by show (i.val * 1024 + j.val) / 1024 = i.val; omega) (by show (i.val * 1024 + j.val) % 1024 = j.val; omega)
  rw [val_main_v51_apply, e, v50_apply]

/-- The first norm's scale's gradient. -/
theorem v54_apply (j : Fin 1024) : val_main_v54 (F := Ideal) x0 x1 x2 x3 x4 x5 (ix2 0 j)
    = ∑ i : Fin 8192, dmid x0 x1 x2 x3 x4 x5 i j * (x1 (ix2 i j) * rs (fun k => x1 (ix2 i k))) := by
  have e : ∀ k, idx_main_v53 (idx_main_v54 (ix2 0 j)) k = ix2 k j := fun k => Shape.idx_ext₂ rfl (by show 0 * 1024 + j.val = j.val; omega)
  simp only [val_main_v54_apply, val_main_v53_apply, val_main_v52_apply, e, v12_apply, v51_apply,
    val_main_cst_11_apply, Ideal.mulf_def, Ideal.ofBits_def, word_zero, zero_add]
  exact Finset.sum_congr rfl fun i _ => mul_comm _ _

theorem v56_apply (i : Fin 8192) (j : Fin 1024) : val_main_v56 (F := Ideal) x0 x1 x2 x3 x4 x5 (ix2 i j) = dmid x0 x1 x2 x3 x4 x5 i j * x2 (ix2 0 j) := by
  have e : idx_main_v55 (ix2 i j) = ix2 0 j := Shape.idx_ext₂ rfl rfl
  simp only [val_main_v56_apply, val_main_v55_apply, e, v51_apply, Ideal.mulf_def]

theorem v64_apply (i : Fin 8192) : val_main_v64 (F := Ideal) x0 x1 x2 x3 x4 x5 (ix2 i 0)
    = bb (fun k => x1 (ix2 i k)) (fun k => dmid x0 x1 x2 x3 x4 x5 i k * x2 (ix2 0 k)) := by
  have e : ∀ k, idx_main_v58 (idx_main_v59 (ix2 i 0)) k = ix2 i k := fun k => Shape.idx_ext₂ (by show i.val * 1 + 0 = i.val; omega) rfl
  simp only [val_main_v64_apply, val_main_v63_apply, val_main_v62_apply, val_main_v59_apply, val_main_v58_apply, val_main_v57_apply,
    val_main_v10_apply, val_main_v9_apply, val_main_v8_apply, e, v56_apply, v6_apply, v7_apply]
  simp only [val_main_cst_2_apply, val_main_cst_12_apply, val_main_cst_13_apply, Ideal.mulf_def, Ideal.hostDivf_def, Ideal.ofBits_def, word_zero,
    word_neg_half, word_1024, zero_add]
  rfl

/-- The gradient of the first norm's input. -/
theorem v71_apply (i : Fin 8192) (j : Fin 1024) : val_main_v71 (F := Ideal) x0 x1 x2 x3 x4 x5 (ix2 i j)
    = dx (fun k => x1 (ix2 i k)) (fun k => dmid x0 x1 x2 x3 x4 x5 i k * x2 (ix2 0 k)) j := by
  have e60 : idx_main_v60 (ix2 i j) = ix2 i 0 := Shape.idx_ext₂ rfl rfl
  have e66 : ∀ k : Fin 1, idx_main_v65 (idx_main_v66 (ix2 i j)) k = ix2 i 0 := fun k => Shape.idx_ext₂ rfl (by show k.val = 0; omega)
  rw [dx_row]
  simp only [val_main_v71_apply, val_main_v70_apply, val_main_v69_apply, val_main_v68_apply, val_main_v67_apply, val_main_v66_apply, val_main_v65_apply,
    val_main_v61_apply, val_main_v60_apply, e60, e66, v56_apply, v7_apply, v64_apply, val_main_cst_14_apply, Ideal.addf_def,
    Ideal.mulf_def, Ideal.truncf_def, Ideal.ofBits_def, word_zero, zero_add, Fin.sum_univ_one]

end Cert.RmsPairRefIdeal.Hand

end
-- ==== Proof.RmsPairPay.lean ====
/-
  The two stacked norms' backward call, its body's results at an index, and the host array it reads.
-/
module

public import proofs.«01_k».proof.Proof.Gen.RmsPairIdeal.Value
public import proofs.«01_k».proof.Proof.RmsPairRef

@[expose] public section

set_option maxRecDepth 16384

noncomputable section

namespace Cert.RmsPairIdeal.Hand

open Cert.RmsPairIdeal Cert.RmsPairIdeal.Gen Idealize.ShloMosaic Idealize.ShloMosaic.TcCoe Idealize.SL.Sem
open Idealize.ShloMosaic.ValueIdx Cert.IdxReads Cert.Laws Cert.NormMath
open scoped BigOperators

/-- The second norm's reciprocal root of a row's mean square. -/
theorem pay8_apply (x : FVec Ideal S512x1024 .f32) (i : Fin 512) : k0_pay8 (F := Ideal) x (ix2 i 0) = rs (fun k => x (ix2 i k)) := by
  unfold k0_pay8 k0_pay7; dsimp only
  simp only [shapeCast_self]
  show Ideal.rsqrt (Ideal.div (shapeCast S512x1 _ _ (ix2 i 0)) (Ideal.ofBits .f32 0x44800000#32) + Ideal.ofBits .f32 0x358637BD#32) = _
  rw [word_1024, word_eps, shapeCast_a_a1_apply, rowSum_apply]; rfl

theorem pay9_apply (x : FVec Ideal S512x1024 .f32) (i : Fin 512) (j : Fin 1024) :
    k0_pay9 (F := Ideal) x (ix2 i j) = x (ix2 i j) * rs (fun k => x (ix2 i k)) := by
  unfold k0_pay9 k0_pay7
  simp only [shapeCast_self]
  rw [mulf_apply, bcastCol_apply, pay8_apply]

/-- A block's share of the second norm's scale's gradient. -/
theorem pay10_apply (x y : FVec Ideal S512x1024 .f32) (j : Fin 1024) :
    k0_pay10 (F := Ideal) x y (ix2 0 j) = ∑ i : Fin 512, y (ix2 i j) * (x (ix2 i j) * rs (fun k => x (ix2 i k))) := by
  unfold k0_pay10; dsimp only
  rw [shapeCast_b_1b_apply, colSum_apply]
  simp only [mulf_apply, pay9_apply]

/-- The gradient of what the second norm is taken of, with the residual's. -/
theorem pay11_apply (x y : FVec Ideal S512x1024 .f32) (g : FVec Ideal S1x1024 .f32) (r : FVec Ideal S512x1024 .f32) (i : Fin 512) (j : Fin 1024) :
    k0_pay11 (F := Ideal) x y g r (ix2 i j) = dx (fun k => x (ix2 i k)) (fun k => y (ix2 i k) * g (ix2 0 k)) j + r (ix2 i j) := by
  unfold k0_pay11; dsimp only
  simp only [addf_apply, mulf_apply, subf_apply, divf_apply, bcastCol_apply, bcastRow_apply, shapeCast_a_a1_apply, broadcast_apply, pay8_apply, pay9_apply]
  rw [rowSum_apply]
  simp only [mulf_apply, bcastRow_apply, pay9_apply]
  rw [show (Scalar.ofBits (F := Ideal) .f32 0x44800000#32) = ((1024 : ℝ) : EReal) from word_1024]
  rfl

/-- The first norm's reciprocal root of a row's mean square. -/
theorem pay1_apply (x : FVec Ideal S512x1024 .f32) (i : Fin 512) : k0_pay1 (F := Ideal) (k0_pay12 (F := Ideal) x) (ix2 i 0) = rs (fun k => x (ix2 i k)) := by
  unfold k0_pay1 k0_pay12; dsimp only
  show Ideal.rsqrt (Ideal.div (shapeCast S512x1 _ _ (ix2 i 0)) (Ideal.ofBits .f32 0x44800000#32) + Ideal.ofBits .f32 0x358637BD#32) = _
  rw [word_1024, word_eps, shapeCast_a_a1_apply, rowSum_apply]; rfl

theorem pay2_apply (x : FVec Ideal S512x1024 .f32) (i : Fin 512) (j : Fin 1024) :
    k0_pay2 (F := Ideal) x (k0_pay12 (F := Ideal) x) (ix2 i j) = x (ix2 i j) * rs (fun k => x (ix2 i k)) := by
  unfold k0_pay2
  rw [mulf_apply, bcastCol_apply, pay1_apply]

/-- A block's share of the first norm's scale's gradient. -/
theorem pay3_apply (p x : FVec Ideal S512x1024 .f32) (j : Fin 1024) :
    k0_pay3 (F := Ideal) p x (k0_pay12 (F := Ideal) x) (ix2 0 j) = ∑ i : Fin 512, p (ix2 i j) * (x (ix2 i j) * rs (fun k => x (ix2 i k))) := by
  unfold k0_pay3; dsimp only
  rw [shapeCast_b_1b_apply, colSum_apply]
  simp only [mulf_apply, pay2_apply]

/-- The gradient of the first norm's input. -/
theorem pay4_apply (p x : FVec Ideal S512x1024 .f32) (g : FVec Ideal S1x1024 .f32) (i : Fin 512) (j : Fin 1024) :
    k0_pay4 (F := Ideal) p x g (k0_pay12 (F := Ideal) x) (ix2 i j) = dx (fun k => x (ix2 i k)) (fun k => p (ix2 i k) * g (ix2 0 k)) j := by
  unfold k0_pay4; dsimp only
  simp only [truncf_apply, mulf_apply, subf_apply, divf_apply, bcastCol_apply, bcastRow_apply, shapeCast_a_a1_apply, broadcast_apply, pay1_apply, pay2_apply]
  rw [rowSum_apply]
  simp only [mulf_apply, bcastRow_apply, pay2_apply]
  rw [show (Scalar.ofBits (F := Ideal) .f32 0x44800000#32) = ((1024 : ℝ) : EReal) from word_1024]
  rfl

theorem pay5_apply (p a : FVec Ideal S1x1024 .f32) (j : Fin 1024) : k0_pay5 (F := Ideal) p a (ix2 0 j) = a (ix2 0 j) + p (ix2 0 j) := by
  unfold k0_pay5
  simp only [shapeCast_self, addf_apply]

theorem pay6_apply (p x : FVec Ideal S512x1024 .f32) (a : FVec Ideal S1x1024 .f32) (j : Fin 1024) :
    k0_pay6 (F := Ideal) p x (k0_pay12 (F := Ideal) x) a (ix2 0 j) = a (ix2 0 j) + k0_pay3 (F := Ideal) p x (k0_pay12 (F := Ideal) x) (ix2 0 j) := by
  unfold k0_pay6
  simp only [shapeCast_self, addf_apply]

variable (m : (ℓ : Loc nD τ sig) → Buf (Elt Ideal) ℓ) (ρ : Dev nD → PrngReg)

/-- The arrays of the call's arguments. -/
def xA (c : Dev nD) : FVec Ideal S8192x1024 .f32 := m ((c : Thread nD τ).loc main_arg0)
def yA (c : Dev nD) : FVec Ideal S8192x1024 .f32 := m ((c : Thread nD τ).loc main_arg1)
def gA (c : Dev nD) : FVec Ideal S1x1024 .f32 := m ((c : Thread nD τ).loc main_arg2)
def qA (c : Dev nD) : FVec Ideal S1x1024 .f32 := m ((c : Thread nD τ).loc main_arg3)
def hA (c : Dev nD) : FVec Ideal S8192x1024 .f32 := m ((c : Thread nD τ).loc main_arg4)
def oA (c : Dev nD) : FVec Ideal S8192x1024 .f32 := m ((c : Thread nD τ).loc main_arg5)

/-- What the second norm is taken of, as the host computes it before the call. -/
theorem V_v12 (c : Dev nD) (i : Fin 8192) (j : Fin 1024) : V m c main_v12 (ix2 i j) = Cert.RmsPairRefIdeal.Hand.mid (xA m c) (yA m c) (gA m c) i j := by
  refine (congrFun (show V m c main_v12 = Cert.RmsPairRefIdeal.Read.val_main_v15 (F := Ideal) (xA m c) (yA m c) (gA m c) by
    unfold_abbrev_sides
    simp only [hostOps0, List.flatten_cons, List.flatten_nil, List.append_nil, List.cons_append, List.nil_append]
    after_results; rfl) _).trans ?_
  exact Cert.RmsPairRefIdeal.Hand.v15_apply _ _ _ i j

end Cert.RmsPairIdeal.Hand
end
-- ==== Proof.RmsPairValue.lean ====
/-
  The two stacked norms' backward call: its four result arrays after the run.
-/
module

public import proofs.«01_k».proof.Proof.RmsPairPay
public import Idealize.ShloMosaic.Lib.Pipeline.ValueKit.Point

@[expose] public section

set_option maxRecDepth 16384

noncomputable section

namespace Cert.RmsPairIdeal.Hand

open Cert.RmsPairIdeal Cert.RmsPairIdeal.Gen
open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2)
open Cert.NormMath Cert.IdxReads
open Cert.RmsPairRefIdeal.Hand (mid dmid)
open Idealize.ShloMosaic.Pipeline (Dat)
open scoped BigOperators

variable (m : (ℓ : Loc nD τ sig) → Buf (Elt Ideal) ℓ)

/-- The gradients the four results hold. -/
def md (c : Dev nD) (i : Fin 8192) (j : Fin 1024) : EReal := mid (xA m c) (yA m c) (gA m c) i j
def dm (c : Dev nD) (i : Fin 8192) (j : Fin 1024) : EReal := dmid (xA m c) (yA m c) (gA m c) (qA m c) (hA m c) (oA m c) i j
def dy (c : Dev nD) (i : Fin 8192) (j : Fin 1024) : EReal := dx (fun k => yA m c (ix2 i k)) (fun k => dm m c i k * gA m c (ix2 0 k)) j
def dq (c : Dev nD) (j : Fin 1024) (i : Fin 8192) : EReal := hA m c (ix2 i j) * (md m c i j * rs (md m c i))
def dp (c : Dev nD) (j : Fin 1024) (i : Fin 8192) : EReal := dm m c i j * (yA m c (ix2 i j) * rs (fun k => yA m c (ix2 i k)))

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)

/-- A row of a block, as a row of the array. -/
def row (t : Fin cfg0.N) (i : Fin 512) : Fin 8192 := ⟨t.val * 512 + i.val, by have h := Nat.lt_of_lt_of_eq t.isLt N_0; omega⟩

theorem blk0 (c : Dev nD) (t : Fin cfg0.N) (i : Fin 512) (j : Fin 1024) : iblk m c 0 t (ix2 i j) = md m c (row t i) j := by
  refine Eq.trans ?_ (V_v12 m c (row t i) j)
  blk_ext! [iblk, idx0 t, row]
theorem blk1 (c : Dev nD) (t : Fin cfg0.N) (i : Fin 512) (j : Fin 1024) : iblk m c 1 t (ix2 i j) = hA m c (ix2 (row t i) j) := by
  unfold hA; blk_ext! [iblk, idx1 t, row]
theorem blk2 (c : Dev nD) (t : Fin cfg0.N) (i : Fin 512) (j : Fin 1024) : iblk m c 2 t (ix2 i j) = oA m c (ix2 (row t i) j) := by
  unfold oA; blk_ext! [iblk, idx2 t, row]
theorem blk3 (c : Dev nD) (t : Fin cfg0.N) (j : Fin 1024) : iblk m c 3 t (ix2 0 j) = qA m c (ix2 0 j) := by
  unfold qA; blk_ext! [iblk, idx3 t]
theorem blk4 (c : Dev nD) (t : Fin cfg0.N) (i : Fin 512) (j : Fin 1024) : iblk m c 4 t (ix2 i j) = yA m c (ix2 (row t i) j) := by
  unfold yA; blk_ext! [iblk, idx4 t, row]
theorem blk5 (c : Dev nD) (t : Fin cfg0.N) (j : Fin 1024) : iblk m c 5 t (ix2 0 j) = gA m c (ix2 0 j) := by
  unfold gA; blk_ext! [iblk, idx5 t]

/-- The block's gradients are the arrays'. -/
theorem pay11_blk (c : Dev nD) (t : Fin cfg0.N) (i : Fin 512) (j : Fin 1024) :
    k0_pay11 (F := Ideal) (iblk m c 0 t) (iblk m c 1 t) (iblk m c 3 t) (iblk m c 2 t) (ix2 i j) = dm m c (row t i) j := by
  rw [pay11_apply, blk2]
  simp only [blk0, blk1, blk3]
  rfl

theorem pay4_blk (c : Dev nD) (t : Fin cfg0.N) (i : Fin 512) (j : Fin 1024) :
    k0_pay4 (F := Ideal) (k0_pay11 (F := Ideal) (iblk m c 0 t) (iblk m c 1 t) (iblk m c 3 t) (iblk m c 2 t)) (iblk m c 4 t) (iblk m c 5 t)
      (k0_pay12 (F := Ideal) (iblk m c 4 t)) (ix2 i j) = dy m c (row t i) j := by
  rw [pay4_apply]
  simp only [pay11_blk, blk4, blk5]
  rfl

theorem pay10_blk (c : Dev nD) (t : Fin cfg0.N) (j : Fin 1024) :
    k0_pay10 (F := Ideal) (iblk m c 0 t) (iblk m c 1 t) (ix2 0 j) = ∑ i : Fin 512, dq m c j (row t i) := by
  rw [pay10_apply]
  simp only [blk0, blk1]
  rfl

theorem pay3_blk (c : Dev nD) (t : Fin cfg0.N) (j : Fin 1024) :
    k0_pay3 (F := Ideal) (k0_pay11 (F := Ideal) (iblk m c 0 t) (iblk m c 1 t) (iblk m c 3 t) (iblk m c 2 t)) (iblk m c 4 t)
      (k0_pay12 (F := Ideal) (iblk m c 4 t)) (ix2 0 j) = ∑ i : Fin 512, dp m c j (row t i) := by
  rw [pay3_apply]
  simp only [pay11_blk, blk4]
  rfl

/-- What point `t` leaves of the two inputs' gradients. -/
theorem out6 (c : Dev nD) (t : Fin cfg0.N) (i : Fin 512) (j : Fin 1024) : (outsAt0 m c t.val t.isLt).1 (ix2 i j) = dm m c (row t i) j := by
  by_cases h : t.val % 16 = 0
  · rw [outsAt0_A m c t h (by have h := Nat.lt_of_lt_of_eq t.isLt N_0; omega)]; frame_out
    exact pay11_blk m c t i j
  · rw [outsAt0_B m c t h (by omega)]; frame_out
    exact pay11_blk m c t i j

theorem out7 (c : Dev nD) (t : Fin cfg0.N) (i : Fin 512) (j : Fin 1024) : (outsAt0 m c t.val t.isLt).2.1 (ix2 i j) = dy m c (row t i) j := by
  by_cases h : t.val % 16 = 0
  · rw [outsAt0_A m c t h (by have h := Nat.lt_of_lt_of_eq t.isLt N_0; omega)]; frame_out
    exact pay4_blk m c t i j
  · rw [outsAt0_B m c t h (by omega)]; frame_out
    exact pay4_blk m c t i j

/-- What the last point leaves of the two scales' gradients. -/
theorem out8 (c : Dev nD) (t : Fin cfg0.N) (ht : t.val + 1 = cfg0.N) (j : Fin 1024) :
    (outsAt0 m c t.val t.isLt).2.2.1 (ix2 0 j) = ∑ i : Fin 8192, dq m c j i := by
  have h := Pipeline.eq_sum_fin_of_reset_step_apply_last (fun n h => fun j : Fin 1024 => (outsAt0 m c n h).2.2.1 (ix2 0 j)) 16 (fun _ => (0 : EReal))
    (fun t j => ∑ i : Fin 512, dq m c j (row t i))
    (fun t h j => by
      rw [outsAt0_A m c t h (by have h := Nat.lt_of_lt_of_eq t.isLt N_0; omega)]; frame_out
      rw [zero_add]; exact pay10_blk m c t j)
    (fun t h j => by
      rw [outsAt0_B m c t h (by omega)]; frame_out
      exact (pay5_apply _ _ j).trans (congrArg _ (pay10_blk m c t j)))
    (le_of_eq N_0) t ht j
  refine h.trans ?_
  rw [zero_add]
  exact Fin.sum_mul_add_congr (S := 16) (n := 512) (fun s k hl => rfl) rfl

theorem out9 (c : Dev nD) (t : Fin cfg0.N) (ht : t.val + 1 = cfg0.N) (j : Fin 1024) :
    (outsAt0 m c t.val t.isLt).2.2.2 (ix2 0 j) = ∑ i : Fin 8192, dp m c j i := by
  have h := Pipeline.eq_sum_fin_of_reset_step_apply_last (fun n h => fun j : Fin 1024 => (outsAt0 m c n h).2.2.2 (ix2 0 j)) 16 (fun _ => (0 : EReal))
    (fun t j => ∑ i : Fin 512, dp m c j (row t i))
    (fun t h j => by
      rw [outsAt0_A m c t h (by have h := Nat.lt_of_lt_of_eq t.isLt N_0; omega)]; frame_out
      rw [zero_add]; exact pay3_blk m c t j)
    (fun t h j => by
      rw [outsAt0_B m c t h (by omega)]; frame_out
      exact (pay6_apply _ _ _ j).trans (congrArg _ (pay3_blk m c t j)))
    (le_of_eq N_0) t ht j
  refine h.trans ?_
  rw [zero_add]
  exact Fin.sum_mul_add_congr (S := 16) (n := 512) (fun s k hl => rfl) rfl

/-- The four arrays after the run. -/
theorem final6 (c : Dev nD) : (dats m 0 c).arrAt 6 cfg0.N = fun i : S8192x1024.Idx => dm m c (i 0) (i 1) := by
  refine (dats m 0 c).arrAt_eq_of_covers 6 _ (by decide +kernel) fun t hf y => ?_
  blk_simp
  obtain ⟨a, b, rfl⟩ : ∃ a b, y = ix2 a b := ⟨y 0, y 1, eq_ix2 y⟩
  rw [after0_6, out6]
  refine congrArg₂ (dm m c) (Fin.ext ?_) (Fin.ext ?_)
  · blk_simp [idx6 t, row]
  · blk_simp [idx6 t]

theorem final7 (c : Dev nD) : (dats m 0 c).arrAt 7 cfg0.N = fun i : S8192x1024.Idx => dy m c (i 0) (i 1) := by
  refine (dats m 0 c).arrAt_eq_of_covers 7 _ (by decide +kernel) fun t hf y => ?_
  blk_simp
  obtain ⟨a, b, rfl⟩ : ∃ a b, y = ix2 a b := ⟨y 0, y 1, eq_ix2 y⟩
  rw [after0_7, out7]
  refine congrArg₂ (dy m c) (Fin.ext ?_) (Fin.ext ?_)
  · blk_simp [idx7 t, row]
  · blk_simp [idx7 t]

theorem final8 (c : Dev nD) : (dats m 0 c).arrAt 8 cfg0.N = fun i : S1x1024.Idx => ∑ k : Fin 8192, dq m c (i 1) k := by
  refine (dats m 0 c).arrAt_eq_of_after_last 8 ⟨15, by rw [show cfg0.N = 16 from N_0]; decide⟩ (by decide +kernel) _ fun y => ?_
  obtain ⟨a, b, rfl⟩ : ∃ a b, y = ix2 a b := ⟨y 0, y 1, eq_ix2 y⟩
  obtain rfl : a = 0 := Subsingleton.elim _ _
  refine Eq.trans ?_ (out8 m c ⟨15, by rw [show cfg0.N = 16 from N_0]; decide⟩ (show 15 + 1 = cfg0.N from N_0.symm) b)
  exact congrFun (after0_8 m c _) _

theorem final9 (c : Dev nD) : (dats m 0 c).arrAt 9 cfg0.N = fun i : S1x1024.Idx => ∑ k : Fin 8192, dp m c (i 1) k := by
  refine (dats m 0 c).arrAt_eq_of_after_last 9 ⟨15, by rw [show cfg0.N = 16 from N_0]; decide⟩ (by decide +kernel) _ fun y => ?_
  obtain ⟨a, b, rfl⟩ : ∃ a b, y = ix2 a b := ⟨y 0, y 1, eq_ix2 y⟩
  obtain rfl : a = 0 := Subsingleton.elim _ _
  refine Eq.trans ?_ (out9 m c ⟨15, by rw [show cfg0.N = 16 from N_0]; decide⟩ (show 15 + 1 = cfg0.N from N_0.symm) b)
  exact congrFun (after0_9 m c _) _

end Cert.RmsPairIdeal.Hand
end
-- ==== Proof.RmsPairClaims.lean ====
/-
  The two stacked norms' backward call: the claim.
-/
module

public import proofs.«01_k».proof.Defs
public import Idealize.ShloMosaic.Lib.Quiescent
public import proofs.«01_k».proof.Proof.RmsPairValue

@[expose] public section

set_option maxRecDepth 16384

noncomputable section

namespace Cert.RmsPairClaims

open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2)
open Cert.RmsPairIdeal.Hand

/-- The two norms' backward call computes the derivative of the norms and the residual sum between them. -/
theorem algebraic : Cert.algebraic_RmsPairIdeal_RmsPairRefIdeal (hRmsPairIdeal := Cert.RmsPairIdeal.Gen.facts) (hRmsPairRefIdeal := Cert.RmsPairRefIdeal.Gen.facts) := by
  intro m ρ m' ρ' _ hag
  refine ⟨fun c => Cert.RmsPairRefIdeal.Read.val_main_v50 (F := Ideal) (xA m c) (yA m c) (gA m c) (qA m c) (hA m c) (oA m c),
    fun c => Cert.RmsPairRefIdeal.Read.val_main_v71 (F := Ideal) (xA m c) (yA m c) (gA m c) (qA m c) (hA m c) (oA m c),
    fun c => Cert.RmsPairRefIdeal.Read.val_main_v33 (F := Ideal) (xA m c) (yA m c) (gA m c) (hA m c),
    fun c => Cert.RmsPairRefIdeal.Read.val_main_v54 (F := Ideal) (xA m c) (yA m c) (gA m c) (qA m c) (hA m c) (oA m c), ?_, ?_⟩
  · refine (θ_run _ _ _).mono (fun r h c => ⟨(h c).1.trans ((final6 m c).trans (funext fun z => ?_)),
      (h c).2.1.trans ((final7 m c).trans (funext fun z => ?_)), (h c).2.2.1.trans ((final8 m c).trans (funext fun z => ?_)),
      (h c).2.2.2.1.trans ((final9 m c).trans (funext fun z => ?_)), (h c).2.2.2.2⟩) (Cert.RmsPairIdeal.Value.run_blocks m ρ)
    · obtain ⟨i, j, rfl⟩ : ∃ (i : Fin 8192) (j : Fin 1024), z = ix2 i j := ⟨z 0, z 1, eq_ix2 z⟩
      exact (Cert.RmsPairRefIdeal.Hand.v50_apply (xA m c) (yA m c) (gA m c) (qA m c) (hA m c) (oA m c) i j).symm
    · obtain ⟨i, j, rfl⟩ : ∃ (i : Fin 8192) (j : Fin 1024), z = ix2 i j := ⟨z 0, z 1, eq_ix2 z⟩
      exact (Cert.RmsPairRefIdeal.Hand.v71_apply (xA m c) (yA m c) (gA m c) (qA m c) (hA m c) (oA m c) i j).symm
    · obtain ⟨i, j, rfl⟩ : ∃ (i : Fin 1) (j : Fin 1024), z = ix2 i j := ⟨z 0, z 1, eq_ix2 z⟩
      obtain rfl : i = 0 := Subsingleton.elim _ _
      exact (Cert.RmsPairRefIdeal.Hand.v33_apply (xA m c) (yA m c) (gA m c) (hA m c) j).symm
    · obtain ⟨i, j, rfl⟩ : ∃ (i : Fin 1) (j : Fin 1024), z = ix2 i j := ⟨z 0, z 1, eq_ix2 z⟩
      obtain rfl : i = 0 := Subsingleton.elim _ _
      exact (Cert.RmsPairRefIdeal.Hand.v54_apply (xA m c) (yA m c) (gA m c) (qA m c) (hA m c) (oA m c) j).symm
  · refine (θ_run _ _ _).mono (fun r h c => ⟨(h c).1.trans ?_, (h c).2.1.trans ?_, (h c).2.2.1.trans ?_, (h c).2.2.2.1.trans ?_, (h c).2.2.2.2⟩)
      (Cert.RmsPairRefIdeal.Value.run m' ρ')
    · refine (Cert.RmsPairRefIdeal.Read.val_main_v50_eq ..).trans ?_
      rw [(hag c).1, (hag c).2.1, (hag c).2.2.1, (hag c).2.2.2.1, (hag c).2.2.2.2.1, (hag c).2.2.2.2.2]; rfl
    · refine (Cert.RmsPairRefIdeal.Read.val_main_v71_eq ..).trans ?_
      rw [(hag c).1, (hag c).2.1, (hag c).2.2.1, (hag c).2.2.2.1, (hag c).2.2.2.2.1, (hag c).2.2.2.2.2]; rfl
    · refine (Cert.RmsPairRefIdeal.Read.val_main_v33_eq ..).trans ?_
      rw [(hag c).1, (hag c).2.1, (hag c).2.2.1, (hag c).2.2.2.2.1]; rfl
    · refine (Cert.RmsPairRefIdeal.Read.val_main_v54_eq ..).trans ?_
      rw [(hag c).1, (hag c).2.1, (hag c).2.2.1, (hag c).2.2.2.1, (hag c).2.2.2.2.1, (hag c).2.2.2.2.2]; rfl

/-- The reference runs and leaves its arguments and the counters as they were. -/
theorem frame_ref : Cert.quiescent_RmsPairRefIdeal (hRmsPairRefIdeal := Cert.RmsPairRefIdeal.Gen.facts) := fun m ρ _ =>
  (θ_run Cert.RmsPairRefIdeal.defs _ _).mono (fun r h => ⟨fun c => (h c).2.2.2.2, sem_eq_zero_of_no_sems (by decide) r.2⟩)
    (Cert.RmsPairRefIdeal.Value.run (F := Ideal) m ρ)

end Cert.RmsPairClaims

end
-- ==== Proof.FinalRef.lean ====
/-
  The last norm and the loss: the reference's loss and its derivative at an index.
-/
module

public import proofs.«01_k».proof.Proof.Gen.FinalRefIdeal.Read
public import proofs.«01_k».proof.Proof.NormMath
public import proofs.«01_k».proof.Proof.GateMath
public import proofs.«01_k».proof.Proof.IdxReads

@[expose] public section

set_option maxRecDepth 16384

noncomputable section

namespace Cert.FinalRefIdeal.Hand

open Cert.FinalRefIdeal Cert.FinalRefIdeal.Gen Cert.FinalRefIdeal.Read
open Idealize.ShloMosaic Idealize.ShloMosaic.TcCoe Idealize.SL.Sem
open Idealize.ShloMosaic.ValueIdx Cert.IdxReads Cert.Laws Cert.NormMath
open scoped BigOperators

theorem word_two : Ideal.ofBits .f32 0x40000000#32 = ((2 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_inv_1024 : Ideal.ofBits .f32 0x3A800000#32 = ((1 / 1024 : ℝ) : EReal) := by
  simp [Ideal.ofBits, Ideal.ieee, -EReal.coe_mul]; norm_num

variable (x0 x1 x2 : FVec Ideal S8192x1024 .f32) (x3 : FVec Ideal S1x1024 .f32)

/-- The norm: what its reciprocal root is taken of, and the root. -/
theorem v6_apply (i : Fin 8192) : val_main_v6 (F := Ideal) x1 (ix2 i 0) = ms (fun k => x1 (ix2 i k)) := by
  have e : ∀ k, idx_main_v1 (idx_main_v2 (ix2 i 0)) k = ix2 i k := fun k => Shape.idx_ext₂ rfl rfl
  simp only [val_main_v6_apply, val_main_v5_apply, val_main_v4_apply, val_main_v3_apply, val_main_v2_apply, val_main_v1_apply,
    val_main_v0_apply, val_main_cst_apply, val_main_cst_0_apply, val_main_cst_1_apply, e]
  show Ideal.div (Ideal.ofBits .f32 0x00000000#32 + ∑ k : Fin 1024, x1 (ix2 i k) * x1 (ix2 i k)) (Ideal.ofBits .f32 0x44800000#32) + Ideal.ofBits .f32 0x358637BD#32 = _
  rw [word_zero, zero_add, word_1024, word_eps]; rfl

theorem v7_apply (i : Fin 8192) : val_main_v7 (F := Ideal) x1 (ix2 i 0) = rs (fun k => x1 (ix2 i k)) :=
  congrArg Ideal.rsqrt (v6_apply x1 i)

theorem v12_apply (i : Fin 8192) (j : Fin 1024) : val_main_v12 (F := Ideal) x1 (ix2 i j) = x1 (ix2 i j) * rs (fun k => x1 (ix2 i k)) := by
  have e : idx_main_v11 (ix2 i j) = ix2 i 0 := Shape.idx_ext₂ rfl rfl
  simp only [val_main_v12_apply, val_main_v11_apply, e, v7_apply, Ideal.mulf_def]

/-- The difference from the target. -/
def err (i : Fin 8192) (j : Fin 1024) : EReal :=
  x0 (ix2 i j) + x1 (ix2 i j) * rs (fun k => x1 (ix2 i k)) * x3 (ix2 0 j) - x2 (ix2 i j)

theorem v16_apply (i : Fin 8192) (j : Fin 1024) : val_main_v16 (F := Ideal) x0 x1 x2 x3 (ix2 i j) = err x0 x1 x2 x3 i j := by
  have e : idx_main_v13 (ix2 i j) = ix2 0 j := Shape.idx_ext₂ rfl rfl
  simp only [val_main_v16_apply, val_main_v15_apply, val_main_v14_apply, val_main_v13_apply, e, v12_apply, Ideal.mulf_def, Ideal.addf_def,
    Ideal.subf_def]; rfl

/-- A row's mean squared difference. -/
def rowLoss (i : Fin 8192) : EReal := Ideal.div (∑ k : Fin 1024, err x0 x1 x2 x3 i k * err x0 x1 x2 x3 i k) ((1024 : ℝ) : EReal)

theorem rowLoss_nonneg (i : Fin 8192) : 0 ≤ rowLoss x0 x1 x2 x3 i := by
  unfold rowLoss
  rw [Ideal.div_coe (by norm_num)]
  exact mul_nonneg (Finset.sum_nonneg fun k _ => sq_nonneg _) (EReal.coe_nonneg.mpr (by norm_num))

theorem v22_apply (i : Fin 8192) : val_main_v22 (F := Ideal) x0 x1 x2 x3 (ix1 i) = rowLoss x0 x1 x2 x3 i := by
  have e : ∀ k, idx_main_v20 (ix1 i) k = ix2 i k := fun k => Shape.idx_ext₂ rfl rfl
  simp only [val_main_v22_apply, val_main_v21_apply, val_main_v20_apply, val_main_v17_apply, val_main_cst_4_apply, val_main_cst_5_apply, e, v16_apply,
    Ideal.mulf_def, Ideal.hostDivf_def, Ideal.ofBits_def, word_zero, word_1024, zero_add]
  rfl

/-- The loss: half the sum of the rows' mean squared differences. -/
theorem v51_apply (a : Fin 8) (b : Fin 128) :
    val_main_v51 (F := Ideal) x0 x1 x2 x3 (ix2 a b) = ((1 / 2 : ℝ) : EReal) * ∑ i : Fin 8192, rowLoss x0 x1 x2 x3 i := by
  simp only [val_main_v51_apply, val_main_v24_apply, val_main_v23_apply, val_main_cst_6_apply, val_main_cst_7_apply, Ideal.mulf_def, Ideal.ofBits_def, word_zero,
    word_half, zero_add]
  refine congrArg _ ?_
  exact Fintype.sum_equiv ⟨fun z => z 0, fun i => ix1 i, fun z => (eq_ix1 z).symm, fun i => rfl⟩ _ _ fun z => by
    obtain ⟨i, rfl⟩ : ∃ i : Fin 8192, z = ix1 i := ⟨z 0, eq_ix1 z⟩
    exact v22_apply x0 x1 x2 x3 i

/-- The gradient of the norm's output. -/
def dout (i : Fin 8192) (j : Fin 1024) : EReal := err x0 x1 x2 x3 i j * ((1 / 1024 : ℝ) : EReal)

theorem v30_apply (i : Fin 8192) (j : Fin 1024) : val_main_v30 (F := Ideal) x0 x1 x2 x3 (ix2 i j) = dout x0 x1 x2 x3 i j := by
  simp only [val_main_v30_apply, val_main_v29_apply, val_main_v28_apply, val_main_v27_apply, val_main_v26_apply, val_main_v25_apply, val_main_v19_apply,
    val_main_v18_apply, val_main_cst_3_apply, val_main_cst_8_apply, val_main_cst_9_apply, val_main_cst_10_apply, v16_apply,
    Ideal.mulf_def, Ideal.hostDivf_def, Ideal.ofBits_def, word_two, word_half, word_1024, Cert.GateMath.word_one, mul_one]
  rw [Ideal.div_coe (by norm_num), ← EReal.coe_mul, ← mul_assoc, ← EReal.coe_mul, mul_comm]
  unfold dout
  norm_num

/-- The scale's gradient. -/
theorem v33_apply (j : Fin 1024) : val_main_v33 (F := Ideal) x0 x1 x2 x3 (ix2 0 j)
    = ∑ i : Fin 8192, dout x0 x1 x2 x3 i j * (x1 (ix2 i j) * rs (fun k => x1 (ix2 i k))) := by
  have e : ∀ k, idx_main_v32 (idx_main_v33 (ix2 0 j)) k = ix2 k j := fun k => Shape.idx_ext₂ rfl (by show 0 * 1024 + j.val = j.val; omega)
  simp only [val_main_v33_apply, val_main_v32_apply, val_main_v31_apply, e, v12_apply, v30_apply,
    val_main_cst_11_apply, Ideal.mulf_def, Ideal.ofBits_def, word_zero, zero_add]
  exact Finset.sum_congr rfl fun i _ => mul_comm _ _

theorem v35_apply (i : Fin 8192) (j : Fin 1024) : val_main_v35 (F := Ideal) x0 x1 x2 x3 (ix2 i j) = dout x0 x1 x2 x3 i j * x3 (ix2 0 j) := by
  have e : idx_main_v34 (ix2 i j) = ix2 0 j := Shape.idx_ext₂ rfl rfl
  simp only [val_main_v35_apply, val_main_v34_apply, e, v30_apply, Ideal.mulf_def]

theorem v43_apply (i : Fin 8192) : val_main_v43 (F := Ideal) x0 x1 x2 x3 (ix2 i 0)
    = bb (fun k => x1 (ix2 i k)) (fun k => dout x0 x1 x2 x3 i k * x3 (ix2 0 k)) := by
  have e : ∀ k, idx_main_v37 (idx_main_v38 (ix2 i 0)) k = ix2 i k := fun k => Shape.idx_ext₂ (by show i.val * 1 + 0 = i.val; omega) rfl
  simp only [val_main_v43_apply, val_main_v42_apply, val_main_v41_apply, val_main_v38_apply, val_main_v37_apply, val_main_v36_apply,
    val_main_v10_apply, val_main_v9_apply, val_main_v8_apply, e, v35_apply, v6_apply, v7_apply]
  simp only [val_main_cst_2_apply, val_main_cst_12_apply, val_main_cst_13_apply, Ideal.mulf_def, Ideal.hostDivf_def, Ideal.ofBits_def, word_zero,
    word_neg_half, word_1024, zero_add]
  rfl

/-- The gradient of the norm's input. -/
theorem v50_apply (i : Fin 8192) (j : Fin 1024) : val_main_v50 (F := Ideal) x0 x1 x2 x3 (ix2 i j)
    = dx (fun k => x1 (ix2 i k)) (fun k => dout x0 x1 x2 x3 i k * x3 (ix2 0 k)) j := by
  have e39 : idx_main_v39 (ix2 i j) = ix2 i 0 := Shape.idx_ext₂ rfl rfl
  have e46 : ∀ k : Fin 1, idx_main_v44 (idx_main_v45 (ix2 i j)) k = ix2 i 0 := fun k => Shape.idx_ext₂ rfl (by show k.val = 0; omega)
  rw [dx_row]
  simp only [val_main_v50_apply, val_main_v49_apply, val_main_v48_apply, val_main_v47_apply, val_main_v46_apply, val_main_v45_apply, val_main_v44_apply,
    val_main_v40_apply, val_main_v39_apply, e39, e46, v35_apply, v7_apply, v43_apply, val_main_cst_14_apply, Ideal.addf_def,
    Ideal.mulf_def, Ideal.truncf_def, Ideal.ofBits_def, word_zero, zero_add, Fin.sum_univ_one]

end Cert.FinalRefIdeal.Hand

end
-- ==== Proof.FinalPay.lean ====
/-
  The last norm and the loss: the call's body's results at an index.
-/
module

public import proofs.«01_k».proof.Proof.Gen.FinalIdeal.Value
public import proofs.«01_k».proof.Proof.FinalRef

@[expose] public section

set_option maxRecDepth 16384

noncomputable section

namespace Cert.FinalIdeal.Hand

open Cert.FinalIdeal Cert.FinalIdeal.Gen Idealize.ShloMosaic Idealize.ShloMosaic.TcCoe Idealize.SL.Sem
open Idealize.ShloMosaic.ValueIdx Cert.IdxReads Cert.Laws Cert.NormMath
open Cert.FinalRefIdeal.Hand (word_half word_inv_1024)
open scoped BigOperators

theorem pay5_apply (x : FVec Ideal S512x1024 .f32) (i : Fin 512) : k0_pay5 (F := Ideal) x (ix2 i 0) = rs (fun k => x (ix2 i k)) := by
  unfold k0_pay5; dsimp only
  show Ideal.rsqrt (Ideal.div (shapeCast S512x1 _ _ (ix2 i 0)) (Ideal.ofBits .f32 0x44800000#32) + Ideal.ofBits .f32 0x358637BD#32) = _
  rw [word_1024, word_eps, shapeCast_a_a1_apply, rowSum_apply]; rfl

theorem pay6_apply (x : FVec Ideal S512x1024 .f32) (i : Fin 512) (j : Fin 1024) :
    k0_pay6 (F := Ideal) x (ix2 i j) = x (ix2 i j) * rs (fun k => x (ix2 i k)) := by
  unfold k0_pay6
  rw [mulf_apply, bcastCol_apply, pay5_apply]

/-- A block's difference from the target. -/
def e1 (f x : FVec Ideal S512x1024 .f32) (g : FVec Ideal S1x1024 .f32) (t : FVec Ideal S512x1024 .f32) (i : Fin 512) (j : Fin 1024) : EReal :=
  x (ix2 i j) + f (ix2 i j) * rs (fun k => f (ix2 i k)) * g (ix2 0 j) - t (ix2 i j)

variable (f x : FVec Ideal S512x1024 .f32) (g : FVec Ideal S1x1024 .f32) (t : FVec Ideal S512x1024 .f32)

theorem pay7_apply (i : Fin 512) (j : Fin 1024) : k0_pay7 (F := Ideal) f x g t (ix2 i j) = e1 f x g t i j := by
  unfold k0_pay7
  simp only [subf_apply, addf_apply, mulf_apply, bcastRow_apply, pay6_apply]; rfl

theorem pay8_apply (i : Fin 512) (j : Fin 1024) : k0_pay8 (F := Ideal) f x g t (ix2 i j) = e1 f x g t i j * ((1 / 1024 : ℝ) : EReal) := by
  unfold k0_pay8
  simp only [mulf_apply, pay7_apply, broadcast_apply]
  rw [show (Scalar.ofBits (F := Ideal) .f32 0x3A800000#32) = ((1 / 1024 : ℝ) : EReal) from word_inv_1024]

/-- The gradient of the norm's input. -/
theorem pay9_apply (h : FVec Ideal S1x1024 .f32) (i : Fin 512) (j : Fin 1024) : k0_pay9 (F := Ideal) f x g t h (ix2 i j)
    = dx (fun k => f (ix2 i k)) (fun k => e1 f x g t i k * ((1 / 1024 : ℝ) : EReal) * h (ix2 0 k)) j := by
  unfold k0_pay9; dsimp only
  simp only [truncf_apply, mulf_apply, subf_apply, divf_apply, bcastCol_apply, bcastRow_apply, shapeCast_a_a1_apply, broadcast_apply, pay5_apply, pay6_apply,
    pay8_apply]
  rw [rowSum_apply]
  simp only [mulf_apply, bcastRow_apply, pay6_apply, pay8_apply]
  rw [show (Scalar.ofBits (F := Ideal) .f32 0x44800000#32) = ((1024 : ℝ) : EReal) from word_1024]
  rfl

/-- A block's share of the scale's gradient. -/
theorem pay2_apply (j : Fin 1024) : k0_pay2 (F := Ideal) (k0_pay6 (F := Ideal) f) (k0_pay8 (F := Ideal) f x g t) (ix2 0 j)
    = ∑ i : Fin 512, e1 f x g t i j * ((1 / 1024 : ℝ) : EReal) * (f (ix2 i j) * rs (fun k => f (ix2 i k))) := by
  unfold k0_pay2; dsimp only
  rw [shapeCast_b_1b_apply, colSum_apply]
  simp only [mulf_apply, pay6_apply, pay8_apply]

/-- A block's share of the loss. -/
theorem pay1_apply (a : Fin 8) (b : Fin 128) : k0_pay1 (F := Ideal) (k0_pay10 (F := Ideal) f x g t) (ix2 a b)
    = ((1 / 2 : ℝ) : EReal) * ∑ i : Fin 512, Ideal.div (∑ k : Fin 1024, e1 f x g t i k * e1 f x g t i k) ((1024 : ℝ) : EReal) := by
  unfold k0_pay1; dsimp only
  rw [broadcast_apply]
  refine (congrArg₂ (· * ·) word_half (Ideal.multiReduction_add_total _ 0x00000000#32 reduces_S1x512x1_S1 (by decide) (.inl rfl) rfl _)).trans ?_
  refine congrArg _ (Fintype.sum_equiv ⟨fun z => z 1, fun i => ix3 0 i 0, fun z => ?_, fun i => rfl⟩ _ _ fun z => ?_)
  · exact (congrArg₂ (fun (p q : Fin 1) => ix3 p (z 1) q) (Subsingleton.elim _ _) (Subsingleton.elim _ _)).trans (eq_ix3 z).symm
  · obtain ⟨p, i, q, rfl⟩ : ∃ (p : Fin 1) (i : Fin 512) (q : Fin 1), z = ix3 p i q := ⟨z 0, z 1, z 2, eq_ix3 z⟩
    obtain rfl : p = 0 := Subsingleton.elim _ _
    obtain rfl : q = 0 := Subsingleton.elim _ _
    rw [shapeCast_ab_1ab_apply, divf_apply, shapeCast_a_a1_apply, rowSum_apply, broadcast_apply]
    simp only [k0_pay10, mulf_apply, pay7_apply]
    rw [show (FloatOps.ofBits (F := Ideal) .f32 0x44800000#32) = ((1024 : ℝ) : EReal) from word_1024]
    rfl

theorem pay4_apply (p q : FVec Ideal S512x1024 .f32) (a : FVec Ideal S1x1024 .f32) (j : Fin 1024) :
    k0_pay4 (F := Ideal) p q a (ix2 0 j) = a (ix2 0 j) + k0_pay2 (F := Ideal) p q (ix2 0 j) := by
  unfold k0_pay4
  simp only [shapeCast_self, addf_apply]

theorem pay3_apply (p : FVec Ideal S512x1024 .f32) (s : FVec Ideal S8x128 .f32) (a : Fin 8) (b : Fin 128) :
    k0_pay3 (F := Ideal) p s (ix2 a b) = s (ix2 a b) + k0_pay1 (F := Ideal) p (ix2 a b) := by
  unfold k0_pay3
  simp only [shapeCast_self, addf_apply]

variable (m : (ℓ : Loc nD τ sig) → Buf (Elt Ideal) ℓ)

/-- The arrays of the call's arguments. -/
def xA (c : Dev nD) : FVec Ideal S8192x1024 .f32 := m ((c : Thread nD τ).loc main_arg0)
def fA (c : Dev nD) : FVec Ideal S8192x1024 .f32 := m ((c : Thread nD τ).loc main_arg1)
def tA (c : Dev nD) : FVec Ideal S8192x1024 .f32 := m ((c : Thread nD τ).loc main_arg2)
def gA (c : Dev nD) : FVec Ideal S1x1024 .f32 := m ((c : Thread nD τ).loc main_arg3)

end Cert.FinalIdeal.Hand

end
-- ==== Proof.FinalValue.lean ====
/-
  The last norm and the loss: the call's four result arrays after the run.
-/
module

public import proofs.«01_k».proof.Proof.FinalPay
public import Idealize.ShloMosaic.Lib.Pipeline.ValueKit.Point

@[expose] public section

set_option maxRecDepth 16384

noncomputable section

namespace Cert.FinalIdeal.Hand

open Cert.FinalIdeal Cert.FinalIdeal.Gen
open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2)
open Cert.NormMath Cert.IdxReads
open Cert.FinalRefIdeal.Hand (err rowLoss dout rowLoss_nonneg)
open Idealize.ShloMosaic.Pipeline (Dat)
open scoped BigOperators

variable (m : (ℓ : Loc nD τ sig) → Buf (Elt Ideal) ℓ)

/-- What the four results hold. -/
def dO (c : Dev nD) (i : Fin 8192) (j : Fin 1024) : EReal := dout (xA m c) (fA m c) (tA m c) (gA m c) i j
def dF (c : Dev nD) (i : Fin 8192) (j : Fin 1024) : EReal := dx (fun k => fA m c (ix2 i k)) (fun k => dO m c i k * gA m c (ix2 0 k)) j
def dg (c : Dev nD) (j : Fin 1024) (i : Fin 8192) : EReal := dO m c i j * (fA m c (ix2 i j) * rs (fun k => fA m c (ix2 i k)))
def lo (c : Dev nD) (i : Fin 8192) : EReal := rowLoss (xA m c) (fA m c) (tA m c) (gA m c) i

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)

/-- A row of a block, as a row of the array. -/
def row (t : Fin cfg0.N) (i : Fin 512) : Fin 8192 := ⟨t.val * 512 + i.val, by have h := Nat.lt_of_lt_of_eq t.isLt N_0; omega⟩

theorem blk0 (c : Dev nD) (t : Fin cfg0.N) (i : Fin 512) (j : Fin 1024) : iblk m c 0 t (ix2 i j) = xA m c (ix2 (row t i) j) := by
  unfold xA; blk_ext! [iblk, idx0 t, row]
theorem blk1 (c : Dev nD) (t : Fin cfg0.N) (i : Fin 512) (j : Fin 1024) : iblk m c 1 t (ix2 i j) = fA m c (ix2 (row t i) j) := by
  unfold fA; blk_ext! [iblk, idx1 t, row]
theorem blk2 (c : Dev nD) (t : Fin cfg0.N) (i : Fin 512) (j : Fin 1024) : iblk m c 2 t (ix2 i j) = tA m c (ix2 (row t i) j) := by
  unfold tA; blk_ext! [iblk, idx2 t, row]
theorem blk3 (c : Dev nD) (t : Fin cfg0.N) (j : Fin 1024) : iblk m c 3 t (ix2 0 j) = gA m c (ix2 0 j) := by
  unfold gA; blk_ext! [iblk, idx3 t]

/-- The block's difference from the target is the arrays'. -/
theorem e1_blk (c : Dev nD) (t : Fin cfg0.N) (i : Fin 512) (j : Fin 1024) :
    e1 (iblk m c 1 t) (iblk m c 0 t) (iblk m c 3 t) (iblk m c 2 t) i j = err (xA m c) (fA m c) (tA m c) (gA m c) (row t i) j := by
  unfold e1
  rw [blk0, blk2, blk3]
  simp only [blk1]
  rfl

theorem pay8_blk (c : Dev nD) (t : Fin cfg0.N) (i : Fin 512) (j : Fin 1024) :
    k0_pay8 (F := Ideal) (iblk m c 1 t) (iblk m c 0 t) (iblk m c 3 t) (iblk m c 2 t) (ix2 i j) = dO m c (row t i) j := by
  rw [pay8_apply, e1_blk]; rfl

theorem pay9_blk (c : Dev nD) (t : Fin cfg0.N) (i : Fin 512) (j : Fin 1024) :
    k0_pay9 (F := Ideal) (iblk m c 1 t) (iblk m c 0 t) (iblk m c 3 t) (iblk m c 2 t) (iblk m c 3 t) (ix2 i j) = dF m c (row t i) j := by
  rw [pay9_apply]
  simp only [e1_blk, blk1, blk3]
  rfl

theorem pay2_blk (c : Dev nD) (t : Fin cfg0.N) (j : Fin 1024) :
    k0_pay2 (F := Ideal) (k0_pay6 (F := Ideal) (iblk m c 1 t)) (k0_pay8 (F := Ideal) (iblk m c 1 t) (iblk m c 0 t) (iblk m c 3 t) (iblk m c 2 t)) (ix2 0 j)
      = ∑ i : Fin 512, dg m c j (row t i) := by
  rw [pay2_apply]
  simp only [e1_blk, blk1]
  rfl

theorem pay1_blk (c : Dev nD) (t : Fin cfg0.N) (a : Fin 8) (b : Fin 128) :
    k0_pay1 (F := Ideal) (k0_pay10 (F := Ideal) (iblk m c 1 t) (iblk m c 0 t) (iblk m c 3 t) (iblk m c 2 t)) (ix2 a b)
      = ∑ i : Fin 512, ((1 / 2 : ℝ) : EReal) * lo m c (row t i) := by
  rw [pay1_apply]
  simp only [e1_blk]
  exact Cert.Laws.real_mul_sum (by norm_num) _ _

/-- What point `t` leaves of the two gradients written once. -/
theorem out4 (c : Dev nD) (t : Fin cfg0.N) (i : Fin 512) (j : Fin 1024) : (outsAt0 m c t.val t.isLt).1 (ix2 i j) = dO m c (row t i) j := by
  by_cases h : t.val % 16 = 0
  · rw [outsAt0_A m c t h (by have h := Nat.lt_of_lt_of_eq t.isLt N_0; omega)]; frame_out
    exact pay8_blk m c t i j
  · rw [outsAt0_B m c t h (by omega)]; frame_out
    exact pay8_blk m c t i j

theorem out5 (c : Dev nD) (t : Fin cfg0.N) (i : Fin 512) (j : Fin 1024) : (outsAt0 m c t.val t.isLt).2.1 (ix2 i j) = dF m c (row t i) j := by
  by_cases h : t.val % 16 = 0
  · rw [outsAt0_A m c t h (by have h := Nat.lt_of_lt_of_eq t.isLt N_0; omega)]; frame_out
    exact pay9_blk m c t i j
  · rw [outsAt0_B m c t h (by omega)]; frame_out
    exact pay9_blk m c t i j

/-- What the last point leaves of the loss and of the scale's gradient. -/
theorem out6 (c : Dev nD) (t : Fin cfg0.N) (ht : t.val + 1 = cfg0.N) (a : Fin 8) (b : Fin 128) :
    (outsAt0 m c t.val t.isLt).2.2.1 (ix2 a b) = ∑ i : Fin 8192, ((1 / 2 : ℝ) : EReal) * lo m c i := by
  have h := Pipeline.eq_sum_fin_of_reset_step_apply_last (fun n h => fun z : Fin 8 × Fin 128 => (outsAt0 m c n h).2.2.1 (ix2 z.1 z.2)) 16 (fun _ => (0 : EReal))
    (fun t _ => ∑ i : Fin 512, ((1 / 2 : ℝ) : EReal) * lo m c (row t i))
    (fun t h z => by
      rw [outsAt0_A m c t h (by have h := Nat.lt_of_lt_of_eq t.isLt N_0; omega)]; frame_out
      rw [zero_add]; exact pay1_blk m c t z.1 z.2)
    (fun t h z => by
      rw [outsAt0_B m c t h (by omega)]; frame_out
      exact (pay3_apply _ _ z.1 z.2).trans (congrArg _ (pay1_blk m c t z.1 z.2)))
    (le_of_eq N_0) t ht (a, b)
  refine h.trans ?_
  rw [zero_add]
  exact Fin.sum_mul_add_congr (S := 16) (n := 512) (fun s k hl => rfl) rfl

theorem out7 (c : Dev nD) (t : Fin cfg0.N) (ht : t.val + 1 = cfg0.N) (j : Fin 1024) :
    (outsAt0 m c t.val t.isLt).2.2.2 (ix2 0 j) = ∑ i : Fin 8192, dg m c j i := by
  have h := Pipeline.eq_sum_fin_of_reset_step_apply_last (fun n h => fun j : Fin 1024 => (outsAt0 m c n h).2.2.2 (ix2 0 j)) 16 (fun _ => (0 : EReal))
    (fun t j => ∑ i : Fin 512, dg m c j (row t i))
    (fun t h j => by
      rw [outsAt0_A m c t h (by have h := Nat.lt_of_lt_of_eq t.isLt N_0; omega)]; frame_out
      rw [zero_add]; exact pay2_blk m c t j)
    (fun t h j => by
      rw [outsAt0_B m c t h (by omega)]; frame_out
      exact (pay4_apply _ _ _ j).trans (congrArg _ (pay2_blk m c t j)))
    (le_of_eq N_0) t ht j
  refine h.trans ?_
  rw [zero_add]
  exact Fin.sum_mul_add_congr (S := 16) (n := 512) (fun s k hl => rfl) rfl

/-- The four arrays after the run. -/
theorem final4 (c : Dev nD) : (dats m 0 c).arrAt 4 cfg0.N = fun i : S8192x1024.Idx => dO m c (i 0) (i 1) := by
  refine (dats m 0 c).arrAt_eq_of_covers 4 _ (by decide +kernel) fun t hf y => ?_
  blk_simp
  obtain ⟨a, b, rfl⟩ : ∃ a b, y = ix2 a b := ⟨y 0, y 1, eq_ix2 y⟩
  rw [after0_4, out4]
  refine congrArg₂ (dO m c) (Fin.ext ?_) (Fin.ext ?_)
  · blk_simp [idx4 t, row]
  · blk_simp [idx4 t]

theorem final5 (c : Dev nD) : (dats m 0 c).arrAt 5 cfg0.N = fun i : S8192x1024.Idx => dF m c (i 0) (i 1) := by
  refine (dats m 0 c).arrAt_eq_of_covers 5 _ (by decide +kernel) fun t hf y => ?_
  blk_simp
  obtain ⟨a, b, rfl⟩ : ∃ a b, y = ix2 a b := ⟨y 0, y 1, eq_ix2 y⟩
  rw [after0_5, out5]
  refine congrArg₂ (dF m c) (Fin.ext ?_) (Fin.ext ?_)
  · blk_simp [idx5 t, row]
  · blk_simp [idx5 t]

theorem final6 (c : Dev nD) : (dats m 0 c).arrAt 6 cfg0.N = fun _ : S8x128.Idx => ((1 / 2 : ℝ) : EReal) * ∑ k : Fin 8192, lo m c k := by
  refine (dats m 0 c).arrAt_eq_of_after_last 6 ⟨15, by rw [show cfg0.N = 16 from N_0]; decide⟩ (by decide +kernel) _ fun y => ?_
  obtain ⟨a, b, rfl⟩ : ∃ a b, y = ix2 a b := ⟨y 0, y 1, eq_ix2 y⟩
  refine Eq.trans ?_ ((out6 m c ⟨15, by rw [show cfg0.N = 16 from N_0]; decide⟩ (show 15 + 1 = cfg0.N from N_0.symm) a b).trans ?_)
  · exact congrFun (after0_6 m c _) _
  · exact (Cert.Laws.real_mul_sum (by norm_num) _ _).symm

theorem final7 (c : Dev nD) : (dats m 0 c).arrAt 7 cfg0.N = fun i : S1x1024.Idx => ∑ k : Fin 8192, dg m c (i 1) k := by
  refine (dats m 0 c).arrAt_eq_of_after_last 7 ⟨15, by rw [show cfg0.N = 16 from N_0]; decide⟩ (by decide +kernel) _ fun y => ?_
  obtain ⟨a, b, rfl⟩ : ∃ a b, y = ix2 a b := ⟨y 0, y 1, eq_ix2 y⟩
  obtain rfl : a = 0 := Subsingleton.elim _ _
  refine Eq.trans ?_ (out7 m c ⟨15, by rw [show cfg0.N = 16 from N_0]; decide⟩ (show 15 + 1 = cfg0.N from N_0.symm) b)
  exact congrFun (after0_7 m c _) _

end Cert.FinalIdeal.Hand
end
-- ==== Proof.FinalClaims.lean ====
/-
  The last norm and the loss: the claim.
-/
module

public import proofs.«01_k».proof.Defs
public import Idealize.ShloMosaic.Lib.Quiescent
public import proofs.«01_k».proof.Proof.FinalValue

@[expose] public section

set_option maxRecDepth 16384

noncomputable section

namespace Cert.FinalClaims

open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2)
open Cert.FinalIdeal.Hand

/-- The call computes the loss and its derivative through the last norm. -/
theorem algebraic : Cert.algebraic_FinalIdeal_FinalRefIdeal (hFinalIdeal := Cert.FinalIdeal.Gen.facts) (hFinalRefIdeal := Cert.FinalRefIdeal.Gen.facts) := by
  intro m ρ m' ρ' _ hag
  refine ⟨fun c => Cert.FinalRefIdeal.Read.val_main_v30 (F := Ideal) (xA m c) (fA m c) (tA m c) (gA m c),
    fun c => Cert.FinalRefIdeal.Read.val_main_v50 (F := Ideal) (xA m c) (fA m c) (tA m c) (gA m c),
    fun c => Cert.FinalRefIdeal.Read.val_main_v51 (F := Ideal) (xA m c) (fA m c) (tA m c) (gA m c),
    fun c => Cert.FinalRefIdeal.Read.val_main_v33 (F := Ideal) (xA m c) (fA m c) (tA m c) (gA m c), ?_, ?_⟩
  · refine (θ_run _ _ _).mono (fun r h c => ⟨(h c).1.trans ((final4 m c).trans (funext fun z => ?_)),
      (h c).2.1.trans ((final5 m c).trans (funext fun z => ?_)), (h c).2.2.1.trans ((final6 m c).trans (funext fun z => ?_)),
      (h c).2.2.2.1.trans ((final7 m c).trans (funext fun z => ?_)), (h c).2.2.2.2⟩) (Cert.FinalIdeal.Value.run_blocks m ρ)
    · obtain ⟨i, j, rfl⟩ : ∃ (i : Fin 8192) (j : Fin 1024), z = ix2 i j := ⟨z 0, z 1, eq_ix2 z⟩
      exact (Cert.FinalRefIdeal.Hand.v30_apply (xA m c) (fA m c) (tA m c) (gA m c) i j).symm
    · obtain ⟨i, j, rfl⟩ : ∃ (i : Fin 8192) (j : Fin 1024), z = ix2 i j := ⟨z 0, z 1, eq_ix2 z⟩
      exact (Cert.FinalRefIdeal.Hand.v50_apply (xA m c) (fA m c) (tA m c) (gA m c) i j).symm
    · obtain ⟨i, j, rfl⟩ : ∃ (i : Fin 8) (j : Fin 128), z = ix2 i j := ⟨z 0, z 1, eq_ix2 z⟩
      exact (Cert.FinalRefIdeal.Hand.v51_apply (xA m c) (fA m c) (tA m c) (gA m c) i j).symm
    · obtain ⟨i, j, rfl⟩ : ∃ (i : Fin 1) (j : Fin 1024), z = ix2 i j := ⟨z 0, z 1, eq_ix2 z⟩
      obtain rfl : i = 0 := Subsingleton.elim _ _
      exact (Cert.FinalRefIdeal.Hand.v33_apply (xA m c) (fA m c) (tA m c) (gA m c) j).symm
  · refine (θ_run _ _ _).mono (fun r h c => ⟨(h c).1.trans ?_, (h c).2.1.trans ?_, (h c).2.2.1.trans ?_, (h c).2.2.2.1.trans ?_, (h c).2.2.2.2⟩)
      (Cert.FinalRefIdeal.Value.run m' ρ')
    · refine (Cert.FinalRefIdeal.Read.val_main_v30_eq ..).trans ?_
      rw [(hag c).1, (hag c).2.1, (hag c).2.2.1, (hag c).2.2.2]; rfl
    · refine (Cert.FinalRefIdeal.Read.val_main_v50_eq ..).trans ?_
      rw [(hag c).1, (hag c).2.1, (hag c).2.2.1, (hag c).2.2.2]; rfl
    · refine (Cert.FinalRefIdeal.Read.val_main_v51_eq ..).trans ?_
      rw [(hag c).1, (hag c).2.1, (hag c).2.2.1, (hag c).2.2.2]; rfl
    · refine (Cert.FinalRefIdeal.Read.val_main_v33_eq ..).trans ?_
      rw [(hag c).1, (hag c).2.1, (hag c).2.2.1, (hag c).2.2.2]; rfl

/-- The reference runs and leaves its arguments and the counters as they were. -/
theorem frame_ref : Cert.quiescent_FinalRefIdeal (hFinalRefIdeal := Cert.FinalRefIdeal.Gen.facts) := fun m ρ _ =>
  (θ_run Cert.FinalRefIdeal.defs _ _).mono (fun r h => ⟨fun c => (h c).2.2.2.2, sem_eq_zero_of_no_sems (by decide) r.2⟩)
    (Cert.FinalRefIdeal.Value.run (F := Ideal) m ρ)

end Cert.FinalClaims

end
-- ==== Proof.Finite.lean ====
/-
  A printed finiteness test read at an element: an absolute value below plus infinity is a real number's.
-/
module

public import proofs.«01_k».proof.Proof.GateMath

@[expose] public section

noncomputable section

namespace Cert.Finite

open Idealize.ShloMosaic
open Cert.GateMath
open scoped BigOperators

/-- An extended real whose absolute value is below plus infinity is a real number. -/
theorem real_of_olt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = r := by
  have h' : (Ideal.cmp .olt (max x (-x)) (Ideal.ofBits .f32 0x7F800000#32) : BitVec 1) = 1#1 := h
  rw [word_top] at h'
  induction x using EReal.rec with
  | bot => exact absurd h' (by simp [Ideal.cmp])
  | top => exact absurd h' (by simp [Ideal.cmp])
  | coe r => exact ⟨r, rfl⟩

/-- A product and a sum of reals are real. -/
theorem real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

theorem real_add {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩

theorem real_sum {n : Nat} (f : Fin n → EReal) (hf : ∀ k, ∃ r : ℝ, f k = r) : ∃ r : ℝ, ∑ k, f k = r := by
  choose g hg using hf
  exact ⟨∑ k, g k, by rw [Cert.Laws.coe_sum]; exact Finset.sum_congr rfl fun k _ => hg k⟩

end Cert.Finite

end
-- ==== Proof.ConcatReads.lean ====
/-
  Arrays put side by side or stacked, and columns cut out, read at an index.
-/
module

public import Idealize.ShloMosaic.Lib.ValueIdx
public import Idealize.ShloMosaic.Lib.Pipeline.Value
public import Idealize.ShloMosaic.Lib.KernelVsHost

@[expose] public section

noncomputable section

namespace Cert.ConcatReads

open Idealize.ShloMosaic Idealize.ShloMosaic.ValueIdx

variable {α : Type}

/-- Two arrays side by side: the first in its own columns, the second in the ones after them. -/
theorem sideBySide_apply {a b c d : Nat} (x : (⟨2, ![a, b]⟩ : Shape).Idx → α) (y : (⟨2, ![a, c]⟩ : Shape).Idx → α)
    (h : Shape.Concatenates [⟨2, ![a, b]⟩, ⟨2, ![a, c]⟩] ⟨2, ![a, d]⟩ 1) (hd : d = b + c) (i : Fin a) (j : Fin d) :
    concatenate ⟨2, ![a, d]⟩ 1 [⟨⟨2, ![a, b]⟩, x⟩, ⟨⟨2, ![a, c]⟩, y⟩] h (ix2 i j)
      = if hj : j.val < b then x (ix2 i ⟨j.val, hj⟩) else y (ix2 i ⟨j.val - b, by omega⟩) := by
  by_cases hj : j.val < b
  · rw [dif_pos hj]
    exact concatenate_pair_apply_left _ x y h _ rfl (ix2 i ⟨j.val, hj⟩) (fun d => by match d with | ⟨0, _⟩ => rfl | ⟨1, _⟩ => rfl)
  · rw [dif_neg hj]
    refine concatenate_pair_apply_right _ x y h _ rfl rfl (ix2 i ⟨j.val - b, by omega⟩) (fun d hd => ?_) ?_
    · match d with
      | ⟨0, _⟩ => rfl
      | ⟨1, _⟩ => exact absurd rfl hd
    · show j.val - b + b = j.val; omega

/-- A stack of three arrays. -/
theorem stack3_apply {a b : Nat} (x y z : (⟨3, ![1, a, b]⟩ : Shape).Idx → α)
    (h : Shape.Concatenates [⟨3, ![1, a, b]⟩, ⟨3, ![1, a, b]⟩, ⟨3, ![1, a, b]⟩] ⟨3, ![3, a, b]⟩ 0) (p : Fin 3) (i : Fin a) (j : Fin b) :
    concatenate ⟨3, ![3, a, b]⟩ 0 [⟨⟨3, ![1, a, b]⟩, x⟩, ⟨⟨3, ![1, a, b]⟩, y⟩, ⟨⟨3, ![1, a, b]⟩, z⟩] h (ix3 p i j)
      = (![x, y, z] : Fin 3 → _) p (ix3 0 i j) := by
  match p with
  | ⟨0, _⟩ =>
    exact concatenate_apply_piece (t := ⟨3, ![3, a, b]⟩) 0 [⟨⟨3, ![1, a, b]⟩, x⟩, ⟨⟨3, ![1, a, b]⟩, y⟩, ⟨⟨3, ![1, a, b]⟩, z⟩] h _ 0 (by show (0 : Nat) < 3; decide) ⟨3, ![1, a, b]⟩ x rfl rfl 0 rfl (ix3 0 i j)
      (fun d hd => by match d with | ⟨0, _⟩ => exact absurd rfl hd | ⟨1, _⟩ => rfl | ⟨2, _⟩ => rfl) rfl
  | ⟨1, _⟩ =>
    exact concatenate_apply_piece (t := ⟨3, ![3, a, b]⟩) 0 [⟨⟨3, ![1, a, b]⟩, x⟩, ⟨⟨3, ![1, a, b]⟩, y⟩, ⟨⟨3, ![1, a, b]⟩, z⟩] h _ 1 (by show (1 : Nat) < 3; decide) ⟨3, ![1, a, b]⟩ y rfl rfl 1 rfl (ix3 0 i j)
      (fun d hd => by match d with | ⟨0, _⟩ => exact absurd rfl hd | ⟨1, _⟩ => rfl | ⟨2, _⟩ => rfl) rfl
  | ⟨2, _⟩ =>
    exact concatenate_apply_piece (t := ⟨3, ![3, a, b]⟩) 0 [⟨⟨3, ![1, a, b]⟩, x⟩, ⟨⟨3, ![1, a, b]⟩, y⟩, ⟨⟨3, ![1, a, b]⟩, z⟩] h _ 2 (by show (2 : Nat) < 3; decide) ⟨3, ![1, a, b]⟩ z rfl rfl 2 rfl (ix3 0 i j)
      (fun d hd => by match d with | ⟨0, _⟩ => exact absurd rfl hd | ⟨1, _⟩ => rfl | ⟨2, _⟩ => rfl) rfl

/-- One plane laid into three along the middle axis, with a fill elsewhere. -/
theorem padMid_apply {a b : Nat} (o hi : Nat) (x : (⟨3, ![a, 1, b]⟩ : Shape).Idx → α) {u : Shape} (v : u.Idx → α)
    (h : (⟨3, ![a, 1, b]⟩ : Shape).Pads ![0, o, 0] ![0, hi, 0] ![0, 0, 0] ⟨3, ![a, 3, b]⟩) (hu : 0 < u.numel) (i : Fin a) (p : Fin 3) (j : Fin b) :
    pad ⟨3, ![a, 3, b]⟩ ![0, o, 0] ![0, hi, 0] ![0, 0, 0] x v h hu (ix3 i p j) = if p.val = o then x (ix3 i 0 j) else v (Shape.Idx.first hu) := by
  split_ifs with hp
  · refine pad_apply_of_inside _ _ _ _ _ h hu _ (ix3 i 0 j) (fun d => ?_)
    match d with
    | ⟨0, _⟩ => show i.val = 0 + i.val * 1; omega
    | ⟨1, _⟩ => show p.val = o + 0 * 1; omega
    | ⟨2, _⟩ => show j.val = 0 + j.val * 1; omega
  · refine pad_apply_of_not_inside _ _ _ _ _ h hu _ ⟨1, by show 1 < 3; decide⟩ (fun hc => hp ?_)
    obtain ⟨h1, _, h3⟩ := hc
    have h1' : o ≤ p.val := h1
    have h3' : (p.val - o) / (0 + 1) < 1 := h3
    rw [Nat.zero_add, Nat.div_one] at h3'
    omega

/-- Columns cut out of an array. -/
theorem cols_apply {a b c o : Nat} (x : (⟨2, ![a, b]⟩ : Shape).Idx → α) (h : (⟨2, ![a, b]⟩ : Shape).Slices ![0, o] ⟨2, ![a, c]⟩)
    (i : Fin a) (j : Fin c) (ho : o + j.val < b) :
    extractStridedSlice ⟨2, ![a, c]⟩ ![0, o] x h (ix2 i j) = x (ix2 i ⟨o + j.val, ho⟩) :=
  extractStridedSlice_apply ![0, o] x h _ _ (fun d => by
    match d with
    | ⟨0, _⟩ => show i.val = 0 + i.val; omega
    | ⟨1, _⟩ => rfl)

/-- The projection's columns without the sixteen of the forget gate: where column `j` of what is left stood. -/
def col (j : Fin 9216) : Fin 9232 := if _ : j.val < 3072 then ⟨j.val, by omega⟩ else ⟨j.val + 16, by omega⟩

/-- The projection without the forget gate's columns, at an index. -/
theorem without_apply {a : Nat} (x : (⟨2, ![a, 9232]⟩ : Shape).Idx → α)
    (h1 : (⟨2, ![a, 9232]⟩ : Shape).Slices ![0, 0] ⟨2, ![a, 3072]⟩) (h2 : (⟨2, ![a, 9232]⟩ : Shape).Slices ![0, 3088] ⟨2, ![a, 6144]⟩)
    (h : Shape.Concatenates [⟨2, ![a, 3072]⟩, ⟨2, ![a, 6144]⟩] ⟨2, ![a, 9216]⟩ 1) (i : Fin a) (j : Fin 9216) :
    concatenate ⟨2, ![a, 9216]⟩ 1 [⟨⟨2, ![a, 3072]⟩, extractStridedSlice ⟨2, ![a, 3072]⟩ ![0, 0] x h1⟩,
      ⟨⟨2, ![a, 6144]⟩, extractStridedSlice ⟨2, ![a, 6144]⟩ ![0, 3088] x h2⟩] h (ix2 i j) = x (ix2 i (col j)) := by
  rw [sideBySide_apply (b := 3072) (c := 6144) (hd := rfl)]
  unfold col
  split_ifs with hj
  · rw [cols_apply _ _ _ _ (by show 0 + j.val < 9232; omega)]
    exact congrArg (fun q => x (ix2 i q)) (Fin.ext (Nat.zero_add _))
  · rw [cols_apply _ _ _ _ (by show 3088 + (j.val - 3072) < 9232; omega)]
    exact congrArg (fun q => x (ix2 i q)) (Fin.ext (by show 3088 + (j.val - 3072) = j.val + 16; omega))

end Cert.ConcatReads

end
-- ==== Proof.SwigluPay.lean ====
/-
  The gated unit's backward call: its body's results and the arrays its call reads, at an index, and the gate's gradient
  two ways.
-/
module

public import proofs.«01_k».proof.Proof.Gen.SwigluIdeal.Frame
public import proofs.«01_k».proof.Proof.IdxReads
public import proofs.«01_k».proof.Proof.ConcatReads
public import proofs.«01_k».proof.Proof.GateMath
public import Idealize.ShloMosaic.Lib.MatmulPlain

@[expose] public section

set_option maxRecDepth 16384

noncomputable section

namespace Cert.SwigluIdeal.Hand

open Cert.SwigluIdeal Cert.SwigluIdeal.Gen Idealize.ShloMosaic Idealize.ShloMosaic.TcCoe Idealize.SL.Sem
open Idealize.ShloMosaic.ValueIdx Cert.IdxReads Cert.Laws Cert.GateMath Cert.ConcatReads
open scoped BigOperators

/-- The logistic function. -/
def sg (x : EReal) : EReal := Ideal.div 1 (1 + Ideal.exp (0 - x))

theorem sg_eq (x : EReal) : Ideal.div (Ideal.ofBits .f32 0x3F800000#32) (Ideal.ofBits .f32 0x3F800000#32 + Ideal.exp (Ideal.ofBits .f32 0x00000000#32 - x)) = sg x := by
  rw [word_one, word_zero]; rfl

/-- The gate's gradient, of the activation's gradient, the other factor and the gate, as the kernel spells it. -/
def dz (d u z : EReal) : EReal := d * u * (sg z * (1 + z * (1 - sg z)))

/-- As the derivative of the product of a number and its logistic value spells it. -/
def dzR (d u z : EReal) : EReal := d * u * sg z + z * (d * u) * (sg z * (1 - sg z))

/-- The two agree where the product of the activation's gradient and the other factor is real. -/
theorem dz_eq (d u z : EReal) (h : ∃ r : ℝ, d * u = r) : dz d u z = dzR d u z := by
  obtain ⟨r, h⟩ := h
  have h0 : ((0 : ℝ) : EReal) = 0 := rfl
  have h1 : ((1 : ℝ) : EReal) = 1 := rfl
  unfold dz dzR
  rw [h]
  induction z using EReal.rec with
  | bot =>
    have hs : sg ⊥ = 0 := by
      unfold sg
      rw [zero_sub, EReal.neg_bot, Ideal.exp_top, EReal.add_top_of_ne_bot (by rw [← h1]; exact EReal.coe_ne_bot _), Ideal.div, if_neg (by simp)]
      simp
    rw [hs]; simp
  | top =>
    have hs : sg ⊤ = 1 := by
      unfold sg
      rw [zero_sub, EReal.neg_top, Ideal.exp_bot, add_zero, ← h1, Ideal.div_coe one_ne_zero, ← EReal.coe_mul]
      norm_num
    have hz : (1 : EReal) - 1 = 0 := by rw [← h1, ← EReal.coe_sub, sub_self, h0]
    rw [hs, hz]; simp
  | coe z =>
    have hp : (0 : ℝ) < 1 + Real.exp (-z) := by positivity
    have hs : sg (z : EReal) = ((1 * (1 / (1 + Real.exp (-z))) : ℝ) : EReal) := by
      unfold sg
      rw [zero_sub, ← EReal.coe_neg, Ideal.exp_coe, ← h1, ← EReal.coe_add, Ideal.div_coe hp.ne', ← EReal.coe_mul]
    rw [hs, ← h1]
    norm_cast
    ring

theorem pay6_apply (x : FVec Ideal S512x1024 .bf16) (w : FVec Ideal S1408x1024 .bf16) (i : Fin 512) (j : Fin 1408) :
    k0_pay6 (F := Ideal) x w (ix2 i j) = ∑ k : Fin 1024, x (ix2 i k) * w (ix2 j k) := by
  unfold k0_pay6 k0_pay5
  simp only [shapeCast_self]
  refine (Ideal.matmul_transposedRhs_apply _ x w _ i j).trans ?_
  exact (congrArg (· + _) word_zero).trans (zero_add _)

theorem pay11_eq (x : FVec Ideal S512x1024 .bf16) (w : FVec Ideal S1408x1024 .bf16) : k0_pay11 (F := Ideal) x w = k0_pay6 (F := Ideal) x w := rfl

theorem pay8_apply (g : FVec Ideal S512x1408 .bf16) (y : S512x1408.Idx) : k0_pay8 (F := Ideal) g y = sg (g y) := by
  unfold k0_pay8 k0_pay7
  simp only [shapeCast_self]
  exact sg_eq _

theorem pay2_apply (g : FVec Ideal S512x1408 .bf16) (y : S512x1408.Idx) : k0_pay2 (F := Ideal) g y = sg (g y) := pay8_apply g y

theorem pay3_apply (d : FVec Ideal S512x1408 .f32) (g u : FVec Ideal S512x1408 .bf16) (y : S512x1408.Idx) :
    k0_pay3 (F := Ideal) d g u y = dz (d y) (u y) (g y) := by
  unfold k0_pay3 k0_pay1
  simp only [shapeCast_self]
  show d y * u y * (k0_pay2 (F := Ideal) g y * (Ideal.ofBits .f32 0x3F800000#32 + g y * (Ideal.ofBits .f32 0x3F800000#32 - k0_pay2 (F := Ideal) g y))) = _
  rw [pay2_apply, word_one]; rfl

theorem pay4_apply (d : FVec Ideal S512x1408 .f32) (g : FVec Ideal S512x1408 .bf16) (y : S512x1408.Idx) :
    k0_pay4 (F := Ideal) d g y = d y * g y * sg (g y) := by
  unfold k0_pay4 k0_pay1
  simp only [shapeCast_self]
  show d y * g y * k0_pay2 (F := Ideal) g y = _
  rw [pay2_apply]

theorem pay9_eq (x : FVec Ideal S512x1024 .bf16) (w : FVec Ideal S1408x1024 .bf16) (g u : FVec Ideal S512x1408 .bf16) :
    k0_pay9 (F := Ideal) x w g u = k0_pay3 (F := Ideal) (k0_pay6 (F := Ideal) x w) g u := rfl

theorem pay10_eq (x : FVec Ideal S512x1024 .bf16) (w : FVec Ideal S1408x1024 .bf16) (g : FVec Ideal S512x1408 .bf16) :
    k0_pay10 (F := Ideal) x w g = k0_pay4 (F := Ideal) (k0_pay6 (F := Ideal) x w) g := rfl

variable (m : (ℓ : Loc nD τ sig) → Buf (Elt Ideal) ℓ)

/-- The arrays of the call's arguments. -/
def guA (c : Dev nD) : FVec Ideal S8192x5632 .f32 := m ((c : Thread nD τ).loc main_arg0)
def wA (c : Dev nD) : FVec Ideal S2816x1024 .f32 := m ((c : Thread nD τ).loc main_arg1)
def ctA (c : Dev nD) : FVec Ideal S8192x1024 .f32 := m ((c : Thread nD τ).loc main_arg2)

theorem V_v4 (c : Dev nD) (i : Fin 8192) (k : Fin 1024) : V m c main_v4 (ix2 i k) = ctA m c (ix2 i k) :=
  congrFun (show V m c main_v4 = truncf (F := Ideal) .bf16 (m ((c : Thread nD τ).loc main_arg2)) bitsLt_bf16_f32 by
    unfold_abbrev_sides
    simp only [hostOps0, List.flatten_cons, List.flatten_nil, List.append_nil, List.cons_append, List.nil_append]
    after_results) _

theorem V_v5 (c : Dev nD) (q : Fin 2816) (k : Fin 1024) : V m c main_v5 (ix2 q k) = wA m c (ix2 q k) :=
  congrFun (show V m c main_v5 = truncf (F := Ideal) .bf16 (m ((c : Thread nD τ).loc main_arg1)) bitsLt_bf16_f32 by
    unfold_abbrev_sides
    simp only [hostOps0, List.flatten_cons, List.flatten_nil, List.append_nil, List.cons_append, List.nil_append]
    after_results) _

theorem V_v1 (c : Dev nD) (i : Fin 8192) (q : Fin 2816) : V m c main_v1 (ix2 i q) = guA m c (ix2 i ⟨0 + q.val, by omega⟩) := by
  refine (congrFun (show V m c main_v1 = truncf (F := Ideal) .bf16 (extractStridedSlice S8192x2816 ![0, 0] (m ((c : Thread nD τ).loc main_arg0)) slices_S8192x5632_S8192x2816_0_0) bitsLt_bf16_f32 by
    unfold_abbrev_sides
    simp only [hostOps0, List.flatten_cons, List.flatten_nil, List.append_nil, List.cons_append, List.nil_append]
    after_results) _).trans ?_
  exact cols_apply _ slices_S8192x5632_S8192x2816_0_0 i q _

theorem V_v3 (c : Dev nD) (i : Fin 8192) (q : Fin 2816) : V m c main_v3 (ix2 i q) = guA m c (ix2 i ⟨2816 + q.val, by omega⟩) := by
  refine (congrFun (show V m c main_v3 = truncf (F := Ideal) .bf16 (extractStridedSlice S8192x2816 ![0, 2816] (m ((c : Thread nD τ).loc main_arg0)) slices_S8192x5632_S8192x2816_0_2816) bitsLt_bf16_f32 by
    unfold_abbrev_sides
    simp only [hostOps0, List.flatten_cons, List.flatten_nil, List.append_nil, List.cons_append, List.nil_append]
    after_results) _).trans ?_
  exact cols_apply _ slices_S8192x5632_S8192x2816_0_2816 i q _

end Cert.SwigluIdeal.Hand

end
-- ==== Proof.SwigluValue.lean ====
/-
  The gated unit's backward call: its result array after the run.
-/
module

public import proofs.«01_k».proof.Proof.SwigluPay
public import proofs.«01_k».proof.Proof.Gen.SwigluIdeal.Value
public import Idealize.ShloMosaic.Lib.Pipeline.ValueKit.Point

@[expose] public section

set_option maxRecDepth 16384

noncomputable section

namespace Cert.SwigluIdeal.Hand

open Cert.SwigluIdeal Cert.SwigluIdeal.Gen
open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2)
open Idealize.ShloMosaic.Pipeline (Dat)
open Cert.IdxReads
open scoped BigOperators

variable (m : (ℓ : Loc nD τ sig) → Buf (Elt Ideal) ℓ)

/-- The gate, the other factor, and the gradient of their product's activation. -/
def gA (c : Dev nD) (i : Fin 8192) (q : Fin 2816) : EReal := guA m c (ix2 i ⟨0 + q.val, by omega⟩)
def uA (c : Dev nD) (i : Fin 8192) (q : Fin 2816) : EReal := guA m c (ix2 i ⟨2816 + q.val, by omega⟩)
def da (c : Dev nD) (i : Fin 8192) (q : Fin 2816) : EReal := ∑ k : Fin 1024, ctA m c (ix2 i k) * wA m c (ix2 q k)

/-- The result: the gate's gradient in the first half of the columns, the other factor's in the second. -/
def res (c : Dev nD) (i : Fin 8192) (q : Fin 5632) : EReal :=
  if h : q.val < 2816 then dz (da m c i ⟨q.val, h⟩) (uA m c i ⟨q.val, h⟩) (gA m c i ⟨q.val, h⟩)
  else da m c i ⟨q.val - 2816, by omega⟩ * gA m c i ⟨q.val - 2816, by omega⟩ * sg (gA m c i ⟨q.val - 2816, by omega⟩)

theorem res_gate (c : Dev nD) (i : Fin 8192) (q : Fin 2816) (p : Fin 5632) (h : p.val = q.val) : res m c i p = dz (da m c i q) (uA m c i q) (gA m c i q) := by
  unfold res
  rw [dif_pos (by omega), show (⟨p.val, by omega⟩ : Fin 2816) = q from Fin.ext h]

theorem res_up (c : Dev nD) (i : Fin 8192) (q : Fin 2816) (p : Fin 5632) (h : p.val = 2816 + q.val) : res m c i p = da m c i q * gA m c i q * sg (gA m c i q) := by
  unfold res
  rw [dif_neg (by omega), show (⟨p.val - 2816, by omega⟩ : Fin 2816) = q from Fin.ext (by show p.val - 2816 = q.val; omega)]

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)

/-- A row of a block, as a row of the array. -/
def row (t : Fin cfg0.N) (i : Fin 512) : Fin 8192 := ⟨t.val * 512 + i.val, by have h := Nat.lt_of_lt_of_eq t.isLt N_0; omega⟩

theorem blk0 (c : Dev nD) (t : Fin cfg0.N) (i : Fin 512) (k : Fin 1024) : iblk m c 0 t (ix2 i k) = ctA m c (ix2 (row t i) k) := by
  rw [← V_v4]; blk_ext! [iblk, idx0 t, row]
theorem blk1 (c : Dev nD) (t : Fin cfg0.N) (q : Fin 2816) (k : Fin 1024) : iblk m c 1 t (ix2 q k) = wA m c (ix2 q k) := by
  rw [← V_v5]; blk_ext! [iblk, idx1 t]
theorem blk2 (c : Dev nD) (t : Fin cfg0.N) (i : Fin 512) (q : Fin 2816) : iblk m c 2 t (ix2 i q) = gA m c (row t i) q := by
  unfold gA; rw [← V_v1]; blk_ext! [iblk, idx2 t, row]
theorem blk3 (c : Dev nD) (t : Fin cfg0.N) (i : Fin 512) (q : Fin 2816) : iblk m c 3 t (ix2 i q) = uA m c (row t i) q := by
  unfold uA; rw [← V_v3]; blk_ext! [iblk, idx3 t, row]

/-! The body's loads of the two halves of the columns, and the product they enter. -/

theorem gate0 (c : Dev nD) (t : Fin cfg0.N) (i : Fin 512) (j : Fin 1408) :
    View.ld (Val := Elt Ideal) (e' := .bf16) (iblk m c 2 t) r0_2 (ix2 i j) = gA m c (row t i) (⟨0 + j.val, by omega⟩ : Fin 2816) :=
  (congrArg (iblk m c 2 t) (show r0_2.idx (ix2 i j) = ix2 i (⟨0 + j.val, by omega⟩ : Fin 2816) from Shape.idx_ext₂ (by show 0 + 1 * i.val = i.val; omega) (by show 0 + 1 * j.val = 0 + j.val; omega))).trans (blk2 m c t i _)

theorem up0 (c : Dev nD) (t : Fin cfg0.N) (i : Fin 512) (j : Fin 1408) :
    View.ld (Val := Elt Ideal) (e' := .bf16) (iblk m c 3 t) r0_2 (ix2 i j) = uA m c (row t i) (⟨0 + j.val, by omega⟩ : Fin 2816) :=
  (congrArg (iblk m c 3 t) (show r0_2.idx (ix2 i j) = ix2 i (⟨0 + j.val, by omega⟩ : Fin 2816) from Shape.idx_ext₂ (by show 0 + 1 * i.val = i.val; omega) (by show 0 + 1 * j.val = 0 + j.val; omega))).trans (blk3 m c t i _)

theorem act0 (c : Dev nD) (t : Fin cfg0.N) (i : Fin 512) (j : Fin 1408) :
    k0_pay6 (F := Ideal) (View.ld (Val := Elt Ideal) (e' := .bf16) (iblk m c 0 t) r0_0) (View.ld (Val := Elt Ideal) (e' := .bf16) (iblk m c 1 t) r0_1) (ix2 i j)
      = da m c (row t i) (⟨0 + j.val, by omega⟩ : Fin 2816) := by
  rw [pay6_apply]
  unfold da
  refine Finset.sum_congr rfl fun k _ => congrArg₂ _ ?_ ?_
  · exact (congrArg (iblk m c 0 t) (show r0_0.idx (ix2 i k) = ix2 i k from Shape.idx_ext₂ (by show 0 + 1 * i.val = i.val; omega) (by show 0 + 1 * k.val = k.val; omega))).trans (blk0 m c t i k)
  · exact (congrArg (iblk m c 1 t) (show r0_1.idx (ix2 j k) = ix2 (⟨0 + j.val, by omega⟩ : Fin 2816) k from Shape.idx_ext₂ (by show 0 + 1 * j.val = 0 + j.val; omega) (by show 0 + 1 * k.val = k.val; omega))).trans (blk1 m c t _ k)

theorem gate1 (c : Dev nD) (t : Fin cfg0.N) (i : Fin 512) (j : Fin 1408) :
    View.ld (Val := Elt Ideal) (e' := .bf16) (iblk m c 2 t) r0_6 (ix2 i j) = gA m c (row t i) (⟨1408 + j.val, by omega⟩ : Fin 2816) :=
  (congrArg (iblk m c 2 t) (show r0_6.idx (ix2 i j) = ix2 i (⟨1408 + j.val, by omega⟩ : Fin 2816) from Shape.idx_ext₂ (by show 0 + 1 * i.val = i.val; omega) (by show 1408 + 1 * j.val = 1408 + j.val; omega))).trans (blk2 m c t i _)

theorem up1 (c : Dev nD) (t : Fin cfg0.N) (i : Fin 512) (j : Fin 1408) :
    View.ld (Val := Elt Ideal) (e' := .bf16) (iblk m c 3 t) r0_6 (ix2 i j) = uA m c (row t i) (⟨1408 + j.val, by omega⟩ : Fin 2816) :=
  (congrArg (iblk m c 3 t) (show r0_6.idx (ix2 i j) = ix2 i (⟨1408 + j.val, by omega⟩ : Fin 2816) from Shape.idx_ext₂ (by show 0 + 1 * i.val = i.val; omega) (by show 1408 + 1 * j.val = 1408 + j.val; omega))).trans (blk3 m c t i _)

theorem act1 (c : Dev nD) (t : Fin cfg0.N) (i : Fin 512) (j : Fin 1408) :
    k0_pay6 (F := Ideal) (View.ld (Val := Elt Ideal) (e' := .bf16) (iblk m c 0 t) r0_0) (View.ld (Val := Elt Ideal) (e' := .bf16) (iblk m c 1 t) r0_5) (ix2 i j)
      = da m c (row t i) (⟨1408 + j.val, by omega⟩ : Fin 2816) := by
  rw [pay6_apply]
  unfold da
  refine Finset.sum_congr rfl fun k _ => congrArg₂ _ ?_ ?_
  · exact (congrArg (iblk m c 0 t) (show r0_0.idx (ix2 i k) = ix2 i k from Shape.idx_ext₂ (by show 0 + 1 * i.val = i.val; omega) (by show 0 + 1 * k.val = k.val; omega))).trans (blk0 m c t i k)
  · exact (congrArg (iblk m c 1 t) (show r0_5.idx (ix2 j k) = ix2 (⟨1408 + j.val, by omega⟩ : Fin 2816) k from Shape.idx_ext₂ (by show 1408 + 1 * j.val = 1408 + j.val; omega) (by show 0 + 1 * k.val = k.val; omega))).trans (blk1 m c t _ k)

theorem out4 (c : Dev nD) (t : Fin cfg0.N) (i : Fin 512) (q : Fin 5632) :
    out0_4 (iblk m c 0 t) (iblk m c 1 t) (iblk m c 2 t) (iblk m c 3 t) (ix2 i q) = res m c (row t i) q := by
  unfold out0_4 k0_pay12
  rw [pay11_eq]
  canon_tiles x h
  · obtain ⟨i', j, rfl⟩ : ∃ (i' : Fin 512) (j : Fin 1408), x = ix2 i' j := ⟨x 0, x 1, eq_ix2 x⟩
    obtain rfl : i = i' := Fin.ext h0
    have e1 : q.val = 4224 + j.val := h1
    refine Eq.trans ?_ (res_up m c (row t i) (⟨1408 + j.val, by omega⟩ : Fin 2816) q (by show q.val = 2816 + (1408 + j.val); omega)).symm
    rw [pay4_apply]
    exact congrArg₂ (fun d g => d * g * sg g) (act1 m c t i j) (gate1 m c t i j)
  · obtain ⟨i', j, rfl⟩ : ∃ (i' : Fin 512) (j : Fin 1408), x = ix2 i' j := ⟨x 0, x 1, eq_ix2 x⟩
    obtain rfl : i = i' := Fin.ext h0
    have e1 : q.val = 1408 + j.val := h1
    refine Eq.trans ?_ (res_gate m c (row t i) (⟨1408 + j.val, by omega⟩ : Fin 2816) q (by show q.val = 1408 + j.val; omega)).symm
    rw [pay3_apply]
    exact congr (congrArg₂ dz (act1 m c t i j) (up1 m c t i j)) (gate1 m c t i j)
  · obtain ⟨i', j, rfl⟩ : ∃ (i' : Fin 512) (j : Fin 1408), x = ix2 i' j := ⟨x 0, x 1, eq_ix2 x⟩
    obtain rfl : i = i' := Fin.ext h0
    have e1 : q.val = 2816 + j.val := h1
    refine Eq.trans ?_ (res_up m c (row t i) (⟨0 + j.val, by omega⟩ : Fin 2816) q (by show q.val = 2816 + (0 + j.val); omega)).symm
    rw [pay10_eq, pay4_apply]
    exact congrArg₂ (fun d g => d * g * sg g) (act0 m c t i j) (gate0 m c t i j)
  · obtain ⟨i', j, rfl⟩ : ∃ (i' : Fin 512) (j : Fin 1408), x = ix2 i' j := ⟨x 0, x 1, eq_ix2 x⟩
    obtain rfl : i = i' := Fin.ext h0
    have e1 : q.val = 0 + j.val := h1.trans (Nat.zero_add _).symm
    refine Eq.trans ?_ (res_gate m c (row t i) (⟨0 + j.val, by omega⟩ : Fin 2816) q (by show q.val = 0 + j.val; omega)).symm
    rw [pay9_eq, pay3_apply]
    exact congr (congrArg₂ dz (act0 m c t i j) (up0 m c t i j)) (gate0 m c t i j)

/-- The array after the run. -/
theorem final4 (c : Dev nD) : (dats m 0 c).arrAt 4 cfg0.N = fun i : S8192x5632.Idx => res m c (i 0) (i 1) := by
  refine (dats m 0 c).arrAt_eq_of_covers 4 _ (by decide +kernel) fun t hf y => ?_
  blk_simp
  rw [after0_4]
  obtain ⟨i, j, rfl⟩ : ∃ (i : Fin 512) (j : Fin 5632), y = ix2 i j := ⟨y 0, y 1, eq_ix2 y⟩
  refine (out4 m c t i j).trans ?_
  refine congrArg₂ (res m c) (Fin.ext ?_) (Fin.ext ?_) <;> blk_simp [idx4 t, row]

end Cert.SwigluIdeal.Hand

end
-- ==== Proof.SwigluClaims.lean ====
/-
  The gated unit's backward call: the reference's derivative at an index, and the claim. The precondition is read here.
-/
module

public import proofs.«01_k».proof.Defs
public import proofs.«01_k».proof.Proof.Gen.SwigluRefIdeal.Read
public import proofs.«01_k».proof.Proof.Gen.Pre_finite_up_weight_and_cotangent
public import proofs.«01_k».proof.Proof.Finite
public import proofs.«01_k».proof.Proof.SwigluValue
public import Idealize.ShloMosaic.Lib.Quiescent
public import Idealize.ShloMosaic.Lib.ReduceAll

@[expose] public section

set_option maxRecDepth 16384

noncomputable section

namespace Cert.SwigluClaims

open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2)
open Cert.SwigluRefIdeal Cert.SwigluRefIdeal.Read Cert.SwigluRefIdeal.Gen
open Cert.SwigluIdeal.Hand (guA wA ctA gA uA da sg dz dzR dz_eq res_gate res_up final4)
open Cert.GateMath Cert.Laws Cert.ConcatReads
open scoped BigOperators

section reads
variable (x0 : FVec Ideal S8192x5632 .f32) (x1 : FVec Ideal S2816x1024 .f32) (x2 : FVec Ideal S8192x1024 .f32)

/-- The gate, the other factor, and the activation's gradient. -/
def zR (i : Fin 8192) (q : Fin 2816) : EReal := x0 (ix2 i ⟨0 + q.val, by omega⟩)
def uR (i : Fin 8192) (q : Fin 2816) : EReal := x0 (ix2 i ⟨2816 + q.val, by omega⟩)
def dR (i : Fin 8192) (q : Fin 2816) : EReal := ∑ k : Fin 1024, x2 (ix2 i k) * x1 (ix2 q k)

theorem v0_apply (i : Fin 8192) (q : Fin 2816) : val_main_v0 (F := Ideal) x0 (ix2 i q) = zR x0 i q := by
  have e : idx_main_v0 (ix2 i q) = ix2 i ⟨0 + q.val, by omega⟩ := Shape.idx_ext₂ rfl (by show q.val = 0 + q.val; omega)
  rw [val_main_v0_apply, e]; rfl

theorem v1_apply (i : Fin 8192) (q : Fin 2816) : val_main_v1 (F := Ideal) x0 (ix2 i q) = uR x0 i q := by
  have e : idx_main_v1 (ix2 i q) = ix2 i ⟨2816 + q.val, by omega⟩ := Shape.idx_ext₂ rfl rfl
  rw [val_main_v1_apply, e]; rfl

theorem v2_apply (i : Fin 8192) (q : Fin 2816) : val_main_v2_2 (F := Ideal) x0 (ix2 i q) = sg (zR x0 i q) := by
  rw [val_main_v2_2_apply, val_main_call0_v4_apply, val_main_call0_v3_apply, val_main_call0_v2_apply, val_main_call0_v1_apply, val_main_call0_v0_apply,
    val_main_call0_cst_apply, val_main_call0_cst_0_apply, v0_apply]
  show Ideal.div (Ideal.ofBits .f32 0x3F800000#32) (Ideal.ofBits .f32 0x3F800000#32 + Ideal.exp (-(zR x0 i q))) = _
  unfold sg
  rw [word_one, zero_sub]

theorem v5_apply (i : Fin 8192) (q : Fin 2816) : val_main_v5 (F := Ideal) x1 x2 (ix2 i q) = dR x1 x2 i q := by
  rw [val_main_v5_apply]
  exact Finset.sum_congr rfl fun k _ => congrArg₂ (fun a b : EReal => a * b) (congrArg x2 (Shape.idx_ext₂ rfl rfl)) (congrArg x1 (Shape.idx_ext₂ rfl rfl))

theorem v8_apply (i : Fin 8192) (q : Fin 2816) : val_main_v8 (F := Ideal) x0 x1 x2 (ix2 i q) = dzR (dR x1 x2 i q) (uR x0 i q) (zR x0 i q) := by
  rw [val_main_v8_apply, val_main_call1_v1_apply, val_main_call1_v2_apply, val_main_call1_v0_apply, val_main_v7_apply, val_main_v2_1_apply,
    val_main_call0_v7_apply, val_main_call0_v6_apply, val_main_call0_cst_1_apply, v2_apply, v5_apply, v1_apply, v0_apply]
  show dR x1 x2 i q * uR x0 i q * sg (zR x0 i q) + zR x0 i q * (dR x1 x2 i q * uR x0 i q) * (sg (zR x0 i q) * (Ideal.ofBits .f32 0x3F800000#32 - sg (zR x0 i q))) = _
  rw [word_one]; rfl

theorem v6_apply (i : Fin 8192) (q : Fin 2816) : val_main_v6 (F := Ideal) x0 x1 x2 (ix2 i q) = dR x1 x2 i q * zR x0 i q * sg (zR x0 i q) := by
  rw [val_main_v6_apply, val_main_v2_0_apply, v2_apply, v5_apply, v0_apply]
  show zR x0 i q * sg (zR x0 i q) * dR x1 x2 i q = _
  rw [mul_comm, mul_assoc]

theorem v10_apply (i : Fin 8192) (p : Fin 5632) : val_main_v10 (F := Ideal) x0 x1 x2 (ix2 i p)
    = if h : p.val < 2816 then val_main_v8 (F := Ideal) x0 x1 x2 (ix2 i ⟨p.val, h⟩) else val_main_v6 (F := Ideal) x0 x1 x2 (ix2 i ⟨p.val - 2816, by omega⟩) := by
  rw [val_main_v10_apply]
  exact sideBySide_apply (a := 8192) (b := 2816) (c := 2816) (d := 5632) (val_main_v8 (F := Ideal) x0 x1 x2) (val_main_v6 (F := Ideal) x0 x1 x2)
    concatenates_S8192x2816_S8192x2816_S8192x5632_d1 rfl i p

/-- What the precondition gives: the activation's gradient times the other factor is real. -/
theorem du_real [hP : Cert.Pre_finite_up_weight_and_cotangent.Facts] (h : Cert.Pre_finite_up_weight_and_cotangent.fn (F := Ideal) x0 x1 x2 = fun _ => 1#1)
    (i : Fin 8192) (q : Fin 2816) : ∃ r : ℝ, dR x1 x2 i q * uR x0 i q = r := by
  have h1 := congrFun h (Shape.Idx.first (s := Cert.Pre_finite_up_weight_and_cotangent.S_) (by decide))
  dsimp only [Cert.Pre_finite_up_weight_and_cotangent.fn] at h1
  obtain ⟨hu, h2⟩ := IntOp.andi_eq_one.1 h1
  obtain ⟨hw, hc⟩ := IntOp.andi_eq_one.1 h2
  haveI : Subsingleton Cert.Pre_finite_up_weight_and_cotangent.S_.Idx := ⟨fun a b => funext fun e => e.elim0⟩
  refine Cert.Finite.real_mul (Cert.Finite.real_sum _ fun k => Cert.Finite.real_mul ?_ ?_) ?_
  · exact Cert.Finite.real_of_olt _ (Host.reduce_andi_all _ _ _ _ _ hc (ix2 i k))
  · exact Cert.Finite.real_of_olt _ (Host.reduce_andi_all _ _ _ _ _ hw (ix2 q k))
  · refine Cert.Finite.real_of_olt _ (Eq.trans (congrArg (fun z => FloatOps.cmpf (F := Ideal) (φ := .f32) .olt (FloatOps.hostAbsf (F := Ideal) (φ := .f32) z) _) ?_)
      (Host.reduce_andi_all _ _ _ _ _ hu (ix2 i q)))
    exact (cols_apply (a := 8192) (b := 5632) (c := 2816) (o := 2816) x0 _ i q (by show 2816 + q.val < 5632; omega)).symm

end reads

/-- The call computes the derivative of the gated unit, where the other factor, the weight and the cotangent are real. -/
theorem algebraic : Cert.algebraic_SwigluIdeal_SwigluRefIdeal_pre_finite_up_weight_and_cotangent (hSwigluIdeal := Cert.SwigluIdeal.Gen.facts)
    (hSwigluRefIdeal := Cert.SwigluRefIdeal.Gen.facts) (hPre_finite_up_weight_and_cotangent := Cert.Pre_finite_up_weight_and_cotangent.Gen.facts) := by
  intro m ρ m' ρ' hpre hag
  refine ⟨fun c => val_main_v10 (F := Ideal) (guA m c) (wA m c) (ctA m c), ?_, ?_⟩
  · refine (θ_run _ _ _).mono (fun r h c => ⟨(h c).1.trans ((final4 m c).trans (funext fun z => ?_)), (h c).2⟩) (Cert.SwigluIdeal.Value.run_blocks m ρ)
    obtain ⟨i, p, rfl⟩ : ∃ (i : Fin 8192) (p : Fin 5632), z = ix2 i p := ⟨z 0, z 1, eq_ix2 z⟩
    refine Eq.trans ?_ (v10_apply (guA m c) (wA m c) (ctA m c) i p).symm
    by_cases hp : p.val < 2816
    · rw [dif_pos hp, v8_apply]
      exact (res_gate m c i ⟨p.val, hp⟩ p rfl).trans (dz_eq _ _ _ (du_real _ _ _ (hpre c) i ⟨p.val, hp⟩))
    · rw [dif_neg hp, v6_apply]
      exact res_up m c i ⟨p.val - 2816, by omega⟩ p (by show p.val = 2816 + (p.val - 2816); omega)
  · refine (θ_run _ _ _).mono (fun r h c => ⟨(h c).1.trans ?_, (h c).2⟩) (Cert.SwigluRefIdeal.Value.run m' ρ')
    refine (val_main_v10_eq ..).trans ?_
    rw [(hag c).1, (hag c).2.1, (hag c).2.2]; rfl

/-- The reference runs and leaves its arguments and the counters as they were. -/
theorem frame_ref : Cert.quiescent_SwigluRefIdeal (hSwigluRefIdeal := Cert.SwigluRefIdeal.Gen.facts) := fun m ρ _ =>
  (θ_run Cert.SwigluRefIdeal.defs _ _).mono (fun r h => ⟨fun c => (h c).2, sem_eq_zero_of_no_sems (by decide) r.2⟩)
    (Cert.SwigluRefIdeal.Value.run (F := Ideal) m ρ)

end Cert.SwigluClaims

end
-- ==== Proof.MergePay.lean ====
/-
  The merge gradient's payloads and the arrays its call reads, at an index.
-/
module

public import proofs.«01_k».proof.Proof.Gen.MergeIdeal.Frame
public import proofs.«01_k».proof.Proof.IdxReads
public import proofs.«01_k».proof.Proof.ConcatReads
public import proofs.«01_k».proof.Proof.GateMath
public import Idealize.ShloMosaic.Lib.MatmulPlain

@[expose] public section

set_option maxRecDepth 16384

noncomputable section

namespace Cert.MergeIdeal.Hand

open Cert.MergeIdeal Cert.MergeIdeal.Gen
open Idealize.ShloMosaic Idealize.ShloMosaic.TcCoe Idealize.SL.Sem Idealize.ShloMosaic.ValueIdx
open Cert.IdxReads Cert.Laws Cert.GateMath Cert.ConcatReads
open scoped BigOperators

/-- The gate of a logit. -/
def sg (x : EReal) : EReal := Ideal.div 1 (1 + Ideal.exp (0 - x))

theorem pay2_apply (x : FVec Ideal S256x1024 .bf16) (w : FVec Ideal S1024x1024 .bf16) (i : Fin 256) (j : Fin 1024) :
    k0_pay2 (F := Ideal) x w (ix2 i j) = ∑ k : Fin 1024, x (ix2 i k) * w (ix2 j k) := by
  unfold k0_pay2
  simp only [shapeCast_self]
  refine (Ideal.matmul_transposedRhs_apply _ x w _ i j).trans ?_
  exact (congrArg (· + _) word_zero).trans (zero_add _)

theorem sg_eq (x : EReal) : Ideal.div (Ideal.ofBits .f32 0x3F800000#32) (Ideal.ofBits .f32 0x3F800000#32 + Ideal.exp (Ideal.ofBits .f32 0x00000000#32 - x)) = sg x := by
  rw [word_one, word_zero]; rfl

theorem pay3_apply (g : FVec Ideal S256x1024 .bf16) (y : S256x1024.Idx) : k0_pay3 (F := Ideal) g y = sg (g y) := by
  unfold k0_pay3
  simp only [shapeCast_self]
  exact sg_eq _

theorem pay8_apply (g : FVec Ideal S256x1024 .bf16) (y : S256x1024.Idx) : k0_pay8 (F := Ideal) (k0_pay6 g) k0_pay7 y = sg (g y) := by
  unfold k0_pay8 k0_pay6 k0_pay7
  simp only [shapeCast_self]
  exact sg_eq _

theorem pay11_apply (g : FVec Ideal S256x1024 .bf16) (y : S256x1024.Idx) : k0_pay11 (F := Ideal) g y = sg (g y) := by
  unfold k0_pay11
  simp only [shapeCast_self]
  exact sg_eq _

/-- A branch's share of the gate's gradient, of the merged gradient, the branch and the gate. -/
def gl (dm p s : EReal) : EReal := dm * p * s * (1 - s)

theorem drop_apply (p : FVec Ideal S1x256x1024 .bf16) (h : S1x256x1024.ShapeCasts S256x1024) (i : Fin 256) (j : Fin 1024) :
    shapeCast S256x1024 p h (ix2 i j) = p (ix3 0 i j) :=
  shapeCast_apply _ _ _ _ (by
    rw [Shape.rowMajor_val_two, Shape.rowMajor_val_three]
    show (0 * 256 + i.val) * 1024 + j.val = i.val * 1024 + j.val; omega)

theorem pay5_apply (x : FVec Ideal S256x1024 .bf16) (w : FVec Ideal S1024x1024 .bf16) (g : FVec Ideal S256x1024 .bf16) (p : FVec Ideal S1x256x1024 .bf16)
    (i : Fin 256) (j : Fin 1024) : k0_pay5 (F := Ideal) x w g p (ix2 i j) = gl (k0_pay2 (F := Ideal) x w (ix2 i j)) (p (ix3 0 i j)) (sg (g (ix2 i j))) := by
  unfold k0_pay5
  show k0_pay2 (F := Ideal) x w (ix2 i j) * shapeCast S256x1024 p _ (ix2 i j) * k0_pay3 (F := Ideal) g (ix2 i j)
    * (Ideal.ofBits .f32 0x3F800000#32 - k0_pay3 (F := Ideal) g (ix2 i j)) = _
  rw [drop_apply, pay3_apply, word_one]; rfl

theorem pay10_apply (dm : FVec Ideal S256x1024 .f32) (g : FVec Ideal S256x1024 .bf16) (p : FVec Ideal S1x256x1024 .bf16)
    (i : Fin 256) (j : Fin 1024) : k0_pay10 (F := Ideal) dm (k0_pay6 g) k0_pay7 p (ix2 i j) = gl (dm (ix2 i j)) (p (ix3 0 i j)) (sg (g (ix2 i j))) := by
  unfold k0_pay10
  show dm (ix2 i j) * shapeCast S256x1024 p _ (ix2 i j) * k0_pay8 (F := Ideal) (k0_pay6 g) k0_pay7 (ix2 i j)
    * (Ideal.ofBits .f32 0x3F800000#32 - k0_pay8 (F := Ideal) (k0_pay6 g) k0_pay7 (ix2 i j)) = _
  rw [drop_apply, pay8_apply, word_one]; rfl

theorem pay13_apply (dm : FVec Ideal S256x1024 .f32) (g : FVec Ideal S256x1024 .bf16) (p : FVec Ideal S1x256x1024 .bf16)
    (i : Fin 256) (j : Fin 1024) : k0_pay1 (F := Ideal) (k0_pay13 dm g p) (ix2 i j) = gl (dm (ix2 i j)) (p (ix3 0 i j)) (sg (g (ix2 i j))) := by
  unfold k0_pay1 k0_pay13
  show dm (ix2 i j) * shapeCast S256x1024 p _ (ix2 i j) * k0_pay11 (F := Ideal) g (ix2 i j)
    * (Ideal.ofBits .f32 0x3F800000#32 - k0_pay11 (F := Ideal) g (ix2 i j)) = _
  rw [drop_apply, pay11_apply, word_one]; rfl

theorem pay4_apply (x : FVec Ideal S256x1024 .bf16) (w : FVec Ideal S1024x1024 .bf16) (g : FVec Ideal S256x1024 .bf16)
    (y : S256x1024.Idx) : k0_pay4 (F := Ideal) x w g y = k0_pay2 (F := Ideal) x w y * sg (g y) := by
  unfold k0_pay4
  exact congrArg (k0_pay2 (F := Ideal) x w y * ·) (pay3_apply g y)

theorem pay9_apply (dm : FVec Ideal S256x1024 .f32) (g : FVec Ideal S256x1024 .bf16)
    (y : S256x1024.Idx) : k0_pay9 (F := Ideal) dm (k0_pay6 g) k0_pay7 y = dm y * sg (g y) := by
  unfold k0_pay9
  exact congrArg (dm y * ·) (pay8_apply g y)

theorem pay12_apply (dm : FVec Ideal S256x1024 .f32) (g : FVec Ideal S256x1024 .bf16)
    (y : S256x1024.Idx) : k0_pay12 (F := Ideal) dm g y = dm y * sg (g y) := by
  unfold k0_pay12
  exact congrArg (dm y * ·) (pay11_apply g y)

theorem pay14_eq (x0 : FVec Ideal S256x1024 .bf16) (x1 : FVec Ideal S1024x1024 .bf16) (x2 x3 x4 : FVec Ideal S256x1024 .bf16) (x5 : FVec Ideal S3x256x1024 .bf16) :
    k0_pay14 (F := Ideal) x0 x1 x2 x3 x4 x5 = k0_pay2 x0 x1 := by
  unfold k0_pay14 r0_0 r0_1; rw [ld2, ld2]

theorem pay15_eq (x0 : FVec Ideal S256x1024 .bf16) (x1 : FVec Ideal S1024x1024 .bf16) (x2 x3 x4 : FVec Ideal S256x1024 .bf16) (x5 : FVec Ideal S3x256x1024 .bf16) :
    k0_pay15 (F := Ideal) x0 x1 x2 x3 x4 x5 = k0_pay6 x3 := by
  unfold k0_pay15 r0_0; rw [ld2]

theorem pay16_eq (x0 : FVec Ideal S256x1024 .bf16) (x1 : FVec Ideal S1024x1024 .bf16) (x2 x3 x4 : FVec Ideal S256x1024 .bf16) (x5 : FVec Ideal S3x256x1024 .bf16) :
    k0_pay16 (F := Ideal) x0 x1 x2 x3 x4 x5 = k0_pay7 := rfl

variable (m : (ℓ : Loc nD τ sig) → Buf (Elt Ideal) ℓ)

def aA (p : Fin 3) (c : Dev nD) : FVec Ideal S8192x1024 .f32 :=
  (![m ((c.tc : Thread nD τ).loc main_arg0), m ((c.tc : Thread nD τ).loc main_arg1), m ((c.tc : Thread nD τ).loc main_arg2)] : Fin 3 → FVec Ideal S8192x1024 .f32) p
def projA (c : Dev nD) : FVec Ideal S8192x9232 .f32 := m ((c.tc : Thread nD τ).loc main_arg3)
def wA (c : Dev nD) : FVec Ideal S1024x1024 .f32 := m ((c.tc : Thread nD τ).loc main_arg4)
def ctA (c : Dev nD) : FVec Ideal S8192x1024 .f32 := m ((c.tc : Thread nD τ).loc main_arg5)

theorem V_v4 (c : Dev nD) (p : Fin 3) (i : Fin 8192) (j : Fin 1024) : V m c main_v4 (ix3 p i j) = aA m p c (ix2 i j) := by
  refine (congrFun (show V m c main_v4 = truncf (F := Ideal) .bf16 (concatenate S3x8192x1024 0 [⟨S1x8192x1024, broadcastInDim S1x8192x1024 ![1, 2] bcast_S8192x1024_S1x8192x1024_1_2 (m ((c : Thread nD τ).loc main_arg0))⟩,
      ⟨S1x8192x1024, broadcastInDim S1x8192x1024 ![1, 2] bcast_S8192x1024_S1x8192x1024_1_2 (m ((c : Thread nD τ).loc main_arg1))⟩,
      ⟨S1x8192x1024, broadcastInDim S1x8192x1024 ![1, 2] bcast_S8192x1024_S1x8192x1024_1_2 (m ((c : Thread nD τ).loc main_arg2))⟩] concatenates_S1x8192x1024_S1x8192x1024_S1x8192x1024_S3x8192x1024_d0) bitsLt_bf16_f32 by
    unfold_abbrev_sides
    simp only [hostOps0, List.flatten_cons, List.flatten_nil, List.append_nil, List.cons_append, List.nil_append]
    after_results; rfl) _).trans ?_
  refine (stack3_apply (a := 8192) (b := 1024) _ _ _ concatenates_S1x8192x1024_S1x8192x1024_S1x8192x1024_S3x8192x1024_d0 p i j).trans ?_
  match p with
  | ⟨0, _⟩ => exact broadcastInDim_apply _ bcast_S8192x1024_S1x8192x1024_1_2 _ _ _ (fun d => by match d with | ⟨0, _⟩ => rfl | ⟨1, _⟩ => rfl)
  | ⟨1, _⟩ => exact broadcastInDim_apply _ bcast_S8192x1024_S1x8192x1024_1_2 _ _ _ (fun d => by match d with | ⟨0, _⟩ => rfl | ⟨1, _⟩ => rfl)
  | ⟨2, _⟩ => exact broadcastInDim_apply _ bcast_S8192x1024_S1x8192x1024_1_2 _ _ _ (fun d => by match d with | ⟨0, _⟩ => rfl | ⟨1, _⟩ => rfl)

theorem V_v10 (c : Dev nD) (i : Fin 8192) (j : Fin 9216) : V m c main_v10 (ix2 i j) = projA m c (ix2 i (col j)) := by
  refine (congrFun (show V m c main_v10 = truncf (F := Ideal) .bf16 (concatenate S8192x9216 1
      [⟨S8192x3072, extractStridedSlice S8192x3072 ![0, 0] (m ((c : Thread nD τ).loc main_arg3)) slices_S8192x9232_S8192x3072_0_0⟩,
       ⟨S8192x6144, extractStridedSlice S8192x6144 ![0, 3088] (m ((c : Thread nD τ).loc main_arg3)) slices_S8192x9232_S8192x6144_0_3088⟩]
      concatenates_S8192x3072_S8192x6144_S8192x9216_d1) bitsLt_bf16_f32 by
    unfold_abbrev_sides
    simp only [hostOps0, List.flatten_cons, List.flatten_nil, List.append_nil, List.cons_append, List.nil_append]
    after_results) _).trans ?_
  exact without_apply _ slices_S8192x9232_S8192x3072_0_0 slices_S8192x9232_S8192x6144_0_3088 concatenates_S8192x3072_S8192x6144_S8192x9216_d1 i j

theorem V_v5 (c : Dev nD) : V m c main_v5 = ctA m c := by
  refine (show V m c main_v5 = truncf (F := Ideal) .bf16 (m ((c : Thread nD τ).loc main_arg5)) bitsLt_bf16_f32 by
    unfold_abbrev_sides
    simp only [hostOps0, List.flatten_cons, List.flatten_nil, List.append_nil, List.cons_append, List.nil_append]
    after_results).trans rfl

theorem V_v6 (c : Dev nD) : V m c main_v6 = wA m c := by
  refine (show V m c main_v6 = truncf (F := Ideal) .bf16 (m ((c : Thread nD τ).loc main_arg4)) bitsLt_bf16_f32 by
    unfold_abbrev_sides
    simp only [hostOps0, List.flatten_cons, List.flatten_nil, List.append_nil, List.cons_append, List.nil_append]
    after_results).trans rfl

end Cert.MergeIdeal.Hand

end
-- ==== Proof.MergeValue.lean ====
/-
  The merge's backward call: its four result arrays after the run.
-/
module

public import proofs.«01_k».proof.Proof.MergePay
public import proofs.«01_k».proof.Proof.Gen.MergeIdeal.Value
public import Idealize.ShloMosaic.Lib.Pipeline.ValueKit.Point

@[expose] public section

set_option maxRecDepth 16384

noncomputable section

namespace Cert.MergeIdeal.Hand

open Cert.MergeIdeal Cert.MergeIdeal.Gen
open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2)
open Idealize.ShloMosaic.Pipeline (Dat)
open Cert.IdxReads Cert.GateMath Cert.ConcatReads
open scoped BigOperators

variable (m : (ℓ : Loc nD τ sig) → Buf (Elt Ideal) ℓ)

/-- The gradient of the merged row, through the output projection. -/
def dm (c : Dev nD) (i : Fin 8192) (j : Fin 1024) : EReal := ∑ k : Fin 1024, ctA m c (ix2 i k) * wA m c (ix2 j k)

/-- Branch `p`'s gate. -/
def gt (p : Fin 3) (c : Dev nD) (i : Fin 8192) (j : Fin 1024) : EReal := sg (projA m c (ix2 i ⟨6160 + (p.val * 1024 + j.val), by omega⟩))

/-- Branch `p`'s gradient. -/
def res (p : Fin 3) (c : Dev nD) : FVec Ideal S8192x1024 .bf16 := fun y => dm m c (y 0) (y 1) * gt m p c (y 0) (y 1)

/-- The gates' gradient, the three branches side by side. -/
def resG (c : Dev nD) : FVec Ideal S8192x3072 .bf16 := fun y =>
  gl (dm m c (y 0) ⟨(y 1).val % 1024, Nat.mod_lt _ (by decide)⟩)
    (aA m ⟨(y 1).val / 1024, by have h : (y 1).val < 3072 := (y 1).isLt; omega⟩ c (ix2 (y 0) ⟨(y 1).val % 1024, Nat.mod_lt _ (by decide)⟩))
    (gt m ⟨(y 1).val / 1024, by have h : (y 1).val < 3072 := (y 1).isLt; omega⟩ c (y 0) ⟨(y 1).val % 1024, Nat.mod_lt _ (by decide)⟩)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 6] := (by decide +kernel : ∀ t : Fin grid0.N, _)
theorem idx3 : ∀ t : Fin cfg0.N, win0_3.index t = ![t.val, 7] := (by decide +kernel : ∀ t : Fin grid0.N, _)
theorem idx4 : ∀ t : Fin cfg0.N, win0_4.index t = ![t.val, 8] := (by decide +kernel : ∀ t : Fin grid0.N, _)
theorem idx5 : ∀ t : Fin cfg0.N, win0_5.index t = ![0, t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)

/-- A row of a block, as a row of the array. -/
def row (t : Fin cfg0.N) (i : Fin 256) : Fin 8192 := ⟨t.val * 256 + i.val, by have h := Nat.lt_of_lt_of_eq t.isLt N_0; omega⟩

theorem blk0 (c : Dev nD) (t : Fin cfg0.N) (i : Fin 256) (j : Fin 1024) : iblk m c 0 t (ix2 i j) = ctA m c (ix2 (row t i) j) := by
  rw [← V_v5]; blk_ext! [iblk, idx0 t, row]

theorem blk1 (c : Dev nD) (t : Fin cfg0.N) (i : Fin 1024) (j : Fin 1024) : iblk m c 1 t (ix2 i j) = wA m c (ix2 i j) := by
  rw [← V_v6]; blk_ext! [iblk, idx1 t]

theorem col_gate (p : Fin 3) (j : Fin 1024) : col ⟨6144 + (p.val * 1024 + j.val), by omega⟩ = (⟨6160 + (p.val * 1024 + j.val), by omega⟩ : Fin 9232) := by
  unfold col
  rw [dif_neg (by show ¬ (6144 + (p.val * 1024 + j.val) < 3072); omega)]
  exact Fin.ext (by show 6144 + (p.val * 1024 + j.val) + 16 = 6160 + (p.val * 1024 + j.val); omega)

theorem blk2 (c : Dev nD) (t : Fin cfg0.N) (i : Fin 256) (j : Fin 1024) :
    iblk m c 2 t (ix2 i j) = projA m c (ix2 (row t i) ⟨6160 + (0 * 1024 + j.val), by omega⟩) := by
  refine .trans ?_ (congrArg (fun q => projA m c (ix2 (row t i) q)) (col_gate 0 j))
  rw [← V_v10]; blk_ext! [iblk, idx2 t, row]
  show 6 * 1024 + j.val = 6144 + (0 * 1024 + j.val); omega

theorem blk3 (c : Dev nD) (t : Fin cfg0.N) (i : Fin 256) (j : Fin 1024) :
    iblk m c 3 t (ix2 i j) = projA m c (ix2 (row t i) ⟨6160 + (1 * 1024 + j.val), by omega⟩) := by
  refine .trans ?_ (congrArg (fun q => projA m c (ix2 (row t i) q)) (col_gate 1 j))
  rw [← V_v10]; blk_ext! [iblk, idx3 t, row]
  show 7 * 1024 + j.val = 6144 + (1 * 1024 + j.val); omega

theorem blk4 (c : Dev nD) (t : Fin cfg0.N) (i : Fin 256) (j : Fin 1024) :
    iblk m c 4 t (ix2 i j) = projA m c (ix2 (row t i) ⟨6160 + (2 * 1024 + j.val), by omega⟩) := by
  refine .trans ?_ (congrArg (fun q => projA m c (ix2 (row t i) q)) (col_gate 2 j))
  rw [← V_v10]; blk_ext! [iblk, idx4 t, row]
  show 8 * 1024 + j.val = 6144 + (2 * 1024 + j.val); omega

theorem blk5 (c : Dev nD) (t : Fin cfg0.N) (p : Fin 3) (i : Fin 256) (j : Fin 1024) :
    iblk m c 5 t (ix3 p i j) = aA m p c (ix2 (row t i) j) := by
  rw [← V_v4]; blk_ext! [iblk, idx5 t, row]

theorem dm_blk (c : Dev nD) (t : Fin cfg0.N) (i : Fin 256) (j : Fin 1024) :
    k0_pay2 (F := Ideal) (iblk m c 0 t) (iblk m c 1 t) (ix2 i j) = dm m c (row t i) j :=
  (pay2_apply _ _ i j).trans (Finset.sum_congr rfl fun k _ => congrArg₂ _ (blk0 m c t i k) (blk1 m c t j k))

theorem out6 (c : Dev nD) (t : Fin cfg0.N) (i : Fin 256) (j : Fin 1024) :
    out0_6 (iblk m c 0 t) (iblk m c 1 t) (iblk m c 2 t) (iblk m c 3 t) (iblk m c 4 t) (iblk m c 5 t) (ix2 i j) = dm m c (row t i) j * gt m 0 c (row t i) j := by
  frame_out
  exact (pay4_apply _ _ _ _).trans (congrArg₂ _ (dm_blk m c t i j) (congrArg sg (blk2 m c t i j)))

theorem out7 (c : Dev nD) (t : Fin cfg0.N) (i : Fin 256) (j : Fin 1024) :
    out0_7 (iblk m c 0 t) (iblk m c 1 t) (iblk m c 2 t) (iblk m c 3 t) (iblk m c 4 t) (iblk m c 5 t) (ix2 i j) = dm m c (row t i) j * gt m 1 c (row t i) j := by
  frame_out
  simp only [pay14_eq, pay15_eq, pay16_eq]
  exact (pay9_apply _ _ _).trans (congrArg₂ _ (dm_blk m c t i j) (congrArg sg (blk3 m c t i j)))

theorem out8 (c : Dev nD) (t : Fin cfg0.N) (i : Fin 256) (j : Fin 1024) :
    out0_8 (iblk m c 0 t) (iblk m c 1 t) (iblk m c 2 t) (iblk m c 3 t) (iblk m c 4 t) (iblk m c 5 t) (ix2 i j) = dm m c (row t i) j * gt m 2 c (row t i) j := by
  frame_out
  simp only [pay14_eq, pay15_eq, pay16_eq]
  exact (pay12_apply _ _ _).trans (congrArg₂ _ (dm_blk m c t i j) (congrArg sg (blk4 m c t i j)))

theorem final6 (c : Dev nD) : (dats m 0 c).arrAt 6 cfg0.N = res m 0 c := by
  refine (dats m 0 c).arrAt_eq_of_covers 6 _ (by decide +kernel) fun t hf y => ?_
  blk_simp
  rw [after0_6]
  obtain ⟨i, j, rfl⟩ : ∃ (i : Fin 256) (j : Fin 1024), y = ix2 i j := ⟨y 0, y 1, eq_ix2 y⟩
  refine (out6 m c t i j).trans ?_
  refine congrArg₂ (fun a b => dm m c a b * gt m 0 c a b) (Fin.ext ?_) (Fin.ext ?_) <;> blk_simp [idx6 t, row]

theorem final7 (c : Dev nD) : (dats m 0 c).arrAt 7 cfg0.N = res m 1 c := by
  refine (dats m 0 c).arrAt_eq_of_covers 7 _ (by decide +kernel) fun t hf y => ?_
  blk_simp
  rw [after0_7]
  obtain ⟨i, j, rfl⟩ : ∃ (i : Fin 256) (j : Fin 1024), y = ix2 i j := ⟨y 0, y 1, eq_ix2 y⟩
  refine (out7 m c t i j).trans ?_
  refine congrArg₂ (fun a b => dm m c a b * gt m 1 c a b) (Fin.ext ?_) (Fin.ext ?_) <;> blk_simp [idx7 t, row]

theorem final8 (c : Dev nD) : (dats m 0 c).arrAt 8 cfg0.N = res m 2 c := by
  refine (dats m 0 c).arrAt_eq_of_covers 8 _ (by decide +kernel) fun t hf y => ?_
  blk_simp
  rw [after0_8]
  obtain ⟨i, j, rfl⟩ : ∃ (i : Fin 256) (j : Fin 1024), y = ix2 i j := ⟨y 0, y 1, eq_ix2 y⟩
  refine (out8 m c t i j).trans ?_
  refine congrArg₂ (fun a b => dm m c a b * gt m 2 c a b) (Fin.ext ?_) (Fin.ext ?_) <;> blk_simp [idx8 t, row]

/-- The gates' gradient by branch and column. -/
def glAt (c : Dev nD) (i : Fin 8192) (p : Fin 3) (j : Fin 1024) : EReal := gl (dm m c i j) (aA m p c (ix2 i j)) (gt m p c i j)

theorem resG_at (c : Dev nD) (i : Fin 8192) (p : Fin 3) (j : Fin 1024) (q : Fin 3072) (h : q.val = p.val * 1024 + j.val) :
    resG m c (ix2 i q) = glAt m c i p j := by
  have h1 : (⟨q.val / 1024, by omega⟩ : Fin 3) = p := Fin.ext (by show q.val / 1024 = p.val; omega)
  have h2 : (⟨q.val % 1024, Nat.mod_lt _ (by decide)⟩ : Fin 1024) = j := Fin.ext (by show q.val % 1024 = j.val; omega)
  show gl (dm m c i ⟨q.val % 1024, _⟩) (aA m ⟨q.val / 1024, _⟩ c (ix2 i ⟨q.val % 1024, _⟩)) (gt m ⟨q.val / 1024, _⟩ c i ⟨q.val % 1024, _⟩) = _
  rw [h1, h2]; rfl

theorem rect0 (i : Fin 256) (j : Fin 1024) : r0_2.idx (ix3 0 i j) = ix3 0 i j :=
  funext fun d => Fin.ext (by match d with | ⟨0, _⟩ => rfl | ⟨1, _⟩ => show 0 + 1 * i.val = i.val; omega | ⟨2, _⟩ => show 0 + 1 * j.val = j.val; omega)

theorem rect1 (i : Fin 256) (j : Fin 1024) : r0_4.idx (ix3 0 i j) = ix3 1 i j :=
  funext fun d => Fin.ext (by match d with | ⟨0, _⟩ => rfl | ⟨1, _⟩ => show 0 + 1 * i.val = i.val; omega | ⟨2, _⟩ => show 0 + 1 * j.val = j.val; omega)

theorem rect2 (i : Fin 256) (j : Fin 1024) : r0_6.idx (ix3 0 i j) = ix3 2 i j :=
  funext fun d => Fin.ext (by match d with | ⟨0, _⟩ => rfl | ⟨1, _⟩ => show 0 + 1 * i.val = i.val; omega | ⟨2, _⟩ => show 0 + 1 * j.val = j.val; omega)

theorem out9 (c : Dev nD) (t : Fin cfg0.N) (i : Fin 256) (q : Fin 3072) :
    out0_9 (iblk m c 0 t) (iblk m c 1 t) (iblk m c 2 t) (iblk m c 3 t) (iblk m c 4 t) (iblk m c 5 t) (ix2 i q) = resG m c (ix2 (row t i) q) := by
  frame_out
  simp only [pay14_eq, pay15_eq, pay16_eq]
  canon_tiles x h
  · obtain ⟨i', j, rfl⟩ : ∃ (i' : Fin 256) (j : Fin 1024), x = ix2 i' j := ⟨x 0, x 1, eq_ix2 x⟩
    obtain rfl : i = i' := Fin.ext h0
    refine (pay13_apply _ _ _ i j).trans (.trans ?_ (resG_at m c (row t i) 2 j q (by have h1' : q.val = 2048 + j.val := h1; show q.val = 2 * 1024 + j.val; omega)).symm)
    unfold glAt
    rw [dm_blk, blk4, show View.ld (Val := Elt Ideal) (e' := .bf16) (iblk m c 5 t) r0_6 (ix3 0 i j) = aA m 2 c (ix2 (row t i) j) from
      (congrArg (iblk m c 5 t) (rect2 i j)).trans (blk5 m c t 2 i j)]
    rfl
  · obtain ⟨i', j, rfl⟩ : ∃ (i' : Fin 256) (j : Fin 1024), x = ix2 i' j := ⟨x 0, x 1, eq_ix2 x⟩
    obtain rfl : i = i' := Fin.ext h0
    refine (pay10_apply _ _ _ i j).trans (.trans ?_ (resG_at m c (row t i) 1 j q (by have h1' : q.val = 1024 + j.val := h1; show q.val = 1 * 1024 + j.val; omega)).symm)
    unfold glAt
    rw [dm_blk, blk3, show View.ld (Val := Elt Ideal) (e' := .bf16) (iblk m c 5 t) r0_4 (ix3 0 i j) = aA m 1 c (ix2 (row t i) j) from
      (congrArg (iblk m c 5 t) (rect1 i j)).trans (blk5 m c t 1 i j)]
    rfl
  · obtain ⟨i', j, rfl⟩ : ∃ (i' : Fin 256) (j : Fin 1024), x = ix2 i' j := ⟨x 0, x 1, eq_ix2 x⟩
    obtain rfl : i = i' := Fin.ext h0
    refine (pay5_apply _ _ _ _ i j).trans (.trans ?_ (resG_at m c (row t i) 0 j q (by have h1' : q.val = 0 + j.val := h1.trans (Nat.zero_add _).symm; show q.val = 0 * 1024 + j.val; omega)).symm)
    unfold glAt
    rw [dm_blk, blk2, show View.ld (Val := Elt Ideal) (e' := .bf16) (iblk m c 5 t) r0_2 (ix3 0 i j) = aA m 0 c (ix2 (row t i) j) from
      (congrArg (iblk m c 5 t) (rect0 i j)).trans (blk5 m c t 0 i j)]
    rfl

theorem final9 (c : Dev nD) : (dats m 0 c).arrAt 9 cfg0.N = resG m c := by
  refine (dats m 0 c).arrAt_eq_of_covers 9 _ (by decide +kernel) fun t hf y => ?_
  blk_simp
  rw [after0_9]
  obtain ⟨i, j, rfl⟩ : ∃ (i : Fin 256) (j : Fin 3072), y = ix2 i j := ⟨y 0, y 1, eq_ix2 y⟩
  refine (out9 m c t i j).trans ?_
  refine congrArg₂ (fun a b => resG m c (ix2 a b)) (Fin.ext ?_) (Fin.ext ?_) <;> blk_simp [idx9 t, row]

end Cert.MergeIdeal.Hand

end
-- ==== Proof.MergeClaims.lean ====
/-
  The merge's reference derivative at an index, and the claim.
-/
module

public import proofs.«01_k».proof.Defs
public import proofs.«01_k».proof.Proof.Gen.MergeRefIdeal.Read
public import Idealize.ShloMosaic.Lib.Quiescent
public import proofs.«01_k».proof.Proof.MergeValue

@[expose] public section

set_option maxRecDepth 16384

noncomputable section

namespace Cert.MergeClaims

open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2)
open Cert.MergeRefIdeal Cert.MergeRefIdeal.Read
open Cert.MergeIdeal.Hand (dm gt res resG resG_at glAt gl sg aA projA wA ctA)
open Cert.ConcatReads Cert.Laws Cert.GateMath
open scoped BigOperators

variable (x0 x1 x2 : FVec Ideal S8192x1024 .f32) (x3 : FVec Ideal S8192x9232 .f32) (x4 : FVec Ideal S1024x1024 .f32) (x5 : FVec Ideal S8192x1024 .f32)

theorem logi (x : EReal) : Ideal.div (Ideal.ofBits .f32 0x3F800000#32) (Ideal.ofBits .f32 0x3F800000#32 + Ideal.exp (- x)) = sg x := by
  rw [word_one]; unfold sg; rw [zero_sub]

theorem div_aux (i : Fin 8192) (j : Fin 1024) : ((i.val * 1024 + j.val) / 1024 = i.val) ∧ ((i.val * 1024 + j.val) % 1024 = j.val) := by omega

/-- The merged gradient and a gate, in the reference. -/
theorem v23_apply (i : Fin 8192) (j : Fin 1024) : val_main_v23 (F := Ideal) x4 x5 (ix2 i j) = (∑ k : Fin 1024, x5 (ix2 i k) * x4 (ix2 j k) : EReal) := by
  rw [val_main_v23_apply]
  exact Finset.sum_congr rfl fun k _ => congrArg₂ (fun a b => (x5 a : EReal) * x4 b) (eq_ix2 _) (eq_ix2 _)

theorem v6_apply (i : Fin 8192) (q : Fin 3072) : val_main_v6 (F := Ideal) x3 (ix2 i q) = sg (x3 (ix2 i ⟨6160 + q.val, by omega⟩)) := by
  simp only [val_main_v0_apply, val_main_v1_apply, val_main_v2_apply, val_main_cst_apply, val_main_v3_apply, val_main_v4_apply, val_main_cst_0_apply, val_main_v5_apply, val_main_v6_apply, val_main_cst_1_apply, val_main_cst_2_apply, val_main_cst_3_apply, val_main_cst_4_apply]
  exact (logi _).trans (congrArg (fun a => sg (x3 a)) (eq_ix2 _))

theorem v10_apply (i : Fin 8192) (p : Fin 3) (j : Fin 1024) :
    val_main_v10 (F := Ideal) x3 (ix3 i p j) = sg (x3 (ix2 i ⟨6160 + (p.val * 1024 + j.val), by omega⟩)) := by
  rw [val_main_v10_apply, show idx_main_v10 (ix3 i p j) = ix2 i ⟨p.val * 1024 + j.val, by omega⟩ from funext fun d => Fin.ext (by
    match d with
    | ⟨0, _⟩ => show ((i.val * 3 + p.val) * 1024 + j.val) / 3072 = i.val; omega
    | ⟨1, _⟩ => show ((i.val * 3 + p.val) * 1024 + j.val) % 3072 = p.val * 1024 + j.val; omega)]
  exact v6_apply x3 i _

theorem row_eq (i : Fin 8192) (j : Fin 1024) : idx_main_v12 (ix2 i j) = ix3 i 0 j := funext fun d => Fin.ext (by
    match d with
    | ⟨0, _⟩ => exact (div_aux i j).1
    | ⟨1, _⟩ => rfl
    | ⟨2, _⟩ => exact (div_aux i j).2)

theorem cut_eq (o : Nat) (f : S8192x1x1024.Idx → S8192x3x1024.Idx) (i : Fin 8192) (p : Fin 3) (j : Fin 1024)
    (h0 : (f (ix3 i 0 j) 0).val = i.val) (h1 : (f (ix3 i 0 j) 1).val = p.val) (h2 : (f (ix3 i 0 j) 2).val = j.val) : f (ix3 i 0 j) = ix3 i p j :=
  funext fun d => Fin.ext (by
    match d with
    | ⟨0, _⟩ => exact h0
    | ⟨1, _⟩ => exact h1
    | ⟨2, _⟩ => exact h2)

theorem v12_apply (i : Fin 8192) (j : Fin 1024) : val_main_v12 (F := Ideal) x3 (ix2 i j) = sg (x3 (ix2 i ⟨6160 + ((0 : Fin 3).val * 1024 + j.val), by have : (0 : Fin 3).val = 0 := rfl; omega⟩)) := by
  rw [val_main_v12_apply, val_main_v11_apply, row_eq]
  exact (congrArg _ (cut_eq 0 idx_main_v11 i 0 j rfl rfl rfl)).trans (v10_apply x3 i 0 j)

theorem v15_apply (i : Fin 8192) (j : Fin 1024) : val_main_v15 (F := Ideal) x3 (ix2 i j) = sg (x3 (ix2 i ⟨6160 + ((1 : Fin 3).val * 1024 + j.val), by have : (1 : Fin 3).val = 1 := rfl; omega⟩)) := by
  rw [val_main_v15_apply, val_main_v14_apply, show idx_main_v15 (ix2 i j) = ix3 i 0 j from row_eq i j]
  exact (congrArg _ (cut_eq 1 idx_main_v14 i 1 j rfl rfl rfl)).trans (v10_apply x3 i 1 j)

theorem v19_apply (i : Fin 8192) (j : Fin 1024) : val_main_v19 (F := Ideal) x3 (ix2 i j) = sg (x3 (ix2 i ⟨6160 + ((2 : Fin 3).val * 1024 + j.val), by have : (2 : Fin 3).val = 2 := rfl; omega⟩)) := by
  rw [val_main_v19_apply, val_main_v18_apply, show idx_main_v19 (ix2 i j) = ix3 i 0 j from row_eq i j]
  exact (congrArg _ (cut_eq 2 idx_main_v18 i 2 j rfl rfl rfl)).trans (v10_apply x3 i 2 j)

theorem zero_word : (FloatOps.ofBits (F := Ideal) .f32 0x00000000#32) = (0 : EReal) := word_zero

theorem v27_apply (i : Fin 8192) (p : Fin 3) (j : Fin 1024) :
    val_main_v27 (F := Ideal) x2 x4 x5 (ix3 i p j) = (if p.val = 2 then val_main_v23 (F := Ideal) x4 x5 (ix2 i j) * x2 (ix2 i j) else 0 : EReal) := by
  unfold val_main_v27
  refine (padMid_apply 2 0 _ _ _ _ i p j).trans ?_
  split_ifs
  · rw [val_main_v26_apply, val_main_v25_apply]
    exact congrArg (fun a => (val_main_v23 (F := Ideal) x4 x5 a : EReal) * x2 a) (eq_ix2 _)
  · exact word_zero

theorem v31_apply (i : Fin 8192) (p : Fin 3) (j : Fin 1024) :
    val_main_v31 (F := Ideal) x1 x4 x5 (ix3 i p j) = (if p.val = 1 then val_main_v23 (F := Ideal) x4 x5 (ix2 i j) * x1 (ix2 i j) else 0 : EReal) := by
  unfold val_main_v31
  refine (padMid_apply 1 1 _ _ _ _ i p j).trans ?_
  split_ifs
  · rw [val_main_v30_apply, val_main_v29_apply]
    exact congrArg (fun a => (val_main_v23 (F := Ideal) x4 x5 a : EReal) * x1 a) (eq_ix2 _)
  · exact word_zero

theorem v36_apply (i : Fin 8192) (p : Fin 3) (j : Fin 1024) :
    val_main_v36 (F := Ideal) x0 x4 x5 (ix3 i p j) = (if p.val = 0 then val_main_v23 (F := Ideal) x4 x5 (ix2 i j) * x0 (ix2 i j) else 0 : EReal) := by
  unfold val_main_v36
  refine (padMid_apply 0 2 _ _ _ _ i p j).trans ?_
  split_ifs
  · rw [val_main_v35_apply, val_main_v34_apply]
    exact congrArg (fun a => (val_main_v23 (F := Ideal) x4 x5 a : EReal) * x0 a) (eq_ix2 _)
  · exact word_zero

/-- The branches' product with the merged gradient, all three side by side. -/
theorem v37_apply (i : Fin 8192) (p : Fin 3) (j : Fin 1024) :
    val_main_v37 (F := Ideal) x0 x1 x2 x4 x5 (ix3 i p j) = (val_main_v23 (F := Ideal) x4 x5 (ix2 i j) * (![x0, x1, x2] : Fin 3 → FVec Ideal S8192x1024 .f32) p (ix2 i j) : EReal) := by
  rw [val_main_v37_apply, val_main_v32_apply, v27_apply, v31_apply, v36_apply]
  match p with
  | ⟨0, _⟩ => exact (congrArg (· + _) (add_zero (0 : EReal))).trans (zero_add _)
  | ⟨1, _⟩ => exact (add_zero _).trans (zero_add _)
  | ⟨2, _⟩ => exact (add_zero _).trans (add_zero _)

theorem v43_apply (i : Fin 8192) (p : Fin 3) (j : Fin 1024) (q : Fin 3072) (hq : q.val = p.val * 1024 + j.val) :
    val_main_v43 (F := Ideal) x0 x1 x2 x3 x4 x5 (ix2 i q)
      = gl (∑ k : Fin 1024, x5 (ix2 i k) * x4 (ix2 j k)) ((![x0, x1, x2] : Fin 3 → FVec Ideal S8192x1024 .f32) p (ix2 i j))
          (sg (x3 (ix2 i ⟨6160 + (p.val * 1024 + j.val), by omega⟩))) := by
  rw [val_main_v43_apply, val_main_v39_apply, val_main_v38_apply, val_main_v9_apply, val_main_v8_apply, val_main_v7_apply]
  rw [show idx_main_v38 (ix2 i q) = ix3 i p j from funext fun d => Fin.ext (by
    match d with
    | ⟨0, _⟩ => show (i.val * 3072 + q.val) / 3072 = i.val; omega
    | ⟨1, _⟩ => show (i.val * 3072 + q.val) / 1024 % 3 = p.val; omega
    | ⟨2, _⟩ => show (i.val * 3072 + q.val) % 1024 = j.val; omega), v37_apply, v23_apply, v6_apply]
  have hs : (⟨6160 + q.val, by omega⟩ : Fin 9232) = ⟨6160 + (p.val * 1024 + j.val), by omega⟩ := Fin.ext (by show 6160 + q.val = 6160 + (p.val * 1024 + j.val); omega)
  rw [hs]
  unfold gl
  refine (congrArg (fun o : EReal => _ * (_ * (o - _))) word_one).trans ?_
  exact (mul_assoc _ _ _).symm

/-- The merge's gradient call computes the derivative of the reference. -/
theorem algebraic : Cert.algebraic_MergeIdeal_MergeRefIdeal (hMergeIdeal := Cert.MergeIdeal.Gen.facts) (hMergeRefIdeal := Cert.MergeRefIdeal.Gen.facts) := by
  intro m ρ m' ρ' _ hag
  refine ⟨res m 0, res m 1, res m 2, resG m, ?_, ?_⟩
  · exact (θ_run _ _ _).mono (fun r h c => ⟨(h c).1.trans (Cert.MergeIdeal.Hand.final6 m c), (h c).2.1.trans (Cert.MergeIdeal.Hand.final7 m c),
      (h c).2.2.1.trans (Cert.MergeIdeal.Hand.final8 m c), (h c).2.2.2.1.trans (Cert.MergeIdeal.Hand.final9 m c), (h c).2.2.2.2⟩) (Cert.MergeIdeal.Value.run_blocks m ρ)
  · refine (θ_run _ _ _).mono (fun r h c => ⟨(h c).1.trans ?_, (h c).2.1.trans ?_, (h c).2.2.1.trans ?_, (h c).2.2.2.1.trans ?_, (h c).2.2.2.2⟩) (Cert.MergeRefIdeal.Value.run m' ρ')
    · rw [(hag c).2.2.2.1, (hag c).2.2.2.2.1, (hag c).2.2.2.2.2]
      refine (val_main_v40_eq ..).trans (funext fun z => ?_)
      obtain ⟨i, j, rfl⟩ : ∃ (i : Fin 8192) (j : Fin 1024), z = ix2 i j := ⟨z 0, z 1, eq_ix2 z⟩
      exact (congrArg₂ (fun a b : EReal => a * b) (v12_apply _ i j) (v23_apply _ _ i j)).trans (mul_comm _ _)
    · rw [(hag c).2.2.2.1, (hag c).2.2.2.2.1, (hag c).2.2.2.2.2]
      refine (val_main_v41_eq ..).trans (funext fun z => ?_)
      obtain ⟨i, j, rfl⟩ : ∃ (i : Fin 8192) (j : Fin 1024), z = ix2 i j := ⟨z 0, z 1, eq_ix2 z⟩
      exact (congrArg₂ (fun a b : EReal => a * b) (v15_apply _ i j) (v23_apply _ _ i j)).trans (mul_comm _ _)
    · rw [(hag c).2.2.2.1, (hag c).2.2.2.2.1, (hag c).2.2.2.2.2]
      refine (val_main_v42_eq ..).trans (funext fun z => ?_)
      obtain ⟨i, j, rfl⟩ : ∃ (i : Fin 8192) (j : Fin 1024), z = ix2 i j := ⟨z 0, z 1, eq_ix2 z⟩
      exact (congrArg₂ (fun a b : EReal => a * b) (v19_apply _ i j) (v23_apply _ _ i j)).trans (mul_comm _ _)
    · rw [(hag c).1, (hag c).2.1, (hag c).2.2.1, (hag c).2.2.2.1, (hag c).2.2.2.2.1, (hag c).2.2.2.2.2]
      refine (val_main_v43_eq ..).trans (funext fun z => ?_)
      obtain ⟨i, q, rfl⟩ : ∃ (i : Fin 8192) (q : Fin 3072), z = ix2 i q := ⟨z 0, z 1, eq_ix2 z⟩
      have hq : q.val = (⟨q.val / 1024, by omega⟩ : Fin 3).val * 1024 + (⟨q.val % 1024, by omega⟩ : Fin 1024).val := by show q.val = q.val / 1024 * 1024 + q.val % 1024; omega
      exact (v43_apply _ _ _ _ _ _ i _ _ q hq).trans (resG_at m c i _ _ q hq).symm

/-- The reference leaves its arguments alone. -/
theorem frame_ref : Cert.quiescent_MergeRefIdeal (hMergeRefIdeal := Cert.MergeRefIdeal.Gen.facts) := fun m ρ _ =>
  (θ_run Cert.MergeRefIdeal.defs _ _).mono (fun r h => ⟨fun c => (h c).2.2.2.2, sem_eq_zero_of_no_sems (by decide) r.2⟩)
    (Cert.MergeRefIdeal.Value.run (F := Ideal) m ρ)

end Cert.MergeClaims

end
-- ==== Proof.SoftmaxMath.lean ====
/-
  A row of softmax and its gradient, on the extended reals: what the row's logits make when all of them are real, and
  that the gradient written from the probabilities is the one that differentiating the quotient gives.
-/
module

public import proofs.«01_k».proof.Proof.Laws

@[expose] public section

noncomputable section

namespace Cert.SoftmaxMath

open Idealize.ShloMosaic
open Cert.Laws
open scoped BigOperators

variable {n : Nat}

/-- The largest logit of a row. -/
def mx (s : Fin n → EReal) : EReal := (Finset.univ : Finset (Fin n)).fold max ⊥ s

/-- The exponential of a logit from which the largest was taken. -/
def ex (s : Fin n → EReal) (m : Fin n) : EReal := Ideal.exp (s m - mx s)

/-- The row's sum of exponentials. -/
def den (s : Fin n → EReal) : EReal := ∑ m, ex s m

/-- The row's probabilities. -/
def prob (s : Fin n → EReal) (m : Fin n) : EReal := Ideal.div (ex s m) (den s)

/-- The logits' gradient from the probabilities and the probabilities' gradient. -/
def ds (s dp : Fin n → EReal) (m : Fin n) : EReal := prob s m * (dp m - ∑ k, prob s k * dp k)

/-- The largest of real logits is real. -/
theorem mx_real (s : Fin n → EReal) (hn : 0 < n) (hs : ∀ m, ∃ r : ℝ, s m = r) : ∃ r : ℝ, mx s = r := by
  have h : ∀ t : Finset (Fin n), t.fold max ⊥ s = ⊥ ∧ t = ∅ ∨ ∃ r : ℝ, t.fold max ⊥ s = r := by
    intro t
    induction t using Finset.induction_on with
    | empty => exact .inl ⟨Finset.fold_empty, rfl⟩
    | insert a t ha ih =>
      right
      obtain ⟨r, hr⟩ := hs a
      rw [Finset.fold_insert ha, hr]
      rcases ih with ⟨h, _⟩ | ⟨q, h⟩
      · exact ⟨r, by rw [h, max_eq_left bot_le]⟩
      · exact ⟨max r q, by rw [h, EReal.coe_strictMono.monotone.map_max]⟩
  rcases h Finset.univ with ⟨_, h⟩ | h
  · exact absurd (h ▸ Finset.mem_univ (⟨0, hn⟩ : Fin n)) (by simp)
  · exact h

/-- The exponentials of real logits are positive reals. -/
theorem ex_real (s : Fin n → EReal) (hn : 0 < n) (hs : ∀ m, ∃ r : ℝ, s m = r) : ∃ e : Fin n → ℝ, (∀ m, 0 < e m) ∧ ∀ m, ex s m = (e m : EReal) := by
  obtain ⟨M, hM⟩ := mx_real s hn hs
  choose r hr using hs
  exact ⟨fun m => Real.exp (r m - M), fun m => Real.exp_pos _, fun m => by rw [ex, hM, hr, ← EReal.coe_sub, Ideal.exp_coe]⟩

/-- The probabilities of real logits are non-negative reals. -/
theorem prob_real (s : Fin n → EReal) (hn : 0 < n) (hs : ∀ m, ∃ r : ℝ, s m = r) :
    ∃ (e : Fin n → ℝ) (l : ℝ), (∀ m, 0 < e m) ∧ 0 < l ∧ (∀ m, ex s m = (e m : EReal)) ∧ den s = (l : EReal) ∧ ∀ m, prob s m = ((e m * (1 / l) : ℝ) : EReal) := by
  obtain ⟨e, he, h⟩ := ex_real s hn hs
  have hl : 0 < ∑ m, e m := Finset.sum_pos (fun m _ => he m) ⟨⟨0, hn⟩, Finset.mem_univ _⟩
  have hd : den s = ((∑ m, e m : ℝ) : EReal) := by rw [den, coe_sum]; exact Finset.sum_congr rfl fun m _ => h m
  refine ⟨e, ∑ m, e m, he, hl, h, hd, fun m => ?_⟩
  rw [prob, hd, h, Ideal.div_coe hl.ne', ← EReal.coe_mul]

/-- The gradient of the quotient of the exponentials and their sum is the gradient from the probabilities, whatever the
    probabilities' gradient. -/
theorem ds_eq (s dp : Fin n → EReal) (hn : 0 < n) (hs : ∀ m, ∃ r : ℝ, s m = r) (m : Fin n) :
    (Ideal.div (dp m) (den s) + -(∑ k, dp k * Ideal.div 1 (den s * den s) * ex s k)) * ex s m = ds s dp m := by
  obtain ⟨e, l, he, hl, hex, hden, hp⟩ := prob_real s hn hs
  have hl' : (0 : ℝ) ≤ 1 / l := by positivity
  have h1 : (1 : EReal) = ((1 : ℝ) : EReal) := rfl
  have hsum : (∑ k, dp k * Ideal.div 1 (den s * den s) * ex s k) = ((1 / l : ℝ) : EReal) * ∑ k, prob s k * dp k := by
    rw [real_mul_sum hl']
    refine Finset.sum_congr rfl fun k _ => ?_
    rw [hden, hex, hp, ← EReal.coe_mul, Ideal.div_coe (mul_pos hl hl).ne', h1, ← EReal.coe_mul, mul_assoc, ← EReal.coe_mul, mul_comm, coe_mul_coe_mul]
    congr 2; field_simp
  rw [hsum, hden, Ideal.div_coe hl.ne', mul_comm (dp m), ← sub_eq_add_neg, ← real_mul_sub hl', ds, hp, hex, mul_comm, coe_mul_coe_mul]

end Cert.SoftmaxMath

end
-- ==== Proof.SoftmaxReads.lean ====
/-
  Array operations of the attention gradients, at an index: the largest of a row, on the core and on the host, and a
  product that contracts the rows of both operands.
-/
module

public import Idealize.ShloMosaic.Lib.Pipeline.Value
public import Idealize.ShloMosaic.Lib.ValueIdx
public import Idealize.ShloMosaic.Lib.MatmulPlain
public import Idealize.ShloMosaic.PureOps.Ideal
public import proofs.«01_k».proof.Proof.SoftmaxMath

@[expose] public section

noncomputable section

namespace Cert.SoftmaxReads

open Idealize.ShloMosaic Idealize.ShloMosaic.ValueIdx
open Cert.SoftmaxMath
open scoped BigOperators

/-- The word of minus infinity is minus infinity. -/
theorem word_bot : Ideal.ofBits .f32 0xFF800000#32 = ⊥ := by simp [Ideal.ofBits, Ideal.ieee]

/-- The largest of each row, at a row. -/
theorem rowMax_apply {a b : Nat} (x : FVec Ideal ⟨2, ![a, b]⟩ .f32) (h : (⟨2, ![a, b]⟩ : Shape).Reduces [1] ⟨1, ![a]⟩)
    (i : Fin a) : multiReduction .maximumf [1] ⟨1, ![a]⟩ x 0xFF800000#32 h (.inl rfl) rfl (ix1 i) = mx fun k : Fin b => x (ix2 i k) := by
  refine (Ideal.multiReduction_maximumf_single x _ h _ _ (ix1 i)).trans ?_
  unfold mx
  refine congrArg₂ (fun o f => (Finset.univ : Finset (Fin b)).fold max o f) word_bot (funext fun k => congrArg x ?_)
  funext d; match d with | ⟨0, _⟩ => exact Fin.ext rfl | ⟨1, _⟩ => exact Fin.ext rfl

/-- The host's largest along the last of three axes, at an index. -/
theorem hostMax_apply {a b c : Nat} (x : FVec Ideal ⟨3, ![a, b, c]⟩ .f32) {u : Shape} (v : FVec Ideal u .f32)
    (h' : (⟨3, ![a, b, c]⟩ : Shape).ReducesTo [2] ⟨2, ![a, b]⟩) (h : (⟨3, ![a, b, c]⟩ : Shape).Reduces [2] ⟨2, ![a, b]⟩) (hu : 0 < u.numel)
    (hv : v (Shape.Idx.first hu) = (⊥ : EReal)) (i : Fin a) (j : Fin b) :
    Host.reduce (FloatOps.maximumf (F := Ideal) (φ := .f32)) x v h' hu (ix2 i j) = mx fun k : Fin c => x (ix3 i j k) := by
  refine (Host.reduce_eq_fold_single (max : EReal → EReal → EReal) x v h' h hu (ix2 i j)).trans ?_
  unfold mx
  refine congrArg₂ (fun o f => (Finset.univ : Finset (Fin c)).fold max o f) hv (funext fun k => congrArg x ?_)
  funext d; match d with | ⟨0, _⟩ => exact Fin.ext rfl | ⟨1, _⟩ => exact Fin.ext rfl | ⟨2, _⟩ => exact Fin.ext rfl

/-- A vector cast to one column reads, at `(i, u)`, the vector at `i`. -/
theorem shapeCast_b_b1_apply {α : Type} {b : Nat} (x : (⟨1, ![b]⟩ : Shape).Idx → α)
    (h : (⟨1, ![b]⟩ : Shape).ShapeCasts ⟨2, ![b, 1]⟩) (i : Fin b) (u : Fin 1) :
    shapeCast ⟨2, ![b, 1]⟩ x h (ix2 i u) = x (ix1 i) :=
  shapeCast_apply x h _ _ (by
    have hu : u.val = 0 := by omega
    rw [Shape.rowMajor_val_two, Shape.rowMajor_val_one]
    show i.val = i.val * 1 + u.val; omega)

/-- `[K,M]ᵀ × [K,N]`: the rows of both operands contracted. -/
def rows (M K N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

theorem rows_rank (M K N : Nat) : (rows M K N).contr.rank = 1 := rfl
theorem rows_size (M K N : Nat) : (rows M K N).contr.size ⟨0, by rw [rows_rank]; exact Nat.one_pos⟩ = K := rfl

/-- That product at an index: the accumulator plus the sum over the rows. -/
theorem matmul_rows_apply {M K N : ℕ} {φ₁ φ₂ : FTy} (prec : Option ContractPrecision)
    (lhs : FVec Ideal ⟨2, ![K, M]⟩ φ₁) (rhs : FVec Ideal ⟨2, ![K, N]⟩ φ₂) (acc : FVec Ideal ⟨2, ![M, N]⟩ .f32) (r : Fin M) (c : Fin N) :
    FloatOps.matmul (rows M K N) prec lhs rhs acc (ix2 r c) = acc (ix2 r c) + ∑ k : Fin K, lhs (ix2 k r) * rhs (ix2 k c) := by
  rw [Ideal.matmul_apply, ← Equiv.sum_comp (contrEquiv1 _ K (rows_rank M K N) (rows_size M K N)).symm]
  refine congrArg (acc (ix2 r c) + ·) (Finset.sum_congr rfl fun k _ => ?_)
  have hk := contrEquiv1_symm_val _ K (rows_rank M K N) (rows_size M K N) k
  have el : (rows M K N).lhsIdx (ix2 r c) ((contrEquiv1 _ K (rows_rank M K N) (rows_size M K N)).symm k) = ix2 k r := by
    funext a; apply Fin.ext
    match a with
    | ⟨0, _⟩ => exact hk
    | ⟨1, _⟩ => rfl
  have er : (rows M K N).rhsIdx (ix2 r c) ((contrEquiv1 _ K (rows_rank M K N) (rows_size M K N)).symm k) = ix2 k c := by
    funext a; apply Fin.ext
    match a with
    | ⟨0, _⟩ => exact hk
    | ⟨1, _⟩ => rfl
  rw [el, er]

end Cert.SoftmaxReads

end
-- ==== Proof.MemAttnPay.lean ====
/-
  The memory attention gradient's payloads and the arrays its call reads, at an index.
-/
module

public import proofs.«01_k».proof.Proof.Gen.MemAttnIdeal.Frame
public import proofs.«01_k».proof.Proof.IdxReads
public import proofs.«01_k».proof.Proof.ConcatReads
public import proofs.«01_k».proof.Proof.SoftmaxReads
public import Idealize.ShloMosaic.Lib.MatmulPlain

@[expose] public section

set_option maxRecDepth 16384

noncomputable section

namespace Cert.MemAttnIdeal.Hand

open Cert.MemAttnIdeal Cert.MemAttnIdeal.Gen
open Idealize.ShloMosaic Idealize.ShloMosaic.TcCoe Idealize.SL.Sem Idealize.ShloMosaic.ValueIdx
open Cert.IdxReads Cert.Laws Cert.SoftmaxMath Cert.SoftmaxReads Cert.ConcatReads
open scoped BigOperators

/-- One sixteenth, the logits' scale. -/
def sc : EReal := ((1 / 16 : ℝ) : EReal)

theorem word_sc : Ideal.ofBits .f32 0x3D800000#32 = sc := by
  simp [Ideal.ofBits, Ideal.ieee, -EReal.coe_mul, sc]; norm_num

theorem word_scb : Ideal.ofBits .bf16 0x3D80#16 = sc := by
  simp [Ideal.ofBits, Ideal.ieee, -EReal.coe_mul, sc]; norm_num

theorem word_zerob : Ideal.ofBits .f32 0x00000000#32 = (0 : EReal) := word_zero

section
variable (q do_ : FVec Ideal S1024x256 .bf16) (k v : FVec Ideal S256x256 .bf16)

/-- The logits of a head, from its block of queries and its keys. -/
def lgB (i : Fin 1024) (m : Fin 256) : EReal := ∑ d : Fin 256, (q (ix2 i d) * sc) * k (ix2 m d)

/-- The probabilities' gradient of a head. -/
def dpB (i : Fin 1024) (m : Fin 256) : EReal := ∑ d : Fin 256, do_ (ix2 i d) * v (ix2 m d)

theorem pay3_apply (y : S1024x256.Idx) : k0_pay3 (F := Ideal) q y = q y * sc := by
  unfold k0_pay3
  simp only [shapeCast_self]
  exact congrArg (fun z : EReal => q y * z) word_scb

/-- The row operations of the softmax over a block of logits. -/
theorem soft_apply (s : FVec Ideal S1024x256 .f32) (i : Fin 1024) (m : Fin 256) :
    divf (exp (subf s (broadcastTo S1024x256 (shapeCast S1024x1 (multiReduction .maximumf [1] S1024 s 0xFF800000#32 reduces_S1024x256_S1024 (.inl rfl) rfl) shapeCasts_S1024_S1024x1) broadcasts_S1024x1_S1024x256)))
      (broadcastTo S1024x256 (shapeCast S1024x1 (multiReduction .add [1] S1024 (exp (subf s (broadcastTo S1024x256 (shapeCast S1024x1 (multiReduction .maximumf [1] S1024 s 0xFF800000#32 reduces_S1024x256_S1024 (.inl rfl) rfl) shapeCasts_S1024_S1024x1) broadcasts_S1024x1_S1024x256))) 0x00000000#32 reduces_S1024x256_S1024 (.inl rfl) rfl) shapeCasts_S1024_S1024x1) broadcasts_S1024x1_S1024x256) (ix2 i m)
      = prob (fun m => s (ix2 i m)) m := by
  have hmx : ∀ m, broadcastTo S1024x256 (shapeCast S1024x1 (multiReduction .maximumf [1] S1024 s 0xFF800000#32 reduces_S1024x256_S1024 (.inl rfl) rfl) shapeCasts_S1024_S1024x1) broadcasts_S1024x1_S1024x256 (ix2 i m) = mx fun m => s (ix2 i m) := fun m => by
    rw [bcastCol_apply, shapeCast_b_b1_apply, rowMax_apply]
  have hex : ∀ m, exp (subf s (broadcastTo S1024x256 (shapeCast S1024x1 (multiReduction .maximumf [1] S1024 s 0xFF800000#32 reduces_S1024x256_S1024 (.inl rfl) rfl) shapeCasts_S1024_S1024x1) broadcasts_S1024x1_S1024x256)) (ix2 i m) = ex (fun m => s (ix2 i m)) m := fun m =>
    congrArg (fun z : EReal => Ideal.exp (s (ix2 i m) - z)) (hmx m)
  refine congrArg₂ Ideal.div (hex m) ?_
  rw [bcastCol_apply, shapeCast_b_b1_apply, rowSum_apply]
  exact Finset.sum_congr rfl fun m _ => hex m

theorem logits_apply (i : Fin 1024) (m : Fin 256) :
    matmul dot_S1024x256_S256x256_S1024x256_1_1_0_0_n_n none (k0_pay3 (F := Ideal) q) (k0_pay4 k) (constant S1024x256 .f32 0x00000000#32) (ix2 i m) = lgB q k i m := by
  refine (Ideal.matmul_transposedRhs_apply _ _ _ _ i m).trans ((congrArg (· + _) word_zerob).trans ((zero_add _).trans ?_))
  refine Finset.sum_congr rfl fun d _ => ?_
  rw [pay3_apply]; unfold k0_pay4; rw [shapeCast_self]

theorem pay6_apply (i : Fin 1024) (m : Fin 256) : k0_pay6 (F := Ideal) q k (ix2 i m) = prob (lgB q k i) m := by
  unfold k0_pay6
  refine (soft_apply _ i m).trans ?_
  exact congrArg (prob · m) (funext fun m => logits_apply q k i m)

theorem dp_apply (i : Fin 1024) (m : Fin 256) :
    matmul dot_S1024x256_S256x256_S1024x256_1_1_0_0_n_n none (k0_pay5 (F := Ideal) do_) (shapeCast S256x256 v shapeCasts_S256x256_S256x256) (constant S1024x256 .f32 0x00000000#32) (ix2 i m) = dpB do_ v i m := by
  refine (Ideal.matmul_transposedRhs_apply _ _ _ _ i m).trans ((congrArg (· + _) word_zerob).trans ((zero_add _).trans ?_))
  refine Finset.sum_congr rfl fun d _ => ?_
  unfold k0_pay5; rw [shapeCast_self, shapeCast_self]

theorem pay7_apply (i : Fin 1024) (m : Fin 256) : k0_pay7 (F := Ideal) q k v do_ (ix2 i m) = ds (lgB q k i) (dpB do_ v i) m := by
  unfold k0_pay7
  refine congrArg₂ (fun a b : EReal => a * b) (pay6_apply q k i m) (congrArg₂ (fun a b : EReal => a - b) (dp_apply do_ v i m) ?_)
  rw [bcastCol_apply, shapeCast_b_b1_apply, rowSum_apply]
  exact Finset.sum_congr rfl fun m _ => congrArg₂ (fun a b : EReal => a * b) (pay6_apply q k i m) (dp_apply do_ v i m)

theorem pay8_apply (i : Fin 1024) (d : Fin 256) :
    k0_pay8 (F := Ideal) q k v do_ (ix2 i d) = (∑ m : Fin 256, ds (lgB q k i) (dpB do_ v i) m * k (ix2 m d)) * sc := by
  unfold k0_pay8
  refine congrArg₂ (fun a b : EReal => a * b) ?_ word_sc
  refine (Ideal.matmul_plain_apply _ _ _ _ i d).trans ((congrArg (· + _) word_zerob).trans ((zero_add _).trans ?_))
  refine Finset.sum_congr rfl fun m _ => ?_
  rw [pay7_apply]; unfold k0_pay4; rw [shapeCast_self]

theorem pay9_apply (prev : FVec Ideal S256x256 .f32) (m d : Fin 256) :
    k0_pay9 (F := Ideal) (k0_pay3 q) (k0_pay7 q k v do_) prev (ix2 m d) = prev (ix2 m d) + ∑ i : Fin 1024, ds (lgB q k i) (dpB do_ v i) m * (q (ix2 i d) * sc) := by
  unfold k0_pay9
  simp only [shapeCast_self]
  refine congrArg (fun z : EReal => prev (ix2 m d) + z) ?_
  refine (matmul_rows_apply _ _ _ _ m d).trans ((congrArg (· + _) word_zerob).trans ((zero_add _).trans ?_))
  refine Finset.sum_congr rfl fun i _ => ?_
  rw [pay7_apply, pay3_apply]

theorem pay10_apply (prev : FVec Ideal S256x256 .f32) (m d : Fin 256) :
    k0_pay10 (F := Ideal) (k0_pay5 do_) (k0_pay6 q k) prev (ix2 m d) = prev (ix2 m d) + ∑ i : Fin 1024, prob (lgB q k i) m * do_ (ix2 i d) := by
  unfold k0_pay10
  simp only [shapeCast_self]
  refine congrArg (fun z : EReal => prev (ix2 m d) + z) ?_
  refine (matmul_rows_apply _ _ _ _ m d).trans ((congrArg (· + _) word_zerob).trans ((zero_add _).trans ?_))
  refine Finset.sum_congr rfl fun i _ => ?_
  exact congrArg₂ (fun a b : EReal => a * b) (pay6_apply q k i m) (by unfold k0_pay5; rw [shapeCast_self])

/-! The other heads' payloads are the first head's. -/

theorem dq1 : k0_pay18 (F := Ideal) (k0_pay12 k) (k0_pay14 q k) (k0_pay15 v do_) (k0_pay16 q k v do_) = k0_pay8 q k v do_ := rfl
theorem dk1 (prev : FVec Ideal S256x256 .f32) : k0_pay19 (F := Ideal) (k0_pay11 q) (k0_pay14 q k) (k0_pay15 v do_) (k0_pay16 q k v do_) prev = k0_pay9 (k0_pay3 q) (k0_pay7 q k v do_) prev := rfl
theorem dv1 (prev : FVec Ideal S256x256 .f32) : k0_pay20 (F := Ideal) (k0_pay13 do_) (k0_pay14 q k) prev = k0_pay10 (k0_pay5 do_) (k0_pay6 q k) prev := rfl
theorem dq2 : k0_pay29 (F := Ideal) (k0_pay22 k) (k0_pay23 v) (k0_pay24 do_) (k0_pay25 q k) (k0_pay26 q k) = k0_pay8 q k v do_ := rfl
theorem dk2 (prev : FVec Ideal S256x256 .f32) : k0_pay30 (F := Ideal) (k0_pay21 q) (k0_pay23 v) (k0_pay24 do_) (k0_pay25 q k) (k0_pay26 q k) prev = k0_pay9 (k0_pay3 q) (k0_pay7 q k v do_) prev := rfl
theorem dv2 (prev : FVec Ideal S256x256 .f32) : k0_pay31 (F := Ideal) (k0_pay24 do_) (k0_pay25 q k) (k0_pay26 q k) prev = k0_pay10 (k0_pay5 do_) (k0_pay6 q k) prev := rfl
theorem dq3 : k0_pay37 (F := Ideal) (k0_pay32 q) k v do_ = k0_pay8 q k v do_ := rfl
theorem dk3 (prev : FVec Ideal S256x256 .f32) : k0_pay38 (F := Ideal) (k0_pay32 q) k v do_ prev = k0_pay9 (k0_pay3 q) (k0_pay7 q k v do_) prev := rfl
theorem dv3 (prev : FVec Ideal S256x256 .f32) : k0_pay1 (F := Ideal) (k0_pay34 do_) (k0_pay39 prev) (k0_pay40 (k0_pay32 q) k) = k0_pay10 (k0_pay5 do_) (k0_pay6 q k) prev := rfl
end

variable (m : (ℓ : Loc nD τ sig) → Buf (Elt Ideal) ℓ)

def projA (c : Dev nD) : FVec Ideal S8192x9232 .f32 := m ((c.tc : Thread nD τ).loc main_arg0)
def kvA (c : Dev nD) : FVec Ideal S256x2048 .f32 := m ((c.tc : Thread nD τ).loc main_arg1)
def ctA (c : Dev nD) : FVec Ideal S8192x1024 .f32 := m ((c.tc : Thread nD τ).loc main_arg2)

theorem V_v3 (c : Dev nD) (i : Fin 8192) (j : Fin 9216) : V m c main_v3 (ix2 i j) = projA m c (ix2 i (col j)) := by
  refine (congrFun (show V m c main_v3 = truncf (F := Ideal) .bf16 (concatenate S8192x9216 1
      [⟨S8192x3072, extractStridedSlice S8192x3072 ![0, 0] (m ((c : Thread nD τ).loc main_arg0)) slices_S8192x9232_S8192x3072_0_0⟩,
       ⟨S8192x6144, extractStridedSlice S8192x6144 ![0, 3088] (m ((c : Thread nD τ).loc main_arg0)) slices_S8192x9232_S8192x6144_0_3088⟩]
      concatenates_S8192x3072_S8192x6144_S8192x9216_d1) bitsLt_bf16_f32 by
    unfold_abbrev_sides
    simp only [hostOps0, List.flatten_cons, List.flatten_nil, List.append_nil, List.cons_append, List.nil_append]
    after_results) _).trans ?_
  exact without_apply _ slices_S8192x9232_S8192x3072_0_0 slices_S8192x9232_S8192x6144_0_3088 concatenates_S8192x3072_S8192x6144_S8192x9216_d1 i j

theorem V_v4 (c : Dev nD) : V m c main_v4 = ctA m c := by
  refine (show V m c main_v4 = truncf (F := Ideal) .bf16 (m ((c : Thread nD τ).loc main_arg2)) bitsLt_bf16_f32 by
    unfold_abbrev_sides
    simp only [hostOps0, List.flatten_cons, List.flatten_nil, List.append_nil, List.cons_append, List.nil_append]
    after_results).trans rfl

theorem V_v5 (c : Dev nD) : V m c main_v5 = kvA m c := by
  refine (show V m c main_v5 = truncf (F := Ideal) .bf16 (m ((c : Thread nD τ).loc main_arg1)) bitsLt_bf16_f32 by
    unfold_abbrev_sides
    simp only [hostOps0, List.flatten_cons, List.flatten_nil, List.append_nil, List.cons_append, List.nil_append]
    after_results).trans rfl

end Cert.MemAttnIdeal.Hand
end
-- ==== Proof.MemAttnValue.lean ====
/-
  The memory attention gradient's call: its two result arrays after the run.
-/
module

public import proofs.«01_k».proof.Proof.MemAttnPay
public import Idealize.ShloMosaic.Lib.Pipeline.ValueKit.Point
public import Idealize.ShloMosaic.Lib.Pipeline.ReadBack
public import Idealize.ShloMosaic.Lib.Pipeline.CanonAppend

@[expose] public section

set_option maxRecDepth 16384

noncomputable section

namespace Cert.MemAttnIdeal.Hand

open Cert.MemAttnIdeal Cert.MemAttnIdeal.Gen
open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2)
open Cert.SoftmaxMath Cert.ConcatReads
open Idealize.ShloMosaic.Pipeline (Dat)
open scoped BigOperators

variable (m : (ℓ : Loc nD τ sig) → Buf (Elt Ideal) ℓ)

/-- A head's queries, keys, values and cotangent, in the arguments. -/
def qG (c : Dev nD) (i : Fin 8192) (h : Fin 4) (d : Fin 256) : EReal := projA m c (ix2 i ⟨5136 + (h.val * 256 + d.val), by omega⟩)
def kG (c : Dev nD) (a : Fin 256) (h : Fin 4) (d : Fin 256) : EReal := kvA m c (ix2 a ⟨h.val * 256 + d.val, by omega⟩)
def vG (c : Dev nD) (a : Fin 256) (h : Fin 4) (d : Fin 256) : EReal := kvA m c (ix2 a ⟨1024 + (h.val * 256 + d.val), by omega⟩)
def oG (c : Dev nD) (i : Fin 8192) (h : Fin 4) (d : Fin 256) : EReal := ctA m c (ix2 i ⟨h.val * 256 + d.val, by omega⟩)

/-- The logits of a row and a head. -/
def lgG (c : Dev nD) (i : Fin 8192) (h : Fin 4) (a : Fin 256) : EReal := ∑ d : Fin 256, (qG m c i h d * sc) * kG m c a h d
/-- The probabilities' gradient of a row and a head. -/
def dpG (c : Dev nD) (i : Fin 8192) (h : Fin 4) (a : Fin 256) : EReal := ∑ d : Fin 256, oG m c i h d * vG m c a h d
/-- A row's share of the keys' and of the values' gradient. -/
def dkR (c : Dev nD) (a : Fin 256) (h : Fin 4) (d : Fin 256) (i : Fin 8192) : EReal := ds (lgG m c i h) (dpG m c i h) a * (qG m c i h d * sc)
def dvR (c : Dev nD) (a : Fin 256) (h : Fin 4) (d : Fin 256) (i : Fin 8192) : EReal := prob (lgG m c i h) a * oG m c i h d
/-- The queries' gradient. -/
def dqG (c : Dev nD) (i : Fin 8192) (h : Fin 4) (d : Fin 256) : EReal := (∑ a : Fin 256, ds (lgG m c i h) (dpG m c i h) a * kG m c a h d) * sc

/-- The head and the position in it of a column. -/
def hd (j : Nat) : Fin 4 := ⟨j / 256 % 4, by omega⟩
def ps (j : Nat) : Fin 256 := ⟨j % 256, by omega⟩

/-- A row's share of the keys' and values' gradient, side by side. -/
def kvR (c : Dev nD) (a : Fin 256) (j : Fin 2048) (i : Fin 8192) : EReal :=
  if j.val < 1024 then dkR m c a (hd j.val) (ps j.val) i else dvR m c a (hd j.val) (ps j.val) i

theorem kvR_k (c : Dev nD) (a : Fin 256) (j : Fin 2048) (i : Fin 8192) (h : Fin 4) (d : Fin 256) (hj : j.val = h.val * 256 + d.val) : kvR m c a j i = dkR m c a h d i := by
  rw [kvR, if_pos (by omega), show hd j.val = h from Fin.ext (by show j.val / 256 % 4 = h.val; omega), show ps j.val = d from Fin.ext (by show j.val % 256 = d.val; omega)]
theorem kvR_v (c : Dev nD) (a : Fin 256) (j : Fin 2048) (i : Fin 8192) (h : Fin 4) (d : Fin 256) (hj : j.val = 1024 + (h.val * 256 + d.val)) : kvR m c a j i = dvR m c a h d i := by
  rw [kvR, if_neg (by omega), show hd j.val = h from Fin.ext (by show j.val / 256 % 4 = h.val; omega), show ps j.val = d from Fin.ext (by show j.val % 256 = d.val; omega)]

theorem idx0 : ∀ t : Fin cfg0.N, win0_0.index t = ![t.val, 5] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 1] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)

/-- A row of a block, as a row of the array. -/
def row (t : Fin cfg0.N) (i : Fin 1024) : Fin 8192 := ⟨t.val * 1024 + i.val, by have h := Nat.lt_of_lt_of_eq t.isLt N_0; omega⟩

theorem blk0 (c : Dev nD) (t : Fin cfg0.N) (i : Fin 1024) (h : Fin 4) (d : Fin 256) (j : Fin 1024) (hj : j.val = h.val * 256 + d.val) :
    iblk m c 0 t (ix2 i j) = qG m c (row t i) h d := by
  have e : iblk m c 0 t (ix2 i j) = V m c main_v3 (ix2 (row t i) ⟨5120 + j.val, by omega⟩) := by
    blk_ext! [iblk, idx0 t, row]
  refine e.trans ((V_v3 m c _ _).trans (congrArg (fun z => projA m c (ix2 (row t i) z)) (Fin.ext ?_)))
  unfold col
  rw [dif_neg (by show ¬ (5120 + j.val < 3072); omega)]
  show 5120 + j.val + 16 = 5136 + (h.val * 256 + d.val); omega

theorem blk1 (c : Dev nD) (t : Fin cfg0.N) (a : Fin 256) (h : Fin 4) (d : Fin 256) (j : Fin 1024) (hj : j.val = h.val * 256 + d.val) :
    iblk m c 1 t (ix2 a j) = kG m c a h d := by
  have e : iblk m c 1 t (ix2 a j) = V m c main_v5 (ix2 a ⟨j.val, by omega⟩) := by
    blk_ext! [iblk, idx1 t]
  rw [e, V_v5]; exact congrArg (fun z : Fin 2048 => kvA m c (ix2 a z)) (Fin.ext (by show j.val = h.val * 256 + d.val; exact hj))

theorem blk2 (c : Dev nD) (t : Fin cfg0.N) (a : Fin 256) (h : Fin 4) (d : Fin 256) (j : Fin 1024) (hj : j.val = h.val * 256 + d.val) :
    iblk m c 2 t (ix2 a j) = vG m c a h d := by
  have e : iblk m c 2 t (ix2 a j) = V m c main_v5 (ix2 a ⟨1024 + j.val, by omega⟩) := by
    blk_ext! [iblk, idx2 t]
  rw [e, V_v5]; exact congrArg (fun z => kvA m c (ix2 a z)) (Fin.ext (congrArg (1024 + ·) hj))

theorem blk3 (c : Dev nD) (t : Fin cfg0.N) (i : Fin 1024) (h : Fin 4) (d : Fin 256) (j : Fin 1024) (hj : j.val = h.val * 256 + d.val) :
    iblk m c 3 t (ix2 i j) = oG m c (row t i) h d := by
  have e : iblk m c 3 t (ix2 i j) = V m c main_v4 (ix2 (row t i) j) := by
    blk_ext! [iblk, idx3 t, row]
  rw [e, V_v4]; exact congrArg (fun z : Fin 1024 => ctA m c (ix2 (row t i) z)) (show j = ⟨h.val * 256 + d.val, by omega⟩ from Fin.ext hj)

section heads
variable (c : Dev nD) (t : Fin cfg0.N) (h : Fin 4) (q o : FVec Ideal S1024x256 .bf16) (k v : FVec Ideal S256x256 .bf16)
  (hq : ∀ i d, q (ix2 i d) = qG m c (row t i) h d) (ho : ∀ i d, o (ix2 i d) = oG m c (row t i) h d)
  (hk : ∀ a d, k (ix2 a d) = kG m c a h d) (hv : ∀ a d, v (ix2 a d) = vG m c a h d)
include hq ho hk hv

theorem lg_eq (i : Fin 1024) : lgB q k i = lgG m c (row t i) h := funext fun a => Finset.sum_congr rfl fun d _ => by rw [hq, hk]
theorem dp_eq (i : Fin 1024) : dpB o v i = dpG m c (row t i) h := funext fun a => Finset.sum_congr rfl fun d _ => by rw [ho, hv]

theorem dq_head (i : Fin 1024) (d : Fin 256) : k0_pay8 (F := Ideal) q k v o (ix2 i d) = dqG m c (row t i) h d := by
  rw [pay8_apply, lg_eq m c t h q o k v hq ho hk hv, dp_eq m c t h q o k v hq ho hk hv]
  exact congrArg (· * sc) (Finset.sum_congr rfl fun a _ => by rw [hk])

theorem dk_head (prev : FVec Ideal S256x256 .f32) (a d : Fin 256) :
    k0_pay9 (F := Ideal) (k0_pay3 q) (k0_pay7 q k v o) prev (ix2 a d) = prev (ix2 a d) + ∑ i : Fin 1024, dkR m c a h d (row t i) := by
  rw [pay9_apply]
  exact congrArg (fun z : EReal => prev (ix2 a d) + z) (Finset.sum_congr rfl fun i _ => by
    rw [lg_eq m c t h q o k v hq ho hk hv, dp_eq m c t h q o k v hq ho hk hv, hq]; rfl)

theorem dv_head (prev : FVec Ideal S256x256 .f32) (a d : Fin 256) :
    k0_pay10 (F := Ideal) (k0_pay5 o) (k0_pay6 q k) prev (ix2 a d) = prev (ix2 a d) + ∑ i : Fin 1024, dvR m c a h d (row t i) := by
  rw [pay10_apply]
  exact congrArg (fun z : EReal => prev (ix2 a d) + z) (Finset.sum_congr rfl fun i _ => by
    rw [lg_eq m c t h q o k v hq ho hk hv, ho]; rfl)
end heads

section pieces
variable (c : Dev nD) (t : Fin cfg0.N) (h : Fin 4) (o : Nat) (ho : o = h.val * 256)
  (b : ∀ a, (![0, o] : Fin 2 → Nat) a + (![1024, 256] : Fin 2 → Nat) a ≤ S1024x1024.size a) (b' : ∀ a, (![0, o] : Fin 2 → Nat) a + (![256, 256] : Fin 2 → Nat) a ≤ S256x1024.size a)

/-- A head's queries, cotangent, keys and values of a point, as the point loads them. -/
def qL : FVec Ideal S1024x256 .bf16 := View.ld (iblk m c 0 t) (Rect.unit ![0, o] ![1024, 256] b)
def oL : FVec Ideal S1024x256 .bf16 := View.ld (iblk m c 3 t) (Rect.unit ![0, o] ![1024, 256] b)
def kL : FVec Ideal S256x256 .bf16 := View.ld (iblk m c 1 t) (Rect.unit ![0, o] ![256, 256] b')
def vL : FVec Ideal S256x256 .bf16 := View.ld (iblk m c 2 t) (Rect.unit ![0, o] ![256, 256] b')

include ho
theorem qL_apply (i : Fin 1024) (d : Fin 256) : qL m c t o b (ix2 i d) = qG m c (row t i) h d :=
  (congrArg (iblk m c 0 t) (show _ = ix2 i ⟨o + d.val, by omega⟩ from funext fun a => Fin.ext (by
    match a with | ⟨0, _⟩ => show 0 + 1 * i.val = i.val; omega | ⟨1, _⟩ => show o + 1 * d.val = o + d.val; omega))).trans
    (blk0 m c t i h d _ (by show o + d.val = _; omega))
theorem oL_apply (i : Fin 1024) (d : Fin 256) : oL m c t o b (ix2 i d) = oG m c (row t i) h d :=
  (congrArg (iblk m c 3 t) (show _ = ix2 i ⟨o + d.val, by omega⟩ from funext fun a => Fin.ext (by
    match a with | ⟨0, _⟩ => show 0 + 1 * i.val = i.val; omega | ⟨1, _⟩ => show o + 1 * d.val = o + d.val; omega))).trans
    (blk3 m c t i h d _ (by show o + d.val = _; omega))
theorem kL_apply (a d : Fin 256) : kL m c t o b' (ix2 a d) = kG m c a h d :=
  (congrArg (iblk m c 1 t) (show _ = ix2 a ⟨o + d.val, by omega⟩ from funext fun e => Fin.ext (by
    match e with | ⟨0, _⟩ => show 0 + 1 * a.val = a.val; omega | ⟨1, _⟩ => show o + 1 * d.val = o + d.val; omega))).trans
    (blk1 m c t a h d _ (by show o + d.val = _; omega))
theorem vL_apply (a d : Fin 256) : vL m c t o b' (ix2 a d) = vG m c a h d :=
  (congrArg (iblk m c 2 t) (show _ = ix2 a ⟨o + d.val, by omega⟩ from funext fun e => Fin.ext (by
    match e with | ⟨0, _⟩ => show 0 + 1 * a.val = a.val; omega | ⟨1, _⟩ => show o + 1 * d.val = o + d.val; omega))).trans
    (blk2 m c t a h d _ (by show o + d.val = _; omega))

theorem dqP (i : Fin 1024) (d : Fin 256) : k0_pay8 (F := Ideal) (qL m c t o b) (kL m c t o b') (vL m c t o b') (oL m c t o b) (ix2 i d) = dqG m c (row t i) h d :=
  dq_head m c t h _ _ _ _ (qL_apply m c t h o ho b) (oL_apply m c t h o ho b) (kL_apply m c t h o ho b') (vL_apply m c t h o ho b') i d
theorem dkP (prev : FVec Ideal S256x256 .f32) (y : S256x256.Idx) :
    k0_pay9 (F := Ideal) (k0_pay3 (qL m c t o b)) (k0_pay7 (qL m c t o b) (kL m c t o b') (vL m c t o b') (oL m c t o b)) prev y
      = prev y + ∑ i : Fin 1024, dkR m c (y 0) h (y 1) (row t i) := by
  rw [eq_ix2 y]
  exact dk_head m c t h _ _ _ _ (qL_apply m c t h o ho b) (oL_apply m c t h o ho b) (kL_apply m c t h o ho b') (vL_apply m c t h o ho b') prev _ _
theorem dvP (prev : FVec Ideal S256x256 .f32) (y : S256x256.Idx) :
    k0_pay10 (F := Ideal) (k0_pay5 (oL m c t o b)) (k0_pay6 (qL m c t o b) (kL m c t o b')) prev y = prev y + ∑ i : Fin 1024, dvR m c (y 0) h (y 1) (row t i) := by
  rw [eq_ix2 y]
  exact dv_head m c t h _ _ _ (vL m c t o b') (qL_apply m c t h o ho b) (oL_apply m c t h o ho b) (kL_apply m c t h o ho b') (vL_apply m c t h o ho b') prev _ _
end pieces

/-- What is added at a column of the keys' half, and of the values'. -/
theorem addK (c : Dev nD) (t : Fin cfg0.N) (P : EReal) (X : FVec Ideal S256x2048 .f32) (a : Fin 256) (j : Fin 2048) (h : Fin 4) (d : Fin 256) (hj : j.val = h.val * 256 + d.val)
    (hP : P = X (ix2 a j)) : P + ∑ i : Fin 1024, dkR m c a h d (row t i) = X (ix2 a j) + ∑ i : Fin 1024, kvR m c a j (row t i) :=
  congrArg₂ (fun a b : EReal => a + b) hP (Finset.sum_congr rfl fun i _ => (kvR_k m c a j _ h d hj).symm)
theorem addV (c : Dev nD) (t : Fin cfg0.N) (P : EReal) (X : FVec Ideal S256x2048 .f32) (a : Fin 256) (j : Fin 2048) (h : Fin 4) (d : Fin 256) (hj : j.val = 1024 + (h.val * 256 + d.val))
    (hP : P = X (ix2 a j)) : P + ∑ i : Fin 1024, dvR m c a h d (row t i) = X (ix2 a j) + ∑ i : Fin 1024, kvR m c a j (row t i) :=
  congrArg₂ (fun a b : EReal => a + b) hP (Finset.sum_congr rfl fun i _ => (kvR_v m c a j _ h d hj).symm)

/-- A load of 256 columns of the keys' and values' gradient, at an index. -/
theorem ldAt (X : FVec Ideal S256x2048 .f32) (o : Nat) (b : ∀ a, (![0, o] : Fin 2 → Nat) a + (![256, 256] : Fin 2 → Nat) a ≤ S256x2048.size a)
    (x : S256x256.Idx) (a : Fin 256) (j : Fin 2048) (h0 : a.val = (x 0).val) (h1 : j.val = o + (x 1).val) :
    View.ld (Val := Elt Ideal) (e' := .f32) X (Rect.unit (s := S256x2048) ![0, o] ![256, 256] b) x = X (ix2 a j) :=
  congrArg X (funext fun e => Fin.ext (by
    match e with
    | ⟨0, _⟩ => show 0 + 1 * (x 0).val = a.val; omega
    | ⟨1, _⟩ => show o + 1 * (x 1).val = j.val; omega))

/-- A point after the first adds its rows' share. -/
theorem out5_B (c : Dev nD) (t : Fin cfg0.N) (h0 : ¬t.val % 8 = 0) (a : Fin 256) (j : Fin 2048) :
    (outsAt0 m c t.val t.isLt).2 (ix2 a j) = (outsAt0 m c (t.val - 1) (Nat.lt_of_le_of_lt (Nat.sub_le _ _) t.isLt)).2 (ix2 a j) + ∑ i : Fin 1024, kvR m c a j (row t i) := by
  rw [outsAt0_B m c t h0]; frame_out
  canon_tiles x hx
  case piece0 =>
    have e0 : a.val = (x 0).val := hx0
    have e1 : j.val = 1792 + (x 1).val := hx1
    obtain rfl : a = x 0 := Fin.ext e0
    exact (dvP m c t 3 768 rfl inb_S1024x1024_S1024x256_0_768 inb_S256x1024_S256x256_0_768 _ x).trans
      (addV m c t _ _ _ j 3 (x 1) (by show j.val = 1024 + (3 * 256 + (x 1).val); omega) (ldAt _ 1792 _ x _ j rfl e1))
  case piece1 =>
    have e0 : a.val = (x 0).val := hx0
    have e1 : j.val = 768 + (x 1).val := hx1
    obtain rfl : a = x 0 := Fin.ext e0
    exact (dkP m c t 3 768 rfl inb_S1024x1024_S1024x256_0_768 inb_S256x1024_S256x256_0_768 _ x).trans
      (addK m c t _ _ _ j 3 (x 1) (by show j.val = 3 * 256 + (x 1).val; omega) (ldAt _ 768 _ x _ j rfl e1))
  case piece2 =>
    have e0 : a.val = (x 0).val := hx0
    have e1 : j.val = 1536 + (x 1).val := hx1
    obtain rfl : a = x 0 := Fin.ext e0
    exact (dvP m c t 2 512 rfl inb_S1024x1024_S1024x256_0_512 inb_S256x1024_S256x256_0_512 _ x).trans
      (addV m c t _ _ _ j 2 (x 1) (by show j.val = 1024 + (2 * 256 + (x 1).val); omega) (ldAt _ 1536 _ x _ j rfl e1))
  case piece3 =>
    have e0 : a.val = (x 0).val := hx0
    have e1 : j.val = 512 + (x 1).val := hx1
    obtain rfl : a = x 0 := Fin.ext e0
    exact (dkP m c t 2 512 rfl inb_S1024x1024_S1024x256_0_512 inb_S256x1024_S256x256_0_512 _ x).trans
      (addK m c t _ _ _ j 2 (x 1) (by show j.val = 2 * 256 + (x 1).val; omega) (ldAt _ 512 _ x _ j rfl e1))
  case piece4 =>
    have e0 : a.val = (x 0).val := hx0
    have e1 : j.val = 1280 + (x 1).val := hx1
    obtain rfl : a = x 0 := Fin.ext e0
    exact (dvP m c t 1 256 rfl inb_S1024x1024_S1024x256_0_256 inb_S256x1024_S256x256_0_256 _ x).trans
      (addV m c t _ _ _ j 1 (x 1) (by show j.val = 1024 + (1 * 256 + (x 1).val); omega) (ldAt _ 1280 _ x _ j rfl e1))
  case piece5 =>
    have e0 : a.val = (x 0).val := hx0
    have e1 : j.val = 256 + (x 1).val := hx1
    obtain rfl : a = x 0 := Fin.ext e0
    exact (dkP m c t 1 256 rfl inb_S1024x1024_S1024x256_0_256 inb_S256x1024_S256x256_0_256 _ x).trans
      (addK m c t _ _ _ j 1 (x 1) (by show j.val = 1 * 256 + (x 1).val; omega) (ldAt _ 256 _ x _ j rfl e1))
  case piece6 =>
    have e0 : a.val = (x 0).val := hx0
    have e1 : j.val = 1024 + (x 1).val := hx1
    obtain rfl : a = x 0 := Fin.ext e0
    exact (dvP m c t 0 0 rfl inb_S1024x1024_S1024x256_0_0 inb_S256x1024_S256x256_0_0 _ x).trans
      (addV m c t _ _ _ j 0 (x 1) (by show j.val = 1024 + (0 * 256 + (x 1).val); omega) (ldAt _ 1024 _ x _ j rfl e1))
  case piece7 =>
    have e0 : a.val = (x 0).val := hx0
    have e1 : j.val = 0 + (x 1).val := hx1.trans (Nat.zero_add _).symm
    obtain rfl : a = x 0 := Fin.ext e0
    exact (dkP m c t 0 0 rfl inb_S1024x1024_S1024x256_0_0 inb_S256x1024_S256x256_0_0 _ x).trans
      (addK m c t _ _ _ j 0 (x 1) (by show j.val = 0 * 256 + (x 1).val; omega) (ldAt _ 0 _ x _ j rfl e1))

/-- What the first point stores, as a block of the sums. -/
def first (c : Dev nD) (t : Fin cfg0.N) : FVec Ideal S256x2048 .f32 := fun y => k0_pay2 (F := Ideal) y + ∑ i : Fin 1024, kvR m c (y 0) (y 1) (row t i)

theorem stepK (c : Dev nD) (t : Fin cfg0.N) (h : Fin 4) (o : Nat) (ho : o = h.val * 256)
    (b : ∀ a, (![0, o] : Fin 2 → Nat) a + (![256, 256] : Fin 2 → Nat) a ≤ S256x2048.size a) (x : S256x256.Idx) :
    View.ld (Val := Elt Ideal) (e' := .f32) (k0_pay2 (F := Ideal)) (Rect.unit (s := S256x2048) ![0, o] ![256, 256] b) x + ∑ i : Fin 1024, dkR m c (x 0) h (x 1) (row t i)
      = (first m c t ((Rect.unit (s := S256x2048) ![0, o] ![256, 256] b).emb x) : EReal) := by
  have e : (Rect.unit (s := S256x2048) ![0, o] ![256, 256] b).emb x = ix2 (x 0) ⟨o + (x 1).val, by have := (x 1).isLt; have e : S256x256.size 1 = 256 := rfl; omega⟩ := funext fun e => Fin.ext (by
    match e with
    | ⟨0, _⟩ => show 0 + 1 * (x 0).val = (x 0).val; omega
    | ⟨1, _⟩ => show o + 1 * (x 1).val = o + (x 1).val; omega)
  rw [e]
  exact addK m c t _ _ (x 0) _ h (x 1) (congrArg (· + (x 1).val) ho) (ldAt _ o b x _ _ rfl rfl)

theorem stepV (c : Dev nD) (t : Fin cfg0.N) (h : Fin 4) (o : Nat) (ho : o = 1024 + h.val * 256)
    (b : ∀ a, (![0, o] : Fin 2 → Nat) a + (![256, 256] : Fin 2 → Nat) a ≤ S256x2048.size a) (x : S256x256.Idx) :
    View.ld (Val := Elt Ideal) (e' := .f32) (k0_pay2 (F := Ideal)) (Rect.unit (s := S256x2048) ![0, o] ![256, 256] b) x + ∑ i : Fin 1024, dvR m c (x 0) h (x 1) (row t i)
      = (first m c t ((Rect.unit (s := S256x2048) ![0, o] ![256, 256] b).emb x) : EReal) := by
  have e : (Rect.unit (s := S256x2048) ![0, o] ![256, 256] b).emb x = ix2 (x 0) ⟨o + (x 1).val, by have := (x 1).isLt; have e : S256x256.size 1 = 256 := rfl; omega⟩ := funext fun e => Fin.ext (by
    match e with
    | ⟨0, _⟩ => show 0 + 1 * (x 0).val = (x 0).val; omega
    | ⟨1, _⟩ => show o + 1 * (x 1).val = o + (x 1).val; omega)
  rw [e]
  exact addV m c t _ _ (x 0) _ h (x 1) (by show o + (x 1).val = _; omega) (ldAt _ o b x _ _ rfl rfl)

theorem out5_A (c : Dev nD) (t : Fin cfg0.N) (h0 : t.val % 8 = 0) (a : Fin 256) (j : Fin 2048) :
    (outsAt0 m c t.val t.isLt).2 (ix2 a j) = 0 + ∑ i : Fin 1024, kvR m c a j (row t i) := by
  rw [outsAt0_A m c t h0]; frame_out
  simp (discharger := decide) only [↓View.readCov_skip]
  simp (discharger := decide) only [View.readCov_fill]
  refine (View.canon_append_of_piecesOf (first m c t) [_] [_, _, _, _, _, _, _, _] ⟨
      fun x => (dvP m c t 3 768 rfl inb_S1024x1024_S1024x256_0_768 inb_S256x1024_S256x256_0_768 _ x).trans
        (stepV m c t 3 1792 rfl inb_S256x2048_S256x256_0_1792 x),
      fun x => (dkP m c t 3 768 rfl inb_S1024x1024_S1024x256_0_768 inb_S256x1024_S256x256_0_768 _ x).trans
        (stepK m c t 3 768 rfl inb_S256x2048_S256x256_0_768 x),
      fun x => (dvP m c t 2 512 rfl inb_S1024x1024_S1024x256_0_512 inb_S256x1024_S256x256_0_512 _ x).trans
        (stepV m c t 2 1536 rfl inb_S256x2048_S256x256_0_1536 x),
      fun x => (dkP m c t 2 512 rfl inb_S1024x1024_S1024x256_0_512 inb_S256x1024_S256x256_0_512 _ x).trans
        (stepK m c t 2 512 rfl inb_S256x2048_S256x256_0_512 x),
      fun x => (dvP m c t 1 256 rfl inb_S1024x1024_S1024x256_0_256 inb_S256x1024_S256x256_0_256 _ x).trans
        (stepV m c t 1 1280 rfl inb_S256x2048_S256x256_0_1280 x),
      fun x => (dkP m c t 1 256 rfl inb_S1024x1024_S1024x256_0_256 inb_S256x1024_S256x256_0_256 _ x).trans
        (stepK m c t 1 256 rfl inb_S256x2048_S256x256_0_256 x),
      fun x => (dvP m c t 0 0 rfl inb_S1024x1024_S1024x256_0_0 inb_S256x1024_S256x256_0_0 _ x).trans
        (stepV m c t 0 1024 rfl inb_S256x2048_S256x256_0_1024 x),
      fun x => (dkP m c t 0 0 rfl inb_S1024x1024_S1024x256_0_0 inb_S256x1024_S256x256_0_0 _ x).trans
        (stepK m c t 0 0 rfl inb_S256x2048_S256x256_0_0 x), trivial⟩ (ix2 a j) (View.cover_of_tiledL _ ![256, 256] (by sl_kernel_rfl) _)).trans ?_
  exact congrArg (fun z : EReal => z + ∑ i : Fin 1024, kvR m c a j (row t i)) word_zerob

/-- The keys' and values' gradient after the last point. -/
theorem out5 (c : Dev nD) (t : Fin cfg0.N) (ht : t.val + 1 = cfg0.N) (a : Fin 256) (j : Fin 2048) :
    (outsAt0 m c t.val t.isLt).2 (ix2 a j) = ∑ i : Fin 8192, kvR m c a j i := by
  have h := Pipeline.eq_sum_fin_of_reset_step_apply_last (fun n h => fun z : Fin 256 × Fin 2048 => (outsAt0 m c n h).2 (ix2 z.1 z.2)) 8 (fun _ => (0 : EReal))
    (fun t z => ∑ i : Fin 1024, kvR m c z.1 z.2 (row t i))
    (fun t h z => out5_A m c t h z.1 z.2)
    (fun t h z => out5_B m c t h z.1 z.2)
    (le_of_eq N_0) t ht (a, j)
  refine h.trans ?_
  rw [zero_add]
  exact Fin.sum_mul_add_congr (S := 8) (n := 1024) (fun s k hl => rfl) rfl

theorem dqP_at (c : Dev nD) (t : Fin cfg0.N) (h : Fin 4) (o : Nat) (ho : o = h.val * 256)
    (b : ∀ a, (![0, o] : Fin 2 → Nat) a + (![1024, 256] : Fin 2 → Nat) a ≤ S1024x1024.size a) (b' : ∀ a, (![0, o] : Fin 2 → Nat) a + (![256, 256] : Fin 2 → Nat) a ≤ S256x1024.size a)
    (x : S1024x256.Idx) (j : Fin 1024) (hj : j.val = o + (x 1).val) :
    k0_pay8 (F := Ideal) (qL m c t o b) (kL m c t o b') (vL m c t o b') (oL m c t o b) x = dqG m c (row t (x 0)) (hd j.val) (ps j.val) := by
  have h1 : (x 1).val < 256 := (x 1).isLt
  rw [show hd j.val = h from Fin.ext (by show j.val / 256 % 4 = h.val; omega), show ps j.val = x 1 from Fin.ext (by show j.val % 256 = (x 1).val; omega)]
  exact (congrArg _ (eq_ix2 x)).trans (dqP m c t h o ho b b' (x 0) (x 1))

/-- The queries' gradient of a point. -/
theorem out4 (c : Dev nD) (t : Fin cfg0.N) (i : Fin 1024) (j : Fin 1024) :
    (outsAt0 m c t.val t.isLt).1 (ix2 i j) = dqG m c (row t i) (hd j.val) (ps j.val) := by
  by_cases h0 : t.val % 8 = 0
  · rw [outsAt0_A m c t h0]; frame_out
    canon_tiles x hx
    case piece0 =>
      have e0 : i.val = (x 0).val := hx0
      have e1 : j.val = 768 + (x 1).val := hx1
      obtain rfl : i = x 0 := Fin.ext e0
      refine Eq.trans ?_ (dqP_at m c t 3 768 rfl inb_S1024x1024_S1024x256_0_768 inb_S256x1024_S256x256_0_768 x j e1)
      rfl
    case piece1 =>
      have e0 : i.val = (x 0).val := hx0
      have e1 : j.val = 512 + (x 1).val := hx1
      obtain rfl : i = x 0 := Fin.ext e0
      refine Eq.trans ?_ (dqP_at m c t 2 512 rfl inb_S1024x1024_S1024x256_0_512 inb_S256x1024_S256x256_0_512 x j e1)
      rfl
    case piece2 =>
      have e0 : i.val = (x 0).val := hx0
      have e1 : j.val = 256 + (x 1).val := hx1
      obtain rfl : i = x 0 := Fin.ext e0
      refine Eq.trans ?_ (dqP_at m c t 1 256 rfl inb_S1024x1024_S1024x256_0_256 inb_S256x1024_S256x256_0_256 x j e1)
      rfl
    case piece3 =>
      have e0 : i.val = (x 0).val := hx0
      have e1 : j.val = 0 + (x 1).val := hx1.trans (Nat.zero_add _).symm
      obtain rfl : i = x 0 := Fin.ext e0
      refine Eq.trans ?_ (dqP_at m c t 0 0 rfl inb_S1024x1024_S1024x256_0_0 inb_S256x1024_S256x256_0_0 x j e1)
      rfl
  · rw [outsAt0_B m c t h0]; frame_out
    canon_tiles x hx
    case piece0 =>
      have e0 : i.val = (x 0).val := hx0
      have e1 : j.val = 768 + (x 1).val := hx1
      obtain rfl : i = x 0 := Fin.ext e0
      refine Eq.trans ?_ (dqP_at m c t 3 768 rfl inb_S1024x1024_S1024x256_0_768 inb_S256x1024_S256x256_0_768 x j e1)
      rfl
    case piece1 =>
      have e0 : i.val = (x 0).val := hx0
      have e1 : j.val = 512 + (x 1).val := hx1
      obtain rfl : i = x 0 := Fin.ext e0
      refine Eq.trans ?_ (dqP_at m c t 2 512 rfl inb_S1024x1024_S1024x256_0_512 inb_S256x1024_S256x256_0_512 x j e1)
      rfl
    case piece2 =>
      have e0 : i.val = (x 0).val := hx0
      have e1 : j.val = 256 + (x 1).val := hx1
      obtain rfl : i = x 0 := Fin.ext e0
      refine Eq.trans ?_ (dqP_at m c t 1 256 rfl inb_S1024x1024_S1024x256_0_256 inb_S256x1024_S256x256_0_256 x j e1)
      rfl
    case piece3 =>
      have e0 : i.val = (x 0).val := hx0
      have e1 : j.val = 0 + (x 1).val := hx1.trans (Nat.zero_add _).symm
      obtain rfl : i = x 0 := Fin.ext e0
      refine Eq.trans ?_ (dqP_at m c t 0 0 rfl inb_S1024x1024_S1024x256_0_0 inb_S256x1024_S256x256_0_0 x j e1)
      rfl

/-- The array of the queries' gradient. -/
theorem final4 (c : Dev nD) : (dats m 0 c).arrAt 4 cfg0.N = fun i : S8192x1024.Idx => dqG m c (i 0) (hd (i 1).val) (ps (i 1).val) := by
  refine (dats m 0 c).arrAt_eq_of_covers 4 _ (by decide +kernel) fun t hf y => ?_
  blk_simp
  obtain ⟨a, b, rfl⟩ : ∃ a b, y = ix2 a b := ⟨y 0, y 1, eq_ix2 y⟩
  rw [after0_4, out4]
  refine congrArg₂ (fun (u : Fin 8192) (v : Nat) => dqG m c u (hd v) (ps v)) (Fin.ext ?_) ?_
  · blk_simp [idx4 t, row]
  · blk_simp [idx4 t]

/-- The array of the keys' and values' gradient. -/
theorem final5 (c : Dev nD) : (dats m 0 c).arrAt 5 cfg0.N = fun i : S256x2048.Idx => ∑ k : Fin 8192, kvR m c (i 0) (i 1) k := by
  refine (dats m 0 c).arrAt_eq_of_after_last 5 ⟨7, by rw [show cfg0.N = 8 from N_0]; decide⟩ (by decide +kernel) _ fun y => ?_
  obtain ⟨a, b, rfl⟩ : ∃ a b, y = ix2 a b := ⟨y 0, y 1, eq_ix2 y⟩
  refine Eq.trans ?_ (out5 m c ⟨7, by rw [show cfg0.N = 8 from N_0]; decide⟩ (show 7 + 1 = cfg0.N from N_0.symm) a b)
  exact congrFun (after0_5 m c _) _

end Cert.MemAttnIdeal.Hand
end
-- ==== Proof.MemAttnClaims.lean ====
/-
  The memory attention's reference derivative at an index, and the claim. The precondition is read here: the queries
  and the keys are real.
-/
module

public import proofs.«01_k».proof.Defs
public import proofs.«01_k».proof.Proof.Gen.MemAttnRefIdeal.Read
public import Idealize.ShloMosaic.Lib.Quiescent
public import Idealize.ShloMosaic.Lib.ReduceAll
public import proofs.«01_k».proof.Proof.Gen.Pre_finite_queries_and_keys
public import proofs.«01_k».proof.Proof.Finite
public import proofs.«01_k».proof.Proof.MemAttnValue
public import proofs.«01_k».proof.Proof.Gen.MemAttnIdeal.Value

@[expose] public section

set_option maxRecDepth 16384

noncomputable section

namespace Cert.MemAttnClaims

open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2 eq_ix3)
open Cert.MemAttnRefIdeal Cert.MemAttnRefIdeal.Read
open Cert.MemAttnIdeal.Hand (sc word_sc hd ps projA kvA ctA dqG kvR dkR dvR)
open Cert.ConcatReads Cert.Laws Cert.GateMath Cert.SoftmaxMath Cert.SoftmaxReads
open scoped BigOperators

variable (x0 : FVec Ideal S8192x9232 .f32) (x1 : FVec Ideal S256x2048 .f32) (x2 : FVec Ideal S8192x1024 .f32)

/-- A head's queries, keys, values and cotangent. -/
def qR (i : Fin 8192) (h : Fin 4) (d : Fin 256) : EReal := x0 (ix2 i ⟨5136 + (h.val * 256 + d.val), by omega⟩)
def kR (a : Fin 256) (h : Fin 4) (d : Fin 256) : EReal := x1 (ix2 a ⟨h.val * 256 + d.val, by omega⟩)
def vR (a : Fin 256) (h : Fin 4) (d : Fin 256) : EReal := x1 (ix2 a ⟨1024 + (h.val * 256 + d.val), by omega⟩)
def oR (i : Fin 8192) (h : Fin 4) (d : Fin 256) : EReal := x2 (ix2 i ⟨h.val * 256 + d.val, by omega⟩)
def lg (i : Fin 8192) (h : Fin 4) (a : Fin 256) : EReal := ∑ d : Fin 256, (qR x0 i h d * sc) * kR x1 a h d
def dp (i : Fin 8192) (h : Fin 4) (a : Fin 256) : EReal := ∑ d : Fin 256, oR x2 i h d * vR x1 a h d

theorem split_eq {n : Nat} (i : Fin n) (h : Fin 4) (d : Fin 256) :
    ((i.val * 4 + h.val) * 256 + d.val) / 1024 = i.val ∧ ((i.val * 4 + h.val) * 256 + d.val) % 1024 = h.val * 256 + d.val := by omega

theorem v1_apply (i : Fin 8192) (h : Fin 4) (d : Fin 256) : val_main_v1 (F := Ideal) x0 (ix3 i h d) = qR x0 i h d := by
  rw [val_main_v1_apply, show idx_main_v1 (ix3 i h d) = ix2 i ⟨h.val * 256 + d.val, by omega⟩ from funext fun e => Fin.ext (by
    match e with
    | ⟨0, _⟩ => exact (split_eq i h d).1
    | ⟨1, _⟩ => exact (split_eq i h d).2), val_main_v0_apply]
  exact congrArg x0 (eq_ix2 _)

theorem v4_apply (a : Fin 256) (h : Fin 4) (d : Fin 256) : val_main_v4 (F := Ideal) x1 (ix3 a h d) = kR x1 a h d := by
  rw [val_main_v4_apply, show idx_main_v4 (ix3 a h d) = ix2 a ⟨h.val * 256 + d.val, by omega⟩ from funext fun e => Fin.ext (by
    match e with
    | ⟨0, _⟩ => exact (split_eq a h d).1
    | ⟨1, _⟩ => exact (split_eq a h d).2), val_main_v2_apply]
  exact congrArg x1 (eq_ix2 _)

theorem v5_apply (a : Fin 256) (h : Fin 4) (d : Fin 256) : val_main_v5 (F := Ideal) x1 (ix3 a h d) = vR x1 a h d := by
  rw [val_main_v5_apply, show idx_main_v5 (ix3 a h d) = ix2 a ⟨h.val * 256 + d.val, by omega⟩ from funext fun e => Fin.ext (by
    match e with
    | ⟨0, _⟩ => exact (split_eq a h d).1
    | ⟨1, _⟩ => exact (split_eq a h d).2), val_main_v3_apply]
  exact congrArg x1 (eq_ix2 _)

theorem v8_apply (h : Fin 4) (i : Fin 8192) (a : Fin 256) : val_main_v8 (F := Ideal) x0 x1 (ix3 h i a) = lg x0 x1 i h a := by
  rw [val_main_v8_apply, val_main_v6_apply, val_main_v7_apply, val_main_cst_apply]
  refine Eq.trans (congrArg₂ (fun a b : EReal => a * b) (Finset.sum_congr rfl fun d _ => congrArg₂ (fun a b : EReal => a * b)
    ((congrArg _ (eq_ix3 _)).trans (v1_apply x0 i h d)) ((congrArg _ (eq_ix3 _)).trans (v4_apply x1 a h d))) word_sc) ?_
  unfold lg sc
  rw [sum_mul_real (by norm_num)]
  exact Finset.sum_congr rfl fun d _ => mul_right_comm _ _ _

theorem v9_apply (h : Fin 4) (i : Fin 8192) : val_main_v9 (F := Ideal) x0 x1 (ix2 h i) = mx (lg x0 x1 i h) := by
  unfold val_main_v9
  refine (hostMax_apply (a := 4) (b := 8192) (c := 256) _ _ _ (by decide) _ ?_ h i).trans (congrArg mx (funext fun a => v8_apply x0 x1 h i a))
  exact word_bot

theorem v29_apply (h : Fin 4) (i : Fin 8192) (a : Fin 256) : val_main_v29 (F := Ideal) x0 x1 (ix3 h i a) = ex (lg x0 x1 i h) a := by
  rw [val_main_v29_apply, val_main_v28_apply, v8_apply, val_main_v27_apply, val_main_v26_apply, val_main_v16_apply, val_main_v15_apply, val_main_cst_2_apply]
  refine congrArg (fun z : EReal => Ideal.exp (lg x0 x1 i h a - z)) ?_
  refine (congrArg₂ (fun a b : EReal => max a b) word_bot ((congrArg _ (eq_ix2 _)).trans (v9_apply x0 x1 h i))).trans ?_
  exact max_eq_right bot_le

theorem v30_apply (h : Fin 4) (i : Fin 8192) : val_main_v30 (F := Ideal) x0 x1 (ix2 h i) = den (lg x0 x1 i h) := by
  rw [val_main_v30_apply]
  refine (congrArg₂ (fun a b : EReal => a + b) word_zero (Finset.sum_congr rfl fun a _ => (congrArg _ (eq_ix3 _)).trans (v29_apply x0 x1 h i a))).trans ?_
  exact zero_add _

theorem v31_apply (h : Fin 4) (i : Fin 8192) (u : Fin 1) : val_main_v31 (F := Ideal) x0 x1 (ix3 h i u) = den (lg x0 x1 i h) := by
  rw [val_main_v31_apply]; exact (congrArg _ (eq_ix2 _)).trans (v30_apply x0 x1 h i)

theorem v33_apply (h : Fin 4) (i : Fin 8192) (a : Fin 256) : val_main_v33 (F := Ideal) x0 x1 (ix3 h i a) = prob (lg x0 x1 i h) a := by
  rw [val_main_v33_apply, v29_apply, val_main_v32_apply]
  exact congrArg (Ideal.div (ex (lg x0 x1 i h) a)) ((congrArg _ (eq_ix3 _)).trans (v31_apply x0 x1 h i 0))

theorem v41_apply (h : Fin 4) (d : Fin 256) (i : Fin 8192) : val_main_v41 (F := Ideal) x2 (ix3 h d i) = oR x2 i h d := by
  rw [val_main_v41_apply, val_main_v40_apply]
  refine congrArg x2 (funext fun e => Fin.ext ?_)
  match e with
  | ⟨0, _⟩ => exact (split_eq i h d).1
  | ⟨1, _⟩ => exact (split_eq i h d).2

theorem v42_apply (h : Fin 4) (i : Fin 8192) (a : Fin 256) : val_main_v42 (F := Ideal) x1 x2 (ix3 h i a) = dp x1 x2 i h a := by
  rw [val_main_v42_apply]
  exact Finset.sum_congr rfl fun d _ => congrArg₂ (fun a b : EReal => a * b) ((congrArg _ (eq_ix3 _)).trans (v41_apply x2 h d i)) ((congrArg _ (eq_ix3 _)).trans (v5_apply x1 a h d))

theorem v47_apply (h : Fin 4) (i : Fin 8192) (a : Fin 256) :
    val_main_v47 (F := Ideal) x0 x1 x2 (ix3 h i a) = dp x1 x2 i h a * Ideal.div 1 (den (lg x0 x1 i h) * den (lg x0 x1 i h)) * ex (lg x0 x1 i h) a := by
  rw [val_main_v47_apply, val_main_v46_apply, v42_apply, v29_apply, val_main_v45_apply, val_main_v36_apply, val_main_v35_apply, val_main_cst_9_apply, val_main_v34_apply]
  exact congrArg (fun z : EReal => dp x1 x2 i h a * z * ex (lg x0 x1 i h) a) (congrArg₂ Ideal.div word_one
    (congrArg₂ (fun a b : EReal => a * b) ((congrArg _ (eq_ix3 _)).trans (v31_apply x0 x1 h i 0)) ((congrArg _ (eq_ix3 _)).trans (v31_apply x0 x1 h i 0))))

theorem v53_apply (h : Fin 4) (i : Fin 8192) : val_main_v53 (F := Ideal) x0 x1 x2 (ix2 h i)
    = -(∑ a, dp x1 x2 i h a * Ideal.div 1 (den (lg x0 x1 i h) * den (lg x0 x1 i h)) * ex (lg x0 x1 i h) a) := by
  rw [val_main_v53_apply]
  refine (congrArg₂ (fun a b : EReal => a + b) word_zero (Fin.sum_univ_one _)).trans ((zero_add _).trans ?_)
  rw [val_main_v50_apply, val_main_v49_apply, val_main_v48_apply]
  refine congrArg (fun z : EReal => -z) ?_
  refine (congrArg₂ (fun a b : EReal => a + b) word_zero (Finset.sum_congr rfl fun a _ => (congrArg _ (eq_ix3 _)).trans ?_)).trans (zero_add _)
  refine Eq.trans (congrArg _ ?_) (v47_apply x0 x1 x2 h i a)
  exact funext fun e => Fin.ext (by
    match e with
    | ⟨0, _⟩ => show (h.val * 8192 + i.val) * 1 / 8192 = h.val; omega
    | ⟨1, _⟩ => show (h.val * 8192 + i.val) * 1 % 8192 = i.val; omega
    | ⟨2, _⟩ => rfl)

theorem v58_apply (hs : ∀ i h a, ∃ r : ℝ, lg x0 x1 i h a = r) (h : Fin 4) (i : Fin 8192) (a : Fin 256) :
    val_main_v58 (F := Ideal) x0 x1 x2 (ix3 h i a) = ds (lg x0 x1 i h) (dp x1 x2 i h) a * sc := by
  rw [val_main_v58_apply, val_main_v56_apply, v29_apply, val_main_v55_apply, val_main_v52_apply, v42_apply, val_main_v51_apply, val_main_v54_apply, val_main_v57_apply, val_main_cst_12_apply]
  refine congrArg₂ (fun a b : EReal => a * b) ?_ word_sc
  refine Eq.trans (congrArg (fun z : EReal => z * ex (lg x0 x1 i h) a) (congrArg₂ (fun a b : EReal => a + b)
    (congrArg (Ideal.div (dp x1 x2 i h a)) ((congrArg _ (eq_ix3 _)).trans (v31_apply x0 x1 h i 0))) ((congrArg _ (eq_ix2 _)).trans (v53_apply x0 x1 x2 h i)))) ?_
  exact ds_eq (lg x0 x1 i h) (dp x1 x2 i h) (by norm_num) (hs i h) a

theorem dq_ref (hs : ∀ i h a, ∃ r : ℝ, lg x0 x1 i h a = r) (h : Fin 4) (i : Fin 8192) (d : Fin 256) :
    val_main_v61 (F := Ideal) x0 x1 x2 (ix3 h i d) = (∑ a : Fin 256, ds (lg x0 x1 i h) (dp x1 x2 i h) a * kR x1 a h d) * sc := by
  rw [val_main_v61_apply]
  unfold sc
  rw [sum_mul_real (by norm_num)]
  refine Finset.sum_congr rfl fun a _ => ?_
  refine (congrArg₂ (fun a b : EReal => a * b) ((congrArg _ (eq_ix3 _)).trans (v58_apply x0 x1 x2 hs h i a)) ((congrArg _ (eq_ix3 _)).trans (v4_apply x1 a h d))).trans ?_
  exact mul_right_comm _ _ _

theorem dk_ref (hs : ∀ i h a, ∃ r : ℝ, lg x0 x1 i h a = r) (h : Fin 4) (a d : Fin 256) :
    val_main_v59 (F := Ideal) x0 x1 x2 (ix3 h a d) = ∑ i : Fin 8192, ds (lg x0 x1 i h) (dp x1 x2 i h) a * (qR x0 i h d * sc) := by
  rw [val_main_v59_apply]
  refine Finset.sum_congr rfl fun i _ => ?_
  refine (congrArg₂ (fun a b : EReal => a * b) ((congrArg _ (eq_ix3 _)).trans (v58_apply x0 x1 x2 hs h i a)) ((congrArg _ (eq_ix3 _)).trans (v1_apply x0 i h d))).trans ?_
  exact (mul_assoc _ _ _).trans (congrArg _ (mul_comm _ _))

theorem dv_ref (h : Fin 4) (d a : Fin 256) :
    val_main_v43 (F := Ideal) x0 x1 x2 (ix3 h d a) = ∑ i : Fin 8192, prob (lg x0 x1 i h) a * oR x2 i h d := by
  rw [val_main_v43_apply]
  refine Finset.sum_congr rfl fun i _ => ?_
  exact (congrArg₂ (fun a b : EReal => a * b) ((congrArg _ (eq_ix3 _)).trans (v41_apply x2 h d i)) ((congrArg _ (eq_ix3 _)).trans (v33_apply x0 x1 h i a))).trans (mul_comm _ _)

/-- The queries' gradient, as the reference's result. -/
theorem v67_apply (hs : ∀ i h a, ∃ r : ℝ, lg x0 x1 i h a = r) (i : Fin 8192) (j : Fin 1024) :
    val_main_v67 (F := Ideal) x0 x1 x2 (ix2 i j) = (∑ a : Fin 256, ds (lg x0 x1 i (hd j.val)) (dp x1 x2 i (hd j.val)) a * kR x1 a (hd j.val) (ps j.val)) * sc := by
  rw [val_main_v67_apply, val_main_v66_apply, val_main_v62_apply]
  refine Eq.trans (congrArg (val_main_v61 (F := Ideal) x0 x1 x2) (funext fun e => Fin.ext ?_)) (dq_ref x0 x1 x2 hs (hd j.val) i (ps j.val))
  match e with
  | ⟨0, _⟩ => show (i.val * 1024 + j.val) / 256 % 4 = j.val / 256 % 4; omega
  | ⟨1, _⟩ => show (i.val * 1024 + j.val) / 1024 = i.val; omega
  | ⟨2, _⟩ => show (i.val * 1024 + j.val) % 256 = j.val % 256; omega

theorem v64_apply (hs : ∀ i h a, ∃ r : ℝ, lg x0 x1 i h a = r) (a : Fin 256) (j : Fin 1024) :
    val_main_v64 (F := Ideal) x0 x1 x2 (ix2 a j) = ∑ i : Fin 8192, ds (lg x0 x1 i (hd j.val)) (dp x1 x2 i (hd j.val)) a * (qR x0 i (hd j.val) (ps j.val) * sc) := by
  rw [val_main_v64_apply, val_main_v60_apply]
  refine Eq.trans (congrArg (val_main_v59 (F := Ideal) x0 x1 x2) (funext fun e => Fin.ext ?_)) (dk_ref x0 x1 x2 hs (hd j.val) a (ps j.val))
  match e with
  | ⟨0, _⟩ => show (a.val * 1024 + j.val) / 256 % 4 = j.val / 256 % 4; omega
  | ⟨1, _⟩ => show (a.val * 1024 + j.val) / 1024 = a.val; omega
  | ⟨2, _⟩ => show (a.val * 1024 + j.val) % 256 = j.val % 256; omega

theorem v63_apply (a : Fin 256) (j : Fin 1024) :
    val_main_v63 (F := Ideal) x0 x1 x2 (ix2 a j) = ∑ i : Fin 8192, prob (lg x0 x1 i (hd j.val)) a * oR x2 i (hd j.val) (ps j.val) := by
  rw [val_main_v63_apply, val_main_v44_apply]
  refine Eq.trans (congrArg (val_main_v43 (F := Ideal) x0 x1 x2) (funext fun e => Fin.ext ?_)) (dv_ref x0 x1 x2 (hd j.val) (ps j.val) a)
  match e with
  | ⟨0, _⟩ => show (a.val * 1024 + j.val) / 256 % 4 = j.val / 256 % 4; omega
  | ⟨1, _⟩ => show (a.val * 1024 + j.val) % 256 = j.val % 256; omega
  | ⟨2, _⟩ => show (a.val * 1024 + j.val) / 1024 = a.val; omega

/-- The keys' and values' gradient, as the reference's result. -/
theorem v65_apply (hs : ∀ i h a, ∃ r : ℝ, lg x0 x1 i h a = r) (a : Fin 256) (j : Fin 2048) :
    val_main_v65 (F := Ideal) x0 x1 x2 (ix2 a j) = ∑ i : Fin 8192, if j.val < 1024 then
        ds (lg x0 x1 i (hd j.val)) (dp x1 x2 i (hd j.val)) a * (qR x0 i (hd j.val) (ps j.val) * sc)
      else prob (lg x0 x1 i (hd j.val)) a * oR x2 i (hd j.val) (ps j.val) := by
  unfold val_main_v65
  refine (sideBySide_apply (b := 1024) (c := 1024) (hd := rfl) _ _ _ a j).trans ?_
  by_cases hj : j.val < 1024
  · rw [dif_pos hj]; simp only [if_pos hj]; exact v64_apply x0 x1 x2 hs a ⟨j.val, hj⟩
  · rw [dif_neg hj]; simp only [if_neg hj]
    refine (v63_apply x0 x1 x2 a ⟨j.val - 1024, by omega⟩).trans ?_
    rw [show hd (j.val - 1024) = hd j.val from Fin.ext (by show (j.val - 1024) / 256 % 4 = j.val / 256 % 4; omega),
      show ps (j.val - 1024) = ps j.val from Fin.ext (by show (j.val - 1024) % 256 = j.val % 256; omega)]

/-- The logits are real where the queries and keys are. -/
theorem lg_real [hP : Cert.Pre_finite_queries_and_keys.Facts] (h : Cert.Pre_finite_queries_and_keys.fn (F := Ideal) x0 x1 x2 = fun _ => 1#1) (i : Fin 8192) (hh : Fin 4) (a : Fin 256) :
    ∃ r : ℝ, lg x0 x1 i hh a = r := by
  have h1 := congrFun h (Shape.Idx.first (s := Cert.Pre_finite_queries_and_keys.S_) (by decide))
  dsimp only [Cert.Pre_finite_queries_and_keys.fn] at h1
  obtain ⟨hq, hk⟩ := IntOp.andi_eq_one.1 h1
  haveI : Subsingleton Cert.Pre_finite_queries_and_keys.S_.Idx := ⟨fun a b => funext fun e => e.elim0⟩
  refine Cert.Finite.real_sum _ fun d => Cert.Finite.real_mul (Cert.Finite.real_mul ?_ ⟨_, rfl⟩) ?_
  · refine Cert.Finite.real_of_olt _ (Eq.trans (congrArg (fun z => FloatOps.cmpf (F := Ideal) (φ := .f32) .olt (FloatOps.hostAbsf (F := Ideal) (φ := .f32) z) _) ?_) (Host.reduce_andi_all _ _ _ _ _ hq (ix2 i ⟨hh.val * 256 + d.val, by omega⟩)))
    exact (cols_apply (a := 8192) (b := 9232) (c := 1024) (o := 5136) x0 _ i ⟨hh.val * 256 + d.val, by omega⟩ (by show 5136 + (hh.val * 256 + d.val) < 9232; omega)).symm
  · refine Cert.Finite.real_of_olt _ (Eq.trans (congrArg (fun z => FloatOps.cmpf (F := Ideal) (φ := .f32) .olt (FloatOps.hostAbsf (F := Ideal) (φ := .f32) z) _) ?_) (Host.reduce_andi_all _ _ _ _ _ hk (ix2 a ⟨hh.val * 256 + d.val, by omega⟩)))
    refine Eq.trans ?_ (cols_apply (a := 256) (b := 2048) (c := 1024) (o := 0) x1 _ a ⟨hh.val * 256 + d.val, by omega⟩ (by show 0 + (hh.val * 256 + d.val) < 2048; omega)).symm
    exact congrArg (fun z : Fin 2048 => x1 (ix2 a z)) (Fin.ext (Nat.zero_add _).symm)

/-- The memory attention's gradient call computes the derivative of the reference, where the queries and keys are real. -/
theorem algebraic : Cert.algebraic_MemAttnIdeal_MemAttnRefIdeal_pre_finite_queries_and_keys (hMemAttnIdeal := Cert.MemAttnIdeal.Gen.facts)
    (hMemAttnRefIdeal := Cert.MemAttnRefIdeal.Gen.facts) (hPre_finite_queries_and_keys := Cert.Pre_finite_queries_and_keys.Gen.facts) := by
  intro m ρ m' ρ' hpre hag
  refine ⟨fun c => val_main_v67 (F := Ideal) (m ((c.tc : Thread Cert.MemAttnIdeal.nD Cert.MemAttnIdeal.τ).loc Cert.MemAttnIdeal.main_arg0))
      (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2)),
    fun c => val_main_v65 (F := Ideal) (m ((c.tc : Thread Cert.MemAttnIdeal.nD Cert.MemAttnIdeal.τ).loc Cert.MemAttnIdeal.main_arg0))
      (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2)), ?_, ?_⟩
  · refine (θ_run _ _ _).mono (fun r h c => ⟨(h c).1.trans ((Cert.MemAttnIdeal.Hand.final4 m c).trans (funext fun z => ?_)),
      (h c).2.1.trans ((Cert.MemAttnIdeal.Hand.final5 m c).trans (funext fun z => ?_)), (h c).2.2⟩) (Cert.MemAttnIdeal.Value.run_blocks m ρ)
    · obtain ⟨i, j, rfl⟩ : ∃ (i : Fin 8192) (j : Fin 1024), z = ix2 i j := ⟨z 0, z 1, eq_ix2 z⟩
      exact (v67_apply _ _ _ (lg_real _ _ _ (hpre c)) i j).symm
    · obtain ⟨a, j, rfl⟩ : ∃ (a : Fin 256) (j : Fin 2048), z = ix2 a j := ⟨z 0, z 1, eq_ix2 z⟩
      exact (v65_apply _ _ _ (lg_real _ _ _ (hpre c)) a j).symm
  · refine (θ_run _ _ _).mono (fun r h c => ⟨(h c).1.trans ?_, (h c).2.1.trans ?_, (h c).2.2⟩) (Cert.MemAttnRefIdeal.Value.run m' ρ')
    · refine (val_main_v67_eq ..).trans ?_
      rw [(hag c).1, (hag c).2.1, (hag c).2.2]
    · refine (val_main_v65_eq ..).trans ?_
      rw [(hag c).1, (hag c).2.1, (hag c).2.2]

/-- The reference leaves its arguments alone. -/
theorem frame_ref : Cert.quiescent_MemAttnRefIdeal (hMemAttnRefIdeal := Cert.MemAttnRefIdeal.Gen.facts) := fun m ρ _ =>
  (θ_run Cert.MemAttnRefIdeal.defs _ _).mono (fun r h => ⟨fun c => (h c).2.2, sem_eq_zero_of_no_sems (by decide) r.2⟩)
    (Cert.MemAttnRefIdeal.Value.run (F := Ideal) m ρ)

end Cert.MemAttnClaims

end
-- ==== Proof.CumsumPay.lean ====
/-
  The reverse running sum's payloads at an index: a block's suffix sums plus the carried sum, and the carried sum itself.
-/
module

public import proofs.«01_k».proof.Proof.Gen.CumsumIdeal.Skeleton
public import proofs.«01_k».proof.Proof.IdxReads
public import proofs.«01_k».proof.Proof.Laws
public import Idealize.ShloMosaic.Lib.ValueIdx
public import Idealize.ShloMosaic.Lib.ValueLayout
public import Idealize.ShloMosaic.Lib.ValueLayoutCasts
public import Idealize.ShloMosaic.Lib.Pipeline.Value
public import Idealize.ShloMosaic.Lib.MatmulPlain
public import Idealize.ShloMosaic.Lib.WordCmp
public import Idealize.ShloMosaic.Lib.KernelVsHost

@[expose] public section

noncomputable section

namespace Cert.CumsumIdeal.Hand

open Cert.CumsumIdeal Cert.CumsumIdeal.Gen
open Idealize.ShloMosaic Idealize.ShloMosaic.ValueIdx
open Cert.IdxReads Cert.Laws
open scoped BigOperators

/-- The triangle of ones: row `r`, column `l` holds one where `r` is `l` or later. -/
def tri : FVec Ideal S128x128 .f32 :=
  sitofp .f32 (extui 32 (cmpi .sge (iota .tc S128x128 32 [0] iota_S128x128_d0_w32) (iota .tc S128x128 32 [1] iota_S128x128_d1_w32)) natLt_1_32)

theorem tri_apply (r l : Fin 128) : tri (ix2 r l) = if l.val ≤ r.val then (1 : EReal) else 0 := by
  unfold tri
  show ((((IntOp.cmpi .sge (iota .tc S128x128 32 [0] iota_S128x128_d0_w32 (ix2 r l)) (iota .tc S128x128 32 [1] iota_S128x128_d1_w32 (ix2 r l))).setWidth 32).toInt : ℝ) : EReal) = _
  rw [toInt_setWidth_bit, iota_single_apply, iota_single_apply]
  rw [show IntOp.cmpi .sge (BitVec.ofNat 32 ((ix2 r l : S128x128.Idx) 0).val) (BitVec.ofNat 32 ((ix2 r l : S128x128.Idx) 1).val) = BitVec.ofBool (decide (l.val ≤ r.val)) from
    WordCmp.cmpi_sge_ofNat (w := 32) (by show r.val < _; omega) (by show l.val < _; omega)]
  by_cases h : l.val ≤ r.val <;> simp [h]

theorem pay1_apply (i : Fin 16) : k0_pay1 (F := Ideal) (ix2 i 0) = (0 : EReal) := word_zero

theorem pay3_apply (acc : FVec Ideal S16x1 .f32) (x y : FVec Ideal S16x128 .f32) (i : Fin 16) (l : Fin 128) :
    k0_pay3 (F := Ideal) acc x y (ix2 i l)
      = (∑ r : Fin 128, (x (ix2 i r) + y (ix2 i r)) * (if l.val ≤ r.val then (1 : EReal) else 0)) + acc (ix2 i 0) := by
  unfold k0_pay3
  show _ + broadcastTo S16x128 acc _ (ix2 i l) = _
  rw [bcastCol_apply]
  refine congrArg (· + acc (ix2 i 0)) ?_
  refine (Ideal.matmul_plain_apply _ _ tri _ i l).trans ?_
  refine (congrArg₂ (· + ·) word_zero (Finset.sum_congr rfl fun r _ => ?_)).trans (zero_add _)
  rw [tri_apply]; rfl

theorem pay4_apply (acc : FVec Ideal S16x1 .f32) (x y : FVec Ideal S16x128 .f32) (i : Fin 16) :
    k0_pay4 (F := Ideal) acc x y (ix2 i 0) = acc (ix2 i 0) + ∑ r : Fin 128, (x (ix2 i r) + y (ix2 i r)) := by
  unfold k0_pay4
  refine congrArg (acc (ix2 i 0) + ·) ?_
  refine (shapeCast_apply _ _ _ (ix1 i) (by rw [Shape.rowMajor_val_two, Shape.rowMajor_val_one]; show i.val = i.val * 1 + 0; omega)).trans ?_
  rw [rowSum_apply]; rfl

end Cert.CumsumIdeal.Hand

end
-- ==== Proof.SuffixSum.lean ====
/-
  Suffix sums along the rows of a matrix: the host's window sum is one, and a suffix sum splits at a column.
-/
module

public import Idealize.ShloMosaic.PureOps.Ideal.Laws
public import Idealize.ShloMosaic.Lib.ValueIdx
public import Idealize.ShloMosaic.Lib.Pipeline.Value

@[expose] public section

noncomputable section

namespace Cert.SuffixSum

open Idealize.ShloMosaic Idealize.ShloMosaic.ValueIdx
open scoped BigOperators

variable {a n : Nat}

/-- Entry `q` of row `i`, zero outside the row. -/
def ent (s : Fin a → Fin n → EReal) (i : Fin a) (q : Nat) : EReal := if h : q < n then s i ⟨q, h⟩ else 0

theorem ent_of_lt (s : Fin a → Fin n → EReal) (i : Fin a) {q : Nat} (h : q < n) : ent s i q = s i ⟨q, h⟩ := dif_pos h

theorem ent_of_not_lt (s : Fin a → Fin n → EReal) (i : Fin a) {q : Nat} (h : ¬q < n) : ent s i q = 0 := dif_neg h

/-- The sum of row `i` over the columns from `lo` on, before `hi`. -/
def span (s : Fin a → Fin n → EReal) (i : Fin a) (lo hi : Nat) : EReal := ∑ q ∈ Finset.Ico lo hi, ent s i q

theorem span_append (s : Fin a → Fin n → EReal) (i : Fin a) {lo mid hi : Nat} (h1 : lo ≤ mid) (h2 : mid ≤ hi) :
    span s i lo hi = span s i lo mid + span s i mid hi := (Finset.sum_Ico_consecutive _ h1 h2).symm

theorem span_self (s : Fin a → Fin n → EReal) (i : Fin a) (lo : Nat) : span s i lo lo = 0 := by simp [span]

/-- A block of columns summed over its own positions. -/
theorem sum_block (s : Fin a → Fin n → EReal) (i : Fin a) (b w : Nat) : ∑ k : Fin w, ent s i (b + k.val) = span s i b (b + w) := by
  unfold span
  rw [Finset.sum_Ico_eq_sum_range, Nat.add_sub_cancel_left, ← Fin.sum_univ_eq_sum_range]

/-- A block summed against the indicator of the positions from `l` on. -/
theorem sum_block_from (s : Fin a → Fin n → EReal) (i : Fin a) (b w l : Nat) :
    ∑ k : Fin w, (if l ≤ k.val then ent s i (b + k.val) else 0) = span s i (b + l) (b + w) := by
  rw [Fin.sum_univ_eq_sum_range (fun k => if l ≤ k then ent s i (b + k) else 0) w, ← Finset.sum_filter]
  unfold span
  refine Finset.sum_nbij' (fun k => b + k) (fun q => q - b) ?_ ?_ ?_ ?_ ?_
  · intro k hk; simp only [Finset.mem_filter, Finset.mem_range, Finset.mem_Ico] at *; omega
  · intro k hk; simp only [Finset.mem_filter, Finset.mem_range, Finset.mem_Ico] at *; omega
  · intro k _; show b + k - b = k; omega
  · intro k hk; simp only [Finset.mem_Ico] at hk; show b + (k - b) = k; omega
  · intro k _; rfl

/-- A fold of additions is its start plus the sum of the terms. -/
theorem foldl_add {ι : Type} (f : ι → EReal) : ∀ (l : List ι) (v : EReal), l.foldl (fun r k => r + f k) v = v + (l.map f).sum
  | [], v => by simp
  | k :: l, v => by rw [List.foldl_cons, foldl_add f l, List.map_cons, List.sum_cons, add_assoc]

/-- The host's window sum whose window runs from each column to the right end of its row. -/
theorem window_apply {hi : Nat} (h : (⟨2, ![a, n]⟩ : Shape).ReduceWindows (![1, n] : Fin 2 → Nat) ![1, 1] ![0, 0] ![0, hi] ⟨2, ![a, n]⟩)
    (x : (⟨2, ![a, n]⟩ : Shape).Idx → EReal) (i : Fin a) (j : Fin n) :
    Ideal.hostReduceWindowAdd (s := ⟨2, ![a, n]⟩) ![1, n] ![1, 1] ![0, 0] ![0, hi] h x 0 (ix2 i j)
      = span (fun r c => x (ix2 r c)) i j.val n := by
  unfold Ideal.hostReduceWindowAdd Host.reduceWindow
  dsimp only
  rw [foldl_add, zero_add, ← Fin.sum_univ_def]
  refine (Finset.sum_congr rfl (g := fun p => ent (fun r c => x (ix2 r c)) i
    (j.val + ((⟨2, ![1, n]⟩ : Shape).rowMajor.symm p ⟨1, Nat.one_lt_two⟩).val)) fun p _ => ?_).trans ?_
  · let w : (⟨2, ![1, n]⟩ : Shape).Idx := (⟨2, ![1, n]⟩ : Shape).rowMajor.symm p
    show _ = ent (fun r c => x (ix2 r c)) i (j.val + (w ⟨1, Nat.one_lt_two⟩).val)
    have h0 : (w ⟨0, Nat.two_pos⟩).val < 1 := (w ⟨0, Nat.two_pos⟩).isLt
    by_cases hk : j.val + (w ⟨1, Nat.one_lt_two⟩).val < n
    · rw [dif_pos (fun d => by
        match d with
        | ⟨0, _⟩ => exact ⟨Nat.zero_le _, by show i.val * 1 + (w ⟨0, Nat.two_pos⟩).val - 0 < a; omega⟩
        | ⟨1, _⟩ => exact ⟨Nat.zero_le _, by show j.val * 1 + (w ⟨1, Nat.one_lt_two⟩).val - 0 < n; omega⟩), ent_of_lt _ _ hk]
      refine congrArg x (funext fun d => ?_)
      match d with
      | ⟨0, _⟩ => exact Fin.ext (by show i.val * 1 + (w ⟨0, Nat.two_pos⟩).val - 0 = i.val; omega)
      | ⟨1, _⟩ => exact Fin.ext (by show j.val * 1 + (w ⟨1, Nat.one_lt_two⟩).val - 0 = j.val + (w ⟨1, Nat.one_lt_two⟩).val; omega)
    · rw [dif_neg (fun hin => hk (by
        have h1 : j.val * 1 + (w ⟨1, Nat.one_lt_two⟩).val - 0 < n := (hin ⟨1, Nat.one_lt_two⟩).2
        omega))]
      exact (ent_of_not_lt _ _ hk).symm
  refine (Equiv.sum_comp (⟨2, ![1, n]⟩ : Shape).rowMajor.symm
    (fun w => ent (fun r c => x (ix2 r c)) i (j.val + (w ⟨1, Nat.one_lt_two⟩).val))).trans ?_
  let e : (⟨2, ![1, n]⟩ : Shape).Idx ≃ Fin n :=
    ⟨fun w => w 1, fun k => ix2 0 k, fun w => by
      funext d; match d with
      | ⟨0, _⟩ => exact Subsingleton.elim (α := Fin 1) _ _
      | ⟨1, _⟩ => rfl, fun k => rfl⟩
  refine (Equiv.sum_comp e.symm _).symm.trans ?_
  show ∑ k : Fin n, ent (fun r c => x (ix2 r c)) i (j.val + k.val) = _
  rw [sum_block, span_append _ _ (show j.val ≤ n by omega) (show n ≤ j.val + n by omega)]
  refine (congrArg _ (Finset.sum_eq_zero fun q hq => ?_)).trans (add_zero _)
  exact ent_of_not_lt _ _ (by simp only [Finset.mem_Ico] at hq; omega)

end Cert.SuffixSum

end
-- ==== Proof.CumsumValue.lean ====
/-
  What the reverse running sum's call leaves: each row's suffix sums of the two cotangents' sum.
-/
module

public import proofs.«01_k».proof.Proof.Gen.CumsumIdeal.Value
public import proofs.«01_k».proof.Proof.CumsumPay
public import proofs.«01_k».proof.Proof.SuffixSum
public import Idealize.ShloMosaic.Lib.Pipeline.CanonAppend
public import Idealize.ShloMosaic.Lib.Pipeline.ValueKit.Point

@[expose] public section

noncomputable section

namespace Cert.CumsumIdeal.Hand

open Cert.CumsumIdeal Cert.CumsumIdeal.Gen Cert.CumsumIdeal.Value
open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2)
open Cert.SuffixSum
open scoped BigOperators

/-- The trips read and write the blocks of columns from the last to the first. -/
theorem off_eq : ∀ k : Fin k0_t1_loop.trips, k0_off1 k = ![0, (63 - k.val) * 128] := by decide +kernel

theorem trips_eq : k0_t1_loop.trips = 64 := by decide +kernel

/-- A block of columns read at an index. -/
theorem ld_block (k : Fin k0_t1_loop.trips) (inb : ∀ d, k0_off1 k d + S16x128.size d ≤ S16x8192.size d) (X : FVec Ideal S16x8192 .f32)
    (i : Fin 16) (l : Fin 128) (h : (63 - k.val) * 128 + l.val < 8192) :
    View.ld (Val := Elt Ideal) (e' := .f32) X (Rect.unit (s := S16x8192) (k0_off1 k) S16x128.size inb) (ix2 i l) = X (ix2 i ⟨(63 - k.val) * 128 + l.val, h⟩) := by
  refine congrArg X (funext fun d => Fin.ext ?_)
  match d with
  | ⟨0, _⟩ => show k0_off1 k 0 + 1 * i.val = i.val; rw [off_eq]; show 0 + 1 * i.val = i.val; omega
  | ⟨1, _⟩ => show k0_off1 k 1 + 1 * l.val = (63 - k.val) * 128 + l.val; rw [off_eq]; show (63 - k.val) * 128 + 1 * l.val = _; omega

variable (c : Dev nD) (a0 : Memref sig .tc .vmem S16x8192 .f32) (h0 : a0.IsWhole) (a1 : Memref sig .tc .vmem S16x8192 .f32) (h1 : a1.IsWhole)
  (a2 : Memref sig .tc .vmem S16x8192 .f32) (h2 : a2.IsWhole) (x y : FVec Ideal S16x8192 .f32)

/-- The two cotangents' sum. -/
def dsum (i : Fin 16) (j : Fin 8192) : EReal := x (ix2 i j) + y (ix2 i j)

/-- The state before trip `n`. -/
def st (n : Nat) : FVec Ideal S16x1 .f32 × List (View.Piece (Elt Ideal) S16x8192 .f32) :=
  st_k0_t1 (F := Ideal) Variants.none c none a0 h0 a1 h1 a2 h2 (h0.unread x) (h1.unread y) k0_pay1 n

/-- A trip's entries of the two blocks added up. -/
theorem ent_block (k : Fin k0_t1_loop.trips) (inb : ∀ d, k0_off1 k d + S16x128.size d ≤ S16x8192.size d) (i : Fin 16) (r : Fin 128) :
    (show EReal from View.ld (Val := Elt Ideal) (e' := .f32) x (Rect.unit (s := S16x8192) (k0_off1 k) S16x128.size inb) (ix2 i r)) + (show EReal from View.ld (Val := Elt Ideal) (e' := .f32) y (Rect.unit (s := S16x8192) (k0_off1 k) S16x128.size inb) (ix2 i r))
      = ent (dsum x y) i ((63 - k.val) * 128 + r.val) := by
  have hk : k.val < 64 := Nat.lt_of_lt_of_eq k.isLt trips_eq
  have h : (63 - k.val) * 128 + r.val < 8192 := by omega
  rw [ld_block k inb x i r h, ld_block k inb y i r h, ent_of_lt _ _ h]; rfl

/-- The next state's carried sum. -/
theorem st_succ_fst (k : Fin k0_t1_loop.trips) (i : Fin 16) :
    (st c a0 h0 a1 h1 a2 h2 x y (k.val + 1)).1 (ix2 i 0)
      = (st c a0 h0 a1 h1 a2 h2 x y k.val).1 (ix2 i 0) + span (dsum x y) i ((63 - k.val) * 128) ((63 - k.val) * 128 + 128) := by
  unfold st
  rw [st_k0_t1_succ]
  dsimp only
  unfold tripR_k0_t1 trip_k0_t1
  dsimp only
  rw [View.readAt_eq_ld, View.readAt_eq_ld, Memref.IsWhole.read_unread, Memref.IsWhole.read_unread, pay4_apply]
  refine congrArg _ ((Finset.sum_congr rfl fun r _ => ent_block x y k _ i r).trans (sum_block _ _ _ _))

/-- The carried sum before trip `n` is the sum of the last `n` blocks. -/
theorem st_fst (i : Fin 16) : ∀ n : Nat, n ≤ 64 → (st c a0 h0 a1 h1 a2 h2 x y n).1 (ix2 i 0) = span (dsum x y) i ((64 - n) * 128) 8192
  | 0, _ => (pay1_apply i).trans (span_self _ _ _).symm
  | n + 1, hn => by
    have hk : n < k0_t1_loop.trips := by rw [trips_eq]; omega
    rw [st_succ_fst c a0 h0 a1 h1 a2 h2 x y ⟨n, hk⟩ i, st_fst i n (by omega), add_comm]
    dsimp only
    rw [show (63 - n) * 128 + 128 = (64 - n) * 128 by omega, show 64 - (n + 1) = 63 - n by omega]
    exact (span_append _ _ (by omega) (by omega)).symm

/-- The next state's pieces: one block of columns in front. -/
theorem st_succ_snd (k : Fin k0_t1_loop.trips) : ∃ (inb : ∀ d, k0_off1 k d + S16x128.size d ≤ S16x8192.size d),
    (st c a0 h0 a1 h1 a2 h2 x y (k.val + 1)).2
      = ⟨Rect.unit (s := S16x8192) (k0_off1 k) S16x128.size inb, k0_pay3 (F := Ideal) (st c a0 h0 a1 h1 a2 h2 x y k.val).1
          (View.ld x (Rect.unit (s := S16x8192) (k0_off1 k) S16x128.size inb)) (View.ld y (Rect.unit (s := S16x8192) (k0_off1 k) S16x128.size inb))⟩
        :: (st c a0 h0 a1 h1 a2 h2 x y k.val).2 := by
  refine ⟨facts.k0_off1_inb k, ?_⟩
  unfold st
  rw [st_k0_t1_succ]
  dsimp only
  unfold tripL_k0_t1 trip_k0_t1
  dsimp only
  rw [View.readAt_eq_ld, View.readAt_eq_ld, Memref.IsWhole.read_unread, Memref.IsWhole.read_unread]
  rfl

/-- The suffix sums of the rows. -/
def suf : FVec Ideal S16x8192 .f32 := fun z => span (dsum x y) (z 0) (z 1).val 8192

/-- Every piece written holds suffix sums. -/
theorem pieces : ∀ n : Nat, n ≤ 64 → ∀ p ∈ (st c a0 h0 a1 h1 a2 h2 x y n).2, ∀ z : p.1.shape.Idx, p.2 z = suf x y (p.1.emb z)
  | 0, _ => fun p hp => absurd hp (List.not_mem_nil)
  | n + 1, hn => by
    have hk : n < k0_t1_loop.trips := by rw [trips_eq]; omega
    obtain ⟨inb, e⟩ := st_succ_snd c a0 h0 a1 h1 a2 h2 x y ⟨n, hk⟩
    rw [e]
    intro p hp
    rcases List.mem_cons.mp hp with rfl | hp
    · intro z
      obtain ⟨i, l, rfl⟩ : ∃ (i : Fin 16) (l : Fin 128), z = ix2 i l := ⟨z 0, z 1, eq_ix2 z⟩
      show k0_pay3 (F := Ideal) _ _ _ (ix2 i l) = _
      rw [pay3_apply, st_fst c a0 h0 a1 h1 a2 h2 x y i n (by omega)]
      have e1 : ((Rect.unit (s := S16x8192) (k0_off1 ⟨n, hk⟩) S16x128.size inb).emb (ix2 i l)) = ix2 i ⟨(63 - n) * 128 + l.val, by omega⟩ := by
        funext d; refine Fin.ext ?_
        match d with
        | ⟨0, _⟩ => show k0_off1 ⟨n, hk⟩ 0 + 1 * i.val = i.val; rw [off_eq]; show 0 + 1 * i.val = i.val; omega
        | ⟨1, _⟩ => show k0_off1 ⟨n, hk⟩ 1 + 1 * l.val = (63 - n) * 128 + l.val; rw [off_eq]; show (63 - n) * 128 + 1 * l.val = _; omega
      refine Eq.trans ?_ (congrArg (suf x y) e1).symm
      show _ = span (dsum x y) i ((63 - n) * 128 + l.val) 8192
      rw [span_append (dsum x y) i (lo := (63 - n) * 128 + l.val) (mid := (63 - n) * 128 + 128) (by omega) (by omega), ← sum_block_from]
      rw [show (63 - n) * 128 + 128 = (64 - n) * 128 by omega]
      refine congrArg (· + _) (Finset.sum_congr rfl fun r _ => ?_)
      have hb := ent_block x y ⟨n, hk⟩ inb i r
      dsimp only at hb
      rw [hb]
      split_ifs
      · exact mul_one _
      · exact mul_zero _
    · exact pieces n (by omega) p hp

/-- The pieces written before trip `n` cover the last `n` blocks of columns. -/
theorem covers (z : S16x8192.Idx) : ∀ n : Nat, n ≤ 64 → (64 - n) * 128 ≤ (z 1).val → ∃ p ∈ (st c a0 h0 a1 h1 a2 h2 x y n).2, z ∈ p.1.set
  | 0, _, hz => by have : (z 1).val < 8192 := (z 1).isLt; omega
  | n + 1, hn, hz => by
    have hk : n < k0_t1_loop.trips := by rw [trips_eq]; omega
    obtain ⟨inb, e⟩ := st_succ_snd c a0 h0 a1 h1 a2 h2 x y ⟨n, hk⟩
    rw [e]
    by_cases hlt : (64 - n) * 128 ≤ (z 1).val
    · obtain ⟨p, hp, hm⟩ := covers z n (by omega) hlt
      exact ⟨p, List.mem_cons_of_mem _ hp, hm⟩
    · refine ⟨_, List.mem_cons_self, ?_⟩
      show z ∈ (Rect.unit (s := S16x8192) (k0_off1 ⟨n, hk⟩) S16x128.size inb).set
      refine Rect.mem_set_unit.mpr fun d => ?_
      rw [off_eq]
      match d with
      | ⟨0, _⟩ => exact ⟨Nat.zero_le _, by show (z 0).val < 0 + 16; have : (z 0).val < 16 := (z 0).isLt; omega⟩
      | ⟨1, _⟩ => exact ⟨by show (63 - n) * 128 ≤ (z 1).val; omega, by show (z 1).val < (63 - n) * 128 + 128; omega⟩

variable (m : (ℓ : Loc nD τ sig) → Buf (Elt Ideal) ℓ)

/-- The block the body leaves holds the suffix sums of its two input blocks' sum. -/
theorem outs_eq (t : Fin cfg0.N) : outsAt0 m c t = suf (iblk m c 0 t) (iblk m c 1 t) := by
  funext z
  unfold outsAt0
  frame_out
  have e := covers c (ms0_0 t) (hs0_0 t) (ms0_1 t) (hs0_1 t) (ms0_2 t) (hs0_2 t) (iblk m c 0 t) (iblk m c 1 t) z 64 (le_refl _) (by omega)
  have q := pieces c (ms0_0 t) (hs0_0 t) (ms0_1 t) (hs0_1 t) (ms0_2 t) (hs0_2 t) (iblk m c 0 t) (iblk m c 1 t) 64 (le_refl _)
  have r := View.canon_append_of_pieces (suf (iblk m c 0 t) (iblk m c 1 t)) [] _ q z e
  rw [List.append_nil] at r
  exact r

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)

def xA : FVec Ideal S16x8192 .f32 := m ((c.tc : Thread nD τ).loc main_arg0)
def yA : FVec Ideal S16x8192 .f32 := m ((c.tc : Thread nD τ).loc main_arg1)

theorem blk0 (t : Fin cfg0.N) (i : Fin 16) (j : Fin 8192) : iblk m c 0 t (ix2 i j) = xA c m (ix2 i j) := by
  blk_ext! [iblk, idx0 t, V_main_arg0]
theorem blk1 (t : Fin cfg0.N) (i : Fin 16) (j : Fin 8192) : iblk m c 1 t (ix2 i j) = yA c m (ix2 i j) := by
  blk_ext! [iblk, idx1 t, V_main_arg1]

/-- The result array: the suffix sums of the rows of the two cotangents' sum. -/
theorem final2 : (dats m 0 c).arrAt 2 cfg0.N = suf (xA c m) (yA c m) := by
  refine (dats m 0 c).arrAt_eq_of_after_last 2 ⟨0, by rw [show cfg0.N = 1 from N_0]; decide⟩ (by decide +kernel) _ fun z => ?_
  refine (congrFun (after0_2 m c _) _).trans ?_
  rw [outs_eq]
  unfold suf
  refine congrArg (fun s => span s (z 0) (z 1).val 8192) (funext fun i => funext fun j => ?_)
  exact congrArg₂ (· + ·) (blk0 c m _ i j) (blk1 c m _ i j)

end Cert.CumsumIdeal.Hand

end
-- ==== Proof.CumsumClaims.lean ====
/-
  The running sum's reference derivative at an index, and the claim.
-/
module

public import proofs.«01_k».proof.Defs
public import proofs.«01_k».proof.Proof.Gen.CumsumRefIdeal.Read
public import Idealize.ShloMosaic.Lib.Quiescent
public import proofs.«01_k».proof.Proof.CumsumValue

@[expose] public section

noncomputable section

namespace Cert.CumsumClaims

open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2)
open Cert.CumsumIdeal.Hand Cert.SuffixSum

/-- The derivative of the running sum of the logarithms, of both of its cotangents, is a suffix sum. -/
theorem ref_eq (x y : FVec Ideal Cert.CumsumRefIdeal.S16x8192 .f32) : Cert.CumsumRefIdeal.Read.val_main_v3 (F := Ideal) x y = suf x y := by
  funext z
  obtain ⟨i, j, rfl⟩ : ∃ (i : Fin 16) (j : Fin 8192), z = ix2 i j := ⟨z 0, z 1, eq_ix2 z⟩
  unfold Cert.CumsumRefIdeal.Read.val_main_v3 Host.reduceWindowAdd
  rw [Ideal.hostReduceWindowAdd_def, show Cert.CumsumRefIdeal.Read.val_main_call1_call0_v0 (F := Ideal)
    (Shape.Idx.first Cert.CumsumRefIdeal.Gen.h_S_) = (0 : EReal) from Cert.Laws.word_zero]
  exact window_apply _ _ i j

/-- The reverse running sum's call computes the derivative of the running sum. -/
theorem algebraic : Cert.algebraic_CumsumIdeal_CumsumRefIdeal (hCumsumIdeal := Cert.CumsumIdeal.Gen.facts) (hCumsumRefIdeal := Cert.CumsumRefIdeal.Gen.facts) := by
  intro m ρ m' ρ' _ hag
  refine ⟨fun c => suf (xA c m) (yA c m), ?_, ?_⟩
  · exact (θ_run _ _ _).mono (fun r h c => ⟨(h c).1.trans (final2 c m), (h c).2⟩) (Cert.CumsumIdeal.Value.run_blocks m ρ)
  · refine (θ_run _ _ _).mono (fun r h c => ⟨(h c).1.trans ?_, (h c).2⟩) (Cert.CumsumRefIdeal.Value.run m' ρ')
    rw [(hag c).1, (hag c).2]
    exact (Cert.CumsumRefIdeal.Read.val_main_v3_eq ..).trans (ref_eq _ _)

/-- The reference runs and leaves its arguments and the counters as they were. -/
theorem frame_ref : Cert.quiescent_CumsumRefIdeal (hCumsumRefIdeal := Cert.CumsumRefIdeal.Gen.facts) := fun m ρ _ =>
  (θ_run Cert.CumsumRefIdeal.defs _ _).mono (fun r h => ⟨fun c => (h c).2, sem_eq_zero_of_no_sems (by decide) r.2⟩)
    (Cert.CumsumRefIdeal.Value.run (F := Ideal) m ρ)

end Cert.CumsumClaims

end
-- ==== Proof.AttnRunBlocks.lean ====
/-
  The attention gradient's launch ends with its five results in their arrays, and its arguments as they were.
-/
module

public import proofs.«01_k».proof.Proof.AttnFrame

@[expose] public section

set_option maxRecDepth 16384

noncomputable section

namespace Cert.AttnIdeal.Hand

open Idealize.ShloMosaic Idealize.ShloMosaic.TcCoe
open Idealize.SL Idealize.SL.Sem
open Cert.AttnIdeal Cert.AttnIdeal.Gen

variable {F : FTy → Type} [FloatOps F] [Named F]
variable (m : (ℓ : Loc nD τ sig) → Buf (Elt F) ℓ) (ρ : Dev nD → PrngReg)

section
variable (r : PUnit × MemSt nD τ sig (Elt F)) (h : Pipeline.FramePost cfgs (dats m) 0 (V m) r) (c : Dev nD)
include h

theorem post7 : r.2.mem ((c : Thread nD τ).loc main_v52_0) = (dats m 0 c).arrAt 7 cfg0.N := (h c).1 7
theorem post8 : r.2.mem ((c : Thread nD τ).loc main_v52_1) = (dats m 0 c).arrAt 8 cfg0.N := (h c).1 8
theorem post9 : r.2.mem ((c : Thread nD τ).loc main_v52_2) = (dats m 0 c).arrAt 9 cfg0.N := (h c).1 9
theorem post10 : r.2.mem ((c : Thread nD τ).loc main_v52_3) = (dats m 0 c).arrAt 10 cfg0.N := (h c).1 10
theorem post11 : r.2.mem ((c : Thread nD τ).loc main_v52_4) = (dats m 0 c).arrAt 11 cfg0.N := (h c).1 11

end

/-- The five result arrays of a device. -/
structure Results (r : PUnit × MemSt nD τ sig (Elt F)) (c : Dev nD) : Prop where
  r7 : r.2.mem ((c : Thread nD τ).loc main_v52_0) = (dats m 0 c).arrAt 7 cfg0.N
  r8 : r.2.mem ((c : Thread nD τ).loc main_v52_1) = (dats m 0 c).arrAt 8 cfg0.N
  r9 : r.2.mem ((c : Thread nD τ).loc main_v52_2) = (dats m 0 c).arrAt 9 cfg0.N
  r10 : r.2.mem ((c : Thread nD τ).loc main_v52_3) = (dats m 0 c).arrAt 10 cfg0.N
  r11 : r.2.mem ((c : Thread nD τ).loc main_v52_4) = (dats m 0 c).arrAt 11 cfg0.N

theorem run_blocks : θ_run defs (onTc (τ := τ) (main (F := F))) ⟨m, fun _ => 0, ρ⟩ (fun r => ∀ c : Dev nD, Results m r c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨⟨post7 m r h.1 c, post8 m r h.1 c, post9 m r h.1 c, post10 m r h.1 c, post11 m r h.1 c⟩, h.2.1 c⟩)
    (θ_run_and (run_main m ρ) (frame m ρ))

end Cert.AttnIdeal.Hand

end
-- ==== Proof.RealMat.lean ====
/-
  Matrices of real numbers, carried through the core's operations: what a matrix operation makes of real entries.
-/
module

public import proofs.«01_k».proof.Proof.IdxReads
public import proofs.«01_k».proof.Proof.SoftmaxReads
public import proofs.«01_k».proof.Proof.Laws
public import Idealize.ShloMosaic.Lib.ValueLayout

@[expose] public section

noncomputable section

namespace Cert.RealMat

open Idealize.ShloMosaic Idealize.ShloMosaic.ValueIdx
open Cert.IdxReads Cert.Laws Cert.SoftmaxReads
open scoped BigOperators

variable {m n k : ℕ} {φ ψ : FTy}

/-- The matrix's entries are the reals of `f`. -/
def Mat {m n : ℕ} {φ : FTy} (v : FVec Ideal ⟨2, ![m, n]⟩ φ) (f : Fin m → Fin n → ℝ) : Prop :=
  ∀ r j, (v (ix2 r j) : EReal) = ((f r j : ℝ) : EReal)

/-- The row's entries, kept in three axes, are the reals of `f`. -/
def Row {n : ℕ} {φ : FTy} (v : FVec Ideal ⟨3, ![1, 1, n]⟩ φ) (f : Fin n → ℝ) : Prop :=
  ∀ j, (v (ix3 0 0 j) : EReal) = ((f j : ℝ) : EReal)

section
variable {v w : FVec Ideal ⟨2, ![m, n]⟩ φ} {f g : Fin m → Fin n → ℝ}

theorem Mat.congr (h : Mat v f) (e : ∀ r j, f r j = g r j) : Mat v g := fun r j => (h r j).trans (congrArg _ (e r j))

theorem Mat.add (h : Mat v f) (h' : Mat w g) : Mat (addf v w) fun r j => f r j + g r j := fun r j =>
  (congrArg₂ (fun a b : EReal => a + b) (h r j) (h' r j)).trans (EReal.coe_add _ _).symm

theorem Mat.sub (h : Mat v f) (h' : Mat w g) : Mat (subf v w) fun r j => f r j - g r j := fun r j =>
  (congrArg₂ (fun a b : EReal => a - b) (h r j) (h' r j)).trans (EReal.coe_sub _ _).symm

theorem Mat.mul (h : Mat v f) (h' : Mat w g) : Mat (mulf v w) fun r j => f r j * g r j := fun r j =>
  (congrArg₂ (fun a b : EReal => a * b) (h r j) (h' r j)).trans (EReal.coe_mul _ _).symm

theorem Mat.exp (h : Mat v f) : Mat (exp v) fun r j => Real.exp (f r j) := fun r j =>
  congrArg Ideal.exp (h r j)

theorem Mat.trunc (h : Mat v f) (hb : ψ.bits < φ.bits) : Mat (truncf ψ v hb) f := h

theorem Mat.ext (h : Mat v f) (hb : φ.bits < ψ.bits) : Mat (extf ψ v hb) f := h

theorem Mat.same (h : Mat v f) (hc : (⟨2, ![m, n]⟩ : Shape).ShapeCasts ⟨2, ![m, n]⟩) : Mat (shapeCast ⟨2, ![m, n]⟩ v hc) f := by
  rw [shapeCast_self]; exact h

/-- A masked matrix: its entries where the mask stands, zero elsewhere. -/
theorem Mat.sel {b : IVec ⟨2, ![m, n]⟩ 1} {p : Fin m → Fin n → Prop} [∀ r j, Decidable (p r j)]
    (hb : ∀ r j, b (ix2 r j) = if p r j then 1#1 else 0#1) (h : Mat v f) (h' : Mat w g) :
    Mat (select b v w) fun r j => if p r j then f r j else g r j := fun r j => by
  show (if b (ix2 r j) = 1#1 then v (ix2 r j) else w (ix2 r j) : EReal) = _
  rw [hb]
  by_cases hp : p r j
  · simp only [hp, if_true]; exact h r j
  · simp only [hp, if_false]; exact h' r j
end

theorem word_zero16 : Ideal.ofBits .bf16 0x0000#16 = (0 : EReal) := by simp [Ideal.ofBits, Ideal.ieee]

theorem zero32 (m n : ℕ) : Mat (φ := .f32) (broadcast ⟨2, ![m, n]⟩ (Scalar.ofBits (F := Ideal) .f32 0x00000000#32)) fun _ _ => 0 :=
  fun _ _ => word_zero

theorem zero16 (m n : ℕ) : Mat (φ := .bf16) (broadcast ⟨2, ![m, n]⟩ (Scalar.ofBits (F := Ideal) .bf16 0x0000#16)) fun _ _ => 0 :=
  fun _ _ => word_zero16

section
variable {φ₁ φ₂ : FTy}

/-- Rows of the left times rows of the right. -/
theorem Mat.nt {a : FVec Ideal ⟨2, ![m, k]⟩ φ₁} {b : FVec Ideal ⟨2, ![n, k]⟩ φ₂} {f : Fin m → Fin k → ℝ} {g : Fin n → Fin k → ℝ}
    (ha : Mat a f) (hb : Mat b g) (p : Option ContractPrecision) :
    Mat (matmul (DotDims.transposedRhs m k n) p a b (constant ⟨2, ![m, n]⟩ .f32 0x00000000#32)) fun r j => ∑ l, f r l * g j l := fun r j => by
  refine (Ideal.matmul_transposedRhs_apply _ _ _ _ r j).trans ((congrArg (· + _) word_zero).trans ((zero_add _).trans ?_))
  rw [coe_sum]
  exact Finset.sum_congr rfl fun l _ => (congrArg₂ (fun a b : EReal => a * b) (ha r l) (hb j l)).trans (EReal.coe_mul _ _).symm

/-- Rows of the left times columns of the right. -/
theorem Mat.nn {a : FVec Ideal ⟨2, ![m, k]⟩ φ₁} {b : FVec Ideal ⟨2, ![k, n]⟩ φ₂} {f : Fin m → Fin k → ℝ} {g : Fin k → Fin n → ℝ}
    (ha : Mat a f) (hb : Mat b g) (p : Option ContractPrecision) :
    Mat (matmul (DotDims.plain m k n) p a b (constant ⟨2, ![m, n]⟩ .f32 0x00000000#32)) fun r j => ∑ l, f r l * g l j := fun r j => by
  refine (Ideal.matmul_plain_apply _ _ _ _ r j).trans ((congrArg (· + _) word_zero).trans ((zero_add _).trans ?_))
  rw [coe_sum]
  exact Finset.sum_congr rfl fun l _ => (congrArg₂ (fun a b : EReal => a * b) (ha r l) (hb l j)).trans (EReal.coe_mul _ _).symm

/-- Columns of the left times columns of the right. -/
theorem Mat.tn {a : FVec Ideal ⟨2, ![k, m]⟩ φ₁} {b : FVec Ideal ⟨2, ![k, n]⟩ φ₂} {f : Fin k → Fin m → ℝ} {g : Fin k → Fin n → ℝ}
    (ha : Mat a f) (hb : Mat b g) (p : Option ContractPrecision) :
    Mat (matmul (rows m k n) p a b (constant ⟨2, ![m, n]⟩ .f32 0x00000000#32)) fun r j => ∑ l, f l r * g l j := fun r j => by
  refine (matmul_rows_apply _ _ _ _ r j).trans ((congrArg (· + _) word_zero).trans ((zero_add _).trans ?_))
  rw [coe_sum]
  exact Finset.sum_congr rfl fun l _ => (congrArg₂ (fun a b : EReal => a * b) (ha l r) (hb l j)).trans (EReal.coe_mul _ _).symm
end

section
variable {v : FVec Ideal ⟨2, ![m, n]⟩ .f32} {f : Fin m → Fin n → ℝ}

/-- The sums of the rows, as a column. -/
theorem Mat.rowSums (hv : Mat v f) (h : (⟨2, ![m, n]⟩ : Shape).Reduces [1] ⟨1, ![m]⟩) (hc : (⟨1, ![m]⟩ : Shape).ShapeCasts ⟨2, ![m, 1]⟩) :
    Mat (φ := .f32) (shapeCast ⟨2, ![m, 1]⟩ (multiReduction .add [1] ⟨1, ![m]⟩ v 0x00000000#32 h (.inl rfl) rfl) hc) fun r _ => ∑ j, f r j := fun r u => by
  rw [shapeCast_b_b1_apply, rowSum_apply, coe_sum]
  exact Finset.sum_congr rfl fun l _ => hv r l

/-- The sums of the columns, as a row. -/
theorem Mat.colSums (hv : Mat v f) (h : (⟨2, ![m, n]⟩ : Shape).Reduces [0] ⟨1, ![n]⟩) (hc : (⟨1, ![n]⟩ : Shape).ShapeCasts ⟨2, ![1, n]⟩) :
    Mat (φ := .f32) (shapeCast ⟨2, ![1, n]⟩ (multiReduction .add [0] ⟨1, ![n]⟩ v 0x00000000#32 h (.inl rfl) rfl) hc) fun _ j => ∑ r, f r j := fun u j => by
  rw [shapeCast_b_1b_apply, colSum_apply, coe_sum]
  exact Finset.sum_congr rfl fun l _ => hv l j
end

/-- A column beside itself, and a row under itself. -/
theorem Mat.bcol {v : FVec Ideal ⟨2, ![m, 1]⟩ φ} {f : Fin m → Fin 1 → ℝ} (h : Mat v f) (hb : (⟨2, ![m, 1]⟩ : Shape).Broadcasts ⟨2, ![m, n]⟩) :
    Mat (φ := φ) (broadcastTo ⟨2, ![m, n]⟩ v hb) fun r _ => f r 0 := fun r j => by
  rw [bcastCol_apply]; exact h r 0

theorem Mat.brow {v : FVec Ideal ⟨2, ![1, n]⟩ φ} {f : Fin 1 → Fin n → ℝ} (h : Mat v f) (hb : (⟨2, ![1, n]⟩ : Shape).Broadcasts ⟨2, ![m, n]⟩) :
    Mat (φ := φ) (broadcastTo ⟨2, ![m, n]⟩ v hb) fun _ j => f 0 j := fun r j => by
  rw [bcastRow_apply]; exact h 0 j

/-- A row taken out of its three axes, and put back. -/
theorem Row.mat {v : FVec Ideal ⟨3, ![1, 1, n]⟩ φ} {f : Fin n → ℝ} (h : Row v f) (hc : (⟨3, ![1, 1, n]⟩ : Shape).ShapeCasts ⟨2, ![1, n]⟩) :
    Mat (φ := φ) (shapeCast ⟨2, ![1, n]⟩ v hc) fun _ j => f j := fun u j => by
  have hu : u = 0 := Subsingleton.elim _ _
  subst hu
  exact (shapeCast_1ab_ab_apply v hc 0 j).trans (h j)

theorem Mat.row {v : FVec Ideal ⟨2, ![1, n]⟩ φ} {f : Fin 1 → Fin n → ℝ} (h : Mat v f) (hc : (⟨2, ![1, n]⟩ : Shape).ShapeCasts ⟨3, ![1, 1, n]⟩) :
    Row (φ := φ) (shapeCast ⟨3, ![1, 1, n]⟩ v hc) fun j => f 0 j := fun j =>
  (shapeCast_ab_1ab_apply v hc 0 0 j).trans (h 0 j)

end Cert.RealMat

end
-- ==== Proof.AttnStep.lean ====
/-
  One step of the attention gradient over real numbers: the probabilities and the scores' gradient of a block of queries
  against a block of keys, and the reads and writes of the rows a step touches.
-/
module

public import proofs.«01_k».proof.Proof.RealMat
public import Idealize.ShloMosaic.Lib.WritesUnit

@[expose] public section

noncomputable section

namespace Cert.AttnStep

open Idealize.ShloMosaic Idealize.ShloMosaic.ValueIdx
open Cert.RealMat Cert.SoftmaxReads
open scoped BigOperators

/-- A head's block of queries: the scaled queries and the cotangent on the head's lanes, the gate at the block's start, the
rows' log sums, and the rows' products of cotangent and output. -/
structure Blk where
  q : Fin 512 → Fin 128 → ℝ
  g : Fin 512 → Fin 128 → ℝ
  b : ℝ
  s : Fin 512 → ℝ
  d : Fin 512 → ℝ

/-- The probability of row `r` at key `j`. -/
def pr {n : ℕ} (B : Blk) (k : Fin n → Fin 128 → ℝ) (c : Fin n → ℝ) (r : Fin 512) (j : Fin n) : ℝ :=
  Real.exp ((∑ l, B.q r l * k j l) + (B.b - c j) - B.s r)

/-- The score's gradient of row `r` at key `j`. -/
def dz {n : ℕ} (B : Blk) (k v : Fin n → Fin 128 → ℝ) (c : Fin n → ℝ) (r : Fin 512) (j : Fin n) : ℝ :=
  pr B k c r j * ((∑ l, B.g r l * v j l) - B.d r)

/-- A key on a head's lanes. -/
def kh {n : ℕ} (h : ℕ) (k : Fin n → Fin 128 → ℝ) (j : Fin n) (l : Fin 128) : ℝ := if l.val / 64 = h then k j l else 0

/-- The vectors a step is handed for a head are a block's. -/
structure IsBlk (q g : FVec Ideal ⟨2, ![512, 128]⟩ .bf16) (b : FVec Ideal ⟨2, ![1, 1]⟩ .f32)
    (s d : FVec Ideal ⟨2, ![512, 1]⟩ .f32) (B : Blk) : Prop where
  q : Mat q B.q
  g : Mat g B.g
  b : Mat b fun _ _ => B.b
  s : Mat s fun r _ => B.s r
  d : Mat d fun r _ => B.d r

section
variable {n : ℕ} {q g : FVec Ideal ⟨2, ![512, 128]⟩ .bf16} {b : FVec Ideal ⟨2, ![1, 1]⟩ .f32}
  {s d : FVec Ideal ⟨2, ![512, 1]⟩ .f32} {B : Blk} {kb vb : FVec Ideal ⟨2, ![n, 128]⟩ .bf16} {cb : FVec Ideal ⟨3, ![1, 1, n]⟩ .f32}
  {k v : Fin n → Fin 128 → ℝ} {c : Fin n → ℝ}

/-- The logits without the rows' log sums. -/
theorem IsBlk.logits (hB : IsBlk q g b s d B) (hk : Mat kb k) (hc : Row cb c)
    (h1 : (⟨2, ![1, 1]⟩ : Shape).Broadcasts ⟨2, ![1, n]⟩) (h2 : (⟨3, ![1, 1, n]⟩ : Shape).ShapeCasts ⟨2, ![1, n]⟩)
    (h3 : (⟨2, ![1, n]⟩ : Shape).Broadcasts ⟨2, ![512, n]⟩) :
    Mat (φ := .f32) (addf (matmul (DotDims.transposedRhs 512 128 n) none q kb (constant ⟨2, ![512, n]⟩ .f32 0x00000000#32))
        (broadcastTo ⟨2, ![512, n]⟩ (subf (broadcastTo ⟨2, ![1, n]⟩ b h1) (shapeCast ⟨2, ![1, n]⟩ cb h2)) h3))
      fun r j => (∑ l, B.q r l * k j l) + (B.b - c j) :=
  (hB.q.nt hk none).add (((hB.b.bcol h1).sub (hc.mat h2)).brow h3)

/-- The probabilities. -/
theorem IsBlk.pr (hB : IsBlk q g b s d B) (hk : Mat kb k) (hc : Row cb c)
    (h1 : (⟨2, ![1, 1]⟩ : Shape).Broadcasts ⟨2, ![1, n]⟩) (h2 : (⟨3, ![1, 1, n]⟩ : Shape).ShapeCasts ⟨2, ![1, n]⟩)
    (h3 : (⟨2, ![1, n]⟩ : Shape).Broadcasts ⟨2, ![512, n]⟩) (h4 : (⟨2, ![512, 1]⟩ : Shape).Broadcasts ⟨2, ![512, n]⟩) :
    Mat (φ := .f32) (exp (subf (addf (matmul (DotDims.transposedRhs 512 128 n) none q kb (constant ⟨2, ![512, n]⟩ .f32 0x00000000#32))
        (broadcastTo ⟨2, ![512, n]⟩ (subf (broadcastTo ⟨2, ![1, n]⟩ b h1) (shapeCast ⟨2, ![1, n]⟩ cb h2)) h3)) (broadcastTo ⟨2, ![512, n]⟩ s h4)))
      (pr B k c) :=
  ((hB.logits hk hc h1 h2 h3).sub (hB.s.bcol h4)).exp

/-- The scores' gradient, from the probabilities. -/
theorem IsBlk.dz (hB : IsBlk q g b s d B) {p : FVec Ideal ⟨2, ![512, n]⟩ .f32} {f : Fin 512 → Fin n → ℝ} (hp : Mat p f) (hv : Mat vb v)
    (h4 : (⟨2, ![512, 1]⟩ : Shape).Broadcasts ⟨2, ![512, n]⟩) :
    Mat (φ := .f32) (mulf p (subf (matmul (DotDims.transposedRhs 512 128 n) none g vb (constant ⟨2, ![512, n]⟩ .f32 0x00000000#32))
        (broadcastTo ⟨2, ![512, n]⟩ d h4)))
      fun r j => f r j * ((∑ l, B.g r l * v j l) - B.d r) :=
  hp.mul ((hB.g.nt hv none).sub (hB.d.bcol h4))
end

/-! Rows of a buffer. -/

section
variable {sig : RefSig} {κ : Kind} {sp : Space} {e : EltTy} {Val : EltTy → Type} {N C n a : ℕ}

/-- A load of rows, at an index. -/
theorem readAt_rows (V : View sig κ sp ⟨2, ![N, C]⟩ e) (f : V.ty.Contents Val) {off : Fin 2 → ℕ} (ho : off = ![a, 0])
    (inb : ∀ d : Fin 2, off d + (![n, C] : Fin 2 → ℕ) d ≤ (![N, C] : Fin 2 → ℕ) d) (ha : a + n ≤ N) (j : Fin n) (l : Fin C) :
    V.readAt Val (Rect.unit (s := ⟨2, ![N, C]⟩) off ![n, C] inb).toLoadRect f (ix2 j l) = V.read Val f (ix2 ⟨a + j.val, by omega⟩ l) := by
  subst ho
  refine congrArg (V.read Val f) (funext fun d => Fin.ext ?_)
  match d with
  | ⟨0, _⟩ => show a + 1 * j.val = a + j.val; omega
  | ⟨1, _⟩ => show 0 + 1 * l.val = l.val; omega

/-- A load of part of a head's row, at an index. -/
theorem readAt_row (V : View sig κ sp ⟨3, ![1, 2, N]⟩ e) (f : V.ty.Contents Val) {off : Fin 3 → ℕ} (h : Fin 2) (ho : off = ![0, h.val, a])
    (inb : ∀ d : Fin 3, off d + (![1, 1, n] : Fin 3 → ℕ) d ≤ (![1, 2, N] : Fin 3 → ℕ) d) (ha : a + n ≤ N) (j : Fin n) :
    V.readAt Val (Rect.unit (s := ⟨3, ![1, 2, N]⟩) off ![1, 1, n] inb).toLoadRect f (ix3 0 0 j) = V.read Val f (ix3 0 h ⟨a + j.val, by omega⟩) := by
  subst ho
  refine congrArg (V.read Val f) (funext fun d => Fin.ext ?_)
  match d with
  | ⟨0, _⟩ => show 0 + 1 * 0 = 0; omega
  | ⟨1, _⟩ => show h.val + 1 * 0 = h.val; omega
  | ⟨2, _⟩ => show a + 1 * j.val = a + j.val; omega
end

section
variable {sig : RefSig} {κ : Kind} {sp : Space} {N C n a : ℕ}

/-- Two rows of a buffer, by head. -/
def Pair {N : ℕ} (v : FVec Ideal ⟨3, ![1, 2, N]⟩ .f32) (f : Fin 2 → Fin N → ℝ) : Prop :=
  ∀ h j, (v (ix3 0 h j) : EReal) = ((f h j : ℝ) : EReal)

/-- Rows added to a buffer. -/
theorem rows_added (V : View sig κ sp ⟨2, ![N, C]⟩ .f32) (f : V.ty.Contents (Elt Ideal)) {off : Fin 2 → ℕ} (ho : off = ![a, 0])
    (inb : ∀ d : Fin 2, off d + (![n, C] : Fin 2 → ℕ) d ≤ (![N, C] : Fin 2 → ℕ) d) (w : FVec Ideal ⟨2, ![n, C]⟩ .f32) (ha : a + n ≤ N)
    {D P : Fin N → Fin C → ℝ} (hD : Mat (φ := .f32) (V.read (Elt Ideal) f) D)
    (hw : Mat w fun j l => D ⟨a + j.val, by omega⟩ l + P ⟨a + j.val, by omega⟩ l) :
    Mat (φ := .f32) (V.read (Elt Ideal) (V.writes (Elt Ideal) f [(⟨Rect.unit (s := ⟨2, ![N, C]⟩) off ![n, C] inb, w⟩ : View.Piece (Elt Ideal) ⟨2, ![N, C]⟩ .f32)]))
      fun k l => D k l + if a ≤ k.val ∧ k.val < a + n then P k l else 0 := fun k l => by
  rw [View.read_writes_cons_unit V f inb w [] (ix2 k l) ho]
  beta_reduce
  by_cases hk : a ≤ k.val ∧ k.val < a + n
  · have hin : ∀ d : Fin 2, (![a, 0] : Fin 2 → ℕ) d ≤ ((ix2 k l : (⟨2, ![N, C]⟩ : Shape).Idx) d).val
        ∧ ((ix2 k l : (⟨2, ![N, C]⟩ : Shape).Idx) d).val < (![a, 0] : Fin 2 → ℕ) d + (![n, C] : Fin 2 → ℕ) d := by
      intro d
      match d with
      | ⟨0, _⟩ => exact hk
      | ⟨1, _⟩ => exact ⟨Nat.zero_le _, by show l.val < 0 + C; omega⟩
    rw [dif_pos hin, if_pos hk]
    have e : (Rect.unitLocal (s := ⟨2, ![N, C]⟩) (off := ![a, 0]) (size := ![n, C]) (ix2 k l) hin) = (ix2 (⟨k.val - a, by omega⟩ : Fin n) l : (⟨2, ![n, C]⟩ : Shape).Idx) := by
      funext d
      match d with
      | ⟨0, _⟩ => exact Fin.ext rfl
      | ⟨1, _⟩ => exact Fin.ext (by show l.val - 0 = l.val; omega)
    refine (congrArg w e).trans ((hw _ _).trans ?_)
    have ek : (⟨a + (k.val - a), by omega⟩ : Fin N) = k := Fin.ext (by show a + (k.val - a) = k.val; omega)
    exact congrArg (fun z : Fin N => ((D z l + P z l : ℝ) : EReal)) ek
  · have hout : ¬ ∀ d : Fin 2, (![a, 0] : Fin 2 → ℕ) d ≤ ((ix2 k l : (⟨2, ![N, C]⟩ : Shape).Idx) d).val
        ∧ ((ix2 k l : (⟨2, ![N, C]⟩ : Shape).Idx) d).val < (![a, 0] : Fin 2 → ℕ) d + (![n, C] : Fin 2 → ℕ) d := fun h => hk (h 0)
    rw [dif_neg hout, if_neg hk, add_zero]
    exact hD k l

/-- Part of a head's row set, the rest kept. -/
theorem row_set (V : View sig κ sp ⟨3, ![1, 2, N]⟩ .f32) (f : V.ty.Contents (Elt Ideal)) {off : Fin 3 → ℕ} (h : Fin 2) (ho : off = ![0, h.val, a])
    (inb : ∀ d : Fin 3, off d + (![1, 1, n] : Fin 3 → ℕ) d ≤ (![1, 2, N] : Fin 3 → ℕ) d) (w : FVec Ideal ⟨3, ![1, 1, n]⟩ .f32)
    (L : List (View.Piece (Elt Ideal) ⟨3, ![1, 2, N]⟩ .f32)) (ha : a + n ≤ N) {D S : Fin 2 → Fin N → ℝ}
    (hD : Pair (V.read (Elt Ideal) (V.writes (Elt Ideal) f L)) D)
    (hw : Row w fun j => S h ⟨a + j.val, by omega⟩) :
    Pair (V.read (Elt Ideal) (V.writes (Elt Ideal) f ((⟨Rect.unit (s := ⟨3, ![1, 2, N]⟩) off ![1, 1, n] inb, w⟩ : View.Piece (Elt Ideal) ⟨3, ![1, 2, N]⟩ .f32) :: L)))
      fun h' k => if h' = h ∧ a ≤ k.val ∧ k.val < a + n then S h' k else D h' k := fun h' k => by
  rw [View.read_writes_cons_unit V f inb w L (ix3 0 h' k) ho]
  beta_reduce
  by_cases hk : h' = h ∧ a ≤ k.val ∧ k.val < a + n
  · obtain ⟨rfl, hk⟩ := hk
    have hin : ∀ d : Fin 3, (![0, h'.val, a] : Fin 3 → ℕ) d ≤ ((ix3 0 h' k : (⟨3, ![1, 2, N]⟩ : Shape).Idx) d).val
        ∧ ((ix3 0 h' k : (⟨3, ![1, 2, N]⟩ : Shape).Idx) d).val < (![0, h'.val, a] : Fin 3 → ℕ) d + (![1, 1, n] : Fin 3 → ℕ) d := by
      intro d
      match d with
      | ⟨0, _⟩ => exact ⟨Nat.zero_le _, Nat.zero_lt_one⟩
      | ⟨1, _⟩ => exact ⟨Nat.le_refl _, Nat.lt_succ_self _⟩
      | ⟨2, _⟩ => exact hk
    rw [dif_pos hin, if_pos ⟨rfl, hk⟩]
    have e : (Rect.unitLocal (s := ⟨3, ![1, 2, N]⟩) (off := ![0, h'.val, a]) (size := ![1, 1, n]) (ix3 0 h' k) hin) = (ix3 0 0 (⟨k.val - a, by omega⟩ : Fin n) : (⟨3, ![1, 1, n]⟩ : Shape).Idx) := by
      funext d
      match d with
      | ⟨0, _⟩ => exact Fin.ext rfl
      | ⟨1, _⟩ => exact Fin.ext (by show h'.val - h'.val = 0; omega)
      | ⟨2, _⟩ => exact Fin.ext rfl
    refine (congrArg w e).trans ((hw _).trans ?_)
    have ek : (⟨a + (k.val - a), by omega⟩ : Fin N) = k := Fin.ext (by show a + (k.val - a) = k.val; omega)
    exact congrArg (fun z : Fin N => ((S h' z : ℝ) : EReal)) ek
  · have hout : ¬ ∀ d : Fin 3, (![0, h.val, a] : Fin 3 → ℕ) d ≤ ((ix3 0 h' k : (⟨3, ![1, 2, N]⟩ : Shape).Idx) d).val
        ∧ ((ix3 0 h' k : (⟨3, ![1, 2, N]⟩ : Shape).Idx) d).val < (![0, h.val, a] : Fin 3 → ℕ) d + (![1, 1, n] : Fin 3 → ℕ) d := fun H => by
      have h1 : h.val ≤ h'.val ∧ h'.val < h.val + 1 := H 1
      exact hk ⟨Fin.ext (by omega), H 2⟩
    rw [dif_neg hout, if_neg hk]
    exact hD h' k

/-- Both heads' rows lowered over a stretch of keys. -/
theorem rows_lowered (V : View sig κ sp ⟨3, ![1, 2, N]⟩ .f32) (f : V.ty.Contents (Elt Ideal)) {off0 off1 : Fin 3 → ℕ} (ho0 : off0 = ![0, 0, a]) (ho1 : off1 = ![0, 1, a])
    (inb0 : ∀ d : Fin 3, off0 d + (![1, 1, n] : Fin 3 → ℕ) d ≤ (![1, 2, N] : Fin 3 → ℕ) d)
    (inb1 : ∀ d : Fin 3, off1 d + (![1, 1, n] : Fin 3 → ℕ) d ≤ (![1, 2, N] : Fin 3 → ℕ) d) (w0 w1 : FVec Ideal ⟨3, ![1, 1, n]⟩ .f32) (ha : a + n ≤ N)
    {D S : Fin 2 → Fin N → ℝ} (hD : Pair (V.read (Elt Ideal) f) D)
    (hw0 : Row w0 fun j => D 0 ⟨a + j.val, by omega⟩ - S 0 ⟨a + j.val, by omega⟩)
    (hw1 : Row w1 fun j => D 1 ⟨a + j.val, by omega⟩ - S 1 ⟨a + j.val, by omega⟩) :
    Pair (V.read (Elt Ideal) (V.writes (Elt Ideal) f [(⟨Rect.unit (s := ⟨3, ![1, 2, N]⟩) off1 ![1, 1, n] inb1, w1⟩ : View.Piece (Elt Ideal) ⟨3, ![1, 2, N]⟩ .f32), ⟨Rect.unit (s := ⟨3, ![1, 2, N]⟩) off0 ![1, 1, n] inb0, w0⟩]))
      fun h k => D h k - if a ≤ k.val ∧ k.val < a + n then S h k else 0 := fun h k => by
  refine (row_set V f 1 ho1 inb1 w1 _ ha (S := fun h k => D h k - S h k) (row_set V f 0 ho0 inb0 w0 [] ha (S := fun h k => D h k - S h k) hD hw0) hw1 h k).trans (congrArg _ ?_)
  match h with
  | ⟨0, _⟩ =>
    by_cases hk : a ≤ k.val ∧ k.val < a + n
    · simp [hk]
    · simp [hk]
  | ⟨1, _⟩ =>
    by_cases hk : a ≤ k.val ∧ k.val < a + n
    · simp [hk]
    · simp [hk]
end

/-! Keys covered so far. -/

/-- The sum over the first `N` keys. -/
def upto (N : ℕ) (f : Fin 8192 → ℝ) : ℝ := ∑ k, if k.val < N then f k else 0

theorem upto_zero (f : Fin 8192 → ℝ) : upto 0 f = 0 := by simp [upto]

theorem upto_add {a n : ℕ} (ha : a + n ≤ 8192) (f : Fin 8192 → ℝ) : upto (a + n) f = upto a f + ∑ j : Fin n, f ⟨a + j.val, by omega⟩ := by
  have h : ∀ N (hN : N ≤ 8192), upto N f = ∑ k ∈ Finset.range N, if h : k < 8192 then f ⟨k, h⟩ else 0 := by
    intro N hN
    rw [upto, Finset.sum_fin_eq_sum_range, ← Finset.sum_filter_add_sum_filter_not (Finset.range 8192) (· < N)]
    rw [Finset.sum_eq_zero (s := Finset.filter (fun x => ¬ x < N) _) (fun x hx => by
      have := (Finset.mem_filter.mp hx).2
      by_cases h : x < 8192 <;> simp [h, this]), add_zero]
    refine Finset.sum_congr (Finset.ext fun x => by simp; omega) fun x hx => ?_
    have hx' : x < N := (Finset.mem_range.mp hx)
    simp [hx', (show x < 8192 by omega)]
  rw [h _ ha, h _ (by omega), Finset.sum_range_add, Finset.sum_fin_eq_sum_range]
  refine congrArg _ (Finset.sum_congr rfl fun x hx => ?_)
  have hx' : x < n := Finset.mem_range.mp hx
  simp [hx', (show a + x < 8192 by omega)]

theorem upto_all (f : Fin 8192 → ℝ) : upto 8192 f = ∑ k, f k := Finset.sum_congr rfl fun k _ => if_pos k.isLt

theorem lt_add_iff {a n k : ℕ} (x : ℝ) : (if k < a then x else 0) + (if a ≤ k ∧ k < a + n then x else 0) = if k < a + n then x else 0 := by
  by_cases h1 : k < a
  · simp [h1, (show ¬ a ≤ k by omega), (show k < a + n by omega)]
  · by_cases h2 : k < a + n
    · simp [h1, h2, (show a ≤ k by omega)]
    · simp [h1, h2]

/-! What a step adds, whatever its probabilities. -/

section
variable {n : ℕ} {z0 z1 : FVec Ideal ⟨2, ![512, n]⟩ .f32} {f0 f1 : Fin 512 → Fin n → ℝ}

/-- The queries' derivative. -/
theorem acc_step {acc : FVec Ideal ⟨2, ![512, 128]⟩ .f32} {A : Fin 512 → Fin 128 → ℝ} (hA : Mat acc A) (h0 : Mat z0 f0) (h1 : Mat z1 f1)
    {kb : FVec Ideal ⟨2, ![n, 128]⟩ .bf16} {k : Fin n → Fin 128 → ℝ} (hk : Mat kb k) {m0 m1 : IVec ⟨2, ![n, 128]⟩ 1}
    (hm0 : ∀ r l, m0 (ix2 r l) = if l.val / 64 = 0 then 1#1 else 0#1) (hm1 : ∀ r l, m1 (ix2 r l) = if l.val / 64 = 1 then 1#1 else 0#1)
    (hb : FTy.bf16.bits < FTy.f32.bits) :
    Mat (addf (addf acc (matmul (DotDims.plain 512 n 128) none (truncf .bf16 z0 hb)
          (select m0 kb (broadcast ⟨2, ![n, 128]⟩ (Scalar.ofBits (F := Ideal) .bf16 0x0000#16))) (constant ⟨2, ![512, 128]⟩ .f32 0x00000000#32)))
        (matmul (DotDims.plain 512 n 128) none (truncf .bf16 z1 hb)
          (select m1 kb (broadcast ⟨2, ![n, 128]⟩ (Scalar.ofBits (F := Ideal) .bf16 0x0000#16))) (constant ⟨2, ![512, 128]⟩ .f32 0x00000000#32)))
      fun r l => A r l + (∑ j, f0 r j * kh 0 k j l) + ∑ j, f1 r j * kh 1 k j l :=
  (hA.add ((h0.trunc hb).nn (Mat.sel hm0 hk (zero16 _ _)) none)).add ((h1.trunc hb).nn (Mat.sel hm1 hk (zero16 _ _)) none)

/-- The row sums. -/
theorem sum_step {r0 : FVec Ideal ⟨2, ![512, 1]⟩ .f32} {A : Fin 512 → Fin 1 → ℝ} (hA : Mat r0 A) (h0 : Mat z0 f0)
    (h : (⟨2, ![512, n]⟩ : Shape).Reduces [1] ⟨1, ![512]⟩) (hc : (⟨1, ![512]⟩ : Shape).ShapeCasts ⟨2, ![512, 1]⟩) :
    Mat (addf r0 (shapeCast ⟨2, ![512, 1]⟩ (multiReduction .add [1] ⟨1, ![512]⟩ z0 0x00000000#32 h (.inl rfl) rfl) hc))
      fun r u => A r u + ∑ j, f0 r j :=
  hA.add (h0.rowSums h hc)

/-- The keys' derivative, and the values' with the probabilities for the scores' gradient. -/
theorem key_step {prev zero : FVec Ideal ⟨2, ![n, 128]⟩ .f32} {D : Fin n → Fin 128 → ℝ} (hD : Mat prev D) (hz : Mat zero fun _ _ => 0)
    (h0 : Mat z0 f0) (h1 : Mat z1 f1) {q0 q1 : FVec Ideal ⟨2, ![512, 128]⟩ .bf16} {g0 g1 : Fin 512 → Fin 128 → ℝ} (hq0 : Mat q0 g0) (hq1 : Mat q1 g1)
    (hb : FTy.bf16.bits < FTy.f32.bits) (hc : (⟨2, ![n, 128]⟩ : Shape).ShapeCasts ⟨2, ![n, 128]⟩) :
    Mat (φ := .f32) (shapeCast ⟨2, ![n, 128]⟩ (addf prev (addf (addf zero (matmul (rows n 512 128) none (truncf .bf16 z0 hb) q0 (constant ⟨2, ![n, 128]⟩ .f32 0x00000000#32)))
        (matmul (rows n 512 128) none (truncf .bf16 z1 hb) q1 (constant ⟨2, ![n, 128]⟩ .f32 0x00000000#32)))) hc)
      fun j l => D j l + ((∑ r, f0 r j * g0 r l) + ∑ r, f1 r j * g1 r l) :=
  ((hD.add ((hz.add ((h0.trunc hb).tn hq0 none)).add ((h1.trunc hb).tn hq1 none))).same hc).congr fun j l => by rw [zero_add]

/-- A head's row of gate derivatives. -/
theorem gate_step {prev : FVec Ideal ⟨3, ![1, 1, n]⟩ .f32} {D : Fin n → ℝ} (hD : Row prev D) (h0 : Mat z0 f0)
    (h : (⟨2, ![512, n]⟩ : Shape).Reduces [0] ⟨1, ![n]⟩) (hc : (⟨1, ![n]⟩ : Shape).ShapeCasts ⟨2, ![1, n]⟩)
    (h1 : (⟨3, ![1, 1, n]⟩ : Shape).ShapeCasts ⟨2, ![1, n]⟩) (h2 : (⟨2, ![1, n]⟩ : Shape).ShapeCasts ⟨3, ![1, 1, n]⟩) :
    Row (φ := .f32) (shapeCast ⟨3, ![1, 1, n]⟩ (subf (shapeCast ⟨2, ![1, n]⟩ prev h1)
        (shapeCast ⟨2, ![1, n]⟩ (multiReduction .add [0] ⟨1, ![n]⟩ z0 0x00000000#32 h (.inl rfl) rfl) hc)) h2)
      fun j => D j - ∑ r, f0 r j :=
  ((hD.mat h1).sub (h0.colSums h hc)).row h2
end

/-! The masks of a head's lanes. -/

/-- The lane's head against `h`, as the kernel finds it. -/
def laneMask {s : Shape} (I : IVec s 32) (h : BitVec 32) : IVec s 1 :=
  cmpi .eq (select (andi (cmpi .ne (subi (extui 32 (cmpi .sgt I (broadcast s 0#32)) (by decide)) (extui 32 (cmpi .slt I (broadcast s 0#32)) (by decide)))
      (broadcast s (Scalar.subi (Scalar.extui (Scalar.cmpi .sgt 64#32 0#32)) (Scalar.extui (Scalar.cmpi .slt 64#32 0#32)))))
      (cmpi .ne (remsi I (broadcast s 64#32)) (broadcast s 0#32)))
    (subi (divsi I (broadcast s 64#32)) (broadcast s 1#32)) (divsi I (broadcast s 64#32))) (broadcast s h)

theorem laneMask_apply {n : ℕ} (h : Fin 2) (hi : (⟨2, ![n, 128]⟩ : Shape).Iotas .tc 32 [1]) (r : Fin n) (l : Fin 128) :
    laneMask (iota .tc ⟨2, ![n, 128]⟩ 32 [1] hi) (BitVec.ofNat 32 h.val) (ix2 r l) = if l.val / 64 = h.val then 1#1 else 0#1 := by
  have e : iota .tc ⟨2, ![n, 128]⟩ 32 [1] hi (ix2 r l) = BitVec.ofNat 32 l.val := iota_single_apply _ _ _ _ _ _
  have g : ∀ x : BitVec 32, iota .tc ⟨2, ![n, 128]⟩ 32 [1] hi (ix2 r l) = x →
      laneMask (iota .tc ⟨2, ![n, 128]⟩ 32 [1] hi) (BitVec.ofNat 32 h.val) (ix2 r l)
        = laneMask (s := ⟨0, ![]⟩) (fun _ => x) (BitVec.ofNat 32 h.val) (fun a => a.elim0) := fun x hx => by subst hx; rfl
  rw [g _ e]
  clear e g
  revert l h
  decide +kernel

end Cert.AttnStep

end
-- ==== Proof.AttnTrips.lean ====
/-
  A trip of the attention gradient's loops over real numbers: it adds its block of keys to what is covered.
-/
module

public import proofs.«01_k».proof.Proof.AttnLoops
public import proofs.«01_k».proof.Proof.AttnStep

@[expose] public section

set_option maxRecDepth 16384
set_option maxHeartbeats 4000000

noncomputable section

namespace Cert.AttnIdeal.Hand

open Idealize.ShloMosaic Idealize.ShloMosaic.TcCoe Idealize.ShloMosaic.ValueIdx
open Idealize.SL.Sem
open Cert.AttnIdeal.Gen Cert.RealMat Cert.AttnStep Cert.SoftmaxReads
open scoped BigOperators

/-- What a query block's steps have made of the carried value and the three buffers once the first `N` keys are covered:
`Z` are the scores' gradients, `P` the probabilities, and `c k v` what the buffers held before the block. -/
structure Covered (B : Fin 2 → Blk) (K : Fin 8192 → Fin 128 → ℝ) (Z P : Fin 2 → Fin 512 → Fin 8192 → ℝ) (c : Fin 2 → Fin 8192 → ℝ)
    (k v : Fin 8192 → Fin 128 → ℝ) (N : ℕ) (acc : Carried Ideal) (d12 : Vec Ideal S1x2x8192 .f32) (d14 d15 : Vec Ideal S8192x128 .f32) : Prop where
  dq : Mat (φ := .f32) acc.1 fun r l => upto N (fun j => Z 0 r j * kh 0 K j l) + upto N (fun j => Z 1 r j * kh 1 K j l)
  r0 : Mat (φ := .f32) acc.2.1 fun r _ => upto N (Z 0 r)
  r1 : Mat (φ := .f32) acc.2.2 fun r _ => upto N (Z 1 r)
  dc : Pair d12 fun h j => c h j - if j.val < N then ∑ r, Z h r j else 0
  dk : Mat (φ := .f32) d14 fun j l => k j l + if j.val < N then (∑ r, Z 0 r j * (B 0).q r l) + ∑ r, Z 1 r j * (B 1).q r l else 0
  dv : Mat (φ := .f32) d15 fun j l => v j l + if j.val < N then (∑ r, P 0 r j * (B 0).g r l) + ∑ r, P 1 r j * (B 1).g r l else 0

/-- Covering `n` more keys, from what a step adds. -/
theorem Covered.more {B : Fin 2 → Blk} {K : Fin 8192 → Fin 128 → ℝ} {Z P : Fin 2 → Fin 512 → Fin 8192 → ℝ} {c : Fin 2 → Fin 8192 → ℝ}
    {k v : Fin 8192 → Fin 128 → ℝ} {a n : ℕ} (ha : a + n ≤ 8192) {acc : Carried Ideal} {d12 : Vec Ideal S1x2x8192 .f32} {d14 d15 : Vec Ideal S8192x128 .f32}
    (hacc : Mat (φ := .f32) acc.1 fun r l => (upto a (fun j => Z 0 r j * kh 0 K j l) + upto a (fun j => Z 1 r j * kh 1 K j l))
      + (∑ j : Fin n, Z 0 r ⟨a + j.val, by omega⟩ * kh 0 K ⟨a + j.val, by omega⟩ l) + ∑ j : Fin n, Z 1 r ⟨a + j.val, by omega⟩ * kh 1 K ⟨a + j.val, by omega⟩ l)
    (hr0 : Mat (φ := .f32) acc.2.1 fun r _ => upto a (Z 0 r) + ∑ j : Fin n, Z 0 r ⟨a + j.val, by omega⟩)
    (hr1 : Mat (φ := .f32) acc.2.2 fun r _ => upto a (Z 1 r) + ∑ j : Fin n, Z 1 r ⟨a + j.val, by omega⟩)
    (hdc : Pair d12 fun h j => (c h j - if j.val < a then ∑ r, Z h r j else 0) - if a ≤ j.val ∧ j.val < a + n then ∑ r, Z h r j else 0)
    (hdk : Mat (φ := .f32) d14 fun j l => (k j l + if j.val < a then (∑ r, Z 0 r j * (B 0).q r l) + ∑ r, Z 1 r j * (B 1).q r l else 0)
      + if a ≤ j.val ∧ j.val < a + n then (∑ r, Z 0 r j * (B 0).q r l) + ∑ r, Z 1 r j * (B 1).q r l else 0)
    (hdv : Mat (φ := .f32) d15 fun j l => (v j l + if j.val < a then (∑ r, P 0 r j * (B 0).g r l) + ∑ r, P 1 r j * (B 1).g r l else 0)
      + if a ≤ j.val ∧ j.val < a + n then (∑ r, P 0 r j * (B 0).g r l) + ∑ r, P 1 r j * (B 1).g r l else 0) :
    Covered B K Z P c k v (a + n) acc d12 d14 d15 where
  dq := hacc.congr fun r l => by rw [upto_add ha, upto_add ha]; ring
  r0 := hr0.congr fun r _ => (upto_add ha _).symm
  r1 := hr1.congr fun r _ => (upto_add ha _).symm
  dc := fun h j => (hdc h j).trans (congrArg _ (by beta_reduce; rw [← lt_add_iff]; ring))
  dk := hdk.congr fun j l => by rw [← lt_add_iff]; ring
  dv := hdv.congr fun j l => by rw [← lt_add_iff]; ring

variable (𝒱 : Variants) (c : Dev nD) (bd : Option 𝒱.V) (i : grid0.Coords)
  (a2 : Memref sig .tc .vmem S512x128 .bf16) (w2 : a2.IsWhole)
  (a3 : Memref sig .tc .vmem S8192x128 .bf16) (w3 : a3.IsWhole)
  (a4 : Memref sig .tc .vmem S8192x128 .bf16) (w4 : a4.IsWhole)
  (a5 : Memref sig .tc .vmem S512x128 .bf16) (w5 : a5.IsWhole)
  (a6 : Memref sig .tc .vmem S512x128 .f32) (w6 : a6.IsWhole)
  (a7 : Memref sig .tc .vmem S2x512x1 .f32) (w7 : a7.IsWhole)
  (a8 : Memref sig .tc .vmem S1x2x8192 .f32) (w8 : a8.IsWhole)
  (a9 : Memref sig .tc .vmem S512x128 .bf16) (w9 : a9.IsWhole)
  (a10 : Memref sig .tc .vmem S8192x128 .bf16) (w10 : a10.IsWhole)
  (a11 : Memref sig .tc .vmem S8192x128 .bf16) (w11 : a11.IsWhole)
  (a12 : Memref sig .tc .vmem S1x2x8192 .f32) (w12 : a12.IsWhole)
  (a13 : Memref sig .tc .vmem S1x2x512 .f32) (w13 : a13.IsWhole)
  (a14 : Memref sig .tc .vmem S8192x128 .f32) (w14 : a14.IsWhole)
  (a15 : Memref sig .tc .vmem S8192x128 .f32) (w15 : a15.IsWhole)

section Wide

variable (v8 : FVec Ideal S512x128 .bf16) (v38 : IVec S512x128 1) (v65 : IVec S512x128 1) (v67 : FVec Ideal S512x128 .bf16) (v69 : FVec Ideal S512x128 .bf16) (v71 : FVec Ideal S512x128 .bf16) (v73 : FVec Ideal S512x128 .bf16) (v79 : FVec Ideal S1x1 .f32) (v80 : FVec Ideal S1x1 .f32) (v82 : FVec Ideal S512x1 .f32) (v83 : Vec Ideal S1x512x1 .f32) (v86 : Vec Ideal S512x128 .f32)

/-- A wide trip covers the next 1024 keys. -/
theorem trip1_covered (X3 : Held Ideal a3) (X4 : Held Ideal a4) (X8 : Held Ideal a8) (k : Fin (k0_t1_loop i).trips)
    {B : Fin 2 → Blk} {K V : Fin 8192 → Fin 128 → ℝ} {C : Fin 2 → Fin 8192 → ℝ} {Z P : Fin 2 → Fin 512 → Fin 8192 → ℝ} {c0 : Fin 2 → Fin 8192 → ℝ}
    {k0 v0 : Fin 8192 → Fin 128 → ℝ}
    (h3 : Mat (φ := .bf16) (a3.view.read (Elt Ideal) X3) K) (h4 : Mat (φ := .bf16) (a4.view.read (Elt Ideal) X4) V)
    (h8 : Pair (a8.view.read (Elt Ideal) X8) C)
    (hB0 : IsBlk v67 v71 v79 v82 (k0_pay112 v8 v38 v86) (B 0)) (hB1 : IsBlk v69 v73 v80 (k0_pay110 v83) (k0_pay113 v8 v65 v86) (B 1))
    (hN : 1024 * k.val + 1024 ≤ 8192)
    (hP : ∀ h r (j : Fin 1024), pr (B h) K (C h) r ⟨1024 * k.val + j.val, by omega⟩ = P h r ⟨1024 * k.val + j.val, by omega⟩)
    (hZ : ∀ h r (j : Fin 1024), dz (B h) K V (C h) r ⟨1024 * k.val + j.val, by omega⟩ = Z h r ⟨1024 * k.val + j.val, by omega⟩)
    (s : Handed Ideal a12 a14 a15)
    (hs : Covered B K Z P c0 k0 v0 (1024 * k.val) s.1 (a12.view.read (Elt Ideal) s.2.1) (a14.view.read (Elt Ideal) s.2.2.1) (a15.view.read (Elt Ideal) s.2.2.2)) :
    let t := trip1 (F := Ideal) 𝒱 c bd i a2 w2 a3 w3 a4 w4 a5 w5 a6 w6 a7 w7 a8 w8 a9 w9 a10 w10 a11 w11 a12 w12 a13 w13 a14 w14 a15 w15 v8 v38 v65 v67 v69 v71 v73 v79 v80 v82 v83 v86 X3 X4 X8 k
    Covered B K Z P c0 k0 v0 (1024 * k.val + 1024) (t.1 s.1) (a12.view.read (Elt Ideal) (a12.view.writes (Elt Ideal) s.2.1 (t.2.1 s.2.1)))
      (a14.view.read (Elt Ideal) (a14.view.writes (Elt Ideal) s.2.2.1 (t.2.2.1 s.2.2.1)))
      (a15.view.read (Elt Ideal) (a15.view.writes (Elt Ideal) s.2.2.2 (t.2.2.2.1 s.2.2.2))) := by
  have hk : k.val < 8 := Nat.lt_of_lt_of_le k.isLt (Nat.le_trans (k0_t1_abs i).2.1 (by decide))
  have gK : Mat (φ := .bf16) (a3.view.readAt (Elt Ideal) (Rect.unit (s := S8192x128) (k0_off2 i k) ![1024, 128] (by rw [off2_eq]; intro d; fin_cases d <;> simp <;> omega)).toLoadRect X3) (fun (j : Fin 1024) l => K ⟨1024 * k.val + j.val, by omega⟩ l) :=
    fun j l => (readAt_rows a3.view X3 (off2_eq i k) _ hN j l).trans (h3 _ _)
  have gV : Mat (φ := .bf16) (a4.view.readAt (Elt Ideal) (Rect.unit (s := S8192x128) (k0_off2 i k) ![1024, 128] (by rw [off2_eq]; intro d; fin_cases d <;> simp <;> omega)).toLoadRect X4) (fun (j : Fin 1024) l => V ⟨1024 * k.val + j.val, by omega⟩ l) :=
    fun j l => (readAt_rows a4.view X4 (off2_eq i k) _ hN j l).trans (h4 _ _)
  have gC0 : Row (φ := .f32) (a8.view.readAt (Elt Ideal) (Rect.unit (s := S1x2x8192) (k0_off3 i k) ![1, 1, 1024] (by rw [off3_eq]; intro d; fin_cases d <;> simp <;> omega)).toLoadRect X8) (fun j : Fin 1024 => C 0 ⟨1024 * k.val + j.val, by omega⟩) :=
    fun j => (readAt_row a8.view X8 0 (off3_eq i k) _ hN j).trans (h8 _ _)
  have gC1 : Row (φ := .f32) (a8.view.readAt (Elt Ideal) (Rect.unit (s := S1x2x8192) (k0_off4 i k) ![1, 1, 1024] (by rw [off4_eq]; intro d; fin_cases d <;> simp <;> omega)).toLoadRect X8) (fun j : Fin 1024 => C 1 ⟨1024 * k.val + j.val, by omega⟩) :=
    fun j => (readAt_row a8.view X8 1 (off4_eq i k) _ hN j).trans (h8 _ _)
  have sK := gK.same shapeCasts_S1024x128_S1024x128
  have sV := gV.same shapeCasts_S1024x128_S1024x128
  have p0 := (hB0.pr sK gC0 broadcasts_S1x1_S1x1024 shapeCasts_S1x1x1024_S1x1024 broadcasts_S1x1024_S512x1024 broadcasts_S512x1_S512x1024).congr (hP 0)
  have p1 := (hB1.pr sK gC1 broadcasts_S1x1_S1x1024 shapeCasts_S1x1x1024_S1x1024 broadcasts_S1x1024_S512x1024 broadcasts_S512x1_S512x1024).congr (hP 1)
  have z0 := (hB0.dz (hB0.pr sK gC0 broadcasts_S1x1_S1x1024 shapeCasts_S1x1x1024_S1x1024 broadcasts_S1x1024_S512x1024 broadcasts_S512x1_S512x1024) sV broadcasts_S512x1_S512x1024).congr (hZ 0)
  have z1 := (hB1.dz (hB1.pr sK gC1 broadcasts_S1x1_S1x1024 shapeCasts_S1x1x1024_S1x1024 broadcasts_S1x1024_S512x1024 broadcasts_S512x1_S512x1024) sV broadcasts_S512x1_S512x1024).congr (hZ 1)
  have g12 : ∀ h (off : Fin 3 → ℕ) (ho : off = ![0, h.val, 1024 * k.val]) (inb : ∀ d : Fin 3, off d + (![1, 1, 1024] : Fin 3 → ℕ) d ≤ (![1, 2, 8192] : Fin 3 → ℕ) d),
      Row (φ := .f32) (a12.view.readAt (Elt Ideal) (Rect.unit (s := S1x2x8192) off ![1, 1, 1024] inb).toLoadRect s.2.1)
        (fun j : Fin 1024 => c0 h ⟨1024 * k.val + j.val, by omega⟩ - if ((1024 * k.val + j.val : ℕ)) < 1024 * k.val then ∑ r, Z h r ⟨1024 * k.val + j.val, by omega⟩ else 0) :=
    fun h off ho inb j => (readAt_row a12.view s.2.1 h ho inb hN j).trans (hs.dc _ _)
  have g14 : Mat (φ := .f32) (a14.view.readAt (Elt Ideal) (Rect.unit (s := S8192x128) (k0_off2 i k) ![1024, 128] (by rw [off2_eq]; intro d; fin_cases d <;> simp <;> omega)).toLoadRect s.2.2.1) _ :=
    fun j l => (readAt_rows a14.view s.2.2.1 (off2_eq i k) _ hN j l).trans (hs.dk _ _)
  have g15 : Mat (φ := .f32) (a15.view.readAt (Elt Ideal) (Rect.unit (s := S8192x128) (k0_off2 i k) ![1024, 128] (by rw [off2_eq]; intro d; fin_cases d <;> simp <;> omega)).toLoadRect s.2.2.2) _ :=
    fun j l => (readAt_rows a15.view s.2.2.2 (off2_eq i k) _ hN j l).trans (hs.dv _ _)
  have m0 := fun r l => laneMask_apply 0 iota_S1024x128_d1_w32 r l
  have m1 := fun r l => laneMask_apply 1 iota_S1024x128_d1_w32 r l
  unfold trip1
  dsimp only
  refine Covered.more hN ?_ ?_ ?_ ?_ ?_ ?_
  · exact acc_step hs.dq z0 z1 sK m0 m1 bitsLt_bf16_f32
  · exact sum_step hs.r0 z0 reduces_S512x1024_S512 shapeCasts_S512_S512x1
  · exact sum_step hs.r1 z1 reduces_S512x1024_S512 shapeCasts_S512_S512x1
  · exact rows_lowered a12.view s.2.1 (off3_eq i k) (off4_eq i k) _ _ _ _ hN hs.dc
      (gate_step (g12 0 _ (off3_eq i k) _) z0 reduces_S512x1024_S1024 shapeCasts_S1024_S1x1024 shapeCasts_S1x1x1024_S1x1024 shapeCasts_S1x1024_S1x1x1024)
      (gate_step (g12 1 _ (off4_eq i k) _) z1 reduces_S512x1024_S1024 shapeCasts_S1024_S1x1024 shapeCasts_S1x1x1024_S1x1024 shapeCasts_S1x1024_S1x1x1024)
  · exact rows_added a14.view s.2.2.1 (off2_eq i k) _ _ hN hs.dk
      (key_step g14 (zero32 _ _) z0 z1 hB0.q hB1.q bitsLt_bf16_f32 shapeCasts_S1024x128_S1024x128)
  · exact rows_added a15.view s.2.2.2 (off2_eq i k) _ _ hN hs.dv
      (key_step g15 (zero32 _ _) p0 p1 hB0.g hB1.g bitsLt_bf16_f32 shapeCasts_S1024x128_S1024x128)

end Wide

section Single

variable (v67 : FVec Ideal S512x128 .bf16) (v69 : FVec Ideal S512x128 .bf16) (v71 : FVec Ideal S512x128 .bf16) (v73 : FVec Ideal S512x128 .bf16) (v79 : FVec Ideal S1x1 .f32) (v80 : FVec Ideal S1x1 .f32) (v82 : FVec Ideal S512x1 .f32) (v84 : FVec Ideal S512x1 .f32) (v92 : FVec Ideal S512x1 .f32) (v96 : FVec Ideal S512x1 .f32) (v121_0 : FVec Ideal S512x128 .f32) (v121_1 : FVec Ideal S512x1 .f32) (v121_2 : FVec Ideal S512x1 .f32) (v123 : BitVec 32)

/-- A single trip covers the next 512 keys. -/
theorem trip3_covered (X3 : Held Ideal a3) (X4 : Held Ideal a4) (X8 : Held Ideal a8) (k : Fin (k0_t3_loop i).trips)
    {B : Fin 2 → Blk} {K V : Fin 8192 → Fin 128 → ℝ} {C : Fin 2 → Fin 8192 → ℝ} {Z P : Fin 2 → Fin 512 → Fin 8192 → ℝ} {c0 : Fin 2 → Fin 8192 → ℝ}
    {k0 v0 : Fin 8192 → Fin 128 → ℝ}
    (h3 : Mat (φ := .bf16) (a3.view.read (Elt Ideal) X3) K) (h4 : Mat (φ := .bf16) (a4.view.read (Elt Ideal) X4) V)
    (h8 : Pair (a8.view.read (Elt Ideal) X8) C)
    (hB0 : IsBlk v67 v71 v79 v82 v92 (B 0)) (hB1 : IsBlk v69 v73 v80 v84 v96 (B 1))
    (hN : (1024 * ((i 1).val / 2) + 512 * k.val) + 512 ≤ 8192)
    (hP : ∀ h r (j : Fin 512), pr (B h) K (C h) r ⟨(1024 * ((i 1).val / 2) + 512 * k.val) + j.val, by omega⟩ = P h r ⟨(1024 * ((i 1).val / 2) + 512 * k.val) + j.val, by omega⟩)
    (hZ : ∀ h r (j : Fin 512), dz (B h) K V (C h) r ⟨(1024 * ((i 1).val / 2) + 512 * k.val) + j.val, by omega⟩ = Z h r ⟨(1024 * ((i 1).val / 2) + 512 * k.val) + j.val, by omega⟩)
    (s : Handed Ideal a12 a14 a15)
    (hs : Covered B K Z P c0 k0 v0 ((1024 * ((i 1).val / 2) + 512 * k.val)) s.1 (a12.view.read (Elt Ideal) s.2.1) (a14.view.read (Elt Ideal) s.2.2.1) (a15.view.read (Elt Ideal) s.2.2.2)) :
    let t := trip3 (F := Ideal) 𝒱 c bd i a2 w2 a3 w3 a4 w4 a5 w5 a6 w6 a7 w7 a8 w8 a9 w9 a10 w10 a11 w11 a12 w12 a13 w13 a14 w14 a15 w15 v67 v69 v71 v73 v79 v80 v82 v84 v92 v96 v121_0 v121_1 v121_2 v123 X3 X4 X8 k
    Covered B K Z P c0 k0 v0 ((1024 * ((i 1).val / 2) + 512 * k.val) + 512) (t.1 s.1) (a12.view.read (Elt Ideal) (a12.view.writes (Elt Ideal) s.2.1 (t.2.1 s.2.1)))
      (a14.view.read (Elt Ideal) (a14.view.writes (Elt Ideal) s.2.2.1 (t.2.2.1 s.2.2.1)))
      (a15.view.read (Elt Ideal) (a15.view.writes (Elt Ideal) s.2.2.2 (t.2.2.2.1 s.2.2.2))) := by
  have hk : k.val < 2 := Nat.lt_of_lt_of_le (Nat.lt_of_lt_of_eq k.isLt (trips3 i)) (by omega)
  have gK : Mat (φ := .bf16) (a3.view.readAt (Elt Ideal) (Rect.unit (s := S8192x128) (k0_off8 i k) ![512, 128] (by have h := Nat.lt_of_lt_of_eq k.isLt (trips3 i); rw [off8_eq]; intro d; fin_cases d <;> simp <;> omega)).toLoadRect X3) (fun (j : Fin 512) l => K ⟨(1024 * ((i 1).val / 2) + 512 * k.val) + j.val, by omega⟩ l) :=
    fun j l => (readAt_rows a3.view X3 (off8_eq i k) _ hN j l).trans (h3 _ _)
  have gV : Mat (φ := .bf16) (a4.view.readAt (Elt Ideal) (Rect.unit (s := S8192x128) (k0_off8 i k) ![512, 128] (by have h := Nat.lt_of_lt_of_eq k.isLt (trips3 i); rw [off8_eq]; intro d; fin_cases d <;> simp <;> omega)).toLoadRect X4) (fun (j : Fin 512) l => V ⟨(1024 * ((i 1).val / 2) + 512 * k.val) + j.val, by omega⟩ l) :=
    fun j l => (readAt_rows a4.view X4 (off8_eq i k) _ hN j l).trans (h4 _ _)
  have gC0 : Row (φ := .f32) (a8.view.readAt (Elt Ideal) (Rect.unit (s := S1x2x8192) (k0_off9 i k) ![1, 1, 512] (by have h := Nat.lt_of_lt_of_eq k.isLt (trips3 i); rw [off9_eq]; intro d; fin_cases d <;> simp <;> omega)).toLoadRect X8) (fun j : Fin 512 => C 0 ⟨(1024 * ((i 1).val / 2) + 512 * k.val) + j.val, by omega⟩) :=
    fun j => (readAt_row a8.view X8 0 (off9_eq i k) _ hN j).trans (h8 _ _)
  have gC1 : Row (φ := .f32) (a8.view.readAt (Elt Ideal) (Rect.unit (s := S1x2x8192) (k0_off10 i k) ![1, 1, 512] (by have h := Nat.lt_of_lt_of_eq k.isLt (trips3 i); rw [off10_eq]; intro d; fin_cases d <;> simp <;> omega)).toLoadRect X8) (fun j : Fin 512 => C 1 ⟨(1024 * ((i 1).val / 2) + 512 * k.val) + j.val, by omega⟩) :=
    fun j => (readAt_row a8.view X8 1 (off10_eq i k) _ hN j).trans (h8 _ _)
  have sK := gK.same shapeCasts_S512x128_S512x128
  have sV := gV.same shapeCasts_S512x128_S512x128
  have p0 := (hB0.pr sK gC0 broadcasts_S1x1_S1x512 shapeCasts_S1x1x512_S1x512 broadcasts_S1x512_S512x512 broadcasts_S512x1_S512x512).congr (hP 0)
  have p1 := (hB1.pr sK gC1 broadcasts_S1x1_S1x512 shapeCasts_S1x1x512_S1x512 broadcasts_S1x512_S512x512 broadcasts_S512x1_S512x512).congr (hP 1)
  have z0 := (hB0.dz (hB0.pr sK gC0 broadcasts_S1x1_S1x512 shapeCasts_S1x1x512_S1x512 broadcasts_S1x512_S512x512 broadcasts_S512x1_S512x512) sV broadcasts_S512x1_S512x512).congr (hZ 0)
  have z1 := (hB1.dz (hB1.pr sK gC1 broadcasts_S1x1_S1x512 shapeCasts_S1x1x512_S1x512 broadcasts_S1x512_S512x512 broadcasts_S512x1_S512x512) sV broadcasts_S512x1_S512x512).congr (hZ 1)
  have g12 : ∀ h (off : Fin 3 → ℕ) (ho : off = ![0, h.val, (1024 * ((i 1).val / 2) + 512 * k.val)]) (inb : ∀ d : Fin 3, off d + (![1, 1, 512] : Fin 3 → ℕ) d ≤ (![1, 2, 8192] : Fin 3 → ℕ) d),
      Row (φ := .f32) (a12.view.readAt (Elt Ideal) (Rect.unit (s := S1x2x8192) off ![1, 1, 512] inb).toLoadRect s.2.1)
        (fun j : Fin 512 => c0 h ⟨(1024 * ((i 1).val / 2) + 512 * k.val) + j.val, by omega⟩ - if (((1024 * ((i 1).val / 2) + 512 * k.val) + j.val : ℕ)) < (1024 * ((i 1).val / 2) + 512 * k.val) then ∑ r, Z h r ⟨(1024 * ((i 1).val / 2) + 512 * k.val) + j.val, by omega⟩ else 0) :=
    fun h off ho inb j => (readAt_row a12.view s.2.1 h ho inb hN j).trans (hs.dc _ _)
  have g14 : Mat (φ := .f32) (a14.view.readAt (Elt Ideal) (Rect.unit (s := S8192x128) (k0_off8 i k) ![512, 128] (by have h := Nat.lt_of_lt_of_eq k.isLt (trips3 i); rw [off8_eq]; intro d; fin_cases d <;> simp <;> omega)).toLoadRect s.2.2.1) _ :=
    fun j l => (readAt_rows a14.view s.2.2.1 (off8_eq i k) _ hN j l).trans (hs.dk _ _)
  have g15 : Mat (φ := .f32) (a15.view.readAt (Elt Ideal) (Rect.unit (s := S8192x128) (k0_off8 i k) ![512, 128] (by have h := Nat.lt_of_lt_of_eq k.isLt (trips3 i); rw [off8_eq]; intro d; fin_cases d <;> simp <;> omega)).toLoadRect s.2.2.2) _ :=
    fun j l => (readAt_rows a15.view s.2.2.2 (off8_eq i k) _ hN j l).trans (hs.dv _ _)
  have m0 := fun r l => laneMask_apply 0 iota_S512x128_d1_w32 r l
  have m1 := fun r l => laneMask_apply 1 iota_S512x128_d1_w32 r l
  unfold trip3
  dsimp only
  refine Covered.more hN ?_ ?_ ?_ ?_ ?_ ?_
  · exact acc_step hs.dq z0 z1 sK m0 m1 bitsLt_bf16_f32
  · exact sum_step hs.r0 z0 reduces_S512x512_S512_2 shapeCasts_S512_S512x1
  · exact sum_step hs.r1 z1 reduces_S512x512_S512_2 shapeCasts_S512_S512x1
  · exact rows_lowered a12.view s.2.1 (off9_eq i k) (off10_eq i k) _ _ _ _ hN hs.dc
      (gate_step (g12 0 _ (off9_eq i k) _) z0 reduces_S512x512_S512 shapeCasts_S512_S1x512 shapeCasts_S1x1x512_S1x512 shapeCasts_S1x512_S1x1x512)
      (gate_step (g12 1 _ (off10_eq i k) _) z1 reduces_S512x512_S512 shapeCasts_S512_S1x512 shapeCasts_S1x1x512_S1x512 shapeCasts_S1x512_S1x1x512)
  · exact rows_added a14.view s.2.2.1 (off8_eq i k) _ _ hN hs.dk
      (key_step g14 (zero32 _ _) z0 z1 hB0.q hB1.q bitsLt_bf16_f32 shapeCasts_S512x128_S512x128)
  · exact rows_added a15.view s.2.2.2 (off8_eq i k) _ _ hN hs.dv
      (key_step g15 (zero32 _ _) p0 p1 hB0.g hB1.g bitsLt_bf16_f32 shapeCasts_S512x128_S512x128)

end Single

section WideLoop

variable (v8 : FVec Ideal S512x128 .bf16) (v38 : IVec S512x128 1) (v65 : IVec S512x128 1) (v67 : FVec Ideal S512x128 .bf16) (v69 : FVec Ideal S512x128 .bf16) (v71 : FVec Ideal S512x128 .bf16) (v73 : FVec Ideal S512x128 .bf16) (v79 : FVec Ideal S1x1 .f32) (v80 : FVec Ideal S1x1 .f32) (v82 : FVec Ideal S512x1 .f32) (v83 : Vec Ideal S1x512x1 .f32) (v86 : Vec Ideal S512x128 .f32)

/-- The loop covers its trips' keys. -/
theorem st1_covered (X3 : Held Ideal a3) (X4 : Held Ideal a4) (X8 : Held Ideal a8)
    {B : Fin 2 → Blk} {K V : Fin 8192 → Fin 128 → ℝ} {C : Fin 2 → Fin 8192 → ℝ} {Z P : Fin 2 → Fin 512 → Fin 8192 → ℝ} {c0 : Fin 2 → Fin 8192 → ℝ}
    {k0 v0 : Fin 8192 → Fin 128 → ℝ}
    (h3 : Mat (φ := .bf16) (a3.view.read (Elt Ideal) X3) K) (h4 : Mat (φ := .bf16) (a4.view.read (Elt Ideal) X4) V)
    (h8 : Pair (a8.view.read (Elt Ideal) X8) C)
    (hB0 : IsBlk v67 v71 v79 v82 (k0_pay112 v8 v38 v86) (B 0)) (hB1 : IsBlk v69 v73 v80 (k0_pay110 v83) (k0_pay113 v8 v65 v86) (B 1))
    (hP : ∀ h r (j : Fin 8192), j.val < 512 * (i 1).val → pr (B h) K (C h) r j = P h r j)
    (hZ : ∀ h r (j : Fin 8192), j.val < 512 * (i 1).val → dz (B h) K V (C h) r j = Z h r j)
    (s : Handed Ideal a12 a14 a15)
    (hs : Covered B K Z P c0 k0 v0 (0) s.1 (a12.view.read (Elt Ideal) s.2.1) (a14.view.read (Elt Ideal) s.2.2.1) (a15.view.read (Elt Ideal) s.2.2.2))
    (k : ℕ) (hk : k ≤ (k0_t1_loop i).trips) :
    let s' := st1 (F := Ideal) 𝒱 c bd i a2 w2 a3 w3 a4 w4 a5 w5 a6 w6 a7 w7 a8 w8 a9 w9 a10 w10 a11 w11 a12 w12 a13 w13 a14 w14 a15 w15 v8 v38 v65 v67 v69 v71 v73 v79 v80 v82 v83 v86 X3 X4 X8 s k
    Covered B K Z P c0 k0 v0 (1024 * k) s'.1 (a12.view.read (Elt Ideal) s'.2.1) (a14.view.read (Elt Ideal) s'.2.2.1) (a15.view.read (Elt Ideal) s'.2.2.2) := by
  have hi : (i 1).val < 16 := (i 1).isLt
  induction k with
  | zero => dsimp only; rw [st1_zero]; exact hs
  | succ k ih =>
    have hlt : k < (i 1).val / 2 := Nat.lt_of_lt_of_eq (Nat.lt_of_succ_le hk) (trips1 i)
    have ih' := ih (Nat.le_of_succ_le hk)
    have e : 1024 * (k + 1) = 1024 * k + 1024 := by ring
    dsimp only at ih' ⊢
    rw [e]
    have hst := st1_succ (F := Ideal) 𝒱 c bd i a2 w2 a3 w3 a4 w4 a5 w5 a6 w6 a7 w7 a8 w8 a9 w9 a10 w10 a11 w11 a12 w12 a13 w13 a14 w14 a15 w15 v8 v38 v65 v67 v69 v71 v73 v79 v80 v82 v83 v86 X3 X4 X8 s ⟨k, Nat.lt_of_succ_le hk⟩
    dsimp only at hst
    rw [hst]
    exact (trip1_covered 𝒱 c bd i a2 w2 a3 w3 a4 w4 a5 w5 a6 w6 a7 w7 a8 w8 a9 w9 a10 w10 a11 w11 a12 w12 a13 w13 a14 w14 a15 w15 v8 v38 v65 v67 v69 v71 v73 v79 v80 v82 v83 v86 X3 X4 X8 ⟨k, Nat.lt_of_succ_le hk⟩ h3 h4 h8 hB0 hB1 (by dsimp only; omega)
      (fun h r j => hP h r _ (by have := j.isLt; dsimp only; omega)) (fun h r j => hZ h r _ (by have := j.isLt; dsimp only; omega)) _ ih')

end WideLoop

section SingleLoop

variable (v67 : FVec Ideal S512x128 .bf16) (v69 : FVec Ideal S512x128 .bf16) (v71 : FVec Ideal S512x128 .bf16) (v73 : FVec Ideal S512x128 .bf16) (v79 : FVec Ideal S1x1 .f32) (v80 : FVec Ideal S1x1 .f32) (v82 : FVec Ideal S512x1 .f32) (v84 : FVec Ideal S512x1 .f32) (v92 : FVec Ideal S512x1 .f32) (v96 : FVec Ideal S512x1 .f32) (v121_0 : FVec Ideal S512x128 .f32) (v121_1 : FVec Ideal S512x1 .f32) (v121_2 : FVec Ideal S512x1 .f32) (v123 : BitVec 32)

/-- The loop covers its trips' keys. -/
theorem st3_covered (X3 : Held Ideal a3) (X4 : Held Ideal a4) (X8 : Held Ideal a8)
    {B : Fin 2 → Blk} {K V : Fin 8192 → Fin 128 → ℝ} {C : Fin 2 → Fin 8192 → ℝ} {Z P : Fin 2 → Fin 512 → Fin 8192 → ℝ} {c0 : Fin 2 → Fin 8192 → ℝ}
    {k0 v0 : Fin 8192 → Fin 128 → ℝ}
    (h3 : Mat (φ := .bf16) (a3.view.read (Elt Ideal) X3) K) (h4 : Mat (φ := .bf16) (a4.view.read (Elt Ideal) X4) V)
    (h8 : Pair (a8.view.read (Elt Ideal) X8) C)
    (hB0 : IsBlk v67 v71 v79 v82 v92 (B 0)) (hB1 : IsBlk v69 v73 v80 v84 v96 (B 1))
    (hP : ∀ h r (j : Fin 8192), j.val < 512 * (i 1).val → pr (B h) K (C h) r j = P h r j)
    (hZ : ∀ h r (j : Fin 8192), j.val < 512 * (i 1).val → dz (B h) K V (C h) r j = Z h r j)
    (s : Handed Ideal a12 a14 a15)
    (hs : Covered B K Z P c0 k0 v0 (1024 * ((i 1).val / 2)) s.1 (a12.view.read (Elt Ideal) s.2.1) (a14.view.read (Elt Ideal) s.2.2.1) (a15.view.read (Elt Ideal) s.2.2.2))
    (k : ℕ) (hk : k ≤ (k0_t3_loop i).trips) :
    let s' := st3 (F := Ideal) 𝒱 c bd i a2 w2 a3 w3 a4 w4 a5 w5 a6 w6 a7 w7 a8 w8 a9 w9 a10 w10 a11 w11 a12 w12 a13 w13 a14 w14 a15 w15 v67 v69 v71 v73 v79 v80 v82 v84 v92 v96 v121_0 v121_1 v121_2 v123 X3 X4 X8 s k
    Covered B K Z P c0 k0 v0 (1024 * ((i 1).val / 2) + 512 * k) s'.1 (a12.view.read (Elt Ideal) s'.2.1) (a14.view.read (Elt Ideal) s'.2.2.1) (a15.view.read (Elt Ideal) s'.2.2.2) := by
  have hi : (i 1).val < 16 := (i 1).isLt
  induction k with
  | zero => dsimp only; rw [st3_zero]; exact hs
  | succ k ih =>
    have hlt : k < (i 1).val % 2 := Nat.lt_of_lt_of_eq (Nat.lt_of_succ_le hk) (trips3 i)
    have ih' := ih (Nat.le_of_succ_le hk)
    have e : 1024 * ((i 1).val / 2) + 512 * (k + 1) = 1024 * ((i 1).val / 2) + 512 * k + 512 := by ring
    dsimp only at ih' ⊢
    rw [e]
    have hst := st3_succ (F := Ideal) 𝒱 c bd i a2 w2 a3 w3 a4 w4 a5 w5 a6 w6 a7 w7 a8 w8 a9 w9 a10 w10 a11 w11 a12 w12 a13 w13 a14 w14 a15 w15 v67 v69 v71 v73 v79 v80 v82 v84 v92 v96 v121_0 v121_1 v121_2 v123 X3 X4 X8 s ⟨k, Nat.lt_of_succ_le hk⟩
    dsimp only at hst
    rw [hst]
    exact (trip3_covered 𝒱 c bd i a2 w2 a3 w3 a4 w4 a5 w5 a6 w6 a7 w7 a8 w8 a9 w9 a10 w10 a11 w11 a12 w12 a13 w13 a14 w14 a15 w15 v67 v69 v71 v73 v79 v80 v82 v84 v92 v96 v121_0 v121_1 v121_2 v123 X3 X4 X8 ⟨k, Nat.lt_of_succ_le hk⟩ h3 h4 h8 hB0 hB1 (by dsimp only; omega)
      (fun h r j => hP h r _ (by have := j.isLt; dsimp only; omega)) (fun h r j => hZ h r _ (by have := j.isLt; dsimp only; omega)) _ ih')

end SingleLoop

end Cert.AttnIdeal.Hand

end
-- ==== Proof.AttnMasked.lean ====
/-
  The attention gradient's step on the diagonal, where a query sees only the keys up to its own place, and what a point
  computes of its blocks before any step, over real numbers.
-/
module

public import proofs.«01_k».proof.Proof.AttnTrips
public import Idealize.ShloMosaic.Lib.WordCmp

@[expose] public section

set_option maxRecDepth 16384
set_option maxHeartbeats 4000000

noncomputable section

namespace Cert.AttnStep

open Idealize.ShloMosaic Idealize.ShloMosaic.ValueIdx
open Cert.RealMat Cert.SoftmaxReads
open scoped BigOperators

theorem eighth16 (m n : ℕ) : Mat (φ := .bf16) (broadcast ⟨2, ![m, n]⟩ (Scalar.ofBits (F := Ideal) .bf16 0x3E00#16)) fun _ _ => 1 / 8 := fun _ _ => by
  show Ideal.ofBits .bf16 0x3E00#16 = _
  simp [Ideal.ofBits, Ideal.ieee, -EReal.coe_mul]; norm_num

theorem eighth32 (m n : ℕ) : Mat (φ := .f32) (broadcast ⟨2, ![m, n]⟩ (Scalar.ofBits (F := Ideal) .f32 0x3E000000#32)) fun _ _ => 1 / 8 := fun _ _ => by
  show Ideal.ofBits .f32 0x3E000000#32 = _
  simp [Ideal.ofBits, Ideal.ieee, -EReal.coe_mul]; norm_num

/-- The mask on the diagonal. -/
theorem causal_apply (h0 : (⟨2, ![512, 512]⟩ : Shape).Iotas .tc 32 [0]) (h1 : (⟨2, ![512, 512]⟩ : Shape).Iotas .tc 32 [1]) (r j : Fin 512) :
    cmpi .sle (iota .tc ⟨2, ![512, 512]⟩ 32 [1] h1) (iota .tc ⟨2, ![512, 512]⟩ 32 [0] h0) (ix2 r j) = if j.val ≤ r.val then 1#1 else 0#1 := by
  show IntOp.cmpi .sle (iota .tc ⟨2, ![512, 512]⟩ 32 [1] h1 (ix2 r j)) (iota .tc ⟨2, ![512, 512]⟩ 32 [0] h0 (ix2 r j)) = _
  rw [iota_single_apply, iota_single_apply]
  show IntOp.cmpi .sle (BitVec.ofNat 32 j.val) (BitVec.ofNat 32 r.val) = _
  have hj := j.isLt
  have hr := r.isLt
  by_cases h : j.val ≤ r.val
  · rw [if_pos h]; exact (WordCmp.cmpi_sle_ofNat_eq_one_iff (by omega) (by omega)).2 h
  · rw [if_neg h]; exact (WordCmp.cmpi_sle_ofNat_eq_zero_iff (by omega) (by omega)).2 (by omega)

section
variable {q g : FVec Ideal ⟨2, ![512, 128]⟩ .bf16} {b : FVec Ideal ⟨2, ![1, 1]⟩ .f32}
  {s d : FVec Ideal ⟨2, ![512, 1]⟩ .f32} {B : Blk} {kb vb : FVec Ideal ⟨2, ![512, 128]⟩ .bf16} {cb : FVec Ideal ⟨3, ![1, 1, 512]⟩ .f32}
  {k v : Fin 512 → Fin 128 → ℝ} {c : Fin 512 → ℝ}

/-- The probabilities on the diagonal. -/
theorem IsBlk.prMasked (hB : IsBlk q g b s d B) (hk : Mat kb k) (hc : Row cb c) {m : IVec ⟨2, ![512, 512]⟩ 1} {ninf : Ideal .f32}
    (hm : ∀ r j, m (ix2 r j) = if j.val ≤ r.val then 1#1 else 0#1) (hn : ninf = (⊥ : EReal))
    (h1 : (⟨2, ![1, 1]⟩ : Shape).Broadcasts ⟨2, ![1, 512]⟩) (h2 : (⟨3, ![1, 1, 512]⟩ : Shape).ShapeCasts ⟨2, ![1, 512]⟩)
    (h3 : (⟨2, ![1, 512]⟩ : Shape).Broadcasts ⟨2, ![512, 512]⟩) (h4 : (⟨2, ![512, 1]⟩ : Shape).Broadcasts ⟨2, ![512, 512]⟩) :
    Mat (φ := .f32) (exp (subf (select m (addf (matmul (DotDims.transposedRhs 512 128 512) none q kb (constant ⟨2, ![512, 512]⟩ .f32 0x00000000#32))
        (broadcastTo ⟨2, ![512, 512]⟩ (subf (broadcastTo ⟨2, ![1, 512]⟩ b h1) (shapeCast ⟨2, ![1, 512]⟩ cb h2)) h3)) (broadcast ⟨2, ![512, 512]⟩ ninf)) (broadcastTo ⟨2, ![512, 512]⟩ s h4)))
      (fun r j => if j.val ≤ r.val then AttnStep.pr B k c r j else 0) := fun r j => by
  by_cases h : j.val ≤ r.val
  · simp only [h, if_true]
    refine Eq.trans ?_ ((hB.pr hk hc h1 h2 h3 h4) r j)
    show Ideal.exp ((if m (ix2 r j) = 1#1 then (_ : EReal) else _) - (_ : EReal)) = Ideal.exp ((_ : EReal) - (_ : EReal))
    rw [hm, if_pos h, if_pos rfl]
  · simp only [h, if_false]
    show Ideal.exp ((if m (ix2 r j) = 1#1 then (_ : EReal) else ninf) - (broadcastTo ⟨2, ![512, 512]⟩ s h4 (ix2 r j) : EReal)) = _
    rw [hm, if_neg h, if_neg (by decide), hn, (hB.s.bcol h4) r j]
    rfl
end

end Cert.AttnStep

namespace Cert.AttnIdeal.Hand

open Idealize.ShloMosaic Idealize.ShloMosaic.TcCoe Idealize.ShloMosaic.ValueIdx
open Idealize.SL.Sem
open Cert.AttnIdeal.Gen Cert.RealMat Cert.AttnStep Cert.SoftmaxReads
open scoped BigOperators

/-- What a query sees of a weight: the keys up to its own place. -/
def seen (i : ℕ) (f : Fin 512 → Fin 8192 → ℝ) (r : Fin 512) (j : Fin 8192) : ℝ := if j.val ≤ 512 * i + r.val then f r j else 0

theorem seen_before {i : ℕ} {f : Fin 512 → Fin 8192 → ℝ} {r : Fin 512} {j : Fin 8192} (h : j.val < 512 * i) : f r j = seen i f r j :=
  (if_pos (by omega)).symm

theorem mask_bot : (Named.named (F := Ideal) κ "mask" (φ := .f32) 0xF149F2CA#32 : EReal) = ⊥ := rfl

section
variable (i : grid0.Coords) {arg3 : Memref sig .tc .vmem S8192x128 .bf16} {arg4 : Memref sig .tc .vmem S8192x128 .bf16}
  {arg8 : Memref sig .tc .vmem S1x2x8192 .f32} {arg12 : Memref sig .tc .vmem S1x2x8192 .f32}
  {arg14 : Memref sig .tc .vmem S8192x128 .f32} {arg15 : Memref sig .tc .vmem S8192x128 .f32}
  {v67 v69 v71 v73 : FVec Ideal S512x128 .bf16} {v79 v80 : FVec Ideal S1x1 .f32} {v82 v84 v92 v96 : FVec Ideal S512x1 .f32}
  {X3 : arg3.view.ty.Contents (Elt Ideal)} {X4 : arg4.view.ty.Contents (Elt Ideal)} {X8 : arg8.view.ty.Contents (Elt Ideal)}
  {B : Fin 2 → Blk} {K V : Fin 8192 → Fin 128 → ℝ} {C : Fin 2 → Fin 8192 → ℝ} {c0 : Fin 2 → Fin 8192 → ℝ} {k0 v0 : Fin 8192 → Fin 128 → ℝ}

/-- The step on the diagonal covers the block's own 512 keys. -/
theorem masked_covered
    (h3 : Mat (φ := .bf16) (arg3.view.read (Elt Ideal) X3) K) (h4 : Mat (φ := .bf16) (arg4.view.read (Elt Ideal) X4) V)
    (h8 : Pair (arg8.view.read (Elt Ideal) X8) C)
    (hB0 : IsBlk v67 v71 v79 v82 v92 (B 0)) (hB1 : IsBlk v69 v73 v80 v84 v96 (B 1))
    (b14 : ∀ d : Fin 2, k0_off14 i d + S512x128.size d ≤ S8192x128.size d)
    (b15 : ∀ d : Fin 3, k0_off15 i d + S1x1x512.size d ≤ S1x2x8192.size d)
    (b16 : ∀ d : Fin 3, k0_off16 i d + S1x1x512.size d ≤ S1x2x8192.size d)
    (acc : Carried Ideal) (G12 : arg12.view.ty.Contents (Elt Ideal)) (G14 : arg14.view.ty.Contents (Elt Ideal)) (G15 : arg15.view.ty.Contents (Elt Ideal))
    (hs : Covered B K (fun h => seen (i 1).val (dz (B h) K V (C h))) (fun h => seen (i 1).val (pr (B h) K (C h))) c0 k0 v0 (512 * (i 1).val)
      acc (arg12.view.read (Elt Ideal) G12) (arg14.view.read (Elt Ideal) G14) (arg15.view.read (Elt Ideal) G15))
    (w16 : Vec Ideal S1x1x512 .f32) (hw : ∀ j : Fin 512, w16 (ix3 0 0 j) = arg12.view.read (Elt Ideal) G12 (ix3 0 1 ⟨512 * (i 1).val + j.val, by have : (i 1).val < 16 := (i 1).isLt; omega⟩)) :
    let kb := k0_pay136 (arg3.view.readAt (Elt Ideal) (Rect.unit (s := S8192x128) (k0_off14 i) S512x128.size b14).toLoadRect X3)
    let vb := k0_pay137 (arg4.view.readAt (Elt Ideal) (Rect.unit (s := S8192x128) (k0_off14 i) S512x128.size b14).toLoadRect X4)
    let cb0 := arg8.view.readAt (Elt Ideal) (Rect.unit (s := S1x2x8192) (k0_off15 i) S1x1x512.size b15).toLoadRect X8
    let cb1 := arg8.view.readAt (Elt Ideal) (Rect.unit (s := S1x2x8192) (k0_off16 i) S1x1x512.size b16).toLoadRect X8
    let p0 := k0_pay142 k0_pay98 v67 v79 v82 kb cb0
    let z0 := k0_pay143 k0_pay98 v67 v71 v79 v82 v92 kb vb cb0
    let z1 := k0_pay151 k0_pay98 v69 v73 v80 v84 v96 kb vb cb1
    Covered B K (fun h => seen (i 1).val (dz (B h) K V (C h))) (fun h => seen (i 1).val (pr (B h) K (C h))) c0 k0 v0 (512 * (i 1).val + 512)
      (addf (k0_pay149 acc.1 kb k0_pay138 z0) (matmul dot_S512x512_S512x128_S512x128_1_0_0_1_n_n none (k0_pay152 k0_pay98 v69 v73 v80 v84 v96 kb vb cb1)
          (select (k0_pay139 (iota .tc S512x128 32 [1] iota_S512x128_d1_w32)) kb (broadcast S512x128 (Scalar.ofBits (F := Ideal) .bf16 0x0000#16))) (constant S512x128 .f32 0x00000000#32)),
        k0_pay148 acc.2.1 z0, k0_pay155 acc.2.2 z1)
      (arg12.view.read (Elt Ideal) (arg12.view.writes (Elt Ideal) G12
        [(⟨Rect.unit (s := S1x2x8192) (k0_off16 i) S1x1x512.size b16, k0_pay154 z1 w16⟩ : View.Piece (Elt Ideal) S1x2x8192 .f32),
         ⟨Rect.unit (s := S1x2x8192) (k0_off15 i) S1x1x512.size b15, k0_pay147 z0 (arg12.view.readAt (Elt Ideal) (Rect.unit (s := S1x2x8192) (k0_off15 i) S1x1x512.size b15).toLoadRect G12)⟩]))
      (arg14.view.read (Elt Ideal) (arg14.view.writes (Elt Ideal) G14
        [(⟨Rect.unit (s := S8192x128) (k0_off14 i) S512x128.size b14, k0_pay157 v69 (k0_pay146 v67 k0_pay141 z0) (k0_pay152 k0_pay98 v69 v73 v80 v84 v96 kb vb cb1)
          (arg14.view.readAt (Elt Ideal) (Rect.unit (s := S8192x128) (k0_off14 i) S512x128.size b14).toLoadRect G14)⟩ : View.Piece (Elt Ideal) S8192x128 .f32)]))
      (arg15.view.read (Elt Ideal) (arg15.view.writes (Elt Ideal) G15
        [(⟨Rect.unit (s := S8192x128) (k0_off14 i) S512x128.size b14, k0_pay156 (k0_pay145 v71 k0_pay140 p0) (k0_pay153 k0_pay98 v69 v73 v80 v84 kb cb1)
          (arg15.view.readAt (Elt Ideal) (Rect.unit (s := S8192x128) (k0_off14 i) S512x128.size b14).toLoadRect G15)⟩ : View.Piece (Elt Ideal) S8192x128 .f32)])) := by
  have hi : (i 1).val < 16 := (i 1).isLt
  have hN : 512 * (i 1).val + 512 ≤ 8192 := by omega
  have gK : Mat (φ := .bf16) (arg3.view.readAt (Elt Ideal) (Rect.unit (s := S8192x128) (k0_off14 i) ![512, 128] b14).toLoadRect X3) (fun (j : Fin 512) l => K ⟨512 * (i 1).val + j.val, by omega⟩ l) :=
    fun j l => (readAt_rows arg3.view X3 (off14_eq i) _ hN j l).trans (h3 _ _)
  have gV : Mat (φ := .bf16) (arg4.view.readAt (Elt Ideal) (Rect.unit (s := S8192x128) (k0_off14 i) ![512, 128] b14).toLoadRect X4) (fun (j : Fin 512) l => V ⟨512 * (i 1).val + j.val, by omega⟩ l) :=
    fun j l => (readAt_rows arg4.view X4 (off14_eq i) _ hN j l).trans (h4 _ _)
  have gC0 : Row (φ := .f32) (arg8.view.readAt (Elt Ideal) (Rect.unit (s := S1x2x8192) (k0_off15 i) ![1, 1, 512] b15).toLoadRect X8) (fun j : Fin 512 => C 0 ⟨512 * (i 1).val + j.val, by omega⟩) :=
    fun j => (readAt_row arg8.view X8 0 (off15_eq i) _ hN j).trans (h8 _ _)
  have gC1 : Row (φ := .f32) (arg8.view.readAt (Elt Ideal) (Rect.unit (s := S1x2x8192) (k0_off16 i) ![1, 1, 512] b16).toLoadRect X8) (fun j : Fin 512 => C 1 ⟨512 * (i 1).val + j.val, by omega⟩) :=
    fun j => (readAt_row arg8.view X8 1 (off16_eq i) _ hN j).trans (h8 _ _)
  have sK := gK.same shapeCasts_S512x128_S512x128
  have sV := gV.same shapeCasts_S512x128_S512x128
  have hm := causal_apply iota_S512x512_d0_w32 iota_S512x512_d1_w32
  have eP : ∀ h (r j : Fin 512), (if j.val ≤ r.val then pr (B h) (fun (j : Fin 512) l => K ⟨512 * (i 1).val + j.val, by omega⟩ l) (fun j : Fin 512 => C h ⟨512 * (i 1).val + j.val, by omega⟩) r j else 0)
      = seen (i 1).val (pr (B h) K (C h)) r ⟨512 * (i 1).val + j.val, by omega⟩ := fun h r j => by
    unfold seen
    exact if_congr (by dsimp only; omega) rfl rfl
  have eZ : ∀ h (r j : Fin 512), seen (i 1).val (pr (B h) K (C h)) r ⟨512 * (i 1).val + j.val, by omega⟩ * ((∑ l, (B h).g r l * V ⟨512 * (i 1).val + j.val, by omega⟩ l) - (B h).d r)
      = seen (i 1).val (dz (B h) K V (C h)) r ⟨512 * (i 1).val + j.val, by omega⟩ := fun h r j => by
    unfold seen
    rw [ite_mul, zero_mul]
    rfl
  have p0 := (hB0.prMasked sK gC0 hm mask_bot broadcasts_S1x1_S1x512 shapeCasts_S1x1x512_S1x512 broadcasts_S1x512_S512x512 broadcasts_S512x1_S512x512).congr (eP 0)
  have p1 := (hB1.prMasked sK gC1 hm mask_bot broadcasts_S1x1_S1x512 shapeCasts_S1x1x512_S1x512 broadcasts_S1x512_S512x512 broadcasts_S512x1_S512x512).congr (eP 1)
  have z0 := (hB0.dz p0 sV broadcasts_S512x1_S512x512).congr (eZ 0)
  have z1 := (hB1.dz p1 sV broadcasts_S512x1_S512x512).congr (eZ 1)
  have g12 : ∀ h (off : Fin 3 → ℕ) (ho : off = ![0, h.val, 512 * (i 1).val]) (inb : ∀ d : Fin 3, off d + (![1, 1, 512] : Fin 3 → ℕ) d ≤ (![1, 2, 8192] : Fin 3 → ℕ) d),
      Row (φ := .f32) (arg12.view.readAt (Elt Ideal) (Rect.unit (s := S1x2x8192) off ![1, 1, 512] inb).toLoadRect G12)
        (fun j : Fin 512 => c0 h ⟨512 * (i 1).val + j.val, by omega⟩ - if ((512 * (i 1).val + j.val : ℕ)) < 512 * (i 1).val then ∑ r, seen (i 1).val (dz (B h) K V (C h)) r ⟨512 * (i 1).val + j.val, by omega⟩ else 0) :=
    fun h off ho inb j => (readAt_row arg12.view G12 h ho inb hN j).trans (hs.dc _ _)
  have g14 : Mat (φ := .f32) (arg14.view.readAt (Elt Ideal) (Rect.unit (s := S8192x128) (k0_off14 i) ![512, 128] b14).toLoadRect G14) _ :=
    fun j l => (readAt_rows arg14.view G14 (off14_eq i) _ hN j l).trans (hs.dk _ _)
  have g15 : Mat (φ := .f32) (arg15.view.readAt (Elt Ideal) (Rect.unit (s := S8192x128) (k0_off14 i) ![512, 128] b14).toLoadRect G15) _ :=
    fun j l => (readAt_rows arg15.view G15 (off14_eq i) _ hN j l).trans (hs.dv _ _)
  have m0 := fun r l => laneMask_apply 0 iota_S512x128_d1_w32 r l
  have m1 := fun r l => laneMask_apply 1 iota_S512x128_d1_w32 r l
  dsimp only
  refine Covered.more hN ?_ ?_ ?_ ?_ ?_ ?_
  · exact acc_step hs.dq z0 z1 sK m0 m1 bitsLt_bf16_f32
  · exact sum_step hs.r0 z0 reduces_S512x512_S512_2 shapeCasts_S512_S512x1
  · exact sum_step hs.r1 z1 reduces_S512x512_S512_2 shapeCasts_S512_S512x1
  · exact rows_lowered arg12.view G12 (off15_eq i) (off16_eq i) _ _ _ _ hN hs.dc
      (gate_step (g12 0 _ (off15_eq i) _) z0 reduces_S512x512_S512 shapeCasts_S512_S1x512 shapeCasts_S1x1x512_S1x512 shapeCasts_S1x512_S1x1x512)
      (gate_step (fun j => (hw j).trans (hs.dc _ _)) z1 reduces_S512x512_S512 shapeCasts_S512_S1x512 shapeCasts_S1x1x512_S1x512 shapeCasts_S1x512_S1x1x512)
  · exact rows_added arg14.view G14 (off14_eq i) _ _ hN hs.dk
      (key_step g14 (zero32 _ _) z0 z1 hB0.q hB1.q bitsLt_bf16_f32 shapeCasts_S512x128_S512x128)
  · exact rows_added arg15.view G15 (off14_eq i) _ _ hN hs.dv
      (key_step g15 (zero32 _ _) p0 p1 hB0.g hB1.g bitsLt_bf16_f32 shapeCasts_S512x128_S512x128)
end

end Cert.AttnIdeal.Hand

end
-- ==== Proof.AttnHeads.lean ====
/-
  A point of the attention gradient over real numbers: what it computes of its blocks before its loops, and what it stores
  after them.
-/
module

public import proofs.«01_k».proof.Proof.AttnMasked
public import Idealize.ShloMosaic.Lib.Pipeline.Value

@[expose] public section

set_option maxRecDepth 16384
set_option maxHeartbeats 10000000

noncomputable section

namespace Cert.AttnIdeal.Hand

open Idealize.ShloMosaic Idealize.ShloMosaic.TcCoe Idealize.ShloMosaic.ValueIdx
open Idealize.SL.Sem
open Cert.AttnIdeal.Gen Cert.RealMat Cert.AttnStep Cert.SoftmaxReads
open scoped BigOperators

/-- A head's block, from the point's blocks: queries `Q` scaled, cotangent `G`, output `O`, log sums `S` and gates `C`. -/
def blockOf (i : ℕ) (hi : i < 16) (Q G O : Fin 512 → Fin 128 → ℝ) (S : Fin 2 → Fin 512 → ℝ) (C : Fin 2 → Fin 8192 → ℝ) (h : Fin 2) : Blk where
  q := fun r l => if l.val / 64 = h.val then Q r l * (1 / 8) else 0
  g := fun r l => if l.val / 64 = h.val then G r l else 0
  b := C h ⟨512 * i, by omega⟩
  s := S h
  d := fun r => ∑ l : Fin 128, if l.val / 64 = h.val then G r l * O r l else 0

section
variable (i : grid0.Coords) {arg2 : Memref sig .tc .vmem S512x128 .bf16} {arg5 : Memref sig .tc .vmem S512x128 .bf16} {arg6 : Memref sig .tc .vmem S512x128 .f32}
  {arg7 : Memref sig .tc .vmem S2x512x1 .f32} {arg8 : Memref sig .tc .vmem S1x2x8192 .f32}
  {X2 : arg2.view.ty.Contents (Elt Ideal)} {X5 : arg5.view.ty.Contents (Elt Ideal)} {X6 : arg6.view.ty.Contents (Elt Ideal)}
  {X7 : arg7.view.ty.Contents (Elt Ideal)} {X8 : arg8.view.ty.Contents (Elt Ideal)}
  {Q G O : Fin 512 → Fin 128 → ℝ} {S : Fin 2 → Fin 512 → ℝ} {C : Fin 2 → Fin 8192 → ℝ}

theorem coord_lt : (i 1).val < 16 := (i 1).isLt

/-- A whole block loaded. -/
theorem readAt_whole {e : EltTy} (M : Memref sig .tc .vmem S512x128 e) (X : M.view.ty.Contents (Elt Ideal))
    (inb : ∀ d : Fin 2, (![0, 0] : Fin 2 → ℕ) d + S512x128.size d ≤ S512x128.size d) (r : Fin 512) (l : Fin 128) :
    M.view.readAt (Elt Ideal) (Rect.unit (s := S512x128) ![0, 0] S512x128.size inb).toLoadRect X (ix2 r l) = M.view.read (Elt Ideal) X (ix2 r l) :=
  (readAt_rows M.view X rfl inb (by omega) r l).trans (congrArg (M.view.read (Elt Ideal) X) (by congr 1; exact Fin.ext (Nat.zero_add _)))

/-- A head's log sums loaded. -/
theorem lse_read (h7 : ∀ (h : Fin 2) (r : Fin 512), (arg7.view.read (Elt Ideal) X7 (ix3 h r 0) : EReal) = ((S h r : ℝ) : EReal)) (h : Fin 2)
    (inb : ∀ d : Fin 3, (![h.val, 0, 0] : Fin 3 → ℕ) d + S1x512x1.size d ≤ S2x512x1.size d) :
    Mat (φ := .f32) (shapeCast S512x1 (arg7.view.readAt (Elt Ideal) (Rect.unit (s := S2x512x1) ![h.val, 0, 0] S1x512x1.size inb).toLoadRect X7) shapeCasts_S1x512x1_S512x1)
      fun r _ => S h r := fun r u => by
  have hu : u = 0 := Subsingleton.elim _ _
  subst hu
  refine (shapeCast_1ab_ab_apply _ _ r 0).trans (Eq.trans ?_ (h7 h r))
  refine congrArg (arg7.view.read (Elt Ideal) X7) (funext fun d => Fin.ext ?_)
  match d with
  | ⟨0, _⟩ => show h.val + 1 * 0 = h.val; omega
  | ⟨1, _⟩ => show 0 + 1 * r.val = r.val; omega
  | ⟨2, _⟩ => show 0 + 1 * 0 = 0; omega

/-- A head's gate at the block's start. -/
theorem gate_read (h8 : Pair (arg8.view.read (Elt Ideal) X8) C) (h : Fin 2)
    (inb : ∀ d : Fin 3, k0_off1 i d + S1x2x128.size d ≤ S1x2x8192.size d) (hs : S2x128.Slices ![h.val, 0] S1x1) :
    Mat (φ := .f32) (extractStridedSlice S1x1 ![h.val, 0] (shapeCast S2x128 (arg8.view.readAt (Elt Ideal) (Rect.unit (s := S1x2x8192) (k0_off1 i) S1x2x128.size inb).toLoadRect X8) shapeCasts_S1x2x128_S2x128) hs)
      fun _ _ => C h ⟨512 * (i 1).val, by have := coord_lt i; omega⟩ := fun r u => by
  have hr : r = 0 := Subsingleton.elim _ _
  have hu : u = 0 := Subsingleton.elim _ _
  subst hr hu
  refine (extractStridedSlice_apply ![h.val, 0] _ hs (ix2 0 0) (ix2 h 0) (fun d => ?_)).trans ?_
  · match d with
    | ⟨0, _⟩ => rfl
    | ⟨1, _⟩ => rfl
  · refine (shapeCast_1ab_ab_apply _ _ h 0).trans (Eq.trans ?_ (h8 h _))
    refine congrArg (arg8.view.read (Elt Ideal) X8) (funext fun d => Fin.ext ?_)
    have ho := off1_eq i
    match d with
    | ⟨0, _⟩ => show k0_off1 i 0 + 1 * 0 = 0; rw [ho]; rfl
    | ⟨1, _⟩ => show k0_off1 i 1 + 1 * h.val = h.val; rw [ho]; show 0 + 1 * h.val = h.val; omega
    | ⟨2, _⟩ => show k0_off1 i 2 + 1 * 0 = 512 * (i 1).val; rw [ho]; rfl

variable (h2 : Mat (φ := .bf16) (arg2.view.read (Elt Ideal) X2) Q) (h5 : Mat (φ := .bf16) (arg5.view.read (Elt Ideal) X5) G)
  (h6 : Mat (φ := .f32) (arg6.view.read (Elt Ideal) X6) O)
  (h7 : ∀ (h : Fin 2) (r : Fin 512), (arg7.view.read (Elt Ideal) X7 (ix3 h r 0) : EReal) = ((S h r : ℝ) : EReal))
  (h8 : Pair (arg8.view.read (Elt Ideal) X8) C)
  (b2 b5 b6 : ∀ d : Fin 2, (![0, 0] : Fin 2 → ℕ) d + S512x128.size d ≤ S512x128.size d)
  (b70 : ∀ d : Fin 3, (![0, 0, 0] : Fin 3 → ℕ) d + S1x512x1.size d ≤ S2x512x1.size d)
  (b71 : ∀ d : Fin 3, (![1, 0, 0] : Fin 3 → ℕ) d + S1x512x1.size d ≤ S2x512x1.size d)
  (b8 : ∀ d : Fin 3, k0_off1 i d + S1x2x128.size d ≤ S1x2x8192.size d)

include h2 h5 h6 h7 h8

/-- What the point computes for the first head. -/
theorem head0 :
    let v6 := k0_pay96 (arg2.view.readAt (Elt Ideal) (Rect.unit (s := S512x128) ![0, 0] S512x128.size b2).toLoadRect X2)
    let v8 := k0_pay97 (arg5.view.readAt (Elt Ideal) (Rect.unit (s := S512x128) ![0, 0] S512x128.size b5).toLoadRect X5)
    let v86 := arg6.view.readAt (Elt Ideal) (Rect.unit (s := S512x128) ![0, 0] S512x128.size b6).toLoadRect X6
    let v77 := arg8.view.readAt (Elt Ideal) (Rect.unit (s := S1x2x8192) (k0_off1 i) S1x2x128.size b8).toLoadRect X8
    let v81 := arg7.view.readAt (Elt Ideal) (Rect.unit (s := S2x512x1) ![0, 0, 0] S1x512x1.size b70).toLoadRect X7
    IsBlk (k0_pay102 v6 k0_pay99) (k0_pay104 v8 k0_pay99) (k0_pay107 v77) (k0_pay109 v81) (k0_pay112 v8 k0_pay99 v86)
      (blockOf (i 1).val (coord_lt i) Q G O S C 0) := by
  have m := fun r l => laneMask_apply 0 iota_S512x128_d1_w32 r l
  have s5 := (show Mat (φ := .bf16) _ G from fun r l => (readAt_whole arg5 X5 b5 r l).trans (h5 r l)).same shapeCasts_S512x128_S512x128
  have s6 := (show Mat (φ := .f32) _ O from fun r l => (readAt_whole arg6 X6 b6 r l).trans (h6 r l)).same shapeCasts_S512x128_S512x128
  have s2 := ((show Mat (φ := .bf16) _ Q from fun r l => (readAt_whole arg2 X2 b2 r l).trans (h2 r l)).same shapeCasts_S512x128_S512x128).mul (eighth16 512 128)
  dsimp only
  refine ⟨?_, ?_, ?_, ?_, ?_⟩
  · exact Mat.sel m s2 (zero16 _ _)
  · exact Mat.sel m s5 (zero16 _ _)
  · exact gate_read i h8 0 b8 slices_S2x128_o0_0_S1x1
  · exact lse_read h7 0 b70
  · exact (Mat.sel m ((s5.ext bitsLt_bf16_f32).mul s6) (zero32 _ _)).rowSums reduces_S512x128_S512 shapeCasts_S512_S512x1

/-- What the point computes for the second head. -/
theorem head1 :
    let v6 := k0_pay96 (arg2.view.readAt (Elt Ideal) (Rect.unit (s := S512x128) ![0, 0] S512x128.size b2).toLoadRect X2)
    let v8 := k0_pay97 (arg5.view.readAt (Elt Ideal) (Rect.unit (s := S512x128) ![0, 0] S512x128.size b5).toLoadRect X5)
    let v86 := arg6.view.readAt (Elt Ideal) (Rect.unit (s := S512x128) ![0, 0] S512x128.size b6).toLoadRect X6
    let v77 := arg8.view.readAt (Elt Ideal) (Rect.unit (s := S1x2x8192) (k0_off1 i) S1x2x128.size b8).toLoadRect X8
    let v83 := arg7.view.readAt (Elt Ideal) (Rect.unit (s := S2x512x1) ![1, 0, 0] S1x512x1.size b71).toLoadRect X7
    let m := k0_pay101 (iota .tc S512x128 32 [1] iota_S512x128_d1_w32) 64#32 k0_pay100
    IsBlk (k0_pay103 v6 (iota .tc S512x128 32 [1] iota_S512x128_d1_w32) 64#32 k0_pay100)
      (k0_pay105 v8 (iota .tc S512x128 32 [1] iota_S512x128_d1_w32) 64#32 k0_pay100) (k0_pay108 v77) (k0_pay110 v83) (k0_pay113 v8 m v86)
      (blockOf (i 1).val (coord_lt i) Q G O S C 1) := by
  have m := fun r l => laneMask_apply 1 iota_S512x128_d1_w32 r l
  have s5 := (show Mat (φ := .bf16) _ G from fun r l => (readAt_whole arg5 X5 b5 r l).trans (h5 r l)).same shapeCasts_S512x128_S512x128
  have s6 := (show Mat (φ := .f32) _ O from fun r l => (readAt_whole arg6 X6 b6 r l).trans (h6 r l)).same shapeCasts_S512x128_S512x128
  have s2 := ((show Mat (φ := .bf16) _ Q from fun r l => (readAt_whole arg2 X2 b2 r l).trans (h2 r l)).same shapeCasts_S512x128_S512x128).mul (eighth16 512 128)
  dsimp only
  refine ⟨?_, ?_, ?_, ?_, ?_⟩
  · exact Mat.sel m s2 (zero16 _ _)
  · exact Mat.sel m s5 (zero16 _ _)
  · exact gate_read i h8 1 b8 slices_S2x128_o1_0_S1x1
  · exact lse_read h7 1 b71
  · exact (Mat.sel m ((s5.ext bitsLt_bf16_f32).mul s6) (zero32 _ _)).rowSums reduces_S512x128_S512 shapeCasts_S512_S512x1
end

/-! What is stored of the carried values. -/

/-- A column stored as a row. -/
theorem column_row {v : FVec Ideal S512x1 .f32} {f : Fin 512 → ℝ} (h : Mat v fun r _ => f r) : Row (φ := .f32) (k0_pay2 v) f := fun j => by
  have hb := ((h.same shapeCasts_S512x1_S512x1).bcol broadcasts_S512x1_S512x128) j (0 : Fin 128)
  have e2 := transpose_apply (s := S512x128) (t := S128x512) [1, 0] (broadcastTo S512x128 (shapeCast S512x1 v shapeCasts_S512x1_S512x1) broadcasts_S512x1_S512x128)
    transposes_S512x128_p1_0_S128x512 (ix2 (0 : Fin 128) j) (ix2 j (0 : Fin 128)) (fun b => by
      match b with
      | ⟨0, _⟩ => rfl
      | ⟨1, _⟩ => rfl)
  have e1 := extractStridedSlice_apply (s := S128x512) (t := S1x512) ![0, 0] (transpose S128x512 [1, 0] (broadcastTo S512x128 (shapeCast S512x1 v shapeCasts_S512x1_S512x1) broadcasts_S512x1_S512x128)
    transposes_S512x128_p1_0_S128x512) slices_S128x512_o0_0_S1x512 (ix2 (0 : Fin 1) j) (ix2 (0 : Fin 128) j) (fun d => by
      match d with
      | ⟨0, _⟩ => rfl
      | ⟨1, _⟩ => show j.val = 0 + j.val; omega)
  have e0 := shapeCast_ab_1ab_apply (extractStridedSlice S1x512 ![0, 0] (transpose S128x512 [1, 0] (broadcastTo S512x128 (shapeCast S512x1 v shapeCasts_S512x1_S512x1) broadcasts_S512x1_S512x128)
    transposes_S512x128_p1_0_S128x512) slices_S128x512_o0_0_S1x512) shapeCasts_S1x512_S1x1x512 0 0 j
  exact e0.trans (e1.trans (e2.trans hb))

/-- Two rows stored one beside the other. -/
theorem two_rows {w0 w1 : Vec Ideal S1x1x512 .f32} {f : Fin 2 → Fin 512 → ℝ} (h0 : Row (φ := .f32) w0 (f 0)) (h1 : Row (φ := .f32) w1 (f 1))
    (b0 : ∀ d : Fin 3, (![0, 0, 0] : Fin 3 → ℕ) d + S1x1x512.size d ≤ S1x2x512.size d)
    (b1 : ∀ d : Fin 3, (![0, 1, 0] : Fin 3 → ℕ) d + S1x1x512.size d ≤ S1x2x512.size d) :
    Pair (View.canon [(⟨Rect.unit (s := S1x2x512) ![0, 1, 0] S1x1x512.size b1, w1⟩ : View.Piece (Elt Ideal) S1x2x512 .f32), ⟨Rect.unit (s := S1x2x512) ![0, 0, 0] S1x1x512.size b0, w0⟩]) f := fun h j => by
  match h with
  | ⟨1, _⟩ =>
    have e : (ix3 (0 : Fin 1) (1 : Fin 2) j : S1x2x512.Idx) = (Rect.unit (s := S1x2x512) ![0, 1, 0] S1x1x512.size b1).emb (ix3 (0 : Fin 1) (0 : Fin 1) j) := by
      funext d
      match d with
      | ⟨0, _⟩ => exact Fin.ext rfl
      | ⟨1, _⟩ => exact Fin.ext rfl
      | ⟨2, _⟩ => exact Fin.ext (by show j.val = 0 + 1 * j.val; omega)
    have e2 := View.canon_cons_emb (Val := Elt Ideal) (e := .f32) (Rect.unit (s := S1x2x512) ![0, 1, 0] S1x1x512.size b1) w1
      [⟨Rect.unit (s := S1x2x512) ![0, 0, 0] S1x1x512.size b0, w0⟩] (ix3 (0 : Fin 1) (0 : Fin 1) j)
    rw [← e] at e2
    exact e2.trans (h1 j)
  | ⟨0, _⟩ =>
    have e : (ix3 (0 : Fin 1) (0 : Fin 2) j : S1x2x512.Idx) = (Rect.unit (s := S1x2x512) ![0, 0, 0] S1x1x512.size b0).emb (ix3 (0 : Fin 1) (0 : Fin 1) j) := by
      funext d
      match d with
      | ⟨0, _⟩ => exact Fin.ext rfl
      | ⟨1, _⟩ => exact Fin.ext rfl
      | ⟨2, _⟩ => exact Fin.ext (by show j.val = 0 + 1 * j.val; omega)
    have hn : (ix3 (0 : Fin 1) (0 : Fin 2) j : S1x2x512.Idx) ∉ (Rect.unit (s := S1x2x512) ![0, 1, 0] S1x1x512.size b1).set := fun hm => by
      obtain ⟨x, hx⟩ := (Rect.unit (s := S1x2x512) ![0, 1, 0] S1x1x512.size b1).exists_idx_of_mem hm
      have h1 : 1 + 1 * (x 1).val = 0 := congrArg (fun z : S1x2x512.Idx => (z 1).val) hx
      omega
    have e1 := View.canon_cons_of_not_mem (⟨Rect.unit (s := S1x2x512) ![0, 1, 0] S1x1x512.size b1, w1⟩ : View.Piece (Elt Ideal) S1x2x512 .f32)
      [⟨Rect.unit (s := S1x2x512) ![0, 0, 0] S1x1x512.size b0, w0⟩] (y := ix3 (0 : Fin 1) (0 : Fin 2) j) hn
    have e2 := View.canon_cons_emb (Val := Elt Ideal) (e := .f32) (Rect.unit (s := S1x2x512) ![0, 0, 0] S1x1x512.size b0) w0 [] (ix3 (0 : Fin 1) (0 : Fin 1) j)
    rw [← e] at e2
    exact e1.trans (e2.trans (h0 j))

/-- What a point has stored: the queries' derivative and the rows' sums of the block, and the three buffers it adds to. -/
structure Done (B : Fin 2 → Blk) (K : Fin 8192 → Fin 128 → ℝ) (Z P : Fin 2 → Fin 512 → Fin 8192 → ℝ) (c : Fin 2 → Fin 8192 → ℝ)
    (k v : Fin 8192 → Fin 128 → ℝ) (N : ℕ) (dq : Vec Ideal S512x128 .bf16) (dcq : Vec Ideal S1x2x512 .f32)
    (d12 : Vec Ideal S1x2x8192 .f32) (d14 d15 : Vec Ideal S8192x128 .f32) : Prop where
  dq : Mat (φ := .bf16) dq fun r l => (upto N (fun j => Z 0 r j * kh 0 K j l) + upto N (fun j => Z 1 r j * kh 1 K j l)) * (1 / 8)
  dcq : Pair dcq fun h r => upto N (Z h r)
  dc : Pair d12 fun h j => c h j - if j.val < N then ∑ r, Z h r j else 0
  dk : Mat (φ := .f32) d14 fun j l => k j l + if j.val < N then (∑ r, Z 0 r j * (B 0).q r l) + ∑ r, Z 1 r j * (B 1).q r l else 0
  dv : Mat (φ := .f32) d15 fun j l => v j l + if j.val < N then (∑ r, P 0 r j * (B 0).g r l) + ∑ r, P 1 r j * (B 1).g r l else 0

theorem Covered.done {B : Fin 2 → Blk} {K : Fin 8192 → Fin 128 → ℝ} {Z P : Fin 2 → Fin 512 → Fin 8192 → ℝ} {c : Fin 2 → Fin 8192 → ℝ}
    {k v : Fin 8192 → Fin 128 → ℝ} {N : ℕ} {acc : Carried Ideal} {d12 : Vec Ideal S1x2x8192 .f32} {d14 d15 : Vec Ideal S8192x128 .f32}
    (h : Covered B K Z P c k v N acc d12 d14 d15) (b9 : ∀ d : Fin 2, (![0, 0] : Fin 2 → ℕ) d + S512x128.size d ≤ S512x128.size d)
    (b0 : ∀ d : Fin 3, (![0, 0, 0] : Fin 3 → ℕ) d + S1x1x512.size d ≤ S1x2x512.size d)
    (b1 : ∀ d : Fin 3, (![0, 1, 0] : Fin 3 → ℕ) d + S1x1x512.size d ≤ S1x2x512.size d) :
    Done B K Z P c k v N
      (View.canon [(⟨Rect.unit (s := S512x128) ![0, 0] S512x128.size b9, truncf .bf16 (mulf acc.1 (broadcast S512x128 (Scalar.ofBits (F := Ideal) .f32 0x3E000000#32))) bitsLt_bf16_f32⟩ : View.Piece (Elt Ideal) S512x128 .bf16)])
      (View.canon [(⟨Rect.unit (s := S1x2x512) ![0, 1, 0] S1x1x512.size b1, k0_pay2 acc.2.2⟩ : View.Piece (Elt Ideal) S1x2x512 .f32), ⟨Rect.unit (s := S1x2x512) ![0, 0, 0] S1x1x512.size b0, k0_pay2 acc.2.1⟩])
      d12 d14 d15 where
  dq := by
    rw [View.canon_unit_zero (S := S512x128) Cert.IdxReads.hz2]
    exact (h.dq.mul (eighth32 512 128)).trunc bitsLt_bf16_f32
  dcq := two_rows (f := fun h r => upto N (Z h r)) (column_row h.r0) (column_row h.r1) b0 b1
  dc := h.dc
  dk := h.dk
  dv := h.dv

/-- Nothing is covered yet. -/
theorem Covered.start {B : Fin 2 → Blk} {K : Fin 8192 → Fin 128 → ℝ} {Z P : Fin 2 → Fin 512 → Fin 8192 → ℝ} {c : Fin 2 → Fin 8192 → ℝ}
    {k v : Fin 8192 → Fin 128 → ℝ} {d12 : Vec Ideal S1x2x8192 .f32} {d14 d15 : Vec Ideal S8192x128 .f32}
    (hc : Pair d12 c) (hk : Mat (φ := .f32) d14 k) (hv : Mat (φ := .f32) d15 v) :
    Covered B K Z P c k v 0 (k0_pay115, k0_pay114, k0_pay114) d12 d14 d15 where
  dq := (zero32 512 128).congr fun r l => by rw [upto_zero, upto_zero, add_zero]
  r0 := (zero32 512 1).congr fun r _ => (upto_zero _).symm
  r1 := (zero32 512 1).congr fun r _ => (upto_zero _).symm
  dc := fun h j => (hc h j).trans (congrArg _ (by beta_reduce; rw [if_neg (Nat.not_lt_zero _), sub_zero]))
  dk := hk.congr fun j l => by rw [if_neg (Nat.not_lt_zero _), add_zero]
  dv := hv.congr fun j l => by rw [if_neg (Nat.not_lt_zero _), add_zero]

end Cert.AttnIdeal.Hand

end
-- ==== Proof.AttnFirst.lean ====
/-
  A point of the attention gradient over real numbers: the first block of queries.
-/
module

public import proofs.«01_k».proof.Proof.AttnHeads
public import proofs.«01_k».proof.Proof.AttnRunFirst
public import Idealize.ShloMosaic.Lib.Pipeline.Value

@[expose] public section

set_option maxRecDepth 16384
set_option maxHeartbeats 10000000

noncomputable section

namespace Cert.AttnIdeal.Hand

open Idealize.ShloMosaic Idealize.ShloMosaic.TcCoe Idealize.ShloMosaic.ValueIdx
open Idealize.SL.Sem
open Cert.AttnIdeal.Gen Cert.RealMat Cert.AttnStep Cert.SoftmaxReads
open scoped BigOperators

/-- Both heads' rows filled whole. -/
theorem filled_pair (M : Memref sig .tc .vmem S1x2x8192 .f32) (f : M.view.ty.Contents (Elt Ideal))
    (inb : ∀ d : Fin 3, (![0, 0, 0] : Fin 3 → ℕ) d + S1x2x8192.size d ≤ S1x2x8192.size d) (w : Vec Ideal S1x2x8192 .f32)
    {D : Fin 2 → Fin 8192 → ℝ} (hw : Pair w D) :
    Pair (M.view.read (Elt Ideal) (M.view.writes (Elt Ideal) f [(⟨Rect.unit (s := S1x2x8192) ![0, 0, 0] S1x2x8192.size inb, w⟩ : View.Piece (Elt Ideal) S1x2x8192 .f32)])) D :=
  fun h j => (View.read_writes_cons_unit_of_mem M.view f inb w [] (ix3 0 h j) (ix3 0 h j) rfl fun d => by fin_cases d <;> exact (Nat.zero_add _).symm).trans (hw h j)

/-- All rows filled whole. -/
theorem filled_rows (M : Memref sig .tc .vmem S8192x128 .f32) (f : M.view.ty.Contents (Elt Ideal))
    (inb : ∀ d : Fin 2, (![0, 0] : Fin 2 → ℕ) d + S8192x128.size d ≤ S8192x128.size d) (w : Vec Ideal S8192x128 .f32)
    {D : Fin 8192 → Fin 128 → ℝ} (hw : Mat (φ := .f32) w D) :
    Mat (φ := .f32) (M.view.read (Elt Ideal) (M.view.writes (Elt Ideal) f [(⟨Rect.unit (s := S8192x128) ![0, 0] S8192x128.size inb, w⟩ : View.Piece (Elt Ideal) S8192x128 .f32)])) D :=
  fun r l => (View.read_writes_cons_unit_of_mem M.view f inb w [] (ix2 r l) (ix2 r l) rfl fun d => by fin_cases d <;> exact (Nat.zero_add _).symm).trans (hw r l)

/-- The zero fill, through its cast to its own shape. -/
theorem zero_cast : Mat (φ := .f32) (shapeCast S8192x128 (broadcast S8192x128 (Scalar.ofBits (F := Ideal) .f32 0x00000000#32)) shapeCasts_S8192x128_S8192x128 : FVec Ideal S8192x128 .f32) fun _ _ => 0 := by
  rw [shapeCast_self]
  exact zero32 8192 128

/-- The zero fill of both heads. -/
theorem zero_pair : Pair (N := 8192) (k0_pay95 (F := Ideal)) fun _ _ => 0 := fun _ _ => Cert.Laws.word_zero.trans EReal.coe_zero.symm

/-- Two stores after the others. -/
theorem two_more {sig : RefSig} {κ : Kind} {sp : Space} {s : Shape} {e : EltTy} (V : View sig κ sp s e) (f : V.ty.Contents (Elt Ideal)) (a b : View.Piece (Elt Ideal) s e) (L : List (View.Piece (Elt Ideal) s e)) :
    V.writes (Elt Ideal) f (a :: b :: L) = V.writes (Elt Ideal) (V.writes (Elt Ideal) f L) [a, b] := rfl

/-- One store after the others. -/
theorem one_more {sig : RefSig} {κ : Kind} {sp : Space} {s : Shape} {e : EltTy} (V : View sig κ sp s e) (f : V.ty.Contents (Elt Ideal)) (a : View.Piece (Elt Ideal) s e) (L : List (View.Piece (Elt Ideal) s e)) :
    V.writes (Elt Ideal) f (a :: L) = V.writes (Elt Ideal) (V.writes (Elt Ideal) f L) [a] := rfl

/-- The same sums, their bound named otherwise. -/
theorem Covered.at {B : Fin 2 → Blk} {K : Fin 8192 → Fin 128 → ℝ} {Z P : Fin 2 → Fin 512 → Fin 8192 → ℝ} {c : Fin 2 → Fin 8192 → ℝ}
    {k v : Fin 8192 → Fin 128 → ℝ} {N N' : ℕ} {acc : Carried Ideal} {d12 : Vec Ideal S1x2x8192 .f32} {d14 d15 : Vec Ideal S8192x128 .f32}
    (h : Covered B K Z P c k v N acc d12 d14 d15) (e : N = N') : Covered B K Z P c k v N' acc d12 d14 d15 := e ▸ h

variable (c : Dev nD) (i : grid0.Coords)
  (a2 : Memref sig .tc .vmem S512x128 .bf16) (w2 : a2.IsWhole)
  (a3 : Memref sig .tc .vmem S8192x128 .bf16) (w3 : a3.IsWhole)
  (a4 : Memref sig .tc .vmem S8192x128 .bf16) (w4 : a4.IsWhole)
  (a5 : Memref sig .tc .vmem S512x128 .bf16) (w5 : a5.IsWhole)
  (a6 : Memref sig .tc .vmem S512x128 .f32) (w6 : a6.IsWhole)
  (a7 : Memref sig .tc .vmem S2x512x1 .f32) (w7 : a7.IsWhole)
  (a8 : Memref sig .tc .vmem S1x2x8192 .f32) (w8 : a8.IsWhole)
  (a9 : Memref sig .tc .vmem S512x128 .bf16) (w9 : a9.IsWhole)
  (a10 : Memref sig .tc .vmem S8192x128 .bf16) (w10 : a10.IsWhole)
  (a11 : Memref sig .tc .vmem S8192x128 .bf16) (w11 : a11.IsWhole)
  (a12 : Memref sig .tc .vmem S1x2x8192 .f32) (w12 : a12.IsWhole)
  (a13 : Memref sig .tc .vmem S1x2x512 .f32) (w13 : a13.IsWhole)
  (a14 : Memref sig .tc .vmem S8192x128 .f32) (w14 : a14.IsWhole)
  (a15 : Memref sig .tc .vmem S8192x128 .f32) (w15 : a15.IsWhole)

/-- The first point. -/
theorem runFirst_done (hc0 : First i) (hc1 : ¬Last i)
    {x2 : Vec Ideal S512x128 .bf16} {x3 x4 : Vec Ideal S8192x128 .bf16} {x5 : Vec Ideal S512x128 .bf16} {x6 : Vec Ideal S512x128 .f32}
    {x7 : Vec Ideal S2x512x1 .f32} {x8 : Vec Ideal S1x2x8192 .f32}
    {Q G O : Fin 512 → Fin 128 → ℝ} {S : Fin 2 → Fin 512 → ℝ} {C : Fin 2 → Fin 8192 → ℝ} {K V : Fin 8192 → Fin 128 → ℝ}
    (h2 : Mat (φ := .bf16) x2 Q) (h3 : Mat (φ := .bf16) x3 K) (h4 : Mat (φ := .bf16) x4 V) (h5 : Mat (φ := .bf16) x5 G) (h6 : Mat (φ := .f32) x6 O)
    (h7 : ∀ (h : Fin 2) (r : Fin 512), (x7 (ix3 h r 0) : EReal) = ((S h r : ℝ) : EReal)) (h8 : Pair x8 C)  :
    let R := runFirst (F := Ideal) c i a2 w2 a3 w3 a4 w4 a5 w5 a6 w6 a7 w7 a8 w8 a9 w9 a10 w10 a11 w11 a12 w12 a13 w13 a14 w14 a15 w15 hc0 hc1 x2 x3 x4 x5 x6 x7 x8
    Done (blockOf (i 1).val (coord_lt i) Q G O S C) K (fun h => seen (i 1).val (dz ((blockOf (i 1).val (coord_lt i) Q G O S C) h) K V (C h))) (fun h => seen (i 1).val (pr ((blockOf (i 1).val (coord_lt i) Q G O S C) h) K (C h))) (fun _ _ => 0) (fun _ _ => 0) (fun _ _ => 0) (512 * (i 1).val + 512) (View.canon R.1) (View.canon R.2.1)
      (a12.view.read (Elt Ideal) R.2.2.1) (a14.view.read (Elt Ideal) R.2.2.2.1) (a15.view.read (Elt Ideal) R.2.2.2.2.1) := by
  have r2 := w2.read_unread x2
  rw [← r2] at h2
  have r3 := w3.read_unread x3
  rw [← r3] at h3
  have r4 := w4.read_unread x4
  rw [← r4] at h4
  have r5 := w5.read_unread x5
  rw [← r5] at h5
  have r6 := w6.read_unread x6
  rw [← r6] at h6
  have r7 := w7.read_unread x7
  rw [← r7] at h7
  have r8 := w8.read_unread x8
  rw [← r8] at h8
  have B0 := head0 i h2 h5 h6 h7 h8 inb_S512x128_S512x128_0_0 inb_S512x128_S512x128_0_0 inb_S512x128_S512x128_0_0 inb_S2x512x1_S1x512x1_0_0_0 (by rw [off1_eq]; intro d; fin_cases d <;> simp <;> omega)
  have B1 := head1 i h2 h5 h6 h7 h8 inb_S512x128_S512x128_0_0 inb_S512x128_S512x128_0_0 inb_S512x128_S512x128_0_0 inb_S2x512x1_S1x512x1_1_0_0 (by rw [off1_eq]; intro d; fin_cases d <;> simp <;> omega)
  have b14 : ∀ d : Fin 2, k0_off14 i d + S512x128.size d ≤ S8192x128.size d := (by rw [off14_eq]; intro d; fin_cases d <;> simp <;> omega)
  have b15 : ∀ d : Fin 3, k0_off15 i d + S1x1x512.size d ≤ S1x2x8192.size d := (by rw [off15_eq]; intro d; fin_cases d <;> simp <;> omega)
  have b16 : ∀ d : Fin 3, k0_off16 i d + S1x1x512.size d ≤ S1x2x8192.size d := (by rw [off16_eq]; intro d; fin_cases d <;> simp <;> omega)
  have e12 : Pair (a12.view.read (Elt Ideal) (a12.view.writes (Elt Ideal) a12.view.junk (runFirst.sl.H12_1 (F := Ideal)))) fun _ _ => 0 := filled_pair a12 _ _ _ fun h j => zero_pair h j
  have e14 : Mat (φ := .f32) (a14.view.read (Elt Ideal) (a14.view.writes (Elt Ideal) a14.view.junk (runFirst.sl.H14_1 (F := Ideal)))) fun _ _ => 0 := filled_rows a14 _ _ _ zero_cast
  have e15 : Mat (φ := .f32) (a15.view.read (Elt Ideal) (a15.view.writes (Elt Ideal) a15.view.junk (runFirst.sl.H14_1 (F := Ideal)))) fun _ _ => 0 := filled_rows a15 _ _ _ zero_cast
  have z : 512 * (i 1).val = 0 := by rw [first_zero hc0]
  have s0 := Covered.start (B := (blockOf (i 1).val (coord_lt i) Q G O S C)) (K := K) (Z := (fun h => seen (i 1).val (dz ((blockOf (i 1).val (coord_lt i) Q G O S C) h) K V (C h)))) (P := (fun h => seen (i 1).val (pr ((blockOf (i 1).val (coord_lt i) Q G O S C) h) K (C h)))) e12 e14 e15
  have s1 := s0.at z.symm
  have m := masked_covered i h3 h4 h8 B0 B1 b14 b15 b16 _ _ _ _ s1 (a12.view.readAt (Elt Ideal) (Rect.unit (s := S1x2x8192) (k0_off16 i) S1x1x512.size b16).toLoadRect (a12.view.writes (Elt Ideal) a12.view.junk (runFirst.sl.H12_2 (F := Ideal) c i a2 w2 a3 w3 a4 w4 a5 w5 a6 w6 a7 w7 a8 w8 a12 x2 x3 x4 x5 x6 x7 x8)))
    (fun j => (readAt_row a12.view _ 1 (off16_eq i) b16 (by have := coord_lt i; omega) j).trans
      (View.read_writes_cons_unit_of_not_mem a12.view _ b15 _ _ _ (off15_eq i) 1 (Or.inr (Nat.le_refl 1))))
  delta runFirst runFirst.sl.H12_2
  dsimp only
  rw [two_more a12.view, one_more a14.view, one_more a15.view]
  exact m.done inb_S512x128_S512x128_0_0 inb_S1x2x512_S1x1x512_0_0_0 inb_S1x2x512_S1x1x512_0_1_0

end Cert.AttnIdeal.Hand

end
-- ==== Proof.AttnLoopsCover.lean ====
/-
  A point of the attention gradient over real numbers: its loops, and the whole point at the first, a middle and the last
  block of queries.
-/
module

public import proofs.«01_k».proof.Proof.AttnHeads
public import proofs.«01_k».proof.Proof.AttnRun
public import Idealize.ShloMosaic.Lib.Pipeline.Value

@[expose] public section

set_option maxRecDepth 16384
set_option maxHeartbeats 10000000

noncomputable section

namespace Cert.AttnIdeal.Hand

open Idealize.ShloMosaic Idealize.ShloMosaic.TcCoe Idealize.ShloMosaic.ValueIdx
open Idealize.SL.Sem
open Cert.AttnIdeal.Gen Cert.RealMat Cert.AttnStep Cert.SoftmaxReads
open scoped BigOperators

section
variable {a12 : Memref sig .tc .vmem S1x2x8192 .f32} {a14 a15 : Memref sig .tc .vmem S8192x128 .f32}

/-- What a loop of `n` trips leaves: `t`, or `s` kept as it was where there is no trip. -/
def kept (n : ℕ) (s t : Handed Ideal a12 a14 a15) : Handed Ideal a12 a14 a15 :=
  (past n s.1 t.1, past n s.2.1 t.2.1, past n s.2.2.1 t.2.2.1, past n s.2.2.2 t.2.2.2)

theorem kept_eq (n : ℕ) (s t : Handed Ideal a12 a14 a15) (h : n = 0 → t = s) : kept n s t = t := by
  unfold kept
  rw [past_eq n s.1 t.1 (fun e => by rw [h e]), past_eq n s.2.1 t.2.1 (fun e => by rw [h e]),
    past_eq n s.2.2.1 t.2.2.1 (fun e => by rw [h e]), past_eq n s.2.2.2 t.2.2.2 (fun e => by rw [h e])]
end

/-- `Covered` of what is handed on. -/
def CoveredBy {a12 : Memref sig .tc .vmem S1x2x8192 .f32} {a14 a15 : Memref sig .tc .vmem S8192x128 .f32} (B : Fin 2 → Blk) (K : Fin 8192 → Fin 128 → ℝ) (Z P : Fin 2 → Fin 512 → Fin 8192 → ℝ) (c : Fin 2 → Fin 8192 → ℝ)
    (k v : Fin 8192 → Fin 128 → ℝ) (N : ℕ) (s : Handed Ideal a12 a14 a15) : Prop :=
  Covered B K Z P c k v N s.1 (a12.view.read (Elt Ideal) s.2.1) (a14.view.read (Elt Ideal) s.2.2.1) (a15.view.read (Elt Ideal) s.2.2.2)

theorem CoveredBy.kept {a12 : Memref sig .tc .vmem S1x2x8192 .f32} {a14 a15 : Memref sig .tc .vmem S8192x128 .f32} {B : Fin 2 → Blk} {K : Fin 8192 → Fin 128 → ℝ} {Z P : Fin 2 → Fin 512 → Fin 8192 → ℝ}
    {c : Fin 2 → Fin 8192 → ℝ} {k v : Fin 8192 → Fin 128 → ℝ} {N n : ℕ} {s t : Handed Ideal a12 a14 a15} (h : CoveredBy B K Z P c k v N t)
    (e : n = 0 → t = s) : CoveredBy B K Z P c k v N (kept n s t) := by
  rw [kept_eq n s t e]; exact h

variable (𝒱 : Variants) (c : Dev nD) (bd : Option 𝒱.V) (i : grid0.Coords)
  (a2 : Memref sig .tc .vmem S512x128 .bf16) (w2 : a2.IsWhole)
  (a3 : Memref sig .tc .vmem S8192x128 .bf16) (w3 : a3.IsWhole)
  (a4 : Memref sig .tc .vmem S8192x128 .bf16) (w4 : a4.IsWhole)
  (a5 : Memref sig .tc .vmem S512x128 .bf16) (w5 : a5.IsWhole)
  (a6 : Memref sig .tc .vmem S512x128 .f32) (w6 : a6.IsWhole)
  (a7 : Memref sig .tc .vmem S2x512x1 .f32) (w7 : a7.IsWhole)
  (a8 : Memref sig .tc .vmem S1x2x8192 .f32) (w8 : a8.IsWhole)
  (a9 : Memref sig .tc .vmem S512x128 .bf16) (w9 : a9.IsWhole)
  (a10 : Memref sig .tc .vmem S8192x128 .bf16) (w10 : a10.IsWhole)
  (a11 : Memref sig .tc .vmem S8192x128 .bf16) (w11 : a11.IsWhole)
  (a12 : Memref sig .tc .vmem S1x2x8192 .f32) (w12 : a12.IsWhole)
  (a13 : Memref sig .tc .vmem S1x2x512 .f32) (w13 : a13.IsWhole)
  (a14 : Memref sig .tc .vmem S8192x128 .f32) (w14 : a14.IsWhole)
  (a15 : Memref sig .tc .vmem S8192x128 .f32) (w15 : a15.IsWhole)

section
variable (v8 : FVec Ideal S512x128 .bf16) (v38 : IVec S512x128 1) (v65 : IVec S512x128 1) (v67 : FVec Ideal S512x128 .bf16) (v69 : FVec Ideal S512x128 .bf16) (v71 : FVec Ideal S512x128 .bf16) (v73 : FVec Ideal S512x128 .bf16) (v79 : FVec Ideal S1x1 .f32) (v80 : FVec Ideal S1x1 .f32) (v82 : FVec Ideal S512x1 .f32) (v83 : Vec Ideal S1x512x1 .f32) (v86 : Vec Ideal S512x128 .f32)

/-- Both loops cover the keys before the block. -/
theorem loops_covered (X3 : Held Ideal a3) (X4 : Held Ideal a4) (X8 : Held Ideal a8) (v123 : BitVec 32)
    {B : Fin 2 → Blk} {K V : Fin 8192 → Fin 128 → ℝ} {C : Fin 2 → Fin 8192 → ℝ} {c0 : Fin 2 → Fin 8192 → ℝ} {k0 v0 : Fin 8192 → Fin 128 → ℝ}
    (h3 : Mat (φ := .bf16) (a3.view.read (Elt Ideal) X3) K) (h4 : Mat (φ := .bf16) (a4.view.read (Elt Ideal) X4) V)
    (h8 : Pair (a8.view.read (Elt Ideal) X8) C)
    (hB0 : IsBlk v67 v71 v79 v82 (k0_pay112 v8 v38 v86) (B 0)) (hB1 : IsBlk v69 v73 v80 (k0_pay110 v83) (k0_pay113 v8 v65 v86) (B 1))
    (s : Handed Ideal a12 a14 a15)
    (hs : CoveredBy B K (fun h => seen (i 1).val (dz (B h) K V (C h))) (fun h => seen (i 1).val (pr (B h) K (C h))) c0 k0 v0 0 s) :
    let s1 := kept (k0_t1_loop i).trips s (st1 (F := Ideal) 𝒱 c bd i a2 w2 a3 w3 a4 w4 a5 w5 a6 w6 a7 w7 a8 w8 a9 w9 a10 w10 a11 w11 a12 w12 a13 w13 a14 w14 a15 w15 v8 v38 v65 v67 v69 v71 v73 v79 v80 v82 v83 v86 X3 X4 X8 s (k0_t1_loop i).trips)
    let s3 := kept (k0_t3_loop i).trips s1 (st3 (F := Ideal) 𝒱 c bd i a2 w2 a3 w3 a4 w4 a5 w5 a6 w6 a7 w7 a8 w8 a9 w9 a10 w10 a11 w11 a12 w12 a13 w13 a14 w14 a15 w15 v67 v69 v71 v73 v79 v80 v82 (k0_pay110 v83) (k0_pay112 v8 v38 v86) (k0_pay113 v8 v65 v86) s1.1.1 s1.1.2.1 s1.1.2.2 v123 X3 X4 X8 s1 (k0_t3_loop i).trips)
    CoveredBy B K (fun h => seen (i 1).val (dz (B h) K V (C h))) (fun h => seen (i 1).val (pr (B h) K (C h))) c0 k0 v0 (512 * (i 1).val) s3 := by
  have c1 := st1_covered 𝒱 c bd i a2 w2 a3 w3 a4 w4 a5 w5 a6 w6 a7 w7 a8 w8 a9 w9 a10 w10 a11 w11 a12 w12 a13 w13 a14 w14 a15 w15 v8 v38 v65 v67 v69 v71 v73 v79 v80 v82 v83 v86 X3 X4 X8 h3 h4 h8 hB0 hB1
    (fun h r j hj => seen_before hj) (fun h r j hj => seen_before hj) s hs _ (Nat.le_refl _)
  have e1 : 1024 * (k0_t1_loop i).trips = 1024 * ((i 1).val / 2) := congrArg (1024 * ·) (trips1 i)
  rw [e1] at c1
  intro s1 s3
  have c1' : CoveredBy B K (fun h => seen (i 1).val (dz (B h) K V (C h))) (fun h => seen (i 1).val (pr (B h) K (C h))) c0 k0 v0 (1024 * ((i 1).val / 2)) s1 :=
    CoveredBy.kept (t := st1 (F := Ideal) 𝒱 c bd i a2 w2 a3 w3 a4 w4 a5 w5 a6 w6 a7 w7 a8 w8 a9 w9 a10 w10 a11 w11 a12 w12 a13 w13 a14 w14 a15 w15 v8 v38 v65 v67 v69 v71 v73 v79 v80 v82 v83 v86 X3 X4 X8 s (k0_t1_loop i).trips) c1 (fun h => by rw [h]; exact st1_zero ..)
  clear_value s1
  have c3 := st3_covered 𝒱 c bd i a2 w2 a3 w3 a4 w4 a5 w5 a6 w6 a7 w7 a8 w8 a9 w9 a10 w10 a11 w11 a12 w12 a13 w13 a14 w14 a15 w15 v67 v69 v71 v73 v79 v80 v82 (k0_pay110 v83) (k0_pay112 v8 v38 v86) (k0_pay113 v8 v65 v86) s1.1.1 s1.1.2.1 s1.1.2.2 v123 X3 X4 X8 h3 h4 h8 hB0 hB1
    (fun h r j hj => seen_before hj) (fun h r j hj => seen_before hj) s1 c1' _ (Nat.le_refl _)
  have e3 : 1024 * ((i 1).val / 2) + 512 * (k0_t3_loop i).trips = 512 * (i 1).val := by rw [trips3]; omega
  rw [e3] at c3
  exact CoveredBy.kept (t := st3 (F := Ideal) 𝒱 c bd i a2 w2 a3 w3 a4 w4 a5 w5 a6 w6 a7 w7 a8 w8 a9 w9 a10 w10 a11 w11 a12 w12 a13 w13 a14 w14 a15 w15 v67 v69 v71 v73 v79 v80 v82 (k0_pay110 v83) (k0_pay112 v8 v38 v86) (k0_pay113 v8 v65 v86) s1.1.1 s1.1.2.1 s1.1.2.2 v123 X3 X4 X8 s1 (k0_t3_loop i).trips) c3 (fun h => by rw [h]; exact st3_zero ..)
end

end Cert.AttnIdeal.Hand

end
-- ==== Proof.AttnMid.lean ====
/-
  A point of the attention gradient over real numbers: a middle block of queries.
-/
module

public import proofs.«01_k».proof.Proof.AttnLoopsCover
public import proofs.«01_k».proof.Proof.AttnRun
public import Idealize.ShloMosaic.Lib.Pipeline.Value

@[expose] public section

set_option maxRecDepth 16384
set_option maxHeartbeats 10000000

noncomputable section

namespace Cert.AttnIdeal.Hand

open Idealize.ShloMosaic Idealize.ShloMosaic.TcCoe Idealize.ShloMosaic.ValueIdx
open Idealize.SL.Sem
open Cert.AttnIdeal.Gen Cert.RealMat Cert.AttnStep Cert.SoftmaxReads
open scoped BigOperators

variable (c : Dev nD) (i : grid0.Coords)
  (a2 : Memref sig .tc .vmem S512x128 .bf16) (w2 : a2.IsWhole)
  (a3 : Memref sig .tc .vmem S8192x128 .bf16) (w3 : a3.IsWhole)
  (a4 : Memref sig .tc .vmem S8192x128 .bf16) (w4 : a4.IsWhole)
  (a5 : Memref sig .tc .vmem S512x128 .bf16) (w5 : a5.IsWhole)
  (a6 : Memref sig .tc .vmem S512x128 .f32) (w6 : a6.IsWhole)
  (a7 : Memref sig .tc .vmem S2x512x1 .f32) (w7 : a7.IsWhole)
  (a8 : Memref sig .tc .vmem S1x2x8192 .f32) (w8 : a8.IsWhole)
  (a9 : Memref sig .tc .vmem S512x128 .bf16) (w9 : a9.IsWhole)
  (a10 : Memref sig .tc .vmem S8192x128 .bf16) (w10 : a10.IsWhole)
  (a11 : Memref sig .tc .vmem S8192x128 .bf16) (w11 : a11.IsWhole)
  (a12 : Memref sig .tc .vmem S1x2x8192 .f32) (w12 : a12.IsWhole)
  (a13 : Memref sig .tc .vmem S1x2x512 .f32) (w13 : a13.IsWhole)
  (a14 : Memref sig .tc .vmem S8192x128 .f32) (w14 : a14.IsWhole)
  (a15 : Memref sig .tc .vmem S8192x128 .f32) (w15 : a15.IsWhole)

/-- A middle point. -/
theorem runMid_done (hc0 : ¬First i) (hc1 : ¬Last i)
    {x2 : Vec Ideal S512x128 .bf16} {x3 x4 : Vec Ideal S8192x128 .bf16} {x5 : Vec Ideal S512x128 .bf16} {x6 : Vec Ideal S512x128 .f32}
    {x7 : Vec Ideal S2x512x1 .f32} {x8 : Vec Ideal S1x2x8192 .f32} {x12 : Vec Ideal S1x2x8192 .f32} {x14 x15 : Vec Ideal S8192x128 .f32}
    {Q G O : Fin 512 → Fin 128 → ℝ} {S : Fin 2 → Fin 512 → ℝ} {C : Fin 2 → Fin 8192 → ℝ} {K V : Fin 8192 → Fin 128 → ℝ} {c0 : Fin 2 → Fin 8192 → ℝ} {k0 v0 : Fin 8192 → Fin 128 → ℝ}
    (h2 : Mat (φ := .bf16) x2 Q) (h3 : Mat (φ := .bf16) x3 K) (h4 : Mat (φ := .bf16) x4 V) (h5 : Mat (φ := .bf16) x5 G) (h6 : Mat (φ := .f32) x6 O)
    (h7 : ∀ (h : Fin 2) (r : Fin 512), (x7 (ix3 h r 0) : EReal) = ((S h r : ℝ) : EReal)) (h8 : Pair x8 C) (h12 : Pair x12 c0) (h14 : Mat (φ := .f32) x14 k0) (h15 : Mat (φ := .f32) x15 v0) :
    let R := runMid (F := Ideal) c i a2 w2 a3 w3 a4 w4 a5 w5 a6 w6 a7 w7 a8 w8 a9 w9 a10 w10 a11 w11 a12 w12 a13 w13 a14 w14 a15 w15 hc0 hc1 x2 x3 x4 x5 x6 x7 x8 x12 x14 x15
    Done (blockOf (i 1).val (coord_lt i) Q G O S C) K (fun h => seen (i 1).val (dz ((blockOf (i 1).val (coord_lt i) Q G O S C) h) K V (C h))) (fun h => seen (i 1).val (pr ((blockOf (i 1).val (coord_lt i) Q G O S C) h) K (C h))) c0 k0 v0 (512 * (i 1).val + 512) (View.canon R.1) (View.canon R.2.1)
      (a12.view.read (Elt Ideal) R.2.2.1) (a14.view.read (Elt Ideal) R.2.2.2.1) (a15.view.read (Elt Ideal) R.2.2.2.2.1) := by
  have r2 := w2.read_unread x2
  rw [← r2] at h2
  have r3 := w3.read_unread x3
  rw [← r3] at h3
  have r4 := w4.read_unread x4
  rw [← r4] at h4
  have r5 := w5.read_unread x5
  rw [← r5] at h5
  have r6 := w6.read_unread x6
  rw [← r6] at h6
  have r7 := w7.read_unread x7
  rw [← r7] at h7
  have r8 := w8.read_unread x8
  rw [← r8] at h8
  have B0 := head0 i h2 h5 h6 h7 h8 inb_S512x128_S512x128_0_0 inb_S512x128_S512x128_0_0 inb_S512x128_S512x128_0_0 inb_S2x512x1_S1x512x1_0_0_0 (by rw [off1_eq]; intro d; fin_cases d <;> simp <;> omega)
  have B1 := head1 i h2 h5 h6 h7 h8 inb_S512x128_S512x128_0_0 inb_S512x128_S512x128_0_0 inb_S512x128_S512x128_0_0 inb_S2x512x1_S1x512x1_1_0_0 (by rw [off1_eq]; intro d; fin_cases d <;> simp <;> omega)
  have s0 := loops_covered Variants.none c none i a2 w2 a3 w3 a4 w4 a5 w5 a6 w6 a7 w7 a8 w8 a9 w9 a10 w10 a11 w11 a12 w12 a13 w13 a14 w14 a15 w15 _ _ _ _ _ _ _ _ _ _ _ _ (w3.unread x3) (w4.unread x4) (w8.unread x8) (runMid.sl.v123 i) h3 h4 h8 B0 B1
    ((k0_pay115, k0_pay114, k0_pay114), w12.unread x12, w14.unread x14, w15.unread x15)
    (Covered.start ((w12.read_unread x12).symm ▸ h12) ((w14.read_unread x14).symm ▸ h14) ((w15.read_unread x15).symm ▸ h15))
  have m := masked_covered i h3 h4 h8 B0 B1 (by rw [off14_eq]; intro d; fin_cases d <;> simp <;> omega) (by rw [off15_eq]; intro d; fin_cases d <;> simp <;> omega) (by rw [off16_eq]; intro d; fin_cases d <;> simp <;> omega) _ _ _ _ s0 _ (fun j => readAt_row a12.view _ 1 (off16_eq i) (by rw [off16_eq]; intro d; fin_cases d <;> simp <;> omega) (by have := coord_lt i; omega) j)
  delta runMid
  dsimp only
  exact m.done inb_S512x128_S512x128_0_0 inb_S1x2x512_S1x1x512_0_0_0 inb_S1x2x512_S1x1x512_0_1_0

end Cert.AttnIdeal.Hand

end
-- ==== Proof.AttnLast.lean ====
/-
  A point of the attention gradient over real numbers: the last block of queries.
-/
module

public import proofs.«01_k».proof.Proof.AttnLoopsCover
public import proofs.«01_k».proof.Proof.AttnRun
public import proofs.«01_k».proof.Proof.IdxReads
public import Idealize.ShloMosaic.Lib.Pipeline.Value

@[expose] public section

set_option maxRecDepth 16384
set_option maxHeartbeats 10000000

noncomputable section

namespace Cert.AttnIdeal.Hand

open Idealize.ShloMosaic Idealize.ShloMosaic.TcCoe Idealize.ShloMosaic.ValueIdx
open Idealize.SL.Sem
open Cert.AttnIdeal.Gen Cert.RealMat Cert.AttnStep Cert.SoftmaxReads Cert.IdxReads
open scoped BigOperators

variable (c : Dev nD) (i : grid0.Coords)
  (a2 : Memref sig .tc .vmem S512x128 .bf16) (w2 : a2.IsWhole)
  (a3 : Memref sig .tc .vmem S8192x128 .bf16) (w3 : a3.IsWhole)
  (a4 : Memref sig .tc .vmem S8192x128 .bf16) (w4 : a4.IsWhole)
  (a5 : Memref sig .tc .vmem S512x128 .bf16) (w5 : a5.IsWhole)
  (a6 : Memref sig .tc .vmem S512x128 .f32) (w6 : a6.IsWhole)
  (a7 : Memref sig .tc .vmem S2x512x1 .f32) (w7 : a7.IsWhole)
  (a8 : Memref sig .tc .vmem S1x2x8192 .f32) (w8 : a8.IsWhole)
  (a9 : Memref sig .tc .vmem S512x128 .bf16) (w9 : a9.IsWhole)
  (a10 : Memref sig .tc .vmem S8192x128 .bf16) (w10 : a10.IsWhole)
  (a11 : Memref sig .tc .vmem S8192x128 .bf16) (w11 : a11.IsWhole)
  (a12 : Memref sig .tc .vmem S1x2x8192 .f32) (w12 : a12.IsWhole)
  (a13 : Memref sig .tc .vmem S1x2x512 .f32) (w13 : a13.IsWhole)
  (a14 : Memref sig .tc .vmem S8192x128 .f32) (w14 : a14.IsWhole)
  (a15 : Memref sig .tc .vmem S8192x128 .f32) (w15 : a15.IsWhole)

/-- The last point. -/
theorem runLast_done (hc0 : ¬First i) (hc1 : Last i)
    {x2 : Vec Ideal S512x128 .bf16} {x3 x4 : Vec Ideal S8192x128 .bf16} {x5 : Vec Ideal S512x128 .bf16} {x6 : Vec Ideal S512x128 .f32}
    {x7 : Vec Ideal S2x512x1 .f32} {x8 : Vec Ideal S1x2x8192 .f32} {x12 : Vec Ideal S1x2x8192 .f32} {x14 x15 : Vec Ideal S8192x128 .f32}
    {Q G O : Fin 512 → Fin 128 → ℝ} {S : Fin 2 → Fin 512 → ℝ} {C : Fin 2 → Fin 8192 → ℝ} {K V : Fin 8192 → Fin 128 → ℝ} {c0 : Fin 2 → Fin 8192 → ℝ} {k0 v0 : Fin 8192 → Fin 128 → ℝ}
    (h2 : Mat (φ := .bf16) x2 Q) (h3 : Mat (φ := .bf16) x3 K) (h4 : Mat (φ := .bf16) x4 V) (h5 : Mat (φ := .bf16) x5 G) (h6 : Mat (φ := .f32) x6 O)
    (h7 : ∀ (h : Fin 2) (r : Fin 512), (x7 (ix3 h r 0) : EReal) = ((S h r : ℝ) : EReal)) (h8 : Pair x8 C) (h12 : Pair x12 c0) (h14 : Mat (φ := .f32) x14 k0) (h15 : Mat (φ := .f32) x15 v0) :
    let R := runLast (F := Ideal) c i a2 w2 a3 w3 a4 w4 a5 w5 a6 w6 a7 w7 a8 w8 a9 w9 a10 w10 a11 w11 a12 w12 a13 w13 a14 w14 a15 w15 hc0 hc1 x2 x3 x4 x5 x6 x7 x8 x12 x14 x15
    Done (blockOf (i 1).val (coord_lt i) Q G O S C) K (fun h => seen (i 1).val (dz ((blockOf (i 1).val (coord_lt i) Q G O S C) h) K V (C h))) (fun h => seen (i 1).val (pr ((blockOf (i 1).val (coord_lt i) Q G O S C) h) K (C h))) c0 k0 v0 (512 * (i 1).val + 512) (View.canon R.1) (View.canon R.2.1)
      (a12.view.read (Elt Ideal) R.2.2.2.2.1) (a14.view.read (Elt Ideal) R.2.2.2.2.2.1) (a15.view.read (Elt Ideal) R.2.2.2.2.2.2.1)
      ∧ View.canon (R.2.2.1) = (k0_pay3 (a14.view.read (Elt Ideal) R.2.2.2.2.2.1) : Vec Ideal S8192x128 .bf16)
      ∧ View.canon (R.2.2.2.1) = (k0_pay4 (a15.view.read (Elt Ideal) R.2.2.2.2.2.2.1) : Vec Ideal S8192x128 .bf16) := by
  have r2 := w2.read_unread x2
  rw [← r2] at h2
  have r3 := w3.read_unread x3
  rw [← r3] at h3
  have r4 := w4.read_unread x4
  rw [← r4] at h4
  have r5 := w5.read_unread x5
  rw [← r5] at h5
  have r6 := w6.read_unread x6
  rw [← r6] at h6
  have r7 := w7.read_unread x7
  rw [← r7] at h7
  have r8 := w8.read_unread x8
  rw [← r8] at h8
  have B0 := head0 i h2 h5 h6 h7 h8 inb_S512x128_S512x128_0_0 inb_S512x128_S512x128_0_0 inb_S512x128_S512x128_0_0 inb_S2x512x1_S1x512x1_0_0_0 (by rw [off1_eq]; intro d; fin_cases d <;> simp <;> omega)
  have B1 := head1 i h2 h5 h6 h7 h8 inb_S512x128_S512x128_0_0 inb_S512x128_S512x128_0_0 inb_S512x128_S512x128_0_0 inb_S2x512x1_S1x512x1_1_0_0 (by rw [off1_eq]; intro d; fin_cases d <;> simp <;> omega)
  have s0 := loops_covered Variants.none c none i a2 w2 a3 w3 a4 w4 a5 w5 a6 w6 a7 w7 a8 w8 a9 w9 a10 w10 a11 w11 a12 w12 a13 w13 a14 w14 a15 w15 _ _ _ _ _ _ _ _ _ _ _ _ (w3.unread x3) (w4.unread x4) (w8.unread x8) (runLast.sl.v123 i) h3 h4 h8 B0 B1
    ((k0_pay115, k0_pay114, k0_pay114), w12.unread x12, w14.unread x14, w15.unread x15)
    (Covered.start ((w12.read_unread x12).symm ▸ h12) ((w14.read_unread x14).symm ▸ h14) ((w15.read_unread x15).symm ▸ h15))
  have m := masked_covered i h3 h4 h8 B0 B1 (by rw [off14_eq]; intro d; fin_cases d <;> simp <;> omega) (by rw [off15_eq]; intro d; fin_cases d <;> simp <;> omega) (by rw [off16_eq]; intro d; fin_cases d <;> simp <;> omega) _ _ _ _ s0 _ (fun j => readAt_row a12.view _ 1 (off16_eq i) (by rw [off16_eq]; intro d; fin_cases d <;> simp <;> omega) (by have := coord_lt i; omega) j)
  delta runLast
  dsimp only
  refine ⟨m.done inb_S512x128_S512x128_0_0 inb_S1x2x512_S1x1x512_0_0_0 inb_S1x2x512_S1x1x512_0_1_0, ?_, ?_⟩
  · refine (View.canon_unit_zero (S := S8192x128) hz2 _ _).trans (congrArg k0_pay3 ?_)
    delta runLast.sl.v310
    exact View.ld_unit_zero (S := S8192x128) hz2 _ _
  · refine (View.canon_unit_zero (S := S8192x128) hz2 _ _).trans (congrArg k0_pay4 ?_)
    delta runLast.sl.v313
    exact View.ld_unit_zero (S := S8192x128) hz2 _ _

end Cert.AttnIdeal.Hand

end
-- ==== Proof.AttnReal.lean ====
/-
  The attention gradient over real numbers, as the blocks of queries add it up: what a row's probabilities and scores'
  gradients are, from saved outputs and log sums, and the sums the five results hold.
-/
module

public import Mathlib.Analysis.SpecialFunctions.Exp
public import Mathlib.Algebra.BigOperators.Fin
public import proofs.«01_k».proof.Proof.AttnStep

@[expose] public section

noncomputable section

namespace Cert.AttnReal

open Cert.AttnStep
open scoped BigOperators

/-- A head's lane among the columns. -/
def ln (H : Fin 16) (d : Fin 64) : Fin 1024 := ⟨64 * H.val + d.val, by omega⟩
/-- A column's head. -/
def hd (J : Fin 1024) : Fin 16 := ⟨J.val / 64, by omega⟩
/-- The first row of a row's block. -/
def start (R : Fin 8192) : Fin 8192 := ⟨512 * (R.val / 512), by omega⟩
/-- A block's row, a pair's lane, a pair's head. -/
def row (i : Fin 16) (r : Fin 512) : Fin 8192 := ⟨512 * i.val + r.val, by omega⟩
def lane (p : Fin 8) (l : Fin 128) : Fin 1024 := ⟨128 * p.val + l.val, by omega⟩
def pairHd (p : Fin 8) (h : Fin 2) : Fin 16 := ⟨2 * p.val + h.val, by omega⟩

theorem start_row (i : Fin 16) (r : Fin 512) : start (row i r) = ⟨512 * i.val, by omega⟩ :=
  Fin.ext (by show 512 * ((512 * i.val + r.val) / 512) = 512 * i.val; omega)

theorem hd_lane (p : Fin 8) (l : Fin 128) (h : Fin 2) (e : l.val / 64 = h.val) : hd (lane p l) = pairHd p h :=
  Fin.ext (by show (128 * p.val + l.val) / 64 = 2 * p.val + h.val; omega)

/-- The lanes of a head in its pair's block. -/
theorem lanes (p : Fin 8) (h : Fin 2) (X : Fin 1024 → ℝ) :
    (∑ l : Fin 128, if l.val / 64 = h.val then X (lane p l) else 0) = ∑ d : Fin 64, X (ln (pairHd p h) d) := by
  have e : ∀ f : Fin 128 → ℝ, ∑ l, f l = (∑ d : Fin 64, f ⟨d.val, by omega⟩) + ∑ d : Fin 64, f ⟨64 + d.val, by omega⟩ := fun f =>
    Fin.sum_univ_add (a := 64) (b := 64) f
  rw [e]
  fin_cases h
  · have h0 : ∀ d : Fin 64, d.val / 64 = 0 := fun d => by omega
    have h1 : ∀ d : Fin 64, ¬ (64 + d.val) / 64 = 0 := fun d => by omega
    simp only [h0, h1, if_true, if_false, Finset.sum_const_zero, add_zero]
    exact Finset.sum_congr rfl fun d _ => congrArg X (Fin.ext (by show 128 * p.val + d.val = 64 * (2 * p.val + 0) + d.val; omega))
  · have h0 : ∀ d : Fin 64, ¬ d.val / 64 = 1 := fun d => by omega
    have h1 : ∀ d : Fin 64, (64 + d.val) / 64 = 1 := fun d => by omega
    simp only [h0, h1, if_true, if_false, Finset.sum_const_zero, zero_add]
    exact Finset.sum_congr rfl fun d _ => congrArg X (Fin.ext (by show 128 * p.val + (64 + d.val) = 64 * (2 * p.val + 1) + d.val; omega))

/-- The sum of the first `n` blocks. -/
def blocks (n : ℕ) (X : Fin 16 → ℝ) : ℝ := ∑ i, if i.val < n then X i else 0

theorem blocks_zero (X : Fin 16 → ℝ) : blocks 0 X = 0 := by simp [blocks]

theorem blocks_succ (i : Fin 16) (X : Fin 16 → ℝ) : blocks (i.val + 1) X = blocks i.val X + X i := by
  have e : X i = ∑ k : Fin 16, if k = i then X k else 0 := by simp
  rw [blocks, blocks, e, ← Finset.sum_add_distrib]
  refine Finset.sum_congr rfl fun k _ => ?_
  by_cases h1 : k.val < i.val
  · rw [if_pos (by omega), if_pos h1, if_neg (fun h => by rw [h] at h1; omega), add_zero]
  · by_cases h2 : k = i
    · rw [if_pos (by rw [h2]; omega), if_neg h1, if_pos h2, zero_add]
    · rw [if_neg (fun h => h2 (Fin.ext (by omega))), if_neg h1, if_neg h2, add_zero]

/-- All blocks' rows are all rows. -/
theorem blocks_rows (X : Fin 8192 → ℝ) : blocks 16 (fun i => ∑ r, X (row i r)) = ∑ R, X R := by
  have e : blocks 16 (fun i => ∑ r, X (row i r)) = ∑ i, ∑ r, X (row i r) := Finset.sum_congr rfl fun i _ => if_pos i.isLt
  rw [e, ← Fintype.sum_prod_type' (fun i r => X (row i r))]
  refine Fintype.sum_equiv (finProdFinEquiv (m := 16) (n := 512)) _ _ fun x => congrArg X (Fin.ext ?_)
  show 512 * x.1.val + x.2.val = x.2.val + 512 * x.1.val
  omega

variable (Q K V G O : Fin 8192 → Fin 1024 → ℝ) (S C : Fin 16 → Fin 8192 → ℝ)

/-- A row's probability at a key: of its logit less its log sum, where it sees the key. -/
def prob (H : Fin 16) (R j : Fin 8192) : ℝ :=
  if j.val ≤ R.val then Real.exp ((∑ d, Q R (ln H d) * (1 / 8) * K j (ln H d)) + (C H (start R) - C H j) - S H R) else 0

/-- The gradient of a row's score at a key. -/
def sg (H : Fin 16) (R j : Fin 8192) : ℝ :=
  prob Q K S C H R j * ((∑ d, G R (ln H d) * V j (ln H d)) - ∑ d, G R (ln H d) * O R (ln H d))

/-- The five gradients. -/
def gq (R : Fin 8192) (J : Fin 1024) : ℝ := (∑ j, sg Q K V G O S C (hd J) R j * K j J) * (1 / 8)
def gk (j : Fin 8192) (J : Fin 1024) : ℝ := ∑ R, sg Q K V G O S C (hd J) R j * (Q R J * (1 / 8))
def gv (j : Fin 8192) (J : Fin 1024) : ℝ := ∑ R, prob Q K S C (hd J) R j * G R J
def gc (H : Fin 16) (j : Fin 8192) : ℝ := -∑ R, sg Q K V G O S C H R j
def gcq (H : Fin 16) (R : Fin 8192) : ℝ := ∑ j, sg Q K V G O S C H R j

end Cert.AttnReal

end
-- ==== Proof.AttnPoints.lean ====
/-
  The attention gradient's call, over real numbers: what a pair of heads' buffers hold after each block of queries.
-/
module

public import proofs.«01_k».proof.Proof.AttnFirst
public import proofs.«01_k».proof.Proof.AttnMid
public import proofs.«01_k».proof.Proof.AttnLast
public import proofs.«01_k».proof.Proof.AttnFrame
public import proofs.«01_k».proof.Proof.AttnReal

@[expose] public section

set_option maxRecDepth 16384
set_option maxHeartbeats 2000000

noncomputable section

namespace Cert.AttnIdeal.Hand

open Idealize.ShloMosaic Idealize.ShloMosaic.TcCoe Idealize.ShloMosaic.ValueIdx
open Idealize.SL.Sem
open Cert.AttnIdeal Cert.AttnIdeal.Gen Cert.RealMat Cert.AttnStep Cert.AttnReal
open scoped BigOperators

variable (Q K V G O : Fin 8192 → Fin 1024 → ℝ) (S C : Fin 16 → Fin 8192 → ℝ)

/-- A pair's block of queries. -/
abbrev blk (p : Fin 8) (i : Fin 16) : Fin 2 → Blk :=
  blockOf i.val i.isLt (fun r l => Q (row i r) (lane p l)) (fun r l => G (row i r) (lane p l)) (fun r l => O (row i r) (lane p l))
    (fun h r => S (pairHd p h) (row i r)) (fun h j => C (pairHd p h) j)

theorem prob_eq (p : Fin 8) (i : Fin 16) (h : Fin 2) (r : Fin 512) (j : Fin 8192) :
    seen i.val (pr (blk Q G O S C p i h) (fun j l => K j (lane p l)) (C (pairHd p h))) r j = prob Q K S C (pairHd p h) (row i r) j := by
  unfold seen prob
  refine if_congr Iff.rfl ?_ rfl
  have e : (∑ l : Fin 128, (blk Q G O S C p i h).q r l * K j (lane p l))
      = ∑ d, Q (row i r) (ln (pairHd p h) d) * (1 / 8) * K j (ln (pairHd p h) d) := by
    rw [← lanes p h fun J => Q (row i r) J * (1 / 8) * K j J]
    exact Finset.sum_congr rfl fun l _ => (ite_mul ..).trans (by rw [zero_mul])
  rw [start_row]
  show Real.exp ((∑ l : Fin 128, (blk Q G O S C p i h).q r l * K j (lane p l)) + (C (pairHd p h) _ - C (pairHd p h) j) - S (pairHd p h) (row i r)) = _
  rw [e]

theorem sg_eq (p : Fin 8) (i : Fin 16) (h : Fin 2) (r : Fin 512) (j : Fin 8192) :
    seen i.val (dz (blk Q G O S C p i h) (fun j l => K j (lane p l)) (fun j l => V j (lane p l)) (C (pairHd p h))) r j
      = sg Q K V G O S C (pairHd p h) (row i r) j := by
  have e : (∑ l : Fin 128, (blk Q G O S C p i h).g r l * V j (lane p l)) = ∑ d, G (row i r) (ln (pairHd p h) d) * V j (ln (pairHd p h) d) := by
    rw [← lanes p h fun J => G (row i r) J * V j J]
    exact Finset.sum_congr rfl fun l _ => (ite_mul ..).trans (by rw [zero_mul])
  have e' : (blk Q G O S C p i h).d r = ∑ d, G (row i r) (ln (pairHd p h) d) * O (row i r) (ln (pairHd p h) d) :=
    lanes p h fun J => G (row i r) J * O (row i r) J
  rw [sg, ← prob_eq Q K G O S C p i h r j, ← e, ← e']
  unfold seen
  split_ifs
  · rfl
  · rw [zero_mul]

/-- A sum over the keys a block of queries sees. -/
theorem upto_seen {i : Fin 16} {f : Fin 8192 → ℝ} {r : Fin 512} (h : ∀ j : Fin 8192, ¬ j.val ≤ 512 * i.val + r.val → f j = 0) :
    upto (512 * i.val + 512) f = ∑ j, f j :=
  Finset.sum_congr rfl fun j _ => by
    by_cases hj : j.val < 512 * i.val + 512
    · rw [if_pos hj]
    · rw [if_neg hj, h j (by omega)]

theorem sg_zero (H : Fin 16) (i : Fin 16) (r : Fin 512) (j : Fin 8192) (h : ¬ j.val ≤ 512 * i.val + r.val) : sg Q K V G O S C H (row i r) j = 0 := by
  rw [sg, prob, if_neg (show ¬ j.val ≤ (row i r).val from h), zero_mul]

theorem prob_zero (H : Fin 16) (i : Fin 16) (r : Fin 512) (j : Fin 8192) (h : ¬ j.val ≤ 512 * i.val + r.val) : prob Q K S C H (row i r) j = 0 := by
  rw [prob, if_neg (show ¬ j.val ≤ (row i r).val from h)]

/-- What a block of queries adds. -/
def addC (H : Fin 16) (j : Fin 8192) (i : Fin 16) : ℝ := ∑ r, sg Q K V G O S C H (row i r) j
def addK (j : Fin 8192) (J : Fin 1024) (i : Fin 16) : ℝ := ∑ r, sg Q K V G O S C (hd J) (row i r) j * (Q (row i r) J * (1 / 8))
def addV (j : Fin 8192) (J : Fin 1024) (i : Fin 16) : ℝ := ∑ r, prob Q K S C (hd J) (row i r) j * G (row i r) J

/-- What a pair's buffers hold after a block of queries. -/
structure After (p : Fin 8) (i : Fin 16) (L : Left Ideal) : Prop where
  dq : Mat (φ := .bf16) L.dq fun r l => gq Q K V G O S C (row i r) (lane p l)
  dcq : Pair L.dcq fun h r => gcq Q K V G O S C (pairHd p h) (row i r)
  dc : Pair L.dc fun h j => -blocks (i.val + 1) (addC Q K V G O S C (pairHd p h) j)
  dk : Mat (φ := .f32) L.dk fun j l => blocks (i.val + 1) (addK Q K V G O S C j (lane p l))
  dv : Mat (φ := .f32) L.dv fun j l => blocks (i.val + 1) (addV Q K G S C j (lane p l))

theorem two_cases (l : Fin 128) : l.val / 64 = (0 : Fin 2).val ∨ l.val / 64 = (1 : Fin 2).val := by
  have := l.isLt
  show l.val / 64 = 0 ∨ l.val / 64 = 1
  omega

/-- A point's results, from what it found. -/
theorem Done.after {p : Fin 8} {i : Fin 16} {L : Left Ideal} {c : Fin 2 → Fin 8192 → ℝ} {k v : Fin 8192 → Fin 128 → ℝ}
    (hc : ∀ h j, c h j = -blocks i.val (addC Q K V G O S C (pairHd p h) j))
    (hk : ∀ j l, k j l = blocks i.val (addK Q K V G O S C j (lane p l)))
    (hv : ∀ j l, v j l = blocks i.val (addV Q K G S C j (lane p l)))
    (d : Done (blk Q G O S C p i) (fun j l => K j (lane p l))
      (fun h => seen i.val (dz (blk Q G O S C p i h) (fun j l => K j (lane p l)) (fun j l => V j (lane p l)) (C (pairHd p h))))
      (fun h => seen i.val (pr (blk Q G O S C p i h) (fun j l => K j (lane p l)) (C (pairHd p h))))
      c k v (512 * i.val + 512) L.dq L.dcq L.dc L.dk L.dv) :
    After Q K V G O S C p i L where
  dq := d.dq.congr fun r l => by
    simp only [sg_eq]
    rw [upto_seen fun j hj => by rw [sg_zero Q K V G O S C _ i r j hj, zero_mul], upto_seen fun j hj => by rw [sg_zero Q K V G O S C _ i r j hj, zero_mul]]
    unfold gq
    refine congrArg (· * (1 / 8 : ℝ)) ?_
    rcases two_cases l with e | e
    · have h1 : ∀ j, kh 1 (fun j l => K j (lane p l)) j l = 0 := fun j => if_neg (by rw [e]; decide)
      have h0 : ∀ j, kh 0 (fun j l => K j (lane p l)) j l = K j (lane p l) := fun j => if_pos e
      simp only [h0, h1, mul_zero, Finset.sum_const_zero, add_zero, hd_lane p l 0 e]
    · have h1 : ∀ j, kh 0 (fun j l => K j (lane p l)) j l = 0 := fun j => if_neg (by rw [e]; decide)
      have h0 : ∀ j, kh 1 (fun j l => K j (lane p l)) j l = K j (lane p l) := fun j => if_pos e
      simp only [h0, h1, mul_zero, Finset.sum_const_zero, zero_add, hd_lane p l 1 e]
  dcq := fun h r => (d.dcq h r).trans (congrArg (fun x : ℝ => (x : EReal)) (by
    exact (congrArg (upto (512 * i.val + 512)) (funext fun j => sg_eq Q K V G O S C p i h r j)).trans
      (upto_seen fun j hj => sg_zero Q K V G O S C (pairHd p h) i r j hj)))
  dc := fun h j => (d.dc h j).trans (congrArg (fun x : ℝ => (x : EReal)) (by
    simp only [sg_eq]
    rw [hc, blocks_succ, neg_add, sub_eq_add_neg]
    refine congrArg (fun x : ℝ => -blocks i.val (addC Q K V G O S C (pairHd p h) j) + -x) ?_
    by_cases hj : j.val < 512 * i.val + 512
    · rw [if_pos hj]; rfl
    · rw [if_neg hj]
      exact (Finset.sum_eq_zero fun r _ => sg_zero Q K V G O S C _ i r j (by omega)).symm))
  dk := d.dk.congr fun j l => by
    simp only [sg_eq]
    rw [hk, blocks_succ]
    refine congrArg (blocks i.val (addK Q K V G O S C j (lane p l)) + ·) ?_
    by_cases hj : j.val < 512 * i.val + 512
    · rw [if_pos hj]
      rcases two_cases l with e | e
      · have h1 : ∀ r, (blk Q G O S C p i 1).q r l = 0 := fun r => if_neg (by rw [e]; decide)
        have h0 : ∀ r, (blk Q G O S C p i 0).q r l = Q (row i r) (lane p l) * (1 / 8) := fun r => if_pos e
        simp only [h0, h1, mul_zero, Finset.sum_const_zero, add_zero, addK, hd_lane p l 0 e]
      · have h1 : ∀ r, (blk Q G O S C p i 0).q r l = 0 := fun r => if_neg (by rw [e]; decide)
        have h0 : ∀ r, (blk Q G O S C p i 1).q r l = Q (row i r) (lane p l) * (1 / 8) := fun r => if_pos e
        simp only [h0, h1, mul_zero, Finset.sum_const_zero, zero_add, addK, hd_lane p l 1 e]
    · rw [if_neg hj]
      exact (Finset.sum_eq_zero fun r _ => by rw [sg_zero Q K V G O S C _ i r j (by omega), zero_mul]).symm
  dv := d.dv.congr fun j l => by
    simp only [prob_eq]
    rw [hv, blocks_succ]
    refine congrArg (blocks i.val (addV Q K G S C j (lane p l)) + ·) ?_
    by_cases hj : j.val < 512 * i.val + 512
    · rw [if_pos hj]
      rcases two_cases l with e | e
      · have h1 : ∀ r, (blk Q G O S C p i 1).g r l = 0 := fun r => if_neg (by rw [e]; decide)
        have h0 : ∀ r, (blk Q G O S C p i 0).g r l = G (row i r) (lane p l) := fun r => if_pos e
        simp only [h0, h1, mul_zero, Finset.sum_const_zero, add_zero, addV, hd_lane p l 0 e]
      · have h1 : ∀ r, (blk Q G O S C p i 0).g r l = 0 := fun r => if_neg (by rw [e]; decide)
        have h0 : ∀ r, (blk Q G O S C p i 1).g r l = G (row i r) (lane p l) := fun r => if_pos e
        simp only [h0, h1, mul_zero, Finset.sum_const_zero, zero_add, addV, hd_lane p l 1 e]
    · rw [if_neg hj]
      exact (Finset.sum_eq_zero fun r _ => by rw [prob_zero Q K S C _ i r j (by omega), zero_mul]).symm

end Cert.AttnIdeal.Hand

end
-- ==== Proof.AttnBlocks.lean ====
/-
  The attention gradient's call, over real numbers: its operands, and a point's blocks of them.
-/
module

public import proofs.«01_k».proof.Proof.AttnPoints
public import Idealize.ShloMosaic.Lib.Pipeline.ValueKit.Point

@[expose] public section

set_option maxRecDepth 16384
set_option maxHeartbeats 2000000

noncomputable section

namespace Cert.AttnIdeal.Hand

open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2 eq_ix3)
open Idealize.ShloMosaic.Pipeline (Dat)
open Cert.AttnIdeal Cert.AttnIdeal.Gen Cert.RealMat Cert.AttnStep Cert.AttnReal
open scoped BigOperators

variable (m : (ℓ : Loc nD τ sig) → Buf (Elt Ideal) ℓ)

/-- A pair's point on a block of queries. -/
def pt (p : Fin 8) (i : Fin 16) : Fin cfg0.N := ⟨16 * p.val + i.val, Nat.lt_of_lt_of_eq (by omega : 16 * p.val + i.val < 128) N_0.symm⟩

theorem pt_of (t : Fin cfg0.N) : ∃ p i, t = pt p i := by
  have h := Nat.lt_of_lt_of_eq t.isLt N_0
  exact ⟨⟨t.val / 16, by omega⟩, ⟨t.val % 16, by omega⟩, Fin.ext (by show t.val = 16 * (t.val / 16) + t.val % 16; omega)⟩

theorem idx0 : ∀ t : Fin cfg0.N, win0_0.index t = ![t.val % 16, t.val / 16] := (by decide +kernel : ∀ t : Fin grid0.N, _)
theorem idx1 : ∀ t : Fin cfg0.N, win0_1.index t = ![0, 8 + t.val / 16] := (by decide +kernel : ∀ t : Fin grid0.N, _)
theorem idx2 : ∀ t : Fin cfg0.N, win0_2.index t = ![0, 16 + t.val / 16] := (by decide +kernel : ∀ t : Fin grid0.N, _)
theorem idx3 : ∀ t : Fin cfg0.N, win0_3.index t = ![t.val % 16, t.val / 16] := (by decide +kernel : ∀ t : Fin grid0.N, _)
theorem idx4 : ∀ t : Fin cfg0.N, win0_4.index t = ![t.val % 16, t.val / 16] := (by decide +kernel : ∀ t : Fin grid0.N, _)
theorem idx5 : ∀ t : Fin cfg0.N, win0_5.index t = ![t.val / 16, t.val % 16, 0] := (by decide +kernel : ∀ t : Fin grid0.N, _)
theorem idx6 : ∀ t : Fin cfg0.N, win0_6.index t = ![t.val / 16, 0, 0] := (by decide +kernel : ∀ t : Fin grid0.N, _)
theorem idx7 : ∀ t : Fin cfg0.N, win0_7.index t = ![t.val % 16, t.val / 16] := (by decide +kernel : ∀ t : Fin grid0.N, _)
theorem idx8 : ∀ t : Fin cfg0.N, win0_8.index t = ![0, t.val / 16] := (by decide +kernel : ∀ t : Fin grid0.N, _)
theorem idx9 : ∀ t : Fin cfg0.N, win0_9.index t = ![0, t.val / 16] := (by decide +kernel : ∀ t : Fin grid0.N, _)
theorem idx10 : ∀ t : Fin cfg0.N, win0_10.index t = ![t.val / 16, 0, 0] := (by decide +kernel : ∀ t : Fin grid0.N, _)
theorem idx11 : ∀ t : Fin cfg0.N, win0_11.index t = ![t.val / 16, 0, t.val % 16] := (by decide +kernel : ∀ t : Fin grid0.N, _)
theorem at_block : ∀ t : Fin cfg0.N, ((grid0.coords t) 1).val = t.val % 16 := (by decide +kernel : ∀ t : Fin grid0.N, _)
theorem pt_div (p : Fin 8) (i : Fin 16) : (pt p i).val / 16 = p.val := by show (16 * p.val + i.val) / 16 = p.val; omega
theorem pt_mod (p : Fin 8) (i : Fin 16) : (pt p i).val % 16 = i.val := by show (16 * p.val + i.val) % 16 = i.val; omega

/-- The call's operands are the reals of these arrays. -/
structure Operands (c : Dev nD) (Q K V' G O : Fin 8192 → Fin 1024 → ℝ) (S C : Fin 16 → Fin 8192 → ℝ) : Prop where
  q : ∀ R (J : Fin 1024), (V m c main_v47 (ix2 R (⟨J.val, by omega⟩ : Fin 9216)) : EReal) = ((Q R J : ℝ) : EReal)
  k : ∀ R (J : Fin 1024), (V m c main_v47 (ix2 R (⟨1024 + J.val, by omega⟩ : Fin 9216)) : EReal) = ((K R J : ℝ) : EReal)
  v : ∀ R (J : Fin 1024), (V m c main_v47 (ix2 R (⟨2048 + J.val, by omega⟩ : Fin 9216)) : EReal) = ((V' R J : ℝ) : EReal)
  g : ∀ R J, (V m c main_v48 (ix2 R J) : EReal) = ((G R J : ℝ) : EReal)
  o : ∀ R J, (V m c main_v43 (ix2 R J) : EReal) = ((O R J : ℝ) : EReal)
  s : ∀ H R, (V m c main_v50 (ix3 H R (0 : Fin 1)) : EReal) = ((S H R : ℝ) : EReal)
  c : ∀ p h j, (V m c main_v51 (ix3 p h j) : EReal) = ((C (pairHd p h) j : ℝ) : EReal)

variable {m} {c : Dev nD} {Q K V' G O : Fin 8192 → Fin 1024 → ℝ} {S C : Fin 16 → Fin 8192 → ℝ} (op : Operands m c Q K V' G O S C)
include op

theorem blk0 (p : Fin 8) (i : Fin 16) : Mat (φ := .bf16) (iblk m c 0 (pt p i)) fun r l => Q (row i r) (lane p l) := fun r l => by
  have e : iblk m c 0 (pt p i) (ix2 r l) = V m c main_v47 (ix2 (row i r) (⟨(lane p l).val, by omega⟩ : Fin 9216)) := by
    blk_ext! [iblk, idx0 (pt p i), pt_div, pt_mod, row, lane]
    · show i.val * 512 + r.val = 512 * i.val + r.val; omega
    · show p.val * 128 + l.val = 128 * p.val + l.val; omega
  exact e.trans (op.q _ _)

theorem blk1 (p : Fin 8) (i : Fin 16) : Mat (φ := .bf16) (iblk m c 1 (pt p i)) fun r l => K r (lane p l) := fun r l => by
  have e : iblk m c 1 (pt p i) (ix2 r l) = V m c main_v47 (ix2 (r) (⟨1024 + (lane p l).val, by omega⟩ : Fin 9216)) := by
    blk_ext! [iblk, idx1 (pt p i), pt_div, pt_mod, row, lane]
    show (8 + p.val) * 128 + l.val = 1024 + (128 * p.val + l.val); omega
  exact e.trans (op.k _ _)

theorem blk2 (p : Fin 8) (i : Fin 16) : Mat (φ := .bf16) (iblk m c 2 (pt p i)) fun r l => V' r (lane p l) := fun r l => by
  have e : iblk m c 2 (pt p i) (ix2 r l) = V m c main_v47 (ix2 (r) (⟨2048 + (lane p l).val, by omega⟩ : Fin 9216)) := by
    blk_ext! [iblk, idx2 (pt p i), pt_div, pt_mod, row, lane]
    show (16 + p.val) * 128 + l.val = 2048 + (128 * p.val + l.val); omega
  exact e.trans (op.v _ _)

theorem blk3 (p : Fin 8) (i : Fin 16) : Mat (φ := .bf16) (iblk m c 3 (pt p i)) fun r l => G (row i r) (lane p l) := fun r l => by
  have e : iblk m c 3 (pt p i) (ix2 r l) = V m c main_v48 (ix2 (row i r) (lane p l)) := by
    blk_ext! [iblk, idx3 (pt p i), pt_div, pt_mod, row, lane]
    · show i.val * 512 + r.val = 512 * i.val + r.val; omega
    · show p.val * 128 + l.val = 128 * p.val + l.val; omega
  exact e.trans (op.g _ _)

theorem blk4 (p : Fin 8) (i : Fin 16) : Mat (φ := .f32) (iblk m c 4 (pt p i)) fun r l => O (row i r) (lane p l) := fun r l => by
  have e : iblk m c 4 (pt p i) (ix2 r l) = V m c main_v43 (ix2 (row i r) (lane p l)) := by
    blk_ext! [iblk, idx4 (pt p i), pt_div, pt_mod, row, lane]
    · show i.val * 512 + r.val = 512 * i.val + r.val; omega
    · show p.val * 128 + l.val = 128 * p.val + l.val; omega
  exact e.trans (op.o _ _)

end Cert.AttnIdeal.Hand

end
-- ==== Proof.AttnAfter.lean ====
/-
  The attention gradient's call, over real numbers: what a pair's buffers hold after each of its points.
-/
module

public import proofs.«01_k».proof.Proof.AttnBlocks

@[expose] public section

set_option maxRecDepth 16384
set_option maxHeartbeats 2000000

noncomputable section

namespace Cert.AttnIdeal.Hand

open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2 eq_ix3)
open Idealize.ShloMosaic.Pipeline (Dat)
open Cert.AttnIdeal Cert.AttnIdeal.Gen Cert.RealMat Cert.AttnStep Cert.AttnReal
open scoped BigOperators

variable {m : (ℓ : Loc nD τ sig) → Buf (Elt Ideal) ℓ} {c : Dev nD} {Q K V' G O : Fin 8192 → Fin 1024 → ℝ} {S C : Fin 16 → Fin 8192 → ℝ} (op : Operands m c Q K V' G O S C)
include op

omit op in
theorem read5 (A : Vec Ideal S16x8192x1 .f32) (t : Fin cfg0.N) (y : S2x512x1.Idx) :
    (win0_5.blk t).view.read (Elt Ideal) A y = A ((win0_5.blk t).view.emb y) := by
  blk_simp
omit op in
theorem iblk5 (p : Fin 8) (i : Fin 16) :
    iblk m c 5 (pt p i) = (win0_5.blk (pt p i)).view.read (Elt Ideal) (V m c (Pipeline.arrRef spec0 5)) := by
  delta iblk; with_reducible rfl
omit op in
theorem emb5 (p : Fin 8) (i : Fin 16) (h : Fin 2) (r : Fin 512) :
    (win0_5.blk (pt p i)).view.emb (ix3 h r (0 : Fin 1)) = ix3 (pairHd p h) (row i r) (0 : Fin 1) := by
  funext a
  match a with
  | ⟨0, _⟩ => exact Fin.ext (by blk_simp [idx5 (pt p i), pt_div, pt_mod]; show p.val * 2 + h.val = 2 * p.val + h.val; omega)
  | ⟨1, _⟩ => exact Fin.ext (by blk_simp [idx5 (pt p i), pt_div, pt_mod]; show i.val * 512 + r.val = 512 * i.val + r.val; omega)
  | ⟨2, _⟩ => exact Subsingleton.elim (α := Fin 1) _ _

theorem blk5 (p : Fin 8) (i : Fin 16) (h : Fin 2) (r : Fin 512) :
    (iblk m c 5 (pt p i) (ix3 h r (0 : Fin 1)) : EReal) = ((S (pairHd p h) (row i r) : ℝ) : EReal) := by
  rw [iblk5 p i]
  exact (read5 (V m c (Pipeline.arrRef spec0 5)) _ _).trans ((congrArg (V m c main_v50) (emb5 p i h r)).trans (op.s _ _))

theorem blk6 (p : Fin 8) (i : Fin 16) : Pair (iblk m c 6 (pt p i)) fun h j => C (pairHd p h) j := fun h j => by
  have e : iblk m c 6 (pt p i) (ix3 (0 : Fin 1) h j) = V m c main_v51 (ix3 p h j) := by
    blk_ext! [iblk, idx6 (pt p i), pt_div, pt_mod]
  exact e.trans (op.c _ _ _)

omit op in
/-- A point's block of queries, by its number. -/
theorem Done.after_at {p : Fin 8} {i : Fin 16} {n : ℕ} {hn : n < 16} (e : n = i.val) {dq : Vec Ideal S512x128 .bf16} {dkOut dvOut : Vec Ideal S8192x128 .bf16} {dc : Vec Ideal S1x2x8192 .f32} {dcq : Vec Ideal S1x2x512 .f32} {dk dv : Vec Ideal S8192x128 .f32} {c : Fin 2 → Fin 8192 → ℝ} {k v : Fin 8192 → Fin 128 → ℝ}
    (hc : ∀ h j, c h j = -blocks i.val (addC Q K V' G O S C (pairHd p h) j))
    (hk : ∀ j l, k j l = blocks i.val (addK Q K V' G O S C j (lane p l)))
    (hv : ∀ j l, v j l = blocks i.val (addV Q K G S C j (lane p l)))
    (d : let B := blockOf n hn (fun r l => Q (row i r) (lane p l)) (fun r l => G (row i r) (lane p l)) (fun r l => O (row i r) (lane p l)) (fun h r => S (pairHd p h) (row i r)) (fun h j => C (pairHd p h) j)
      Done B (fun j l => K j (lane p l))
      (fun h => seen n (dz (B h) (fun j l => K j (lane p l)) (fun j l => V' j (lane p l)) (C (pairHd p h))))
      (fun h => seen n (pr (B h) (fun j l => K j (lane p l)) (C (pairHd p h))))
      c k v (512 * n + 512) dq dcq dc dk dv) :
    After Q K V' G O S C p i ⟨dq, dkOut, dvOut, dc, dcq, dk, dv⟩ := by
  subst e
  exact Done.after Q K V' G O S C (L := ⟨dq, dkOut, dvOut, dc, dcq, dk, dv⟩) hc hk hv d

/-- What a pair's buffers hold after its first block of queries, -/
theorem after_first (p : Fin 8) (i : Fin 16) (hi : i.val = 0) : After Q K V' G O S C p i (enter m c ((pt p i).val + 1)) := by
  have h0 : First (grid0.coords (pt p i)) := (first_iff _).mpr ((pt_mod p i).trans hi)
  have h1 : ¬Last (grid0.coords (pt p i)) := fun h => by have := ((pt_mod p i).symm.trans ((last_iff _).mp h)); omega
  rw [(enter_succ m c (pt p i)).trans (next_first m c _ _ h0 h1)]
  have z : ∀ X, (0 : ℝ) = blocks i.val X := fun X => by rw [hi, blocks_zero]
  have r := runFirst_done c (grid0.coords (pt p i)) (ms0 (pt p i)) (hs0 (pt p i)) (ms1 (pt p i)) (hs1 (pt p i)) (ms2 (pt p i)) (hs2 (pt p i)) (ms3 (pt p i)) (hs3 (pt p i)) (ms4 (pt p i)) (hs4 (pt p i)) (ms5 (pt p i)) (hs5 (pt p i)) (ms6 (pt p i)) (hs6 (pt p i)) (ms7 (pt p i)) (hs7 (pt p i)) (ms8 (pt p i)) (hs8 (pt p i)) (ms9 (pt p i)) (hs9 (pt p i)) (ms10 (pt p i)) (hs10 (pt p i)) (ms11 (pt p i)) (hs11 (pt p i)) accK haccK accV haccV h0 h1
      (blk0 op p i) (blk1 op p i) (blk2 op p i) (blk3 op p i) (blk4 op p i) (blk5 op p i) (blk6 op p i)
  dsimp only at r
  delta leftFirst atFirst
  exact Done.after_at (c := fun _ _ => 0) (k := fun _ _ => 0) (v := fun _ _ => 0) ((at_block _).trans (pt_mod p i))
    (fun h j => by rw [← z, neg_zero]) (fun j l => z _) (fun j l => z _) r

/-- after one in the middle, -/
theorem after_mid (p : Fin 8) (i k : Fin 16) (hk : k.val + 1 = i.val) (hi : i.val ≠ 15) (ih : After Q K V' G O S C p k (enter m c (pt p i).val)) :
    After Q K V' G O S C p i (enter m c ((pt p i).val + 1)) := by
  have h0 : ¬First (grid0.coords (pt p i)) := fun h => by have := ((pt_mod p i).symm.trans ((first_iff _).mp h)); omega
  have h1 : ¬Last (grid0.coords (pt p i)) := fun h => by have := ((pt_mod p i).symm.trans ((last_iff _).mp h)); omega
  rw [(enter_succ m c (pt p i)).trans (next_mid m c _ _ h0 h1)]
  have r := runMid_done c (grid0.coords (pt p i)) (ms0 (pt p i)) (hs0 (pt p i)) (ms1 (pt p i)) (hs1 (pt p i)) (ms2 (pt p i)) (hs2 (pt p i)) (ms3 (pt p i)) (hs3 (pt p i)) (ms4 (pt p i)) (hs4 (pt p i)) (ms5 (pt p i)) (hs5 (pt p i)) (ms6 (pt p i)) (hs6 (pt p i)) (ms7 (pt p i)) (hs7 (pt p i)) (ms8 (pt p i)) (hs8 (pt p i)) (ms9 (pt p i)) (hs9 (pt p i)) (ms10 (pt p i)) (hs10 (pt p i)) (ms11 (pt p i)) (hs11 (pt p i)) accK haccK accV haccV h0 h1
      (blk0 op p i) (blk1 op p i) (blk2 op p i) (blk3 op p i) (blk4 op p i) (blk5 op p i) (blk6 op p i) ih.dc ih.dk ih.dv
  dsimp only at r
  delta leftMid atMid
  exact Done.after_at ((at_block _).trans (pt_mod p i))
    (fun h j => congrArg (fun n => -blocks n (addC Q K V' G O S C (pairHd p h) j)) hk)
    (fun j l => congrArg (fun n => blocks n (addK Q K V' G O S C j (lane p l))) hk)
    (fun j l => congrArg (fun n => blocks n (addV Q K G S C j (lane p l))) hk) r

omit op in
theorem written {p : Fin 8} {i : Fin 16} {dq : Vec Ideal S512x128 .bf16} {dkOut dvOut : Vec Ideal S8192x128 .bf16} {dc : Vec Ideal S1x2x8192 .f32} {dcq : Vec Ideal S1x2x512 .f32} {dk dv : Vec Ideal S8192x128 .f32}
    (a : After Q K V' G O S C p i ⟨dq, dkOut, dvOut, dc, dcq, dk, dv⟩) (e : dkOut = k0_pay3 dk) (e' : dvOut = k0_pay4 dv) :
    After Q K V' G O S C p i ⟨dq, dkOut, dvOut, dc, dcq, dk, dv⟩
      ∧ (⟨dq, dkOut, dvOut, dc, dcq, dk, dv⟩ : Left Ideal).dkOut = k0_pay3 (⟨dq, dkOut, dvOut, dc, dcq, dk, dv⟩ : Left Ideal).dk
      ∧ (⟨dq, dkOut, dvOut, dc, dcq, dk, dv⟩ : Left Ideal).dvOut = k0_pay4 (⟨dq, dkOut, dvOut, dc, dcq, dk, dv⟩ : Left Ideal).dv :=
  ⟨a, e, e'⟩

/-- and after its last, with the two gathered derivatives written out. -/
theorem after_last (p : Fin 8) (i k : Fin 16) (hk : k.val + 1 = i.val) (hi : i.val = 15) (ih : After Q K V' G O S C p k (enter m c (pt p i).val)) :
    After Q K V' G O S C p i (enter m c ((pt p i).val + 1))
      ∧ (enter m c ((pt p i).val + 1)).dkOut = k0_pay3 (enter m c ((pt p i).val + 1)).dk
      ∧ (enter m c ((pt p i).val + 1)).dvOut = k0_pay4 (enter m c ((pt p i).val + 1)).dv := by
  have h0 : ¬First (grid0.coords (pt p i)) := fun h => by have := ((pt_mod p i).symm.trans ((first_iff _).mp h)); omega
  have h1 : Last (grid0.coords (pt p i)) := (last_iff _).mpr ((pt_mod p i).trans hi)
  rw [(enter_succ m c (pt p i)).trans (next_last m c _ _ h0 h1)]
  have r := runLast_done c (grid0.coords (pt p i)) (ms0 (pt p i)) (hs0 (pt p i)) (ms1 (pt p i)) (hs1 (pt p i)) (ms2 (pt p i)) (hs2 (pt p i)) (ms3 (pt p i)) (hs3 (pt p i)) (ms4 (pt p i)) (hs4 (pt p i)) (ms5 (pt p i)) (hs5 (pt p i)) (ms6 (pt p i)) (hs6 (pt p i)) (ms7 (pt p i)) (hs7 (pt p i)) (ms8 (pt p i)) (hs8 (pt p i)) (ms9 (pt p i)) (hs9 (pt p i)) (ms10 (pt p i)) (hs10 (pt p i)) (ms11 (pt p i)) (hs11 (pt p i)) accK haccK accV haccV h0 h1
      (blk0 op p i) (blk1 op p i) (blk2 op p i) (blk3 op p i) (blk4 op p i) (blk5 op p i) (blk6 op p i) ih.dc ih.dk ih.dv
  dsimp only at r
  delta leftLast atLast
  exact written (Done.after_at ((at_block _).trans (pt_mod p i))
    (fun h j => congrArg (fun n => -blocks n (addC Q K V' G O S C (pairHd p h) j)) hk)
    (fun j l => congrArg (fun n => blocks n (addK Q K V' G O S C j (lane p l))) hk)
    (fun j l => congrArg (fun n => blocks n (addV Q K G S C j (lane p l))) hk) r.1) r.2.1 r.2.2

theorem after_upto (p : Fin 8) : ∀ n (hn : n < 15), After Q K V' G O S C p ⟨n, by omega⟩ (enter m c ((pt p ⟨n, by omega⟩).val + 1))
  | 0, _ => after_first op p _ rfl
  | n + 1, hn => after_mid op p ⟨n + 1, by omega⟩ ⟨n, by omega⟩ rfl (Nat.ne_of_lt hn) (after_upto p n (by omega))

theorem after_end (p : Fin 8) (i : Fin 16) (hi : i.val = 15) :
    After Q K V' G O S C p i (enter m c ((pt p i).val + 1))
      ∧ (enter m c ((pt p i).val + 1)).dkOut = k0_pay3 (enter m c ((pt p i).val + 1)).dk
      ∧ (enter m c ((pt p i).val + 1)).dvOut = k0_pay4 (enter m c ((pt p i).val + 1)).dv := by
  have e : (pt p ⟨14, by omega⟩).val + 1 = (pt p i).val := by show 16 * p.val + 14 + 1 = 16 * p.val + i.val; omega
  exact after_last op p i ⟨14, by omega⟩ (by show 14 + 1 = i.val; omega) hi (e ▸ after_upto op p 14 (by decide))

theorem after_point (p : Fin 8) (i : Fin 16) : After Q K V' G O S C p i (enter m c ((pt p i).val + 1)) := by
  by_cases h : i.val < 15
  · exact after_upto op p i.val h
  · exact (after_end op p i (by omega)).1

end Cert.AttnIdeal.Hand

end
-- ==== Proof.AttnValue.lean ====
/-
  The attention gradient's call, over real numbers: its five result arrays after the run.
-/
module

public import proofs.«01_k».proof.Proof.AttnAfter
public import Idealize.ShloMosaic.Lib.Pipeline.ReadBack

@[expose] public section

set_option maxRecDepth 16384
set_option maxHeartbeats 2000000

noncomputable section

namespace Cert.AttnIdeal.Hand

open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2 eq_ix3)
open Idealize.ShloMosaic.Pipeline (Dat)
open Cert.AttnIdeal Cert.AttnIdeal.Gen Cert.RealMat Cert.AttnStep Cert.AttnReal
open scoped BigOperators

variable {m : (ℓ : Loc nD τ sig) → Buf (Elt Ideal) ℓ} {c : Dev nD} {Q K V' G O : Fin 8192 → Fin 1024 → ℝ} {S C : Fin 16 → Fin 8192 → ℝ} (op : Operands m c Q K V' G O S C)
include op

/-- The queries' gradient, -/
theorem final7 : (dats m 0 c).arrAt 7 cfg0.N = fun y => ((gq Q K V' G O S C (y 0) (y 1) : ℝ) : EReal) := by
  refine (dats m 0 c).arrAt_eq_of_covers 7 _ (by decide +kernel) fun t hf y => ?_
  obtain ⟨p, i, rfl⟩ := pt_of t
  blk_simp
  rw [after_7]
  obtain ⟨r, l, rfl⟩ : ∃ (r : Fin 512) (l : Fin 128), y = ix2 r l := ⟨y 0, y 1, eq_ix2 y⟩
  refine ((after_point op p i).dq r l).trans ?_
  refine congrArg₂ (fun a b => ((gq Q K V' G O S C a b : ℝ) : EReal)) (Fin.ext ?_) (Fin.ext ?_)
  · blk_simp [idx7 (pt p i), pt_div, pt_mod]
    show 512 * i.val + r.val = i.val * 512 + r.val; omega
  · blk_simp [idx7 (pt p i), pt_div, pt_mod]
    show 128 * p.val + l.val = p.val * 128 + l.val; omega

/-- the keys', -/
theorem final8 : (dats m 0 c).arrAt 8 cfg0.N = fun y => ((gk Q K V' G O S C (y 0) (y 1) : ℝ) : EReal) := by
  refine (dats m 0 c).arrAt_eq_of_covers 8 _ (by decide +kernel) fun t hf y => ?_
  obtain ⟨p, i, rfl⟩ := pt_of t
  have hi : i.val = 15 := (pt_mod p i).symm.trans ((flush0_8 _).mp hf)
  blk_simp
  rw [after_8]
  obtain ⟨r, l, rfl⟩ : ∃ (r : Fin 8192) (l : Fin 128), y = ix2 r l := ⟨y 0, y 1, eq_ix2 y⟩
  obtain ⟨a, e, -⟩ := after_end op p i hi
  refine (congrFun e _).trans ((a.dk r l).trans ?_)
  refine (congrArg (fun x : ℝ => (x : EReal)) (show blocks (i.val + 1) (addK Q K V' G O S C r (lane p l)) = gk Q K V' G O S C r (lane p l) from by
    rw [hi]; exact blocks_rows fun R => sg Q K V' G O S C (hd (lane p l)) R r * (Q R (lane p l) * (1 / 8)))).trans ?_
  refine congrArg₂ (fun a b => ((gk Q K V' G O S C a b : ℝ) : EReal)) (Fin.ext ?_) (Fin.ext ?_)
  · blk_simp [idx8 (pt p i), pt_div, pt_mod]
    show r.val = r.val; omega
  · blk_simp [idx8 (pt p i), pt_div, pt_mod]
    show 128 * p.val + l.val = p.val * 128 + l.val; omega

/-- the values', -/
theorem final9 : (dats m 0 c).arrAt 9 cfg0.N = fun y => ((gv Q K G S C (y 0) (y 1) : ℝ) : EReal) := by
  refine (dats m 0 c).arrAt_eq_of_covers 9 _ (by decide +kernel) fun t hf y => ?_
  obtain ⟨p, i, rfl⟩ := pt_of t
  have hi : i.val = 15 := (pt_mod p i).symm.trans ((flush0_9 _).mp hf)
  blk_simp
  rw [after_9]
  obtain ⟨r, l, rfl⟩ : ∃ (r : Fin 8192) (l : Fin 128), y = ix2 r l := ⟨y 0, y 1, eq_ix2 y⟩
  obtain ⟨a, -, e⟩ := after_end op p i hi
  refine (congrFun e _).trans ((a.dv r l).trans ?_)
  refine (congrArg (fun x : ℝ => (x : EReal)) (show blocks (i.val + 1) (addV Q K G S C r (lane p l)) = gv Q K G S C r (lane p l) from by
    rw [hi]; exact blocks_rows fun R => prob Q K S C (hd (lane p l)) R r * G R (lane p l))).trans ?_
  refine congrArg₂ (fun a b => ((gv Q K G S C a b : ℝ) : EReal)) (Fin.ext ?_) (Fin.ext ?_)
  · blk_simp [idx9 (pt p i), pt_div, pt_mod]
    show r.val = r.val; omega
  · blk_simp [idx9 (pt p i), pt_div, pt_mod]
    show 128 * p.val + l.val = p.val * 128 + l.val; omega

/-- the keys' gates', -/
theorem final10 : (dats m 0 c).arrAt 10 cfg0.N = fun y => ((gc Q K V' G O S C (pairHd (y 0) (y 1)) (y 2) : ℝ) : EReal) := by
  refine (dats m 0 c).arrAt_eq_of_covers 10 _ (by decide +kernel) fun t hf y => ?_
  obtain ⟨p, i, rfl⟩ := pt_of t
  have hi : i.val = 15 := (pt_mod p i).symm.trans ((flush0_10 _).mp hf)
  blk_simp
  rw [after_10]
  obtain ⟨z, h, j, rfl⟩ : ∃ (z : Fin 1) (h : Fin 2) (j : Fin 8192), y = ix3 z h j := ⟨y 0, y 1, y 2, eq_ix3 y⟩
  obtain rfl : z = 0 := Subsingleton.elim _ _
  refine ((after_point op p i).dc h j).trans ?_
  refine (congrArg (fun x : ℝ => (x : EReal)) (show -blocks (i.val + 1) (addC Q K V' G O S C (pairHd p h) j) = gc Q K V' G O S C (pairHd p h) j from by
    rw [hi]; exact congrArg (- ·) (blocks_rows fun R => sg Q K V' G O S C (pairHd p h) R j))).trans ?_
  refine congrArg₂ (fun a b => ((gc Q K V' G O S C a b : ℝ) : EReal)) (Fin.ext ?_) (Fin.ext ?_) <;> blk_simp [idx10 (pt p i), pt_div, pt_mod, pairHd] <;> rfl

/-- and the queries' gates'. -/
theorem final11 : (dats m 0 c).arrAt 11 cfg0.N = fun y => ((gcq Q K V' G O S C (pairHd (y 0) (y 1)) (y 2) : ℝ) : EReal) := by
  refine (dats m 0 c).arrAt_eq_of_covers 11 _ (by decide +kernel) fun t hf y => ?_
  obtain ⟨p, i, rfl⟩ := pt_of t
  blk_simp
  rw [after_11]
  obtain ⟨z, h, j, rfl⟩ : ∃ (z : Fin 1) (h : Fin 2) (j : Fin 512), y = ix3 z h j := ⟨y 0, y 1, y 2, eq_ix3 y⟩
  obtain rfl : z = 0 := Subsingleton.elim _ _
  refine ((after_point op p i).dcq h j).trans ?_
  refine congrArg₂ (fun a b => ((gcq Q K V' G O S C a b : ℝ) : EReal)) (Fin.ext ?_) (Fin.ext ?_)
  · blk_simp [idx11 (pt p i), pt_div, pt_mod, pairHd]; rfl
  · blk_simp [idx11 (pt p i), pt_div, pt_mod]; show 512 * i.val + j.val = i.val * 512 + j.val; omega

end Cert.AttnIdeal.Hand

end
-- ==== Proof.AttnMath.lean ====
/-
  A causal row of softmax, whose hidden logits are minus infinity: its largest logit, exponentials and sum on the
  extended reals, and its gradient. Then, over real numbers, that the gradient written from a row's saved output and
  log sum is the one that differentiating the quotient gives, whatever was added to all of the row's logits.
-/
module

public import proofs.«01_k».proof.Proof.AttnReal
public import proofs.«01_k».proof.Proof.SoftmaxMath
public import Mathlib.Analysis.SpecialFunctions.Log.Basic

@[expose] public section

noncomputable section

namespace Cert.AttnMath

open Idealize.ShloMosaic
open Cert.Laws Cert.AttnReal
open Cert.SoftmaxMath hiding prob ds
open scoped BigOperators

section row
variable {n : Nat} (p : Fin n → Prop) [DecidablePred p] (x : Fin n → ℝ)

/-- A row's logits: the hidden ones are minus infinity. -/
def mrow (j : Fin n) : EReal := if p j then ((x j : ℝ) : EReal) else ⊥

/-- The exponentials of the visible logits. -/
def mexp (j : Fin n) : ℝ := if p j then Real.exp (x j) else 0

/-- The largest logit of a row that sees one. -/
theorem mx_mrow (a : Fin n) (ha : p a) : ∃ M : ℝ, mx (mrow p x) = M := by
  have h : ∀ t : Finset (Fin n), t.fold max ⊥ (mrow p x) = ⊥ ∧ (∀ j ∈ t, ¬ p j) ∨ ∃ r : ℝ, t.fold max ⊥ (mrow p x) = r := by
    intro t
    induction t using Finset.induction_on with
    | empty => exact .inl ⟨Finset.fold_empty, by simp⟩
    | insert b t hb ih =>
      rw [Finset.fold_insert hb]
      by_cases hp : p b
      · right
        have e : mrow p x b = ((x b : ℝ) : EReal) := if_pos hp
        rw [e]
        rcases ih with ⟨h, _⟩ | ⟨q, h⟩
        · exact ⟨x b, by rw [h, max_eq_left bot_le]⟩
        · exact ⟨max (x b) q, by rw [h, EReal.coe_strictMono.monotone.map_max]⟩
      · have e : mrow p x b = ⊥ := if_neg hp
        rw [e, max_eq_right bot_le]
        rcases ih with ⟨h, h'⟩ | h
        · refine .inl ⟨h, fun j hj => ?_⟩
          rcases Finset.mem_insert.1 hj with rfl | hj
          · exact hp
          · exact h' j hj
        · exact .inr h
  rcases h Finset.univ with ⟨_, h⟩ | h
  · exact absurd ha (h a (Finset.mem_univ a))
  · exact h

theorem mexp_nonneg (j : Fin n) : 0 ≤ mexp p x j := by
  unfold mexp; split
  · exact (Real.exp_pos _).le
  · exact le_rfl

theorem mexp_sum_pos (a : Fin n) (ha : p a) : 0 < ∑ j, mexp p x j :=
  lt_of_lt_of_le (by unfold mexp; rw [if_pos ha]; exact Real.exp_pos _)
    (Finset.single_le_sum (f := mexp p x) (fun j _ => mexp_nonneg p x j) (Finset.mem_univ a))

/-- The exponentials and their sum, of a row that sees a logit. -/
theorem mrow_real (a : Fin n) (ha : p a) : ∃ M : ℝ, mx (mrow p x) = M
    ∧ (∀ j, ex (mrow p x) j = ((mexp p x j * Real.exp (-M) : ℝ) : EReal))
    ∧ den (mrow p x) = (((∑ j, mexp p x j) * Real.exp (-M) : ℝ) : EReal) := by
  obtain ⟨M, hM⟩ := mx_mrow p x a ha
  have he : ∀ j, ex (mrow p x) j = ((mexp p x j * Real.exp (-M) : ℝ) : EReal) := fun j => by
    unfold ex
    rw [hM]
    by_cases hp : p j
    · rw [show mrow p x j = ((x j : ℝ) : EReal) from if_pos hp, show mexp p x j = Real.exp (x j) from if_pos hp,
        ← EReal.coe_sub, Ideal.exp_coe, ← Real.exp_add, sub_eq_add_neg]
    · rw [show mrow p x j = ⊥ from if_neg hp, show mexp p x j = 0 from if_neg hp, EReal.bot_sub, Ideal.exp_bot, zero_mul, EReal.coe_zero]
  refine ⟨M, hM, he, ?_⟩
  unfold den
  rw [Finset.sum_mul, coe_sum]
  exact Finset.sum_congr rfl fun j _ => he j

/-- What is added to all logits of a row is a factor of its exponentials. -/
theorem mexp_add (t : ℝ) (j : Fin n) : mexp p (fun k => x k + t) j = mexp p x j * Real.exp t := by
  unfold mexp; split
  · exact Real.exp_add _ _
  · exact (zero_mul _).symm

/-- The gradient of the quotient of real exponentials and their sum. -/
theorem quotient_grad (e dp : Fin n → ℝ) {l : ℝ} (hl : 0 < l) (j : Fin n) :
    (Ideal.div (dp j : EReal) (l : EReal) + -(∑ k, (dp k : EReal) * Ideal.div 1 ((l : EReal) * (l : EReal)) * (e k : EReal))) * (e j : EReal)
      = ((e j / l * (dp j - ∑ k, e k / l * dp k) : ℝ) : EReal) := by
  have h1 : (1 : EReal) = ((1 : ℝ) : EReal) := rfl
  have hs : (∑ k, (dp k : EReal) * Ideal.div 1 ((l : EReal) * (l : EReal)) * (e k : EReal)) = ((∑ k, dp k * (1 / (l * l)) * e k : ℝ) : EReal) := by
    rw [coe_sum]
    refine Finset.sum_congr rfl fun k _ => ?_
    rw [← EReal.coe_mul, Ideal.div_coe (mul_pos hl hl).ne', h1, ← EReal.coe_mul, one_mul, ← EReal.coe_mul, ← EReal.coe_mul]
  rw [hs, Ideal.div_coe hl.ne', ← EReal.coe_neg, ← EReal.coe_mul, ← EReal.coe_add, ← EReal.coe_mul]
  refine congrArg (fun z : ℝ => (z : EReal)) ?_
  have h2 : (∑ k, dp k * (1 / (l * l)) * e k) = 1 / l * ∑ k, e k / l * dp k := by
    rw [Finset.mul_sum]; exact Finset.sum_congr rfl fun k _ => by field_simp
  rw [h2]; field_simp; ring

end row

section head
variable (Q K V G : Fin 8192 → Fin 1024 → ℝ) (C : Fin 16 → Fin 8192 → ℝ)

/-- A query's logits, its forget gates summed from its block's first row. -/
def x (H : Fin 16) (R j : Fin 8192) : ℝ := (∑ d, Q R (ln H d) * (1 / 8) * K j (ln H d)) + (C H (start R) - C H j)
/-- A query's exponentials over the keys that it sees, their sum, and its probabilities. -/
def E (H : Fin 16) (R j : Fin 8192) : ℝ := mexp (fun j : Fin 8192 => j.val ≤ R.val) (x Q K C H R) j
def Z (H : Fin 16) (R : Fin 8192) : ℝ := ∑ j, E Q K C H R j
def pr (H : Fin 16) (R j : Fin 8192) : ℝ := E Q K C H R j / Z Q K C H R
/-- The probabilities' gradient and the scores' gradient. -/
def dp (H : Fin 16) (R j : Fin 8192) : ℝ := ∑ d, G R (ln H d) * V j (ln H d)
def ds (H : Fin 16) (R j : Fin 8192) : ℝ := pr Q K C H R j * (dp V G H R j - ∑ k, pr Q K C H R k * dp V G H R k)
/-- The attention's output and the log of the row's sum. -/
def out (R : Fin 8192) (J : Fin 1024) : ℝ := ∑ j, pr Q K C (hd J) R j * V j J
def lse (H : Fin 16) (R : Fin 8192) : ℝ := Real.log (Z Q K C H R)

theorem Z_pos (H : Fin 16) (R : Fin 8192) : 0 < Z Q K C H R := mexp_sum_pos _ _ R le_rfl

theorem hd_ln (H : Fin 16) (d : Fin 64) : hd (ln H d) = H := Fin.ext (by show (64 * H.val + d.val) / 64 = H.val; omega)

/-- From the saved log sum, a query's probabilities are those of softmax. -/
theorem prob_eq (H : Fin 16) (R j : Fin 8192) : prob Q K (lse Q K C) C H R j = pr Q K C H R j := by
  unfold prob pr E mexp
  split
  · show Real.exp (x Q K C H R j - Real.log (Z Q K C H R)) = _
    rw [Real.exp_sub, Real.exp_log (Z_pos Q K C H R)]
  · exact (zero_div _).symm

/-- The saved output's product with the cotangent is the probabilities' with their gradient. -/
theorem dot_out (H : Fin 16) (R : Fin 8192) : ∑ d, G R (ln H d) * out Q K V C R (ln H d) = ∑ j, pr Q K C H R j * dp V G H R j := by
  unfold out dp
  simp only [hd_ln, Finset.mul_sum]
  rw [Finset.sum_comm]
  exact Finset.sum_congr rfl fun j _ => Finset.sum_congr rfl fun d _ => by ring

theorem sg_eq (H : Fin 16) (R j : Fin 8192) : sg Q K V G (out Q K V C) (lse Q K C) C H R j = ds Q K V G C H R j := by
  unfold sg ds
  rw [prob_eq, dot_out]
  rfl

/-- A query's logits with its own sum of forget gates: its block's first row's are shifted by one number. -/
theorem x_own (H : Fin 16) (R j : Fin 8192) : (∑ d, Q R (ln H d) * K j (ln H d)) * (1 / 8) + (C H R - C H j) = x Q K C H R j + (C H R - C H (start R)) := by
  unfold x
  rw [Finset.sum_mul, show (∑ d, Q R (ln H d) * K j (ln H d) * (1 / 8)) = ∑ d, Q R (ln H d) * (1 / 8) * K j (ln H d) from
    Finset.sum_congr rfl fun d _ => mul_right_comm _ _ _]
  ring

theorem x_start (H : Fin 16) (R j : Fin 8192) : (∑ d, Q R (ln H d) * K j (ln H d)) * (1 / 8) + (C H (start R) - C H j) = x Q K C H R j := by
  unfold x
  rw [Finset.sum_mul, show (∑ d, Q R (ln H d) * K j (ln H d) * (1 / 8)) = ∑ d, Q R (ln H d) * (1 / 8) * K j (ln H d) from
    Finset.sum_congr rfl fun d _ => mul_right_comm _ _ _]

end head

end Cert.AttnMath

end
-- ==== Proof.AttnRefReads.lean ====
/-
  The reference derivative of the attention at an index: every array from the logits to the scores' gradient, and the
  five results, over the real numbers that the arguments hold.
-/
module

public import proofs.«01_k».proof.Proof.Gen.AttnRefIdeal.Read
public import proofs.«01_k».proof.Proof.AttnMath
public import proofs.«01_k».proof.Proof.SoftmaxReads
public import proofs.«01_k».proof.Proof.GateMath
public import Idealize.ShloMosaic.Lib.WordCmp

@[expose] public section

set_option maxRecDepth 16384

noncomputable section

namespace Cert.AttnRefReads

open Idealize.ShloMosaic Idealize.ShloMosaic.ValueIdx
open Cert.AttnRefIdeal Cert.AttnRefIdeal.Read
open Cert.Laws Cert.SoftmaxReads Cert.AttnMath Cert.GateMath
open Cert.SoftmaxMath (mx ex den)
open Cert.AttnReal (ln hd start pairHd gq gk gv gc gcq sg)
open scoped BigOperators

/-- The real numbers that the arguments hold. -/
structure Args (x0 : FVec Ideal S8192x9232 .f32) (x1 : FVec Ideal S16x8192 .f32) (x2 : FVec Ideal S8192x1024 .f32)
    (Q K V G : Fin 8192 → Fin 1024 → ℝ) (C : Fin 16 → Fin 8192 → ℝ) : Prop where
  q : ∀ R (J : Fin 1024), (x0 (ix2 R (⟨J.val, by omega⟩ : Fin 9232)) : EReal) = ((Q R J : ℝ) : EReal)
  k : ∀ R (J : Fin 1024), (x0 (ix2 R (⟨1024 + J.val, by omega⟩ : Fin 9232)) : EReal) = ((K R J : ℝ) : EReal)
  v : ∀ R (J : Fin 1024), (x0 (ix2 R (⟨2048 + J.val, by omega⟩ : Fin 9232)) : EReal) = ((V R J : ℝ) : EReal)
  c : ∀ H R, (x1 (ix2 H R) : EReal) = ((C H R : ℝ) : EReal)
  g : ∀ R J, (x2 (ix2 R J) : EReal) = ((G R J : ℝ) : EReal)

theorem word_eighth : Ideal.ofBits .f32 0x3E000000#32 = ((1 / 8 : ℝ) : EReal) := by
  simp [Ideal.ofBits, Ideal.ieee, -EReal.coe_mul]; norm_num

theorem split_eq (R : Fin 8192) (H : Fin 16) (d : Fin 64) :
    ((R.val * 16 + H.val) * 64 + d.val) / 1024 = R.val ∧ ((R.val * 16 + H.val) * 64 + d.val) % 1024 = 64 * H.val + d.val := by omega

/-- Which keys a query sees. -/
theorem seen_iff (H : Fin 16) (R j : Fin 8192) : val_main_v24_1 (F := Ideal) (ix3 H R j) = 1 ↔ j.val ≤ R.val := by
  rw [val_main_v24_1_apply, val_main_v23_apply, val_main_v21_apply, val_main_v22_apply, val_main_v19_apply, val_main_v20_apply, val_main_v18_apply, val_main_v18_apply]
  exact WordCmp.cmpi_sle_ofNat_eq_one_iff (by have := j.isLt; show j.val < _; omega) (by have := R.isLt; show R.val < _; omega)

theorem pick {α : Type} (H : Fin 16) (R j : Fin 8192) (a b : α) :
    Scalar.select (val_main_v24_1 (F := Ideal) (ix3 H R j)) a b = if j.val ≤ R.val then a else b := by
  by_cases h : j.val ≤ R.val
  · rw [if_pos h, (seen_iff H R j).2 h]; rfl
  · rw [if_neg h]
    have e : val_main_v24_1 (F := Ideal) (ix3 H R j) = 0 := by
      have := (seen_iff H R j).not.2 h
      revert this; generalize val_main_v24_1 (F := Ideal) (ix3 H R j) = w; revert w; decide
    rw [e]; rfl

variable {x0 : FVec Ideal S8192x9232 .f32} {x1 : FVec Ideal S16x8192 .f32} {x2 : FVec Ideal S8192x1024 .f32}
    {Q K V G : Fin 8192 → Fin 1024 → ℝ} {C : Fin 16 → Fin 8192 → ℝ} (ar : Args x0 x1 x2 Q K V G C)
include ar

theorem v4_apply (H : Fin 16) (R : Fin 8192) (d : Fin 64) : val_main_v4 (F := Ideal) x0 (ix3 H R d) = ((Q R (ln H d) : ℝ) : EReal) := by
  rw [val_main_v4_apply, val_main_v3_apply, show idx_main_v3 (idx_main_v4 (ix3 H R d)) = ix2 R (ln H d) from funext fun e => Fin.ext (by
    match e with
    | ⟨0, _⟩ => exact (split_eq R H d).1
    | ⟨1, _⟩ => exact (split_eq R H d).2), val_main_v0_apply]
  refine (congrArg x0 (funext fun e => Fin.ext ?_)).trans (ar.q R (ln H d))
  match e with
  | ⟨0, _⟩ => rfl
  | ⟨1, _⟩ => rfl

theorem v6_apply (H : Fin 16) (R : Fin 8192) (d : Fin 64) : val_main_v6 (F := Ideal) x0 (ix3 H R d) = ((K R (ln H d) : ℝ) : EReal) := by
  rw [val_main_v6_apply, val_main_v5_apply, show idx_main_v5 (idx_main_v6 (ix3 H R d)) = ix2 R (ln H d) from funext fun e => Fin.ext (by
    match e with
    | ⟨0, _⟩ => exact (split_eq R H d).1
    | ⟨1, _⟩ => exact (split_eq R H d).2), val_main_v1_apply]
  exact (congrArg x0 (eq_ix2 _)).trans (ar.k R (ln H d))

theorem v8_apply (H : Fin 16) (R : Fin 8192) (d : Fin 64) : val_main_v8 (F := Ideal) x0 (ix3 H R d) = ((V R (ln H d) : ℝ) : EReal) := by
  rw [val_main_v8_apply, val_main_v7_apply, show idx_main_v7 (idx_main_v8 (ix3 H R d)) = ix2 R (ln H d) from funext fun e => Fin.ext (by
    match e with
    | ⟨0, _⟩ => exact (split_eq R H d).1
    | ⟨1, _⟩ => exact (split_eq R H d).2), val_main_v2_apply]
  exact (congrArg x0 (eq_ix2 _)).trans (ar.v R (ln H d))

theorem v57_apply (H : Fin 16) (R : Fin 8192) (d : Fin 64) : val_main_v57 (F := Ideal) x2 (ix3 H R d) = ((G R (ln H d) : ℝ) : EReal) := by
  rw [val_main_v57_apply, val_main_v56_apply, show idx_main_v56 (idx_main_v57 (ix3 H R d)) = ix2 R (ln H d) from funext fun e => Fin.ext (by
    match e with
    | ⟨0, _⟩ => exact (split_eq R H d).1
    | ⟨1, _⟩ => exact (split_eq R H d).2)]
  exact ar.g R (ln H d)

/-- The queries' products with the keys, and the cotangent's with the values. -/
theorem v11_apply (H : Fin 16) (R j : Fin 8192) :
    val_main_v11 (F := Ideal) x0 (ix3 H R j) = (((∑ d, Q R (ln H d) * K j (ln H d)) * (1 / 8) : ℝ) : EReal) := by
  rw [val_main_v11_apply, val_main_v9_apply, val_main_v10_apply, val_main_cst_apply, EReal.coe_mul, coe_sum]
  refine congrArg₂ (fun a b : EReal => a * b) (Finset.sum_congr rfl fun d _ => ?_) word_eighth
  rw [EReal.coe_mul]
  exact congrArg₂ (fun a b : EReal => a * b) ((congrArg _ (eq_ix3 _)).trans (v4_apply ar H R d)) ((congrArg _ (eq_ix3 _)).trans (v6_apply ar H j d))

theorem v60_apply (H : Fin 16) (R j : Fin 8192) : val_main_v60 (F := Ideal) x0 x2 (ix3 H R j) = ((dp V G H R j : ℝ) : EReal) := by
  unfold dp
  rw [val_main_v60_apply, coe_sum]
  refine Finset.sum_congr rfl fun d _ => ?_
  rw [EReal.coe_mul]
  exact congrArg₂ (fun a b : EReal => a * b) ((congrArg _ (eq_ix3 _)).trans (v57_apply ar H R d)) ((congrArg _ (eq_ix3 _)).trans (v8_apply ar H j d))

/-- A row's logits. -/
theorem v24_apply (H : Fin 16) (R j : Fin 8192) : val_main_v24_0 (F := Ideal) x0 x1 (ix3 H R j)
    = mrow (fun j : Fin 8192 => j.val ≤ R.val) (fun j => AttnMath.x Q K C H R j + (C H R - C H (start R))) j := by
  rw [val_main_v24_0_apply, pick]
  unfold mrow
  refine if_congr Iff.rfl ?_ ?_
  · show _ = ((AttnMath.x Q K C H R j + (C H R - C H (start R)) : ℝ) : EReal)
    rw [← x_own, EReal.coe_add, EReal.coe_sub, val_main_v17_apply, v11_apply ar, val_main_v16_apply, val_main_v14_apply, val_main_v12_apply, val_main_v15_apply, val_main_v13_apply]
    exact congrArg (fun z : EReal => _ + z) (congrArg₂ (fun a b : EReal => a - b) ((congrArg _ (eq_ix2 _)).trans (ar.c H R)) ((congrArg _ (eq_ix2 _)).trans (ar.c H j)))
  · rw [val_main_call0_v2_apply]; exact word_bot

/-- A row's largest logit, its exponentials and their sum, up to one factor the reals of the blocks' rows. -/
theorem row_real (H : Fin 16) (R : Fin 8192) : ∃ u : ℝ, 0 < u
    ∧ (∀ j, val_main_v45 (F := Ideal) x0 x1 (ix3 H R j) = ((E Q K C H R j * u : ℝ) : EReal))
    ∧ val_main_v46 (F := Ideal) x0 x1 (ix2 H R) = ((Z Q K C H R * u : ℝ) : EReal) := by
  obtain ⟨M, hM, he, hd⟩ := mrow_real (fun j : Fin 8192 => j.val ≤ R.val) (fun j => AttnMath.x Q K C H R j + (C H R - C H (start R))) R le_rfl
  have h32 : val_main_v32 (F := Ideal) x0 x1 (ix2 H R) = (M : EReal) := by
    rw [val_main_v32_apply, val_main_v31_apply, val_main_cst_3_apply]
    refine (congrArg₂ (fun a b : EReal => max a b) word_bot ?_).trans (max_eq_right bot_le)
    unfold val_main_v25
    refine (hostMax_apply (a := 16) (b := 8192) (c := 8192) _ _ _ (by decide) _ ?_ H R).trans ((congrArg mx (funext fun j => v24_apply ar H R j)).trans hM)
    exact word_bot
  have h45 : ∀ j, val_main_v45 (F := Ideal) x0 x1 (ix3 H R j) = ((E Q K C H R j * (Real.exp (C H R - C H (start R)) * Real.exp (-M)) : ℝ) : EReal) := fun j => by
    rw [val_main_v45_apply, val_main_v44_apply, v24_apply ar, val_main_v43_apply, val_main_v42_apply]
    refine Eq.trans (congrArg (fun z : EReal => Ideal.exp (mrow (fun j : Fin 8192 => j.val ≤ R.val) (fun j => AttnMath.x Q K C H R j + (C H R - C H (start R))) j - z)) ((congrArg _ (eq_ix2 _)).trans (h32.trans hM.symm))) ((he j).trans ?_)
    rw [mexp_add, mul_assoc]; rfl
  refine ⟨_, mul_pos (Real.exp_pos _) (Real.exp_pos _), h45, ?_⟩
  rw [val_main_v46_apply]
  refine (congrArg₂ (fun a b : EReal => a + b) word_zero (Finset.sum_congr rfl fun j _ => (congrArg _ (eq_ix3 _)).trans (h45 j))).trans ((zero_add _).trans ?_)
  unfold Z
  rw [Finset.sum_mul, coe_sum]

theorem ratio (a l u : ℝ) (hu : 0 < u) : a * u / (l * u) = a / l := by
  rw [mul_div_mul_right _ _ hu.ne']

/-- The probabilities. -/
theorem v49_apply (H : Fin 16) (R j : Fin 8192) : val_main_v49 (F := Ideal) x0 x1 (ix3 H R j) = ((pr Q K C H R j : ℝ) : EReal) := by
  obtain ⟨u, hu, h45, h46⟩ := row_real ar H R
  rw [val_main_v49_apply, h45, val_main_v48_apply, val_main_v47_apply]
  refine (congrArg (Ideal.div _) ((congrArg _ (eq_ix2 _)).trans h46)).trans ?_
  rw [Ideal.div_coe (mul_pos (Z_pos Q K C H R) hu).ne', ← EReal.coe_mul]
  refine congrArg (fun z : ℝ => (z : EReal)) ?_
  rw [mul_one_div]
  exact ratio ar _ _ _ hu

/-- The scores' gradient. -/
theorem v73_apply (H : Fin 16) (R j : Fin 8192) : val_main_v73 (F := Ideal) x0 x1 x2 (ix3 H R j) = ((AttnMath.ds Q K V G C H R j : ℝ) : EReal) := by
  obtain ⟨u, hu, h45, h46⟩ := row_real ar H R
  have h47 : ∀ z : Fin 1, val_main_v47 (F := Ideal) x0 x1 (ix3 H R z) = ((Z Q K C H R * u : ℝ) : EReal) := fun z => by
    rw [val_main_v47_apply]; exact (congrArg _ (eq_ix2 _)).trans h46
  have h63 : ∀ k, val_main_v63 (F := Ideal) x0 x1 x2 (ix3 H R k) = (dp V G H R k : EReal) * Ideal.div 1 (((Z Q K C H R * u : ℝ) : EReal) * ((Z Q K C H R * u : ℝ) : EReal)) * ((E Q K C H R k * u : ℝ) : EReal) := fun k => by
    rw [val_main_v63_apply, val_main_v62_apply, v60_apply ar, h45, val_main_v61_apply, val_main_v52_apply, val_main_v51_apply, val_main_cst_10_apply, val_main_v50_apply]
    exact congrArg (fun z : EReal => (dp V G H R k : EReal) * z * ((E Q K C H R k * u : ℝ) : EReal)) (congrArg₂ Ideal.div word_one
      (congrArg₂ (fun a b : EReal => a * b) ((congrArg _ (eq_ix3 _)).trans (h47 0)) ((congrArg _ (eq_ix3 _)).trans (h47 0))))
  have h69 : val_main_v69 (F := Ideal) x0 x1 x2 (ix2 H R) = -(∑ k, (dp V G H R k : EReal) * Ideal.div 1 (((Z Q K C H R * u : ℝ) : EReal) * ((Z Q K C H R * u : ℝ) : EReal)) * ((E Q K C H R k * u : ℝ) : EReal)) := by
    rw [val_main_v69_apply]
    refine (congrArg₂ (fun a b : EReal => a + b) word_zero (Fin.sum_univ_one _)).trans ((zero_add _).trans ?_)
    rw [val_main_v66_apply, val_main_v65_apply, val_main_v64_apply]
    refine congrArg (fun z : EReal => -z) ?_
    refine (congrArg₂ (fun a b : EReal => a + b) word_zero (Finset.sum_congr rfl fun k _ => Eq.trans (congrArg _ ?_) (h63 k))).trans (zero_add _)
    exact funext fun e => Fin.ext (by
      match e with
      | ⟨0, _⟩ => show (H.val * 8192 + R.val) * 1 / 8192 = H.val; omega
      | ⟨1, _⟩ => show (H.val * 8192 + R.val) * 1 % 8192 = R.val; omega
      | ⟨2, _⟩ => rfl)
  have h72 : val_main_v72 (F := Ideal) x0 x1 x2 (ix3 H R j) = ((AttnMath.ds Q K V G C H R j : ℝ) : EReal) := by
    rw [val_main_v72_apply, h45, val_main_v71_apply, val_main_v68_apply, v60_apply ar, val_main_v67_apply, val_main_v70_apply]
    refine Eq.trans (congrArg (fun z : EReal => z * ((E Q K C H R j * u : ℝ) : EReal)) (congrArg₂ (fun a b : EReal => a + b)
      (congrArg (Ideal.div (dp V G H R j : EReal)) ((congrArg _ (eq_ix3 _)).trans (h47 0))) ((congrArg _ (eq_ix2 _)).trans h69))) ?_
    refine (quotient_grad (fun k => E Q K C H R k * u) (dp V G H R) (mul_pos (Z_pos Q K C H R) hu) j).trans ?_
    refine congrArg (fun z : ℝ => (z : EReal)) ?_
    simp only [ratio ar _ _ _ hu]
    rfl
  rw [val_main_v73_apply, pick]
  by_cases h : j.val ≤ R.val
  · rw [if_pos h]; exact h72
  · rw [if_neg h, val_main_call1_v0_apply]
    refine word_zero.trans (EReal.coe_zero.symm.trans (congrArg (fun z : ℝ => (z : EReal)) ?_))
    have : pr Q K C H R j = 0 := by unfold pr E mexp; rw [if_neg h, zero_div]
    unfold AttnMath.ds; rw [this, zero_mul]

theorem v82_apply (H : Fin 16) (R j : Fin 8192) : val_main_v82 (F := Ideal) x0 x1 x2 (ix3 H R j) = ((AttnMath.ds Q K V G C H R j * (1 / 8) : ℝ) : EReal) := by
  rw [val_main_v82_apply, v73_apply ar, val_main_v81_apply, val_main_cst_17_apply, EReal.coe_mul]
  exact congrArg (fun z : EReal => _ * z) word_eighth

omit ar in
theorem lane_eq (R : Fin 8192) (H : Fin 16) (d : Fin 64) :
    (R.val * 1024 + (64 * H.val + d.val)) / 1024 = R.val ∧ (R.val * 1024 + (64 * H.val + d.val)) / 64 % 16 = H.val ∧ (R.val * 1024 + (64 * H.val + d.val)) % 64 = d.val := by omega

omit ar in
theorem of_ln (J : Fin 1024) : ∃ (H : Fin 16) (d : Fin 64), J = ln H d :=
  ⟨⟨J.val / 64, by omega⟩, ⟨J.val % 64, by omega⟩, Fin.ext (by show J.val = 64 * (J.val / 64) + J.val % 64; omega)⟩

omit ar in
theorem pair_idx (p : Fin 8) (h : Fin 2) (j : Fin 8192) (y : S16x8192.Idx)
    (e0 : (y 0).val = ((p.val * 2 + h.val) * 8192 + j.val) / 8192) (e1 : (y 1).val = ((p.val * 2 + h.val) * 8192 + j.val) % 8192) : y = ix2 (pairHd p h) j :=
  funext fun a => Fin.ext (by
    match a with
    | ⟨0, _⟩ => exact e0.trans (show _ = 2 * p.val + h.val by omega)
    | ⟨1, _⟩ => exact e1.trans (show _ = j.val by omega))

/-- The queries' gradient, -/
theorem v91_apply (R : Fin 8192) (J : Fin 1024) : val_main_v91 (F := Ideal) x0 x1 x2 (ix2 R J)
    = ((gq Q K V G (out Q K V C) (lse Q K C) C R J : ℝ) : EReal) := by
  obtain ⟨H, d, rfl⟩ := of_ln J
  have e : val_main_v84 (F := Ideal) x0 x1 x2 (ix3 H R d) = ((gq Q K V G (out Q K V C) (lse Q K C) C R (ln H d) : ℝ) : EReal) := by
    unfold gq
    rw [hd_ln, val_main_v84_apply, Finset.sum_mul, coe_sum]
    refine Finset.sum_congr rfl fun j _ => ?_
    rw [sg_eq, mul_right_comm, EReal.coe_mul]
    exact congrArg₂ (fun a b : EReal => a * b) ((congrArg _ (eq_ix3 _)).trans (v82_apply ar H R j)) ((congrArg _ (eq_ix3 _)).trans (v6_apply ar H j d))
  rw [val_main_v91_apply]
  refine Eq.trans ?_ e
  show val_main_v90 (F := Ideal) x0 x1 x2 (ix2 R (ln H d)) = _
  rw [val_main_v90_apply, val_main_v89_apply]
  refine congrArg _ (funext fun a => Fin.ext ?_)
  match a with
  | ⟨0, _⟩ => exact (lane_eq R H d).2.1
  | ⟨1, _⟩ => exact (lane_eq R H d).1
  | ⟨2, _⟩ => exact (lane_eq R H d).2.2

/-- the keys', -/
theorem v92_apply (R : Fin 8192) (J : Fin 1024) : val_main_v92 (F := Ideal) x0 x1 x2 (ix2 R J)
    = ((gk Q K V G (out Q K V C) (lse Q K C) C R J : ℝ) : EReal) := by
  obtain ⟨H, d, rfl⟩ := of_ln J
  have e : val_main_v83 (F := Ideal) x0 x1 x2 (ix3 H R d) = ((gk Q K V G (out Q K V C) (lse Q K C) C R (ln H d) : ℝ) : EReal) := by
    unfold gk
    rw [hd_ln, val_main_v83_apply, coe_sum]
    refine Finset.sum_congr rfl fun j _ => ?_
    rw [sg_eq, mul_comm (Q j (ln H d)), ← mul_assoc, EReal.coe_mul]
    exact congrArg₂ (fun a b : EReal => a * b) ((congrArg _ (eq_ix3 _)).trans (v82_apply ar H j R)) ((congrArg _ (eq_ix3 _)).trans (v4_apply ar H j d))
  rw [val_main_v92_apply]
  refine Eq.trans ?_ e
  show val_main_v88 (F := Ideal) x0 x1 x2 (ix2 R (ln H d)) = _
  rw [val_main_v88_apply, val_main_v87_apply]
  refine congrArg _ (funext fun a => Fin.ext ?_)
  match a with
  | ⟨0, _⟩ => exact (lane_eq R H d).2.1
  | ⟨1, _⟩ => exact (lane_eq R H d).1
  | ⟨2, _⟩ => exact (lane_eq R H d).2.2

/-- the values', -/
theorem v93_apply (R : Fin 8192) (J : Fin 1024) : val_main_v93 (F := Ideal) x0 x1 x2 (ix2 R J)
    = ((gv Q K G (lse Q K C) C R J : ℝ) : EReal) := by
  obtain ⟨H, d, rfl⟩ := of_ln J
  have e : val_main_v58 (F := Ideal) x0 x1 x2 (ix3 H d R) = ((gv Q K G (lse Q K C) C R (ln H d) : ℝ) : EReal) := by
    unfold gv
    rw [hd_ln, val_main_v58_apply, coe_sum]
    refine Finset.sum_congr rfl fun j _ => ?_
    rw [prob_eq, mul_comm (pr Q K C H j R), EReal.coe_mul]
    exact congrArg₂ (fun a b : EReal => a * b) ((congrArg _ (eq_ix3 _)).trans (v57_apply ar H j d)) ((congrArg _ (eq_ix3 _)).trans (v49_apply ar H j R))
  rw [val_main_v93_apply]
  refine Eq.trans ?_ e
  show val_main_v86 (F := Ideal) x0 x1 x2 (ix2 R (ln H d)) = _
  rw [val_main_v86_apply, val_main_v85_apply, val_main_v59_apply]
  refine congrArg _ (funext fun a => Fin.ext ?_)
  match a with
  | ⟨0, _⟩ => exact (lane_eq R H d).2.1
  | ⟨1, _⟩ => exact (lane_eq R H d).2.2
  | ⟨2, _⟩ => exact (lane_eq R H d).1

/-- and the forget gates', as keys' -/
theorem v94_apply (p : Fin 8) (h : Fin 2) (j : Fin 8192) : val_main_v94 (F := Ideal) x0 x1 x2 (ix3 p h j)
    = ((gc Q K V G (out Q K V C) (lse Q K C) C (pairHd p h) j : ℝ) : EReal) := by
  rw [val_main_v94_apply, show idx_main_v94 (ix3 p h j) = ix2 (pairHd p h) j from pair_idx p h j _ (by rfl) (by rfl), val_main_v79_apply]
  refine (congrArg₂ (fun a b : EReal => a + b) word_zero (Fin.sum_univ_one _)).trans ((zero_add _).trans ?_)
  rw [val_main_v78_apply, val_main_v77_apply]
  unfold gc
  rw [← Finset.sum_neg_distrib, coe_sum]
  refine (congrArg₂ (fun a b : EReal => a + b) word_zero (Finset.sum_congr rfl fun R _ => ?_)).trans (zero_add _)
  rw [sg_eq, EReal.coe_neg, val_main_v76_apply]
  refine congrArg (fun z : EReal => -z) (Eq.trans (congrArg _ ?_) (v73_apply ar (pairHd p h) R j))
  refine funext fun a => Fin.ext ?_
  match a with
  | ⟨0, _⟩ => show (((pairHd p h).val * 1 + 0) * 8192 + j.val) / 8192 = (pairHd p h).val; omega
  | ⟨1, _⟩ => rfl
  | ⟨2, _⟩ => show (((pairHd p h).val * 1 + 0) * 8192 + j.val) % 8192 = j.val; omega

/-- and as queries'. -/
theorem v95_apply (p : Fin 8) (h : Fin 2) (j : Fin 8192) : val_main_v95 (F := Ideal) x0 x1 x2 (ix3 p h j)
    = ((gcq Q K V G (out Q K V C) (lse Q K C) C (pairHd p h) j : ℝ) : EReal) := by
  rw [val_main_v95_apply, show idx_main_v95 (ix3 p h j) = ix2 (pairHd p h) j from pair_idx p h j _ (by rfl) (by rfl), val_main_v80_apply]
  refine (congrArg₂ (fun a b : EReal => a + b) word_zero (Fin.sum_univ_one _)).trans ((zero_add _).trans ?_)
  rw [val_main_v75_apply, val_main_v74_apply]
  unfold gcq
  rw [coe_sum]
  refine (congrArg₂ (fun a b : EReal => a + b) word_zero (Finset.sum_congr rfl fun R _ => ?_)).trans (zero_add _)
  rw [sg_eq]
  refine Eq.trans (congrArg _ ?_) (v73_apply ar (pairHd p h) j R)
  refine funext fun a => Fin.ext ?_
  match a with
  | ⟨0, _⟩ => show ((pairHd p h).val * 8192 + j.val) * 1 / 8192 = (pairHd p h).val; omega
  | ⟨1, _⟩ => show ((pairHd p h).val * 8192 + j.val) * 1 % 8192 = j.val; omega
  | ⟨2, _⟩ => rfl

end Cert.AttnRefReads
end
-- ==== Proof.AttnHost.lean ====
/-
  The lines before the attention gradient's call that stand for the forward pass: the arrays they make from the
  projection and the forget gates' sums, each as one function, and their reads. A row's log sum and output are those of
  softmax.
-/
module

public import proofs.«01_k».proof.Proof.AttnRefReads

@[expose] public section

set_option maxRecDepth 16384

noncomputable section

namespace Cert.AttnHost

open Idealize.ShloMosaic Idealize.ShloMosaic.ValueIdx
open Cert.AttnRefIdeal Cert.AttnRefIdeal.Gen Cert.AttnRefIdeal.Read Cert.AttnRefReads
open Cert.Laws Cert.SoftmaxReads Cert.AttnMath
open Cert.SoftmaxMath (mx ex den)
open Cert.AttnReal (ln hd start pairHd)
open scoped BigOperators

/-- Each row's sum of forget gates at its block's first row. -/
def cbA (hs : (⟨3, ![16, 16, 512]⟩ : Shape).Slices ![0, 0, 0] ⟨3, ![16, 16, 1]⟩)
    (hb : (⟨3, ![16, 16, 1]⟩ : Shape).BroadcastsInDim ⟨3, ![16, 16, 512]⟩ (![0, 1, 2] : Fin 3 → Fin 3))
    (h1 : S16x8192.ShapeCasts ⟨3, ![16, 16, 512]⟩) (h2 : (⟨3, ![16, 16, 512]⟩ : Shape).ShapeCasts S16x8192)
    (x1 : FVec Ideal S16x8192 .f32) : FVec Ideal S16x8192 .f32 :=
  shapeCast _ (broadcastInDim (α := Ideal .f32) ⟨3, ![16, 16, 512]⟩ (![0, 1, 2] : Fin 3 → Fin 3) hb
    (extractStridedSlice ⟨3, ![16, 16, 1]⟩ ![0, 0, 0] (shapeCast ⟨3, ![16, 16, 512]⟩ x1 h1) hs)) h2

/-- The logits, from the sums that the queries' side takes. -/
def lgA (x0 : FVec Ideal S8192x9232 .f32) (y x1 : FVec Ideal S16x8192 .f32) : FVec Ideal S16x8192x8192 .f32 :=
  select (val_main_v24_1 (F := Ideal)) (addf (val_main_v11 (F := Ideal) x0) (subf (val_main_v14 (F := Ideal) y) (val_main_v15 (F := Ideal) x1))) (val_main_call0_v2 (F := Ideal))

/-- Each row's largest logit, exponentials and sum. -/
def topA (s : FVec Ideal S16x8192x8192 .f32) : FVec Ideal S16x8192 .f32 :=
  Host.reduce (FloatOps.maximumf (F := Ideal) (φ := .f32)) s (constant (F := Ideal) S_ .f32 0xFF800000#32) reducesTo_S16x8192x8192_S16x8192_d2 h_S_
def expA (s : FVec Ideal S16x8192x8192 .f32) : FVec Ideal S16x8192x8192 .f32 := Host.exp (subf s (val_main_v14 (F := Ideal) (topA s)))
def denA (s : FVec Ideal S16x8192x8192 .f32) : FVec Ideal S16x8192 .f32 :=
  Host.reduceAdd (expA s) (constant (F := Ideal) S_ .f32 0x00000000#32) reducesTo_S16x8192x8192_S16x8192_d2 h_S_

/-- Each row's log sum, and the output. -/
def lseA (s : FVec Ideal S16x8192x8192 .f32) : FVec Ideal S16x8192x1 .f32 :=
  addf (val_main_v12 (F := Ideal) (topA s)) (Host.log (val_main_v12 (F := Ideal) (denA s)))
def outA (hb : S16x8192x1.BroadcastsInDim S16x8192x64 (![0, 1, 2] : Fin 3 → Fin 3)) (s : FVec Ideal S16x8192x8192 .f32) (v : FVec Ideal S16x8192x64 .f32) : FVec Ideal S8192x1024 .f32 :=
  shapeCast _ (transpose S8192x16x64 [1, 0, 2] (Host.divf (Host.dotGeneral dot_S16x8192x8192_S16x8192x64_S16x8192x64_2_1_1_2_0_0 none (expA s) v)
    (broadcastInDim S16x8192x64 (![0, 1, 2] : Fin 3 → Fin 3) hb (val_main_v12 (F := Ideal) (denA s)))) transposes_S16x8192x64_S8192x16x64_1_0_2) shapeCasts_S8192x16x64_S8192x1024

theorem cbA_apply (hs hb h1 h2) (x1 : FVec Ideal S16x8192 .f32) (H : Fin 16) (R : Fin 8192) : cbA hs hb h1 h2 x1 (ix2 H R) = x1 (ix2 H (start R)) := by
  have a : R.val / 512 < 16 := by omega
  have b : R.val % 512 < 512 := by omega
  unfold cbA
  refine (shapeCast_apply _ h2 _ (ix3 H ⟨R.val / 512, a⟩ ⟨R.val % 512, b⟩) (by
    rw [Shape.rowMajor_val_two, Shape.rowMajor_val_three]
    show (H.val * 16 + R.val / 512) * 512 + R.val % 512 = H.val * 8192 + R.val; omega)).trans ?_
  refine (broadcastInDim_apply _ hb _ _ (ix3 H ⟨R.val / 512, a⟩ (0 : Fin 1)) (fun d => by
    match d with
    | ⟨0, _⟩ => rfl
    | ⟨1, _⟩ => rfl
    | ⟨2, _⟩ => rfl)).trans ?_
  refine (extractStridedSlice_apply _ _ hs _ (ix3 H ⟨R.val / 512, a⟩ (0 : Fin 512)) (fun d => by
    match d with
    | ⟨0, _⟩ => show H.val = 0 + H.val; omega
    | ⟨1, _⟩ => show R.val / 512 = 0 + R.val / 512; omega
    | ⟨2, _⟩ => rfl)).trans ?_
  exact shapeCast_apply _ h1 _ (ix2 H (start R)) (by
    rw [Shape.rowMajor_val_two, Shape.rowMajor_val_three]
    show H.val * 8192 + 512 * (R.val / 512) = (H.val * 16 + R.val / 512) * 512 + 0; omega)

variable {x0 : FVec Ideal S8192x9232 .f32} {x1 : FVec Ideal S16x8192 .f32} {x2 : FVec Ideal S8192x1024 .f32}
    {Q K V G : Fin 8192 → Fin 1024 → ℝ} {C : Fin 16 → Fin 8192 → ℝ} (ar : Args x0 x1 x2 Q K V G C)

section logits
include ar

theorem lgA_apply (hs hb h1 h2) (H : Fin 16) (R j : Fin 8192) : lgA x0 (cbA hs hb h1 h2 x1) x1 (ix3 H R j)
    = mrow (fun j : Fin 8192 => j.val ≤ R.val) (fun j => AttnMath.x Q K C H R j) j := by
  show Scalar.select (val_main_v24_1 (F := Ideal) (ix3 H R j)) (val_main_v11 (F := Ideal) x0 (ix3 H R j) + (val_main_v14 (F := Ideal) (cbA hs hb h1 h2 x1) (ix3 H R j) - val_main_v15 (F := Ideal) x1 (ix3 H R j))) (val_main_call0_v2 (F := Ideal) (ix3 H R j)) = _
  rw [pick]
  unfold mrow
  refine if_congr Iff.rfl ?_ ?_
  · show _ = ((AttnMath.x Q K C H R j : ℝ) : EReal)
    rw [← x_start, EReal.coe_add, EReal.coe_sub, v11_apply ar, val_main_v14_apply, val_main_v12_apply, val_main_v15_apply, val_main_v13_apply]
    exact congrArg (fun z : EReal => _ + z) (congrArg₂ (fun a b : EReal => a - b) ((congrArg _ (eq_ix2 _)).trans ((cbA_apply hs hb h1 h2 x1 H R).trans (ar.c H (start R)))) ((congrArg _ (eq_ix2 _)).trans (ar.c H j)))
  · rw [val_main_call0_v2_apply]; exact word_bot

end logits

/-- The sums along the rows, and the products with the values, at an index. -/
theorem rowSum_apply (y : FVec Ideal S16x8192x8192 .f32) (H : Fin 16) (R : Fin 8192) :
    Host.reduceAdd y (constant (F := Ideal) S_ .f32 0x00000000#32) reducesTo_S16x8192x8192_S16x8192_d2 h_S_ (ix2 H R) = ∑ j : Fin 8192, y (ix3 H R j) := by
  simp only [Host.reduceAdd, Ideal.hostReduceAdd_def]
  rw [Ideal.hostReduceAdd_single reducesTo_S16x8192x8192_S16x8192_d2 (by decide)]
  refine (congrArg₂ (fun a b : EReal => a + b) word_zero (Finset.sum_congr rfl fun j _ => ?_)).trans (zero_add _)
  exact congrArg y (funext fun a => Fin.ext (by match a with | ⟨0, _⟩ => rfl | ⟨1, _⟩ => rfl | ⟨2, _⟩ => rfl))

theorem dot_apply (y : FVec Ideal S16x8192x8192 .f32) (v : FVec Ideal S16x8192x64 .f32) (H : Fin 16) (R : Fin 8192) (d : Fin 64) :
    Host.dotGeneral dot_S16x8192x8192_S16x8192x64_S16x8192x64_2_1_1_2_0_0 none y v (ix3 H R d) = ∑ j : Fin 8192, (y (ix3 H R j) * v (ix3 H j d) : EReal) := by
  simp only [Host.dotGeneral]
  rw [Ideal.dotGeneral_apply, ← Equiv.sum_comp (contrEquiv1 dot_S16x8192x8192_S16x8192x64_S16x8192x64_2_1_1_2_0_0 8192 rfl rfl).symm]
  refine Finset.sum_congr rfl fun k _ => ?_
  have hk := contrEquiv1_symm_val dot_S16x8192x8192_S16x8192x64_S16x8192x64_2_1_1_2_0_0 8192 rfl rfl k
  refine congrArg₂ (fun a b : EReal => a * b) (congrArg y ?_) (congrArg v ?_)
  · exact funext fun a => Fin.ext (by
      match a with
      | ⟨0, _⟩ => exact lhs_main_v53_0 _ _
      | ⟨1, _⟩ => exact lhs_main_v53_1 _ _
      | ⟨2, _⟩ => exact (lhs_main_v53_2 _ _).trans hk)
  · exact funext fun a => Fin.ext (by
      match a with
      | ⟨0, _⟩ => exact rhs_main_v53_0 _ _
      | ⟨1, _⟩ => exact (rhs_main_v53_1 _ _).trans hk
      | ⟨2, _⟩ => exact rhs_main_v53_2 _ _)

theorem logSum_apply (t l : FVec Ideal S16x8192 .f32) (H : Fin 16) (R : Fin 8192) :
    addf (val_main_v12 (F := Ideal) t) (Host.log (val_main_v12 (F := Ideal) l)) (ix3 H R (0 : Fin 1)) = (t (ix2 H R) : EReal) + Ideal.log (l (ix2 H R)) := by
  show val_main_v12 (F := Ideal) t (ix3 H R (0 : Fin 1)) + Ideal.log (val_main_v12 (F := Ideal) l (ix3 H R (0 : Fin 1))) = _
  rw [val_main_v12_apply, val_main_v12_apply]
  exact congrArg₂ (fun a b : EReal => a + Ideal.log b) (congrArg t (eq_ix2 _)) (congrArg l (eq_ix2 _))

/-- A row's log sum and output, from its logits. -/
theorem lseA_apply (s : FVec Ideal S16x8192x8192 .f32)
    (hs : ∀ H R j, s (ix3 H R j) = mrow (fun j : Fin 8192 => j.val ≤ R.val) (fun j => AttnMath.x Q K C H R j) j) (H : Fin 16) (R : Fin 8192) :
    lseA s (ix3 H R (0 : Fin 1)) = ((lse Q K C H R : ℝ) : EReal)
    ∧ ∃ u : ℝ, 0 < u ∧ (∀ j, expA s (ix3 H R j) = ((E Q K C H R j * u : ℝ) : EReal)) ∧ denA s (ix2 H R) = ((Z Q K C H R * u : ℝ) : EReal) := by
  obtain ⟨M, hM, he, hd⟩ := mrow_real (fun j : Fin 8192 => j.val ≤ R.val) (fun j => AttnMath.x Q K C H R j) R le_rfl
  have ht : topA s (ix2 H R) = (M : EReal) := by
    unfold topA
    refine (hostMax_apply (a := 16) (b := 8192) (c := 8192) s (constant (F := Ideal) S_ .f32 0xFF800000#32) _ (by decide) _ ?_ H R).trans ((congrArg mx (funext fun j => hs H R j)).trans hM)
    exact word_bot
  have hx : ∀ j, expA s (ix3 H R j) = ((E Q K C H R j * Real.exp (-M) : ℝ) : EReal) := fun j => by
    show Ideal.exp (s (ix3 H R j) - val_main_v14 (F := Ideal) (topA s) (ix3 H R j)) = _
    rw [val_main_v14_apply, val_main_v12_apply, hs]
    refine Eq.trans (congrArg (fun z : EReal => Ideal.exp (mrow (fun j : Fin 8192 => j.val ≤ R.val) (fun j => AttnMath.x Q K C H R j) j - z)) ((congrArg _ (eq_ix2 _)).trans (ht.trans hM.symm))) (he j)
  have hl : denA s (ix2 H R) = ((Z Q K C H R * Real.exp (-M) : ℝ) : EReal) := by
    unfold denA
    rw [rowSum_apply]
    unfold Z
    rw [Finset.sum_mul, coe_sum]
    exact Finset.sum_congr rfl fun j _ => hx j
  refine ⟨?_, _, Real.exp_pos _, hx, hl⟩
  unfold lseA
  rw [logSum_apply, ht, hl, Ideal.log_coe, if_neg (not_le.2 (mul_pos (Z_pos Q K C H R) (Real.exp_pos _))), ← EReal.coe_add]
  refine congrArg (fun z : ℝ => (z : EReal)) ?_
  unfold lse
  rw [Real.log_mul (Z_pos Q K C H R).ne' (Real.exp_pos _).ne', Real.log_exp]
  ring

theorem outA_apply (hb) (s : FVec Ideal S16x8192x8192 .f32)
    (hs : ∀ H R j, s (ix3 H R j) = mrow (fun j : Fin 8192 => j.val ≤ R.val) (fun j => AttnMath.x Q K C H R j) j) (v : FVec Ideal S16x8192x64 .f32)
    (hv : ∀ H R d, v (ix3 H R d) = ((V R (ln H d) : ℝ) : EReal)) (R : Fin 8192) (J : Fin 1024) :
    outA hb s v (ix2 R J) = ((out Q K V C R J : ℝ) : EReal) := by
  obtain ⟨H, d, rfl⟩ := of_ln J
  obtain ⟨_, u, hu, hx, hl⟩ := lseA_apply s hs H R
  unfold outA
  refine (shapeCast_apply _ _ _ (ix3 R H d) (by
    rw [Shape.rowMajor_val_two, Shape.rowMajor_val_three]
    show (R.val * 16 + H.val) * 64 + d.val = R.val * 1024 + (64 * H.val + d.val); omega)).trans ?_
  refine (transpose_apply [1, 0, 2] _ _ (ix3 R H d) (ix3 H R d) (fun b => match b with
    | ⟨0, _⟩ => rfl
    | ⟨1, _⟩ => rfl
    | ⟨2, _⟩ => rfl)).trans ?_
  have hn : Host.dotGeneral dot_S16x8192x8192_S16x8192x64_S16x8192x64_2_1_1_2_0_0 none (expA s) v (ix3 H R d) = (((∑ j, E Q K C H R j * V j (ln H d)) * u : ℝ) : EReal) := by
    rw [dot_apply, Finset.sum_mul, coe_sum]
    refine Finset.sum_congr rfl fun k _ => ?_
    rw [mul_right_comm, EReal.coe_mul, hx, hv]
  have hd : broadcastInDim S16x8192x64 (![0, 1, 2] : Fin 3 → Fin 3) hb (val_main_v12 (F := Ideal) (denA s)) (ix3 H R d) = ((Z Q K C H R * u : ℝ) : EReal) := by
    refine (broadcastInDim_apply _ hb _ _ (ix3 H R (0 : Fin 1)) (fun d => by
      match d with
      | ⟨0, _⟩ => rfl
      | ⟨1, _⟩ => rfl
      | ⟨2, _⟩ => rfl)).trans ?_
    rw [val_main_v12_apply]
    exact (congrArg _ (eq_ix2 _)).trans hl
  refine (congrArg₂ Ideal.div hn hd).trans ?_
  rw [Ideal.div_coe (mul_pos (Z_pos Q K C H R) hu).ne', ← EReal.coe_mul]
  refine congrArg (fun z : ℝ => (z : EReal)) ?_
  unfold out pr
  rw [hd_ln, mul_one_div, mul_div_mul_right _ _ hu.ne', Finset.sum_div]
  exact Finset.sum_congr rfl fun j _ => by ring

end Cert.AttnHost
end
-- ==== Proof.AttnOperands.lean ====
/-
  The arrays that the attention gradient's call reads hold real numbers: the projection's and the cotangent's own, and
  softmax's outputs and log sums.
-/
module

public import proofs.«01_k».proof.Proof.AttnBlocks
public import proofs.«01_k».proof.Proof.AttnHost
public import proofs.«01_k».proof.Proof.ConcatReads

@[expose] public section

set_option maxRecDepth 16384

noncomputable section

namespace Cert.AttnIdeal.Hand

open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2 eq_ix3)
open Cert.AttnIdeal Cert.AttnIdeal.Gen Cert.AttnReal Cert.ConcatReads Cert.AttnHost
open Cert.AttnRefReads (Args)
open scoped BigOperators

variable (m : (ℓ : Loc nD τ sig) → Buf (Elt Ideal) ℓ) (c : Dev nD)

/-- The projection, the forget gates' sums and the cotangent. -/
abbrev A0 : FVec Ideal S8192x9232 .f32 := m ((c : Thread nD τ).loc main_arg0)
abbrev A1 : FVec Ideal S16x8192 .f32 := m ((c : Thread nD τ).loc main_arg1)
abbrev A2 : FVec Ideal S8192x1024 .f32 := m ((c : Thread nD τ).loc main_arg2)

/-- The logits of the forward lines. -/
def lgs : FVec Ideal S16x8192x8192 .f32 :=
  lgA (A0 m c) (cbA slices_S16x16x512_S16x16x1_0_0_0 bcast_S16x16x1_S16x16x512_0_1_2 shapeCasts_S16x8192_S16x16x512 shapeCasts_S16x16x512_S16x8192 (A1 m c)) (A1 m c)

theorem V_v47 : V m c main_v47 = truncf (F := Ideal) .bf16 (concatenate S8192x9216 1
      [⟨S8192x3072, extractStridedSlice S8192x3072 ![0, 0] (A0 m c) slices_S8192x9232_S8192x3072_0_0⟩,
       ⟨S8192x6144, extractStridedSlice S8192x6144 ![0, 3088] (A0 m c) slices_S8192x9232_S8192x6144_0_3088⟩]
      concatenates_S8192x3072_S8192x6144_S8192x9216_d1) bitsLt_bf16_f32 := by
  unfold_abbrev_sides
  simp only [hostOps0, hostOps0_1, hostOps0_2, List.flatten_cons, List.flatten_nil, List.append_nil, List.cons_append, List.nil_append]
  after_results

theorem V_v48 : V m c main_v48 = truncf (F := Ideal) .bf16 (A2 m c) bitsLt_bf16_f32 := by
  unfold_abbrev_sides
  simp only [hostOps0, hostOps0_1, hostOps0_2, List.flatten_cons, List.flatten_nil, List.append_nil, List.cons_append, List.nil_append]
  after_results

theorem V_v51 : V m c main_v51 = shapeCast S8x2x8192 (A1 m c) shapeCasts_S16x8192_S8x2x8192 := by
  unfold_abbrev_sides
  simp only [hostOps0, hostOps0_1, hostOps0_2, List.flatten_cons, List.flatten_nil, List.append_nil, List.cons_append, List.nil_append]
  after_results
  rfl

theorem V_v50 : V m c main_v50 = lseA (lgs m c) := by
  unfold_abbrev_sides
  simp only [hostOps0, hostOps0_1, hostOps0_2, List.flatten_cons, List.flatten_nil, List.append_nil, List.cons_append, List.nil_append]
  after_results
  rfl

theorem V_v43 : V m c main_v43 = outA bcast_S16x8192x1_S16x8192x64_0_1_2 (lgs m c) (Cert.AttnRefIdeal.Read.val_main_v8 (F := Ideal) (A0 m c)) := by
  unfold_abbrev_sides
  simp only [hostOps0, hostOps0_1, hostOps0_2, List.flatten_cons, List.flatten_nil, List.append_nil, List.cons_append, List.nil_append]
  after_results
  rfl

variable {m c} {Q K V' G : Fin 8192 → Fin 1024 → ℝ} {C : Fin 16 → Fin 8192 → ℝ}

/-- The projection's columns of queries, keys and values, in the operand without the forget gate's. -/
theorem v47_apply (R : Fin 8192) (j : Fin 9216) (hj : j.val < 3072) : (V m c main_v47 (ix2 R j) : EReal) = A0 m c (ix2 R ⟨j.val, by omega⟩) := by
  rw [V_v47]
  refine (without_apply (A0 m c) slices_S8192x9232_S8192x3072_0_0 slices_S8192x9232_S8192x6144_0_3088 concatenates_S8192x3072_S8192x6144_S8192x9216_d1 R j).trans ?_
  exact congrArg (fun q => A0 m c (ix2 R q)) (dif_pos hj)

/-- What the call reads, from the real numbers that the arguments hold. -/
theorem operands (ar : Args (A0 m c) (A1 m c) (A2 m c) Q K V' G C) :
    Operands m c Q K V' G (AttnMath.out Q K V' C) (AttnMath.lse Q K C) C where
  q R J := (v47_apply R _ (show J.val < 3072 by omega)).trans (ar.q R J)
  k R J := (v47_apply R _ (show 1024 + J.val < 3072 by omega)).trans (ar.k R J)
  v R J := (v47_apply R _ (show 2048 + J.val < 3072 by omega)).trans (ar.v R J)
  g R J := by rw [V_v48]; exact ar.g R J
  o R J := by
    rw [V_v43]
    exact outA_apply _ _ (lgA_apply ar _ _ _ _) _ (fun H R d => AttnRefReads.v8_apply ar H R d) R J
  s H R := by
    rw [V_v50]
    exact (lseA_apply _ (lgA_apply ar _ _ _ _) H R).1
  c p h j := by
    rw [V_v51]
    exact (shapeCast_apply _ _ _ (ix2 (pairHd p h) j) (by
      rw [Shape.rowMajor_val_two, Shape.rowMajor_val_three]
      show (2 * p.val + h.val) * 8192 + j.val = (p.val * 2 + h.val) * 8192 + j.val; omega)).trans (ar.c (pairHd p h) j)

end Cert.AttnIdeal.Hand
end
-- ==== Proof.AttnClaims.lean ====
/-
  The attention gradient's claim. The precondition is read here: the queries, keys, values, forget gates' sums and the
  cotangent are real.
-/
module

public import proofs.«01_k».proof.Defs
public import proofs.«01_k».proof.Proof.Gen.AttnRefIdeal.Read
public import Idealize.ShloMosaic.Lib.Quiescent
public import Idealize.ShloMosaic.Lib.ReduceAll
public import proofs.«01_k».proof.Proof.Gen.Pre_finite_queries_keys_values_gates_and_cotangent
public import proofs.«01_k».proof.Proof.Finite
public import proofs.«01_k».proof.Proof.AttnRunBlocks
public import proofs.«01_k».proof.Proof.AttnValue
public import proofs.«01_k».proof.Proof.AttnOperands

@[expose] public section

set_option maxRecDepth 16384

noncomputable section

namespace Cert.AttnClaims

open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2 eq_ix3)
open Cert.AttnRefIdeal Cert.AttnRefIdeal.Read Cert.AttnRefReads Cert.ConcatReads
open scoped BigOperators

/-- Real arguments, from the precondition. -/
theorem args_real (x0 : FVec Ideal S8192x9232 .f32) (x1 : FVec Ideal S16x8192 .f32) (x2 : FVec Ideal S8192x1024 .f32)
    [hP : Cert.Pre_finite_queries_keys_values_gates_and_cotangent.Facts] (h : Cert.Pre_finite_queries_keys_values_gates_and_cotangent.fn (F := Ideal) x0 x1 x2 = fun _ => 1#1) :
    ∃ (Q K V G : Fin 8192 → Fin 1024 → ℝ) (C : Fin 16 → Fin 8192 → ℝ), Args x0 x1 x2 Q K V G C := by
  have h1 := congrFun h (Shape.Idx.first (s := Cert.Pre_finite_queries_keys_values_gates_and_cotangent.S_) (by decide))
  dsimp only [Cert.Pre_finite_queries_keys_values_gates_and_cotangent.fn] at h1
  obtain ⟨hq, hr⟩ := IntOp.andi_eq_one.1 h1
  obtain ⟨hc, hg⟩ := IntOp.andi_eq_one.1 hr
  haveI : Subsingleton Cert.Pre_finite_queries_keys_values_gates_and_cotangent.S_.Idx := ⟨fun a b => funext fun e => e.elim0⟩
  have hx : ∀ (R : Fin 8192) (j : Fin 3072), ∃ r : ℝ, x0 (ix2 R ⟨j.val, by omega⟩) = (r : EReal) := fun R j => by
    refine Cert.Finite.real_of_olt _ (Eq.trans (congrArg (fun z => FloatOps.cmpf (F := Ideal) (φ := .f32) .olt (FloatOps.hostAbsf (F := Ideal) (φ := .f32) z) _) ?_) (Host.reduce_andi_all _ _ _ _ _ hq (ix2 R j)))
    refine Eq.trans ?_ (cols_apply (a := 8192) (b := 9232) (c := 3072) (o := 0) x0 _ R j (by show 0 + j.val < 9232; omega)).symm
    exact congrArg (fun z : Fin 9232 => x0 (ix2 R z)) (Fin.ext (Nat.zero_add _).symm)
  have hy : ∀ (H : Fin 16) (R : Fin 8192), ∃ r : ℝ, x1 (ix2 H R) = (r : EReal) := fun H R =>
    Cert.Finite.real_of_olt _ (Host.reduce_andi_all _ _ _ _ _ hc (ix2 H R))
  have hz : ∀ (R : Fin 8192) (J : Fin 1024), ∃ r : ℝ, x2 (ix2 R J) = (r : EReal) := fun R J =>
    Cert.Finite.real_of_olt _ (Host.reduce_andi_all _ _ _ _ _ hg (ix2 R J))
  choose X hX using hx
  choose C hC using hy
  choose G hG using hz
  exact ⟨fun R J => X R ⟨J.val, by omega⟩, fun R J => X R ⟨1024 + J.val, by omega⟩, fun R J => X R ⟨2048 + J.val, by omega⟩, G, C,
    ⟨fun R J => hX R ⟨J.val, by omega⟩, fun R J => hX R ⟨1024 + J.val, by omega⟩, fun R J => hX R ⟨2048 + J.val, by omega⟩, hC, hG⟩⟩

section results
variable {x0 : FVec Ideal S8192x9232 .f32} {x1 : FVec Ideal S16x8192 .f32} {x2 : FVec Ideal S8192x1024 .f32}
    {Q K V G : Fin 8192 → Fin 1024 → ℝ} {C : Fin 16 → Fin 8192 → ℝ} (ar : Args x0 x1 x2 Q K V G C)
include ar

/-- The reference's results as arrays of reals. -/
theorem arr91 : (fun y => ((AttnReal.gq Q K V G (AttnMath.out Q K V C) (AttnMath.lse Q K C) C (y 0) (y 1) : ℝ) : EReal)) = val_main_v91 (F := Ideal) x0 x1 x2 :=
  funext fun z => by
    obtain ⟨i, j, rfl⟩ : ∃ (i : Fin 8192) (j : Fin 1024), z = ix2 i j := ⟨z 0, z 1, eq_ix2 z⟩
    exact (v91_apply ar i j).symm
theorem arr92 : (fun y => ((AttnReal.gk Q K V G (AttnMath.out Q K V C) (AttnMath.lse Q K C) C (y 0) (y 1) : ℝ) : EReal)) = val_main_v92 (F := Ideal) x0 x1 x2 :=
  funext fun z => by
    obtain ⟨i, j, rfl⟩ : ∃ (i : Fin 8192) (j : Fin 1024), z = ix2 i j := ⟨z 0, z 1, eq_ix2 z⟩
    exact (v92_apply ar i j).symm
theorem arr93 : (fun y => ((AttnReal.gv Q K G (AttnMath.lse Q K C) C (y 0) (y 1) : ℝ) : EReal)) = val_main_v93 (F := Ideal) x0 x1 x2 :=
  funext fun z => by
    obtain ⟨i, j, rfl⟩ : ∃ (i : Fin 8192) (j : Fin 1024), z = ix2 i j := ⟨z 0, z 1, eq_ix2 z⟩
    exact (v93_apply ar i j).symm
theorem arr94 : (fun y => ((AttnReal.gc Q K V G (AttnMath.out Q K V C) (AttnMath.lse Q K C) C (AttnReal.pairHd (y 0) (y 1)) (y 2) : ℝ) : EReal)) = val_main_v94 (F := Ideal) x0 x1 x2 :=
  funext fun z => by
    obtain ⟨p, h, j, rfl⟩ : ∃ (p : Fin 8) (h : Fin 2) (j : Fin 8192), z = ix3 p h j := ⟨z 0, z 1, z 2, eq_ix3 z⟩
    exact (v94_apply ar p h j).symm
theorem arr95 : (fun y => ((AttnReal.gcq Q K V G (AttnMath.out Q K V C) (AttnMath.lse Q K C) C (AttnReal.pairHd (y 0) (y 1)) (y 2) : ℝ) : EReal)) = val_main_v95 (F := Ideal) x0 x1 x2 :=
  funext fun z => by
    obtain ⟨p, h, j, rfl⟩ : ∃ (p : Fin 8) (h : Fin 2) (j : Fin 8192), z = ix3 p h j := ⟨z 0, z 1, z 2, eq_ix3 z⟩
    exact (v95_apply ar p h j).symm

end results

/-- The attention's gradient call computes the derivative of the reference, where the arguments are real. -/
theorem algebraic : Cert.algebraic_AttnIdeal_AttnRefIdeal_pre_finite_queries_keys_values_gates_and_cotangent (hAttnIdeal := Cert.AttnIdeal.Gen.facts)
    (hAttnRefIdeal := Cert.AttnRefIdeal.Gen.facts)
    (hPre_finite_queries_keys_values_gates_and_cotangent := Cert.Pre_finite_queries_keys_values_gates_and_cotangent.Gen.facts) := by
  intro m ρ m' ρ' hpre hag
  refine ⟨fun c => val_main_v91 (F := Ideal) (Cert.AttnIdeal.Hand.A0 m c) (Cert.AttnIdeal.Hand.A1 m c) (Cert.AttnIdeal.Hand.A2 m c),
    fun c => val_main_v92 (F := Ideal) (Cert.AttnIdeal.Hand.A0 m c) (Cert.AttnIdeal.Hand.A1 m c) (Cert.AttnIdeal.Hand.A2 m c),
    fun c => val_main_v93 (F := Ideal) (Cert.AttnIdeal.Hand.A0 m c) (Cert.AttnIdeal.Hand.A1 m c) (Cert.AttnIdeal.Hand.A2 m c),
    fun c => val_main_v94 (F := Ideal) (Cert.AttnIdeal.Hand.A0 m c) (Cert.AttnIdeal.Hand.A1 m c) (Cert.AttnIdeal.Hand.A2 m c),
    fun c => val_main_v95 (F := Ideal) (Cert.AttnIdeal.Hand.A0 m c) (Cert.AttnIdeal.Hand.A1 m c) (Cert.AttnIdeal.Hand.A2 m c), ?_, ?_⟩
  · refine (θ_run _ _ _).mono (fun r h c => ?_) (Cert.AttnIdeal.Hand.run_blocks m ρ)
    obtain ⟨Q, K, V, G, C, ar⟩ := args_real _ _ _ (hpre c)
    have op := Cert.AttnIdeal.Hand.operands (m := m) (c := c) ar
    have e7 := ((h c).1.r7.trans (Cert.AttnIdeal.Hand.final7 op)).trans (arr91 ar)
    have e8 := ((h c).1.r8.trans (Cert.AttnIdeal.Hand.final8 op)).trans (arr92 ar)
    have e9 := ((h c).1.r9.trans (Cert.AttnIdeal.Hand.final9 op)).trans (arr93 ar)
    have e10 := ((h c).1.r10.trans (Cert.AttnIdeal.Hand.final10 op)).trans (arr94 ar)
    have e11 := ((h c).1.r11.trans (Cert.AttnIdeal.Hand.final11 op)).trans (arr95 ar)
    exact ⟨e7, e8, e9, e10, e11, (h c).2⟩
  · refine (θ_run _ _ _).mono (fun r h c => ⟨(h c).1.trans ((val_main_v91_eq ..).trans ?_), (h c).2.1.trans ((val_main_v92_eq ..).trans ?_),
      (h c).2.2.1.trans ((val_main_v93_eq ..).trans ?_), (h c).2.2.2.1.trans ((val_main_v94_eq ..).trans ?_),
      (h c).2.2.2.2.1.trans ((val_main_v95_eq ..).trans ?_), (h c).2.2.2.2.2⟩) (Cert.AttnRefIdeal.Value.run m' ρ')
    all_goals rw [(hag c).1, (hag c).2.1, (hag c).2.2]

/-- The reference leaves its arguments alone. -/
theorem frame_ref : Cert.quiescent_AttnRefIdeal (hAttnRefIdeal := Cert.AttnRefIdeal.Gen.facts) := fun m ρ _ =>
  (θ_run Cert.AttnRefIdeal.defs _ _).mono (fun r h => ⟨fun c => (h c).2.2.2.2.2, sem_eq_zero_of_no_sems (by decide) r.2⟩)
    (Cert.AttnRefIdeal.Value.run (F := Ideal) m ρ)

end Cert.AttnClaims

end
-- ==== Proof.RmsMemFwdClaims.lean ====
/-
  The memory's norm, forward: the call's result, the reference's, and the claim.
-/
module

public import proofs.«01_k».proof.Defs
public import proofs.«01_k».proof.Proof.Gen.RmsMemFwdRefIdeal.Read
public import proofs.«01_k».proof.Proof.Gen.RmsMemFwdIdeal.Value
public import proofs.«01_k».proof.Proof.NormMath
public import proofs.«01_k».proof.Proof.IdxReads
public import proofs.«01_k».proof.Proof.SoftmaxReads
public import Idealize.ShloMosaic.Lib.Quiescent
public import Idealize.ShloMosaic.Lib.Pipeline.ValueKit.Point

@[expose] public section

set_option maxRecDepth 16384

noncomputable section

namespace Cert.RmsMemFwdIdeal.Hand

open Cert.RmsMemFwdIdeal Cert.RmsMemFwdIdeal.Gen
open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2)
open Cert.IdxReads Cert.Laws Cert.NormMath Cert.SoftmaxReads
open Idealize.ShloMosaic.Pipeline (Dat)
open scoped BigOperators

/-- The norm of a row, scaled. -/
theorem pay1_apply (x : FVec Ideal S256x1024 .f32) (g : FVec Ideal S1x1024 .f32) (i : Fin 256) (j : Fin 1024) :
    k0_pay1 (F := Ideal) x g (ix2 i j) = x (ix2 i j) * rs (fun k => x (ix2 i k)) * g (ix2 0 j) := by
  unfold k0_pay1; dsimp only
  refine congrArg₂ (fun a b : EReal => x (ix2 i j) * a * b) ?_ (bcastRow_apply _ _ i j)
  rw [bcastCol_apply]
  show Ideal.rsqrt (Ideal.div (shapeCast S256x1 _ _ (ix2 i 0)) (Ideal.ofBits .f32 0x44800000#32) + Ideal.ofBits .f32 0x358637BD#32) = _
  rw [word_1024, word_eps, shapeCast_b_b1_apply, rowSum_apply]; rfl

variable (m : (ℓ : Loc nD τ sig) → Buf (Elt Ideal) ℓ)

def xA (c : Dev nD) : FVec Ideal S256x1024 .f32 := m ((c.tc : Thread nD τ).loc main_arg0)
def gA (c : Dev nD) : FVec Ideal S1x1024 .f32 := m ((c.tc : Thread nD τ).loc main_arg1)

/-- The result. -/
def hA (c : Dev nD) (i : Fin 256) (j : Fin 1024) : EReal := xA m c (ix2 i j) * rs (fun k => xA m c (ix2 i k)) * gA m c (ix2 0 j)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)

theorem blk0 (c : Dev nD) (t : Fin cfg0.N) (i : Fin 256) (j : Fin 1024) : iblk m c 0 t (ix2 i j) = xA m c (ix2 i j) := by
  unfold xA; blk_ext! [iblk, idx0 t, V_main_arg0]
theorem blk1 (c : Dev nD) (t : Fin cfg0.N) (j : Fin 1024) : iblk m c 1 t (ix2 0 j) = gA m c (ix2 0 j) := by
  unfold gA; blk_ext! [iblk, idx1 t, V_main_arg1]

theorem out2 (c : Dev nD) (t : Fin cfg0.N) (i : Fin 256) (j : Fin 1024) : out0_2 (iblk m c 0 t) (iblk m c 1 t) (ix2 i j) = hA m c i j := by
  unfold out0_2
  rw [View.canon_unit_zero hz2, ld2, ld2]
  refine (pay1_apply _ _ i j).trans ?_
  simp only [blk0, blk1]; rfl

/-- The array after the run. -/
theorem final2 (c : Dev nD) : (dats m 0 c).arrAt 2 cfg0.N = fun i : S256x1024.Idx => hA m c (i 0) (i 1) := by
  refine (dats m 0 c).arrAt_eq_of_covers 2 _ (by decide +kernel) fun t hf y => ?_
  blk_simp
  obtain ⟨a, b, rfl⟩ : ∃ (a : Fin 256) (b : Fin 1024), y = ix2 a b := ⟨y 0, y 1, eq_ix2 y⟩
  rw [after0_2, out2]
  refine congrArg₂ (hA m c) (Fin.ext ?_) (Fin.ext ?_)
  · blk_simp [idx2 t]
  · blk_simp [idx2 t]

end Cert.RmsMemFwdIdeal.Hand

namespace Cert.RmsMemFwdClaims

open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2)
open Cert.RmsMemFwdRefIdeal Cert.RmsMemFwdRefIdeal.Read
open Cert.RmsMemFwdIdeal.Hand (xA gA hA final2)
open Cert.Laws Cert.NormMath
open scoped BigOperators

/-- The reference's norm at an index. -/
theorem v12_apply (x0 : FVec Ideal S256x1024 .f32) (x1 : FVec Ideal S1x1024 .f32) (i : Fin 256) (j : Fin 1024) :
    val_main_v12 (F := Ideal) x0 x1 (ix2 i j) = x0 (ix2 i j) * rs (fun k => x0 (ix2 i k)) * x1 (ix2 0 j) := by
  simp only [val_main_v12_apply, val_main_v11_apply, val_main_v10_apply, val_main_v9_apply, val_main_v8_apply, val_main_v7_apply, val_main_v6_apply,
    val_main_v5_apply, val_main_v4_apply, val_main_v3_apply, val_main_v2_apply, val_main_v1_apply, val_main_v0_apply, val_main_cst_apply, val_main_cst_0_apply, val_main_cst_1_apply]
  refine congrArg₂ (fun a b : EReal => x0 (ix2 i j) * a * b) ?_ (congrArg x1 (eq_ix2 _))
  refine congrArg Ideal.rsqrt (congrArg₂ (fun a b : EReal => a + b) (congrArg₂ Ideal.div ?_ word_1024) word_eps)
  refine (congrArg₂ (fun a b : EReal => a + b) word_zero (Finset.sum_congr rfl fun k _ => ?_)).trans (zero_add _)
  exact congrArg₂ (fun a b : EReal => a * b) (congrArg x0 (eq_ix2 _)) (congrArg x0 (eq_ix2 _))

/-- The call computes the reference's norm of the memory. -/
theorem algebraic : Cert.algebraic_RmsMemFwdIdeal_RmsMemFwdRefIdeal (hRmsMemFwdIdeal := Cert.RmsMemFwdIdeal.Gen.facts) (hRmsMemFwdRefIdeal := Cert.RmsMemFwdRefIdeal.Gen.facts) := by
  intro m ρ m' ρ' _ hag
  refine ⟨fun c => val_main_v12 (F := Ideal) (xA m c) (gA m c), ?_, ?_⟩
  · refine (θ_run _ _ _).mono (fun r h c => ⟨(h c).1.trans ((final2 m c).trans (funext fun z => ?_)), (h c).2⟩) (Cert.RmsMemFwdIdeal.Value.run_blocks m ρ)
    obtain ⟨i, j, rfl⟩ : ∃ (i : Fin 256) (j : Fin 1024), z = ix2 i j := ⟨z 0, z 1, eq_ix2 z⟩
    exact (v12_apply (xA m c) (gA m c) i j).symm
  · refine (θ_run _ _ _).mono (fun r h c => ⟨(h c).1.trans ?_, (h c).2⟩) (Cert.RmsMemFwdRefIdeal.Value.run m' ρ')
    refine (val_main_v12_eq ..).trans ?_
    rw [(hag c).1, (hag c).2]; rfl

/-- The reference runs and leaves its arguments and the counters as they were. -/
theorem frame_ref : Cert.quiescent_RmsMemFwdRefIdeal (hRmsMemFwdRefIdeal := Cert.RmsMemFwdRefIdeal.Gen.facts) := fun m ρ _ =>
  (θ_run Cert.RmsMemFwdRefIdeal.defs _ _).mono (fun r h => ⟨fun c => (h c).2, sem_eq_zero_of_no_sems (by decide) r.2⟩)
    (Cert.RmsMemFwdRefIdeal.Value.run (F := Ideal) m ρ)

end Cert.RmsMemFwdClaims

end
-- ==== Proof.RmsPreFwdClaims.lean ====
/-
  The block's first norm, forward, with the product of the normed rows and the forget gate's weight: the call's two
  results, the reference's, and the claim.
-/
module

public import proofs.«01_k».proof.Defs
public import proofs.«01_k».proof.Proof.Gen.RmsPreFwdRefIdeal.Read
public import proofs.«01_k».proof.Proof.Gen.RmsPreFwdIdeal.Value
public import proofs.«01_k».proof.Proof.NormMath
public import proofs.«01_k».proof.Proof.IdxReads
public import proofs.«01_k».proof.Proof.SoftmaxReads
public import Idealize.ShloMosaic.Lib.MatmulPlain
public import Idealize.ShloMosaic.Lib.Quiescent
public import Idealize.ShloMosaic.Lib.Pipeline.ValueKit.Point

@[expose] public section

set_option maxRecDepth 16384

noncomputable section

namespace Cert.RmsPreFwdIdeal.Hand

open Cert.RmsPreFwdIdeal Cert.RmsPreFwdIdeal.Gen
open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2)
open Cert.IdxReads Cert.Laws Cert.NormMath Cert.SoftmaxReads
open Idealize.ShloMosaic.Pipeline (Dat)
open scoped BigOperators

/-- The norm of a row, scaled. -/
theorem pay1_apply (x : FVec Ideal S512x1024 .f32) (g : FVec Ideal S1x1024 .f32) (i : Fin 512) (j : Fin 1024) :
    k0_pay1 (F := Ideal) x g (ix2 i j) = x (ix2 i j) * rs (fun k => x (ix2 i k)) * g (ix2 0 j) := by
  unfold k0_pay1; dsimp only
  refine congrArg₂ (fun a b : EReal => x (ix2 i j) * a * b) ?_ (bcastRow_apply _ _ i j)
  rw [bcastCol_apply]
  show Ideal.rsqrt (Ideal.div (shapeCast S512x1 _ _ (ix2 i 0)) (Ideal.ofBits .f32 0x44800000#32) + Ideal.ofBits .f32 0x358637BD#32) = _
  rw [word_1024, word_eps, shapeCast_b_b1_apply, rowSum_apply]; rfl

/-- The product of the normed rows and the padded weight. -/
theorem pay2_apply (x : FVec Ideal S512x1024 .f32) (g : FVec Ideal S1x1024 .f32) (w : FVec Ideal S128x1024 .bf16) (i : Fin 512) (q : Fin 128) :
    k0_pay2 (F := Ideal) x g w (ix2 i q) = ∑ j : Fin 1024, (x (ix2 i j) * rs (fun k => x (ix2 i k)) * g (ix2 0 j)) * w (ix2 q j) := by
  unfold k0_pay2
  simp only [shapeCast_self]
  refine (Ideal.matmul_transposedRhs_apply none _ w _ i q).trans ((congrArg (· + _) word_zero).trans ((zero_add _).trans ?_))
  exact Finset.sum_congr rfl fun j _ => congrArg (fun z : EReal => z * w (ix2 q j)) (pay1_apply x g i j)

variable (m : (ℓ : Loc nD τ sig) → Buf (Elt Ideal) ℓ)

/-- The word of zero as a number. -/
theorem sitofp_zero (i : S_.Idx) : (sitofp (F := Ideal) .bf16 (constantI S_ 32 0#32)) i = (0 : EReal) := by
  show ((BitVec.toInt 0#32 : ℝ) : EReal) = 0
  simp

def xA (c : Dev nD) : FVec Ideal S8192x1024 .f32 := m ((c.tc : Thread nD τ).loc main_arg0)
def gA (c : Dev nD) : FVec Ideal S1x1024 .f32 := m ((c.tc : Thread nD τ).loc main_arg1)
def wA (c : Dev nD) : FVec Ideal S1024x16 .f32 := m ((c.tc : Thread nD τ).loc main_arg2)

/-- The padded, transposed weight the call reads, at an index. -/
theorem V_v2 (c : Dev nD) (q : Fin 128) (j : Fin 1024) : V m c main_v2 (ix2 q j) = if hq : q.val < 16 then wA m c (ix2 j ⟨q.val, hq⟩) else (0 : EReal) := by
  refine (congrFun (show V m c main_v2 = pad S128x1024 ![0, 0] ![112, 0] ![0, 0] (truncf .bf16 (transpose S16x1024 [1, 0] (m ((c : Thread nD τ).loc main_arg2)) transposes_S1024x16_S16x1024_1_0) bitsLt_bf16_f32)
      (sitofp (F := Ideal) .bf16 (constantI S_ 32 0#32)) pads_S16x1024_S128x1024_01120_000 h_S_ by
    unfold_abbrev_sides
    simp only [hostOps0, hostOps0_1, List.flatten_cons, List.flatten_nil, List.append_nil, List.cons_append, List.nil_append]
    after_results; rfl) _).trans ?_
  refine (padRows_apply _ _ _ _ q j).trans ?_
  rw [sitofp_zero]
  split_ifs
  · exact transpose_apply _ _ _ _ _ (by intro d; match d with | ⟨0, _⟩ => rfl | ⟨1, _⟩ => rfl)
  · rfl

/-- The two results. -/
def hA (c : Dev nD) (i : Fin 8192) (j : Fin 1024) : EReal := xA m c (ix2 i j) * rs (fun k => xA m c (ix2 i k)) * gA m c (ix2 0 j)
def fA (c : Dev nD) (i : Fin 8192) (q : Fin 128) : EReal :=
  ∑ j : Fin 1024, hA m c i j * (if hq : q.val < 16 then wA m c (ix2 j ⟨q.val, hq⟩) else (0 : EReal))

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)

/-- A row of a block, as a row of the array. -/
def row (t : Fin cfg0.N) (i : Fin 512) : Fin 8192 := ⟨t.val * 512 + i.val, by have h := Nat.lt_of_lt_of_eq t.isLt N_0; omega⟩

theorem blk0 (c : Dev nD) (t : Fin cfg0.N) (i : Fin 512) (j : Fin 1024) : iblk m c 0 t (ix2 i j) = xA m c (ix2 (row t i) j) := by
  unfold xA; blk_ext! [iblk, idx0 t, V_main_arg0, row]
theorem blk1 (c : Dev nD) (t : Fin cfg0.N) (j : Fin 1024) : iblk m c 1 t (ix2 0 j) = gA m c (ix2 0 j) := by
  unfold gA; blk_ext! [iblk, idx1 t, V_main_arg1]
theorem blk2 (c : Dev nD) (t : Fin cfg0.N) (q : Fin 128) (j : Fin 1024) : iblk m c 2 t (ix2 q j) = if hq : q.val < 16 then wA m c (ix2 j ⟨q.val, hq⟩) else (0 : EReal) := by
  refine Eq.trans ?_ (V_v2 m c q j)
  blk_ext! [iblk, idx2 t]

theorem out3 (c : Dev nD) (t : Fin cfg0.N) (i : Fin 512) (j : Fin 1024) : out0_3 (iblk m c 0 t) (iblk m c 1 t) (iblk m c 2 t) (ix2 i j) = hA m c (row t i) j := by
  unfold out0_3
  rw [View.canon_unit_zero hz2, ld2, ld2]
  refine (pay1_apply _ _ i j).trans ?_
  simp only [blk0, blk1]; rfl

theorem out4 (c : Dev nD) (t : Fin cfg0.N) (i : Fin 512) (q : Fin 128) : out0_4 (iblk m c 0 t) (iblk m c 1 t) (iblk m c 2 t) (ix2 i q) = fA m c (row t i) q := by
  unfold out0_4
  rw [View.canon_unit_zero hz2, ld2, ld2, ld2]
  refine (pay2_apply _ _ _ i q).trans ?_
  simp only [blk0, blk1, blk2]; rfl

/-- The arrays after the run. -/
theorem final3 (c : Dev nD) : (dats m 0 c).arrAt 3 cfg0.N = fun i : S8192x1024.Idx => hA m c (i 0) (i 1) := by
  refine (dats m 0 c).arrAt_eq_of_covers 3 _ (by decide +kernel) fun t hf y => ?_
  blk_simp
  obtain ⟨a, b, rfl⟩ : ∃ (a : Fin 512) (b : Fin 1024), y = ix2 a b := ⟨y 0, y 1, eq_ix2 y⟩
  rw [after0_3, out3]
  refine congrArg₂ (hA m c) (Fin.ext ?_) (Fin.ext ?_)
  · blk_simp [idx3 t, row]
  · blk_simp [idx3 t]

theorem final4 (c : Dev nD) : (dats m 0 c).arrAt 4 cfg0.N = fun i : S8192x128.Idx => fA m c (i 0) (i 1) := by
  refine (dats m 0 c).arrAt_eq_of_covers 4 _ (by decide +kernel) fun t hf y => ?_
  blk_simp
  obtain ⟨a, b, rfl⟩ : ∃ (a : Fin 512) (b : Fin 128), y = ix2 a b := ⟨y 0, y 1, eq_ix2 y⟩
  rw [after0_4, out4]
  refine congrArg₂ (fA m c) (Fin.ext ?_) (Fin.ext ?_)
  · blk_simp [idx4 t, row]
  · blk_simp [idx4 t]

end Cert.RmsPreFwdIdeal.Hand

namespace Cert.RmsPreFwdClaims

open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2)
open Cert.RmsPreFwdRefIdeal Cert.RmsPreFwdRefIdeal.Read
open Cert.RmsPreFwdIdeal.Hand (xA gA wA hA fA final3 final4)
open Cert.Laws Cert.NormMath
open scoped BigOperators

/-- The reference's norm at an index. -/
theorem v12_apply (x0 : FVec Ideal S8192x1024 .f32) (x1 : FVec Ideal S1x1024 .f32) (i : Fin 8192) (j : Fin 1024) :
    val_main_v12 (F := Ideal) x0 x1 (ix2 i j) = x0 (ix2 i j) * rs (fun k => x0 (ix2 i k)) * x1 (ix2 0 j) := by
  simp only [val_main_v12_apply, val_main_v11_apply, val_main_v10_apply, val_main_v9_apply, val_main_v8_apply, val_main_v7_apply, val_main_v6_apply,
    val_main_v5_apply, val_main_v4_apply, val_main_v3_apply, val_main_v2_apply, val_main_v1_apply, val_main_v0_apply, val_main_cst_apply, val_main_cst_0_apply, val_main_cst_1_apply]
  refine congrArg₂ (fun a b : EReal => x0 (ix2 i j) * a * b) ?_ (congrArg x1 (eq_ix2 _))
  refine congrArg Ideal.rsqrt (congrArg₂ (fun a b : EReal => a + b) (congrArg₂ Ideal.div ?_ word_1024) word_eps)
  refine (congrArg₂ (fun a b : EReal => a + b) word_zero (Finset.sum_congr rfl fun k _ => ?_)).trans (zero_add _)
  exact congrArg₂ (fun a b : EReal => a * b) (congrArg x0 (eq_ix2 _)) (congrArg x0 (eq_ix2 _))

/-- The reference's product at an index. -/
theorem v14_apply (x0 : FVec Ideal S8192x1024 .f32) (x1 : FVec Ideal S1x1024 .f32) (x2 : FVec Ideal S1024x16 .f32) (i : Fin 8192) (q : Fin 128) :
    val_main_v14 (F := Ideal) x0 x1 x2 (ix2 i q)
      = ∑ j : Fin 1024, (x0 (ix2 i j) * rs (fun k => x0 (ix2 i k)) * x1 (ix2 0 j)) * (if hq : q.val < 16 then x2 (ix2 j ⟨q.val, hq⟩) else (0 : EReal)) := by
  rw [val_main_v14_apply]
  refine Finset.sum_congr rfl fun j _ => congrArg₂ (fun a b : EReal => a * b) ?_ ?_
  · exact (congrArg (val_main_v11 (F := Ideal) x0 x1) (eq_ix2 _)).trans (v12_apply x0 x1 i j)
  · refine (congrArg (val_main_v13 (F := Ideal) x2) (eq_ix2 _)).trans ?_
    unfold val_main_v13
    refine (Cert.IdxReads.padCols_apply _ _ _ _ j q).trans ?_
    split_ifs
    · rfl
    · show ((BitVec.toInt 0#32 : ℝ) : EReal) = 0; simp

/-- The call computes the reference's norm and its product with the weight. -/
theorem algebraic : Cert.algebraic_RmsPreFwdIdeal_RmsPreFwdRefIdeal (hRmsPreFwdIdeal := Cert.RmsPreFwdIdeal.Gen.facts) (hRmsPreFwdRefIdeal := Cert.RmsPreFwdRefIdeal.Gen.facts) := by
  intro m ρ m' ρ' _ hag
  refine ⟨fun c => val_main_v12 (F := Ideal) (xA m c) (gA m c), fun c => val_main_v14 (F := Ideal) (xA m c) (gA m c) (wA m c), ?_, ?_⟩
  · refine (θ_run _ _ _).mono (fun r h c => ⟨(h c).1.trans ((final3 m c).trans (funext fun z => ?_)), (h c).2.1.trans ((final4 m c).trans (funext fun z => ?_)), (h c).2.2⟩)
      (Cert.RmsPreFwdIdeal.Value.run_blocks m ρ)
    · obtain ⟨i, j, rfl⟩ : ∃ (i : Fin 8192) (j : Fin 1024), z = ix2 i j := ⟨z 0, z 1, eq_ix2 z⟩
      exact (v12_apply (xA m c) (gA m c) i j).symm
    · obtain ⟨i, q, rfl⟩ : ∃ (i : Fin 8192) (q : Fin 128), z = ix2 i q := ⟨z 0, z 1, eq_ix2 z⟩
      exact (v14_apply (xA m c) (gA m c) (wA m c) i q).symm
  · refine (θ_run _ _ _).mono (fun r h c => ⟨(h c).1.trans ?_, (h c).2.1.trans ?_, (h c).2.2⟩) (Cert.RmsPreFwdRefIdeal.Value.run m' ρ')
    · refine (val_main_v12_eq ..).trans ?_
      rw [(hag c).1, (hag c).2.1]; rfl
    · refine (val_main_v14_eq ..).trans ?_
      rw [(hag c).1, (hag c).2.1, (hag c).2.2]; rfl

/-- The reference runs and leaves its arguments and the counters as they were. -/
theorem frame_ref : Cert.quiescent_RmsPreFwdRefIdeal (hRmsPreFwdRefIdeal := Cert.RmsPreFwdRefIdeal.Gen.facts) := fun m ρ _ =>
  (θ_run Cert.RmsPreFwdRefIdeal.defs _ _).mono (fun r h => ⟨fun c => (h c).2.2, sem_eq_zero_of_no_sems (by decide) r.2⟩)
    (Cert.RmsPreFwdRefIdeal.Value.run (F := Ideal) m ρ)

end Cert.RmsPreFwdClaims

end
-- ==== Proof.ForgetFwdClaims.lean ====
/-
  The forget gate's logarithm, forward: the call's result, the reference's, and the claim.
-/
module

public import proofs.«01_k».proof.Defs
public import proofs.«01_k».proof.Proof.Gen.ForgetFwdRefIdeal.Read
public import proofs.«01_k».proof.Proof.Gen.ForgetFwdIdeal.Value
public import proofs.«01_k».proof.Proof.GateMath
public import proofs.«01_k».proof.Proof.IdxReads
public import Idealize.ShloMosaic.Lib.Quiescent
public import Idealize.ShloMosaic.Lib.Pipeline.ValueKit.Point

@[expose] public section

set_option maxRecDepth 16384

noncomputable section

namespace Cert.ForgetFwdIdeal.Hand

open Cert.ForgetFwdIdeal Cert.ForgetFwdIdeal.Gen Cert.ForgetFwdRefIdeal.Read
open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2)
open Cert.IdxReads Cert.Laws Cert.GateMath
open Idealize.ShloMosaic.Pipeline (Dat)
open scoped BigOperators

/-- The logarithm of the gate, as the kernel spells it: the smaller of `z` and zero, less a logarithm. -/
def ls (z : EReal) : EReal := min z 0 - Ideal.log (1 + Ideal.exp (0 - max z (-z)))

/-- The logarithm it takes off is real. -/
theorem log_real (z : EReal) : ∃ r : ℝ, Ideal.log1p (Ideal.exp (-(max z (-z)))) = r := by
  have h1 : ((1 : ℝ) : EReal) = 1 := rfl
  have hb : Ideal.log1p (Ideal.exp (⊥ : EReal)) = ((Real.log 1 : ℝ) : EReal) := by
    rw [Ideal.exp_bot, Ideal.log1p, add_zero, ← h1, Ideal.log_coe, if_neg (by norm_num)]
  induction z using EReal.rec with
  | bot => exact ⟨Real.log 1, by rw [EReal.neg_bot, max_eq_right bot_le, EReal.neg_top]; exact hb⟩
  | top => exact ⟨Real.log 1, by rw [EReal.neg_top, max_eq_left bot_le, EReal.neg_top]; exact hb⟩
  | coe u =>
    have habs : max (u : EReal) (-(u : EReal)) = ((|u| : ℝ) : EReal) := by
      rw [← EReal.coe_neg, ← EReal.coe_strictMono.monotone.map_max]; rfl
    have hpos : (0 : ℝ) < 1 + Real.exp (-|u|) := by positivity
    exact ⟨_, by rw [habs, ← EReal.coe_neg, Ideal.exp_coe, Ideal.log1p, ← h1, ← EReal.coe_add, Ideal.log_coe _, if_neg (not_le.2 hpos)]⟩

/-- It is minus the softplus of `-z`, at every extended real. -/
theorem ls_eq (z : EReal) : ls z = -softplus (-z) := by
  obtain ⟨r, hr⟩ := log_real z
  have e : max (-z) (-(-z)) = max z (-z) := by rw [neg_neg, max_comm]
  have hm : min z 0 = -max (-z) 0 := by
    rw [EReal.neg_strictAnti.antitone.map_max, neg_neg, neg_zero]
  unfold softplus ls
  rw [e, hr, EReal.neg_add (Or.inr (EReal.coe_ne_top r)) (Or.inr (EReal.coe_ne_bot r)), ← hm, ← hr, zero_sub]; rfl

theorem pay1_apply (f : FVec Ideal S1024x128 .f32) (b : FVec Ideal S1x128 .f32) (i : Fin 1024) (j : Fin 128) :
    k0_pay1 (F := Ideal) f b (ix2 i j) = ls (f (ix2 i j) + b (ix2 0 j)) := by
  unfold k0_pay1
  simp only [shapeCast_self]
  have hb : broadcastTo S1024x128 b broadcasts_S1x128_S1024x128 (ix2 i j) = b (ix2 0 j) := bcastRow_apply _ _ _ _
  refine (show _ = min (f (ix2 i j) + broadcastTo S1024x128 b broadcasts_S1x128_S1024x128 (ix2 i j)) (Ideal.ofBits .f32 0x00000000#32)
    - Ideal.log (Ideal.ofBits .f32 0x3F800000#32 + Ideal.exp (Ideal.ofBits .f32 0x00000000#32 - max (f (ix2 i j) + broadcastTo S1024x128 b broadcasts_S1x128_S1024x128 (ix2 i j))
      (-(f (ix2 i j) + broadcastTo S1024x128 b broadcasts_S1x128_S1024x128 (ix2 i j))))) from rfl).trans ?_
  rw [hb, word_one, word_zero]; rfl

variable (m : (ℓ : Loc nD τ sig) → Buf (Elt Ideal) ℓ)

/-- The gate's input and the bias, each padded to 128 columns. -/
def fA (c : Dev nD) : FVec Ideal S8192x128 .f32 := val_main_v0 (F := Ideal) (m ((c.tc : Thread nD τ).loc main_arg0))
def bA (c : Dev nD) : FVec Ideal S1x128 .f32 := val_main_v1 (F := Ideal) (m ((c.tc : Thread nD τ).loc main_arg1))

theorem V_v0 (c : Dev nD) : V m c main_v0 = fA m c := by
  unfold_abbrev_sides
  simp only [hostOps0, hostOps0_1, hostOps0_2, hostOps0_3, List.flatten_cons, List.flatten_nil, List.append_nil, List.cons_append, List.nil_append]
  after_results; rfl
theorem V_v1 (c : Dev nD) : V m c main_v1 = bA m c := by
  unfold_abbrev_sides
  simp only [hostOps0, hostOps0_1, hostOps0_2, hostOps0_3, List.flatten_cons, List.flatten_nil, List.append_nil, List.cons_append, List.nil_append]
  after_results; rfl

/-- The result. -/
def lA (c : Dev nD) (i : Fin 8192) (j : Fin 128) : EReal := ls (fA m c (ix2 i j) + bA m c (ix2 0 j))

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- A row of a block, as a row of the array. -/
def row (t : Fin cfg0.N) (i : Fin 1024) : Fin 8192 := ⟨t.val * 1024 + i.val, by have h := Nat.lt_of_lt_of_eq t.isLt N_0; omega⟩

theorem blk0 (c : Dev nD) (t : Fin cfg0.N) (i : Fin 1024) (j : Fin 128) : iblk m c 0 t (ix2 i j) = fA m c (ix2 (row t i) j) := by
  rw [← V_v0]; blk_ext! [iblk, idx0 t, row]
theorem blk1 (c : Dev nD) (t : Fin cfg0.N) (j : Fin 128) : iblk m c 1 t (ix2 0 j) = bA m c (ix2 0 j) := by
  rw [← V_v1]; blk_ext! [iblk, idx1 t]

theorem out2 (c : Dev nD) (t : Fin cfg0.N) (i : Fin 1024) (j : Fin 128) : out0_2 (iblk m c 0 t) (iblk m c 1 t) (ix2 i j) = lA m c (row t i) j := by
  unfold out0_2
  rw [View.canon_unit_zero hz2, ld2, ld2]
  refine (pay1_apply _ _ i j).trans ?_
  rw [blk0, blk1]; rfl

/-- The array after the run. -/
theorem final2 (c : Dev nD) : (dats m 0 c).arrAt 2 cfg0.N = fun i : S8192x128.Idx => lA m c (i 0) (i 1) := by
  refine (dats m 0 c).arrAt_eq_of_covers 2 _ (by decide +kernel) fun t hf y => ?_
  blk_simp
  obtain ⟨a, b, rfl⟩ : ∃ (a : Fin 1024) (b : Fin 128), y = ix2 a b := ⟨y 0, y 1, eq_ix2 y⟩
  rw [after0_2, out2]
  refine congrArg₂ (lA m c) (Fin.ext ?_) (Fin.ext ?_)
  · blk_simp [idx2 t, row]
  · blk_simp [idx2 t]

end Cert.ForgetFwdIdeal.Hand

namespace Cert.ForgetFwdClaims

open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2)
open Cert.ForgetFwdRefIdeal Cert.ForgetFwdRefIdeal.Read Cert.ForgetFwdIdeal.Hand
open scoped BigOperators

open Cert.GateMath Cert.Laws

/-- The reference's logarithm of the gate at an index. -/
theorem v4_apply (f : FVec Ideal S8192x16 .f32) (b : FVec Ideal S1x16 .f32) (i : Fin 8192) (j : Fin 128) :
    val_main_v4 (F := Ideal) f b (ix2 i j) = -softplus (-(val_main_v0 (F := Ideal) f (ix2 i j) + val_main_v1 (F := Ideal) b (ix2 0 j))) := by
  have e0 : idx_main_v2 (ix2 i j) = ix2 0 j := Shape.idx_ext₂ rfl rfl
  simp only [val_main_v4_apply, val_main_v3_apply, val_main_v2_apply, val_main_call2_v0_apply, val_main_call2_v1_apply, val_main_call2_call0_cst_apply, val_main_call2_call0_v0_apply, val_main_call2_call0_v1_apply, val_main_call2_call0_v2_apply, val_main_call2_call0_v3_apply, val_main_call2_call0_v4_apply,
    val_main_call2_call0_v5_apply, val_main_call2_call0_v6_apply, val_main_call2_call0_v7_apply, val_main_call2_call0_v8_apply, val_main_call2_call0_v9_apply, val_main_call2_call0_v10_apply, val_main_call2_call0_v11_apply,
    e0, Ideal.ofBits_def, word_zero, Ideal.addf_def, Ideal.subf_def, Ideal.hostNegf_def,
    Ideal.maximumf_def, Ideal.hostAbsf_def, cmpf_une_self, Scalar.select, Ideal.negf_def, Ideal.absf_def, sub_zero,
    show ¬(0#1 : BitVec 1) = 1 by decide, if_false]
  rfl

/-- The call computes the logarithm of the gate. -/
theorem algebraic : Cert.algebraic_ForgetFwdIdeal_ForgetFwdRefIdeal (hForgetFwdIdeal := Cert.ForgetFwdIdeal.Gen.facts) (hForgetFwdRefIdeal := Cert.ForgetFwdRefIdeal.Gen.facts) := by
  intro m ρ m' ρ' _ hag
  refine ⟨fun c i => lA m c (i 0) (i 1), ?_, ?_⟩
  · exact (θ_run _ _ _).mono (fun r h c => ⟨(h c).1.trans (final2 m c), (h c).2⟩) (Cert.ForgetFwdIdeal.Value.run_blocks m ρ)
  · refine (θ_run _ _ _).mono (fun r h c => ⟨(h c).1.trans ?_, (h c).2⟩) (Cert.ForgetFwdRefIdeal.Value.run m' ρ')
    refine (val_main_v4_eq ..).trans (funext fun z => ?_)
    obtain ⟨i, j, rfl⟩ : ∃ (i : Fin 8192) (j : Fin 128), z = ix2 i j := ⟨z 0, z 1, eq_ix2 z⟩
    rw [v4_apply, (hag c).1, (hag c).2]
    exact (ls_eq _).symm

/-- The reference runs and leaves its arguments and the counters as they were. -/
theorem frame_ref : Cert.quiescent_ForgetFwdRefIdeal (hForgetFwdRefIdeal := Cert.ForgetFwdRefIdeal.Gen.facts) := fun m ρ _ =>
  (θ_run Cert.ForgetFwdRefIdeal.defs _ _).mono (fun r h => ⟨fun c => (h c).2, sem_eq_zero_of_no_sems (by decide) r.2⟩)
    (Cert.ForgetFwdRefIdeal.Value.run (F := Ideal) m ρ)

end Cert.ForgetFwdClaims

end
-- ==== Proof.CumsumFwdClaims.lean ====
/-
  The running sum, forward: the call leaves each row's prefix sums, as the reference does.
-/
module

public import proofs.«01_k».proof.Proof.Gen.CumsumFwdIdeal.Value
public import proofs.«01_k».proof.Defs
public import proofs.«01_k».proof.Proof.Gen.CumsumFwdRefIdeal.Read
public import proofs.«01_k».proof.Proof.IdxReads
public import proofs.«01_k».proof.Proof.Laws
public import Idealize.ShloMosaic.Lib.MatmulPlain
public import Idealize.ShloMosaic.Lib.WordCmp
public import Idealize.ShloMosaic.Lib.KernelVsHost
public import Idealize.ShloMosaic.Lib.Quiescent
public import proofs.«01_k».proof.Proof.SuffixSum
public import Idealize.ShloMosaic.Lib.Pipeline.CanonAppend
public import Idealize.ShloMosaic.Lib.Pipeline.ValueKit.Point

@[expose] public section

noncomputable section

namespace Cert.CumsumFwdIdeal.Hand

open Cert.CumsumFwdIdeal Cert.CumsumFwdIdeal.Gen Cert.CumsumFwdIdeal.Value
open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2)
open Cert.SuffixSum Cert.IdxReads Cert.Laws
open scoped BigOperators

/-- A block summed against the indicator of the positions up to `l`. -/
theorem sum_block_to (s : Fin 16 → Fin 8192 → EReal) (i : Fin 16) (b w l : Nat) (hl : l < w) :
    ∑ k : Fin w, (if k.val ≤ l then ent s i (b + k.val) else 0) = span s i b (b + (l + 1)) := by
  rw [Fin.sum_univ_eq_sum_range (fun k => if k ≤ l then ent s i (b + k) else 0) w, ← Finset.sum_filter,
    show (Finset.range w).filter (· ≤ l) = Finset.range (l + 1) from by ext k; simp only [Finset.mem_filter, Finset.mem_range]; omega]
  unfold span
  rw [Finset.sum_Ico_eq_sum_range, Nat.add_sub_cancel_left]

/-- The triangle of ones: row `r`, column `l` holds one where `r` is `l` or earlier. -/
def tri : FVec Ideal S128x128 .f32 :=
  sitofp .f32 (extui 32 (cmpi .sle (iota .tc S128x128 32 [0] iota_S128x128_d0_w32) (iota .tc S128x128 32 [1] iota_S128x128_d1_w32)) natLt_1_32)

theorem tri_apply (r l : Fin 128) : tri (ix2 r l) = if r.val ≤ l.val then (1 : EReal) else 0 := by
  unfold tri
  show ((((IntOp.cmpi .sle (iota .tc S128x128 32 [0] iota_S128x128_d0_w32 (ix2 r l)) (iota .tc S128x128 32 [1] iota_S128x128_d1_w32 (ix2 r l))).setWidth 32).toInt : ℝ) : EReal) = _
  rw [toInt_setWidth_bit, iota_single_apply, iota_single_apply]
  rw [show IntOp.cmpi .sle (BitVec.ofNat 32 ((ix2 r l : S128x128.Idx) 0).val) (BitVec.ofNat 32 ((ix2 r l : S128x128.Idx) 1).val) = BitVec.ofBool (decide (r.val ≤ l.val)) from
    WordCmp.cmpi_sle_ofNat (w := 32) (by show r.val < _; omega) (by show l.val < _; omega)]
  by_cases h : r.val ≤ l.val <;> simp [h]

theorem pay2_apply (acc : FVec Ideal S16x1 .f32) (x : FVec Ideal S16x128 .f32) (i : Fin 16) (l : Fin 128) :
    k0_pay2 (F := Ideal) acc x (ix2 i l) = (∑ r : Fin 128, x (ix2 i r) * (if r.val ≤ l.val then (1 : EReal) else 0)) + acc (ix2 i 0) := by
  unfold k0_pay2
  show _ + broadcastTo S16x128 acc _ (ix2 i l) = _
  rw [bcastCol_apply]
  refine congrArg (· + acc (ix2 i 0)) ?_
  refine (Ideal.matmul_plain_apply _ x tri _ i l).trans ?_
  refine (congrArg₂ (· + ·) word_zero (Finset.sum_congr rfl fun r _ => ?_)).trans (zero_add _)
  rw [tri_apply]

theorem pay3_apply (acc : FVec Ideal S16x1 .f32) (x : FVec Ideal S16x128 .f32) (i : Fin 16) :
    k0_pay3 (F := Ideal) acc x (ix2 i 0) = acc (ix2 i 0) + ∑ r : Fin 128, x (ix2 i r) := by
  unfold k0_pay3
  refine congrArg (acc (ix2 i 0) + ·) ?_
  refine (shapeCast_apply _ _ _ (ix1 i) (by rw [Shape.rowMajor_val_two, Shape.rowMajor_val_one]; show i.val = i.val * 1 + 0; omega)).trans ?_
  rw [rowSum_apply]

/-- The trips read and write the blocks of columns from the first to the last. -/
theorem off_eq : ∀ k : Fin k0_t1_loop.trips, k0_off1 k = ![0, k.val * 128] := by decide +kernel

theorem trips_eq : k0_t1_loop.trips = 64 := by decide +kernel

/-- A block of columns read at an index. -/
theorem ld_block (k : Fin k0_t1_loop.trips) (inb : ∀ d, k0_off1 k d + S16x128.size d ≤ S16x8192.size d) (X : FVec Ideal S16x8192 .f32)
    (i : Fin 16) (l : Fin 128) (h : k.val * 128 + l.val < 8192) :
    View.ld (Val := Elt Ideal) (e' := .f32) X (Rect.unit (s := S16x8192) (k0_off1 k) S16x128.size inb) (ix2 i l) = X (ix2 i ⟨k.val * 128 + l.val, h⟩) := by
  refine congrArg X (funext fun d => Fin.ext ?_)
  match d with
  | ⟨0, _⟩ => show k0_off1 k 0 + 1 * i.val = i.val; rw [off_eq]; show 0 + 1 * i.val = i.val; omega
  | ⟨1, _⟩ => show k0_off1 k 1 + 1 * l.val = k.val * 128 + l.val; rw [off_eq]; show k.val * 128 + 1 * l.val = _; omega

variable (c : Dev nD) (a0 : Memref sig .tc .vmem S16x8192 .f32) (h0 : a0.IsWhole) (a1 : Memref sig .tc .vmem S16x8192 .f32) (h1 : a1.IsWhole) (x : FVec Ideal S16x8192 .f32)

/-- The array's entries, by row and column. -/
def rows (i : Fin 16) (j : Fin 8192) : EReal := x (ix2 i j)

/-- The state before trip `n`. -/
def st (n : Nat) : FVec Ideal S16x1 .f32 × List (View.Piece (Elt Ideal) S16x8192 .f32) :=
  st_k0_t1 (F := Ideal) Variants.none c none a0 h0 a1 h1 (h0.unread x) k0_pay1 n

theorem ent_block (k : Fin k0_t1_loop.trips) (inb : ∀ d, k0_off1 k d + S16x128.size d ≤ S16x8192.size d) (i : Fin 16) (r : Fin 128) :
    View.ld (Val := Elt Ideal) (e' := .f32) x (Rect.unit (s := S16x8192) (k0_off1 k) S16x128.size inb) (ix2 i r) = ent (rows x) i (k.val * 128 + r.val) := by
  have hk : k.val < 64 := Nat.lt_of_lt_of_eq k.isLt trips_eq
  have h : k.val * 128 + r.val < 8192 := by omega
  rw [ld_block k inb x i r h, ent_of_lt _ _ h]; rfl

/-- The next state's carried sum. -/
theorem st_succ_fst (k : Fin k0_t1_loop.trips) (i : Fin 16) :
    (st c a0 h0 a1 h1 x (k.val + 1)).1 (ix2 i 0)
      = (st c a0 h0 a1 h1 x k.val).1 (ix2 i 0) + span (rows x) i (k.val * 128) (k.val * 128 + 128) := by
  unfold st
  rw [st_k0_t1_succ]
  dsimp only
  unfold tripR_k0_t1 trip_k0_t1
  dsimp only
  rw [View.readAt_eq_ld, Memref.IsWhole.read_unread, pay3_apply]
  refine congrArg _ ((Finset.sum_congr rfl fun r _ => ent_block x k _ i r).trans (sum_block _ _ _ _))

/-- The carried sum before trip `n` is the sum of the first `n` blocks. -/
theorem st_fst (i : Fin 16) : ∀ n : Nat, n ≤ 64 → (st c a0 h0 a1 h1 x n).1 (ix2 i 0) = span (rows x) i 0 (n * 128)
  | 0, _ => word_zero.trans (span_self _ _ _).symm
  | n + 1, hn => by
    have hk : n < k0_t1_loop.trips := by rw [trips_eq]; omega
    rw [st_succ_fst c a0 h0 a1 h1 x ⟨n, hk⟩ i, st_fst i n (by omega), Nat.succ_mul]
    exact (span_append (lo := 0) (mid := n * 128) (hi := n * 128 + 128) _ _ (by omega) (by omega)).symm

/-- The next state's pieces: one block of columns in front. -/
theorem st_succ_snd (k : Fin k0_t1_loop.trips) : ∃ (inb : ∀ d, k0_off1 k d + S16x128.size d ≤ S16x8192.size d),
    (st c a0 h0 a1 h1 x (k.val + 1)).2
      = ⟨Rect.unit (s := S16x8192) (k0_off1 k) S16x128.size inb, k0_pay2 (F := Ideal) (st c a0 h0 a1 h1 x k.val).1
          (View.ld x (Rect.unit (s := S16x8192) (k0_off1 k) S16x128.size inb))⟩
        :: (st c a0 h0 a1 h1 x k.val).2 := by
  refine ⟨facts.k0_off1_inb k, ?_⟩
  unfold st
  rw [st_k0_t1_succ]
  dsimp only
  unfold tripL_k0_t1 trip_k0_t1
  dsimp only
  rw [View.readAt_eq_ld, Memref.IsWhole.read_unread]
  rfl

/-- The prefix sums of the rows. -/
def pre : FVec Ideal S16x8192 .f32 := fun z => span (rows x) (z 0) 0 ((z 1).val + 1)

/-- Every piece written holds prefix sums. -/
theorem pieces : ∀ n : Nat, n ≤ 64 → ∀ p ∈ (st c a0 h0 a1 h1 x n).2, ∀ z : p.1.shape.Idx, p.2 z = pre x (p.1.emb z)
  | 0, _ => fun p hp => absurd hp (List.not_mem_nil)
  | n + 1, hn => by
    have hk : n < k0_t1_loop.trips := by rw [trips_eq]; omega
    obtain ⟨inb, e⟩ := st_succ_snd c a0 h0 a1 h1 x ⟨n, hk⟩
    rw [e]
    intro p hp
    rcases List.mem_cons.mp hp with rfl | hp
    · intro z
      obtain ⟨i, l, rfl⟩ : ∃ (i : Fin 16) (l : Fin 128), z = ix2 i l := ⟨z 0, z 1, eq_ix2 z⟩
      show k0_pay2 (F := Ideal) _ _ (ix2 i l) = _
      rw [pay2_apply, st_fst c a0 h0 a1 h1 x i n (by omega)]
      have e1 : ((Rect.unit (s := S16x8192) (k0_off1 ⟨n, hk⟩) S16x128.size inb).emb (ix2 i l)) = ix2 i ⟨n * 128 + l.val, by omega⟩ := by
        funext d; refine Fin.ext ?_
        match d with
        | ⟨0, _⟩ => show k0_off1 ⟨n, hk⟩ 0 + 1 * i.val = i.val; rw [off_eq]; show 0 + 1 * i.val = i.val; omega
        | ⟨1, _⟩ => show k0_off1 ⟨n, hk⟩ 1 + 1 * l.val = n * 128 + l.val; rw [off_eq]; show n * 128 + 1 * l.val = _; omega
      refine Eq.trans ?_ (congrArg (pre x) e1).symm
      show _ = span (rows x) i 0 (n * 128 + l.val + 1)
      rw [Nat.add_assoc, span_append (rows x) i (lo := 0) (mid := n * 128) (hi := n * 128 + (l.val + 1)) (by omega) (by omega), add_comm, ← sum_block_to (rows x) i (n * 128) 128 l.val l.isLt]
      refine congrArg (_ + ·) (Finset.sum_congr rfl fun r _ => ?_)
      rw [ent_block x ⟨n, hk⟩ inb i r]
      split_ifs
      · exact mul_one _
      · exact mul_zero _
    · exact pieces n (by omega) p hp

/-- The pieces written before trip `n` cover the first `n` blocks of columns. -/
theorem covers (z : S16x8192.Idx) : ∀ n : Nat, n ≤ 64 → (z 1).val < n * 128 → ∃ p ∈ (st c a0 h0 a1 h1 x n).2, z ∈ p.1.set
  | 0, _, hz => by omega
  | n + 1, hn, hz => by
    have hk : n < k0_t1_loop.trips := by rw [trips_eq]; omega
    obtain ⟨inb, e⟩ := st_succ_snd c a0 h0 a1 h1 x ⟨n, hk⟩
    rw [e]
    by_cases hlt : (z 1).val < n * 128
    · obtain ⟨p, hp, hm⟩ := covers z n (by omega) hlt
      exact ⟨p, List.mem_cons_of_mem _ hp, hm⟩
    · refine ⟨_, List.mem_cons_self, ?_⟩
      show z ∈ (Rect.unit (s := S16x8192) (k0_off1 ⟨n, hk⟩) S16x128.size inb).set
      refine Rect.mem_set_unit.mpr fun d => ?_
      rw [off_eq]
      match d with
      | ⟨0, _⟩ => exact ⟨Nat.zero_le _, by show (z 0).val < 0 + 16; have : (z 0).val < 16 := (z 0).isLt; omega⟩
      | ⟨1, _⟩ => exact ⟨by show n * 128 ≤ (z 1).val; omega, by show (z 1).val < n * 128 + 128; omega⟩

variable (m : (ℓ : Loc nD τ sig) → Buf (Elt Ideal) ℓ)

/-- The block the body leaves holds the prefix sums of its input block. -/
theorem outs_eq (t : Fin cfg0.N) : outsAt0 m c t = pre (iblk m c 0 t) := by
  funext z
  unfold outsAt0
  frame_out
  have e := covers c (ms0_0 t) (hs0_0 t) (ms0_1 t) (hs0_1 t) (iblk m c 0 t) z 64 (le_refl _) (by have : (z 1).val < 8192 := (z 1).isLt; omega)
  have q := pieces c (ms0_0 t) (hs0_0 t) (ms0_1 t) (hs0_1 t) (iblk m c 0 t) 64 (le_refl _)
  have r := View.canon_append_of_pieces (pre (iblk m c 0 t)) [] _ q z e
  rw [List.append_nil] at r
  exact r

theorem idx0 : ∀ t : Fin cfg0.N, win0_0.index t = ![0, 0] := (by decide +kernel : ∀ t : Fin grid0.N, _)

def xA : FVec Ideal S16x8192 .f32 := m ((c.tc : Thread nD τ).loc main_arg0)

theorem blk0 (t : Fin cfg0.N) (i : Fin 16) (j : Fin 8192) : iblk m c 0 t (ix2 i j) = xA c m (ix2 i j) := by
  blk_ext! [iblk, idx0 t, V_main_arg0]

/-- The result array: the prefix sums of the rows. -/
theorem final1 : (dats m 0 c).arrAt 1 cfg0.N = pre (xA c m) := by
  refine (dats m 0 c).arrAt_eq_of_after_last 1 ⟨0, by rw [show cfg0.N = 1 from N_0]; decide⟩ (by decide +kernel) _ fun z => ?_
  refine (congrFun (after0_1 m c _) _).trans ?_
  rw [outs_eq]
  exact congrArg (fun s => span s (z 0) 0 ((z 1).val + 1)) (funext fun i => funext fun j => blk0 c m _ i j)

end Cert.CumsumFwdIdeal.Hand

namespace Cert.CumsumFwdClaims

open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2)
open Cert.CumsumFwdIdeal.Hand Cert.SuffixSum
open Cert.CumsumFwdRefIdeal Cert.CumsumFwdRefIdeal.Read
open scoped BigOperators

/-- The host's window sum whose window runs from the left end of each row to the column. -/
theorem window_pre (h : S16x8192.ReduceWindows (![1, 8192] : Fin 2 → Nat) ![1, 1] ![0, 8191] ![0, 0] S16x8192) (x : S16x8192.Idx → EReal) (i : Fin 16) (j : Fin 8192) :
    Ideal.hostReduceWindowAdd (s := S16x8192) ![1, 8192] ![1, 1] ![0, 8191] ![0, 0] h x 0 (ix2 i j) = span (fun r c => x (ix2 r c)) i 0 (j.val + 1) := by
  unfold Ideal.hostReduceWindowAdd Host.reduceWindow
  dsimp only
  rw [foldl_add, zero_add, ← Fin.sum_univ_def]
  let s : Fin 16 → Fin 8192 → EReal := fun r c => x (ix2 r c)
  refine (Finset.sum_congr rfl (g := fun p => (fun k : Fin 8192 => if 8191 ≤ j.val + k.val then ent s i (j.val + k.val - 8191) else 0)
    ((⟨2, ![1, 8192]⟩ : Shape).rowMajor.symm p 1)) fun p _ => ?_).trans ?_
  · let w : (⟨2, ![1, 8192]⟩ : Shape).Idx := (⟨2, ![1, 8192]⟩ : Shape).rowMajor.symm p
    show _ = if 8191 ≤ j.val + (w 1).val then ent s i (j.val + (w 1).val - 8191) else 0
    have h0 : (w 0).val < 1 := (w 0).isLt
    have h1 : (w 1).val < 8192 := (w 1).isLt
    by_cases hk : 8191 ≤ j.val + (w 1).val
    · rw [if_pos hk, dif_pos (fun d => by
        match d with
        | ⟨0, _⟩ => exact ⟨Nat.zero_le _, by show i.val * 1 + (w 0).val - 0 < 16; omega⟩
        | ⟨1, _⟩ => exact ⟨by show 8191 ≤ j.val * 1 + (w 1).val; omega, by show j.val * 1 + (w 1).val - 8191 < 8192; omega⟩), ent_of_lt _ _ (show j.val + (w 1).val - 8191 < 8192 by omega)]
      refine congrArg x (funext fun d => ?_)
      match d with
      | ⟨0, _⟩ => exact Fin.ext (by show i.val * 1 + (w 0).val - 0 = i.val; omega)
      | ⟨1, _⟩ => exact Fin.ext (by show j.val * 1 + (w 1).val - 8191 = j.val + (w 1).val - 8191; omega)
    · rw [if_neg hk, dif_neg (fun hin => hk (by
        have h2 : 8191 ≤ j.val * 1 + (w 1).val := (hin ⟨1, Nat.one_lt_two⟩).1
        omega))]
  refine (Equiv.sum_comp (⟨2, ![1, 8192]⟩ : Shape).rowMajor.symm
    (fun w => (fun k : Fin 8192 => if 8191 ≤ j.val + k.val then ent s i (j.val + k.val - 8191) else 0) (w 1))).trans ?_
  let e : (⟨2, ![1, 8192]⟩ : Shape).Idx ≃ Fin 8192 :=
    ⟨fun w => w 1, fun k => ix2 0 k, fun w => by
      funext d; match d with
      | ⟨0, _⟩ => exact Subsingleton.elim (α := Fin 1) _ _
      | ⟨1, _⟩ => rfl, fun k => rfl⟩
  refine (Equiv.sum_comp e.symm _).symm.trans ?_
  show ∑ k : Fin 8192, (if 8191 ≤ j.val + k.val then ent s i (j.val + k.val - 8191) else 0) = _
  rw [Fin.sum_univ_eq_sum_range (fun k => if 8191 ≤ j.val + k then ent s i (j.val + k - 8191) else 0) 8192, ← Finset.sum_filter]
  have hj : j.val < 8192 := j.isLt
  refine Finset.sum_nbij' (fun k => j.val + k - 8191) (fun q => q + 8191 - j.val) ?_ ?_ ?_ ?_ ?_
  · intro k hk; simp only [Finset.mem_filter, Finset.mem_range, Finset.mem_Ico] at *; omega
  · intro k hk; simp only [Finset.mem_filter, Finset.mem_range, Finset.mem_Ico] at *; omega
  · intro k hk; simp only [Finset.mem_filter, Finset.mem_range] at hk; show j.val + k - 8191 + 8191 - j.val = k; omega
  · intro k hk; show j.val + (k + 8191 - j.val) - 8191 = k; omega
  · intro k _; rfl

/-- The call computes the reference's running sum. -/
theorem algebraic : Cert.algebraic_CumsumFwdIdeal_CumsumFwdRefIdeal (hCumsumFwdIdeal := Cert.CumsumFwdIdeal.Gen.facts) (hCumsumFwdRefIdeal := Cert.CumsumFwdRefIdeal.Gen.facts) := by
  intro m ρ m' ρ' _ hag
  refine ⟨fun c => pre (xA c m), ?_, ?_⟩
  · exact (θ_run _ _ _).mono (fun r h c => ⟨(h c).1.trans (final1 c m), (h c).2⟩) (Cert.CumsumFwdIdeal.Value.run_blocks m ρ)
  · refine (θ_run _ _ _).mono (fun r h c => ⟨(h c).1.trans ?_, (h c).2⟩) (Cert.CumsumFwdRefIdeal.Value.run m' ρ')
    rw [hag c]
    refine (val_main_v0_eq ..).trans (funext fun z => ?_)
    obtain ⟨i, j, rfl⟩ : ∃ (i : Fin 16) (j : Fin 8192), z = ix2 i j := ⟨z 0, z 1, eq_ix2 z⟩
    unfold val_main_v0 Host.reduceWindowAdd
    rw [Ideal.hostReduceWindowAdd_def, show val_main_call0_call0_v0 (F := Ideal) (Shape.Idx.first Gen.h_S_) = (0 : EReal) from Cert.Laws.word_zero]
    exact window_pre _ _ i j

/-- The reference runs and leaves its arguments and the counters as they were. -/
theorem frame_ref : Cert.quiescent_CumsumFwdRefIdeal (hCumsumFwdRefIdeal := Cert.CumsumFwdRefIdeal.Gen.facts) := fun m ρ _ =>
  (θ_run Cert.CumsumFwdRefIdeal.defs _ _).mono (fun r h => ⟨fun c => (h c).2, sem_eq_zero_of_no_sems (by decide) r.2⟩)
    (Cert.CumsumFwdRefIdeal.Value.run (F := Ideal) m ρ)

end Cert.CumsumFwdClaims

end
-- ==== Proof.MemFwdClaims.lean ====
/-
  The memory attention's forward call: its payloads, its result array after the run, the reference's reads at an index,
  and the claim. No argument need be finite: the logits' scale is a positive real, which goes through a sum.
-/
module

public import proofs.«01_k».proof.Defs
public import proofs.«01_k».proof.Proof.Gen.MemFwdRefIdeal.Read
public import proofs.«01_k».proof.Proof.Gen.MemFwdIdeal.Value
public import proofs.«01_k».proof.Proof.MemAttnPay
public import Idealize.ShloMosaic.Lib.Quiescent
public import Idealize.ShloMosaic.Lib.Pipeline.ValueKit.Point

@[expose] public section

set_option maxRecDepth 16384

noncomputable section

namespace Cert.MemFwdIdeal.Hand

open Cert.MemFwdIdeal Cert.MemFwdIdeal.Gen
open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2)
open Cert.IdxReads Cert.Laws Cert.SoftmaxMath Cert.SoftmaxReads Cert.ConcatReads
open Cert.MemAttnIdeal.Hand (sc word_sc word_scb soft_apply)
open Idealize.ShloMosaic.Pipeline (Dat)
open scoped BigOperators

section payloads
variable (q : FVec Ideal S1024x256 .bf16) (k v : FVec Ideal S256x256 .bf16)

/-- The logits of a head, from its block of queries and its keys. -/
def lgB (i : Fin 1024) (a : Fin 256) : EReal := ∑ d : Fin 256, (q (ix2 i d) * sc) * k (ix2 a d)

theorem logits_apply (i : Fin 1024) (a : Fin 256) :
    matmul dot_S1024x256_S256x256_S1024x256_1_1_0_0_n_n none (k0_pay7 (F := Ideal) q) (k0_pay8 k) (constant S1024x256 .f32 0x00000000#32) (ix2 i a) = lgB q k i a := by
  refine (Ideal.matmul_transposedRhs_apply _ _ _ _ i a).trans ((congrArg (· + _) word_zero).trans ((zero_add _).trans ?_))
  refine Finset.sum_congr rfl fun d _ => ?_
  unfold k0_pay7 k0_pay8
  simp only [shapeCast_self]
  exact congrArg (fun z : EReal => q (ix2 i d) * z * k (ix2 a d)) word_scb

/-- A head's result. -/
theorem head_apply (i : Fin 1024) (d : Fin 256) :
    k0_pay1 (F := Ideal) (k0_pay7 q) (k0_pay8 k) v (ix2 i d) = ∑ a : Fin 256, prob (lgB q k i) a * v (ix2 a d) := by
  unfold k0_pay1
  refine (Ideal.matmul_plain_apply none _ _ _ i d).trans ((congrArg (· + _) word_zero).trans ((zero_add _).trans ?_))
  refine Finset.sum_congr rfl fun a _ => congrArg₂ (fun a b : EReal => a * b) ?_ ?_
  · refine (soft_apply _ i a).trans ?_
    exact congrArg (prob · a) (funext fun a => logits_apply q k i a)
  · rw [shapeCast_self]

theorem head0 : k0_pay2 (F := Ideal) q k v = k0_pay1 (k0_pay7 q) (k0_pay8 k) v := rfl
theorem head1 : k0_pay5 (F := Ideal) (k0_pay3 q k) (k0_pay4 q k) v = k0_pay1 (k0_pay7 q) (k0_pay8 k) v := rfl
theorem head2 : k0_pay6 (F := Ideal) q k v = k0_pay1 (k0_pay7 q) (k0_pay8 k) v := rfl
end payloads

variable (m : (ℓ : Loc nD τ sig) → Buf (Elt Ideal) ℓ)

def projA (c : Dev nD) : FVec Ideal S8192x9232 .f32 := m ((c.tc : Thread nD τ).loc main_arg0)
def kvA (c : Dev nD) : FVec Ideal S256x2048 .f32 := m ((c.tc : Thread nD τ).loc main_arg1)

theorem V_v3 (c : Dev nD) (i : Fin 8192) (j : Fin 9216) : V m c main_v3 (ix2 i j) = projA m c (ix2 i (col j)) := by
  refine (congrFun (show V m c main_v3 = truncf (F := Ideal) .bf16 (concatenate S8192x9216 1
      [⟨S8192x3072, extractStridedSlice S8192x3072 ![0, 0] (m ((c : Thread nD τ).loc main_arg0)) slices_S8192x9232_S8192x3072_0_0⟩,
       ⟨S8192x6144, extractStridedSlice S8192x6144 ![0, 3088] (m ((c : Thread nD τ).loc main_arg0)) slices_S8192x9232_S8192x6144_0_3088⟩]
      concatenates_S8192x3072_S8192x6144_S8192x9216_d1) bitsLt_bf16_f32 by
    unfold_abbrev_sides
    simp only [hostOps0, List.flatten_cons, List.flatten_nil, List.append_nil, List.cons_append, List.nil_append]
    after_results) _).trans ?_
  exact without_apply _ slices_S8192x9232_S8192x3072_0_0 slices_S8192x9232_S8192x6144_0_3088 concatenates_S8192x3072_S8192x6144_S8192x9216_d1 i j

theorem V_v4 (c : Dev nD) : V m c main_v4 = kvA m c := by
  refine (show V m c main_v4 = truncf (F := Ideal) .bf16 (m ((c : Thread nD τ).loc main_arg1)) bitsLt_bf16_f32 by
    unfold_abbrev_sides
    simp only [hostOps0, List.flatten_cons, List.flatten_nil, List.append_nil, List.cons_append, List.nil_append]
    after_results).trans rfl

/-- A head's queries, keys and values, in the arguments. -/
def qG (c : Dev nD) (i : Fin 8192) (h : Fin 4) (d : Fin 256) : EReal := projA m c (ix2 i ⟨5136 + (h.val * 256 + d.val), by omega⟩)
def kG (c : Dev nD) (a : Fin 256) (h : Fin 4) (d : Fin 256) : EReal := kvA m c (ix2 a ⟨h.val * 256 + d.val, by omega⟩)
def vG (c : Dev nD) (a : Fin 256) (h : Fin 4) (d : Fin 256) : EReal := kvA m c (ix2 a ⟨1024 + (h.val * 256 + d.val), by omega⟩)

/-- The logits of a row and a head, and the result at a row and a position of a head. -/
def lgG (c : Dev nD) (i : Fin 8192) (h : Fin 4) (a : Fin 256) : EReal := ∑ d : Fin 256, (qG m c i h d * sc) * kG m c a h d
def oG (c : Dev nD) (i : Fin 8192) (h : Fin 4) (d : Fin 256) : EReal := ∑ a : Fin 256, prob (lgG m c i h) a * vG m c a h d

/-- The head and the position in it of a column. -/
def hd (j : Fin 1024) : Fin 4 := ⟨j.val / 256, by omega⟩
def ps (j : Fin 1024) : Fin 256 := ⟨j.val % 256, by omega⟩

theorem idx0 : ∀ t : Fin cfg0.N, win0_0.index t = ![t.val, 5] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 1] := (by decide +kernel : ∀ t : Fin grid0.N, _)
theorem idx3 : ∀ t : Fin cfg0.N, win0_3.index t = ![t.val, 0] := (by decide +kernel : ∀ t : Fin grid0.N, _)

/-- A row of a block, as a row of the array. -/
def row (t : Fin cfg0.N) (i : Fin 1024) : Fin 8192 := ⟨t.val * 1024 + i.val, by have h := Nat.lt_of_lt_of_eq t.isLt N_0; omega⟩

section heads
variable (c : Dev nD) (t : Fin cfg0.N) (h : Fin 4) (o : Nat) (ho : o = h.val * 256)
  (b : ∀ a, (![0, o] : Fin 2 → Nat) a + (![1024, 256] : Fin 2 → Nat) a ≤ S1024x1024.size a) (b' : ∀ a, (![0, o] : Fin 2 → Nat) a + (![256, 256] : Fin 2 → Nat) a ≤ S256x1024.size a)

/-- A head's queries, keys and values of a point, as the point loads them. -/
def qL : FVec Ideal S1024x256 .bf16 := View.ld (iblk m c 0 t) (Rect.unit ![0, o] ![1024, 256] b)
def kL : FVec Ideal S256x256 .bf16 := View.ld (iblk m c 1 t) (Rect.unit ![0, o] ![256, 256] b')
def vL : FVec Ideal S256x256 .bf16 := View.ld (iblk m c 2 t) (Rect.unit ![0, o] ![256, 256] b')

include ho
theorem qL_apply (i : Fin 1024) (d : Fin 256) : qL m c t o b (ix2 i d) = qG m c (row t i) h d := by
  have e : iblk m c 0 t (ix2 i ⟨o + d.val, by omega⟩) = V m c main_v3 (ix2 (row t i) ⟨5120 + (o + d.val), by omega⟩) := by
    blk_ext! [iblk, idx0 t, row]
  refine (congrArg (iblk m c 0 t) (show _ = ix2 i ⟨o + d.val, by omega⟩ from funext fun a => Fin.ext (by
    match a with | ⟨0, _⟩ => show 0 + 1 * i.val = i.val; omega | ⟨1, _⟩ => show o + 1 * d.val = o + d.val; omega))).trans (e.trans ((V_v3 m c _ _).trans ?_))
  refine congrArg (fun z => projA m c (ix2 (row t i) z)) (Fin.ext ?_)
  unfold col
  rw [dif_neg (by show ¬ (5120 + (o + d.val) < 3072); omega)]
  show 5120 + (o + d.val) + 16 = 5136 + (h.val * 256 + d.val); omega

theorem kL_apply (a d : Fin 256) : kL m c t o b' (ix2 a d) = kG m c a h d := by
  have e : iblk m c 1 t (ix2 a ⟨o + d.val, by omega⟩) = V m c main_v4 (ix2 a ⟨o + d.val, by omega⟩) := by
    blk_ext! [iblk, idx1 t]
  refine (congrArg (iblk m c 1 t) (show _ = ix2 a ⟨o + d.val, by omega⟩ from funext fun e => Fin.ext (by
    match e with | ⟨0, _⟩ => show 0 + 1 * a.val = a.val; omega | ⟨1, _⟩ => show o + 1 * d.val = o + d.val; omega))).trans (e.trans ?_)
  rw [V_v4]; exact congrArg (fun z : Fin 2048 => kvA m c (ix2 a z)) (Fin.ext (by show o + d.val = h.val * 256 + d.val; omega))

theorem vL_apply (a d : Fin 256) : vL m c t o b' (ix2 a d) = vG m c a h d := by
  have e : iblk m c 2 t (ix2 a ⟨o + d.val, by omega⟩) = V m c main_v4 (ix2 a ⟨1024 + (o + d.val), by omega⟩) := by
    blk_ext! [iblk, idx2 t]
  refine (congrArg (iblk m c 2 t) (show _ = ix2 a ⟨o + d.val, by omega⟩ from funext fun e => Fin.ext (by
    match e with | ⟨0, _⟩ => show 0 + 1 * a.val = a.val; omega | ⟨1, _⟩ => show o + 1 * d.val = o + d.val; omega))).trans (e.trans ?_)
  rw [V_v4]; exact congrArg (fun z : Fin 2048 => kvA m c (ix2 a z)) (Fin.ext (by show 1024 + (o + d.val) = 1024 + (h.val * 256 + d.val); omega))

/-- A head's piece of the result's block. -/
theorem headP (i : Fin 1024) (j : Fin 1024) (x : S1024x256.Idx) (h0 : i.val = (x 0).val) (h1 : j.val = o + (x 1).val) :
    k0_pay1 (F := Ideal) (k0_pay7 (qL m c t o b)) (k0_pay8 (kL m c t o b')) (vL m c t o b') x = oG m c (row t i) (hd j) (ps j) := by
  obtain ⟨i', d, rfl⟩ : ∃ (i' : Fin 1024) (d : Fin 256), x = ix2 i' d := ⟨x 0, x 1, eq_ix2 x⟩
  obtain rfl : i = i' := Fin.ext h0
  have h1 : j.val = o + d.val := h1
  rw [head_apply, show hd j = h from Fin.ext (by show j.val / 256 = h.val; omega), show ps j = d from Fin.ext (by show j.val % 256 = d.val; omega)]
  unfold oG
  refine Finset.sum_congr rfl fun a _ => congrArg₂ (fun a b : EReal => a * b) (congrArg (prob · a) (funext fun a => ?_)) (vL_apply m c t h o ho b' a d)
  exact Finset.sum_congr rfl fun d _ => by rw [qL_apply m c t h o ho b, kL_apply m c t h o ho b']
end heads

theorem out3 (c : Dev nD) (t : Fin cfg0.N) (i j : Fin 1024) :
    out0_3 (iblk m c 0 t) (iblk m c 1 t) (iblk m c 2 t) (ix2 i j) = oG m c (row t i) (hd j) (ps j) := by
  unfold out0_3
  rw [head0, head1, head2]
  canon_tiles x h
  · exact headP m c t 3 768 rfl _ _ i j x h0 h1
  · exact headP m c t 2 512 rfl _ _ i j x h0 h1
  · exact headP m c t 1 256 rfl _ _ i j x h0 h1
  · exact headP m c t 0 0 rfl _ _ i j x h0 (h1.trans (Nat.zero_add _).symm)

/-- The array after the run. -/
theorem final3 (c : Dev nD) : (dats m 0 c).arrAt 3 cfg0.N = fun i : S8192x1024.Idx => oG m c (i 0) (hd (i 1)) (ps (i 1)) := by
  refine (dats m 0 c).arrAt_eq_of_covers 3 _ (by decide +kernel) fun t hf y => ?_
  blk_simp
  obtain ⟨a, b, rfl⟩ : ∃ (a b : Fin 1024), y = ix2 a b := ⟨y 0, y 1, eq_ix2 y⟩
  rw [after0_3, out3]
  refine congrArg₂ (fun (a : Fin 8192) (b : Fin 1024) => oG m c a (hd b) (ps b)) (Fin.ext ?_) (Fin.ext ?_)
  · blk_simp [idx3 t, row]
  · blk_simp [idx3 t]

end Cert.MemFwdIdeal.Hand

namespace Cert.MemFwdClaims

open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2 eq_ix3)
open Cert.MemFwdRefIdeal Cert.MemFwdRefIdeal.Read
open Cert.MemAttnIdeal.Hand (sc word_sc)
open Cert.MemFwdIdeal.Hand (hd ps projA kvA oG final3)
open Cert.ConcatReads Cert.Laws Cert.SoftmaxMath Cert.SoftmaxReads
open scoped BigOperators

variable (x0 : FVec Ideal S8192x9232 .f32) (x1 : FVec Ideal S256x2048 .f32)

/-- A head's queries, keys and values, and the logits. -/
def qR (i : Fin 8192) (h : Fin 4) (d : Fin 256) : EReal := x0 (ix2 i ⟨5136 + (h.val * 256 + d.val), by omega⟩)
def kR (a : Fin 256) (h : Fin 4) (d : Fin 256) : EReal := x1 (ix2 a ⟨h.val * 256 + d.val, by omega⟩)
def vR (a : Fin 256) (h : Fin 4) (d : Fin 256) : EReal := x1 (ix2 a ⟨1024 + (h.val * 256 + d.val), by omega⟩)
def lg (i : Fin 8192) (h : Fin 4) (a : Fin 256) : EReal := ∑ d : Fin 256, (qR x0 i h d * sc) * kR x1 a h d

theorem split_eq {n : Nat} (i : Fin n) (h : Fin 4) (d : Fin 256) :
    ((i.val * 4 + h.val) * 256 + d.val) / 1024 = i.val ∧ ((i.val * 4 + h.val) * 256 + d.val) % 1024 = h.val * 256 + d.val := by omega

theorem v1_apply (i : Fin 8192) (h : Fin 4) (d : Fin 256) : val_main_v1 (F := Ideal) x0 (ix3 i h d) = qR x0 i h d := by
  rw [val_main_v1_apply, show idx_main_v1 (ix3 i h d) = ix2 i ⟨h.val * 256 + d.val, by omega⟩ from funext fun e => Fin.ext (by
    match e with
    | ⟨0, _⟩ => exact (split_eq i h d).1
    | ⟨1, _⟩ => exact (split_eq i h d).2), val_main_v0_apply]
  exact congrArg x0 (eq_ix2 _)

theorem v4_apply (a : Fin 256) (h : Fin 4) (d : Fin 256) : val_main_v4 (F := Ideal) x1 (ix3 a h d) = kR x1 a h d := by
  rw [val_main_v4_apply, show idx_main_v4 (ix3 a h d) = ix2 a ⟨h.val * 256 + d.val, by omega⟩ from funext fun e => Fin.ext (by
    match e with
    | ⟨0, _⟩ => exact (split_eq a h d).1
    | ⟨1, _⟩ => exact (split_eq a h d).2), val_main_v2_apply]
  exact congrArg x1 (eq_ix2 _)

theorem v5_apply (a : Fin 256) (h : Fin 4) (d : Fin 256) : val_main_v5 (F := Ideal) x1 (ix3 a h d) = vR x1 a h d := by
  rw [val_main_v5_apply, show idx_main_v5 (ix3 a h d) = ix2 a ⟨h.val * 256 + d.val, by omega⟩ from funext fun e => Fin.ext (by
    match e with
    | ⟨0, _⟩ => exact (split_eq a h d).1
    | ⟨1, _⟩ => exact (split_eq a h d).2), val_main_v3_apply]
  exact congrArg x1 (eq_ix2 _)

theorem v8_apply (h : Fin 4) (i : Fin 8192) (a : Fin 256) : val_main_v8 (F := Ideal) x0 x1 (ix3 h i a) = lg x0 x1 i h a := by
  rw [val_main_v8_apply, val_main_v6_apply, val_main_v7_apply, val_main_cst_apply]
  refine Eq.trans (congrArg₂ (fun a b : EReal => a * b) (Finset.sum_congr rfl fun d _ => congrArg₂ (fun a b : EReal => a * b)
    ((congrArg _ (eq_ix3 _)).trans (v1_apply x0 i h d)) ((congrArg _ (eq_ix3 _)).trans (v4_apply x1 a h d))) word_sc) ?_
  unfold lg sc
  rw [sum_mul_real (by norm_num)]
  exact Finset.sum_congr rfl fun d _ => mul_right_comm _ _ _

theorem v9_apply (h : Fin 4) (i : Fin 8192) : val_main_v9 (F := Ideal) x0 x1 (ix2 h i) = mx (lg x0 x1 i h) := by
  unfold val_main_v9
  refine (hostMax_apply (a := 4) (b := 8192) (c := 256) _ _ _ (by decide) _ ?_ h i).trans (congrArg mx (funext fun a => v8_apply x0 x1 h i a))
  exact word_bot

theorem v15_apply (h : Fin 4) (i : Fin 8192) (a : Fin 256) : val_main_v15 (F := Ideal) x0 x1 (ix3 h i a) = ex (lg x0 x1 i h) a := by
  rw [val_main_v15_apply, val_main_v14_apply, v8_apply, val_main_v13_apply, val_main_v12_apply, val_main_v11_apply, val_main_v10_apply, val_main_cst_1_apply]
  refine congrArg (fun z : EReal => Ideal.exp (lg x0 x1 i h a - z)) ?_
  refine (congrArg₂ (fun a b : EReal => max a b) word_bot ((congrArg _ (eq_ix2 _)).trans (v9_apply x0 x1 h i))).trans ?_
  exact max_eq_right bot_le

theorem v16_apply (h : Fin 4) (i : Fin 8192) : val_main_v16 (F := Ideal) x0 x1 (ix2 h i) = den (lg x0 x1 i h) := by
  rw [val_main_v16_apply]
  refine (congrArg₂ (fun a b : EReal => a + b) word_zero (Finset.sum_congr rfl fun a _ => (congrArg _ (eq_ix3 _)).trans (v15_apply x0 x1 h i a))).trans ?_
  exact zero_add _

theorem v19_apply (h : Fin 4) (i : Fin 8192) (a : Fin 256) : val_main_v19 (F := Ideal) x0 x1 (ix3 h i a) = prob (lg x0 x1 i h) a := by
  rw [val_main_v19_apply, v15_apply, val_main_v18_apply, val_main_v17_apply]
  exact congrArg (Ideal.div (ex (lg x0 x1 i h) a)) ((congrArg _ (eq_ix2 _)).trans (v16_apply x0 x1 h i))

theorem v20_apply (h : Fin 4) (d : Fin 256) (i : Fin 8192) : val_main_v20 (F := Ideal) x0 x1 (ix3 h d i) = ∑ a : Fin 256, prob (lg x0 x1 i h) a * vR x1 a h d := by
  rw [val_main_v20_apply]
  refine Finset.sum_congr rfl fun a _ => (mul_comm _ _).trans (congrArg₂ (fun a b : EReal => a * b)
    ((congrArg _ (eq_ix3 _)).trans (v19_apply x0 x1 h i a)) ((congrArg _ (eq_ix3 _)).trans (v5_apply x1 a h d)))

theorem v23_apply (i : Fin 8192) (j : Fin 1024) : val_main_v23 (F := Ideal) x0 x1 (ix2 i j)
    = ∑ a : Fin 256, prob (lg x0 x1 i (hd j)) a * vR x1 a (hd j) (ps j) := by
  rw [val_main_v23_apply, val_main_v22_apply, val_main_v21_apply, ← v20_apply]
  refine congrArg (val_main_v20 (F := Ideal) x0 x1) (funext fun e => Fin.ext ?_)
  match e with
  | ⟨0, _⟩ => show (i.val * 1024 + j.val) / 256 % 4 = j.val / 256; omega
  | ⟨1, _⟩ => show (i.val * 1024 + j.val) % 256 = j.val % 256; omega
  | ⟨2, _⟩ => show (i.val * 1024 + j.val) / 1024 = i.val; omega

/-- The memory attention's forward call computes the softmax attention of the reference. -/
theorem algebraic : Cert.algebraic_MemFwdIdeal_MemFwdRefIdeal (hMemFwdIdeal := Cert.MemFwdIdeal.Gen.facts) (hMemFwdRefIdeal := Cert.MemFwdRefIdeal.Gen.facts) := by
  intro m ρ m' ρ' _ hag
  refine ⟨fun c => val_main_v23 (F := Ideal) (projA m c) (kvA m c), ?_, ?_⟩
  · refine (θ_run _ _ _).mono (fun r h c => ⟨(h c).1.trans ((final3 m c).trans (funext fun z => ?_)), (h c).2⟩) (Cert.MemFwdIdeal.Value.run_blocks m ρ)
    obtain ⟨i, j, rfl⟩ : ∃ (i : Fin 8192) (j : Fin 1024), z = ix2 i j := ⟨z 0, z 1, eq_ix2 z⟩
    exact (v23_apply (projA m c) (kvA m c) i j).symm
  · refine (θ_run _ _ _).mono (fun r h c => ⟨(h c).1.trans ?_, (h c).2⟩) (Cert.MemFwdRefIdeal.Value.run m' ρ')
    refine (val_main_v23_eq ..).trans ?_
    rw [(hag c).1, (hag c).2]; rfl

/-- The reference runs and leaves its arguments and the counters as they were. -/
theorem frame_ref : Cert.quiescent_MemFwdRefIdeal (hMemFwdRefIdeal := Cert.MemFwdRefIdeal.Gen.facts) := fun m ρ _ =>
  (θ_run Cert.MemFwdRefIdeal.defs _ _).mono (fun r h => ⟨fun c => (h c).2, sem_eq_zero_of_no_sems (by decide) r.2⟩)
    (Cert.MemFwdRefIdeal.Value.run (F := Ideal) m ρ)

end Cert.MemFwdClaims

end
-- ==== Proof.SwigluFwdClaims.lean ====
/-
  The gated unit, forward: the call's three results, the reference's, and the claim.
-/
module

public import proofs.«01_k».proof.Defs
public import proofs.«01_k».proof.Proof.Gen.SwigluFwdRefIdeal.Read
public import proofs.«01_k».proof.Proof.Gen.SwigluFwdIdeal.Value
public import proofs.«01_k».proof.Proof.SwigluPay
public import Idealize.ShloMosaic.Lib.MatmulPlain
public import proofs.«01_k».proof.Proof.IdxReads
public import Idealize.ShloMosaic.Lib.Quiescent
public import Idealize.ShloMosaic.Lib.Pipeline.ValueKit.Point

@[expose] public section

set_option maxRecDepth 16384

noncomputable section

namespace Cert.SwigluFwdIdeal.Hand

open Cert.SwigluFwdIdeal Cert.SwigluFwdIdeal.Gen
open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2)
open Cert.SwigluIdeal.Hand (sg sg_eq)
open Cert.IdxReads Cert.Laws Cert.GateMath
open Idealize.ShloMosaic.Pipeline (Dat)
open scoped BigOperators

/-- A block of rows times a block of the transposed weight. -/
def mm (x : FVec Ideal S512x1024 .bf16) (w : FVec Ideal S1408x1024 .bf16) (i : Fin 512) (j : Fin 1408) : EReal := ∑ k : Fin 1024, x (ix2 i k) * w (ix2 j k)

theorem pay2_apply (x : FVec Ideal S512x1024 .bf16) (w : FVec Ideal S1408x1024 .bf16) (i : Fin 512) (j : Fin 1408) : k0_pay2 (F := Ideal) x w (ix2 i j) = mm x w i j := by
  unfold k0_pay2 k0_pay1
  simp only [shapeCast_self]
  exact (Ideal.matmul_transposedRhs_apply none x w _ i j).trans ((congrArg (· + _) word_zero).trans (zero_add _))

/-- The gated product. -/
theorem pay6_apply (x : FVec Ideal S512x1024 .bf16) (w u : FVec Ideal S1408x1024 .bf16) (i : Fin 512) (j : Fin 1408) :
    k0_pay6 (F := Ideal) x w u (ix2 i j) = mm x w i j * sg (mm x w i j) * mm x u i j := by
  rw [← pay2_apply, ← pay2_apply, ← sg_eq]; rfl

variable (m : (ℓ : Loc nD τ sig) → Buf (Elt Ideal) ℓ)

def xA (c : Dev nD) : FVec Ideal S8192x1024 .f32 := m ((c.tc : Thread nD τ).loc main_arg0)
def wA (c : Dev nD) : FVec Ideal S1024x5632 .f32 := m ((c.tc : Thread nD τ).loc main_arg1)

theorem V_v0 (c : Dev nD) (i : Fin 8192) (k : Fin 1024) : V m c main_v0 (ix2 i k) = xA m c (ix2 i k) :=
  congrFun (show V m c main_v0 = truncf (F := Ideal) .bf16 (m ((c : Thread nD τ).loc main_arg0)) bitsLt_bf16_f32 by
    unfold_abbrev_sides
    simp only [hostOps0, List.flatten_cons, List.flatten_nil, List.append_nil, List.cons_append, List.nil_append]
    after_results) _

theorem V_v2 (c : Dev nD) (q : Fin 5632) (k : Fin 1024) : V m c main_v2 (ix2 q k) = wA m c (ix2 k q) := by
  refine (congrFun (show V m c main_v2 = truncf (F := Ideal) .bf16 (transpose S5632x1024 [1, 0] (m ((c : Thread nD τ).loc main_arg1)) transposes_S1024x5632_S5632x1024_1_0) bitsLt_bf16_f32 by
    unfold_abbrev_sides
    simp only [hostOps0, List.flatten_cons, List.flatten_nil, List.append_nil, List.cons_append, List.nil_append]
    after_results) _).trans ?_
  exact transpose_apply _ _ _ _ _ (by intro d; match d with | ⟨0, _⟩ => rfl | ⟨1, _⟩ => rfl)

/-- The product with the whole weight, and its left and right halves of columns. -/
def pA (c : Dev nD) (i : Fin 8192) (q : Fin 5632) : EReal := ∑ k : Fin 1024, xA m c (ix2 i k) * wA m c (ix2 k q)
def lc (q : Fin 2816) : Fin 5632 := ⟨q.val, by omega⟩
def rc (q : Fin 2816) : Fin 5632 := ⟨2816 + q.val, by omega⟩
def gA (c : Dev nD) (i : Fin 8192) (q : Fin 2816) : EReal := pA m c i (lc q)
def uA (c : Dev nD) (i : Fin 8192) (q : Fin 2816) : EReal := pA m c i (rc q)
def aA (c : Dev nD) (i : Fin 8192) (q : Fin 2816) : EReal := gA m c i q * sg (gA m c i q) * uA m c i q

theorem idx0 : ∀ t : Fin cfg0.N, win0_0.index t = ![t.val % 16, 0] := (by decide +kernel : ∀ t : Fin grid0.N, _)
theorem idx1 : ∀ t : Fin cfg0.N, win0_1.index t = ![t.val / 16, 0] := (by decide +kernel : ∀ t : Fin grid0.N, _)
theorem idx2 : ∀ t : Fin cfg0.N, win0_2.index t = ![t.val / 16 + 2, 0] := (by decide +kernel : ∀ t : Fin grid0.N, _)
theorem idx3 : ∀ t : Fin cfg0.N, win0_3.index t = ![t.val % 16, t.val / 16] := (by decide +kernel : ∀ t : Fin grid0.N, _)
theorem idx4 : ∀ t : Fin cfg0.N, win0_4.index t = ![t.val % 16, t.val / 16] := (by decide +kernel : ∀ t : Fin grid0.N, _)
theorem idx5 : ∀ t : Fin cfg0.N, win0_5.index t = ![t.val % 16, t.val / 16] := (by decide +kernel : ∀ t : Fin grid0.N, _)

/-- A row and a column of a block, as those of the arrays. -/
def row (t : Fin cfg0.N) (i : Fin 512) : Fin 8192 := ⟨t.val % 16 * 512 + i.val, by omega⟩
def colB (t : Fin cfg0.N) (j : Fin 1408) : Fin 2816 := ⟨t.val / 16 * 1408 + j.val, by have h := Nat.lt_of_lt_of_eq t.isLt N_0; omega⟩

theorem blk0 (c : Dev nD) (t : Fin cfg0.N) (i : Fin 512) (k : Fin 1024) : iblk m c 0 t (ix2 i k) = xA m c (ix2 (row t i) k) := by
  rw [← V_v0]; blk_ext! [iblk, idx0 t, row]
theorem blk1 (c : Dev nD) (t : Fin cfg0.N) (j : Fin 1408) (k : Fin 1024) : iblk m c 1 t (ix2 j k) = wA m c (ix2 k (lc (colB t j))) := by
  rw [← V_v2]; blk_ext! [iblk, idx1 t, lc, colB]
theorem blk2 (c : Dev nD) (t : Fin cfg0.N) (j : Fin 1408) (k : Fin 1024) : iblk m c 2 t (ix2 j k) = wA m c (ix2 k (rc (colB t j))) := by
  rw [← V_v2]; blk_ext! [iblk, idx2 t, rc, colB]
  show (t.val / 16 + 2) * 1408 + j.val = 2816 + (t.val / 16 * 1408 + j.val); omega

theorem mm1 (c : Dev nD) (t : Fin cfg0.N) (i : Fin 512) (j : Fin 1408) : mm (iblk m c 0 t) (iblk m c 1 t) i j = gA m c (row t i) (colB t j) := by
  unfold mm; simp only [blk0, blk1]; rfl
theorem mm2 (c : Dev nD) (t : Fin cfg0.N) (i : Fin 512) (j : Fin 1408) : mm (iblk m c 0 t) (iblk m c 2 t) i j = uA m c (row t i) (colB t j) := by
  unfold mm; simp only [blk0, blk2]; rfl

/-! The results of a point, and the arrays after the run. -/

theorem out3 (c : Dev nD) (t : Fin cfg0.N) (i : Fin 512) (j : Fin 1408) : out0_3 (iblk m c 0 t) (iblk m c 1 t) (iblk m c 2 t) (ix2 i j) = gA m c (row t i) (colB t j) := by
  unfold out0_3
  rw [View.canon_unit_zero hz2, ld2, ld2]
  exact (pay2_apply _ _ i j).trans (mm1 m c t i j)

theorem final3 (c : Dev nD) : (dats m 0 c).arrAt 3 cfg0.N = fun i : S8192x2816.Idx => gA m c (i 0) (i 1) := by
  refine (dats m 0 c).arrAt_eq_of_covers 3 _ (by decide +kernel) fun t hf y => ?_
  blk_simp
  obtain ⟨a, b, rfl⟩ : ∃ (a : Fin 512) (b : Fin 1408), y = ix2 a b := ⟨y 0, y 1, eq_ix2 y⟩
  rw [after0_3, out3]
  refine congrArg₂ (gA m c) (Fin.ext ?_) (Fin.ext ?_)
  · blk_simp [idx3 t, row]
  · blk_simp [idx3 t, colB]

theorem out4 (c : Dev nD) (t : Fin cfg0.N) (i : Fin 512) (j : Fin 1408) : out0_4 (iblk m c 0 t) (iblk m c 1 t) (iblk m c 2 t) (ix2 i j) = uA m c (row t i) (colB t j) := by
  unfold out0_4
  rw [View.canon_unit_zero hz2, ld2, ld2]
  exact (pay2_apply _ _ i j).trans (mm2 m c t i j)

theorem final4 (c : Dev nD) : (dats m 0 c).arrAt 4 cfg0.N = fun i : S8192x2816.Idx => uA m c (i 0) (i 1) := by
  refine (dats m 0 c).arrAt_eq_of_covers 4 _ (by decide +kernel) fun t hf y => ?_
  blk_simp
  obtain ⟨a, b, rfl⟩ : ∃ (a : Fin 512) (b : Fin 1408), y = ix2 a b := ⟨y 0, y 1, eq_ix2 y⟩
  rw [after0_4, out4]
  refine congrArg₂ (uA m c) (Fin.ext ?_) (Fin.ext ?_)
  · blk_simp [idx4 t, row]
  · blk_simp [idx4 t, colB]

theorem out5 (c : Dev nD) (t : Fin cfg0.N) (i : Fin 512) (j : Fin 1408) : out0_5 (iblk m c 0 t) (iblk m c 1 t) (iblk m c 2 t) (ix2 i j) = aA m c (row t i) (colB t j) := by
  unfold out0_5
  rw [View.canon_unit_zero hz2, ld2, ld2, ld2]
  refine (pay6_apply _ _ _ i j).trans ?_
  rw [mm1, mm2]; rfl

theorem final5 (c : Dev nD) : (dats m 0 c).arrAt 5 cfg0.N = fun i : S8192x2816.Idx => aA m c (i 0) (i 1) := by
  refine (dats m 0 c).arrAt_eq_of_covers 5 _ (by decide +kernel) fun t hf y => ?_
  blk_simp
  obtain ⟨a, b, rfl⟩ : ∃ (a : Fin 512) (b : Fin 1408), y = ix2 a b := ⟨y 0, y 1, eq_ix2 y⟩
  rw [after0_5, out5]
  refine congrArg₂ (aA m c) (Fin.ext ?_) (Fin.ext ?_)
  · blk_simp [idx5 t, row]
  · blk_simp [idx5 t, colB]

end Cert.SwigluFwdIdeal.Hand

namespace Cert.SwigluFwdClaims

open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2)
open Cert.SwigluFwdRefIdeal Cert.SwigluFwdRefIdeal.Read Cert.SwigluFwdIdeal.Hand
open scoped BigOperators

open Cert.GateMath
open Cert.SwigluIdeal.Hand (sg sg_eq)

theorem v1_apply (m : (ℓ : Loc Cert.SwigluFwdIdeal.nD Cert.SwigluFwdIdeal.τ Cert.SwigluFwdIdeal.sig) → Buf (Elt Ideal) ℓ) (c : Dev nD) (i : Fin 8192) (q : Fin 2816) :
    val_main_v1 (F := Ideal) (xA m c) (wA m c) (ix2 i q) = gA m c i q := by
  rw [val_main_v1_apply, val_main_v0_apply]
  exact Finset.sum_congr rfl fun k _ => congrArg₂ (fun a b : EReal => a * b) (congrArg (xA m c) (eq_ix2 _)) (congrArg (wA m c) (eq_ix2 _))

theorem v2_apply (m : (ℓ : Loc Cert.SwigluFwdIdeal.nD Cert.SwigluFwdIdeal.τ Cert.SwigluFwdIdeal.sig) → Buf (Elt Ideal) ℓ) (c : Dev nD) (i : Fin 8192) (q : Fin 2816) :
    val_main_v2 (F := Ideal) (xA m c) (wA m c) (ix2 i q) = uA m c i q := by
  rw [val_main_v2_apply, val_main_v0_apply]
  exact Finset.sum_congr rfl fun k _ => congrArg₂ (fun a b : EReal => a * b) (congrArg (xA m c) (eq_ix2 _)) (congrArg (wA m c) (eq_ix2 _))

/-- The reference's gated product at an index. -/
theorem v7_apply (m : (ℓ : Loc Cert.SwigluFwdIdeal.nD Cert.SwigluFwdIdeal.τ Cert.SwigluFwdIdeal.sig) → Buf (Elt Ideal) ℓ) (c : Dev nD) (i : Fin 8192) (q : Fin 2816) :
    val_main_v7 (F := Ideal) (xA m c) (wA m c) (ix2 i q) = aA m c i q := by
  simp only [val_main_v7_apply, val_main_v4_apply, val_main_v3_apply, val_main_call0_v5_apply, val_main_call0_v4_apply, val_main_call0_v3_apply, val_main_call0_v2_apply,
    val_main_call0_v1_apply, val_main_call0_v0_apply, val_main_call0_cst_apply, val_main_call0_cst_0_apply, v1_apply, v2_apply]
  unfold aA
  rw [← sg_eq, Cert.Laws.word_zero, zero_sub]; rfl

/-- The call computes the reference's two products and its gated product. -/
theorem algebraic : Cert.algebraic_SwigluFwdIdeal_SwigluFwdRefIdeal (hSwigluFwdIdeal := Cert.SwigluFwdIdeal.Gen.facts) (hSwigluFwdRefIdeal := Cert.SwigluFwdRefIdeal.Gen.facts) := by
  intro m ρ m' ρ' _ hag
  refine ⟨fun c i => gA m c (i 0) (i 1), fun c i => uA m c (i 0) (i 1), fun c i => aA m c (i 0) (i 1), ?_, ?_⟩
  · exact (θ_run _ _ _).mono (fun r h c => ⟨(h c).1.trans (final3 m c), (h c).2.1.trans (final4 m c), (h c).2.2.1.trans (final5 m c), (h c).2.2.2⟩)
      (Cert.SwigluFwdIdeal.Value.run_blocks m ρ)
  · refine (θ_run _ _ _).mono (fun r h c => ⟨(h c).1.trans ?_, (h c).2.1.trans ?_, (h c).2.2.1.trans ?_, (h c).2.2.2⟩) (Cert.SwigluFwdRefIdeal.Value.run m' ρ')
    · refine (val_main_v5_eq ..).trans (funext fun z => ?_)
      rw [(hag c).1, (hag c).2, eq_ix2 z]; exact v1_apply m c _ _
    · refine (val_main_v6_eq ..).trans (funext fun z => ?_)
      rw [(hag c).1, (hag c).2, eq_ix2 z]; exact v2_apply m c _ _
    · refine (val_main_v7_eq ..).trans (funext fun z => ?_)
      rw [(hag c).1, (hag c).2, eq_ix2 z]; exact v7_apply m c _ _

/-- The reference runs and leaves its arguments and the counters as they were. -/
theorem frame_ref : Cert.quiescent_SwigluFwdRefIdeal (hSwigluFwdRefIdeal := Cert.SwigluFwdRefIdeal.Gen.facts) := fun m ρ _ =>
  (θ_run Cert.SwigluFwdRefIdeal.defs _ _).mono (fun r h => ⟨fun c => (h c).2.2.2, sem_eq_zero_of_no_sems (by decide) r.2⟩)
    (Cert.SwigluFwdRefIdeal.Value.run (F := Ideal) m ρ)

end Cert.SwigluFwdClaims

end
-- ==== Proof.MergeFwdClaims.lean ====
/-
  The gated merge, forward: the three projected branches, their gated sum, its product, the residual stream after it and
  the second norm. The call's five results, the reference's, and the claim.
-/
module

public import proofs.«01_k».proof.Proof.Gen.MergeFwdRefIdeal.Read
public import proofs.«01_k».proof.Proof.Gen.MergeFwdIdeal.Value
public import proofs.«01_k».proof.Proof.NormMath
public import proofs.«01_k».proof.Proof.SoftmaxReads
public import proofs.«01_k».proof.Proof.MergeClaims
public import Idealize.ShloMosaic.Lib.MatmulPlain

@[expose] public section

set_option maxRecDepth 16384

noncomputable section

namespace Cert.MergeFwdIdeal.Hand

open Cert.MergeFwdIdeal Cert.MergeFwdIdeal.Gen
open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2 eq_ix3)
open Cert.IdxReads Cert.Laws Cert.NormMath Cert.SoftmaxReads Cert.ConcatReads
open Cert.MergeIdeal.Hand (sg sg_eq col_gate)
open Idealize.ShloMosaic.Pipeline (Dat)
open scoped BigOperators

theorem pay3_apply (x : FVec Ideal S256x1024 .bf16) (w : FVec Ideal S1024x1024 .bf16) (i : Fin 256) (j : Fin 1024) :
    k0_pay3 (F := Ideal) x w (ix2 i j) = ∑ k : Fin 1024, x (ix2 i k) * w (ix2 k j) := by
  unfold k0_pay3
  simp only [shapeCast_self]
  exact (Ideal.matmul_plain_apply none x w _ i j).trans ((congrArg (· + _) word_zero).trans (zero_add _))

/-- A branch's product as a slice of the stack. -/
theorem pay4_apply (x : FVec Ideal S256x1024 .bf16) (w : FVec Ideal S1024x1024 .bf16) (i : Fin 256) (j : Fin 1024) :
    k0_pay4 (F := Ideal) x w (ix3 0 i j) = ∑ k : Fin 1024, x (ix2 i k) * w (ix2 k j) := by
  unfold k0_pay4
  refine (shapeCast_apply _ _ _ (ix2 i j) ?_).trans (pay3_apply x w i j)
  rw [Shape.rowMajor_val_two, Shape.rowMajor_val_three]
  show i.val * 1024 + j.val = (0 * 256 + i.val) * 1024 + j.val; omega

theorem pay5_apply (x : FVec Ideal S256x1024 .bf16) (w : FVec Ideal S1024x1024 .bf16) (g : FVec Ideal S256x1024 .bf16) (y : S256x1024.Idx) :
    k0_pay5 (F := Ideal) x w g y = sg (g y) * k0_pay3 (F := Ideal) x w y := by
  unfold k0_pay5
  simp only [shapeCast_self]
  exact (congrArg₂ (fun a b : EReal => a + b * k0_pay3 (F := Ideal) x w y) word_zero (sg_eq _)).trans (zero_add _)

theorem pay11_apply (a b : FVec Ideal S256x1024 .f32) (g x : FVec Ideal S256x1024 .bf16) (w : FVec Ideal S1024x1024 .bf16) (g' : FVec Ideal S256x1024 .bf16)
    (y : S256x1024.Idx) : k0_pay11 (F := Ideal) a b (k0_pay8 g) x w g' y = (a y + sg (g y) * b y + sg (g' y) * k0_pay3 (F := Ideal) x w y : EReal) := by
  unfold k0_pay11 k0_pay8
  simp only [shapeCast_self]
  exact congrArg₂ (fun p q : EReal => a y + p * b y + q * k0_pay3 (F := Ideal) x w y) (sg_eq _) (sg_eq _)

theorem pay12_apply (a b : FVec Ideal S256x1024 .f32) (g x : FVec Ideal S256x1024 .bf16) (w : FVec Ideal S1024x1024 .bf16) (g' : FVec Ideal S256x1024 .bf16)
    (v : FVec Ideal S1024x1024 .bf16) (i : Fin 256) (j : Fin 1024) :
    k0_pay12 (F := Ideal) a b g x w g' v (ix2 i j) = ∑ k : Fin 1024, k0_pay11 (F := Ideal) a b g x w g' (ix2 i k) * v (ix2 k j) := by
  unfold k0_pay12
  simp only [shapeCast_self]
  exact (Ideal.matmul_plain_apply none _ v _ i j).trans ((congrArg (· + _) word_zero).trans (zero_add _))

theorem pay1_apply (y x : FVec Ideal S256x1024 .f32) (g : FVec Ideal S1x1024 .f32) (i : Fin 256) (j : Fin 1024) :
    k0_pay1 (F := Ideal) y x g (ix2 i j) = x (ix2 i j) + y (ix2 i j) * rs (fun k => y (ix2 i k)) * g (ix2 0 j) := by
  unfold k0_pay1; dsimp only
  refine congrArg₂ (fun a b : EReal => x (ix2 i j) + y (ix2 i j) * a * b) ?_ (bcastRow_apply _ _ i j)
  rw [bcastCol_apply]
  show Ideal.rsqrt (Ideal.div (shapeCast S256x1 _ _ (ix2 i 0)) (Ideal.ofBits .f32 0x44800000#32) + Ideal.ofBits .f32 0x358637BD#32) = _
  rw [word_1024, word_eps, shapeCast_b_b1_apply, rowSum_apply]; rfl

theorem pay2_apply (y x : FVec Ideal S256x1024 .f32) (g q : FVec Ideal S1x1024 .f32) (i : Fin 256) (j : Fin 1024) :
    k0_pay2 (F := Ideal) y x g q (ix2 i j) = k0_pay1 (F := Ideal) y x g (ix2 i j) * rs (fun k => k0_pay1 (F := Ideal) y x g (ix2 i k)) * q (ix2 0 j) := by
  unfold k0_pay2; dsimp only
  refine congrArg₂ (fun a b : EReal => k0_pay1 (F := Ideal) y x g (ix2 i j) * a * b) ?_ (bcastRow_apply _ _ i j)
  rw [bcastCol_apply]
  show Ideal.rsqrt (Ideal.div (shapeCast S256x1 _ _ (ix2 i 0)) (Ideal.ofBits .f32 0x44800000#32) + Ideal.ofBits .f32 0x358637BD#32) = _
  rw [word_1024, word_eps, shapeCast_b_b1_apply, rowSum_apply]; rfl

variable (m : (ℓ : Loc nD τ sig) → Buf (Elt Ideal) ℓ)

def oA (p : Fin 3) (c : Dev nD) : FVec Ideal S8192x1024 .f32 :=
  (![m ((c.tc : Thread nD τ).loc main_arg0), m ((c.tc : Thread nD τ).loc main_arg1), m ((c.tc : Thread nD τ).loc main_arg2)] : Fin 3 → FVec Ideal S8192x1024 .f32) p
def projA (c : Dev nD) : FVec Ideal S8192x9232 .f32 := m ((c.tc : Thread nD τ).loc main_arg3)
def wA (p : Fin 3) (c : Dev nD) : FVec Ideal S1024x1024 .f32 :=
  (![m ((c.tc : Thread nD τ).loc main_arg4), m ((c.tc : Thread nD τ).loc main_arg5), m ((c.tc : Thread nD τ).loc main_arg6)] : Fin 3 → FVec Ideal S1024x1024 .f32) p
def woA (c : Dev nD) : FVec Ideal S1024x1024 .f32 := m ((c.tc : Thread nD τ).loc main_arg7)
def xA (c : Dev nD) : FVec Ideal S8192x1024 .f32 := m ((c.tc : Thread nD τ).loc main_arg8)
def gpA (c : Dev nD) : FVec Ideal S1x1024 .f32 := m ((c.tc : Thread nD τ).loc main_arg9)
def gqA (c : Dev nD) : FVec Ideal S1x1024 .f32 := m ((c.tc : Thread nD τ).loc main_arg10)

/-- A branch, its gate, the merge, its product, the residual stream after it and the next norm. -/
def br (c : Dev nD) (p : Fin 3) (i : Fin 8192) (j : Fin 1024) : EReal := ∑ k : Fin 1024, oA m p c (ix2 i k) * wA m p c (ix2 k j)
def gt (c : Dev nD) (p : Fin 3) (i : Fin 8192) (j : Fin 1024) : EReal := sg (projA m c (ix2 i ⟨6160 + (p.val * 1024 + j.val), by omega⟩))
def mg (c : Dev nD) (i : Fin 8192) (j : Fin 1024) : EReal := gt m c 0 i j * br m c 0 i j + gt m c 1 i j * br m c 1 i j + gt m c 2 i j * br m c 2 i j
def ya (c : Dev nD) (i : Fin 8192) (j : Fin 1024) : EReal := ∑ k : Fin 1024, mg m c i k * woA m c (ix2 k j)
def xs (c : Dev nD) (i : Fin 8192) (j : Fin 1024) : EReal := xA m c (ix2 i j) + ya m c i j * rs (ya m c i) * gpA m c (ix2 0 j)
def hq (c : Dev nD) (i : Fin 8192) (j : Fin 1024) : EReal := xs m c i j * rs (xs m c i) * gqA m c (ix2 0 j)

/-- The casts before the call. -/
theorem V_casts (c : Dev nD) : V m c main_v0 = truncf (F := Ideal) .bf16 (m ((c : Thread nD τ).loc main_arg0)) bitsLt_bf16_f32
    ∧ V m c main_v1 = truncf (F := Ideal) .bf16 (m ((c : Thread nD τ).loc main_arg1)) bitsLt_bf16_f32
    ∧ V m c main_v2 = truncf (F := Ideal) .bf16 (m ((c : Thread nD τ).loc main_arg2)) bitsLt_bf16_f32
    ∧ V m c main_v3 = truncf (F := Ideal) .bf16 (m ((c : Thread nD τ).loc main_arg4)) bitsLt_bf16_f32
    ∧ V m c main_v4 = truncf (F := Ideal) .bf16 (m ((c : Thread nD τ).loc main_arg5)) bitsLt_bf16_f32
    ∧ V m c main_v5 = truncf (F := Ideal) .bf16 (m ((c : Thread nD τ).loc main_arg6)) bitsLt_bf16_f32
    ∧ V m c main_v6 = truncf (F := Ideal) .bf16 (m ((c : Thread nD τ).loc main_arg7)) bitsLt_bf16_f32 := by
  refine ⟨?_, ?_, ?_, ?_, ?_, ?_, ?_⟩ <;>
  · unfold_abbrev_sides
    simp only [hostOps0, List.flatten_cons, List.flatten_nil, List.append_nil, List.cons_append, List.nil_append]
    after_results

theorem V_v10 (c : Dev nD) (i : Fin 8192) (j : Fin 9216) : V m c main_v10 (ix2 i j) = projA m c (ix2 i (col j)) := by
  refine (congrFun (show V m c main_v10 = truncf (F := Ideal) .bf16 (concatenate S8192x9216 1
      [⟨S8192x3072, extractStridedSlice S8192x3072 ![0, 0] (m ((c : Thread nD τ).loc main_arg3)) slices_S8192x9232_S8192x3072_0_0⟩,
       ⟨S8192x6144, extractStridedSlice S8192x6144 ![0, 3088] (m ((c : Thread nD τ).loc main_arg3)) slices_S8192x9232_S8192x6144_0_3088⟩]
      concatenates_S8192x3072_S8192x6144_S8192x9216_d1) bitsLt_bf16_f32 by
    unfold_abbrev_sides
    simp only [hostOps0, List.flatten_cons, List.flatten_nil, List.append_nil, List.cons_append, List.nil_append]
    after_results) _).trans ?_
  exact without_apply _ slices_S8192x9232_S8192x3072_0_0 slices_S8192x9232_S8192x6144_0_3088 concatenates_S8192x3072_S8192x6144_S8192x9216_d1 i j

/-- The blocks of a point of the grid: where each window stands. -/
theorem idx : ∀ t : Fin cfg0.N, win0_0.index t = ![t.val, 0] ∧ win0_1.index t = ![t.val, 0] ∧ win0_2.index t = ![t.val, 0]
    ∧ win0_3.index t = ![t.val, 6] ∧ win0_4.index t = ![t.val, 7] ∧ win0_5.index t = ![t.val, 8]
    ∧ win0_6.index t = ![0, 0] ∧ win0_7.index t = ![0, 0] ∧ win0_8.index t = ![0, 0] ∧ win0_9.index t = ![0, 0]
    ∧ win0_10.index t = ![t.val, 0] ∧ win0_11.index t = ![0, 0] ∧ win0_12.index t = ![0, 0] ∧ win0_13.index t = ![t.val, 0]
    ∧ win0_14.index t = ![t.val, 0] ∧ win0_15.index t = ![0, t.val, 0] ∧ win0_16.index t = ![t.val, 0] ∧ win0_17.index t = ![t.val, 0] :=
  (by decide +kernel : ∀ t : Fin grid0.N, _)

/-- A row of a block, as a row of the array. -/
def row (t : Fin cfg0.N) (i : Fin 256) : Fin 8192 := ⟨t.val * 256 + i.val, by have h := Nat.lt_of_lt_of_eq t.isLt N_0; omega⟩

variable (c : Dev nD) (t : Fin cfg0.N) (i : Fin 256) (j : Fin 1024)

theorem blk0 : iblk m c 0 t (ix2 i j) = oA m 0 c (ix2 (row t i) j) := by
  refine Eq.trans ?_ (congrFun (V_casts m c).1 (ix2 (row t i) j)); blk_ext! [iblk, (idx t).1, row]
theorem blk1 : iblk m c 1 t (ix2 i j) = oA m 1 c (ix2 (row t i) j) := by
  refine Eq.trans ?_ (congrFun (V_casts m c).2.1 (ix2 (row t i) j)); blk_ext! [iblk, (idx t).2.1, row]
theorem blk2 : iblk m c 2 t (ix2 i j) = oA m 2 c (ix2 (row t i) j) := by
  refine Eq.trans ?_ (congrFun (V_casts m c).2.2.1 (ix2 (row t i) j)); blk_ext! [iblk, (idx t).2.2.1, row]
theorem blk3 : iblk m c 3 t (ix2 i j) = projA m c (ix2 (row t i) ⟨6160 + (0 * 1024 + j.val), by omega⟩) := by
  refine .trans ?_ (congrArg (fun q => projA m c (ix2 (row t i) q)) (col_gate 0 j))
  rw [← V_v10]; blk_ext! [iblk, (idx t).2.2.2.1, row]
  show 6 * 1024 + j.val = 6144 + (0 * 1024 + j.val); omega
theorem blk4 : iblk m c 4 t (ix2 i j) = projA m c (ix2 (row t i) ⟨6160 + (1 * 1024 + j.val), by omega⟩) := by
  refine .trans ?_ (congrArg (fun q => projA m c (ix2 (row t i) q)) (col_gate 1 j))
  rw [← V_v10]; blk_ext! [iblk, (idx t).2.2.2.2.1, row]
  show 7 * 1024 + j.val = 6144 + (1 * 1024 + j.val); omega
theorem blk5 : iblk m c 5 t (ix2 i j) = projA m c (ix2 (row t i) ⟨6160 + (2 * 1024 + j.val), by omega⟩) := by
  refine .trans ?_ (congrArg (fun q => projA m c (ix2 (row t i) q)) (col_gate 2 j))
  rw [← V_v10]; blk_ext! [iblk, (idx t).2.2.2.2.2.1, row]
  show 8 * 1024 + j.val = 6144 + (2 * 1024 + j.val); omega
theorem blk6 (k : Fin 1024) : iblk m c 6 t (ix2 k j) = wA m 0 c (ix2 k j) := by
  refine Eq.trans ?_ (congrFun (V_casts m c).2.2.2.1 (ix2 k j)); blk_ext! [iblk, (idx t).2.2.2.2.2.2.1]
theorem blk7 (k : Fin 1024) : iblk m c 7 t (ix2 k j) = wA m 1 c (ix2 k j) := by
  refine Eq.trans ?_ (congrFun (V_casts m c).2.2.2.2.1 (ix2 k j)); blk_ext! [iblk, (idx t).2.2.2.2.2.2.2.1]
theorem blk8 (k : Fin 1024) : iblk m c 8 t (ix2 k j) = wA m 2 c (ix2 k j) := by
  refine Eq.trans ?_ (congrFun (V_casts m c).2.2.2.2.2.1 (ix2 k j)); blk_ext! [iblk, (idx t).2.2.2.2.2.2.2.2.1]
theorem blk9 (k : Fin 1024) : iblk m c 9 t (ix2 k j) = woA m c (ix2 k j) := by
  refine Eq.trans ?_ (congrFun (V_casts m c).2.2.2.2.2.2 (ix2 k j)); blk_ext! [iblk, (idx t).2.2.2.2.2.2.2.2.2.1]
theorem blk10 : iblk m c 10 t (ix2 i j) = xA m c (ix2 (row t i) j) := by
  unfold xA; blk_ext! [iblk, (idx t).2.2.2.2.2.2.2.2.2.2.1, V_main_arg8, row]
theorem blk11 : iblk m c 11 t (ix2 0 j) = gpA m c (ix2 0 j) := by
  unfold gpA; blk_ext! [iblk, (idx t).2.2.2.2.2.2.2.2.2.2.2.1, V_main_arg9]
theorem blk12 : iblk m c 12 t (ix2 0 j) = gqA m c (ix2 0 j) := by
  unfold gqA; blk_ext! [iblk, (idx t).2.2.2.2.2.2.2.2.2.2.2.2.1, V_main_arg10]

/-- The block of the merge and of its product, as the body computes them. -/
def mgB : FVec Ideal S256x1024 .bf16 := k0_pay11 (F := Ideal) (k0_pay5 (iblk m c 0 t) (iblk m c 6 t) (iblk m c 3 t)) (k0_pay6 (iblk m c 1 t) (iblk m c 7 t))
  (k0_pay8 (iblk m c 4 t)) (iblk m c 2 t) (iblk m c 8 t) (iblk m c 5 t)
def yB : FVec Ideal S256x1024 .f32 := k0_pay12 (F := Ideal) (k0_pay5 (iblk m c 0 t) (iblk m c 6 t) (iblk m c 3 t)) (k0_pay6 (iblk m c 1 t) (iblk m c 7 t))
  (k0_pay8 (iblk m c 4 t)) (iblk m c 2 t) (iblk m c 8 t) (iblk m c 5 t) (iblk m c 9 t)

theorem mg_blk : mgB m c t (ix2 i j) = mg m c (row t i) j := by
  refine (pay11_apply _ _ _ _ _ _ _).trans ?_
  rw [pay5_apply, blk3, blk4, blk5, show k0_pay6 (F := Ideal) (iblk m c 1 t) (iblk m c 7 t) (ix2 i j) = _ from pay3_apply _ _ i j]
  simp only [pay3_apply, blk0, blk1, blk2, blk6, blk7, blk8]; rfl

theorem y_blk : yB m c t (ix2 i j) = ya m c (row t i) j :=
  (pay12_apply _ _ _ _ _ _ _ i j).trans (Finset.sum_congr rfl fun k _ => congrArg₂ (fun a b : EReal => a * b) (mg_blk m c t i k) (blk9 m c t j k))

theorem x_blk : k0_pay1 (F := Ideal) (yB m c t) (iblk m c 10 t) (iblk m c 11 t) (ix2 i j) = xs m c (row t i) j := by
  rw [pay1_apply]
  simp only [y_blk, blk10, blk11]; rfl

theorem h_blk : k0_pay2 (F := Ideal) (yB m c t) (iblk m c 10 t) (iblk m c 11 t) (iblk m c 12 t) (ix2 i j) = hq m c (row t i) j := by
  rw [pay2_apply]
  simp only [x_blk, blk12]; rfl

section
variable (x0 x1 x2 x3 x4 x5 : FVec Ideal S256x1024 .bf16) (x6 x7 x8 x9 : FVec Ideal S1024x1024 .bf16) (x10 : FVec Ideal S256x1024 .f32) (x11 x12 : FVec Ideal S1x1024 .f32)

theorem pay13_eq : k0_pay13 (F := Ideal) x0 x1 x2 x3 x4 x5 x6 x7 x8 x9 x10 x11 x12 = k0_pay5 x0 x6 x3 := by
  unfold k0_pay13 r0_0 r0_1; rw [ld2, ld2, ld2]
theorem pay14_eq : k0_pay14 (F := Ideal) x0 x1 x2 x3 x4 x5 x6 x7 x8 x9 x10 x11 x12 = k0_pay6 x1 x7 := by
  unfold k0_pay14 r0_0 r0_1; rw [ld2, ld2]
theorem pay15_eq : k0_pay15 (F := Ideal) x0 x1 x2 x3 x4 x5 x6 x7 x8 x9 x10 x11 x12 = k0_pay8 x4 := by
  unfold k0_pay15 r0_0; rw [ld2]
theorem pay16_eq : k0_pay16 (F := Ideal) x0 x1 x2 x3 x4 x5 x6 x7 x8 x9 x10 x11 x12
    = k0_pay12 (k0_pay5 x0 x6 x3) (k0_pay6 x1 x7) (k0_pay8 x4) x2 x8 x5 x9 := by
  unfold k0_pay16 r0_0 r0_1; rw [ld2, ld2, ld2, ld2, pay13_eq, pay14_eq, pay15_eq]
end

/-- The arrays after the run. -/
theorem final13 : (dats m 0 c).arrAt 13 cfg0.N = fun z : S8192x1024.Idx => mg m c (z 0) (z 1) := by
  refine (dats m 0 c).arrAt_eq_of_covers 13 _ (by decide +kernel) fun t hf y => ?_
  blk_simp
  obtain ⟨a, b, rfl⟩ : ∃ (a : Fin 256) (b : Fin 1024), y = ix2 a b := ⟨y 0, y 1, eq_ix2 y⟩
  rw [after0_13]; frame_out
  simp only [pay13_eq, pay14_eq, pay15_eq]
  refine (mg_blk m c t a b).trans (congrArg₂ (mg m c) (Fin.ext ?_) (Fin.ext ?_)) <;> blk_simp [(idx t).2.2.2.2.2.2.2.2.2.2.2.2.2.1, row]

theorem final14 : (dats m 0 c).arrAt 14 cfg0.N = fun z : S8192x1024.Idx => ya m c (z 0) (z 1) := by
  refine (dats m 0 c).arrAt_eq_of_covers 14 _ (by decide +kernel) fun t hf y => ?_
  blk_simp
  obtain ⟨a, b, rfl⟩ : ∃ (a : Fin 256) (b : Fin 1024), y = ix2 a b := ⟨y 0, y 1, eq_ix2 y⟩
  rw [after0_14]; frame_out
  simp only [pay16_eq]
  refine (y_blk m c t a b).trans (congrArg₂ (ya m c) (Fin.ext ?_) (Fin.ext ?_)) <;> blk_simp [(idx t).2.2.2.2.2.2.2.2.2.2.2.2.2.2.1, row]

theorem out15 (p : Fin 3) : out0_15 (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (ix3 p i j) = br m c p (row t i) j := by
  frame_out
  canon_tiles x h
  all_goals
    obtain ⟨q, i', j', rfl⟩ : ∃ (q : Fin 1) (i' : Fin 256) (j' : Fin 1024), x = ix3 q i' j' := ⟨x 0, x 1, x 2, eq_ix3 x⟩
    obtain rfl : q = 0 := Subsingleton.elim _ _
    obtain rfl : i = i' := Fin.ext h1
    obtain rfl : j = j' := Fin.ext h2
  · obtain rfl : p = 2 := Fin.ext h0
    exact (pay4_apply _ _ i j).trans (Finset.sum_congr rfl fun k _ => congrArg₂ (fun a b : EReal => a * b) (blk2 m c t i k) (blk8 m c t j k))
  · obtain rfl : p = 1 := Fin.ext h0
    exact (pay4_apply _ _ i j).trans (Finset.sum_congr rfl fun k _ => congrArg₂ (fun a b : EReal => a * b) (blk1 m c t i k) (blk7 m c t j k))
  · obtain rfl : p = 0 := Fin.ext h0
    exact (pay4_apply _ _ i j).trans (Finset.sum_congr rfl fun k _ => congrArg₂ (fun a b : EReal => a * b) (blk0 m c t i k) (blk6 m c t j k))

theorem final15 : (dats m 0 c).arrAt 15 cfg0.N = fun z : S3x8192x1024.Idx => br m c (z 0) (z 1) (z 2) := by
  refine (dats m 0 c).arrAt_eq_of_covers 15 _ (by decide +kernel) fun t hf y => ?_
  blk_simp
  obtain ⟨p, a, b, rfl⟩ : ∃ (p : Fin 3) (a : Fin 256) (b : Fin 1024), y = ix3 p a b := ⟨y 0, y 1, y 2, eq_ix3 y⟩
  rw [after0_15, out15]
  have e (p p' : Fin 3) (a a' : Fin 8192) (b b' : Fin 1024) (h : p.val = p'.val) (h' : a.val = a'.val) (h'' : b.val = b'.val) : br m c p a b = br m c p' a' b' := by
    rw [Fin.ext h, Fin.ext h', Fin.ext h'']
  refine e _ _ _ _ _ _ ?_ ?_ ?_ <;> blk_simp [(idx t).2.2.2.2.2.2.2.2.2.2.2.2.2.2.2.1, row]

theorem final16 : (dats m 0 c).arrAt 16 cfg0.N = fun z : S8192x1024.Idx => xs m c (z 0) (z 1) := by
  refine (dats m 0 c).arrAt_eq_of_covers 16 _ (by decide +kernel) fun t hf y => ?_
  blk_simp
  obtain ⟨a, b, rfl⟩ : ∃ (a : Fin 256) (b : Fin 1024), y = ix2 a b := ⟨y 0, y 1, eq_ix2 y⟩
  rw [after0_16]; frame_out
  simp only [pay16_eq]
  refine (x_blk m c t a b).trans (congrArg₂ (xs m c) (Fin.ext ?_) (Fin.ext ?_)) <;> blk_simp [(idx t).2.2.2.2.2.2.2.2.2.2.2.2.2.2.2.2.1, row]

theorem final17 : (dats m 0 c).arrAt 17 cfg0.N = fun z : S8192x1024.Idx => hq m c (z 0) (z 1) := by
  refine (dats m 0 c).arrAt_eq_of_covers 17 _ (by decide +kernel) fun t hf y => ?_
  blk_simp
  obtain ⟨a, b, rfl⟩ : ∃ (a : Fin 256) (b : Fin 1024), y = ix2 a b := ⟨y 0, y 1, eq_ix2 y⟩
  rw [after0_17]; frame_out
  simp only [pay16_eq]
  refine (h_blk m c t a b).trans (congrArg₂ (hq m c) (Fin.ext ?_) (Fin.ext ?_)) <;> blk_simp [(idx t).2.2.2.2.2.2.2.2.2.2.2.2.2.2.2.2.2, row]

end Cert.MergeFwdIdeal.Hand

namespace Cert.MergeFwdClaims

open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2 eq_ix3)
open Cert.MergeFwdRefIdeal Cert.MergeFwdRefIdeal.Read
open Cert.MergeFwdIdeal.Hand
open Cert.Laws Cert.NormMath Cert.ConcatReads
open scoped BigOperators

variable (m : (ℓ : Loc Cert.MergeFwdIdeal.nD Cert.MergeFwdIdeal.τ Cert.MergeFwdIdeal.sig) → Buf (Elt Ideal) ℓ) (c : Dev Cert.MergeFwdIdeal.nD) (i : Fin 8192) (j : Fin 1024)

/-- A branch's product, the merge and its product, in the reference. -/
theorem v0_apply (x : FVec Ideal S8192x1024 .f32) (w : FVec Ideal S1024x1024 .f32) : val_main_v0 (F := Ideal) x w (ix2 i j) = ∑ k : Fin 1024, x (ix2 i k) * w (ix2 k j) := by
  rw [val_main_v0_apply]
  exact Finset.sum_congr rfl fun k _ => congrArg₂ (fun a b => (x a : EReal) * w b) (eq_ix2 _) (eq_ix2 _)

theorem v21_apply : val_main_v21 (F := Ideal) (oA m 0 c) (oA m 1 c) (oA m 2 c) (projA m c) (wA m 0 c) (wA m 1 c) (wA m 2 c) (ix2 i j) = mg m c i j := by
  rw [val_main_v21_apply, val_main_v20_apply, val_main_v17_apply, val_main_v16_apply, val_main_v13_apply]
  refine congrArg₂ (fun a b : EReal => a + b) (congrArg₂ (fun a b : EReal => a + b) ?_ ?_) ?_
  · exact congrArg₂ (fun a b : EReal => a * b) (Cert.MergeClaims.v12_apply _ i j) (v0_apply i j _ _)
  · exact congrArg₂ (fun a b : EReal => a * b) (Cert.MergeClaims.v15_apply _ i j) (v0_apply i j _ _)
  · exact congrArg₂ (fun a b : EReal => a * b) (Cert.MergeClaims.v19_apply _ i j) (v0_apply i j _ _)

theorem v22_apply : val_main_v22 (F := Ideal) (oA m 0 c) (oA m 1 c) (oA m 2 c) (projA m c) (wA m 0 c) (wA m 1 c) (wA m 2 c) (woA m c) (ix2 i j) = ya m c i j := by
  rw [val_main_v22_apply]
  refine Finset.sum_congr rfl fun k _ => congrArg₂ (fun a b : EReal => a * b) ?_ (congrArg (woA m c) (eq_ix2 _))
  exact (congrArg (val_main_v21 (F := Ideal) _ _ _ _ _ _ _) (eq_ix2 _)).trans (v21_apply m c i k)

/-- The residual stream in the reference. -/
theorem v35_apply : val_main_v35 (F := Ideal) (oA m 0 c) (oA m 1 c) (oA m 2 c) (projA m c) (wA m 0 c) (wA m 1 c) (wA m 2 c) (woA m c) (xA m c) (gpA m c) (ix2 i j) = xs m c i j := by
  simp only [val_main_v35_apply, val_main_v34_apply, val_main_v33_apply, val_main_v32_apply, val_main_v31_apply, val_main_v30_apply, val_main_v29_apply, val_main_v28_apply,
    val_main_v27_apply, val_main_v26_apply, val_main_v25_apply, val_main_v24_apply, val_main_v23_apply, val_main_cst_1_apply, val_main_cst_2_apply, val_main_cst_3_apply]
  refine congrArg (fun a : EReal => xA m c (ix2 i j) + a) (congrArg₂ (fun a b : EReal => a * b) (congrArg₂ (fun a b : EReal => a * b) (v22_apply m c i j) ?_) (congrArg (gpA m c) (eq_ix2 _)))
  refine congrArg Ideal.rsqrt (congrArg₂ (fun a b : EReal => a + b) (congrArg₂ Ideal.div ?_ word_1024) word_eps)
  refine (congrArg₂ (fun a b : EReal => a + b) word_zero (Finset.sum_congr rfl fun k _ => ?_)).trans (zero_add _)
  have e (q : S8192x1024.Idx) (h : q = ix2 i k) : val_main_v22 (F := Ideal) (oA m 0 c) (oA m 1 c) (oA m 2 c) (projA m c) (wA m 0 c) (wA m 1 c) (wA m 2 c) (woA m c) q = ya m c i k :=
    h ▸ v22_apply m c i k
  exact congrArg₂ (fun a b : EReal => a * b) (e _ (eq_ix2 _)) (e _ (eq_ix2 _))

/-- The second norm in the reference. -/
theorem v54_apply : val_main_v54 (F := Ideal) (oA m 0 c) (oA m 1 c) (oA m 2 c) (projA m c) (wA m 0 c) (wA m 1 c) (wA m 2 c) (woA m c) (xA m c) (gpA m c) (gqA m c) (ix2 i j) = hq m c i j := by
  simp only [val_main_v54_apply, val_main_v53_apply, val_main_v52_apply, val_main_v51_apply, val_main_v50_apply, val_main_v49_apply, val_main_v48_apply, val_main_v47_apply,
    val_main_v46_apply, val_main_v45_apply, val_main_v44_apply, val_main_v43_apply, val_main_v42_apply, val_main_cst_4_apply, val_main_cst_5_apply, val_main_cst_6_apply]
  refine congrArg₂ (fun a b : EReal => a * b) (congrArg₂ (fun a b : EReal => a * b) (v35_apply m c i j) ?_) (congrArg (gqA m c) (eq_ix2 _))
  refine congrArg Ideal.rsqrt (congrArg₂ (fun a b : EReal => a + b) (congrArg₂ Ideal.div ?_ word_1024) word_eps)
  refine (congrArg₂ (fun a b : EReal => a + b) word_zero (Finset.sum_congr rfl fun k _ => ?_)).trans (zero_add _)
  have e (q : S8192x1024.Idx) (h : q = ix2 i k) : val_main_v35 (F := Ideal) (oA m 0 c) (oA m 1 c) (oA m 2 c) (projA m c) (wA m 0 c) (wA m 1 c) (wA m 2 c) (woA m c) (xA m c) (gpA m c) q = xs m c i k :=
    h ▸ v35_apply m c i k
  exact congrArg₂ (fun a b : EReal => a * b) (e _ (eq_ix2 _)) (e _ (eq_ix2 _))

/-- The stack of the branches in the reference. -/
theorem v41_apply (p : Fin 3) : val_main_v41 (F := Ideal) (oA m 0 c) (oA m 1 c) (oA m 2 c) (wA m 0 c) (wA m 1 c) (wA m 2 c) (ix3 p i j) = br m c p i j := by
  rw [val_main_v41_apply]
  unfold val_main_v39
  refine (stack3_apply (a := 8192) (b := 1024) _ _ _ _ p i j).trans ?_
  match p with
  | ⟨0, _⟩ => exact (val_main_v36_apply _ _ _).trans ((congrArg (val_main_v0 (F := Ideal) _ _) (eq_ix2 _)).trans (v0_apply i j _ _))
  | ⟨1, _⟩ => exact (val_main_v37_apply _ _ _).trans ((congrArg (val_main_v1 (F := Ideal) _ _) (eq_ix2 _)).trans (v0_apply i j _ _))
  | ⟨2, _⟩ => exact (val_main_v38_apply _ _ _).trans ((congrArg (val_main_v2 (F := Ideal) _ _) (eq_ix2 _)).trans (v0_apply i j _ _))

/-- The call computes the reference's merge, product, branches, residual stream and norm. -/
theorem algebraic : Cert.algebraic_MergeFwdIdeal_MergeFwdRefIdeal (hMergeFwdIdeal := Cert.MergeFwdIdeal.Gen.facts) (hMergeFwdRefIdeal := Cert.MergeFwdRefIdeal.Gen.facts) := by
  intro m ρ m' ρ' _ hag
  refine ⟨fun c z => mg m c (z 0) (z 1), fun c z => ya m c (z 0) (z 1), fun c z => br m c (z 0) (z 1) (z 2), fun c z => xs m c (z 0) (z 1), fun c z => hq m c (z 0) (z 1), ?_, ?_⟩
  · exact (θ_run _ _ _).mono (fun r h c => ⟨(h c).1.trans (final13 m c), (h c).2.1.trans (final14 m c), (h c).2.2.1.trans (final15 m c), (h c).2.2.2.1.trans (final16 m c),
      (h c).2.2.2.2.1.trans (final17 m c), (h c).2.2.2.2.2⟩) (Cert.MergeFwdIdeal.Value.run_blocks m ρ)
  · refine (θ_run _ _ _).mono (fun r h c => ?_) (Cert.MergeFwdRefIdeal.Value.run m' ρ')
    obtain ⟨a0, a1, a2, a3, a4, a5, a6, a7, a8, a9, a10⟩ := hag c
    refine ⟨(h c).1.trans ?_, (h c).2.1.trans ?_, (h c).2.2.1.trans ?_, (h c).2.2.2.1.trans ?_, (h c).2.2.2.2.1.trans ?_, (h c).2.2.2.2.2⟩
    · refine (val_main_v40_eq ..).trans (funext fun z => ?_)
      rw [a0, a1, a2, a3, a4, a5, a6]
      exact (congrArg (val_main_v21 (F := Ideal) _ _ _ _ _ _ _) (eq_ix2 z)).trans (v21_apply m c (z 0) (z 1))
    · refine (val_main_v22_eq ..).trans (funext fun z => ?_)
      rw [a0, a1, a2, a3, a4, a5, a6, a7]
      exact (congrArg (val_main_v22 (F := Ideal) _ _ _ _ _ _ _ _) (eq_ix2 z)).trans (v22_apply m c (z 0) (z 1))
    · refine (val_main_v41_eq ..).trans (funext fun z => ?_)
      rw [a0, a1, a2, a4, a5, a6]
      exact (congrArg (val_main_v41 (F := Ideal) _ _ _ _ _ _) (eq_ix3 z)).trans (v41_apply m c (z 1) (z 2) (z 0))
    · refine (val_main_v35_eq ..).trans (funext fun z => ?_)
      rw [a0, a1, a2, a3, a4, a5, a6, a7, a8, a9]
      exact (congrArg (val_main_v35 (F := Ideal) _ _ _ _ _ _ _ _ _ _) (eq_ix2 z)).trans (v35_apply m c (z 0) (z 1))
    · refine (val_main_v54_eq ..).trans (funext fun z => ?_)
      rw [a0, a1, a2, a3, a4, a5, a6, a7, a8, a9, a10]
      exact (congrArg (val_main_v54 (F := Ideal) _ _ _ _ _ _ _ _ _ _ _) (eq_ix2 z)).trans (v54_apply m c (z 0) (z 1))

/-- The reference runs and leaves its arguments and the counters as they were. -/
theorem frame_ref : Cert.quiescent_MergeFwdRefIdeal (hMergeFwdRefIdeal := Cert.MergeFwdRefIdeal.Gen.facts) := fun m ρ _ =>
  (θ_run Cert.MergeFwdRefIdeal.defs _ _).mono (fun r h => ⟨fun c => (h c).2.2.2.2.2, sem_eq_zero_of_no_sems (by decide) r.2⟩)
    (Cert.MergeFwdRefIdeal.Value.run (F := Ideal) m ρ)

end Cert.MergeFwdClaims

end
-- ==== Proof.ProjClaims.lean ====
/-
  The product of the normalised rows with the projection's weight, the forget gate's columns left out: of the call, of the reference, and the
  claim.
-/
module

public import proofs.«01_k».proof.Defs
public import proofs.«01_k».proof.Proof.Gen.ProjRefIdeal.Read
public import proofs.«01_k».proof.Proof.Gen.ProjIdeal.Value
public import Idealize.ShloMosaic.Lib.MatmulPlain
public import proofs.«01_k».proof.Proof.IdxReads
public import proofs.«01_k».proof.Proof.Laws
public import proofs.«01_k».proof.Proof.ConcatReads
public import Idealize.ShloMosaic.Lib.Quiescent
public import Idealize.ShloMosaic.Lib.Pipeline.ValueKit.Point

@[expose] public section

set_option maxRecDepth 16384

noncomputable section

namespace Cert.ProjIdeal.Hand

open Cert.ProjIdeal Cert.ProjIdeal.Gen
open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2)
open Cert.IdxReads Cert.Laws Cert.ConcatReads
open Idealize.ShloMosaic.Pipeline (Dat)
open scoped BigOperators

theorem pay1_apply (x : FVec Ideal S2048x1024 .bf16) (w : FVec Ideal S1024x1024 .bf16) (i : Fin 2048) (j : Fin 1024) :
    k0_pay1 (F := Ideal) x w (ix2 i j) = ∑ k : Fin 1024, x (ix2 i k) * w (ix2 j k) := by
  unfold k0_pay1
  simp only [shapeCast_self]
  exact (Ideal.matmul_transposedRhs_apply none x w _ i j).trans ((congrArg (· + _) word_zero).trans (zero_add _))

variable (m : (ℓ : Loc nD τ sig) → Buf (Elt Ideal) ℓ)

def xA (c : Dev nD) : FVec Ideal S8192x1024 .f32 := m ((c.tc : Thread nD τ).loc main_arg0)
def wA (c : Dev nD) : FVec Ideal S1024x9232 .f32 := m ((c.tc : Thread nD τ).loc main_arg1)

theorem V_v0 (c : Dev nD) (i : Fin 8192) (k : Fin 1024) : V m c main_v0 (ix2 i k) = xA m c (ix2 i k) :=
  congrFun (show V m c main_v0 = truncf (F := Ideal) .bf16 (m ((c : Thread nD τ).loc main_arg0)) bitsLt_bf16_f32 by
    unfold_abbrev_sides
    simp only [hostOps0, List.flatten_cons, List.flatten_nil, List.append_nil, List.cons_append, List.nil_append]
    after_results) _

theorem V_v5 (c : Dev nD) (q : Fin 9216) (k : Fin 1024) : V m c main_v5 (ix2 q k) = wA m c (ix2 k (col q)) := by
  refine (congrFun (show V m c main_v5 = transpose S9216x1024 [1, 0] (truncf (F := Ideal) .bf16 (concatenate S1024x9216 1
      [⟨S1024x3072, extractStridedSlice S1024x3072 ![0, 0] (m ((c : Thread nD τ).loc main_arg1)) slices_S1024x9232_S1024x3072_0_0⟩,
        ⟨S1024x6144, extractStridedSlice S1024x6144 ![0, 3088] (m ((c : Thread nD τ).loc main_arg1)) slices_S1024x9232_S1024x6144_0_3088⟩]
      concatenates_S1024x3072_S1024x6144_S1024x9216_d1) bitsLt_bf16_f32) transposes_S1024x9216_S9216x1024_1_0 by
    unfold_abbrev_sides
    simp only [hostOps0, List.flatten_cons, List.flatten_nil, List.append_nil, List.cons_append, List.nil_append]
    after_results) _).trans ?_
  refine (transpose_apply _ _ _ _ (ix2 k q) (by intro d; match d with | ⟨0, _⟩ => rfl | ⟨1, _⟩ => rfl)).trans ?_
  exact without_apply (wA m c) slices_S1024x9232_S1024x3072_0_0 slices_S1024x9232_S1024x6144_0_3088 concatenates_S1024x3072_S1024x6144_S1024x9216_d1 k q

/-- The product with the whole weight, and without the gate's columns. -/
def pA (c : Dev nD) (i : Fin 8192) (q : Fin 9216) : EReal := ∑ k : Fin 1024, xA m c (ix2 i k) * wA m c (ix2 k (col q))

theorem idx0 : ∀ t : Fin cfg0.N, win0_0.index t = ![t.val % 4, 0] := (by decide +kernel : ∀ t : Fin grid0.N, _)
theorem idx1 : ∀ t : Fin cfg0.N, win0_1.index t = ![t.val / 4, 0] := (by decide +kernel : ∀ t : Fin grid0.N, _)
theorem idx2 : ∀ t : Fin cfg0.N, win0_2.index t = ![t.val % 4, t.val / 4] := (by decide +kernel : ∀ t : Fin grid0.N, _)

/-- A row and a column of a block, as those of the arrays. -/
def row (t : Fin cfg0.N) (i : Fin 2048) : Fin 8192 := ⟨t.val % 4 * 2048 + i.val, by omega⟩
def colB (t : Fin cfg0.N) (j : Fin 1024) : Fin 9216 := ⟨t.val / 4 * 1024 + j.val, by have h := Nat.lt_of_lt_of_eq t.isLt N_0; omega⟩

theorem blk0 (c : Dev nD) (t : Fin cfg0.N) (i : Fin 2048) (k : Fin 1024) : iblk m c 0 t (ix2 i k) = xA m c (ix2 (row t i) k) := by
  rw [← V_v0]; blk_ext! [iblk, idx0 t, row]
theorem blk1 (c : Dev nD) (t : Fin cfg0.N) (j k : Fin 1024) : iblk m c 1 t (ix2 j k) = wA m c (ix2 k (col (colB t j))) := by
  rw [← V_v5]; blk_ext! [iblk, idx1 t, colB]

theorem out2 (c : Dev nD) (t : Fin cfg0.N) (i : Fin 2048) (j : Fin 1024) : out0_2 (iblk m c 0 t) (iblk m c 1 t) (ix2 i j) = pA m c (row t i) (colB t j) := by
  unfold out0_2
  rw [View.canon_unit_zero hz2, ld2, ld2]
  refine (pay1_apply _ _ i j).trans ?_
  simp only [blk0, blk1]; rfl

/-- The array after the run. -/
theorem final2 (c : Dev nD) : (dats m 0 c).arrAt 2 cfg0.N = fun i : S8192x9216.Idx => pA m c (i 0) (i 1) := by
  refine (dats m 0 c).arrAt_eq_of_covers 2 _ (by decide +kernel) fun t hf y => ?_
  blk_simp
  obtain ⟨a, b, rfl⟩ : ∃ (a : Fin 2048) (b : Fin 1024), y = ix2 a b := ⟨y 0, y 1, eq_ix2 y⟩
  rw [after0_2, out2]
  refine congrArg₂ (pA m c) (Fin.ext ?_) (Fin.ext ?_)
  · blk_simp [idx2 t, row]
  · blk_simp [idx2 t, colB]

end Cert.ProjIdeal.Hand

namespace Cert.ProjClaims

open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2)
open Cert.ProjRefIdeal Cert.ProjRefIdeal.Gen Cert.ProjRefIdeal.Read Cert.ProjIdeal.Hand
open Cert.ConcatReads
open scoped BigOperators

/-- The reference's product, without the gate's columns, at an index. -/
theorem v4_apply (m : (ℓ : Loc Cert.ProjIdeal.nD Cert.ProjIdeal.τ Cert.ProjIdeal.sig) → Buf (Elt Ideal) ℓ) (c : Dev nD) (i : Fin 8192) (q : Fin 9216) :
    val_main_v4 (F := Ideal) (xA m c) (wA m c) (ix2 i q) = pA m c i q := by
  refine (without_apply (val_main_v0 (F := Ideal) (xA m c) (wA m c)) slices_S8192x9232_S8192x3072_0_0 slices_S8192x9232_S8192x6144_0_3088
    concatenates_S8192x3072_S8192x6144_S8192x9216_d1 i q).trans ?_
  rw [val_main_v0_apply]
  exact Finset.sum_congr rfl fun k _ => congrArg₂ (fun a b : EReal => a * b) (congrArg (xA m c) (eq_ix2 _)) (congrArg (wA m c) (eq_ix2 _))

/-- The call computes the reference's product. -/
theorem algebraic : Cert.algebraic_ProjIdeal_ProjRefIdeal (hProjIdeal := Cert.ProjIdeal.Gen.facts) (hProjRefIdeal := Cert.ProjRefIdeal.Gen.facts) := by
  intro m ρ m' ρ' _ hag
  refine ⟨fun c i => pA m c (i 0) (i 1), ?_, ?_⟩
  · exact (θ_run _ _ _).mono (fun r h c => ⟨(h c).1.trans (final2 m c), (h c).2⟩) (Cert.ProjIdeal.Value.run_blocks m ρ)
  · refine (θ_run _ _ _).mono (fun r h c => ⟨(h c).1.trans ?_, (h c).2⟩) (Cert.ProjRefIdeal.Value.run m' ρ')
    refine (val_main_v4_eq ..).trans (funext fun z => ?_)
    rw [(hag c).1, (hag c).2, eq_ix2 z]; exact v4_apply m c _ _

/-- The reference runs and leaves its arguments and the counters as they were. -/
theorem frame_ref : Cert.quiescent_ProjRefIdeal (hProjRefIdeal := Cert.ProjRefIdeal.Gen.facts) := fun m ρ _ =>
  (θ_run Cert.ProjRefIdeal.defs _ _).mono (fun r h => ⟨fun c => (h c).2, sem_eq_zero_of_no_sems (by decide) r.2⟩)
    (Cert.ProjRefIdeal.Value.run (F := Ideal) m ρ)

end Cert.ProjClaims

end
-- ==== Proof.AdamwClaims.lean ====
/-
  The optimiser's step of one weight: the gradient summed over the eight received slots, the two moments and the update, of the call and of
  the reference, and the claim.
-/
module

public import proofs.«01_k».proof.Defs
public import proofs.«01_k».proof.Proof.Gen.AdamwRefIdeal.Read
public import proofs.«01_k».proof.Proof.Gen.AdamwIdeal.Value
public import proofs.«01_k».proof.Proof.IdxReads
public import proofs.«01_k».proof.Proof.Laws
public import Idealize.ShloMosaic.Lib.Quiescent
public import Idealize.ShloMosaic.Lib.Pipeline.ValueKit.Point

@[expose] public section

set_option maxRecDepth 16384

noncomputable section

namespace Cert.AdamwIdeal.Hand

open Cert.AdamwIdeal Cert.AdamwIdeal.Gen
open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2)
open Cert.IdxReads
open Idealize.ShloMosaic.Pipeline (Dat)
open scoped BigOperators

/-- A constant of the step, by its word. -/
abbrev wd (b : BitVec 32) : EReal := Ideal.ofBits .f32 b

/-- The new first moment, of the gradient and the old one. -/
def mom (g x : EReal) : EReal := wd 0x3F666666#32 * x + wd 0x3DCCCCCD#32 * g
/-- The new second moment, of the gradient and the old one. -/
def var (g y : EReal) : EReal := wd 0x3F7FBE77#32 * y + wd 0x3A83126F#32 * (g * g)
/-- The update, of the gradient, the two old moments and the weight. -/
def upd (g x y w : EReal) : EReal :=
  wd 0xBA83126F#32 * (Ideal.div (Ideal.div (mom g x) (wd 0x3F26BD02#32)) (Ideal.sqrt (Ideal.div (var g y) (wd 0x3C231ACC#32)) + wd 0x322BCC77#32) + wd 0x3C23D70A#32 * w)

theorem pay1_apply (g x : FVec Ideal S512x256 .f32) (y : S512x256.Idx) : k0_pay1 (F := Ideal) g x y = mom (g y) (x y) := rfl
theorem pay2_apply (g x : FVec Ideal S512x256 .f32) (y : S512x256.Idx) : k0_pay2 (F := Ideal) g x y = var (g y) (x y) := rfl
theorem pay3_apply (g x v w : FVec Ideal S512x256 .f32) (y : S512x256.Idx) : k0_pay3 (F := Ideal) g x v w y = upd (g y) (x y) (v y) (w y) := rfl

theorem drop_apply (p : FVec Ideal S1x512x256 .bf16) (h : S1x512x256.ShapeCasts S512x256) (i : Fin 512) (j : Fin 256) :
    shapeCast S512x256 p h (ix2 i j) = p (ix3 0 i j) :=
  shapeCast_apply _ _ _ _ (by
    rw [Shape.rowMajor_val_two, Shape.rowMajor_val_three]
    show (0 * 512 + i.val) * 256 + j.val = i.val * 256 + j.val; omega)

/-- The sum of the eight planes. -/
theorem pay4_apply (p0 p1 p2 p3 p4 p5 p6 p7 : FVec Ideal S1x512x256 .bf16) (i : Fin 512) (j : Fin 256) :
    k0_pay4 (F := Ideal) p0 p1 p2 p3 p4 p5 p6 p7 (ix2 i j)
      = p0 (ix3 0 i j) + p1 (ix3 0 i j) + p2 (ix3 0 i j) + p3 (ix3 0 i j) + p4 (ix3 0 i j) + p5 (ix3 0 i j) + p6 (ix3 0 i j) + p7 (ix3 0 i j) := by
  simp only [← drop_apply _ shapeCasts_S1x512x256_S512x256]; rfl

variable (m : (ℓ : Loc nD τ sig) → Buf (Elt Ideal) ℓ)

def wA (c : Dev nD) : FVec Ideal S1024x256 .f32 := m ((c.tc : Thread nD τ).loc main_arg0)
def sA (c : Dev nD) : FVec Ideal S8x1024x256 .bf16 := m ((c.tc : Thread nD τ).loc main_arg1)
def mA (c : Dev nD) : FVec Ideal S1024x256 .f32 := m ((c.tc : Thread nD τ).loc main_arg2)
def vA (c : Dev nD) : FVec Ideal S1024x256 .f32 := m ((c.tc : Thread nD τ).loc main_arg3)

/-- The gradient: the sum of the slots. -/
def gA (c : Dev nD) (z : S1024x256.Idx) : EReal := ∑ p : Fin 8, sA m c (ix3 p (z 0) (z 1))

theorem idx0 : ∀ t : Fin cfg0.N, win0_0.index t = ![t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

/-- A row of a block, as that of the arrays. -/
def row (t : Fin cfg0.N) (i : Fin 512) : Fin 1024 := ⟨t.val * 512 + i.val, by have h := Nat.lt_of_lt_of_eq t.isLt N_0; omega⟩

theorem blk0 (c : Dev nD) (t : Fin cfg0.N) (i : Fin 512) (j : Fin 256) : iblk m c 0 t (ix2 i j) = wA m c (ix2 (row t i) j) := by
  rw [show wA m c = V m c main_arg0 from (V_main_arg0 m c).symm]; blk_ext! [iblk, idx0 t, row]
theorem blk1 (c : Dev nD) (t : Fin cfg0.N) (p : Fin 8) (i : Fin 512) (j : Fin 256) : iblk m c 1 t (ix3 p i j) = sA m c (ix3 p (row t i) j) := by
  rw [show sA m c = V m c main_arg1 from (V_main_arg1 m c).symm]; blk_ext! [iblk, idx1 t, row]
theorem blk2 (c : Dev nD) (t : Fin cfg0.N) (i : Fin 512) (j : Fin 256) : iblk m c 2 t (ix2 i j) = mA m c (ix2 (row t i) j) := by
  rw [show mA m c = V m c main_arg2 from (V_main_arg2 m c).symm]; blk_ext! [iblk, idx2 t, row]
theorem blk3 (c : Dev nD) (t : Fin cfg0.N) (i : Fin 512) (j : Fin 256) : iblk m c 3 t (ix2 i j) = vA m c (ix2 (row t i) j) := by
  rw [show vA m c = V m c main_arg3 from (V_main_arg3 m c).symm]; blk_ext! [iblk, idx3 t, row]

/-- A plane of the slots' block. -/
theorem plane (c : Dev nD) (t : Fin cfg0.N) (p : Fin 8) (inb : ∀ a : Fin 3, (![p.val, 0, 0] : Fin 3 → Nat) a + S1x512x256.size a ≤ S8x512x256.size a) (i : Fin 512) (j : Fin 256) :
    View.ld (Val := Elt Ideal) (e' := .bf16) (iblk m c 1 t) (Rect.unit (s := S8x512x256) ![p.val, 0, 0] S1x512x256.size inb) (ix3 0 i j) = sA m c (ix3 p (row t i) j) := by
  rw [← blk1]
  exact View.ld_unit_apply_of (S := S8x512x256) (iblk m c 1 t) _ _ inb _ (ix3 p i j) (fun a => by
    match a with
    | ⟨0, _⟩ => rfl
    | ⟨1, _⟩ => exact (Nat.zero_add _).symm
    | ⟨2, _⟩ => exact (Nat.zero_add _).symm)

/-- The gradient of a point. -/
theorem grad (c : Dev nD) (t : Fin cfg0.N) (i : Fin 512) (j : Fin 256) :
    k0_pay5 (F := Ideal) (iblk m c 0 t) (iblk m c 1 t) (iblk m c 2 t) (iblk m c 3 t) (ix2 i j) = gA m c (ix2 (row t i) j) := by
  unfold k0_pay5
  refine (pay4_apply _ _ _ _ _ _ _ _ i j).trans ?_
  unfold gA
  rw [Fin.sum_univ_eight]
  exact congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b)
    (plane m c t 0 _ i j) (plane m c t 1 _ i j)) (plane m c t 2 _ i j)) (plane m c t 3 _ i j)) (plane m c t 4 _ i j)) (plane m c t 5 _ i j)) (plane m c t 6 _ i j)) (plane m c t 7 _ i j)

/-! The arrays after the run. -/

theorem final4 (c : Dev nD) : (dats m 0 c).arrAt 4 cfg0.N = gA m c := by
  refine (dats m 0 c).arrAt_eq_of_covers 4 _ (by decide +kernel) fun t hf y => ?_
  blk_simp
  obtain ⟨a, b, rfl⟩ : ∃ (a : Fin 512) (b : Fin 256), y = ix2 a b := ⟨y 0, y 1, eq_ix2 y⟩
  rw [after0_4, out0_4, View.canon_unit_zero hz2, grad]
  refine congrArg (gA m c) ?_
  blk_ext! [idx4 t, row]

theorem final5 (c : Dev nD) : (dats m 0 c).arrAt 5 cfg0.N = fun z => upd (gA m c z) (mA m c z) (vA m c z) (wA m c z) := by
  refine (dats m 0 c).arrAt_eq_of_covers 5 _ (by decide +kernel) fun t hf y => ?_
  blk_simp
  obtain ⟨a, b, rfl⟩ : ∃ (a : Fin 512) (b : Fin 256), y = ix2 a b := ⟨y 0, y 1, eq_ix2 y⟩
  rw [after0_5, out0_5, View.canon_unit_zero hz2, ld2, ld2, ld2]
  refine (pay3_apply _ _ _ _ _).trans ?_
  rw [grad, blk0, blk2, blk3]
  refine congrArg (fun z => upd (gA m c z) (mA m c z) (vA m c z) (wA m c z)) ?_
  blk_ext! [idx5 t, row]

theorem final6 (c : Dev nD) : (dats m 0 c).arrAt 6 cfg0.N = fun z => mom (gA m c z) (mA m c z) := by
  refine (dats m 0 c).arrAt_eq_of_covers 6 _ (by decide +kernel) fun t hf y => ?_
  blk_simp
  obtain ⟨a, b, rfl⟩ : ∃ (a : Fin 512) (b : Fin 256), y = ix2 a b := ⟨y 0, y 1, eq_ix2 y⟩
  rw [after0_6, out0_6, View.canon_unit_zero hz2, ld2]
  refine (pay1_apply _ _ _).trans ?_
  rw [grad, blk2]
  refine congrArg (fun z => mom (gA m c z) (mA m c z)) ?_
  blk_ext! [idx6 t, row]

theorem final7 (c : Dev nD) : (dats m 0 c).arrAt 7 cfg0.N = fun z => var (gA m c z) (vA m c z) := by
  refine (dats m 0 c).arrAt_eq_of_covers 7 _ (by decide +kernel) fun t hf y => ?_
  blk_simp
  obtain ⟨a, b, rfl⟩ : ∃ (a : Fin 512) (b : Fin 256), y = ix2 a b := ⟨y 0, y 1, eq_ix2 y⟩
  rw [after0_7, out0_7, View.canon_unit_zero hz2, ld2]
  refine (pay2_apply _ _ _).trans ?_
  rw [grad, blk3]
  refine congrArg (fun z => var (gA m c z) (vA m c z)) ?_
  blk_ext! [idx7 t, row]

end Cert.AdamwIdeal.Hand

namespace Cert.AdamwClaims

open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2 eq_ix3)
open Cert.AdamwRefIdeal Cert.AdamwRefIdeal.Read Cert.AdamwIdeal.Hand
open scoped BigOperators

variable (m : (ℓ : Loc Cert.AdamwIdeal.nD Cert.AdamwIdeal.τ Cert.AdamwIdeal.sig) → Buf (Elt Ideal) ℓ) (c : Dev nD) (z : S1024x256.Idx)

theorem v1_apply : val_main_v1 (F := Ideal) (sA m c) z = gA m c z := by
  rw [val_main_v1_apply, val_main_cst_apply]
  refine (congrArg (· + _) Cert.Laws.word_zero).trans ((zero_add _).trans ?_)
  exact Finset.sum_congr rfl fun k _ => congrArg (sA m c) (eq_ix3 _)

theorem v6_apply : val_main_v6 (F := Ideal) (sA m c) (mA m c) z = mom (gA m c z) (mA m c z) := by
  simp only [val_main_v6_apply, val_main_v5_apply, val_main_v4_apply, val_main_v3_apply, val_main_v2_apply, val_main_cst_0_apply, val_main_cst_1_apply, v1_apply]; rfl

theorem v12_apply : val_main_v12 (F := Ideal) (sA m c) (vA m c) z = var (gA m c z) (vA m c z) := by
  simp only [val_main_v12_apply, val_main_v11_apply, val_main_v10_apply, val_main_v9_apply, val_main_v8_apply, val_main_v7_apply, val_main_cst_2_apply, val_main_cst_3_apply, v1_apply]; rfl

theorem v25_apply : val_main_v25 (F := Ideal) (wA m c) (sA m c) (mA m c) (vA m c) z = upd (gA m c z) (mA m c z) (vA m c z) (wA m c z) := by
  simp only [val_main_v25_apply, val_main_v24_apply, val_main_v23_apply, val_main_v22_apply, val_main_v21_apply, val_main_v20_apply, val_main_v19_apply, val_main_v18_apply,
    val_main_v17_apply, val_main_v16_apply, val_main_v15_apply, val_main_v14_apply, val_main_v13_apply, val_main_cst_4_apply, val_main_cst_5_apply, val_main_cst_6_apply,
    val_main_cst_7_apply, val_main_cst_8_apply, v6_apply, v12_apply]; rfl

/-- The call computes the reference's gradient, update and moments. -/
theorem algebraic : Cert.algebraic_AdamwIdeal_AdamwRefIdeal (hAdamwIdeal := Cert.AdamwIdeal.Gen.facts) (hAdamwRefIdeal := Cert.AdamwRefIdeal.Gen.facts) := by
  intro m ρ m' ρ' _ hag
  refine ⟨fun c => gA m c, fun c z => upd (gA m c z) (mA m c z) (vA m c z) (wA m c z), fun c z => mom (gA m c z) (mA m c z), fun c z => var (gA m c z) (vA m c z), ?_, ?_⟩
  · exact (θ_run _ _ _).mono (fun r h c => ⟨(h c).1.trans (final4 m c), (h c).2.1.trans (final5 m c), (h c).2.2.1.trans (final6 m c), (h c).2.2.2.1.trans (final7 m c), (h c).2.2.2.2⟩)
      (Cert.AdamwIdeal.Value.run_blocks m ρ)
  · refine (θ_run _ _ _).mono (fun r h c => ⟨(h c).1.trans ?_, (h c).2.1.trans ?_, (h c).2.2.1.trans ?_, (h c).2.2.2.1.trans ?_, (h c).2.2.2.2⟩) (Cert.AdamwRefIdeal.Value.run m' ρ')
    · refine (val_main_v1_eq ..).trans (funext fun z => ?_)
      rw [(hag c).2.1]; exact v1_apply m c z
    · refine (val_main_v25_eq ..).trans (funext fun z => ?_)
      rw [(hag c).1, (hag c).2.1, (hag c).2.2.1, (hag c).2.2.2]; exact v25_apply m c z
    · refine (val_main_v6_eq ..).trans (funext fun z => ?_)
      rw [(hag c).2.1, (hag c).2.2.1]; exact v6_apply m c z
    · refine (val_main_v12_eq ..).trans (funext fun z => ?_)
      rw [(hag c).2.1, (hag c).2.2.2]; exact v12_apply m c z

/-- The reference runs and leaves its arguments and the counters as they were. -/
theorem frame_ref : Cert.quiescent_AdamwRefIdeal (hAdamwRefIdeal := Cert.AdamwRefIdeal.Gen.facts) := fun m ρ _ =>
  (θ_run Cert.AdamwRefIdeal.defs _ _).mono (fun r h => ⟨fun c => (h c).2.2.2.2, sem_eq_zero_of_no_sems (by decide) r.2⟩)
    (Cert.AdamwRefIdeal.Value.run (F := Ideal) m ρ)

end Cert.AdamwClaims

end
-- ==== Proof.PiecesClaims.lean ====
/-
  The product of the six arrays side by side with the projection's weight, transposed, the gate's columns left out: of the call, of the reference,
  and the claim.
-/
module

public import proofs.«01_k».proof.Defs
public import proofs.«01_k».proof.Proof.Gen.PiecesRefIdeal.Read
public import proofs.«01_k».proof.Proof.Gen.PiecesIdeal.Value
public import Idealize.ShloMosaic.Lib.MatmulPlain
public import proofs.«01_k».proof.Proof.IdxReads
public import proofs.«01_k».proof.Proof.Laws
public import proofs.«01_k».proof.Proof.ConcatReads
public import Idealize.ShloMosaic.Lib.Quiescent
public import Idealize.ShloMosaic.Lib.Pipeline.ValueKit.Point

@[expose] public section

set_option maxRecDepth 16384

noncomputable section

namespace Cert.PiecesIdeal.Hand

open Cert.PiecesIdeal Cert.PiecesIdeal.Gen
open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2)
open Cert.IdxReads Cert.Laws Cert.ConcatReads
open Idealize.ShloMosaic.Pipeline (Dat)
open scoped BigOperators

/-- The product of two blocks. -/
theorem pay1_apply (x w : FVec Ideal S1024x1024 .bf16) (i j : Fin 1024) :
    k0_pay1 (F := Ideal) x w (ix2 i j) = ∑ k : Fin 1024, x (ix2 i k) * w (ix2 k j) := by
  unfold k0_pay1
  simp only [shapeCast_self]
  exact (Ideal.matmul_plain_apply none x w _ i j).trans ((congrArg (· + _) word_zero).trans (zero_add _))

/-- The product stored, and the product added to what was there. -/
theorem pay2_apply (x w : FVec Ideal S1024x1024 .bf16) (i j : Fin 1024) :
    k0_pay2 (F := Ideal) x w (ix2 i j) = ∑ k : Fin 1024, x (ix2 i k) * w (ix2 k j) := by
  unfold k0_pay2
  simp only [shapeCast_self]
  exact pay1_apply x w i j

theorem pay3_apply (x w : FVec Ideal S1024x1024 .bf16) (y : FVec Ideal S1024x1024 .f32) (i j : Fin 1024) :
    k0_pay3 (F := Ideal) x w y (ix2 i j) = y (ix2 i j) + ∑ k : Fin 1024, x (ix2 i k) * w (ix2 k j) := by
  unfold k0_pay3
  simp only [shapeCast_self]
  exact congrArg (fun a : EReal => y (ix2 i j) + a) (pay1_apply x w i j)

variable (m : (ℓ : Loc nD τ sig) → Buf (Elt Ideal) ℓ)

/-- The six arrays and the weight. -/
def a0 (c : Dev nD) : FVec Ideal S8192x1024 .f32 := m ((c.tc : Thread nD τ).loc main_arg0)
def a1 (c : Dev nD) : FVec Ideal S8192x1024 .f32 := m ((c.tc : Thread nD τ).loc main_arg1)
def a2 (c : Dev nD) : FVec Ideal S8192x1024 .f32 := m ((c.tc : Thread nD τ).loc main_arg2)
def a3 (c : Dev nD) : FVec Ideal S8192x2048 .f32 := m ((c.tc : Thread nD τ).loc main_arg3)
def a4 (c : Dev nD) : FVec Ideal S8192x1024 .f32 := m ((c.tc : Thread nD τ).loc main_arg4)
def a5 (c : Dev nD) : FVec Ideal S8192x3072 .f32 := m ((c.tc : Thread nD τ).loc main_arg5)
def wA (c : Dev nD) : FVec Ideal S1024x9232 .f32 := m ((c.tc : Thread nD τ).loc main_arg6)

theorem V_v0 (c : Dev nD) (i : Fin 8192) (k : Fin 1024) : V m c main_v0 (ix2 i k) = a0 m c (ix2 i k) :=
  congrFun (show V m c main_v0 = truncf (F := Ideal) .bf16 (m ((c : Thread nD τ).loc main_arg0)) bitsLt_bf16_f32 by
    unfold_abbrev_sides
    simp only [hostOps0, List.flatten_cons, List.flatten_nil, List.append_nil, List.cons_append, List.nil_append]
    after_results) _
theorem V_v1 (c : Dev nD) (i : Fin 8192) (k : Fin 1024) : V m c main_v1 (ix2 i k) = a1 m c (ix2 i k) :=
  congrFun (show V m c main_v1 = truncf (F := Ideal) .bf16 (m ((c : Thread nD τ).loc main_arg1)) bitsLt_bf16_f32 by
    unfold_abbrev_sides
    simp only [hostOps0, List.flatten_cons, List.flatten_nil, List.append_nil, List.cons_append, List.nil_append]
    after_results) _
theorem V_v2 (c : Dev nD) (i : Fin 8192) (k : Fin 1024) : V m c main_v2 (ix2 i k) = a2 m c (ix2 i k) :=
  congrFun (show V m c main_v2 = truncf (F := Ideal) .bf16 (m ((c : Thread nD τ).loc main_arg2)) bitsLt_bf16_f32 by
    unfold_abbrev_sides
    simp only [hostOps0, List.flatten_cons, List.flatten_nil, List.append_nil, List.cons_append, List.nil_append]
    after_results) _
theorem V_v3 (c : Dev nD) (i : Fin 8192) (k : Fin 2048) : V m c main_v3 (ix2 i k) = a3 m c (ix2 i k) :=
  congrFun (show V m c main_v3 = truncf (F := Ideal) .bf16 (m ((c : Thread nD τ).loc main_arg3)) bitsLt_bf16_f32 by
    unfold_abbrev_sides
    simp only [hostOps0, List.flatten_cons, List.flatten_nil, List.append_nil, List.cons_append, List.nil_append]
    after_results) _
theorem V_v4 (c : Dev nD) (i : Fin 8192) (k : Fin 1024) : V m c main_v4 (ix2 i k) = a4 m c (ix2 i k) :=
  congrFun (show V m c main_v4 = truncf (F := Ideal) .bf16 (m ((c : Thread nD τ).loc main_arg4)) bitsLt_bf16_f32 by
    unfold_abbrev_sides
    simp only [hostOps0, List.flatten_cons, List.flatten_nil, List.append_nil, List.cons_append, List.nil_append]
    after_results) _
theorem V_v5 (c : Dev nD) (i : Fin 8192) (k : Fin 3072) : V m c main_v5 (ix2 i k) = a5 m c (ix2 i k) :=
  congrFun (show V m c main_v5 = truncf (F := Ideal) .bf16 (m ((c : Thread nD τ).loc main_arg5)) bitsLt_bf16_f32 by
    unfold_abbrev_sides
    simp only [hostOps0, List.flatten_cons, List.flatten_nil, List.append_nil, List.cons_append, List.nil_append]
    after_results) _

theorem V_v10 (c : Dev nD) (q : Fin 9216) (k : Fin 1024) : V m c main_v10 (ix2 q k) = wA m c (ix2 k (col q)) := by
  refine (congrFun (show V m c main_v10 = transpose S9216x1024 [1, 0] (truncf (F := Ideal) .bf16 (concatenate S1024x9216 1
      [⟨S1024x3072, extractStridedSlice S1024x3072 ![0, 0] (m ((c : Thread nD τ).loc main_arg6)) slices_S1024x9232_S1024x3072_0_0⟩,
        ⟨S1024x6144, extractStridedSlice S1024x6144 ![0, 3088] (m ((c : Thread nD τ).loc main_arg6)) slices_S1024x9232_S1024x6144_0_3088⟩]
      concatenates_S1024x3072_S1024x6144_S1024x9216_d1) bitsLt_bf16_f32) transposes_S1024x9216_S9216x1024_1_0 by
    unfold_abbrev_sides
    simp only [hostOps0, List.flatten_cons, List.flatten_nil, List.append_nil, List.cons_append, List.nil_append]
    after_results) _).trans ?_
  refine (transpose_apply _ _ _ _ (ix2 k q) (by intro d; match d with | ⟨0, _⟩ => rfl | ⟨1, _⟩ => rfl)).trans ?_
  exact without_apply (wA m c) slices_S1024x9232_S1024x3072_0_0 slices_S1024x9232_S1024x6144_0_3088 concatenates_S1024x3072_S1024x6144_S1024x9216_d1 k q

/-- The six arrays side by side. -/
def cat (c : Dev nD) : FVec Ideal Cert.PiecesRefIdeal.S8192x9216 .f32 :=
  Cert.PiecesRefIdeal.Read.val_main_v3 (F := Ideal) (a0 m c) (a1 m c) (a2 m c) (a3 m c) (a4 m c) (a5 m c)

/-- Each of the six in its own columns. -/
theorem cat0 (c : Dev nD) (i : Fin 8192) (k : Fin 1024) (q : Fin 9216) (h : 0 + k.val = q.val) : cat m c (ix2 i q) = a0 m c (ix2 i k) :=
  concatenate_apply_piece (t := Cert.PiecesRefIdeal.S8192x9216) 1
    [⟨S8192x1024, a0 m c⟩, ⟨S8192x1024, a1 m c⟩, ⟨S8192x1024, a2 m c⟩, ⟨S8192x2048, a3 m c⟩, ⟨S8192x1024, a4 m c⟩, ⟨S8192x3072, a5 m c⟩]
    Cert.PiecesRefIdeal.Gen.concatenates_S8192x1024_S8192x1024_S8192x1024_S8192x2048_S8192x1024_S8192x3072_S8192x9216_d1 (ix2 i q) 0
    (by show (0 : Nat) < 6; decide) S8192x1024 (a0 m c) rfl rfl 0 rfl (ix2 i k)
    (fun d hd => by match d with | ⟨0, _⟩ => rfl | ⟨1, _⟩ => exact absurd rfl hd) h
theorem cat1 (c : Dev nD) (i : Fin 8192) (k : Fin 1024) (q : Fin 9216) (h : 1024 + k.val = q.val) : cat m c (ix2 i q) = a1 m c (ix2 i k) :=
  concatenate_apply_piece (t := Cert.PiecesRefIdeal.S8192x9216) 1
    [⟨S8192x1024, a0 m c⟩, ⟨S8192x1024, a1 m c⟩, ⟨S8192x1024, a2 m c⟩, ⟨S8192x2048, a3 m c⟩, ⟨S8192x1024, a4 m c⟩, ⟨S8192x3072, a5 m c⟩]
    Cert.PiecesRefIdeal.Gen.concatenates_S8192x1024_S8192x1024_S8192x1024_S8192x2048_S8192x1024_S8192x3072_S8192x9216_d1 (ix2 i q) 1
    (by show (1 : Nat) < 6; decide) S8192x1024 (a1 m c) rfl rfl 1024 rfl (ix2 i k)
    (fun d hd => by match d with | ⟨0, _⟩ => rfl | ⟨1, _⟩ => exact absurd rfl hd) h
theorem cat2 (c : Dev nD) (i : Fin 8192) (k : Fin 1024) (q : Fin 9216) (h : 2048 + k.val = q.val) : cat m c (ix2 i q) = a2 m c (ix2 i k) :=
  concatenate_apply_piece (t := Cert.PiecesRefIdeal.S8192x9216) 1
    [⟨S8192x1024, a0 m c⟩, ⟨S8192x1024, a1 m c⟩, ⟨S8192x1024, a2 m c⟩, ⟨S8192x2048, a3 m c⟩, ⟨S8192x1024, a4 m c⟩, ⟨S8192x3072, a5 m c⟩]
    Cert.PiecesRefIdeal.Gen.concatenates_S8192x1024_S8192x1024_S8192x1024_S8192x2048_S8192x1024_S8192x3072_S8192x9216_d1 (ix2 i q) 2
    (by show (2 : Nat) < 6; decide) S8192x1024 (a2 m c) rfl rfl 2048 rfl (ix2 i k)
    (fun d hd => by match d with | ⟨0, _⟩ => rfl | ⟨1, _⟩ => exact absurd rfl hd) h
theorem cat3 (c : Dev nD) (i : Fin 8192) (k : Fin 2048) (q : Fin 9216) (h : 3072 + k.val = q.val) : cat m c (ix2 i q) = a3 m c (ix2 i k) :=
  concatenate_apply_piece (t := Cert.PiecesRefIdeal.S8192x9216) 1
    [⟨S8192x1024, a0 m c⟩, ⟨S8192x1024, a1 m c⟩, ⟨S8192x1024, a2 m c⟩, ⟨S8192x2048, a3 m c⟩, ⟨S8192x1024, a4 m c⟩, ⟨S8192x3072, a5 m c⟩]
    Cert.PiecesRefIdeal.Gen.concatenates_S8192x1024_S8192x1024_S8192x1024_S8192x2048_S8192x1024_S8192x3072_S8192x9216_d1 (ix2 i q) 3
    (by show (3 : Nat) < 6; decide) S8192x2048 (a3 m c) rfl rfl 3072 rfl (ix2 i k)
    (fun d hd => by match d with | ⟨0, _⟩ => rfl | ⟨1, _⟩ => exact absurd rfl hd) h
theorem cat4 (c : Dev nD) (i : Fin 8192) (k : Fin 1024) (q : Fin 9216) (h : 5120 + k.val = q.val) : cat m c (ix2 i q) = a4 m c (ix2 i k) :=
  concatenate_apply_piece (t := Cert.PiecesRefIdeal.S8192x9216) 1
    [⟨S8192x1024, a0 m c⟩, ⟨S8192x1024, a1 m c⟩, ⟨S8192x1024, a2 m c⟩, ⟨S8192x2048, a3 m c⟩, ⟨S8192x1024, a4 m c⟩, ⟨S8192x3072, a5 m c⟩]
    Cert.PiecesRefIdeal.Gen.concatenates_S8192x1024_S8192x1024_S8192x1024_S8192x2048_S8192x1024_S8192x3072_S8192x9216_d1 (ix2 i q) 4
    (by show (4 : Nat) < 6; decide) S8192x1024 (a4 m c) rfl rfl 5120 rfl (ix2 i k)
    (fun d hd => by match d with | ⟨0, _⟩ => rfl | ⟨1, _⟩ => exact absurd rfl hd) h
theorem cat5 (c : Dev nD) (i : Fin 8192) (k : Fin 3072) (q : Fin 9216) (h : 6144 + k.val = q.val) : cat m c (ix2 i q) = a5 m c (ix2 i k) :=
  concatenate_apply_piece (t := Cert.PiecesRefIdeal.S8192x9216) 1
    [⟨S8192x1024, a0 m c⟩, ⟨S8192x1024, a1 m c⟩, ⟨S8192x1024, a2 m c⟩, ⟨S8192x2048, a3 m c⟩, ⟨S8192x1024, a4 m c⟩, ⟨S8192x3072, a5 m c⟩]
    Cert.PiecesRefIdeal.Gen.concatenates_S8192x1024_S8192x1024_S8192x1024_S8192x2048_S8192x1024_S8192x3072_S8192x9216_d1 (ix2 i q) 5
    (by show (5 : Nat) < 6; decide) S8192x3072 (a5 m c) rfl rfl 6144 rfl (ix2 i k)
    (fun d hd => by match d with | ⟨0, _⟩ => rfl | ⟨1, _⟩ => exact absurd rfl hd) h

/-- What the call's result holds: the rows of the six times the weight's. -/
def pA (c : Dev nD) (i : Fin 8192) (j : Fin 1024) : EReal := ∑ q : Fin 9216, cat m c (ix2 i q) * wA m c (ix2 j (col q))

theorem idx0 : ∀ t : Fin cfg0.N, win0_0.index t = ![t.val / 9, 0] := (by decide +kernel : ∀ t : Fin grid0.N, _)
theorem idx1 : ∀ t : Fin cfg0.N, win0_1.index t = ![t.val / 9, 0] := (by decide +kernel : ∀ t : Fin grid0.N, _)
theorem idx2 : ∀ t : Fin cfg0.N, win0_2.index t = ![t.val / 9, 0] := (by decide +kernel : ∀ t : Fin grid0.N, _)
theorem idx3 : ∀ t : Fin cfg0.N, win0_3.index t = ![t.val / 9, min (t.val % 9 - 3) 1] := (by decide +kernel : ∀ t : Fin grid0.N, _)
theorem idx4 : ∀ t : Fin cfg0.N, win0_4.index t = ![t.val / 9, 0] := (by decide +kernel : ∀ t : Fin grid0.N, _)
theorem idx5 : ∀ t : Fin cfg0.N, win0_5.index t = ![t.val / 9, min (t.val % 9 - 6) 2] := (by decide +kernel : ∀ t : Fin grid0.N, _)
theorem idx6 : ∀ t : Fin cfg0.N, win0_6.index t = ![t.val % 9, 0] := (by decide +kernel : ∀ t : Fin grid0.N, _)
theorem idx7 : ∀ t : Fin cfg0.N, win0_7.index t = ![t.val / 9, 0] := (by decide +kernel : ∀ t : Fin grid0.N, _)

/-- A row and a column of a block, as those of the arrays. -/
def row (t : Fin cfg0.N) (i : Fin 1024) : Fin 8192 := ⟨t.val / 9 * 1024 + i.val, by have h := Nat.lt_of_lt_of_eq t.isLt N_0; omega⟩
def colB (t : Fin cfg0.N) (k : Fin 1024) : Fin 9216 := ⟨t.val % 9 * 1024 + k.val, by omega⟩

/-- At a point that reads one of the six, its block is the block of all side by side. -/
theorem blk0 (c : Dev nD) (t : Fin cfg0.N) (h : t.val % 9 = 0) (i k : Fin 1024) : iblk m c 0 t (ix2 i k) = cat m c (ix2 (row t i) (colB t k)) := by
  rw [cat0 m c (row t i) k (colB t k) (by unfold colB; dsimp only; omega), ← V_v0]; blk_ext! [iblk, idx0 t, row]
theorem blk1 (c : Dev nD) (t : Fin cfg0.N) (h : t.val % 9 = 1) (i k : Fin 1024) : iblk m c 1 t (ix2 i k) = cat m c (ix2 (row t i) (colB t k)) := by
  rw [cat1 m c (row t i) k (colB t k) (by unfold colB; dsimp only; omega), ← V_v1]; blk_ext! [iblk, idx1 t, row]
theorem blk2 (c : Dev nD) (t : Fin cfg0.N) (h : t.val % 9 = 2) (i k : Fin 1024) : iblk m c 2 t (ix2 i k) = cat m c (ix2 (row t i) (colB t k)) := by
  rw [cat2 m c (row t i) k (colB t k) (by unfold colB; dsimp only; omega), ← V_v2]; blk_ext! [iblk, idx2 t, row]
theorem blk3 (c : Dev nD) (t : Fin cfg0.N) (h : 3 ≤ t.val % 9 ∧ t.val % 9 ≤ 4) (i k : Fin 1024) : iblk m c 3 t (ix2 i k) = cat m c (ix2 (row t i) (colB t k)) := by
  rw [cat3 m c (row t i) ⟨min (t.val % 9 - 3) 1 * 1024 + k.val, by omega⟩ (colB t k) (by unfold colB; dsimp only; omega), ← V_v3]; blk_ext! [iblk, idx3 t, row]
theorem blk4 (c : Dev nD) (t : Fin cfg0.N) (h : t.val % 9 = 5) (i k : Fin 1024) : iblk m c 4 t (ix2 i k) = cat m c (ix2 (row t i) (colB t k)) := by
  rw [cat4 m c (row t i) k (colB t k) (by unfold colB; dsimp only; omega), ← V_v4]; blk_ext! [iblk, idx4 t, row]
theorem blk5 (c : Dev nD) (t : Fin cfg0.N) (h : 6 ≤ t.val % 9 ∧ t.val % 9 ≤ 8) (i k : Fin 1024) : iblk m c 5 t (ix2 i k) = cat m c (ix2 (row t i) (colB t k)) := by
  rw [cat5 m c (row t i) ⟨min (t.val % 9 - 6) 2 * 1024 + k.val, by omega⟩ (colB t k) (by unfold colB; dsimp only; omega), ← V_v5]; blk_ext! [iblk, idx5 t, row]
theorem blk6 (c : Dev nD) (t : Fin cfg0.N) (k j : Fin 1024) : iblk m c 6 t (ix2 k j) = wA m c (ix2 j (col (colB t k))) := by
  rw [← V_v10]; blk_ext! [iblk, idx6 t, colB]

/-- What a point adds. -/
def tm (c : Dev nD) (t : Fin cfg0.N) (i j : Fin 1024) : EReal := ∑ k : Fin 1024, cat m c (ix2 (row t i) (colB t k)) * wA m c (ix2 j (col (colB t k)))

theorem tm_of (c : Dev nD) (t : Fin cfg0.N) (x : FVec Ideal S1024x1024 .bf16) (h : ∀ i k : Fin 1024, x (ix2 i k) = cat m c (ix2 (row t i) (colB t k)))
    (i j : Fin 1024) : ∑ k : Fin 1024, x (ix2 i k) * iblk m c 6 t (ix2 k j) = tm m c t i j :=
  Finset.sum_congr rfl fun k _ => congrArg₂ (fun a b : EReal => a * b) (h i k) (blk6 m c t k j)

/-- A row block's first point stores its term. -/
theorem first (c : Dev nD) (t : Fin cfg0.N) (h : t.val % 9 = 0) (i j : Fin 1024) : (outsAt0 m c t.val t.isLt).2 (ix2 i j) = tm m c t i j := by
  rw [outsAt0_A m c t h h (by omega) (by omega) (by omega) (by omega) (by omega) (by omega) (by omega)]; frame_out
  exact (pay2_apply _ _ i j).trans (tm_of m c t _ (blk0 m c t h) i j)

/-- The others add theirs to what the point before left. -/
theorem step (c : Dev nD) (t : Fin cfg0.N) (h : ¬t.val % 9 = 0) (i j : Fin 1024) :
    (outsAt0 m c t.val t.isLt).2 (ix2 i j) = (outsAt0 m c (t.val - 1) (Nat.lt_of_le_of_lt (Nat.sub_le _ _) t.isLt)).2 (ix2 i j) + tm m c t i j := by
  by_cases h1 : t.val % 9 = 1
  · rw [outsAt0_B m c t h h1 (by omega) (by omega) (by omega) (by omega) (by omega) h (by omega)]; frame_out
    exact (pay3_apply _ _ _ i j).trans (congrArg₂ (fun a b : EReal => a + b) (congrFun (Memref.IsWhole.read_unread (Memref.isWhole_whole cc0_scratch0) _) (ix2 i j)) (tm_of m c t _ (blk1 m c t h1) i j))
  by_cases h2 : t.val % 9 = 2
  · rw [outsAt0_C m c t h h1 h2 (by omega) (by omega) (by omega) (by omega) h (by omega)]; frame_out
    exact (pay3_apply _ _ _ i j).trans (congrArg₂ (fun a b : EReal => a + b) (congrFun (Memref.IsWhole.read_unread (Memref.isWhole_whole cc0_scratch0) _) (ix2 i j)) (tm_of m c t _ (blk2 m c t h2) i j))
  by_cases h3 : 3 ≤ t.val % 9 ∧ t.val % 9 ≤ 4
  · rw [outsAt0_D m c t h h1 h2 h3 (by omega) (by omega) (by omega) h (by omega)]; frame_out
    exact (pay3_apply _ _ _ i j).trans (congrArg₂ (fun a b : EReal => a + b) (congrFun (Memref.IsWhole.read_unread (Memref.isWhole_whole cc0_scratch0) _) (ix2 i j)) (tm_of m c t _ (blk3 m c t h3) i j))
  by_cases h5 : t.val % 9 = 5
  · rw [outsAt0_E m c t h h1 h2 h3 h5 (by omega) (by omega) h (by omega)]; frame_out
    exact (pay3_apply _ _ _ i j).trans (congrArg₂ (fun a b : EReal => a + b) (congrFun (Memref.IsWhole.read_unread (Memref.isWhole_whole cc0_scratch0) _) (ix2 i j)) (tm_of m c t _ (blk4 m c t h5) i j))
  have h6 : 6 ≤ t.val % 9 ∧ t.val % 9 ≤ 8 := by omega
  by_cases h8 : t.val % 9 = 8
  · rw [outsAt0_G m c t h h1 h2 h3 h5 h6.1 h8 h (by omega)]; frame_out
    exact (pay3_apply _ _ _ i j).trans (congrArg₂ (fun a b : EReal => a + b) (congrFun (Memref.IsWhole.read_unread (Memref.isWhole_whole cc0_scratch0) _) (ix2 i j)) (tm_of m c t _ (blk5 m c t h6) i j))
  · rw [outsAt0_F m c t h h1 h2 h3 h5 h6.1 h8 h (by omega)]; frame_out
    exact (pay3_apply _ _ _ i j).trans (congrArg₂ (fun a b : EReal => a + b) (congrFun (Memref.IsWhole.read_unread (Memref.isWhole_whole cc0_scratch0) _) (ix2 i j)) (tm_of m c t _ (blk5 m c t h6) i j))

/-- The last point of a row block copies the total out. -/
theorem copy (c : Dev nD) (t : Fin cfg0.N) (h : t.val % 9 = 8) (i j : Fin 1024) :
    (outsAt0 m c t.val t.isLt).1 (ix2 i j) = (outsAt0 m c t.val t.isLt).2 (ix2 i j) := by
  rw [step m c t (by omega) i j,
    outsAt0_G m c t (by omega) (by omega) (by omega) (by omega) (by omega) (by omega) h (by omega) (by omega)]; frame_out
  exact (pay3_apply _ _ _ i j).trans (congrArg₂ (fun a b : EReal => a + b) (congrFun (Memref.IsWhole.read_unread (Memref.isWhole_whole cc0_scratch0) _) (ix2 i j)) (tm_of m c t _ (blk5 m c t (by omega)) i j))

/-- What the last point of a row block leaves. -/
theorem out7 (c : Dev nD) (t : Fin cfg0.N) (h : t.val % 9 = 8) (i j : Fin 1024) : (outsAt0 m c t.val t.isLt).1 (ix2 i j) = pA m c (row t i) j := by
  have e := Pipeline.eq_sum_fin_of_reset_step_apply_of_flush (fun n h => fun z : Fin 1024 × Fin 1024 => (outsAt0 m c n h).2 (ix2 z.1 z.2)) 9 (fun _ => (0 : EReal))
    (fun t z => tm m c t z.1 z.2) (fun t h z => (first m c t h z.1 z.2).trans (zero_add _).symm) (fun t h z => step m c t h z.1 z.2) t h (i, j)
  refine (copy m c t h i j).trans (e.trans ?_)
  rw [zero_add]
  refine Fin.sum_mul_add_congr (S := 9) (n := 1024) (fun s k hl => ?_) rfl
  refine congrArg₂ (fun a b : EReal => a * b) (congrArg (cat m c) (congrArg₂ ix2 (Fin.ext ?_) (Fin.ext ?_))) (congrArg (wA m c) (congrArg (fun q => ix2 j (col q)) (Fin.ext ?_)))
  · show (9 * (t.val / 9) + s.val) / 9 * 1024 + i.val = t.val / 9 * 1024 + i.val
    rw [show (9 * (t.val / 9) + s.val) / 9 = t.val / 9 by omega]
  · show (9 * (t.val / 9) + s.val) % 9 * 1024 + k.val = s.val * 1024 + k.val
    rw [show (9 * (t.val / 9) + s.val) % 9 = s.val by omega]
  · show (9 * (t.val / 9) + s.val) % 9 * 1024 + k.val = s.val * 1024 + k.val
    rw [show (9 * (t.val / 9) + s.val) % 9 = s.val by omega]

theorem flush7 : ∀ t : Fin cfg0.N, win0_7.flush t = true → t.val % 9 = 8 := (by decide +kernel : ∀ t : Fin grid0.N, _)

/-- The array after the run. -/
theorem final7 (c : Dev nD) : (dats m 0 c).arrAt 7 cfg0.N = fun i : S8192x1024.Idx => pA m c (i 0) (i 1) := by
  refine (dats m 0 c).arrAt_eq_of_covers 7 _ (by decide +kernel) fun t hf y => ?_
  have h8 := flush7 t hf
  blk_simp
  obtain ⟨a, b, rfl⟩ : ∃ (a : Fin 1024) (b : Fin 1024), y = ix2 a b := ⟨y 0, y 1, eq_ix2 y⟩
  rw [after0_7, out7 m c t h8]
  refine congrArg₂ (pA m c) (Fin.ext ?_) (Fin.ext ?_)
  · blk_simp [idx7 t, row]
  · blk_simp [idx7 t]

end Cert.PiecesIdeal.Hand

namespace Cert.PiecesClaims

open Idealize.ShloMosaic hiding ix1 ix2 ix3 ix4 ix5 eq_ix1 eq_ix2 eq_ix3
open Idealize.ShloMosaic.TcCoe Idealize.SL.Sem
open Idealize.ShloMosaic.ValueIdx (ix1 ix2 ix3 eq_ix1 eq_ix2)
open Cert.PiecesRefIdeal Cert.PiecesRefIdeal.Gen Cert.PiecesRefIdeal.Read Cert.PiecesIdeal.Hand
open Cert.ConcatReads
open scoped BigOperators

/-- The reference's product at an index. -/
theorem v5_apply (m : (ℓ : Loc Cert.PiecesIdeal.nD Cert.PiecesIdeal.τ Cert.PiecesIdeal.sig) → Buf (Elt Ideal) ℓ) (c : Dev nD) (i : Fin 8192) (j : Fin 1024) :
    val_main_v5 (F := Ideal) (a0 m c) (a1 m c) (a2 m c) (a3 m c) (a4 m c) (a5 m c) (wA m c) (ix2 i j) = pA m c i j := by
  rw [val_main_v5_apply]
  refine Finset.sum_congr rfl fun k _ => congrArg₂ (fun a b : EReal => a * b) (congrArg (cat m c) (eq_ix2 _)) ?_
  refine (congrArg (val_main_v4 (F := Ideal) (wA m c)) (eq_ix2 _)).trans ?_
  refine (transpose_apply _ _ _ _ (ix2 j k) (by intro d; match d with | ⟨0, _⟩ => rfl | ⟨1, _⟩ => rfl)).trans ?_
  exact without_apply (wA m c) slices_S1024x9232_S1024x3072_0_0 slices_S1024x9232_S1024x6144_0_3088 concatenates_S1024x3072_S1024x6144_S1024x9216_d1 j k

/-- The call computes the reference's product. -/
theorem algebraic : Cert.algebraic_PiecesIdeal_PiecesRefIdeal (hPiecesIdeal := Cert.PiecesIdeal.Gen.facts) (hPiecesRefIdeal := Cert.PiecesRefIdeal.Gen.facts) := by
  intro m ρ m' ρ' _ hag
  refine ⟨fun c i => pA m c (i 0) (i 1), ?_, ?_⟩
  · exact (θ_run _ _ _).mono (fun r h c => ⟨(h c).1.trans (final7 m c), (h c).2⟩) (Cert.PiecesIdeal.Value.run_blocks m ρ)
  · refine (θ_run _ _ _).mono (fun r h c => ⟨(h c).1.trans ?_, (h c).2⟩) (Cert.PiecesRefIdeal.Value.run m' ρ')
    refine (val_main_v5_eq ..).trans (funext fun z => ?_)
    obtain ⟨h0, h1, h2, h3, h4, h5, h6⟩ := hag c
    rw [h0, h1, h2, h3, h4, h5, h6, eq_ix2 z]; exact v5_apply m c _ _

/-- The reference runs and leaves its arguments and the counters as they were. -/
theorem frame_ref : Cert.quiescent_PiecesRefIdeal (hPiecesRefIdeal := Cert.PiecesRefIdeal.Gen.facts) := fun m ρ _ =>
  (θ_run Cert.PiecesRefIdeal.defs _ _).mono (fun r h => ⟨fun c => (h c).2, sem_eq_zero_of_no_sems (by decide) r.2⟩)
    (Cert.PiecesRefIdeal.Value.run (F := Ideal) m ρ)

end Cert.PiecesClaims

end
-- ==== Proof.AttnFwdClaims.lean ====
/-
  The forgetting attention, forward: the frame of its reference.
-/
module

public import proofs.«01_k».proof.Defs
public import proofs.«01_k».proof.Proof.Gen.AttnFwdRefIdeal.Run
public import Idealize.ShloMosaic.Lib.Quiescent

@[expose] public section

noncomputable section

namespace Cert.AttnFwdClaims

open Idealize.ShloMosaic Idealize.ShloMosaic.TcCoe Idealize.SL.Sem

/-- The reference runs and leaves its arguments and the counters as they were. -/
theorem frame_ref : Cert.quiescent_AttnFwdRefIdeal (hAttnFwdRefIdeal := Cert.AttnFwdRefIdeal.Gen.facts) := fun m ρ _ =>
  (θ_run Cert.AttnFwdRefIdeal.defs _ _).mono (fun r h => ⟨fun c => (h c).2.2.2, sem_eq_zero_of_no_sems (by decide) r.2⟩)
    (Cert.AttnFwdRefIdeal.Value.run (F := Ideal) m ρ)

end Cert.AttnFwdClaims

end
-- ==== Proof.lean ====
module

public import proofs.«01_k».proof.Defs
public import Idealize.ShloMosaic.Lib.Quiescent
public import proofs.«01_k».proof.Proof.Gen.Forget.Frame
public import proofs.«01_k».proof.Proof.Gen.Forget
public import proofs.«01_k».proof.Proof.Gen.ForgetIdeal.Frame
public import proofs.«01_k».proof.Proof.Gen.ForgetIdeal
public import proofs.«01_k».proof.Proof.Gen.ForgetRefIdeal
public import proofs.«01_k».proof.Proof.Gen.RmsMem.Frame
public import proofs.«01_k».proof.Proof.Gen.RmsMem
public import proofs.«01_k».proof.Proof.Gen.RmsMemIdeal.Frame
public import proofs.«01_k».proof.Proof.Gen.RmsMemIdeal
public import proofs.«01_k».proof.Proof.Gen.RmsMemRefIdeal
public import proofs.«01_k».proof.Proof.Gen.RmsPre.Frame
public import proofs.«01_k».proof.Proof.Gen.RmsPre
public import proofs.«01_k».proof.Proof.Gen.RmsPreIdeal.Frame
public import proofs.«01_k».proof.Proof.Gen.RmsPreIdeal
public import proofs.«01_k».proof.Proof.Gen.RmsPreRefIdeal
public import proofs.«01_k».proof.Proof.Gen.RmsPair.Frame
public import proofs.«01_k».proof.Proof.Gen.RmsPair
public import proofs.«01_k».proof.Proof.Gen.RmsPairIdeal.Frame
public import proofs.«01_k».proof.Proof.Gen.RmsPairIdeal
public import proofs.«01_k».proof.Proof.Gen.RmsPairRefIdeal
public import proofs.«01_k».proof.Proof.Gen.Final.Frame
public import proofs.«01_k».proof.Proof.Gen.Final
public import proofs.«01_k».proof.Proof.Gen.FinalIdeal.Frame
public import proofs.«01_k».proof.Proof.Gen.FinalIdeal
public import proofs.«01_k».proof.Proof.Gen.FinalRefIdeal
public import proofs.«01_k».proof.Proof.Gen.Swiglu.Frame
public import proofs.«01_k».proof.Proof.Gen.Swiglu
public import proofs.«01_k».proof.Proof.Gen.SwigluIdeal.Frame
public import proofs.«01_k».proof.Proof.Gen.SwigluIdeal
public import proofs.«01_k».proof.Proof.Gen.SwigluRefIdeal
public import proofs.«01_k».proof.Proof.Gen.Merge.Frame
public import proofs.«01_k».proof.Proof.Gen.Merge
public import proofs.«01_k».proof.Proof.Gen.MergeIdeal.Frame
public import proofs.«01_k».proof.Proof.Gen.MergeIdeal
public import proofs.«01_k».proof.Proof.Gen.MergeRefIdeal
public import proofs.«01_k».proof.Proof.Gen.MemAttn.Frame
public import proofs.«01_k».proof.Proof.Gen.MemAttn
public import proofs.«01_k».proof.Proof.Gen.MemAttnIdeal.Frame
public import proofs.«01_k».proof.Proof.Gen.MemAttnIdeal
public import proofs.«01_k».proof.Proof.Gen.MemAttnRefIdeal
public import proofs.«01_k».proof.Proof.Gen.Cumsum.Frame
public import proofs.«01_k».proof.Proof.Gen.Cumsum
public import proofs.«01_k».proof.Proof.Gen.CumsumIdeal.Frame
public import proofs.«01_k».proof.Proof.Gen.CumsumIdeal
public import proofs.«01_k».proof.Proof.Gen.CumsumRefIdeal
public import proofs.«01_k».proof.Proof.AttnFrame
public import proofs.«01_k».proof.Proof.AttnFrameBits
public import proofs.«01_k».proof.Proof.Gen.Attn
public import proofs.«01_k».proof.Proof.Gen.AttnIdeal
public import proofs.«01_k».proof.Proof.Gen.AttnRefIdeal
public import proofs.«01_k».proof.Proof.Gen.RmsMemFwd.Frame
public import proofs.«01_k».proof.Proof.Gen.RmsMemFwd
public import proofs.«01_k».proof.Proof.Gen.RmsMemFwdIdeal.Frame
public import proofs.«01_k».proof.Proof.Gen.RmsMemFwdIdeal
public import proofs.«01_k».proof.Proof.Gen.RmsMemFwdRefIdeal
public import proofs.«01_k».proof.Proof.Gen.RmsPreFwd.Frame
public import proofs.«01_k».proof.Proof.Gen.RmsPreFwd
public import proofs.«01_k».proof.Proof.Gen.RmsPreFwdIdeal.Frame
public import proofs.«01_k».proof.Proof.Gen.RmsPreFwdIdeal
public import proofs.«01_k».proof.Proof.Gen.RmsPreFwdRefIdeal
public import proofs.«01_k».proof.Proof.Gen.ForgetFwd.Frame
public import proofs.«01_k».proof.Proof.Gen.ForgetFwd
public import proofs.«01_k».proof.Proof.Gen.ForgetFwdIdeal.Frame
public import proofs.«01_k».proof.Proof.Gen.ForgetFwdIdeal
public import proofs.«01_k».proof.Proof.Gen.ForgetFwdRefIdeal
public import proofs.«01_k».proof.Proof.Gen.CumsumFwd.Frame
public import proofs.«01_k».proof.Proof.Gen.CumsumFwd
public import proofs.«01_k».proof.Proof.Gen.CumsumFwdIdeal.Frame
public import proofs.«01_k».proof.Proof.Gen.CumsumFwdIdeal
public import proofs.«01_k».proof.Proof.Gen.CumsumFwdRefIdeal
public import proofs.«01_k».proof.Proof.Gen.MemFwd.Frame
public import proofs.«01_k».proof.Proof.Gen.MemFwd
public import proofs.«01_k».proof.Proof.Gen.MemFwdIdeal.Frame
public import proofs.«01_k».proof.Proof.Gen.MemFwdIdeal
public import proofs.«01_k».proof.Proof.Gen.MemFwdRefIdeal
public import proofs.«01_k».proof.Proof.Gen.SwigluFwd.Frame
public import proofs.«01_k».proof.Proof.Gen.SwigluFwd
public import proofs.«01_k».proof.Proof.Gen.SwigluFwdIdeal.Frame
public import proofs.«01_k».proof.Proof.Gen.SwigluFwdIdeal
public import proofs.«01_k».proof.Proof.Gen.SwigluFwdRefIdeal
public import proofs.«01_k».proof.Proof.Gen.MergeFwd.Frame
public import proofs.«01_k».proof.Proof.Gen.MergeFwd
public import proofs.«01_k».proof.Proof.Gen.MergeFwdIdeal.Frame
public import proofs.«01_k».proof.Proof.Gen.MergeFwdIdeal
public import proofs.«01_k».proof.Proof.Gen.MergeFwdRefIdeal
public import proofs.«01_k».proof.Proof.Gen.AttnFwd.Frame
public import proofs.«01_k».proof.Proof.Gen.AttnFwd
public import proofs.«01_k».proof.Proof.Gen.AttnFwdIdeal.Frame
public import proofs.«01_k».proof.Proof.Gen.AttnFwdIdeal
public import proofs.«01_k».proof.Proof.Gen.AttnFwdRefIdeal
public import proofs.«01_k».proof.Proof.Gen.Proj.Frame
public import proofs.«01_k».proof.Proof.Gen.Proj
public import proofs.«01_k».proof.Proof.Gen.ProjIdeal.Frame
public import proofs.«01_k».proof.Proof.Gen.ProjIdeal
public import proofs.«01_k».proof.Proof.Gen.ProjRefIdeal
public import proofs.«01_k».proof.Proof.Gen.Adamw.Frame
public import proofs.«01_k».proof.Proof.Gen.Adamw
public import proofs.«01_k».proof.Proof.Gen.AdamwIdeal.Frame
public import proofs.«01_k».proof.Proof.Gen.AdamwIdeal
public import proofs.«01_k».proof.Proof.Gen.AdamwRefIdeal
public import proofs.«01_k».proof.Proof.Gen.Pieces.Frame
public import proofs.«01_k».proof.Proof.Gen.Pieces
public import proofs.«01_k».proof.Proof.Gen.PiecesIdeal.Frame
public import proofs.«01_k».proof.Proof.Gen.PiecesIdeal
public import proofs.«01_k».proof.Proof.Gen.PiecesRefIdeal
public import proofs.«01_k».proof.Proof.Gen.Pre_finite_up_weight_and_cotangent
public import proofs.«01_k».proof.Proof.Gen.Pre_finite_queries_and_keys
public import proofs.«01_k».proof.Proof.Gen.Pre_finite_queries_keys_values_gates_and_cotangent
public import proofs.«01_k».proof.Proof.ForgetClaims
public import proofs.«01_k».proof.Proof.RmsMemClaims
public import proofs.«01_k».proof.Proof.RmsPreClaims
public import proofs.«01_k».proof.Proof.RmsPairClaims
public import proofs.«01_k».proof.Proof.FinalClaims
public import proofs.«01_k».proof.Proof.SwigluClaims
public import proofs.«01_k».proof.Proof.MergeClaims
public import proofs.«01_k».proof.Proof.MemAttnClaims
public import proofs.«01_k».proof.Proof.CumsumClaims
public import proofs.«01_k».proof.Proof.AttnClaims
public import proofs.«01_k».proof.Proof.RmsMemFwdClaims
public import proofs.«01_k».proof.Proof.RmsPreFwdClaims
public import proofs.«01_k».proof.Proof.ForgetFwdClaims
public import proofs.«01_k».proof.Proof.CumsumFwdClaims
public import proofs.«01_k».proof.Proof.MemFwdClaims
public import proofs.«01_k».proof.Proof.SwigluFwdClaims
public import proofs.«01_k».proof.Proof.MergeFwdClaims
public import proofs.«01_k».proof.Proof.ProjClaims
public import proofs.«01_k».proof.Proof.AdamwClaims
public import proofs.«01_k».proof.Proof.PiecesClaims
public import proofs.«01_k».proof.Proof.AttnFwdClaims

/-!
  The certificate's claim: each call's frames, and that it computes the derivative its reference names. The value proofs
  are in the modules named `…Claims`.
-/

@[expose] public section

namespace Cert.Proof

open Idealize.ShloMosaic

theorem claim : Cert.Claim := ⟨
  Cert.Forget.Gen.facts,
  Cert.ForgetIdeal.Gen.facts,
  Cert.ForgetRefIdeal.Gen.facts,
  Cert.RmsMem.Gen.facts,
  Cert.RmsMemIdeal.Gen.facts,
  Cert.RmsMemRefIdeal.Gen.facts,
  Cert.RmsPre.Gen.facts,
  Cert.RmsPreIdeal.Gen.facts,
  Cert.RmsPreRefIdeal.Gen.facts,
  Cert.RmsPair.Gen.facts,
  Cert.RmsPairIdeal.Gen.facts,
  Cert.RmsPairRefIdeal.Gen.facts,
  Cert.Final.Gen.facts,
  Cert.FinalIdeal.Gen.facts,
  Cert.FinalRefIdeal.Gen.facts,
  Cert.Swiglu.Gen.facts,
  Cert.SwigluIdeal.Gen.facts,
  Cert.SwigluRefIdeal.Gen.facts,
  Cert.Merge.Gen.facts,
  Cert.MergeIdeal.Gen.facts,
  Cert.MergeRefIdeal.Gen.facts,
  Cert.MemAttn.Gen.facts,
  Cert.MemAttnIdeal.Gen.facts,
  Cert.MemAttnRefIdeal.Gen.facts,
  Cert.Cumsum.Gen.facts,
  Cert.CumsumIdeal.Gen.facts,
  Cert.CumsumRefIdeal.Gen.facts,
  Cert.Attn.Gen.facts,
  Cert.AttnIdeal.Gen.facts,
  Cert.AttnRefIdeal.Gen.facts,
  Cert.RmsMemFwd.Gen.facts,
  Cert.RmsMemFwdIdeal.Gen.facts,
  Cert.RmsMemFwdRefIdeal.Gen.facts,
  Cert.RmsPreFwd.Gen.facts,
  Cert.RmsPreFwdIdeal.Gen.facts,
  Cert.RmsPreFwdRefIdeal.Gen.facts,
  Cert.ForgetFwd.Gen.facts,
  Cert.ForgetFwdIdeal.Gen.facts,
  Cert.ForgetFwdRefIdeal.Gen.facts,
  Cert.CumsumFwd.Gen.facts,
  Cert.CumsumFwdIdeal.Gen.facts,
  Cert.CumsumFwdRefIdeal.Gen.facts,
  Cert.MemFwd.Gen.facts,
  Cert.MemFwdIdeal.Gen.facts,
  Cert.MemFwdRefIdeal.Gen.facts,
  Cert.SwigluFwd.Gen.facts,
  Cert.SwigluFwdIdeal.Gen.facts,
  Cert.SwigluFwdRefIdeal.Gen.facts,
  Cert.MergeFwd.Gen.facts,
  Cert.MergeFwdIdeal.Gen.facts,
  Cert.MergeFwdRefIdeal.Gen.facts,
  Cert.AttnFwd.Gen.facts,
  Cert.AttnFwdIdeal.Gen.facts,
  Cert.AttnFwdRefIdeal.Gen.facts,
  Cert.Proj.Gen.facts,
  Cert.ProjIdeal.Gen.facts,
  Cert.ProjRefIdeal.Gen.facts,
  Cert.Adamw.Gen.facts,
  Cert.AdamwIdeal.Gen.facts,
  Cert.AdamwRefIdeal.Gen.facts,
  Cert.Pieces.Gen.facts,
  Cert.PiecesIdeal.Gen.facts,
  Cert.PiecesRefIdeal.Gen.facts,
  Cert.Pre_finite_up_weight_and_cotangent.Gen.facts,
  Cert.Pre_finite_queries_and_keys.Gen.facts,
  Cert.Pre_finite_queries_keys_values_gates_and_cotangent.Gen.facts,
  fun m ρ _ => Cert.Forget.Gen.frame m ρ,
  fun m ρ _ => Cert.ForgetIdeal.Gen.frame m ρ,
  Cert.ForgetClaims.frame_ref,
  fun m ρ _ => Cert.RmsMem.Gen.frame m ρ,
  fun m ρ _ => Cert.RmsMemIdeal.Gen.frame m ρ,
  Cert.RmsMemClaims.frame_ref,
  fun m ρ _ => Cert.RmsPre.Gen.frame m ρ,
  fun m ρ _ => Cert.RmsPreIdeal.Gen.frame m ρ,
  Cert.RmsPreClaims.frame_ref,
  fun m ρ _ => Cert.RmsPair.Gen.frame m ρ,
  fun m ρ _ => Cert.RmsPairIdeal.Gen.frame m ρ,
  Cert.RmsPairClaims.frame_ref,
  fun m ρ _ => Cert.Final.Gen.frame m ρ,
  fun m ρ _ => Cert.FinalIdeal.Gen.frame m ρ,
  Cert.FinalClaims.frame_ref,
  fun m ρ _ => Cert.Swiglu.Gen.frame m ρ,
  fun m ρ _ => Cert.SwigluIdeal.Gen.frame m ρ,
  fun m ρ _ => Cert.SwigluIdeal.Gen.frame m ρ,
  Cert.SwigluClaims.frame_ref,
  fun m ρ _ => Cert.SwigluClaims.frame_ref m ρ trivial,
  fun m ρ _ => Cert.Merge.Gen.frame m ρ,
  fun m ρ _ => Cert.MergeIdeal.Gen.frame m ρ,
  Cert.MergeClaims.frame_ref,
  fun m ρ _ => Cert.MemAttn.Gen.frame m ρ,
  fun m ρ _ => Cert.MemAttnIdeal.Gen.frame m ρ,
  fun m ρ _ => Cert.MemAttnIdeal.Gen.frame m ρ,
  Cert.MemAttnClaims.frame_ref,
  fun m ρ _ => Cert.MemAttnClaims.frame_ref m ρ trivial,
  fun m ρ _ => Cert.Cumsum.Gen.frame m ρ,
  fun m ρ _ => Cert.CumsumIdeal.Gen.frame m ρ,
  Cert.CumsumClaims.frame_ref,
  fun m ρ _ => Cert.Attn.Hand.frame m ρ,
  fun m ρ _ => Cert.AttnIdeal.Hand.frame m ρ,
  fun m ρ _ => Cert.AttnIdeal.Hand.frame m ρ,
  Cert.AttnClaims.frame_ref,
  fun m ρ _ => Cert.AttnClaims.frame_ref m ρ trivial,
  fun m ρ _ => Cert.RmsMemFwd.Gen.frame m ρ,
  fun m ρ _ => Cert.RmsMemFwdIdeal.Gen.frame m ρ,
  Cert.RmsMemFwdClaims.frame_ref,
  fun m ρ _ => Cert.RmsPreFwd.Gen.frame m ρ,
  fun m ρ _ => Cert.RmsPreFwdIdeal.Gen.frame m ρ,
  Cert.RmsPreFwdClaims.frame_ref,
  fun m ρ _ => Cert.ForgetFwd.Gen.frame m ρ,
  fun m ρ _ => Cert.ForgetFwdIdeal.Gen.frame m ρ,
  Cert.ForgetFwdClaims.frame_ref,
  fun m ρ _ => Cert.CumsumFwd.Gen.frame m ρ,
  fun m ρ _ => Cert.CumsumFwdIdeal.Gen.frame m ρ,
  Cert.CumsumFwdClaims.frame_ref,
  fun m ρ _ => Cert.MemFwd.Gen.frame m ρ,
  fun m ρ _ => Cert.MemFwdIdeal.Gen.frame m ρ,
  Cert.MemFwdClaims.frame_ref,
  fun m ρ _ => Cert.SwigluFwd.Gen.frame m ρ,
  fun m ρ _ => Cert.SwigluFwdIdeal.Gen.frame m ρ,
  Cert.SwigluFwdClaims.frame_ref,
  fun m ρ _ => Cert.MergeFwd.Gen.frame m ρ,
  fun m ρ _ => Cert.MergeFwdIdeal.Gen.frame m ρ,
  Cert.MergeFwdClaims.frame_ref,
  fun m ρ _ => Cert.AttnFwd.Gen.frame m ρ,
  fun m ρ _ => Cert.AttnFwdIdeal.Gen.frame m ρ,
  Cert.AttnFwdClaims.frame_ref,
  fun m ρ _ => Cert.Proj.Gen.frame m ρ,
  fun m ρ _ => Cert.ProjIdeal.Gen.frame m ρ,
  Cert.ProjClaims.frame_ref,
  fun m ρ _ => Cert.Adamw.Gen.frame m ρ,
  fun m ρ _ => Cert.AdamwIdeal.Gen.frame m ρ,
  Cert.AdamwClaims.frame_ref,
  fun m ρ _ => Cert.Pieces.Gen.frame m ρ,
  fun m ρ _ => Cert.PiecesIdeal.Gen.frame m ρ,
  Cert.PiecesClaims.frame_ref,
  trivial,
  Cert.ForgetClaims.algebraic,
  trivial,
  Cert.RmsMemClaims.algebraic,
  trivial,
  Cert.RmsPreClaims.algebraic,
  trivial,
  Cert.RmsPairClaims.algebraic,
  trivial,
  Cert.FinalClaims.algebraic,
  trivial,
  Cert.SwigluClaims.algebraic,
  trivial,
  Cert.MergeClaims.algebraic,
  trivial,
  Cert.MemAttnClaims.algebraic,
  trivial,
  Cert.CumsumClaims.algebraic,
  IdealRules.named_const.statement _ _ _ _ _ rfl,
  Cert.AttnClaims.algebraic,
  trivial,
  Cert.RmsMemFwdClaims.algebraic,
  trivial,
  Cert.RmsPreFwdClaims.algebraic,
  trivial,
  Cert.ForgetFwdClaims.algebraic,
  trivial,
  Cert.CumsumFwdClaims.algebraic,
  trivial,
  Cert.MemFwdClaims.algebraic,
  trivial,
  Cert.SwigluFwdClaims.algebraic,
  trivial,
  Cert.MergeFwdClaims.algebraic,
  IdealRules.named_const.statement _ _ _ _ _ rfl,
  trivial,
  Cert.ProjClaims.algebraic,
  trivial,
  Cert.AdamwClaims.algebraic,
  trivial,
  Cert.PiecesClaims.algebraic⟩

end Cert.Proof

end
